-- ==== Defs.lean ====
def Pre_Kernel (m : (ℓ : Loc Cert.Kernel.nD Cert.Kernel.τ Cert.Kernel.sig) → Buf (Elt Bits) ℓ) : Prop :=
  True

def Pre_Kernel_in_range [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_range [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_in_range [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3_0)) (v1 : (c : Dev Cert.Kernel.nD) → Buf (Elt Bits) ((c.tc : Thread Cert.Kernel.nD Cert.Kernel.τ).loc Cert.Kernel.main_v3_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3_0) = v0 c
          ∧ r.2.mem ((c.tc : Thread Cert.Kernel.nD Cert.Kernel.τ).loc Cert.Kernel.main_v3_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_v2) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_Kernel_pre_in_range (hKernel := hKernel) (hPre_in_range := hPre_in_range)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_Kernel_Reference_pre_in_range (hKernel := hKernel) (hReference := hReference) (hPre_in_range := hPre_in_range)
-- ==== Pre_in_range.lean ====
abbrev S4194304 : Shape := ⟨1, ![4194304]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel

variable [Facts]

def fn {F : FTy → Type} [FloatOps F] (main_arg0 : IVec S4194304 32) (main_arg1 : IVec S4194304 32) : IVec S_ 1 :=
  let main_c : IVec S_ 32 := constantI S_ 32 0#32
  let main_v0 : IVec S4194304 32 := broadcastInDim S4194304 ![] bcast_S_S4194304 main_c
  let main_v1 : IVec S4194304 1 := cmpi .sge main_arg0 main_v0
  let main_c_0 : IVec S_ 1 := constantI S_ 1 1#1
  let main_v2 : IVec S_ 1 := (fun x v => Host.reduce IntOp.andi x v reducesTo_S4194304_S_d0 h_S_) main_v1 main_c_0
  let main_c_1 : IVec S_ 32 := constantI S_ 32 1000000000#32
  let main_v3 : IVec S4194304 32 := broadcastInDim S4194304 ![] bcast_S_S4194304 main_c_1
  let main_v4 : IVec S4194304 1 := cmpi .slt main_arg0 main_v3
  let main_c_2 : IVec S_ 1 := constantI S_ 1 1#1
  let main_v5 : IVec S_ 1 := (fun x v => Host.reduce IntOp.andi x v reducesTo_S4194304_S_d0 h_S_) main_v4 main_c_2
  let main_v6 : IVec S_ 1 := andi main_v2 main_v5
  main_v6
-- ==== Kernel.lean ====
abbrev S4194304 : Shape := ⟨1, ![4194304]⟩
abbrev S16x32x2048 : Shape := ⟨3, ![16, 32, 2048]⟩
abbrev S8192 : Shape := ⟨1, ![8192]⟩
abbrev S32768 : Shape := ⟨1, ![32768]⟩
abbrev S16 : Shape := ⟨1, ![16]⟩
abbrev S_ : Shape := ⟨0, ![]⟩
abbrev S2048 : Shape := ⟨1, ![2048]⟩
abbrev S1x1x2048 : Shape := ⟨3, ![1, 1, 2048]⟩
abbrev S64x128 : Shape := ⟨2, ![64, 128]⟩
abbrev S32x2048 : Shape := ⟨2, ![32, 2048]⟩
abbrev S1x32x2048 : Shape := ⟨3, ![1, 32, 2048]⟩
abbrev S1x16 : Shape := ⟨2, ![1, 16]⟩
abbrev S128 : Shape := ⟨1, ![128]⟩
abbrev S1x128 : Shape := ⟨2, ![1, 128]⟩

abbrev nBuf : Table → Nat
  | .hbm => 8
  | .local .scVector .vmem => 14
  | _ => 0

abbrev bufTy : (tb : Table) → Fin (nBuf tb) → BufTy
  | .hbm, ⟨0, _⟩ => ⟨S4194304, .i32⟩
  | .hbm, ⟨1, _⟩ => ⟨S4194304, .i32⟩
  | .hbm, ⟨2, _⟩ => ⟨S16x32x2048, .i32⟩
  | .hbm, ⟨3, _⟩ => ⟨S4194304, .i32⟩
  | .hbm, ⟨4, _⟩ => ⟨S4194304, .i32⟩
  | .hbm, ⟨5, _⟩ => ⟨S16x32x2048, .i32⟩
  | .hbm, ⟨6, _⟩ => ⟨S4194304, .i32⟩
  | .hbm, ⟨7, _⟩ => ⟨S4194304, .i32⟩
  | .local .scVector .vmem, ⟨0, _⟩ => ⟨S8192, .i32⟩
  | .local .scVector .vmem, ⟨1, _⟩ => ⟨S32768, .i32⟩
  | .local .scVector .vmem, ⟨2, _⟩ => ⟨S8192, .i32⟩
  | .local .scVector .vmem, ⟨3, _⟩ => ⟨S8192, .i32⟩
  | .local .scVector .vmem, ⟨4, _⟩ => ⟨S64x128, .i32⟩
  | .local .scVector .vmem, ⟨5, _⟩ => ⟨S32768, .i32⟩
  | .local .scVector .vmem, ⟨6, _⟩ => ⟨S32x2048, .i32⟩
  | .local .scVector .vmem, ⟨7, _⟩ => ⟨S8192, .i32⟩
  | .local .scVector .vmem, ⟨8, _⟩ => ⟨S32768, .i32⟩
  | .local .scVector .vmem, ⟨9, _⟩ => ⟨S8192, .i32⟩
  | .local .scVector .vmem, ⟨10, _⟩ => ⟨S8192, .i32⟩
  | .local .scVector .vmem, ⟨11, _⟩ => ⟨S64x128, .i32⟩
  | .local .scVector .vmem, ⟨12, _⟩ => ⟨S32768, .i32⟩
  | .local .scVector .vmem, ⟨13, _⟩ => ⟨S32x2048, .i32⟩
  | _, _ => ⟨S4194304, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 74 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | _ => false

abbrev sig : RefSig :=
  ofTables nBuf rfl bufTy 4 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_arg0_scv : Ref sig .scVector := ⟨.hbm, 0, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev cc2_scratch0 : Ref sig .scVector := ⟨.vmem, 7, rfl⟩
abbrev cc2_scratch1 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc3_scratch3 : Ref sig .scVector := ⟨.vmem, 12, rfl⟩
abbrev cc3_scratch4 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2048_i32 : BitVec 32 := 2048#32
  let v4 : BitVec 32 := Scalar.addi c0_i32_1 c2048_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c16_i32_10 : BitVec 32 := 16#32
  let v8 : BitVec 32 := Scalar.muli arg6 c16_i32_10
  let v9 : Index := Scalar.indexCast v8
  ![v9.toNat]
@[reducible] def k0_t2_loop : Scf.Loop 32 :=
  let c0_i32_4 : BitVec 32 := 0#32
  let c16_i32_5 : BitVec 32 := 16#32
  let v6 : BitVec 32 := Scalar.addi c0_i32_4 c16_i32_5
  let c1_i32_6 : BitVec 32 := 1#32
  ⟨c0_i32_4, v6, c1_i32_6⟩
def k0_off2 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let c0_i32_4 : BitVec 32 := 0#32
  let c1_i32_6 : BitVec 32 := 1#32
  let arg6 : BitVec 32 := Scf.iv c0_i32_4 c1_i32_6 k0_t2
  let c8192_i32 : BitVec 32 := 8192#32
  let v8 : BitVec 32 := Scalar.muli arg6 c8192_i32
  let v9 : BitVec 32 := Scalar.addi v2 v8
  ![v9.toNat]
@[reducible] def k0_t3_loop : Scf.Loop 32 :=
  let c0_i32_11 : BitVec 32 := 0#32
  let c64_i32 : BitVec 32 := 64#32
  let v10 : BitVec 32 := Scalar.addi c0_i32_11 c64_i32
  let c1_i32_12 : BitVec 32 := 1#32
  ⟨c0_i32_11, v10, c1_i32_12⟩
def k0_off3 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32 : BitVec 32 := 128#32
  let v12 : BitVec 32 := Scalar.muli arg8 c128_i32
  let c0_i32_15 : BitVec 32 := 0#32
  let v13 : BitVec 32 := Scalar.addi v12 c0_i32_15
  let v14 : Index := Scalar.indexCast v13
  ![v14.toNat]

def k0_chk1 (v19 : IVec S16 32) : Prop :=
  (∀ a x, ((![v19] : Fin 1 → IVec S16 32) a x).toNat < S32768.size a)
theorem k0_idx1_inb : ∀ (v19 : IVec S16 32) (k0_hw1 : k0_chk1 v19), ∀ a x, ((![v19] : Fin 1 → IVec S16 32) a x).toNat < S32768.size a := fun v19 k0_hw1 => k0_hw1
def k0_off4 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_17 : BitVec 32 := 128#32
  let v21 : BitVec 32 := Scalar.muli arg8 c128_i32_17
  let c16_i32_18 : BitVec 32 := 16#32
  let v22 : BitVec 32 := Scalar.addi v21 c16_i32_18
  let v23 : Index := Scalar.indexCast v22
  ![v23.toNat]

def k0_chk2 (v28 : IVec S16 32) : Prop :=
  (∀ a x, ((![v28] : Fin 1 → IVec S16 32) a x).toNat < S32768.size a)
theorem k0_idx2_inb : ∀ (v28 : IVec S16 32) (k0_hw2 : k0_chk2 v28), ∀ a x, ((![v28] : Fin 1 → IVec S16 32) a x).toNat < S32768.size a := fun v28 k0_hw2 => k0_hw2
def k0_off5 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_24 : BitVec 32 := 128#32
  let v30 : BitVec 32 := Scalar.muli arg8 c128_i32_24
  let c32_i32 : BitVec 32 := 32#32
  let v31 : BitVec 32 := Scalar.addi v30 c32_i32
  let v32 : Index := Scalar.indexCast v31
  ![v32.toNat]

def k0_chk3 (v37 : IVec S16 32) : Prop :=
  (∀ a x, ((![v37] : Fin 1 → IVec S16 32) a x).toNat < S32768.size a)
theorem k0_idx3_inb : ∀ (v37 : IVec S16 32) (k0_hw3 : k0_chk3 v37), ∀ a x, ((![v37] : Fin 1 → IVec S16 32) a x).toNat < S32768.size a := fun v37 k0_hw3 => k0_hw3
def k0_off6 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_30 : BitVec 32 := 128#32
  let v39 : BitVec 32 := Scalar.muli arg8 c128_i32_30
  let c48_i32 : BitVec 32 := 48#32
  let v40 : BitVec 32 := Scalar.addi v39 c48_i32
  let v41 : Index := Scalar.indexCast v40
  ![v41.toNat]

def k0_chk4 (v46 : IVec S16 32) : Prop :=
  (∀ a x, ((![v46] : Fin 1 → IVec S16 32) a x).toNat < S32768.size a)
theorem k0_idx4_inb : ∀ (v46 : IVec S16 32) (k0_hw4 : k0_chk4 v46), ∀ a x, ((![v46] : Fin 1 → IVec S16 32) a x).toNat < S32768.size a := fun v46 k0_hw4 => k0_hw4
def k0_off7 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_36 : BitVec 32 := 128#32
  let v48 : BitVec 32 := Scalar.muli arg8 c128_i32_36
  let c64_i32_37 : BitVec 32 := 64#32
  let v49 : BitVec 32 := Scalar.addi v48 c64_i32_37
  let v50 : Index := Scalar.indexCast v49
  ![v50.toNat]

def k0_chk5 (v55 : IVec S16 32) : Prop :=
  (∀ a x, ((![v55] : Fin 1 → IVec S16 32) a x).toNat < S32768.size a)
theorem k0_idx5_inb : ∀ (v55 : IVec S16 32) (k0_hw5 : k0_chk5 v55), ∀ a x, ((![v55] : Fin 1 → IVec S16 32) a x).toNat < S32768.size a := fun v55 k0_hw5 => k0_hw5
def k0_off8 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_43 : BitVec 32 := 128#32
  let v57 : BitVec 32 := Scalar.muli arg8 c128_i32_43
  let c80_i32 : BitVec 32 := 80#32
  let v58 : BitVec 32 := Scalar.addi v57 c80_i32
  let v59 : Index := Scalar.indexCast v58
  ![v59.toNat]

def k0_chk6 (v64 : IVec S16 32) : Prop :=
  (∀ a x, ((![v64] : Fin 1 → IVec S16 32) a x).toNat < S32768.size a)
theorem k0_idx6_inb : ∀ (v64 : IVec S16 32) (k0_hw6 : k0_chk6 v64), ∀ a x, ((![v64] : Fin 1 → IVec S16 32) a x).toNat < S32768.size a := fun v64 k0_hw6 => k0_hw6
def k0_off9 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_49 : BitVec 32 := 128#32
  let v66 : BitVec 32 := Scalar.muli arg8 c128_i32_49
  let c96_i32 : BitVec 32 := 96#32
  let v67 : BitVec 32 := Scalar.addi v66 c96_i32
  let v68 : Index := Scalar.indexCast v67
  ![v68.toNat]

def k0_chk7 (v73 : IVec S16 32) : Prop :=
  (∀ a x, ((![v73] : Fin 1 → IVec S16 32) a x).toNat < S32768.size a)
theorem k0_idx7_inb : ∀ (v73 : IVec S16 32) (k0_hw7 : k0_chk7 v73), ∀ a x, ((![v73] : Fin 1 → IVec S16 32) a x).toNat < S32768.size a := fun v73 k0_hw7 => k0_hw7
def k0_off10 (k0_t3 : Fin k0_t3_loop.trips) : Fin 1 → Nat :=
  let c0_i32_11 : BitVec 32 := 0#32
  let c1_i32_12 : BitVec 32 := 1#32
  let arg8 : BitVec 32 := Scf.iv c0_i32_11 c1_i32_12 k0_t3
  let c128_i32_55 : BitVec 32 := 128#32
  let v75 : BitVec 32 := Scalar.muli arg8 c128_i32_55
  let c112_i32 : BitVec 32 := 112#32
  let v76 : BitVec 32 := Scalar.addi v75 c112_i32
  let v77 : Index := Scalar.indexCast v76
  ![v77.toNat]

def k0_chk8 (v82 : IVec S16 32) : Prop :=
  (∀ a x, ((![v82] : Fin 1 → IVec S16 32) a x).toNat < S32768.size a)
theorem k0_idx8_inb : ∀ (v82 : IVec S16 32) (k0_hw8 : k0_chk8 v82), ∀ a x, ((![v82] : Fin 1 → IVec S16 32) a x).toNat < S32768.size a := fun v82 k0_hw8 => k0_hw8
def k0_off11 (i : grid0.Coords) : Fin 3 → Nat :=
  let c0_i32_8 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_11_r1 : BitVec 32 := 0#32
  ![0, v1.toNat, 0]
def k0_off12 (i : grid0.Coords) : Fin 3 → Nat :=
  let c1_i32_9 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_11_r2 : BitVec 32 := 0#32
  ![1, v1.toNat, 0]
def k0_off13 (i : grid0.Coords) : Fin 3 → Nat :=
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r3 : BitVec 32 := 0#32
  ![2, v1.toNat, 0]
def k0_off14 (i : grid0.Coords) : Fin 3 → Nat :=
  let c3_i32 : BitVec 32 := 3#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r4 : BitVec 32 := 0#32
  ![3, v1.toNat, 0]
def k0_off15 (i : grid0.Coords) : Fin 3 → Nat :=
  let c4_i32 : BitVec 32 := 4#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r5 : BitVec 32 := 0#32
  ![4, v1.toNat, 0]
def k0_off16 (i : grid0.Coords) : Fin 3 → Nat :=
  let c5_i32 : BitVec 32 := 5#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r6 : BitVec 32 := 0#32
  ![5, v1.toNat, 0]
def k0_off17 (i : grid0.Coords) : Fin 3 → Nat :=
  let c6_i32 : BitVec 32 := 6#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r7 : BitVec 32 := 0#32
  ![6, v1.toNat, 0]
def k0_off18 (i : grid0.Coords) : Fin 3 → Nat :=
  let c7_i32 : BitVec 32 := 7#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r8 : BitVec 32 := 0#32
  ![7, v1.toNat, 0]
def k0_off19 (i : grid0.Coords) : Fin 3 → Nat :=
  let c8_i32 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r9 : BitVec 32 := 0#32
  ![8, v1.toNat, 0]
def k0_off20 (i : grid0.Coords) : Fin 3 → Nat :=
  let c9_i32 : BitVec 32 := 9#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r10 : BitVec 32 := 0#32
  ![9, v1.toNat, 0]
def k0_off21 (i : grid0.Coords) : Fin 3 → Nat :=
  let c10_i32 : BitVec 32 := 10#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r11 : BitVec 32 := 0#32
  ![10, v1.toNat, 0]
def k0_off22 (i : grid0.Coords) : Fin 3 → Nat :=
  let c11_i32 : BitVec 32 := 11#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r12 : BitVec 32 := 0#32
  ![11, v1.toNat, 0]
def k0_off23 (i : grid0.Coords) : Fin 3 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r13 : BitVec 32 := 0#32
  ![12, v1.toNat, 0]
def k0_off24 (i : grid0.Coords) : Fin 3 → Nat :=
  let c13_i32 : BitVec 32 := 13#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r14 : BitVec 32 := 0#32
  ![13, v1.toNat, 0]
def k0_off25 (i : grid0.Coords) : Fin 3 → Nat :=
  let c14_i32 : BitVec 32 := 14#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r15 : BitVec 32 := 0#32
  ![14, v1.toNat, 0]
def k0_off26 (i : grid0.Coords) : Fin 3 → Nat :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r16 : BitVec 32 := 0#32
  ![15, v1.toNat, 0]
abbrev grid1 : Pipeline.Grid := ⟨2, ![2, 16], ![false, false]⟩

@[reducible] def k1_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k1_off1 (k1_t1 : Fin k1_t1_loop.trips) : Fin 2 → Nat :=
  let c0_i32_71 : BitVec 32 := 0#32
  let v39 : Index := Scalar.indexCast c0_i32_71
  let c0_i32_2 : BitVec 32 := 0#32
  let c1_i32 : BitVec 32 := 1#32
  let arg14 : BitVec 32 := Scf.iv c0_i32_2 c1_i32 k1_t1
  let c16_i32_70 : BitVec 32 := 16#32
  let v38 : BitVec 32 := Scalar.muli arg14 c16_i32_70
  let v40 : Index := Scalar.indexCast v38
  ![0, v40.toNat]
def k1_off2 (k1_t1 : Fin k1_t1_loop.trips) : Fin 2 → Nat :=
  let c1_i32_74 : BitVec 32 := 1#32
  let v49 : Index := Scalar.indexCast c1_i32_74
  let c0_i32_2 : BitVec 32 := 0#32
  let c1_i32 : BitVec 32 := 1#32
  let arg14 : BitVec 32 := Scf.iv c0_i32_2 c1_i32 k1_t1
  let c16_i32_73 : BitVec 32 := 16#32
  let v48 : BitVec 32 := Scalar.muli arg14 c16_i32_73
  let v50 : Index := Scalar.indexCast v48
  ![1, v50.toNat]
def k1_off3 (k1_t1 : Fin k1_t1_loop.trips) : Fin 2 → Nat :=
  let c2_i32_77 : BitVec 32 := 2#32
  let v59 : Index := Scalar.indexCast c2_i32_77
  let c0_i32_2 : BitVec 32 := 0#32
  let c1_i32 : BitVec 32 := 1#32
  let arg14 : BitVec 32 := Scf.iv c0_i32_2 c1_i32 k1_t1
  let c16_i32_76 : BitVec 32 := 16#32
  let v58 : BitVec 32 := Scalar.muli arg14 c16_i32_76
  let v60 : Index := Scalar.indexCast v58
  ![2, v60.toNat]
def k1_off4 (k1_t1 : Fin k1_t1_loop.trips) : Fin 2 → Nat :=
  let c3_i32_80 : BitVec 32 := 3#32
  let v69 : Index := Scalar.indexCast c3_i32_80
  let c0_i32_2 : BitVec 32 := 0#32
  let c1_i32 : BitVec 32 := 1#32
  let arg14 : BitVec 32 := Scf.iv c0_i32_2 c1_i32 k1_t1
  let c16_i32_79 : BitVec 32 := 16#32
  let v68 : BitVec 32 := Scalar.muli arg14 c16_i32_79
  let v70 : Index := Scalar.indexCast v68
  ![3, v70.toNat]
def k1_off5 (k1_t1 : Fin k1_t1_loop.trips) : Fin 2 → Nat :=
  let c4_i32_83 : BitVec 32 := 4#32
  let v79 : Index := Scalar.indexCast c4_i32_83
  let c0_i32_2 : BitVec 32 := 0#32
  let c1_i32 : BitVec 32 := 1#32
  let arg14 : BitVec 32 := Scf.iv c0_i32_2 c1_i32 k1_t1
  let c16_i32_82 : BitVec 32 := 16#32
  let v78 : BitVec 32 := Scalar.muli arg14 c16_i32_82
  let v80 : Index := Scalar.indexCast v78
  ![4, v80.toNat]
def k1_off6 (k1_t1 : Fin k1_t1_loop.trips) : Fin 2 → Nat :=
  let c5_i32_86 : BitVec 32 := 5#32
  let v89 : Index := Scalar.indexCast c5_i32_86
  let c0_i32_2 : BitVec 32 := 0#32
  let c1_i32 : BitVec 32 := 1#32
  let arg14 : BitVec 32 := Scf.iv c0_i32_2 c1_i32 k1_t1
  let c16_i32_85 : BitVec 32 := 16#32
  let v88 : BitVec 32 := Scalar.muli arg14 c16_i32_85
  let v90 : Index := Scalar.indexCast v88
  ![5, v90.toNat]
def k1_off7 (k1_t1 : Fin k1_t1_loop.trips) : Fin 2 → Nat :=
  let c6_i32_89 : BitVec 32 := 6#32
  let v99 : Index := Scalar.indexCast c6_i32_89
  let c0_i32_2 : BitVec 32 := 0#32
  let c1_i32 : BitVec 32 := 1#32
  let arg14 : BitVec 32 := Scf.iv c0_i32_2 c1_i32 k1_t1
  let c16_i32_88 : BitVec 32 := 16#32
  let v98 : BitVec 32 := Scalar.muli arg14 c16_i32_88
  let v100 : Index := Scalar.indexCast v98
  ![6, v100.toNat]
def k1_off8 (k1_t1 : Fin k1_t1_loop.trips) : Fin 2 → Nat :=
  let c7_i32_92 : BitVec 32 := 7#32
  let v109 : Index := Scalar.indexCast c7_i32_92
  let c0_i32_2 : BitVec 32 := 0#32
  let c1_i32 : BitVec 32 := 1#32
  let arg14 : BitVec 32 := Scf.iv c0_i32_2 c1_i32 k1_t1
  let c16_i32_91 : BitVec 32 := 16#32
  let v108 : BitVec 32 := Scalar.muli arg14 c16_i32_91
  let v110 : Index := Scalar.indexCast v108
  ![7, v110.toNat]
def k1_off9 (k1_t1 : Fin k1_t1_loop.trips) : Fin 2 → Nat :=
  let c8_i32_95 : BitVec 32 := 8#32
  let v119 : Index := Scalar.indexCast c8_i32_95
  let c0_i32_2 : BitVec 32 := 0#32
  let c1_i32 : BitVec 32 := 1#32
  let arg14 : BitVec 32 := Scf.iv c0_i32_2 c1_i32 k1_t1
  let c16_i32_94 : BitVec 32 := 16#32
  let v118 : BitVec 32 := Scalar.muli arg14 c16_i32_94
  let v120 : Index := Scalar.indexCast v118
  ![8, v120.toNat]
def k1_off10 (k1_t1 : Fin k1_t1_loop.trips) : Fin 2 → Nat :=
  let c9_i32_98 : BitVec 32 := 9#32
  let v129 : Index := Scalar.indexCast c9_i32_98
  let c0_i32_2 : BitVec 32 := 0#32
  let c1_i32 : BitVec 32 := 1#32
  let arg14 : BitVec 32 := Scf.iv c0_i32_2 c1_i32 k1_t1
  let c16_i32_97 : BitVec 32 := 16#32
  let v128 : BitVec 32 := Scalar.muli arg14 c16_i32_97
  let v130 : Index := Scalar.indexCast v128
  ![9, v130.toNat]
def k1_off11 (k1_t1 : Fin k1_t1_loop.trips) : Fin 2 → Nat :=
  let c10_i32_101 : BitVec 32 := 10#32
  let v139 : Index := Scalar.indexCast c10_i32_101
  let c0_i32_2 : BitVec 32 := 0#32
  let c1_i32 : BitVec 32 := 1#32
  let arg14 : BitVec 32 := Scf.iv c0_i32_2 c1_i32 k1_t1
  let c16_i32_100 : BitVec 32 := 16#32
  let v138 : BitVec 32 := Scalar.muli arg14 c16_i32_100
  let v140 : Index := Scalar.indexCast v138
  ![10, v140.toNat]
def k1_off12 (k1_t1 : Fin k1_t1_loop.trips) : Fin 2 → Nat :=
  let c11_i32_104 : BitVec 32 := 11#32
  let v149 : Index := Scalar.indexCast c11_i32_104
  let c0_i32_2 : BitVec 32 := 0#32
  let c1_i32 : BitVec 32 := 1#32
  let arg14 : BitVec 32 := Scf.iv c0_i32_2 c1_i32 k1_t1
  let c16_i32_103 : BitVec 32 := 16#32
  let v148 : BitVec 32 := Scalar.muli arg14 c16_i32_103
  let v150 : Index := Scalar.indexCast v148
  ![11, v150.toNat]
def k1_off13 (k1_t1 : Fin k1_t1_loop.trips) : Fin 2 → Nat :=
  let c12_i32_107 : BitVec 32 := 12#32
  let v159 : Index := Scalar.indexCast c12_i32_107
  let c0_i32_2 : BitVec 32 := 0#32
  let c1_i32 : BitVec 32 := 1#32
  let arg14 : BitVec 32 := Scf.iv c0_i32_2 c1_i32 k1_t1
  let c16_i32_106 : BitVec 32 := 16#32
  let v158 : BitVec 32 := Scalar.muli arg14 c16_i32_106
  let v160 : Index := Scalar.indexCast v158
  ![12, v160.toNat]
def k1_off14 (k1_t1 : Fin k1_t1_loop.trips) : Fin 2 → Nat :=
  let c13_i32_110 : BitVec 32 := 13#32
  let v169 : Index := Scalar.indexCast c13_i32_110
  let c0_i32_2 : BitVec 32 := 0#32
  let c1_i32 : BitVec 32 := 1#32
  let arg14 : BitVec 32 := Scf.iv c0_i32_2 c1_i32 k1_t1
  let c16_i32_109 : BitVec 32 := 16#32
  let v168 : BitVec 32 := Scalar.muli arg14 c16_i32_109
  let v170 : Index := Scalar.indexCast v168
  ![13, v170.toNat]
def k1_off15 (k1_t1 : Fin k1_t1_loop.trips) : Fin 2 → Nat :=
  let c14_i32_113 : BitVec 32 := 14#32
  let v179 : Index := Scalar.indexCast c14_i32_113
  let c0_i32_2 : BitVec 32 := 0#32
  let c1_i32 : BitVec 32 := 1#32
  let arg14 : BitVec 32 := Scf.iv c0_i32_2 c1_i32 k1_t1
  let c16_i32_112 : BitVec 32 := 16#32
  let v178 : BitVec 32 := Scalar.muli arg14 c16_i32_112
  let v180 : Index := Scalar.indexCast v178
  ![14, v180.toNat]
def k1_off16 (k1_t1 : Fin k1_t1_loop.trips) : Fin 2 → Nat :=
  let c15_i32_116 : BitVec 32 := 15#32
  let v189 : Index := Scalar.indexCast c15_i32_116
  let c0_i32_2 : BitVec 32 := 0#32
  let c1_i32 : BitVec 32 := 1#32
  let arg14 : BitVec 32 := Scf.iv c0_i32_2 c1_i32 k1_t1
  let c16_i32_115 : BitVec 32 := 16#32
  let v188 : BitVec 32 := Scalar.muli arg14 c16_i32_115
  let v190 : Index := Scalar.indexCast v188
  ![15, v190.toNat]
def k1_off17 (k1_t1 : Fin k1_t1_loop.trips) : Fin 2 → Nat :=
  let c16_i32_119 : BitVec 32 := 16#32
  let v199 : Index := Scalar.indexCast c16_i32_119
  let c0_i32_2 : BitVec 32 := 0#32
  let c1_i32 : BitVec 32 := 1#32
  let arg14 : BitVec 32 := Scf.iv c0_i32_2 c1_i32 k1_t1
  let c16_i32_118 : BitVec 32 := 16#32
  let v198 : BitVec 32 := Scalar.muli arg14 c16_i32_118
  let v200 : Index := Scalar.indexCast v198
  ![16, v200.toNat]
def k1_off18 (k1_t1 : Fin k1_t1_loop.trips) : Fin 2 → Nat :=
  let c17_i32 : BitVec 32 := 17#32
  let v209 : Index := Scalar.indexCast c17_i32
  let c0_i32_2 : BitVec 32 := 0#32
  let c1_i32 : BitVec 32 := 1#32
  let arg14 : BitVec 32 := Scf.iv c0_i32_2 c1_i32 k1_t1
  let c16_i32_121 : BitVec 32 := 16#32
  let v208 : BitVec 32 := Scalar.muli arg14 c16_i32_121
  let v210 : Index := Scalar.indexCast v208
  ![17, v210.toNat]
def k1_off19 (k1_t1 : Fin k1_t1_loop.trips) : Fin 2 → Nat :=
  let c18_i32 : BitVec 32 := 18#32
  let v219 : Index := Scalar.indexCast c18_i32
  let c0_i32_2 : BitVec 32 := 0#32
  let c1_i32 : BitVec 32 := 1#32
  let arg14 : BitVec 32 := Scf.iv c0_i32_2 c1_i32 k1_t1
  let c16_i32_123 : BitVec 32 := 16#32
  let v218 : BitVec 32 := Scalar.muli arg14 c16_i32_123
  let v220 : Index := Scalar.indexCast v218
  ![18, v220.toNat]
def k1_off20 (k1_t1 : Fin k1_t1_loop.trips) : Fin 2 → Nat :=
  let c19_i32 : BitVec 32 := 19#32
  let v229 : Index := Scalar.indexCast c19_i32
  let c0_i32_2 : BitVec 32 := 0#32
  let c1_i32 : BitVec 32 := 1#32
  let arg14 : BitVec 32 := Scf.iv c0_i32_2 c1_i32 k1_t1
  let c16_i32_125 : BitVec 32 := 16#32
  let v228 : BitVec 32 := Scalar.muli arg14 c16_i32_125
  let v230 : Index := Scalar.indexCast v228
  ![19, v230.toNat]
def k1_off21 (k1_t1 : Fin k1_t1_loop.trips) : Fin 2 → Nat :=
  let c20_i32 : BitVec 32 := 20#32
  let v239 : Index := Scalar.indexCast c20_i32
  let c0_i32_2 : BitVec 32 := 0#32
  let c1_i32 : BitVec 32 := 1#32
  let arg14 : BitVec 32 := Scf.iv c0_i32_2 c1_i32 k1_t1
  let c16_i32_127 : BitVec 32 := 16#32
  let v238 : BitVec 32 := Scalar.muli arg14 c16_i32_127
  let v240 : Index := Scalar.indexCast v238
  ![20, v240.toNat]
def k1_off22 (k1_t1 : Fin k1_t1_loop.trips) : Fin 2 → Nat :=
  let c21_i32 : BitVec 32 := 21#32
  let v249 : Index := Scalar.indexCast c21_i32
  let c0_i32_2 : BitVec 32 := 0#32
  let c1_i32 : BitVec 32 := 1#32
  let arg14 : BitVec 32 := Scf.iv c0_i32_2 c1_i32 k1_t1
  let c16_i32_129 : BitVec 32 := 16#32
  let v248 : BitVec 32 := Scalar.muli arg14 c16_i32_129
  let v250 : Index := Scalar.indexCast v248
  ![21, v250.toNat]
def k1_off23 (k1_t1 : Fin k1_t1_loop.trips) : Fin 2 → Nat :=
  let c22_i32 : BitVec 32 := 22#32
  let v259 : Index := Scalar.indexCast c22_i32
  let c0_i32_2 : BitVec 32 := 0#32
  let c1_i32 : BitVec 32 := 1#32
  let arg14 : BitVec 32 := Scf.iv c0_i32_2 c1_i32 k1_t1
  let c16_i32_131 : BitVec 32 := 16#32
  let v258 : BitVec 32 := Scalar.muli arg14 c16_i32_131
  let v260 : Index := Scalar.indexCast v258
  ![22, v260.toNat]
def k1_off24 (k1_t1 : Fin k1_t1_loop.trips) : Fin 2 → Nat :=
  let c23_i32 : BitVec 32 := 23#32
  let v269 : Index := Scalar.indexCast c23_i32
  let c0_i32_2 : BitVec 32 := 0#32
  let c1_i32 : BitVec 32 := 1#32
  let arg14 : BitVec 32 := Scf.iv c0_i32_2 c1_i32 k1_t1
  let c16_i32_133 : BitVec 32 := 16#32
  let v268 : BitVec 32 := Scalar.muli arg14 c16_i32_133
  let v270 : Index := Scalar.indexCast v268
  ![23, v270.toNat]
def k1_off25 (k1_t1 : Fin k1_t1_loop.trips) : Fin 2 → Nat :=
  let c24_i32 : BitVec 32 := 24#32
  let v279 : Index := Scalar.indexCast c24_i32
  let c0_i32_2 : BitVec 32 := 0#32
  let c1_i32 : BitVec 32 := 1#32
  let arg14 : BitVec 32 := Scf.iv c0_i32_2 c1_i32 k1_t1
  let c16_i32_135 : BitVec 32 := 16#32
  let v278 : BitVec 32 := Scalar.muli arg14 c16_i32_135
  let v280 : Index := Scalar.indexCast v278
  ![24, v280.toNat]
def k1_off26 (k1_t1 : Fin k1_t1_loop.trips) : Fin 2 → Nat :=
  let c25_i32 : BitVec 32 := 25#32
  let v289 : Index := Scalar.indexCast c25_i32
  let c0_i32_2 : BitVec 32 := 0#32
  let c1_i32 : BitVec 32 := 1#32
  let arg14 : BitVec 32 := Scf.iv c0_i32_2 c1_i32 k1_t1
  let c16_i32_137 : BitVec 32 := 16#32
  let v288 : BitVec 32 := Scalar.muli arg14 c16_i32_137
  let v290 : Index := Scalar.indexCast v288
  ![25, v290.toNat]
def k1_off27 (k1_t1 : Fin k1_t1_loop.trips) : Fin 2 → Nat :=
  let c26_i32 : BitVec 32 := 26#32
  let v299 : Index := Scalar.indexCast c26_i32
  let c0_i32_2 : BitVec 32 := 0#32
  let c1_i32 : BitVec 32 := 1#32
  let arg14 : BitVec 32 := Scf.iv c0_i32_2 c1_i32 k1_t1
  let c16_i32_139 : BitVec 32 := 16#32
  let v298 : BitVec 32 := Scalar.muli arg14 c16_i32_139
  let v300 : Index := Scalar.indexCast v298
  ![26, v300.toNat]
def k1_off28 (k1_t1 : Fin k1_t1_loop.trips) : Fin 2 → Nat :=
  let c27_i32 : BitVec 32 := 27#32
  let v309 : Index := Scalar.indexCast c27_i32
  let c0_i32_2 : BitVec 32 := 0#32
  let c1_i32 : BitVec 32 := 1#32
  let arg14 : BitVec 32 := Scf.iv c0_i32_2 c1_i32 k1_t1
  let c16_i32_141 : BitVec 32 := 16#32
  let v308 : BitVec 32 := Scalar.muli arg14 c16_i32_141
  let v310 : Index := Scalar.indexCast v308
  ![27, v310.toNat]
def k1_off29 (k1_t1 : Fin k1_t1_loop.trips) : Fin 2 → Nat :=
  let c28_i32 : BitVec 32 := 28#32
  let v319 : Index := Scalar.indexCast c28_i32
  let c0_i32_2 : BitVec 32 := 0#32
  let c1_i32 : BitVec 32 := 1#32
  let arg14 : BitVec 32 := Scf.iv c0_i32_2 c1_i32 k1_t1
  let c16_i32_143 : BitVec 32 := 16#32
  let v318 : BitVec 32 := Scalar.muli arg14 c16_i32_143
  let v320 : Index := Scalar.indexCast v318
  ![28, v320.toNat]
def k1_off30 (k1_t1 : Fin k1_t1_loop.trips) : Fin 2 → Nat :=
  let c29_i32 : BitVec 32 := 29#32
  let v329 : Index := Scalar.indexCast c29_i32
  let c0_i32_2 : BitVec 32 := 0#32
  let c1_i32 : BitVec 32 := 1#32
  let arg14 : BitVec 32 := Scf.iv c0_i32_2 c1_i32 k1_t1
  let c16_i32_145 : BitVec 32 := 16#32
  let v328 : BitVec 32 := Scalar.muli arg14 c16_i32_145
  let v330 : Index := Scalar.indexCast v328
  ![29, v330.toNat]
def k1_off31 (k1_t1 : Fin k1_t1_loop.trips) : Fin 2 → Nat :=
  let c30_i32 : BitVec 32 := 30#32
  let v339 : Index := Scalar.indexCast c30_i32
  let c0_i32_2 : BitVec 32 := 0#32
  let c1_i32 : BitVec 32 := 1#32
  let arg14 : BitVec 32 := Scf.iv c0_i32_2 c1_i32 k1_t1
  let c16_i32_147 : BitVec 32 := 16#32
  let v338 : BitVec 32 := Scalar.muli arg14 c16_i32_147
  let v340 : Index := Scalar.indexCast v338
  ![30, v340.toNat]
def k1_off32 (k1_t1 : Fin k1_t1_loop.trips) : Fin 2 → Nat :=
  let c31_i32 : BitVec 32 := 31#32
  let v349 : Index := Scalar.indexCast c31_i32
  let c0_i32_2 : BitVec 32 := 0#32
  let c1_i32 : BitVec 32 := 1#32
  let arg14 : BitVec 32 := Scf.iv c0_i32_2 c1_i32 k1_t1
  let c16_i32_149 : BitVec 32 := 16#32
  let v348 : BitVec 32 := Scalar.muli arg14 c16_i32_149
  let v350 : Index := Scalar.indexCast v348
  ![31, v350.toNat]
def k1_off33 (k1_t1 : Fin k1_t1_loop.trips) : Fin 1 → Nat :=
  let c0_i32_152 : BitVec 32 := 0#32
  let c0_i32_2 : BitVec 32 := 0#32
  let c1_i32 : BitVec 32 := 1#32
  let arg14 : BitVec 32 := Scf.iv c0_i32_2 c1_i32 k1_t1
  let c16_i32_151 : BitVec 32 := 16#32
  let v364 : BitVec 32 := Scalar.muli arg14 c16_i32_151
  let v365 : BitVec 32 := Scalar.addi c0_i32_152 v364
  let v366 : Index := Scalar.indexCast v365
  ![v366.toNat]
@[reducible] def k1_t2_loop : Scf.Loop 32 :=
  let c0_i32_5 : BitVec 32 := 0#32
  let c128_i32_6 : BitVec 32 := 128#32
  let v6 : BitVec 32 := Scalar.addi c0_i32_5 c128_i32_6
  let c1_i32_7 : BitVec 32 := 1#32
  ⟨c0_i32_5, v6, c1_i32_7⟩
def k1_off34 (k1_t2 : Fin k1_t2_loop.trips) : Fin 2 → Nat :=
  let c0_i32_71 : BitVec 32 := 0#32
  let v39 : Index := Scalar.indexCast c0_i32_71
  let c0_i32_5 : BitVec 32 := 0#32
  let c1_i32_7 : BitVec 32 := 1#32
  let arg14 : BitVec 32 := Scf.iv c0_i32_5 c1_i32_7 k1_t2
  let c16_i32_70 : BitVec 32 := 16#32
  let v38 : BitVec 32 := Scalar.muli arg14 c16_i32_70
  let v40 : Index := Scalar.indexCast v38
  ![0, v40.toNat]
def k1_off35 (k1_t2 : Fin k1_t2_loop.trips) : Fin 2 → Nat :=
  let c1_i32_74 : BitVec 32 := 1#32
  let v49 : Index := Scalar.indexCast c1_i32_74
  let c0_i32_5 : BitVec 32 := 0#32
  let c1_i32_7 : BitVec 32 := 1#32
  let arg14 : BitVec 32 := Scf.iv c0_i32_5 c1_i32_7 k1_t2
  let c16_i32_73 : BitVec 32 := 16#32
  let v48 : BitVec 32 := Scalar.muli arg14 c16_i32_73
  let v50 : Index := Scalar.indexCast v48
  ![1, v50.toNat]
def k1_off36 (k1_t2 : Fin k1_t2_loop.trips) : Fin 2 → Nat :=
  let c2_i32_77 : BitVec 32 := 2#32
  let v59 : Index := Scalar.indexCast c2_i32_77
  let c0_i32_5 : BitVec 32 := 0#32
  let c1_i32_7 : BitVec 32 := 1#32
  let arg14 : BitVec 32 := Scf.iv c0_i32_5 c1_i32_7 k1_t2
  let c16_i32_76 : BitVec 32 := 16#32
  let v58 : BitVec 32 := Scalar.muli arg14 c16_i32_76
  let v60 : Index := Scalar.indexCast v58
  ![2, v60.toNat]
def k1_off37 (k1_t2 : Fin k1_t2_loop.trips) : Fin 2 → Nat :=
  let c3_i32_80 : BitVec 32 := 3#32
  let v69 : Index := Scalar.indexCast c3_i32_80
  let c0_i32_5 : BitVec 32 := 0#32
  let c1_i32_7 : BitVec 32 := 1#32
  let arg14 : BitVec 32 := Scf.iv c0_i32_5 c1_i32_7 k1_t2
  let c16_i32_79 : BitVec 32 := 16#32
  let v68 : BitVec 32 := Scalar.muli arg14 c16_i32_79
  let v70 : Index := Scalar.indexCast v68
  ![3, v70.toNat]
def k1_off38 (k1_t2 : Fin k1_t2_loop.trips) : Fin 2 → Nat :=
  let c4_i32_83 : BitVec 32 := 4#32
  let v79 : Index := Scalar.indexCast c4_i32_83
  let c0_i32_5 : BitVec 32 := 0#32
  let c1_i32_7 : BitVec 32 := 1#32
  let arg14 : BitVec 32 := Scf.iv c0_i32_5 c1_i32_7 k1_t2
  let c16_i32_82 : BitVec 32 := 16#32
  let v78 : BitVec 32 := Scalar.muli arg14 c16_i32_82
  let v80 : Index := Scalar.indexCast v78
  ![4, v80.toNat]
def k1_off39 (k1_t2 : Fin k1_t2_loop.trips) : Fin 2 → Nat :=
  let c5_i32_86 : BitVec 32 := 5#32
  let v89 : Index := Scalar.indexCast c5_i32_86
  let c0_i32_5 : BitVec 32 := 0#32
  let c1_i32_7 : BitVec 32 := 1#32
  let arg14 : BitVec 32 := Scf.iv c0_i32_5 c1_i32_7 k1_t2
  let c16_i32_85 : BitVec 32 := 16#32
  let v88 : BitVec 32 := Scalar.muli arg14 c16_i32_85
  let v90 : Index := Scalar.indexCast v88
  ![5, v90.toNat]
def k1_off40 (k1_t2 : Fin k1_t2_loop.trips) : Fin 2 → Nat :=
  let c6_i32_89 : BitVec 32 := 6#32
  let v99 : Index := Scalar.indexCast c6_i32_89
  let c0_i32_5 : BitVec 32 := 0#32
  let c1_i32_7 : BitVec 32 := 1#32
  let arg14 : BitVec 32 := Scf.iv c0_i32_5 c1_i32_7 k1_t2
  let c16_i32_88 : BitVec 32 := 16#32
  let v98 : BitVec 32 := Scalar.muli arg14 c16_i32_88
  let v100 : Index := Scalar.indexCast v98
  ![6, v100.toNat]
def k1_off41 (k1_t2 : Fin k1_t2_loop.trips) : Fin 2 → Nat :=
  let c7_i32_92 : BitVec 32 := 7#32
  let v109 : Index := Scalar.indexCast c7_i32_92
  let c0_i32_5 : BitVec 32 := 0#32
  let c1_i32_7 : BitVec 32 := 1#32
  let arg14 : BitVec 32 := Scf.iv c0_i32_5 c1_i32_7 k1_t2
  let c16_i32_91 : BitVec 32 := 16#32
  let v108 : BitVec 32 := Scalar.muli arg14 c16_i32_91
  let v110 : Index := Scalar.indexCast v108
  ![7, v110.toNat]
def k1_off42 (k1_t2 : Fin k1_t2_loop.trips) : Fin 2 → Nat :=
  let c8_i32_95 : BitVec 32 := 8#32
  let v119 : Index := Scalar.indexCast c8_i32_95
  let c0_i32_5 : BitVec 32 := 0#32
  let c1_i32_7 : BitVec 32 := 1#32
  let arg14 : BitVec 32 := Scf.iv c0_i32_5 c1_i32_7 k1_t2
  let c16_i32_94 : BitVec 32 := 16#32
  let v118 : BitVec 32 := Scalar.muli arg14 c16_i32_94
  let v120 : Index := Scalar.indexCast v118
  ![8, v120.toNat]
def k1_off43 (k1_t2 : Fin k1_t2_loop.trips) : Fin 2 → Nat :=
  let c9_i32_98 : BitVec 32 := 9#32
  let v129 : Index := Scalar.indexCast c9_i32_98
  let c0_i32_5 : BitVec 32 := 0#32
  let c1_i32_7 : BitVec 32 := 1#32
  let arg14 : BitVec 32 := Scf.iv c0_i32_5 c1_i32_7 k1_t2
  let c16_i32_97 : BitVec 32 := 16#32
  let v128 : BitVec 32 := Scalar.muli arg14 c16_i32_97
  let v130 : Index := Scalar.indexCast v128
  ![9, v130.toNat]
def k1_off44 (k1_t2 : Fin k1_t2_loop.trips) : Fin 2 → Nat :=
  let c10_i32_101 : BitVec 32 := 10#32
  let v139 : Index := Scalar.indexCast c10_i32_101
  let c0_i32_5 : BitVec 32 := 0#32
  let c1_i32_7 : BitVec 32 := 1#32
  let arg14 : BitVec 32 := Scf.iv c0_i32_5 c1_i32_7 k1_t2
  let c16_i32_100 : BitVec 32 := 16#32
  let v138 : BitVec 32 := Scalar.muli arg14 c16_i32_100
  let v140 : Index := Scalar.indexCast v138
  ![10, v140.toNat]
def k1_off45 (k1_t2 : Fin k1_t2_loop.trips) : Fin 2 → Nat :=
  let c11_i32_104 : BitVec 32 := 11#32
  let v149 : Index := Scalar.indexCast c11_i32_104
  let c0_i32_5 : BitVec 32 := 0#32
  let c1_i32_7 : BitVec 32 := 1#32
  let arg14 : BitVec 32 := Scf.iv c0_i32_5 c1_i32_7 k1_t2
  let c16_i32_103 : BitVec 32 := 16#32
  let v148 : BitVec 32 := Scalar.muli arg14 c16_i32_103
  let v150 : Index := Scalar.indexCast v148
  ![11, v150.toNat]
def k1_off46 (k1_t2 : Fin k1_t2_loop.trips) : Fin 2 → Nat :=
  let c12_i32_107 : BitVec 32 := 12#32
  let v159 : Index := Scalar.indexCast c12_i32_107
  let c0_i32_5 : BitVec 32 := 0#32
  let c1_i32_7 : BitVec 32 := 1#32
  let arg14 : BitVec 32 := Scf.iv c0_i32_5 c1_i32_7 k1_t2
  let c16_i32_106 : BitVec 32 := 16#32
  let v158 : BitVec 32 := Scalar.muli arg14 c16_i32_106
  let v160 : Index := Scalar.indexCast v158
  ![12, v160.toNat]
def k1_off47 (k1_t2 : Fin k1_t2_loop.trips) : Fin 2 → Nat :=
  let c13_i32_110 : BitVec 32 := 13#32
  let v169 : Index := Scalar.indexCast c13_i32_110
  let c0_i32_5 : BitVec 32 := 0#32
  let c1_i32_7 : BitVec 32 := 1#32
  let arg14 : BitVec 32 := Scf.iv c0_i32_5 c1_i32_7 k1_t2
  let c16_i32_109 : BitVec 32 := 16#32
  let v168 : BitVec 32 := Scalar.muli arg14 c16_i32_109
  let v170 : Index := Scalar.indexCast v168
  ![13, v170.toNat]
def k1_off48 (k1_t2 : Fin k1_t2_loop.trips) : Fin 2 → Nat :=
  let c14_i32_113 : BitVec 32 := 14#32
  let v179 : Index := Scalar.indexCast c14_i32_113
  let c0_i32_5 : BitVec 32 := 0#32
  let c1_i32_7 : BitVec 32 := 1#32
  let arg14 : BitVec 32 := Scf.iv c0_i32_5 c1_i32_7 k1_t2
  let c16_i32_112 : BitVec 32 := 16#32
  let v178 : BitVec 32 := Scalar.muli arg14 c16_i32_112
  let v180 : Index := Scalar.indexCast v178
  ![14, v180.toNat]
def k1_off49 (k1_t2 : Fin k1_t2_loop.trips) : Fin 2 → Nat :=
  let c15_i32_116 : BitVec 32 := 15#32
  let v189 : Index := Scalar.indexCast c15_i32_116
  let c0_i32_5 : BitVec 32 := 0#32
  let c1_i32_7 : BitVec 32 := 1#32
  let arg14 : BitVec 32 := Scf.iv c0_i32_5 c1_i32_7 k1_t2
  let c16_i32_115 : BitVec 32 := 16#32
  let v188 : BitVec 32 := Scalar.muli arg14 c16_i32_115
  let v190 : Index := Scalar.indexCast v188
  ![15, v190.toNat]
def k1_off50 (k1_t2 : Fin k1_t2_loop.trips) : Fin 2 → Nat :=
  let c16_i32_119 : BitVec 32 := 16#32
  let v199 : Index := Scalar.indexCast c16_i32_119
  let c0_i32_5 : BitVec 32 := 0#32
  let c1_i32_7 : BitVec 32 := 1#32
  let arg14 : BitVec 32 := Scf.iv c0_i32_5 c1_i32_7 k1_t2
  let c16_i32_118 : BitVec 32 := 16#32
  let v198 : BitVec 32 := Scalar.muli arg14 c16_i32_118
  let v200 : Index := Scalar.indexCast v198
  ![16, v200.toNat]
def k1_off51 (k1_t2 : Fin k1_t2_loop.trips) : Fin 2 → Nat :=
  let c17_i32 : BitVec 32 := 17#32
  let v209 : Index := Scalar.indexCast c17_i32
  let c0_i32_5 : BitVec 32 := 0#32
  let c1_i32_7 : BitVec 32 := 1#32
  let arg14 : BitVec 32 := Scf.iv c0_i32_5 c1_i32_7 k1_t2
  let c16_i32_121 : BitVec 32 := 16#32
  let v208 : BitVec 32 := Scalar.muli arg14 c16_i32_121
  let v210 : Index := Scalar.indexCast v208
  ![17, v210.toNat]
def k1_off52 (k1_t2 : Fin k1_t2_loop.trips) : Fin 2 → Nat :=
  let c18_i32 : BitVec 32 := 18#32
  let v219 : Index := Scalar.indexCast c18_i32
  let c0_i32_5 : BitVec 32 := 0#32
  let c1_i32_7 : BitVec 32 := 1#32
  let arg14 : BitVec 32 := Scf.iv c0_i32_5 c1_i32_7 k1_t2
  let c16_i32_123 : BitVec 32 := 16#32
  let v218 : BitVec 32 := Scalar.muli arg14 c16_i32_123
  let v220 : Index := Scalar.indexCast v218
  ![18, v220.toNat]
def k1_off53 (k1_t2 : Fin k1_t2_loop.trips) : Fin 2 → Nat :=
  let c19_i32 : BitVec 32 := 19#32
  let v229 : Index := Scalar.indexCast c19_i32
  let c0_i32_5 : BitVec 32 := 0#32
  let c1_i32_7 : BitVec 32 := 1#32
  let arg14 : BitVec 32 := Scf.iv c0_i32_5 c1_i32_7 k1_t2
  let c16_i32_125 : BitVec 32 := 16#32
  let v228 : BitVec 32 := Scalar.muli arg14 c16_i32_125
  let v230 : Index := Scalar.indexCast v228
  ![19, v230.toNat]
def k1_off54 (k1_t2 : Fin k1_t2_loop.trips) : Fin 2 → Nat :=
  let c20_i32 : BitVec 32 := 20#32
  let v239 : Index := Scalar.indexCast c20_i32
  let c0_i32_5 : BitVec 32 := 0#32
  let c1_i32_7 : BitVec 32 := 1#32
  let arg14 : BitVec 32 := Scf.iv c0_i32_5 c1_i32_7 k1_t2
  let c16_i32_127 : BitVec 32 := 16#32
  let v238 : BitVec 32 := Scalar.muli arg14 c16_i32_127
  let v240 : Index := Scalar.indexCast v238
  ![20, v240.toNat]
def k1_off55 (k1_t2 : Fin k1_t2_loop.trips) : Fin 2 → Nat :=
  let c21_i32 : BitVec 32 := 21#32
  let v249 : Index := Scalar.indexCast c21_i32
  let c0_i32_5 : BitVec 32 := 0#32
  let c1_i32_7 : BitVec 32 := 1#32
  let arg14 : BitVec 32 := Scf.iv c0_i32_5 c1_i32_7 k1_t2
  let c16_i32_129 : BitVec 32 := 16#32
  let v248 : BitVec 32 := Scalar.muli arg14 c16_i32_129
  let v250 : Index := Scalar.indexCast v248
  ![21, v250.toNat]
def k1_off56 (k1_t2 : Fin k1_t2_loop.trips) : Fin 2 → Nat :=
  let c22_i32 : BitVec 32 := 22#32
  let v259 : Index := Scalar.indexCast c22_i32
  let c0_i32_5 : BitVec 32 := 0#32
  let c1_i32_7 : BitVec 32 := 1#32
  let arg14 : BitVec 32 := Scf.iv c0_i32_5 c1_i32_7 k1_t2
  let c16_i32_131 : BitVec 32 := 16#32
  let v258 : BitVec 32 := Scalar.muli arg14 c16_i32_131
  let v260 : Index := Scalar.indexCast v258
  ![22, v260.toNat]
def k1_off57 (k1_t2 : Fin k1_t2_loop.trips) : Fin 2 → Nat :=
  let c23_i32 : BitVec 32 := 23#32
  let v269 : Index := Scalar.indexCast c23_i32
  let c0_i32_5 : BitVec 32 := 0#32
  let c1_i32_7 : BitVec 32 := 1#32
  let arg14 : BitVec 32 := Scf.iv c0_i32_5 c1_i32_7 k1_t2
  let c16_i32_133 : BitVec 32 := 16#32
  let v268 : BitVec 32 := Scalar.muli arg14 c16_i32_133
  let v270 : Index := Scalar.indexCast v268
  ![23, v270.toNat]
def k1_off58 (k1_t2 : Fin k1_t2_loop.trips) : Fin 2 → Nat :=
  let c24_i32 : BitVec 32 := 24#32
  let v279 : Index := Scalar.indexCast c24_i32
  let c0_i32_5 : BitVec 32 := 0#32
  let c1_i32_7 : BitVec 32 := 1#32
  let arg14 : BitVec 32 := Scf.iv c0_i32_5 c1_i32_7 k1_t2
  let c16_i32_135 : BitVec 32 := 16#32
  let v278 : BitVec 32 := Scalar.muli arg14 c16_i32_135
  let v280 : Index := Scalar.indexCast v278
  ![24, v280.toNat]
def k1_off59 (k1_t2 : Fin k1_t2_loop.trips) : Fin 2 → Nat :=
  let c25_i32 : BitVec 32 := 25#32
  let v289 : Index := Scalar.indexCast c25_i32
  let c0_i32_5 : BitVec 32 := 0#32
  let c1_i32_7 : BitVec 32 := 1#32
  let arg14 : BitVec 32 := Scf.iv c0_i32_5 c1_i32_7 k1_t2
  let c16_i32_137 : BitVec 32 := 16#32
  let v288 : BitVec 32 := Scalar.muli arg14 c16_i32_137
  let v290 : Index := Scalar.indexCast v288
  ![25, v290.toNat]
def k1_off60 (k1_t2 : Fin k1_t2_loop.trips) : Fin 2 → Nat :=
  let c26_i32 : BitVec 32 := 26#32
  let v299 : Index := Scalar.indexCast c26_i32
  let c0_i32_5 : BitVec 32 := 0#32
  let c1_i32_7 : BitVec 32 := 1#32
  let arg14 : BitVec 32 := Scf.iv c0_i32_5 c1_i32_7 k1_t2
  let c16_i32_139 : BitVec 32 := 16#32
  let v298 : BitVec 32 := Scalar.muli arg14 c16_i32_139
  let v300 : Index := Scalar.indexCast v298
  ![26, v300.toNat]
def k1_off61 (k1_t2 : Fin k1_t2_loop.trips) : Fin 2 → Nat :=
  let c27_i32 : BitVec 32 := 27#32
  let v309 : Index := Scalar.indexCast c27_i32
  let c0_i32_5 : BitVec 32 := 0#32
  let c1_i32_7 : BitVec 32 := 1#32
  let arg14 : BitVec 32 := Scf.iv c0_i32_5 c1_i32_7 k1_t2
  let c16_i32_141 : BitVec 32 := 16#32
  let v308 : BitVec 32 := Scalar.muli arg14 c16_i32_141
  let v310 : Index := Scalar.indexCast v308
  ![27, v310.toNat]
def k1_off62 (k1_t2 : Fin k1_t2_loop.trips) : Fin 2 → Nat :=
  let c28_i32 : BitVec 32 := 28#32
  let v319 : Index := Scalar.indexCast c28_i32
  let c0_i32_5 : BitVec 32 := 0#32
  let c1_i32_7 : BitVec 32 := 1#32
  let arg14 : BitVec 32 := Scf.iv c0_i32_5 c1_i32_7 k1_t2
  let c16_i32_143 : BitVec 32 := 16#32
  let v318 : BitVec 32 := Scalar.muli arg14 c16_i32_143
  let v320 : Index := Scalar.indexCast v318
  ![28, v320.toNat]
def k1_off63 (k1_t2 : Fin k1_t2_loop.trips) : Fin 2 → Nat :=
  let c29_i32 : BitVec 32 := 29#32
  let v329 : Index := Scalar.indexCast c29_i32
  let c0_i32_5 : BitVec 32 := 0#32
  let c1_i32_7 : BitVec 32 := 1#32
  let arg14 : BitVec 32 := Scf.iv c0_i32_5 c1_i32_7 k1_t2
  let c16_i32_145 : BitVec 32 := 16#32
  let v328 : BitVec 32 := Scalar.muli arg14 c16_i32_145
  let v330 : Index := Scalar.indexCast v328
  ![29, v330.toNat]
def k1_off64 (k1_t2 : Fin k1_t2_loop.trips) : Fin 2 → Nat :=
  let c30_i32 : BitVec 32 := 30#32
  let v339 : Index := Scalar.indexCast c30_i32
  let c0_i32_5 : BitVec 32 := 0#32
  let c1_i32_7 : BitVec 32 := 1#32
  let arg14 : BitVec 32 := Scf.iv c0_i32_5 c1_i32_7 k1_t2
  let c16_i32_147 : BitVec 32 := 16#32
  let v338 : BitVec 32 := Scalar.muli arg14 c16_i32_147
  let v340 : Index := Scalar.indexCast v338
  ![30, v340.toNat]
def k1_off65 (k1_t2 : Fin k1_t2_loop.trips) : Fin 2 → Nat :=
  let c31_i32 : BitVec 32 := 31#32
  let v349 : Index := Scalar.indexCast c31_i32
  let c0_i32_5 : BitVec 32 := 0#32
  let c1_i32_7 : BitVec 32 := 1#32
  let arg14 : BitVec 32 := Scf.iv c0_i32_5 c1_i32_7 k1_t2
  let c16_i32_149 : BitVec 32 := 16#32
  let v348 : BitVec 32 := Scalar.muli arg14 c16_i32_149
  let v350 : Index := Scalar.indexCast v348
  ![31, v350.toNat]
def k1_off66 (k1_t2 : Fin k1_t2_loop.trips) : Fin 1 → Nat :=
  let c2048_i32 : BitVec 32 := 2048#32
  let c0_i32_5 : BitVec 32 := 0#32
  let c1_i32_7 : BitVec 32 := 1#32
  let arg14 : BitVec 32 := Scf.iv c0_i32_5 c1_i32_7 k1_t2
  let c16_i32_151 : BitVec 32 := 16#32
  let v364 : BitVec 32 := Scalar.muli arg14 c16_i32_151
  let v365 : BitVec 32 := Scalar.addi c2048_i32 v364
  let v366 : Index := Scalar.indexCast v365
  ![v366.toNat]
@[reducible] def k1_t3_loop : Scf.Loop 32 :=
  let c0_i32_9 : BitVec 32 := 0#32
  let c128_i32_10 : BitVec 32 := 128#32
  let v8 : BitVec 32 := Scalar.addi c0_i32_9 c128_i32_10
  let c1_i32_11 : BitVec 32 := 1#32
  ⟨c0_i32_9, v8, c1_i32_11⟩
def k1_off67 (k1_t3 : Fin k1_t3_loop.trips) : Fin 2 → Nat :=
  let c0_i32_71 : BitVec 32 := 0#32
  let v39 : Index := Scalar.indexCast c0_i32_71
  let c0_i32_9 : BitVec 32 := 0#32
  let c1_i32_11 : BitVec 32 := 1#32
  let arg14 : BitVec 32 := Scf.iv c0_i32_9 c1_i32_11 k1_t3
  let c16_i32_70 : BitVec 32 := 16#32
  let v38 : BitVec 32 := Scalar.muli arg14 c16_i32_70
  let v40 : Index := Scalar.indexCast v38
  ![0, v40.toNat]
def k1_off68 (k1_t3 : Fin k1_t3_loop.trips) : Fin 2 → Nat :=
  let c1_i32_74 : BitVec 32 := 1#32
  let v49 : Index := Scalar.indexCast c1_i32_74
  let c0_i32_9 : BitVec 32 := 0#32
  let c1_i32_11 : BitVec 32 := 1#32
  let arg14 : BitVec 32 := Scf.iv c0_i32_9 c1_i32_11 k1_t3
  let c16_i32_73 : BitVec 32 := 16#32
  let v48 : BitVec 32 := Scalar.muli arg14 c16_i32_73
  let v50 : Index := Scalar.indexCast v48
  ![1, v50.toNat]
def k1_off69 (k1_t3 : Fin k1_t3_loop.trips) : Fin 2 → Nat :=
  let c2_i32_77 : BitVec 32 := 2#32
  let v59 : Index := Scalar.indexCast c2_i32_77
  let c0_i32_9 : BitVec 32 := 0#32
  let c1_i32_11 : BitVec 32 := 1#32
  let arg14 : BitVec 32 := Scf.iv c0_i32_9 c1_i32_11 k1_t3
  let c16_i32_76 : BitVec 32 := 16#32
  let v58 : BitVec 32 := Scalar.muli arg14 c16_i32_76
  let v60 : Index := Scalar.indexCast v58
  ![2, v60.toNat]
def k1_off70 (k1_t3 : Fin k1_t3_loop.trips) : Fin 2 → Nat :=
  let c3_i32_80 : BitVec 32 := 3#32
  let v69 : Index := Scalar.indexCast c3_i32_80
  let c0_i32_9 : BitVec 32 := 0#32
  let c1_i32_11 : BitVec 32 := 1#32
  let arg14 : BitVec 32 := Scf.iv c0_i32_9 c1_i32_11 k1_t3
  let c16_i32_79 : BitVec 32 := 16#32
  let v68 : BitVec 32 := Scalar.muli arg14 c16_i32_79
  let v70 : Index := Scalar.indexCast v68
  ![3, v70.toNat]
def k1_off71 (k1_t3 : Fin k1_t3_loop.trips) : Fin 2 → Nat :=
  let c4_i32_83 : BitVec 32 := 4#32
  let v79 : Index := Scalar.indexCast c4_i32_83
  let c0_i32_9 : BitVec 32 := 0#32
  let c1_i32_11 : BitVec 32 := 1#32
  let arg14 : BitVec 32 := Scf.iv c0_i32_9 c1_i32_11 k1_t3
  let c16_i32_82 : BitVec 32 := 16#32
  let v78 : BitVec 32 := Scalar.muli arg14 c16_i32_82
  let v80 : Index := Scalar.indexCast v78
  ![4, v80.toNat]
def k1_off72 (k1_t3 : Fin k1_t3_loop.trips) : Fin 2 → Nat :=
  let c5_i32_86 : BitVec 32 := 5#32
  let v89 : Index := Scalar.indexCast c5_i32_86
  let c0_i32_9 : BitVec 32 := 0#32
  let c1_i32_11 : BitVec 32 := 1#32
  let arg14 : BitVec 32 := Scf.iv c0_i32_9 c1_i32_11 k1_t3
  let c16_i32_85 : BitVec 32 := 16#32
  let v88 : BitVec 32 := Scalar.muli arg14 c16_i32_85
  let v90 : Index := Scalar.indexCast v88
  ![5, v90.toNat]
def k1_off73 (k1_t3 : Fin k1_t3_loop.trips) : Fin 2 → Nat :=
  let c6_i32_89 : BitVec 32 := 6#32
  let v99 : Index := Scalar.indexCast c6_i32_89
  let c0_i32_9 : BitVec 32 := 0#32
  let c1_i32_11 : BitVec 32 := 1#32
  let arg14 : BitVec 32 := Scf.iv c0_i32_9 c1_i32_11 k1_t3
  let c16_i32_88 : BitVec 32 := 16#32
  let v98 : BitVec 32 := Scalar.muli arg14 c16_i32_88
  let v100 : Index := Scalar.indexCast v98
  ![6, v100.toNat]
def k1_off74 (k1_t3 : Fin k1_t3_loop.trips) : Fin 2 → Nat :=
  let c7_i32_92 : BitVec 32 := 7#32
  let v109 : Index := Scalar.indexCast c7_i32_92
  let c0_i32_9 : BitVec 32 := 0#32
  let c1_i32_11 : BitVec 32 := 1#32
  let arg14 : BitVec 32 := Scf.iv c0_i32_9 c1_i32_11 k1_t3
  let c16_i32_91 : BitVec 32 := 16#32
  let v108 : BitVec 32 := Scalar.muli arg14 c16_i32_91
  let v110 : Index := Scalar.indexCast v108
  ![7, v110.toNat]
def k1_off75 (k1_t3 : Fin k1_t3_loop.trips) : Fin 2 → Nat :=
  let c8_i32_95 : BitVec 32 := 8#32
  let v119 : Index := Scalar.indexCast c8_i32_95
  let c0_i32_9 : BitVec 32 := 0#32
  let c1_i32_11 : BitVec 32 := 1#32
  let arg14 : BitVec 32 := Scf.iv c0_i32_9 c1_i32_11 k1_t3
  let c16_i32_94 : BitVec 32 := 16#32
  let v118 : BitVec 32 := Scalar.muli arg14 c16_i32_94
  let v120 : Index := Scalar.indexCast v118
  ![8, v120.toNat]
def k1_off76 (k1_t3 : Fin k1_t3_loop.trips) : Fin 2 → Nat :=
  let c9_i32_98 : BitVec 32 := 9#32
  let v129 : Index := Scalar.indexCast c9_i32_98
  let c0_i32_9 : BitVec 32 := 0#32
  let c1_i32_11 : BitVec 32 := 1#32
  let arg14 : BitVec 32 := Scf.iv c0_i32_9 c1_i32_11 k1_t3
  let c16_i32_97 : BitVec 32 := 16#32
  let v128 : BitVec 32 := Scalar.muli arg14 c16_i32_97
  let v130 : Index := Scalar.indexCast v128
  ![9, v130.toNat]
def k1_off77 (k1_t3 : Fin k1_t3_loop.trips) : Fin 2 → Nat :=
  let c10_i32_101 : BitVec 32 := 10#32
  let v139 : Index := Scalar.indexCast c10_i32_101
  let c0_i32_9 : BitVec 32 := 0#32
  let c1_i32_11 : BitVec 32 := 1#32
  let arg14 : BitVec 32 := Scf.iv c0_i32_9 c1_i32_11 k1_t3
  let c16_i32_100 : BitVec 32 := 16#32
  let v138 : BitVec 32 := Scalar.muli arg14 c16_i32_100
  let v140 : Index := Scalar.indexCast v138
  ![10, v140.toNat]
def k1_off78 (k1_t3 : Fin k1_t3_loop.trips) : Fin 2 → Nat :=
  let c11_i32_104 : BitVec 32 := 11#32
  let v149 : Index := Scalar.indexCast c11_i32_104
  let c0_i32_9 : BitVec 32 := 0#32
  let c1_i32_11 : BitVec 32 := 1#32
  let arg14 : BitVec 32 := Scf.iv c0_i32_9 c1_i32_11 k1_t3
  let c16_i32_103 : BitVec 32 := 16#32
  let v148 : BitVec 32 := Scalar.muli arg14 c16_i32_103
  let v150 : Index := Scalar.indexCast v148
  ![11, v150.toNat]
def k1_off79 (k1_t3 : Fin k1_t3_loop.trips) : Fin 2 → Nat :=
  let c12_i32_107 : BitVec 32 := 12#32
  let v159 : Index := Scalar.indexCast c12_i32_107
  let c0_i32_9 : BitVec 32 := 0#32
  let c1_i32_11 : BitVec 32 := 1#32
  let arg14 : BitVec 32 := Scf.iv c0_i32_9 c1_i32_11 k1_t3
  let c16_i32_106 : BitVec 32 := 16#32
  let v158 : BitVec 32 := Scalar.muli arg14 c16_i32_106
  let v160 : Index := Scalar.indexCast v158
  ![12, v160.toNat]
def k1_off80 (k1_t3 : Fin k1_t3_loop.trips) : Fin 2 → Nat :=
  let c13_i32_110 : BitVec 32 := 13#32
  let v169 : Index := Scalar.indexCast c13_i32_110
  let c0_i32_9 : BitVec 32 := 0#32
  let c1_i32_11 : BitVec 32 := 1#32
  let arg14 : BitVec 32 := Scf.iv c0_i32_9 c1_i32_11 k1_t3
  let c16_i32_109 : BitVec 32 := 16#32
  let v168 : BitVec 32 := Scalar.muli arg14 c16_i32_109
  let v170 : Index := Scalar.indexCast v168
  ![13, v170.toNat]
def k1_off81 (k1_t3 : Fin k1_t3_loop.trips) : Fin 2 → Nat :=
  let c14_i32_113 : BitVec 32 := 14#32
  let v179 : Index := Scalar.indexCast c14_i32_113
  let c0_i32_9 : BitVec 32 := 0#32
  let c1_i32_11 : BitVec 32 := 1#32
  let arg14 : BitVec 32 := Scf.iv c0_i32_9 c1_i32_11 k1_t3
  let c16_i32_112 : BitVec 32 := 16#32
  let v178 : BitVec 32 := Scalar.muli arg14 c16_i32_112
  let v180 : Index := Scalar.indexCast v178
  ![14, v180.toNat]
def k1_off82 (k1_t3 : Fin k1_t3_loop.trips) : Fin 2 → Nat :=
  let c15_i32_116 : BitVec 32 := 15#32
  let v189 : Index := Scalar.indexCast c15_i32_116
  let c0_i32_9 : BitVec 32 := 0#32
  let c1_i32_11 : BitVec 32 := 1#32
  let arg14 : BitVec 32 := Scf.iv c0_i32_9 c1_i32_11 k1_t3
  let c16_i32_115 : BitVec 32 := 16#32
  let v188 : BitVec 32 := Scalar.muli arg14 c16_i32_115
  let v190 : Index := Scalar.indexCast v188
  ![15, v190.toNat]
def k1_off83 (k1_t3 : Fin k1_t3_loop.trips) : Fin 2 → Nat :=
  let c16_i32_119 : BitVec 32 := 16#32
  let v199 : Index := Scalar.indexCast c16_i32_119
  let c0_i32_9 : BitVec 32 := 0#32
  let c1_i32_11 : BitVec 32 := 1#32
  let arg14 : BitVec 32 := Scf.iv c0_i32_9 c1_i32_11 k1_t3
  let c16_i32_118 : BitVec 32 := 16#32
  let v198 : BitVec 32 := Scalar.muli arg14 c16_i32_118
  let v200 : Index := Scalar.indexCast v198
  ![16, v200.toNat]
def k1_off84 (k1_t3 : Fin k1_t3_loop.trips) : Fin 2 → Nat :=
  let c17_i32 : BitVec 32 := 17#32
  let v209 : Index := Scalar.indexCast c17_i32
  let c0_i32_9 : BitVec 32 := 0#32
  let c1_i32_11 : BitVec 32 := 1#32
  let arg14 : BitVec 32 := Scf.iv c0_i32_9 c1_i32_11 k1_t3
  let c16_i32_121 : BitVec 32 := 16#32
  let v208 : BitVec 32 := Scalar.muli arg14 c16_i32_121
  let v210 : Index := Scalar.indexCast v208
  ![17, v210.toNat]
def k1_off85 (k1_t3 : Fin k1_t3_loop.trips) : Fin 2 → Nat :=
  let c18_i32 : BitVec 32 := 18#32
  let v219 : Index := Scalar.indexCast c18_i32
  let c0_i32_9 : BitVec 32 := 0#32
  let c1_i32_11 : BitVec 32 := 1#32
  let arg14 : BitVec 32 := Scf.iv c0_i32_9 c1_i32_11 k1_t3
  let c16_i32_123 : BitVec 32 := 16#32
  let v218 : BitVec 32 := Scalar.muli arg14 c16_i32_123
  let v220 : Index := Scalar.indexCast v218
  ![18, v220.toNat]
def k1_off86 (k1_t3 : Fin k1_t3_loop.trips) : Fin 2 → Nat :=
  let c19_i32 : BitVec 32 := 19#32
  let v229 : Index := Scalar.indexCast c19_i32
  let c0_i32_9 : BitVec 32 := 0#32
  let c1_i32_11 : BitVec 32 := 1#32
  let arg14 : BitVec 32 := Scf.iv c0_i32_9 c1_i32_11 k1_t3
  let c16_i32_125 : BitVec 32 := 16#32
  let v228 : BitVec 32 := Scalar.muli arg14 c16_i32_125
  let v230 : Index := Scalar.indexCast v228
  ![19, v230.toNat]
def k1_off87 (k1_t3 : Fin k1_t3_loop.trips) : Fin 2 → Nat :=
  let c20_i32 : BitVec 32 := 20#32
  let v239 : Index := Scalar.indexCast c20_i32
  let c0_i32_9 : BitVec 32 := 0#32
  let c1_i32_11 : BitVec 32 := 1#32
  let arg14 : BitVec 32 := Scf.iv c0_i32_9 c1_i32_11 k1_t3
  let c16_i32_127 : BitVec 32 := 16#32
  let v238 : BitVec 32 := Scalar.muli arg14 c16_i32_127
  let v240 : Index := Scalar.indexCast v238
  ![20, v240.toNat]
def k1_off88 (k1_t3 : Fin k1_t3_loop.trips) : Fin 2 → Nat :=
  let c21_i32 : BitVec 32 := 21#32
  let v249 : Index := Scalar.indexCast c21_i32
  let c0_i32_9 : BitVec 32 := 0#32
  let c1_i32_11 : BitVec 32 := 1#32
  let arg14 : BitVec 32 := Scf.iv c0_i32_9 c1_i32_11 k1_t3
  let c16_i32_129 : BitVec 32 := 16#32
  let v248 : BitVec 32 := Scalar.muli arg14 c16_i32_129
  let v250 : Index := Scalar.indexCast v248
  ![21, v250.toNat]
def k1_off89 (k1_t3 : Fin k1_t3_loop.trips) : Fin 2 → Nat :=
  let c22_i32 : BitVec 32 := 22#32
  let v259 : Index := Scalar.indexCast c22_i32
  let c0_i32_9 : BitVec 32 := 0#32
  let c1_i32_11 : BitVec 32 := 1#32
  let arg14 : BitVec 32 := Scf.iv c0_i32_9 c1_i32_11 k1_t3
  let c16_i32_131 : BitVec 32 := 16#32
  let v258 : BitVec 32 := Scalar.muli arg14 c16_i32_131
  let v260 : Index := Scalar.indexCast v258
  ![22, v260.toNat]
def k1_off90 (k1_t3 : Fin k1_t3_loop.trips) : Fin 2 → Nat :=
  let c23_i32 : BitVec 32 := 23#32
  let v269 : Index := Scalar.indexCast c23_i32
  let c0_i32_9 : BitVec 32 := 0#32
  let c1_i32_11 : BitVec 32 := 1#32
  let arg14 : BitVec 32 := Scf.iv c0_i32_9 c1_i32_11 k1_t3
  let c16_i32_133 : BitVec 32 := 16#32
  let v268 : BitVec 32 := Scalar.muli arg14 c16_i32_133
  let v270 : Index := Scalar.indexCast v268
  ![23, v270.toNat]
def k1_off91 (k1_t3 : Fin k1_t3_loop.trips) : Fin 2 → Nat :=
  let c24_i32 : BitVec 32 := 24#32
  let v279 : Index := Scalar.indexCast c24_i32
  let c0_i32_9 : BitVec 32 := 0#32
  let c1_i32_11 : BitVec 32 := 1#32
  let arg14 : BitVec 32 := Scf.iv c0_i32_9 c1_i32_11 k1_t3
  let c16_i32_135 : BitVec 32 := 16#32
  let v278 : BitVec 32 := Scalar.muli arg14 c16_i32_135
  let v280 : Index := Scalar.indexCast v278
  ![24, v280.toNat]
def k1_off92 (k1_t3 : Fin k1_t3_loop.trips) : Fin 2 → Nat :=
  let c25_i32 : BitVec 32 := 25#32
  let v289 : Index := Scalar.indexCast c25_i32
  let c0_i32_9 : BitVec 32 := 0#32
  let c1_i32_11 : BitVec 32 := 1#32
  let arg14 : BitVec 32 := Scf.iv c0_i32_9 c1_i32_11 k1_t3
  let c16_i32_137 : BitVec 32 := 16#32
  let v288 : BitVec 32 := Scalar.muli arg14 c16_i32_137
  let v290 : Index := Scalar.indexCast v288
  ![25, v290.toNat]
def k1_off93 (k1_t3 : Fin k1_t3_loop.trips) : Fin 2 → Nat :=
  let c26_i32 : BitVec 32 := 26#32
  let v299 : Index := Scalar.indexCast c26_i32
  let c0_i32_9 : BitVec 32 := 0#32
  let c1_i32_11 : BitVec 32 := 1#32
  let arg14 : BitVec 32 := Scf.iv c0_i32_9 c1_i32_11 k1_t3
  let c16_i32_139 : BitVec 32 := 16#32
  let v298 : BitVec 32 := Scalar.muli arg14 c16_i32_139
  let v300 : Index := Scalar.indexCast v298
  ![26, v300.toNat]
def k1_off94 (k1_t3 : Fin k1_t3_loop.trips) : Fin 2 → Nat :=
  let c27_i32 : BitVec 32 := 27#32
  let v309 : Index := Scalar.indexCast c27_i32
  let c0_i32_9 : BitVec 32 := 0#32
  let c1_i32_11 : BitVec 32 := 1#32
  let arg14 : BitVec 32 := Scf.iv c0_i32_9 c1_i32_11 k1_t3
  let c16_i32_141 : BitVec 32 := 16#32
  let v308 : BitVec 32 := Scalar.muli arg14 c16_i32_141
  let v310 : Index := Scalar.indexCast v308
  ![27, v310.toNat]
def k1_off95 (k1_t3 : Fin k1_t3_loop.trips) : Fin 2 → Nat :=
  let c28_i32 : BitVec 32 := 28#32
  let v319 : Index := Scalar.indexCast c28_i32
  let c0_i32_9 : BitVec 32 := 0#32
  let c1_i32_11 : BitVec 32 := 1#32
  let arg14 : BitVec 32 := Scf.iv c0_i32_9 c1_i32_11 k1_t3
  let c16_i32_143 : BitVec 32 := 16#32
  let v318 : BitVec 32 := Scalar.muli arg14 c16_i32_143
  let v320 : Index := Scalar.indexCast v318
  ![28, v320.toNat]
def k1_off96 (k1_t3 : Fin k1_t3_loop.trips) : Fin 2 → Nat :=
  let c29_i32 : BitVec 32 := 29#32
  let v329 : Index := Scalar.indexCast c29_i32
  let c0_i32_9 : BitVec 32 := 0#32
  let c1_i32_11 : BitVec 32 := 1#32
  let arg14 : BitVec 32 := Scf.iv c0_i32_9 c1_i32_11 k1_t3
  let c16_i32_145 : BitVec 32 := 16#32
  let v328 : BitVec 32 := Scalar.muli arg14 c16_i32_145
  let v330 : Index := Scalar.indexCast v328
  ![29, v330.toNat]
def k1_off97 (k1_t3 : Fin k1_t3_loop.trips) : Fin 2 → Nat :=
  let c30_i32 : BitVec 32 := 30#32
  let v339 : Index := Scalar.indexCast c30_i32
  let c0_i32_9 : BitVec 32 := 0#32
  let c1_i32_11 : BitVec 32 := 1#32
  let arg14 : BitVec 32 := Scf.iv c0_i32_9 c1_i32_11 k1_t3
  let c16_i32_147 : BitVec 32 := 16#32
  let v338 : BitVec 32 := Scalar.muli arg14 c16_i32_147
  let v340 : Index := Scalar.indexCast v338
  ![30, v340.toNat]
def k1_off98 (k1_t3 : Fin k1_t3_loop.trips) : Fin 2 → Nat :=
  let c31_i32 : BitVec 32 := 31#32
  let v349 : Index := Scalar.indexCast c31_i32
  let c0_i32_9 : BitVec 32 := 0#32
  let c1_i32_11 : BitVec 32 := 1#32
  let arg14 : BitVec 32 := Scf.iv c0_i32_9 c1_i32_11 k1_t3
  let c16_i32_149 : BitVec 32 := 16#32
  let v348 : BitVec 32 := Scalar.muli arg14 c16_i32_149
  let v350 : Index := Scalar.indexCast v348
  ![31, v350.toNat]
def k1_off99 (k1_t3 : Fin k1_t3_loop.trips) : Fin 1 → Nat :=
  let c4096_i32 : BitVec 32 := 4096#32
  let c0_i32_9 : BitVec 32 := 0#32
  let c1_i32_11 : BitVec 32 := 1#32
  let arg14 : BitVec 32 := Scf.iv c0_i32_9 c1_i32_11 k1_t3
  let c16_i32_151 : BitVec 32 := 16#32
  let v364 : BitVec 32 := Scalar.muli arg14 c16_i32_151
  let v365 : BitVec 32 := Scalar.addi c4096_i32 v364
  let v366 : Index := Scalar.indexCast v365
  ![v366.toNat]
@[reducible] def k1_t4_loop : Scf.Loop 32 :=
  let c0_i32_13 : BitVec 32 := 0#32
  let c128_i32_14 : BitVec 32 := 128#32
  let v10 : BitVec 32 := Scalar.addi c0_i32_13 c128_i32_14
  let c1_i32_15 : BitVec 32 := 1#32
  ⟨c0_i32_13, v10, c1_i32_15⟩
def k1_off100 (k1_t4 : Fin k1_t4_loop.trips) : Fin 2 → Nat :=
  let c0_i32_71 : BitVec 32 := 0#32
  let v39 : Index := Scalar.indexCast c0_i32_71
  let c0_i32_13 : BitVec 32 := 0#32
  let c1_i32_15 : BitVec 32 := 1#32
  let arg14 : BitVec 32 := Scf.iv c0_i32_13 c1_i32_15 k1_t4
  let c16_i32_70 : BitVec 32 := 16#32
  let v38 : BitVec 32 := Scalar.muli arg14 c16_i32_70
  let v40 : Index := Scalar.indexCast v38
  ![0, v40.toNat]
def k1_off101 (k1_t4 : Fin k1_t4_loop.trips) : Fin 2 → Nat :=
  let c1_i32_74 : BitVec 32 := 1#32
  let v49 : Index := Scalar.indexCast c1_i32_74
  let c0_i32_13 : BitVec 32 := 0#32
  let c1_i32_15 : BitVec 32 := 1#32
  let arg14 : BitVec 32 := Scf.iv c0_i32_13 c1_i32_15 k1_t4
  let c16_i32_73 : BitVec 32 := 16#32
  let v48 : BitVec 32 := Scalar.muli arg14 c16_i32_73
  let v50 : Index := Scalar.indexCast v48
  ![1, v50.toNat]
def k1_off102 (k1_t4 : Fin k1_t4_loop.trips) : Fin 2 → Nat :=
  let c2_i32_77 : BitVec 32 := 2#32
  let v59 : Index := Scalar.indexCast c2_i32_77
  let c0_i32_13 : BitVec 32 := 0#32
  let c1_i32_15 : BitVec 32 := 1#32
  let arg14 : BitVec 32 := Scf.iv c0_i32_13 c1_i32_15 k1_t4
  let c16_i32_76 : BitVec 32 := 16#32
  let v58 : BitVec 32 := Scalar.muli arg14 c16_i32_76
  let v60 : Index := Scalar.indexCast v58
  ![2, v60.toNat]
def k1_off103 (k1_t4 : Fin k1_t4_loop.trips) : Fin 2 → Nat :=
  let c3_i32_80 : BitVec 32 := 3#32
  let v69 : Index := Scalar.indexCast c3_i32_80
  let c0_i32_13 : BitVec 32 := 0#32
  let c1_i32_15 : BitVec 32 := 1#32
  let arg14 : BitVec 32 := Scf.iv c0_i32_13 c1_i32_15 k1_t4
  let c16_i32_79 : BitVec 32 := 16#32
  let v68 : BitVec 32 := Scalar.muli arg14 c16_i32_79
  let v70 : Index := Scalar.indexCast v68
  ![3, v70.toNat]
def k1_off104 (k1_t4 : Fin k1_t4_loop.trips) : Fin 2 → Nat :=
  let c4_i32_83 : BitVec 32 := 4#32
  let v79 : Index := Scalar.indexCast c4_i32_83
  let c0_i32_13 : BitVec 32 := 0#32
  let c1_i32_15 : BitVec 32 := 1#32
  let arg14 : BitVec 32 := Scf.iv c0_i32_13 c1_i32_15 k1_t4
  let c16_i32_82 : BitVec 32 := 16#32
  let v78 : BitVec 32 := Scalar.muli arg14 c16_i32_82
  let v80 : Index := Scalar.indexCast v78
  ![4, v80.toNat]
def k1_off105 (k1_t4 : Fin k1_t4_loop.trips) : Fin 2 → Nat :=
  let c5_i32_86 : BitVec 32 := 5#32
  let v89 : Index := Scalar.indexCast c5_i32_86
  let c0_i32_13 : BitVec 32 := 0#32
  let c1_i32_15 : BitVec 32 := 1#32
  let arg14 : BitVec 32 := Scf.iv c0_i32_13 c1_i32_15 k1_t4
  let c16_i32_85 : BitVec 32 := 16#32
  let v88 : BitVec 32 := Scalar.muli arg14 c16_i32_85
  let v90 : Index := Scalar.indexCast v88
  ![5, v90.toNat]
def k1_off106 (k1_t4 : Fin k1_t4_loop.trips) : Fin 2 → Nat :=
  let c6_i32_89 : BitVec 32 := 6#32
  let v99 : Index := Scalar.indexCast c6_i32_89
  let c0_i32_13 : BitVec 32 := 0#32
  let c1_i32_15 : BitVec 32 := 1#32
  let arg14 : BitVec 32 := Scf.iv c0_i32_13 c1_i32_15 k1_t4
  let c16_i32_88 : BitVec 32 := 16#32
  let v98 : BitVec 32 := Scalar.muli arg14 c16_i32_88
  let v100 : Index := Scalar.indexCast v98
  ![6, v100.toNat]
def k1_off107 (k1_t4 : Fin k1_t4_loop.trips) : Fin 2 → Nat :=
  let c7_i32_92 : BitVec 32 := 7#32
  let v109 : Index := Scalar.indexCast c7_i32_92
  let c0_i32_13 : BitVec 32 := 0#32
  let c1_i32_15 : BitVec 32 := 1#32
  let arg14 : BitVec 32 := Scf.iv c0_i32_13 c1_i32_15 k1_t4
  let c16_i32_91 : BitVec 32 := 16#32
  let v108 : BitVec 32 := Scalar.muli arg14 c16_i32_91
  let v110 : Index := Scalar.indexCast v108
  ![7, v110.toNat]
def k1_off108 (k1_t4 : Fin k1_t4_loop.trips) : Fin 2 → Nat :=
  let c8_i32_95 : BitVec 32 := 8#32
  let v119 : Index := Scalar.indexCast c8_i32_95
  let c0_i32_13 : BitVec 32 := 0#32
  let c1_i32_15 : BitVec 32 := 1#32
  let arg14 : BitVec 32 := Scf.iv c0_i32_13 c1_i32_15 k1_t4
  let c16_i32_94 : BitVec 32 := 16#32
  let v118 : BitVec 32 := Scalar.muli arg14 c16_i32_94
  let v120 : Index := Scalar.indexCast v118
  ![8, v120.toNat]
def k1_off109 (k1_t4 : Fin k1_t4_loop.trips) : Fin 2 → Nat :=
  let c9_i32_98 : BitVec 32 := 9#32
  let v129 : Index := Scalar.indexCast c9_i32_98
  let c0_i32_13 : BitVec 32 := 0#32
  let c1_i32_15 : BitVec 32 := 1#32
  let arg14 : BitVec 32 := Scf.iv c0_i32_13 c1_i32_15 k1_t4
  let c16_i32_97 : BitVec 32 := 16#32
  let v128 : BitVec 32 := Scalar.muli arg14 c16_i32_97
  let v130 : Index := Scalar.indexCast v128
  ![9, v130.toNat]
def k1_off110 (k1_t4 : Fin k1_t4_loop.trips) : Fin 2 → Nat :=
  let c10_i32_101 : BitVec 32 := 10#32
  let v139 : Index := Scalar.indexCast c10_i32_101
  let c0_i32_13 : BitVec 32 := 0#32
  let c1_i32_15 : BitVec 32 := 1#32
  let arg14 : BitVec 32 := Scf.iv c0_i32_13 c1_i32_15 k1_t4
  let c16_i32_100 : BitVec 32 := 16#32
  let v138 : BitVec 32 := Scalar.muli arg14 c16_i32_100
  let v140 : Index := Scalar.indexCast v138
  ![10, v140.toNat]
def k1_off111 (k1_t4 : Fin k1_t4_loop.trips) : Fin 2 → Nat :=
  let c11_i32_104 : BitVec 32 := 11#32
  let v149 : Index := Scalar.indexCast c11_i32_104
  let c0_i32_13 : BitVec 32 := 0#32
  let c1_i32_15 : BitVec 32 := 1#32
  let arg14 : BitVec 32 := Scf.iv c0_i32_13 c1_i32_15 k1_t4
  let c16_i32_103 : BitVec 32 := 16#32
  let v148 : BitVec 32 := Scalar.muli arg14 c16_i32_103
  let v150 : Index := Scalar.indexCast v148
  ![11, v150.toNat]
def k1_off112 (k1_t4 : Fin k1_t4_loop.trips) : Fin 2 → Nat :=
  let c12_i32_107 : BitVec 32 := 12#32
  let v159 : Index := Scalar.indexCast c12_i32_107
  let c0_i32_13 : BitVec 32 := 0#32
  let c1_i32_15 : BitVec 32 := 1#32
  let arg14 : BitVec 32 := Scf.iv c0_i32_13 c1_i32_15 k1_t4
  let c16_i32_106 : BitVec 32 := 16#32
  let v158 : BitVec 32 := Scalar.muli arg14 c16_i32_106
  let v160 : Index := Scalar.indexCast v158
  ![12, v160.toNat]
def k1_off113 (k1_t4 : Fin k1_t4_loop.trips) : Fin 2 → Nat :=
  let c13_i32_110 : BitVec 32 := 13#32
  let v169 : Index := Scalar.indexCast c13_i32_110
  let c0_i32_13 : BitVec 32 := 0#32
  let c1_i32_15 : BitVec 32 := 1#32
  let arg14 : BitVec 32 := Scf.iv c0_i32_13 c1_i32_15 k1_t4
  let c16_i32_109 : BitVec 32 := 16#32
  let v168 : BitVec 32 := Scalar.muli arg14 c16_i32_109
  let v170 : Index := Scalar.indexCast v168
  ![13, v170.toNat]
def k1_off114 (k1_t4 : Fin k1_t4_loop.trips) : Fin 2 → Nat :=
  let c14_i32_113 : BitVec 32 := 14#32
  let v179 : Index := Scalar.indexCast c14_i32_113
  let c0_i32_13 : BitVec 32 := 0#32
  let c1_i32_15 : BitVec 32 := 1#32
  let arg14 : BitVec 32 := Scf.iv c0_i32_13 c1_i32_15 k1_t4
  let c16_i32_112 : BitVec 32 := 16#32
  let v178 : BitVec 32 := Scalar.muli arg14 c16_i32_112
  let v180 : Index := Scalar.indexCast v178
  ![14, v180.toNat]
def k1_off115 (k1_t4 : Fin k1_t4_loop.trips) : Fin 2 → Nat :=
  let c15_i32_116 : BitVec 32 := 15#32
  let v189 : Index := Scalar.indexCast c15_i32_116
  let c0_i32_13 : BitVec 32 := 0#32
  let c1_i32_15 : BitVec 32 := 1#32
  let arg14 : BitVec 32 := Scf.iv c0_i32_13 c1_i32_15 k1_t4
  let c16_i32_115 : BitVec 32 := 16#32
  let v188 : BitVec 32 := Scalar.muli arg14 c16_i32_115
  let v190 : Index := Scalar.indexCast v188
  ![15, v190.toNat]
def k1_off116 (k1_t4 : Fin k1_t4_loop.trips) : Fin 2 → Nat :=
  let c16_i32_119 : BitVec 32 := 16#32
  let v199 : Index := Scalar.indexCast c16_i32_119
  let c0_i32_13 : BitVec 32 := 0#32
  let c1_i32_15 : BitVec 32 := 1#32
  let arg14 : BitVec 32 := Scf.iv c0_i32_13 c1_i32_15 k1_t4
  let c16_i32_118 : BitVec 32 := 16#32
  let v198 : BitVec 32 := Scalar.muli arg14 c16_i32_118
  let v200 : Index := Scalar.indexCast v198
  ![16, v200.toNat]
def k1_off117 (k1_t4 : Fin k1_t4_loop.trips) : Fin 2 → Nat :=
  let c17_i32 : BitVec 32 := 17#32
  let v209 : Index := Scalar.indexCast c17_i32
  let c0_i32_13 : BitVec 32 := 0#32
  let c1_i32_15 : BitVec 32 := 1#32
  let arg14 : BitVec 32 := Scf.iv c0_i32_13 c1_i32_15 k1_t4
  let c16_i32_121 : BitVec 32 := 16#32
  let v208 : BitVec 32 := Scalar.muli arg14 c16_i32_121
  let v210 : Index := Scalar.indexCast v208
  ![17, v210.toNat]
def k1_off118 (k1_t4 : Fin k1_t4_loop.trips) : Fin 2 → Nat :=
  let c18_i32 : BitVec 32 := 18#32
  let v219 : Index := Scalar.indexCast c18_i32
  let c0_i32_13 : BitVec 32 := 0#32
  let c1_i32_15 : BitVec 32 := 1#32
  let arg14 : BitVec 32 := Scf.iv c0_i32_13 c1_i32_15 k1_t4
  let c16_i32_123 : BitVec 32 := 16#32
  let v218 : BitVec 32 := Scalar.muli arg14 c16_i32_123
  let v220 : Index := Scalar.indexCast v218
  ![18, v220.toNat]
def k1_off119 (k1_t4 : Fin k1_t4_loop.trips) : Fin 2 → Nat :=
  let c19_i32 : BitVec 32 := 19#32
  let v229 : Index := Scalar.indexCast c19_i32
  let c0_i32_13 : BitVec 32 := 0#32
  let c1_i32_15 : BitVec 32 := 1#32
  let arg14 : BitVec 32 := Scf.iv c0_i32_13 c1_i32_15 k1_t4
  let c16_i32_125 : BitVec 32 := 16#32
  let v228 : BitVec 32 := Scalar.muli arg14 c16_i32_125
  let v230 : Index := Scalar.indexCast v228
  ![19, v230.toNat]
def k1_off120 (k1_t4 : Fin k1_t4_loop.trips) : Fin 2 → Nat :=
  let c20_i32 : BitVec 32 := 20#32
  let v239 : Index := Scalar.indexCast c20_i32
  let c0_i32_13 : BitVec 32 := 0#32
  let c1_i32_15 : BitVec 32 := 1#32
  let arg14 : BitVec 32 := Scf.iv c0_i32_13 c1_i32_15 k1_t4
  let c16_i32_127 : BitVec 32 := 16#32
  let v238 : BitVec 32 := Scalar.muli arg14 c16_i32_127
  let v240 : Index := Scalar.indexCast v238
  ![20, v240.toNat]
def k1_off121 (k1_t4 : Fin k1_t4_loop.trips) : Fin 2 → Nat :=
  let c21_i32 : BitVec 32 := 21#32
  let v249 : Index := Scalar.indexCast c21_i32
  let c0_i32_13 : BitVec 32 := 0#32
  let c1_i32_15 : BitVec 32 := 1#32
  let arg14 : BitVec 32 := Scf.iv c0_i32_13 c1_i32_15 k1_t4
  let c16_i32_129 : BitVec 32 := 16#32
  let v248 : BitVec 32 := Scalar.muli arg14 c16_i32_129
  let v250 : Index := Scalar.indexCast v248
  ![21, v250.toNat]
def k1_off122 (k1_t4 : Fin k1_t4_loop.trips) : Fin 2 → Nat :=
  let c22_i32 : BitVec 32 := 22#32
  let v259 : Index := Scalar.indexCast c22_i32
  let c0_i32_13 : BitVec 32 := 0#32
  let c1_i32_15 : BitVec 32 := 1#32
  let arg14 : BitVec 32 := Scf.iv c0_i32_13 c1_i32_15 k1_t4
  let c16_i32_131 : BitVec 32 := 16#32
  let v258 : BitVec 32 := Scalar.muli arg14 c16_i32_131
  let v260 : Index := Scalar.indexCast v258
  ![22, v260.toNat]
def k1_off123 (k1_t4 : Fin k1_t4_loop.trips) : Fin 2 → Nat :=
  let c23_i32 : BitVec 32 := 23#32
  let v269 : Index := Scalar.indexCast c23_i32
  let c0_i32_13 : BitVec 32 := 0#32
  let c1_i32_15 : BitVec 32 := 1#32
  let arg14 : BitVec 32 := Scf.iv c0_i32_13 c1_i32_15 k1_t4
  let c16_i32_133 : BitVec 32 := 16#32
  let v268 : BitVec 32 := Scalar.muli arg14 c16_i32_133
  let v270 : Index := Scalar.indexCast v268
  ![23, v270.toNat]
def k1_off124 (k1_t4 : Fin k1_t4_loop.trips) : Fin 2 → Nat :=
  let c24_i32 : BitVec 32 := 24#32
  let v279 : Index := Scalar.indexCast c24_i32
  let c0_i32_13 : BitVec 32 := 0#32
  let c1_i32_15 : BitVec 32 := 1#32
  let arg14 : BitVec 32 := Scf.iv c0_i32_13 c1_i32_15 k1_t4
  let c16_i32_135 : BitVec 32 := 16#32
  let v278 : BitVec 32 := Scalar.muli arg14 c16_i32_135
  let v280 : Index := Scalar.indexCast v278
  ![24, v280.toNat]
def k1_off125 (k1_t4 : Fin k1_t4_loop.trips) : Fin 2 → Nat :=
  let c25_i32 : BitVec 32 := 25#32
  let v289 : Index := Scalar.indexCast c25_i32
  let c0_i32_13 : BitVec 32 := 0#32
  let c1_i32_15 : BitVec 32 := 1#32
  let arg14 : BitVec 32 := Scf.iv c0_i32_13 c1_i32_15 k1_t4
  let c16_i32_137 : BitVec 32 := 16#32
  let v288 : BitVec 32 := Scalar.muli arg14 c16_i32_137
  let v290 : Index := Scalar.indexCast v288
  ![25, v290.toNat]
def k1_off126 (k1_t4 : Fin k1_t4_loop.trips) : Fin 2 → Nat :=
  let c26_i32 : BitVec 32 := 26#32
  let v299 : Index := Scalar.indexCast c26_i32
  let c0_i32_13 : BitVec 32 := 0#32
  let c1_i32_15 : BitVec 32 := 1#32
  let arg14 : BitVec 32 := Scf.iv c0_i32_13 c1_i32_15 k1_t4
  let c16_i32_139 : BitVec 32 := 16#32
  let v298 : BitVec 32 := Scalar.muli arg14 c16_i32_139
  let v300 : Index := Scalar.indexCast v298
  ![26, v300.toNat]
def k1_off127 (k1_t4 : Fin k1_t4_loop.trips) : Fin 2 → Nat :=
  let c27_i32 : BitVec 32 := 27#32
  let v309 : Index := Scalar.indexCast c27_i32
  let c0_i32_13 : BitVec 32 := 0#32
  let c1_i32_15 : BitVec 32 := 1#32
  let arg14 : BitVec 32 := Scf.iv c0_i32_13 c1_i32_15 k1_t4
  let c16_i32_141 : BitVec 32 := 16#32
  let v308 : BitVec 32 := Scalar.muli arg14 c16_i32_141
  let v310 : Index := Scalar.indexCast v308
  ![27, v310.toNat]
def k1_off128 (k1_t4 : Fin k1_t4_loop.trips) : Fin 2 → Nat :=
  let c28_i32 : BitVec 32 := 28#32
  let v319 : Index := Scalar.indexCast c28_i32
  let c0_i32_13 : BitVec 32 := 0#32
  let c1_i32_15 : BitVec 32 := 1#32
  let arg14 : BitVec 32 := Scf.iv c0_i32_13 c1_i32_15 k1_t4
  let c16_i32_143 : BitVec 32 := 16#32
  let v318 : BitVec 32 := Scalar.muli arg14 c16_i32_143
  let v320 : Index := Scalar.indexCast v318
  ![28, v320.toNat]
def k1_off129 (k1_t4 : Fin k1_t4_loop.trips) : Fin 2 → Nat :=
  let c29_i32 : BitVec 32 := 29#32
  let v329 : Index := Scalar.indexCast c29_i32
  let c0_i32_13 : BitVec 32 := 0#32
  let c1_i32_15 : BitVec 32 := 1#32
  let arg14 : BitVec 32 := Scf.iv c0_i32_13 c1_i32_15 k1_t4
  let c16_i32_145 : BitVec 32 := 16#32
  let v328 : BitVec 32 := Scalar.muli arg14 c16_i32_145
  let v330 : Index := Scalar.indexCast v328
  ![29, v330.toNat]
def k1_off130 (k1_t4 : Fin k1_t4_loop.trips) : Fin 2 → Nat :=
  let c30_i32 : BitVec 32 := 30#32
  let v339 : Index := Scalar.indexCast c30_i32
  let c0_i32_13 : BitVec 32 := 0#32
  let c1_i32_15 : BitVec 32 := 1#32
  let arg14 : BitVec 32 := Scf.iv c0_i32_13 c1_i32_15 k1_t4
  let c16_i32_147 : BitVec 32 := 16#32
  let v338 : BitVec 32 := Scalar.muli arg14 c16_i32_147
  let v340 : Index := Scalar.indexCast v338
  ![30, v340.toNat]
def k1_off131 (k1_t4 : Fin k1_t4_loop.trips) : Fin 2 → Nat :=
  let c31_i32 : BitVec 32 := 31#32
  let v349 : Index := Scalar.indexCast c31_i32
  let c0_i32_13 : BitVec 32 := 0#32
  let c1_i32_15 : BitVec 32 := 1#32
  let arg14 : BitVec 32 := Scf.iv c0_i32_13 c1_i32_15 k1_t4
  let c16_i32_149 : BitVec 32 := 16#32
  let v348 : BitVec 32 := Scalar.muli arg14 c16_i32_149
  let v350 : Index := Scalar.indexCast v348
  ![31, v350.toNat]
def k1_off132 (k1_t4 : Fin k1_t4_loop.trips) : Fin 1 → Nat :=
  let c6144_i32 : BitVec 32 := 6144#32
  let c0_i32_13 : BitVec 32 := 0#32
  let c1_i32_15 : BitVec 32 := 1#32
  let arg14 : BitVec 32 := Scf.iv c0_i32_13 c1_i32_15 k1_t4
  let c16_i32_151 : BitVec 32 := 16#32
  let v364 : BitVec 32 := Scalar.muli arg14 c16_i32_151
  let v365 : BitVec 32 := Scalar.addi c6144_i32 v364
  let v366 : Index := Scalar.indexCast v365
  ![v366.toNat]
@[reducible] def k1_t5_loop : Scf.Loop 32 :=
  let c0_i32_17 : BitVec 32 := 0#32
  let c128_i32_18 : BitVec 32 := 128#32
  let v12 : BitVec 32 := Scalar.addi c0_i32_17 c128_i32_18
  let c1_i32_19 : BitVec 32 := 1#32
  ⟨c0_i32_17, v12, c1_i32_19⟩
def k1_off133 (k1_t5 : Fin k1_t5_loop.trips) : Fin 2 → Nat :=
  let c0_i32_71 : BitVec 32 := 0#32
  let v39 : Index := Scalar.indexCast c0_i32_71
  let c0_i32_17 : BitVec 32 := 0#32
  let c1_i32_19 : BitVec 32 := 1#32
  let arg14 : BitVec 32 := Scf.iv c0_i32_17 c1_i32_19 k1_t5
  let c16_i32_70 : BitVec 32 := 16#32
  let v38 : BitVec 32 := Scalar.muli arg14 c16_i32_70
  let v40 : Index := Scalar.indexCast v38
  ![0, v40.toNat]
def k1_off134 (k1_t5 : Fin k1_t5_loop.trips) : Fin 2 → Nat :=
  let c1_i32_74 : BitVec 32 := 1#32
  let v49 : Index := Scalar.indexCast c1_i32_74
  let c0_i32_17 : BitVec 32 := 0#32
  let c1_i32_19 : BitVec 32 := 1#32
  let arg14 : BitVec 32 := Scf.iv c0_i32_17 c1_i32_19 k1_t5
  let c16_i32_73 : BitVec 32 := 16#32
  let v48 : BitVec 32 := Scalar.muli arg14 c16_i32_73
  let v50 : Index := Scalar.indexCast v48
  ![1, v50.toNat]
def k1_off135 (k1_t5 : Fin k1_t5_loop.trips) : Fin 2 → Nat :=
  let c2_i32_77 : BitVec 32 := 2#32
  let v59 : Index := Scalar.indexCast c2_i32_77
  let c0_i32_17 : BitVec 32 := 0#32
  let c1_i32_19 : BitVec 32 := 1#32
  let arg14 : BitVec 32 := Scf.iv c0_i32_17 c1_i32_19 k1_t5
  let c16_i32_76 : BitVec 32 := 16#32
  let v58 : BitVec 32 := Scalar.muli arg14 c16_i32_76
  let v60 : Index := Scalar.indexCast v58
  ![2, v60.toNat]
def k1_off136 (k1_t5 : Fin k1_t5_loop.trips) : Fin 2 → Nat :=
  let c3_i32_80 : BitVec 32 := 3#32
  let v69 : Index := Scalar.indexCast c3_i32_80
  let c0_i32_17 : BitVec 32 := 0#32
  let c1_i32_19 : BitVec 32 := 1#32
  let arg14 : BitVec 32 := Scf.iv c0_i32_17 c1_i32_19 k1_t5
  let c16_i32_79 : BitVec 32 := 16#32
  let v68 : BitVec 32 := Scalar.muli arg14 c16_i32_79
  let v70 : Index := Scalar.indexCast v68
  ![3, v70.toNat]
def k1_off137 (k1_t5 : Fin k1_t5_loop.trips) : Fin 2 → Nat :=
  let c4_i32_83 : BitVec 32 := 4#32
  let v79 : Index := Scalar.indexCast c4_i32_83
  let c0_i32_17 : BitVec 32 := 0#32
  let c1_i32_19 : BitVec 32 := 1#32
  let arg14 : BitVec 32 := Scf.iv c0_i32_17 c1_i32_19 k1_t5
  let c16_i32_82 : BitVec 32 := 16#32
  let v78 : BitVec 32 := Scalar.muli arg14 c16_i32_82
  let v80 : Index := Scalar.indexCast v78
  ![4, v80.toNat]
def k1_off138 (k1_t5 : Fin k1_t5_loop.trips) : Fin 2 → Nat :=
  let c5_i32_86 : BitVec 32 := 5#32
  let v89 : Index := Scalar.indexCast c5_i32_86
  let c0_i32_17 : BitVec 32 := 0#32
  let c1_i32_19 : BitVec 32 := 1#32
  let arg14 : BitVec 32 := Scf.iv c0_i32_17 c1_i32_19 k1_t5
  let c16_i32_85 : BitVec 32 := 16#32
  let v88 : BitVec 32 := Scalar.muli arg14 c16_i32_85
  let v90 : Index := Scalar.indexCast v88
  ![5, v90.toNat]
def k1_off139 (k1_t5 : Fin k1_t5_loop.trips) : Fin 2 → Nat :=
  let c6_i32_89 : BitVec 32 := 6#32
  let v99 : Index := Scalar.indexCast c6_i32_89
  let c0_i32_17 : BitVec 32 := 0#32
  let c1_i32_19 : BitVec 32 := 1#32
  let arg14 : BitVec 32 := Scf.iv c0_i32_17 c1_i32_19 k1_t5
  let c16_i32_88 : BitVec 32 := 16#32
  let v98 : BitVec 32 := Scalar.muli arg14 c16_i32_88
  let v100 : Index := Scalar.indexCast v98
  ![6, v100.toNat]
def k1_off140 (k1_t5 : Fin k1_t5_loop.trips) : Fin 2 → Nat :=
  let c7_i32_92 : BitVec 32 := 7#32
  let v109 : Index := Scalar.indexCast c7_i32_92
  let c0_i32_17 : BitVec 32 := 0#32
  let c1_i32_19 : BitVec 32 := 1#32
  let arg14 : BitVec 32 := Scf.iv c0_i32_17 c1_i32_19 k1_t5
  let c16_i32_91 : BitVec 32 := 16#32
  let v108 : BitVec 32 := Scalar.muli arg14 c16_i32_91
  let v110 : Index := Scalar.indexCast v108
  ![7, v110.toNat]
def k1_off141 (k1_t5 : Fin k1_t5_loop.trips) : Fin 2 → Nat :=
  let c8_i32_95 : BitVec 32 := 8#32
  let v119 : Index := Scalar.indexCast c8_i32_95
  let c0_i32_17 : BitVec 32 := 0#32
  let c1_i32_19 : BitVec 32 := 1#32
  let arg14 : BitVec 32 := Scf.iv c0_i32_17 c1_i32_19 k1_t5
  let c16_i32_94 : BitVec 32 := 16#32
  let v118 : BitVec 32 := Scalar.muli arg14 c16_i32_94
  let v120 : Index := Scalar.indexCast v118
  ![8, v120.toNat]
def k1_off142 (k1_t5 : Fin k1_t5_loop.trips) : Fin 2 → Nat :=
  let c9_i32_98 : BitVec 32 := 9#32
  let v129 : Index := Scalar.indexCast c9_i32_98
  let c0_i32_17 : BitVec 32 := 0#32
  let c1_i32_19 : BitVec 32 := 1#32
  let arg14 : BitVec 32 := Scf.iv c0_i32_17 c1_i32_19 k1_t5
  let c16_i32_97 : BitVec 32 := 16#32
  let v128 : BitVec 32 := Scalar.muli arg14 c16_i32_97
  let v130 : Index := Scalar.indexCast v128
  ![9, v130.toNat]
def k1_off143 (k1_t5 : Fin k1_t5_loop.trips) : Fin 2 → Nat :=
  let c10_i32_101 : BitVec 32 := 10#32
  let v139 : Index := Scalar.indexCast c10_i32_101
  let c0_i32_17 : BitVec 32 := 0#32
  let c1_i32_19 : BitVec 32 := 1#32
  let arg14 : BitVec 32 := Scf.iv c0_i32_17 c1_i32_19 k1_t5
  let c16_i32_100 : BitVec 32 := 16#32
  let v138 : BitVec 32 := Scalar.muli arg14 c16_i32_100
  let v140 : Index := Scalar.indexCast v138
  ![10, v140.toNat]
def k1_off144 (k1_t5 : Fin k1_t5_loop.trips) : Fin 2 → Nat :=
  let c11_i32_104 : BitVec 32 := 11#32
  let v149 : Index := Scalar.indexCast c11_i32_104
  let c0_i32_17 : BitVec 32 := 0#32
  let c1_i32_19 : BitVec 32 := 1#32
  let arg14 : BitVec 32 := Scf.iv c0_i32_17 c1_i32_19 k1_t5
  let c16_i32_103 : BitVec 32 := 16#32
  let v148 : BitVec 32 := Scalar.muli arg14 c16_i32_103
  let v150 : Index := Scalar.indexCast v148
  ![11, v150.toNat]
def k1_off145 (k1_t5 : Fin k1_t5_loop.trips) : Fin 2 → Nat :=
  let c12_i32_107 : BitVec 32 := 12#32
  let v159 : Index := Scalar.indexCast c12_i32_107
  let c0_i32_17 : BitVec 32 := 0#32
  let c1_i32_19 : BitVec 32 := 1#32
  let arg14 : BitVec 32 := Scf.iv c0_i32_17 c1_i32_19 k1_t5
  let c16_i32_106 : BitVec 32 := 16#32
  let v158 : BitVec 32 := Scalar.muli arg14 c16_i32_106
  let v160 : Index := Scalar.indexCast v158
  ![12, v160.toNat]
def k1_off146 (k1_t5 : Fin k1_t5_loop.trips) : Fin 2 → Nat :=
  let c13_i32_110 : BitVec 32 := 13#32
  let v169 : Index := Scalar.indexCast c13_i32_110
  let c0_i32_17 : BitVec 32 := 0#32
  let c1_i32_19 : BitVec 32 := 1#32
  let arg14 : BitVec 32 := Scf.iv c0_i32_17 c1_i32_19 k1_t5
  let c16_i32_109 : BitVec 32 := 16#32
  let v168 : BitVec 32 := Scalar.muli arg14 c16_i32_109
  let v170 : Index := Scalar.indexCast v168
  ![13, v170.toNat]
def k1_off147 (k1_t5 : Fin k1_t5_loop.trips) : Fin 2 → Nat :=
  let c14_i32_113 : BitVec 32 := 14#32
  let v179 : Index := Scalar.indexCast c14_i32_113
  let c0_i32_17 : BitVec 32 := 0#32
  let c1_i32_19 : BitVec 32 := 1#32
  let arg14 : BitVec 32 := Scf.iv c0_i32_17 c1_i32_19 k1_t5
  let c16_i32_112 : BitVec 32 := 16#32
  let v178 : BitVec 32 := Scalar.muli arg14 c16_i32_112
  let v180 : Index := Scalar.indexCast v178
  ![14, v180.toNat]
def k1_off148 (k1_t5 : Fin k1_t5_loop.trips) : Fin 2 → Nat :=
  let c15_i32_116 : BitVec 32 := 15#32
  let v189 : Index := Scalar.indexCast c15_i32_116
  let c0_i32_17 : BitVec 32 := 0#32
  let c1_i32_19 : BitVec 32 := 1#32
  let arg14 : BitVec 32 := Scf.iv c0_i32_17 c1_i32_19 k1_t5
  let c16_i32_115 : BitVec 32 := 16#32
  let v188 : BitVec 32 := Scalar.muli arg14 c16_i32_115
  let v190 : Index := Scalar.indexCast v188
  ![15, v190.toNat]
def k1_off149 (k1_t5 : Fin k1_t5_loop.trips) : Fin 2 → Nat :=
  let c16_i32_119 : BitVec 32 := 16#32
  let v199 : Index := Scalar.indexCast c16_i32_119
  let c0_i32_17 : BitVec 32 := 0#32
  let c1_i32_19 : BitVec 32 := 1#32
  let arg14 : BitVec 32 := Scf.iv c0_i32_17 c1_i32_19 k1_t5
  let c16_i32_118 : BitVec 32 := 16#32
  let v198 : BitVec 32 := Scalar.muli arg14 c16_i32_118
  let v200 : Index := Scalar.indexCast v198
  ![16, v200.toNat]
def k1_off150 (k1_t5 : Fin k1_t5_loop.trips) : Fin 2 → Nat :=
  let c17_i32 : BitVec 32 := 17#32
  let v209 : Index := Scalar.indexCast c17_i32
  let c0_i32_17 : BitVec 32 := 0#32
  let c1_i32_19 : BitVec 32 := 1#32
  let arg14 : BitVec 32 := Scf.iv c0_i32_17 c1_i32_19 k1_t5
  let c16_i32_121 : BitVec 32 := 16#32
  let v208 : BitVec 32 := Scalar.muli arg14 c16_i32_121
  let v210 : Index := Scalar.indexCast v208
  ![17, v210.toNat]
def k1_off151 (k1_t5 : Fin k1_t5_loop.trips) : Fin 2 → Nat :=
  let c18_i32 : BitVec 32 := 18#32
  let v219 : Index := Scalar.indexCast c18_i32
  let c0_i32_17 : BitVec 32 := 0#32
  let c1_i32_19 : BitVec 32 := 1#32
  let arg14 : BitVec 32 := Scf.iv c0_i32_17 c1_i32_19 k1_t5
  let c16_i32_123 : BitVec 32 := 16#32
  let v218 : BitVec 32 := Scalar.muli arg14 c16_i32_123
  let v220 : Index := Scalar.indexCast v218
  ![18, v220.toNat]
def k1_off152 (k1_t5 : Fin k1_t5_loop.trips) : Fin 2 → Nat :=
  let c19_i32 : BitVec 32 := 19#32
  let v229 : Index := Scalar.indexCast c19_i32
  let c0_i32_17 : BitVec 32 := 0#32
  let c1_i32_19 : BitVec 32 := 1#32
  let arg14 : BitVec 32 := Scf.iv c0_i32_17 c1_i32_19 k1_t5
  let c16_i32_125 : BitVec 32 := 16#32
  let v228 : BitVec 32 := Scalar.muli arg14 c16_i32_125
  let v230 : Index := Scalar.indexCast v228
  ![19, v230.toNat]
def k1_off153 (k1_t5 : Fin k1_t5_loop.trips) : Fin 2 → Nat :=
  let c20_i32 : BitVec 32 := 20#32
  let v239 : Index := Scalar.indexCast c20_i32
  let c0_i32_17 : BitVec 32 := 0#32
  let c1_i32_19 : BitVec 32 := 1#32
  let arg14 : BitVec 32 := Scf.iv c0_i32_17 c1_i32_19 k1_t5
  let c16_i32_127 : BitVec 32 := 16#32
  let v238 : BitVec 32 := Scalar.muli arg14 c16_i32_127
  let v240 : Index := Scalar.indexCast v238
  ![20, v240.toNat]
def k1_off154 (k1_t5 : Fin k1_t5_loop.trips) : Fin 2 → Nat :=
  let c21_i32 : BitVec 32 := 21#32
  let v249 : Index := Scalar.indexCast c21_i32
  let c0_i32_17 : BitVec 32 := 0#32
  let c1_i32_19 : BitVec 32 := 1#32
  let arg14 : BitVec 32 := Scf.iv c0_i32_17 c1_i32_19 k1_t5
  let c16_i32_129 : BitVec 32 := 16#32
  let v248 : BitVec 32 := Scalar.muli arg14 c16_i32_129
  let v250 : Index := Scalar.indexCast v248
  ![21, v250.toNat]
def k1_off155 (k1_t5 : Fin k1_t5_loop.trips) : Fin 2 → Nat :=
  let c22_i32 : BitVec 32 := 22#32
  let v259 : Index := Scalar.indexCast c22_i32
  let c0_i32_17 : BitVec 32 := 0#32
  let c1_i32_19 : BitVec 32 := 1#32
  let arg14 : BitVec 32 := Scf.iv c0_i32_17 c1_i32_19 k1_t5
  let c16_i32_131 : BitVec 32 := 16#32
  let v258 : BitVec 32 := Scalar.muli arg14 c16_i32_131
  let v260 : Index := Scalar.indexCast v258
  ![22, v260.toNat]
def k1_off156 (k1_t5 : Fin k1_t5_loop.trips) : Fin 2 → Nat :=
  let c23_i32 : BitVec 32 := 23#32
  let v269 : Index := Scalar.indexCast c23_i32
  let c0_i32_17 : BitVec 32 := 0#32
  let c1_i32_19 : BitVec 32 := 1#32
  let arg14 : BitVec 32 := Scf.iv c0_i32_17 c1_i32_19 k1_t5
  let c16_i32_133 : BitVec 32 := 16#32
  let v268 : BitVec 32 := Scalar.muli arg14 c16_i32_133
  let v270 : Index := Scalar.indexCast v268
  ![23, v270.toNat]
def k1_off157 (k1_t5 : Fin k1_t5_loop.trips) : Fin 2 → Nat :=
  let c24_i32 : BitVec 32 := 24#32
  let v279 : Index := Scalar.indexCast c24_i32
  let c0_i32_17 : BitVec 32 := 0#32
  let c1_i32_19 : BitVec 32 := 1#32
  let arg14 : BitVec 32 := Scf.iv c0_i32_17 c1_i32_19 k1_t5
  let c16_i32_135 : BitVec 32 := 16#32
  let v278 : BitVec 32 := Scalar.muli arg14 c16_i32_135
  let v280 : Index := Scalar.indexCast v278
  ![24, v280.toNat]
def k1_off158 (k1_t5 : Fin k1_t5_loop.trips) : Fin 2 → Nat :=
  let c25_i32 : BitVec 32 := 25#32
  let v289 : Index := Scalar.indexCast c25_i32
  let c0_i32_17 : BitVec 32 := 0#32
  let c1_i32_19 : BitVec 32 := 1#32
  let arg14 : BitVec 32 := Scf.iv c0_i32_17 c1_i32_19 k1_t5
  let c16_i32_137 : BitVec 32 := 16#32
  let v288 : BitVec 32 := Scalar.muli arg14 c16_i32_137
  let v290 : Index := Scalar.indexCast v288
  ![25, v290.toNat]
def k1_off159 (k1_t5 : Fin k1_t5_loop.trips) : Fin 2 → Nat :=
  let c26_i32 : BitVec 32 := 26#32
  let v299 : Index := Scalar.indexCast c26_i32
  let c0_i32_17 : BitVec 32 := 0#32
  let c1_i32_19 : BitVec 32 := 1#32
  let arg14 : BitVec 32 := Scf.iv c0_i32_17 c1_i32_19 k1_t5
  let c16_i32_139 : BitVec 32 := 16#32
  let v298 : BitVec 32 := Scalar.muli arg14 c16_i32_139
  let v300 : Index := Scalar.indexCast v298
  ![26, v300.toNat]
def k1_off160 (k1_t5 : Fin k1_t5_loop.trips) : Fin 2 → Nat :=
  let c27_i32 : BitVec 32 := 27#32
  let v309 : Index := Scalar.indexCast c27_i32
  let c0_i32_17 : BitVec 32 := 0#32
  let c1_i32_19 : BitVec 32 := 1#32
  let arg14 : BitVec 32 := Scf.iv c0_i32_17 c1_i32_19 k1_t5
  let c16_i32_141 : BitVec 32 := 16#32
  let v308 : BitVec 32 := Scalar.muli arg14 c16_i32_141
  let v310 : Index := Scalar.indexCast v308
  ![27, v310.toNat]
def k1_off161 (k1_t5 : Fin k1_t5_loop.trips) : Fin 2 → Nat :=
  let c28_i32 : BitVec 32 := 28#32
  let v319 : Index := Scalar.indexCast c28_i32
  let c0_i32_17 : BitVec 32 := 0#32
  let c1_i32_19 : BitVec 32 := 1#32
  let arg14 : BitVec 32 := Scf.iv c0_i32_17 c1_i32_19 k1_t5
  let c16_i32_143 : BitVec 32 := 16#32
  let v318 : BitVec 32 := Scalar.muli arg14 c16_i32_143
  let v320 : Index := Scalar.indexCast v318
  ![28, v320.toNat]
def k1_off162 (k1_t5 : Fin k1_t5_loop.trips) : Fin 2 → Nat :=
  let c29_i32 : BitVec 32 := 29#32
  let v329 : Index := Scalar.indexCast c29_i32
  let c0_i32_17 : BitVec 32 := 0#32
  let c1_i32_19 : BitVec 32 := 1#32
  let arg14 : BitVec 32 := Scf.iv c0_i32_17 c1_i32_19 k1_t5
  let c16_i32_145 : BitVec 32 := 16#32
  let v328 : BitVec 32 := Scalar.muli arg14 c16_i32_145
  let v330 : Index := Scalar.indexCast v328
  ![29, v330.toNat]
def k1_off163 (k1_t5 : Fin k1_t5_loop.trips) : Fin 2 → Nat :=
  let c30_i32 : BitVec 32 := 30#32
  let v339 : Index := Scalar.indexCast c30_i32
  let c0_i32_17 : BitVec 32 := 0#32
  let c1_i32_19 : BitVec 32 := 1#32
  let arg14 : BitVec 32 := Scf.iv c0_i32_17 c1_i32_19 k1_t5
  let c16_i32_147 : BitVec 32 := 16#32
  let v338 : BitVec 32 := Scalar.muli arg14 c16_i32_147
  let v340 : Index := Scalar.indexCast v338
  ![30, v340.toNat]
def k1_off164 (k1_t5 : Fin k1_t5_loop.trips) : Fin 2 → Nat :=
  let c31_i32 : BitVec 32 := 31#32
  let v349 : Index := Scalar.indexCast c31_i32
  let c0_i32_17 : BitVec 32 := 0#32
  let c1_i32_19 : BitVec 32 := 1#32
  let arg14 : BitVec 32 := Scf.iv c0_i32_17 c1_i32_19 k1_t5
  let c16_i32_149 : BitVec 32 := 16#32
  let v348 : BitVec 32 := Scalar.muli arg14 c16_i32_149
  let v350 : Index := Scalar.indexCast v348
  ![31, v350.toNat]
def k1_off165 (k1_t5 : Fin k1_t5_loop.trips) : Fin 1 → Nat :=
  let c8192_i32 : BitVec 32 := 8192#32
  let c0_i32_17 : BitVec 32 := 0#32
  let c1_i32_19 : BitVec 32 := 1#32
  let arg14 : BitVec 32 := Scf.iv c0_i32_17 c1_i32_19 k1_t5
  let c16_i32_151 : BitVec 32 := 16#32
  let v364 : BitVec 32 := Scalar.muli arg14 c16_i32_151
  let v365 : BitVec 32 := Scalar.addi c8192_i32 v364
  let v366 : Index := Scalar.indexCast v365
  ![v366.toNat]
@[reducible] def k1_t6_loop : Scf.Loop 32 :=
  let c0_i32_21 : BitVec 32 := 0#32
  let c128_i32_22 : BitVec 32 := 128#32
  let v14 : BitVec 32 := Scalar.addi c0_i32_21 c128_i32_22
  let c1_i32_23 : BitVec 32 := 1#32
  ⟨c0_i32_21, v14, c1_i32_23⟩
def k1_off166 (k1_t6 : Fin k1_t6_loop.trips) : Fin 2 → Nat :=
  let c0_i32_71 : BitVec 32 := 0#32
  let v39 : Index := Scalar.indexCast c0_i32_71
  let c0_i32_21 : BitVec 32 := 0#32
  let c1_i32_23 : BitVec 32 := 1#32
  let arg14 : BitVec 32 := Scf.iv c0_i32_21 c1_i32_23 k1_t6
  let c16_i32_70 : BitVec 32 := 16#32
  let v38 : BitVec 32 := Scalar.muli arg14 c16_i32_70
  let v40 : Index := Scalar.indexCast v38
  ![0, v40.toNat]
def k1_off167 (k1_t6 : Fin k1_t6_loop.trips) : Fin 2 → Nat :=
  let c1_i32_74 : BitVec 32 := 1#32
  let v49 : Index := Scalar.indexCast c1_i32_74
  let c0_i32_21 : BitVec 32 := 0#32
  let c1_i32_23 : BitVec 32 := 1#32
  let arg14 : BitVec 32 := Scf.iv c0_i32_21 c1_i32_23 k1_t6
  let c16_i32_73 : BitVec 32 := 16#32
  let v48 : BitVec 32 := Scalar.muli arg14 c16_i32_73
  let v50 : Index := Scalar.indexCast v48
  ![1, v50.toNat]
def k1_off168 (k1_t6 : Fin k1_t6_loop.trips) : Fin 2 → Nat :=
  let c2_i32_77 : BitVec 32 := 2#32
  let v59 : Index := Scalar.indexCast c2_i32_77
  let c0_i32_21 : BitVec 32 := 0#32
  let c1_i32_23 : BitVec 32 := 1#32
  let arg14 : BitVec 32 := Scf.iv c0_i32_21 c1_i32_23 k1_t6
  let c16_i32_76 : BitVec 32 := 16#32
  let v58 : BitVec 32 := Scalar.muli arg14 c16_i32_76
  let v60 : Index := Scalar.indexCast v58
  ![2, v60.toNat]
def k1_off169 (k1_t6 : Fin k1_t6_loop.trips) : Fin 2 → Nat :=
  let c3_i32_80 : BitVec 32 := 3#32
  let v69 : Index := Scalar.indexCast c3_i32_80
  let c0_i32_21 : BitVec 32 := 0#32
  let c1_i32_23 : BitVec 32 := 1#32
  let arg14 : BitVec 32 := Scf.iv c0_i32_21 c1_i32_23 k1_t6
  let c16_i32_79 : BitVec 32 := 16#32
  let v68 : BitVec 32 := Scalar.muli arg14 c16_i32_79
  let v70 : Index := Scalar.indexCast v68
  ![3, v70.toNat]
def k1_off170 (k1_t6 : Fin k1_t6_loop.trips) : Fin 2 → Nat :=
  let c4_i32_83 : BitVec 32 := 4#32
  let v79 : Index := Scalar.indexCast c4_i32_83
  let c0_i32_21 : BitVec 32 := 0#32
  let c1_i32_23 : BitVec 32 := 1#32
  let arg14 : BitVec 32 := Scf.iv c0_i32_21 c1_i32_23 k1_t6
  let c16_i32_82 : BitVec 32 := 16#32
  let v78 : BitVec 32 := Scalar.muli arg14 c16_i32_82
  let v80 : Index := Scalar.indexCast v78
  ![4, v80.toNat]
def k1_off171 (k1_t6 : Fin k1_t6_loop.trips) : Fin 2 → Nat :=
  let c5_i32_86 : BitVec 32 := 5#32
  let v89 : Index := Scalar.indexCast c5_i32_86
  let c0_i32_21 : BitVec 32 := 0#32
  let c1_i32_23 : BitVec 32 := 1#32
  let arg14 : BitVec 32 := Scf.iv c0_i32_21 c1_i32_23 k1_t6
  let c16_i32_85 : BitVec 32 := 16#32
  let v88 : BitVec 32 := Scalar.muli arg14 c16_i32_85
  let v90 : Index := Scalar.indexCast v88
  ![5, v90.toNat]
def k1_off172 (k1_t6 : Fin k1_t6_loop.trips) : Fin 2 → Nat :=
  let c6_i32_89 : BitVec 32 := 6#32
  let v99 : Index := Scalar.indexCast c6_i32_89
  let c0_i32_21 : BitVec 32 := 0#32
  let c1_i32_23 : BitVec 32 := 1#32
  let arg14 : BitVec 32 := Scf.iv c0_i32_21 c1_i32_23 k1_t6
  let c16_i32_88 : BitVec 32 := 16#32
  let v98 : BitVec 32 := Scalar.muli arg14 c16_i32_88
  let v100 : Index := Scalar.indexCast v98
  ![6, v100.toNat]
def k1_off173 (k1_t6 : Fin k1_t6_loop.trips) : Fin 2 → Nat :=
  let c7_i32_92 : BitVec 32 := 7#32
  let v109 : Index := Scalar.indexCast c7_i32_92
  let c0_i32_21 : BitVec 32 := 0#32
  let c1_i32_23 : BitVec 32 := 1#32
  let arg14 : BitVec 32 := Scf.iv c0_i32_21 c1_i32_23 k1_t6
  let c16_i32_91 : BitVec 32 := 16#32
  let v108 : BitVec 32 := Scalar.muli arg14 c16_i32_91
  let v110 : Index := Scalar.indexCast v108
  ![7, v110.toNat]
def k1_off174 (k1_t6 : Fin k1_t6_loop.trips) : Fin 2 → Nat :=
  let c8_i32_95 : BitVec 32 := 8#32
  let v119 : Index := Scalar.indexCast c8_i32_95
  let c0_i32_21 : BitVec 32 := 0#32
  let c1_i32_23 : BitVec 32 := 1#32
  let arg14 : BitVec 32 := Scf.iv c0_i32_21 c1_i32_23 k1_t6
  let c16_i32_94 : BitVec 32 := 16#32
  let v118 : BitVec 32 := Scalar.muli arg14 c16_i32_94
  let v120 : Index := Scalar.indexCast v118
  ![8, v120.toNat]
def k1_off175 (k1_t6 : Fin k1_t6_loop.trips) : Fin 2 → Nat :=
  let c9_i32_98 : BitVec 32 := 9#32
  let v129 : Index := Scalar.indexCast c9_i32_98
  let c0_i32_21 : BitVec 32 := 0#32
  let c1_i32_23 : BitVec 32 := 1#32
  let arg14 : BitVec 32 := Scf.iv c0_i32_21 c1_i32_23 k1_t6
  let c16_i32_97 : BitVec 32 := 16#32
  let v128 : BitVec 32 := Scalar.muli arg14 c16_i32_97
  let v130 : Index := Scalar.indexCast v128
  ![9, v130.toNat]
def k1_off176 (k1_t6 : Fin k1_t6_loop.trips) : Fin 2 → Nat :=
  let c10_i32_101 : BitVec 32 := 10#32
  let v139 : Index := Scalar.indexCast c10_i32_101
  let c0_i32_21 : BitVec 32 := 0#32
  let c1_i32_23 : BitVec 32 := 1#32
  let arg14 : BitVec 32 := Scf.iv c0_i32_21 c1_i32_23 k1_t6
  let c16_i32_100 : BitVec 32 := 16#32
  let v138 : BitVec 32 := Scalar.muli arg14 c16_i32_100
  let v140 : Index := Scalar.indexCast v138
  ![10, v140.toNat]
def k1_off177 (k1_t6 : Fin k1_t6_loop.trips) : Fin 2 → Nat :=
  let c11_i32_104 : BitVec 32 := 11#32
  let v149 : Index := Scalar.indexCast c11_i32_104
  let c0_i32_21 : BitVec 32 := 0#32
  let c1_i32_23 : BitVec 32 := 1#32
  let arg14 : BitVec 32 := Scf.iv c0_i32_21 c1_i32_23 k1_t6
  let c16_i32_103 : BitVec 32 := 16#32
  let v148 : BitVec 32 := Scalar.muli arg14 c16_i32_103
  let v150 : Index := Scalar.indexCast v148
  ![11, v150.toNat]
def k1_off178 (k1_t6 : Fin k1_t6_loop.trips) : Fin 2 → Nat :=
  let c12_i32_107 : BitVec 32 := 12#32
  let v159 : Index := Scalar.indexCast c12_i32_107
  let c0_i32_21 : BitVec 32 := 0#32
  let c1_i32_23 : BitVec 32 := 1#32
  let arg14 : BitVec 32 := Scf.iv c0_i32_21 c1_i32_23 k1_t6
  let c16_i32_106 : BitVec 32 := 16#32
  let v158 : BitVec 32 := Scalar.muli arg14 c16_i32_106
  let v160 : Index := Scalar.indexCast v158
  ![12, v160.toNat]
def k1_off179 (k1_t6 : Fin k1_t6_loop.trips) : Fin 2 → Nat :=
  let c13_i32_110 : BitVec 32 := 13#32
  let v169 : Index := Scalar.indexCast c13_i32_110
  let c0_i32_21 : BitVec 32 := 0#32
  let c1_i32_23 : BitVec 32 := 1#32
  let arg14 : BitVec 32 := Scf.iv c0_i32_21 c1_i32_23 k1_t6
  let c16_i32_109 : BitVec 32 := 16#32
  let v168 : BitVec 32 := Scalar.muli arg14 c16_i32_109
  let v170 : Index := Scalar.indexCast v168
  ![13, v170.toNat]
def k1_off180 (k1_t6 : Fin k1_t6_loop.trips) : Fin 2 → Nat :=
  let c14_i32_113 : BitVec 32 := 14#32
  let v179 : Index := Scalar.indexCast c14_i32_113
  let c0_i32_21 : BitVec 32 := 0#32
  let c1_i32_23 : BitVec 32 := 1#32
  let arg14 : BitVec 32 := Scf.iv c0_i32_21 c1_i32_23 k1_t6
  let c16_i32_112 : BitVec 32 := 16#32
  let v178 : BitVec 32 := Scalar.muli arg14 c16_i32_112
  let v180 : Index := Scalar.indexCast v178
  ![14, v180.toNat]
def k1_off181 (k1_t6 : Fin k1_t6_loop.trips) : Fin 2 → Nat :=
  let c15_i32_116 : BitVec 32 := 15#32
  let v189 : Index := Scalar.indexCast c15_i32_116
  let c0_i32_21 : BitVec 32 := 0#32
  let c1_i32_23 : BitVec 32 := 1#32
  let arg14 : BitVec 32 := Scf.iv c0_i32_21 c1_i32_23 k1_t6
  let c16_i32_115 : BitVec 32 := 16#32
  let v188 : BitVec 32 := Scalar.muli arg14 c16_i32_115
  let v190 : Index := Scalar.indexCast v188
  ![15, v190.toNat]
def k1_off182 (k1_t6 : Fin k1_t6_loop.trips) : Fin 2 → Nat :=
  let c16_i32_119 : BitVec 32 := 16#32
  let v199 : Index := Scalar.indexCast c16_i32_119
  let c0_i32_21 : BitVec 32 := 0#32
  let c1_i32_23 : BitVec 32 := 1#32
  let arg14 : BitVec 32 := Scf.iv c0_i32_21 c1_i32_23 k1_t6
  let c16_i32_118 : BitVec 32 := 16#32
  let v198 : BitVec 32 := Scalar.muli arg14 c16_i32_118
  let v200 : Index := Scalar.indexCast v198
  ![16, v200.toNat]
def k1_off183 (k1_t6 : Fin k1_t6_loop.trips) : Fin 2 → Nat :=
  let c17_i32 : BitVec 32 := 17#32
  let v209 : Index := Scalar.indexCast c17_i32
  let c0_i32_21 : BitVec 32 := 0#32
  let c1_i32_23 : BitVec 32 := 1#32
  let arg14 : BitVec 32 := Scf.iv c0_i32_21 c1_i32_23 k1_t6
  let c16_i32_121 : BitVec 32 := 16#32
  let v208 : BitVec 32 := Scalar.muli arg14 c16_i32_121
  let v210 : Index := Scalar.indexCast v208
  ![17, v210.toNat]
def k1_off184 (k1_t6 : Fin k1_t6_loop.trips) : Fin 2 → Nat :=
  let c18_i32 : BitVec 32 := 18#32
  let v219 : Index := Scalar.indexCast c18_i32
  let c0_i32_21 : BitVec 32 := 0#32
  let c1_i32_23 : BitVec 32 := 1#32
  let arg14 : BitVec 32 := Scf.iv c0_i32_21 c1_i32_23 k1_t6
  let c16_i32_123 : BitVec 32 := 16#32
  let v218 : BitVec 32 := Scalar.muli arg14 c16_i32_123
  let v220 : Index := Scalar.indexCast v218
  ![18, v220.toNat]
def k1_off185 (k1_t6 : Fin k1_t6_loop.trips) : Fin 2 → Nat :=
  let c19_i32 : BitVec 32 := 19#32
  let v229 : Index := Scalar.indexCast c19_i32
  let c0_i32_21 : BitVec 32 := 0#32
  let c1_i32_23 : BitVec 32 := 1#32
  let arg14 : BitVec 32 := Scf.iv c0_i32_21 c1_i32_23 k1_t6
  let c16_i32_125 : BitVec 32 := 16#32
  let v228 : BitVec 32 := Scalar.muli arg14 c16_i32_125
  let v230 : Index := Scalar.indexCast v228
  ![19, v230.toNat]
def k1_off186 (k1_t6 : Fin k1_t6_loop.trips) : Fin 2 → Nat :=
  let c20_i32 : BitVec 32 := 20#32
  let v239 : Index := Scalar.indexCast c20_i32
  let c0_i32_21 : BitVec 32 := 0#32
  let c1_i32_23 : BitVec 32 := 1#32
  let arg14 : BitVec 32 := Scf.iv c0_i32_21 c1_i32_23 k1_t6
  let c16_i32_127 : BitVec 32 := 16#32
  let v238 : BitVec 32 := Scalar.muli arg14 c16_i32_127
  let v240 : Index := Scalar.indexCast v238
  ![20, v240.toNat]
def k1_off187 (k1_t6 : Fin k1_t6_loop.trips) : Fin 2 → Nat :=
  let c21_i32 : BitVec 32 := 21#32
  let v249 : Index := Scalar.indexCast c21_i32
  let c0_i32_21 : BitVec 32 := 0#32
  let c1_i32_23 : BitVec 32 := 1#32
  let arg14 : BitVec 32 := Scf.iv c0_i32_21 c1_i32_23 k1_t6
  let c16_i32_129 : BitVec 32 := 16#32
  let v248 : BitVec 32 := Scalar.muli arg14 c16_i32_129
  let v250 : Index := Scalar.indexCast v248
  ![21, v250.toNat]
def k1_off188 (k1_t6 : Fin k1_t6_loop.trips) : Fin 2 → Nat :=
  let c22_i32 : BitVec 32 := 22#32
  let v259 : Index := Scalar.indexCast c22_i32
  let c0_i32_21 : BitVec 32 := 0#32
  let c1_i32_23 : BitVec 32 := 1#32
  let arg14 : BitVec 32 := Scf.iv c0_i32_21 c1_i32_23 k1_t6
  let c16_i32_131 : BitVec 32 := 16#32
  let v258 : BitVec 32 := Scalar.muli arg14 c16_i32_131
  let v260 : Index := Scalar.indexCast v258
  ![22, v260.toNat]
def k1_off189 (k1_t6 : Fin k1_t6_loop.trips) : Fin 2 → Nat :=
  let c23_i32 : BitVec 32 := 23#32
  let v269 : Index := Scalar.indexCast c23_i32
  let c0_i32_21 : BitVec 32 := 0#32
  let c1_i32_23 : BitVec 32 := 1#32
  let arg14 : BitVec 32 := Scf.iv c0_i32_21 c1_i32_23 k1_t6
  let c16_i32_133 : BitVec 32 := 16#32
  let v268 : BitVec 32 := Scalar.muli arg14 c16_i32_133
  let v270 : Index := Scalar.indexCast v268
  ![23, v270.toNat]
def k1_off190 (k1_t6 : Fin k1_t6_loop.trips) : Fin 2 → Nat :=
  let c24_i32 : BitVec 32 := 24#32
  let v279 : Index := Scalar.indexCast c24_i32
  let c0_i32_21 : BitVec 32 := 0#32
  let c1_i32_23 : BitVec 32 := 1#32
  let arg14 : BitVec 32 := Scf.iv c0_i32_21 c1_i32_23 k1_t6
  let c16_i32_135 : BitVec 32 := 16#32
  let v278 : BitVec 32 := Scalar.muli arg14 c16_i32_135
  let v280 : Index := Scalar.indexCast v278
  ![24, v280.toNat]
def k1_off191 (k1_t6 : Fin k1_t6_loop.trips) : Fin 2 → Nat :=
  let c25_i32 : BitVec 32 := 25#32
  let v289 : Index := Scalar.indexCast c25_i32
  let c0_i32_21 : BitVec 32 := 0#32
  let c1_i32_23 : BitVec 32 := 1#32
  let arg14 : BitVec 32 := Scf.iv c0_i32_21 c1_i32_23 k1_t6
  let c16_i32_137 : BitVec 32 := 16#32
  let v288 : BitVec 32 := Scalar.muli arg14 c16_i32_137
  let v290 : Index := Scalar.indexCast v288
  ![25, v290.toNat]
def k1_off192 (k1_t6 : Fin k1_t6_loop.trips) : Fin 2 → Nat :=
  let c26_i32 : BitVec 32 := 26#32
  let v299 : Index := Scalar.indexCast c26_i32
  let c0_i32_21 : BitVec 32 := 0#32
  let c1_i32_23 : BitVec 32 := 1#32
  let arg14 : BitVec 32 := Scf.iv c0_i32_21 c1_i32_23 k1_t6
  let c16_i32_139 : BitVec 32 := 16#32
  let v298 : BitVec 32 := Scalar.muli arg14 c16_i32_139
  let v300 : Index := Scalar.indexCast v298
  ![26, v300.toNat]
def k1_off193 (k1_t6 : Fin k1_t6_loop.trips) : Fin 2 → Nat :=
  let c27_i32 : BitVec 32 := 27#32
  let v309 : Index := Scalar.indexCast c27_i32
  let c0_i32_21 : BitVec 32 := 0#32
  let c1_i32_23 : BitVec 32 := 1#32
  let arg14 : BitVec 32 := Scf.iv c0_i32_21 c1_i32_23 k1_t6
  let c16_i32_141 : BitVec 32 := 16#32
  let v308 : BitVec 32 := Scalar.muli arg14 c16_i32_141
  let v310 : Index := Scalar.indexCast v308
  ![27, v310.toNat]
def k1_off194 (k1_t6 : Fin k1_t6_loop.trips) : Fin 2 → Nat :=
  let c28_i32 : BitVec 32 := 28#32
  let v319 : Index := Scalar.indexCast c28_i32
  let c0_i32_21 : BitVec 32 := 0#32
  let c1_i32_23 : BitVec 32 := 1#32
  let arg14 : BitVec 32 := Scf.iv c0_i32_21 c1_i32_23 k1_t6
  let c16_i32_143 : BitVec 32 := 16#32
  let v318 : BitVec 32 := Scalar.muli arg14 c16_i32_143
  let v320 : Index := Scalar.indexCast v318
  ![28, v320.toNat]
def k1_off195 (k1_t6 : Fin k1_t6_loop.trips) : Fin 2 → Nat :=
  let c29_i32 : BitVec 32 := 29#32
  let v329 : Index := Scalar.indexCast c29_i32
  let c0_i32_21 : BitVec 32 := 0#32
  let c1_i32_23 : BitVec 32 := 1#32
  let arg14 : BitVec 32 := Scf.iv c0_i32_21 c1_i32_23 k1_t6
  let c16_i32_145 : BitVec 32 := 16#32
  let v328 : BitVec 32 := Scalar.muli arg14 c16_i32_145
  let v330 : Index := Scalar.indexCast v328
  ![29, v330.toNat]
def k1_off196 (k1_t6 : Fin k1_t6_loop.trips) : Fin 2 → Nat :=
  let c30_i32 : BitVec 32 := 30#32
  let v339 : Index := Scalar.indexCast c30_i32
  let c0_i32_21 : BitVec 32 := 0#32
  let c1_i32_23 : BitVec 32 := 1#32
  let arg14 : BitVec 32 := Scf.iv c0_i32_21 c1_i32_23 k1_t6
  let c16_i32_147 : BitVec 32 := 16#32
  let v338 : BitVec 32 := Scalar.muli arg14 c16_i32_147
  let v340 : Index := Scalar.indexCast v338
  ![30, v340.toNat]
def k1_off197 (k1_t6 : Fin k1_t6_loop.trips) : Fin 2 → Nat :=
  let c31_i32 : BitVec 32 := 31#32
  let v349 : Index := Scalar.indexCast c31_i32
  let c0_i32_21 : BitVec 32 := 0#32
  let c1_i32_23 : BitVec 32 := 1#32
  let arg14 : BitVec 32 := Scf.iv c0_i32_21 c1_i32_23 k1_t6
  let c16_i32_149 : BitVec 32 := 16#32
  let v348 : BitVec 32 := Scalar.muli arg14 c16_i32_149
  let v350 : Index := Scalar.indexCast v348
  ![31, v350.toNat]
def k1_off198 (k1_t6 : Fin k1_t6_loop.trips) : Fin 1 → Nat :=
  let c10240_i32 : BitVec 32 := 10240#32
  let c0_i32_21 : BitVec 32 := 0#32
  let c1_i32_23 : BitVec 32 := 1#32
  let arg14 : BitVec 32 := Scf.iv c0_i32_21 c1_i32_23 k1_t6
  let c16_i32_151 : BitVec 32 := 16#32
  let v364 : BitVec 32 := Scalar.muli arg14 c16_i32_151
  let v365 : BitVec 32 := Scalar.addi c10240_i32 v364
  let v366 : Index := Scalar.indexCast v365
  ![v366.toNat]
@[reducible] def k1_t7_loop : Scf.Loop 32 :=
  let c0_i32_25 : BitVec 32 := 0#32
  let c128_i32_26 : BitVec 32 := 128#32
  let v16 : BitVec 32 := Scalar.addi c0_i32_25 c128_i32_26
  let c1_i32_27 : BitVec 32 := 1#32
  ⟨c0_i32_25, v16, c1_i32_27⟩
def k1_off199 (k1_t7 : Fin k1_t7_loop.trips) : Fin 2 → Nat :=
  let c0_i32_71 : BitVec 32 := 0#32
  let v39 : Index := Scalar.indexCast c0_i32_71
  let c0_i32_25 : BitVec 32 := 0#32
  let c1_i32_27 : BitVec 32 := 1#32
  let arg14 : BitVec 32 := Scf.iv c0_i32_25 c1_i32_27 k1_t7
  let c16_i32_70 : BitVec 32 := 16#32
  let v38 : BitVec 32 := Scalar.muli arg14 c16_i32_70
  let v40 : Index := Scalar.indexCast v38
  ![0, v40.toNat]
def k1_off200 (k1_t7 : Fin k1_t7_loop.trips) : Fin 2 → Nat :=
  let c1_i32_74 : BitVec 32 := 1#32
  let v49 : Index := Scalar.indexCast c1_i32_74
  let c0_i32_25 : BitVec 32 := 0#32
  let c1_i32_27 : BitVec 32 := 1#32
  let arg14 : BitVec 32 := Scf.iv c0_i32_25 c1_i32_27 k1_t7
  let c16_i32_73 : BitVec 32 := 16#32
  let v48 : BitVec 32 := Scalar.muli arg14 c16_i32_73
  let v50 : Index := Scalar.indexCast v48
  ![1, v50.toNat]
def k1_off201 (k1_t7 : Fin k1_t7_loop.trips) : Fin 2 → Nat :=
  let c2_i32_77 : BitVec 32 := 2#32
  let v59 : Index := Scalar.indexCast c2_i32_77
  let c0_i32_25 : BitVec 32 := 0#32
  let c1_i32_27 : BitVec 32 := 1#32
  let arg14 : BitVec 32 := Scf.iv c0_i32_25 c1_i32_27 k1_t7
  let c16_i32_76 : BitVec 32 := 16#32
  let v58 : BitVec 32 := Scalar.muli arg14 c16_i32_76
  let v60 : Index := Scalar.indexCast v58
  ![2, v60.toNat]
def k1_off202 (k1_t7 : Fin k1_t7_loop.trips) : Fin 2 → Nat :=
  let c3_i32_80 : BitVec 32 := 3#32
  let v69 : Index := Scalar.indexCast c3_i32_80
  let c0_i32_25 : BitVec 32 := 0#32
  let c1_i32_27 : BitVec 32 := 1#32
  let arg14 : BitVec 32 := Scf.iv c0_i32_25 c1_i32_27 k1_t7
  let c16_i32_79 : BitVec 32 := 16#32
  let v68 : BitVec 32 := Scalar.muli arg14 c16_i32_79
  let v70 : Index := Scalar.indexCast v68
  ![3, v70.toNat]
def k1_off203 (k1_t7 : Fin k1_t7_loop.trips) : Fin 2 → Nat :=
  let c4_i32_83 : BitVec 32 := 4#32
  let v79 : Index := Scalar.indexCast c4_i32_83
  let c0_i32_25 : BitVec 32 := 0#32
  let c1_i32_27 : BitVec 32 := 1#32
  let arg14 : BitVec 32 := Scf.iv c0_i32_25 c1_i32_27 k1_t7
  let c16_i32_82 : BitVec 32 := 16#32
  let v78 : BitVec 32 := Scalar.muli arg14 c16_i32_82
  let v80 : Index := Scalar.indexCast v78
  ![4, v80.toNat]
def k1_off204 (k1_t7 : Fin k1_t7_loop.trips) : Fin 2 → Nat :=
  let c5_i32_86 : BitVec 32 := 5#32
  let v89 : Index := Scalar.indexCast c5_i32_86
  let c0_i32_25 : BitVec 32 := 0#32
  let c1_i32_27 : BitVec 32 := 1#32
  let arg14 : BitVec 32 := Scf.iv c0_i32_25 c1_i32_27 k1_t7
  let c16_i32_85 : BitVec 32 := 16#32
  let v88 : BitVec 32 := Scalar.muli arg14 c16_i32_85
  let v90 : Index := Scalar.indexCast v88
  ![5, v90.toNat]
def k1_off205 (k1_t7 : Fin k1_t7_loop.trips) : Fin 2 → Nat :=
  let c6_i32_89 : BitVec 32 := 6#32
  let v99 : Index := Scalar.indexCast c6_i32_89
  let c0_i32_25 : BitVec 32 := 0#32
  let c1_i32_27 : BitVec 32 := 1#32
  let arg14 : BitVec 32 := Scf.iv c0_i32_25 c1_i32_27 k1_t7
  let c16_i32_88 : BitVec 32 := 16#32
  let v98 : BitVec 32 := Scalar.muli arg14 c16_i32_88
  let v100 : Index := Scalar.indexCast v98
  ![6, v100.toNat]
def k1_off206 (k1_t7 : Fin k1_t7_loop.trips) : Fin 2 → Nat :=
  let c7_i32_92 : BitVec 32 := 7#32
  let v109 : Index := Scalar.indexCast c7_i32_92
  let c0_i32_25 : BitVec 32 := 0#32
  let c1_i32_27 : BitVec 32 := 1#32
  let arg14 : BitVec 32 := Scf.iv c0_i32_25 c1_i32_27 k1_t7
  let c16_i32_91 : BitVec 32 := 16#32
  let v108 : BitVec 32 := Scalar.muli arg14 c16_i32_91
  let v110 : Index := Scalar.indexCast v108
  ![7, v110.toNat]
def k1_off207 (k1_t7 : Fin k1_t7_loop.trips) : Fin 2 → Nat :=
  let c8_i32_95 : BitVec 32 := 8#32
  let v119 : Index := Scalar.indexCast c8_i32_95
  let c0_i32_25 : BitVec 32 := 0#32
  let c1_i32_27 : BitVec 32 := 1#32
  let arg14 : BitVec 32 := Scf.iv c0_i32_25 c1_i32_27 k1_t7
  let c16_i32_94 : BitVec 32 := 16#32
  let v118 : BitVec 32 := Scalar.muli arg14 c16_i32_94
  let v120 : Index := Scalar.indexCast v118
  ![8, v120.toNat]
def k1_off208 (k1_t7 : Fin k1_t7_loop.trips) : Fin 2 → Nat :=
  let c9_i32_98 : BitVec 32 := 9#32
  let v129 : Index := Scalar.indexCast c9_i32_98
  let c0_i32_25 : BitVec 32 := 0#32
  let c1_i32_27 : BitVec 32 := 1#32
  let arg14 : BitVec 32 := Scf.iv c0_i32_25 c1_i32_27 k1_t7
  let c16_i32_97 : BitVec 32 := 16#32
  let v128 : BitVec 32 := Scalar.muli arg14 c16_i32_97
  let v130 : Index := Scalar.indexCast v128
  ![9, v130.toNat]
def k1_off209 (k1_t7 : Fin k1_t7_loop.trips) : Fin 2 → Nat :=
  let c10_i32_101 : BitVec 32 := 10#32
  let v139 : Index := Scalar.indexCast c10_i32_101
  let c0_i32_25 : BitVec 32 := 0#32
  let c1_i32_27 : BitVec 32 := 1#32
  let arg14 : BitVec 32 := Scf.iv c0_i32_25 c1_i32_27 k1_t7
  let c16_i32_100 : BitVec 32 := 16#32
  let v138 : BitVec 32 := Scalar.muli arg14 c16_i32_100
  let v140 : Index := Scalar.indexCast v138
  ![10, v140.toNat]
def k1_off210 (k1_t7 : Fin k1_t7_loop.trips) : Fin 2 → Nat :=
  let c11_i32_104 : BitVec 32 := 11#32
  let v149 : Index := Scalar.indexCast c11_i32_104
  let c0_i32_25 : BitVec 32 := 0#32
  let c1_i32_27 : BitVec 32 := 1#32
  let arg14 : BitVec 32 := Scf.iv c0_i32_25 c1_i32_27 k1_t7
  let c16_i32_103 : BitVec 32 := 16#32
  let v148 : BitVec 32 := Scalar.muli arg14 c16_i32_103
  let v150 : Index := Scalar.indexCast v148
  ![11, v150.toNat]
def k1_off211 (k1_t7 : Fin k1_t7_loop.trips) : Fin 2 → Nat :=
  let c12_i32_107 : BitVec 32 := 12#32
  let v159 : Index := Scalar.indexCast c12_i32_107
  let c0_i32_25 : BitVec 32 := 0#32
  let c1_i32_27 : BitVec 32 := 1#32
  let arg14 : BitVec 32 := Scf.iv c0_i32_25 c1_i32_27 k1_t7
  let c16_i32_106 : BitVec 32 := 16#32
  let v158 : BitVec 32 := Scalar.muli arg14 c16_i32_106
  let v160 : Index := Scalar.indexCast v158
  ![12, v160.toNat]
def k1_off212 (k1_t7 : Fin k1_t7_loop.trips) : Fin 2 → Nat :=
  let c13_i32_110 : BitVec 32 := 13#32
  let v169 : Index := Scalar.indexCast c13_i32_110
  let c0_i32_25 : BitVec 32 := 0#32
  let c1_i32_27 : BitVec 32 := 1#32
  let arg14 : BitVec 32 := Scf.iv c0_i32_25 c1_i32_27 k1_t7
  let c16_i32_109 : BitVec 32 := 16#32
  let v168 : BitVec 32 := Scalar.muli arg14 c16_i32_109
  let v170 : Index := Scalar.indexCast v168
  ![13, v170.toNat]
def k1_off213 (k1_t7 : Fin k1_t7_loop.trips) : Fin 2 → Nat :=
  let c14_i32_113 : BitVec 32 := 14#32
  let v179 : Index := Scalar.indexCast c14_i32_113
  let c0_i32_25 : BitVec 32 := 0#32
  let c1_i32_27 : BitVec 32 := 1#32
  let arg14 : BitVec 32 := Scf.iv c0_i32_25 c1_i32_27 k1_t7
  let c16_i32_112 : BitVec 32 := 16#32
  let v178 : BitVec 32 := Scalar.muli arg14 c16_i32_112
  let v180 : Index := Scalar.indexCast v178
  ![14, v180.toNat]
def k1_off214 (k1_t7 : Fin k1_t7_loop.trips) : Fin 2 → Nat :=
  let c15_i32_116 : BitVec 32 := 15#32
  let v189 : Index := Scalar.indexCast c15_i32_116
  let c0_i32_25 : BitVec 32 := 0#32
  let c1_i32_27 : BitVec 32 := 1#32
  let arg14 : BitVec 32 := Scf.iv c0_i32_25 c1_i32_27 k1_t7
  let c16_i32_115 : BitVec 32 := 16#32
  let v188 : BitVec 32 := Scalar.muli arg14 c16_i32_115
  let v190 : Index := Scalar.indexCast v188
  ![15, v190.toNat]
def k1_off215 (k1_t7 : Fin k1_t7_loop.trips) : Fin 2 → Nat :=
  let c16_i32_119 : BitVec 32 := 16#32
  let v199 : Index := Scalar.indexCast c16_i32_119
  let c0_i32_25 : BitVec 32 := 0#32
  let c1_i32_27 : BitVec 32 := 1#32
  let arg14 : BitVec 32 := Scf.iv c0_i32_25 c1_i32_27 k1_t7
  let c16_i32_118 : BitVec 32 := 16#32
  let v198 : BitVec 32 := Scalar.muli arg14 c16_i32_118
  let v200 : Index := Scalar.indexCast v198
  ![16, v200.toNat]
def k1_off216 (k1_t7 : Fin k1_t7_loop.trips) : Fin 2 → Nat :=
  let c17_i32 : BitVec 32 := 17#32
  let v209 : Index := Scalar.indexCast c17_i32
  let c0_i32_25 : BitVec 32 := 0#32
  let c1_i32_27 : BitVec 32 := 1#32
  let arg14 : BitVec 32 := Scf.iv c0_i32_25 c1_i32_27 k1_t7
  let c16_i32_121 : BitVec 32 := 16#32
  let v208 : BitVec 32 := Scalar.muli arg14 c16_i32_121
  let v210 : Index := Scalar.indexCast v208
  ![17, v210.toNat]
def k1_off217 (k1_t7 : Fin k1_t7_loop.trips) : Fin 2 → Nat :=
  let c18_i32 : BitVec 32 := 18#32
  let v219 : Index := Scalar.indexCast c18_i32
  let c0_i32_25 : BitVec 32 := 0#32
  let c1_i32_27 : BitVec 32 := 1#32
  let arg14 : BitVec 32 := Scf.iv c0_i32_25 c1_i32_27 k1_t7
  let c16_i32_123 : BitVec 32 := 16#32
  let v218 : BitVec 32 := Scalar.muli arg14 c16_i32_123
  let v220 : Index := Scalar.indexCast v218
  ![18, v220.toNat]
def k1_off218 (k1_t7 : Fin k1_t7_loop.trips) : Fin 2 → Nat :=
  let c19_i32 : BitVec 32 := 19#32
  let v229 : Index := Scalar.indexCast c19_i32
  let c0_i32_25 : BitVec 32 := 0#32
  let c1_i32_27 : BitVec 32 := 1#32
  let arg14 : BitVec 32 := Scf.iv c0_i32_25 c1_i32_27 k1_t7
  let c16_i32_125 : BitVec 32 := 16#32
  let v228 : BitVec 32 := Scalar.muli arg14 c16_i32_125
  let v230 : Index := Scalar.indexCast v228
  ![19, v230.toNat]
def k1_off219 (k1_t7 : Fin k1_t7_loop.trips) : Fin 2 → Nat :=
  let c20_i32 : BitVec 32 := 20#32
  let v239 : Index := Scalar.indexCast c20_i32
  let c0_i32_25 : BitVec 32 := 0#32
  let c1_i32_27 : BitVec 32 := 1#32
  let arg14 : BitVec 32 := Scf.iv c0_i32_25 c1_i32_27 k1_t7
  let c16_i32_127 : BitVec 32 := 16#32
  let v238 : BitVec 32 := Scalar.muli arg14 c16_i32_127
  let v240 : Index := Scalar.indexCast v238
  ![20, v240.toNat]
def k1_off220 (k1_t7 : Fin k1_t7_loop.trips) : Fin 2 → Nat :=
  let c21_i32 : BitVec 32 := 21#32
  let v249 : Index := Scalar.indexCast c21_i32
  let c0_i32_25 : BitVec 32 := 0#32
  let c1_i32_27 : BitVec 32 := 1#32
  let arg14 : BitVec 32 := Scf.iv c0_i32_25 c1_i32_27 k1_t7
  let c16_i32_129 : BitVec 32 := 16#32
  let v248 : BitVec 32 := Scalar.muli arg14 c16_i32_129
  let v250 : Index := Scalar.indexCast v248
  ![21, v250.toNat]
def k1_off221 (k1_t7 : Fin k1_t7_loop.trips) : Fin 2 → Nat :=
  let c22_i32 : BitVec 32 := 22#32
  let v259 : Index := Scalar.indexCast c22_i32
  let c0_i32_25 : BitVec 32 := 0#32
  let c1_i32_27 : BitVec 32 := 1#32
  let arg14 : BitVec 32 := Scf.iv c0_i32_25 c1_i32_27 k1_t7
  let c16_i32_131 : BitVec 32 := 16#32
  let v258 : BitVec 32 := Scalar.muli arg14 c16_i32_131
  let v260 : Index := Scalar.indexCast v258
  ![22, v260.toNat]
def k1_off222 (k1_t7 : Fin k1_t7_loop.trips) : Fin 2 → Nat :=
  let c23_i32 : BitVec 32 := 23#32
  let v269 : Index := Scalar.indexCast c23_i32
  let c0_i32_25 : BitVec 32 := 0#32
  let c1_i32_27 : BitVec 32 := 1#32
  let arg14 : BitVec 32 := Scf.iv c0_i32_25 c1_i32_27 k1_t7
  let c16_i32_133 : BitVec 32 := 16#32
  let v268 : BitVec 32 := Scalar.muli arg14 c16_i32_133
  let v270 : Index := Scalar.indexCast v268
  ![23, v270.toNat]
def k1_off223 (k1_t7 : Fin k1_t7_loop.trips) : Fin 2 → Nat :=
  let c24_i32 : BitVec 32 := 24#32
  let v279 : Index := Scalar.indexCast c24_i32
  let c0_i32_25 : BitVec 32 := 0#32
  let c1_i32_27 : BitVec 32 := 1#32
  let arg14 : BitVec 32 := Scf.iv c0_i32_25 c1_i32_27 k1_t7
  let c16_i32_135 : BitVec 32 := 16#32
  let v278 : BitVec 32 := Scalar.muli arg14 c16_i32_135
  let v280 : Index := Scalar.indexCast v278
  ![24, v280.toNat]
def k1_off224 (k1_t7 : Fin k1_t7_loop.trips) : Fin 2 → Nat :=
  let c25_i32 : BitVec 32 := 25#32
  let v289 : Index := Scalar.indexCast c25_i32
  let c0_i32_25 : BitVec 32 := 0#32
  let c1_i32_27 : BitVec 32 := 1#32
  let arg14 : BitVec 32 := Scf.iv c0_i32_25 c1_i32_27 k1_t7
  let c16_i32_137 : BitVec 32 := 16#32
  let v288 : BitVec 32 := Scalar.muli arg14 c16_i32_137
  let v290 : Index := Scalar.indexCast v288
  ![25, v290.toNat]
def k1_off225 (k1_t7 : Fin k1_t7_loop.trips) : Fin 2 → Nat :=
  let c26_i32 : BitVec 32 := 26#32
  let v299 : Index := Scalar.indexCast c26_i32
  let c0_i32_25 : BitVec 32 := 0#32
  let c1_i32_27 : BitVec 32 := 1#32
  let arg14 : BitVec 32 := Scf.iv c0_i32_25 c1_i32_27 k1_t7
  let c16_i32_139 : BitVec 32 := 16#32
  let v298 : BitVec 32 := Scalar.muli arg14 c16_i32_139
  let v300 : Index := Scalar.indexCast v298
  ![26, v300.toNat]
def k1_off226 (k1_t7 : Fin k1_t7_loop.trips) : Fin 2 → Nat :=
  let c27_i32 : BitVec 32 := 27#32
  let v309 : Index := Scalar.indexCast c27_i32
  let c0_i32_25 : BitVec 32 := 0#32
  let c1_i32_27 : BitVec 32 := 1#32
  let arg14 : BitVec 32 := Scf.iv c0_i32_25 c1_i32_27 k1_t7
  let c16_i32_141 : BitVec 32 := 16#32
  let v308 : BitVec 32 := Scalar.muli arg14 c16_i32_141
  let v310 : Index := Scalar.indexCast v308
  ![27, v310.toNat]
def k1_off227 (k1_t7 : Fin k1_t7_loop.trips) : Fin 2 → Nat :=
  let c28_i32 : BitVec 32 := 28#32
  let v319 : Index := Scalar.indexCast c28_i32
  let c0_i32_25 : BitVec 32 := 0#32
  let c1_i32_27 : BitVec 32 := 1#32
  let arg14 : BitVec 32 := Scf.iv c0_i32_25 c1_i32_27 k1_t7
  let c16_i32_143 : BitVec 32 := 16#32
  let v318 : BitVec 32 := Scalar.muli arg14 c16_i32_143
  let v320 : Index := Scalar.indexCast v318
  ![28, v320.toNat]
def k1_off228 (k1_t7 : Fin k1_t7_loop.trips) : Fin 2 → Nat :=
  let c29_i32 : BitVec 32 := 29#32
  let v329 : Index := Scalar.indexCast c29_i32
  let c0_i32_25 : BitVec 32 := 0#32
  let c1_i32_27 : BitVec 32 := 1#32
  let arg14 : BitVec 32 := Scf.iv c0_i32_25 c1_i32_27 k1_t7
  let c16_i32_145 : BitVec 32 := 16#32
  let v328 : BitVec 32 := Scalar.muli arg14 c16_i32_145
  let v330 : Index := Scalar.indexCast v328
  ![29, v330.toNat]
def k1_off229 (k1_t7 : Fin k1_t7_loop.trips) : Fin 2 → Nat :=
  let c30_i32 : BitVec 32 := 30#32
  let v339 : Index := Scalar.indexCast c30_i32
  let c0_i32_25 : BitVec 32 := 0#32
  let c1_i32_27 : BitVec 32 := 1#32
  let arg14 : BitVec 32 := Scf.iv c0_i32_25 c1_i32_27 k1_t7
  let c16_i32_147 : BitVec 32 := 16#32
  let v338 : BitVec 32 := Scalar.muli arg14 c16_i32_147
  let v340 : Index := Scalar.indexCast v338
  ![30, v340.toNat]
def k1_off230 (k1_t7 : Fin k1_t7_loop.trips) : Fin 2 → Nat :=
  let c31_i32 : BitVec 32 := 31#32
  let v349 : Index := Scalar.indexCast c31_i32
  let c0_i32_25 : BitVec 32 := 0#32
  let c1_i32_27 : BitVec 32 := 1#32
  let arg14 : BitVec 32 := Scf.iv c0_i32_25 c1_i32_27 k1_t7
  let c16_i32_149 : BitVec 32 := 16#32
  let v348 : BitVec 32 := Scalar.muli arg14 c16_i32_149
  let v350 : Index := Scalar.indexCast v348
  ![31, v350.toNat]
def k1_off231 (k1_t7 : Fin k1_t7_loop.trips) : Fin 1 → Nat :=
  let c12288_i32 : BitVec 32 := 12288#32
  let c0_i32_25 : BitVec 32 := 0#32
  let c1_i32_27 : BitVec 32 := 1#32
  let arg14 : BitVec 32 := Scf.iv c0_i32_25 c1_i32_27 k1_t7
  let c16_i32_151 : BitVec 32 := 16#32
  let v364 : BitVec 32 := Scalar.muli arg14 c16_i32_151
  let v365 : BitVec 32 := Scalar.addi c12288_i32 v364
  let v366 : Index := Scalar.indexCast v365
  ![v366.toNat]
@[reducible] def k1_t8_loop : Scf.Loop 32 :=
  let c0_i32_29 : BitVec 32 := 0#32
  let c128_i32_30 : BitVec 32 := 128#32
  let v18 : BitVec 32 := Scalar.addi c0_i32_29 c128_i32_30
  let c1_i32_31 : BitVec 32 := 1#32
  ⟨c0_i32_29, v18, c1_i32_31⟩
def k1_off232 (k1_t8 : Fin k1_t8_loop.trips) : Fin 2 → Nat :=
  let c0_i32_71 : BitVec 32 := 0#32
  let v39 : Index := Scalar.indexCast c0_i32_71
  let c0_i32_29 : BitVec 32 := 0#32
  let c1_i32_31 : BitVec 32 := 1#32
  let arg14 : BitVec 32 := Scf.iv c0_i32_29 c1_i32_31 k1_t8
  let c16_i32_70 : BitVec 32 := 16#32
  let v38 : BitVec 32 := Scalar.muli arg14 c16_i32_70
  let v40 : Index := Scalar.indexCast v38
  ![0, v40.toNat]
def k1_off233 (k1_t8 : Fin k1_t8_loop.trips) : Fin 2 → Nat :=
  let c1_i32_74 : BitVec 32 := 1#32
  let v49 : Index := Scalar.indexCast c1_i32_74
  let c0_i32_29 : BitVec 32 := 0#32
  let c1_i32_31 : BitVec 32 := 1#32
  let arg14 : BitVec 32 := Scf.iv c0_i32_29 c1_i32_31 k1_t8
  let c16_i32_73 : BitVec 32 := 16#32
  let v48 : BitVec 32 := Scalar.muli arg14 c16_i32_73
  let v50 : Index := Scalar.indexCast v48
  ![1, v50.toNat]
def k1_off234 (k1_t8 : Fin k1_t8_loop.trips) : Fin 2 → Nat :=
  let c2_i32_77 : BitVec 32 := 2#32
  let v59 : Index := Scalar.indexCast c2_i32_77
  let c0_i32_29 : BitVec 32 := 0#32
  let c1_i32_31 : BitVec 32 := 1#32
  let arg14 : BitVec 32 := Scf.iv c0_i32_29 c1_i32_31 k1_t8
  let c16_i32_76 : BitVec 32 := 16#32
  let v58 : BitVec 32 := Scalar.muli arg14 c16_i32_76
  let v60 : Index := Scalar.indexCast v58
  ![2, v60.toNat]
def k1_off235 (k1_t8 : Fin k1_t8_loop.trips) : Fin 2 → Nat :=
  let c3_i32_80 : BitVec 32 := 3#32
  let v69 : Index := Scalar.indexCast c3_i32_80
  let c0_i32_29 : BitVec 32 := 0#32
  let c1_i32_31 : BitVec 32 := 1#32
  let arg14 : BitVec 32 := Scf.iv c0_i32_29 c1_i32_31 k1_t8
  let c16_i32_79 : BitVec 32 := 16#32
  let v68 : BitVec 32 := Scalar.muli arg14 c16_i32_79
  let v70 : Index := Scalar.indexCast v68
  ![3, v70.toNat]
def k1_off236 (k1_t8 : Fin k1_t8_loop.trips) : Fin 2 → Nat :=
  let c4_i32_83 : BitVec 32 := 4#32
  let v79 : Index := Scalar.indexCast c4_i32_83
  let c0_i32_29 : BitVec 32 := 0#32
  let c1_i32_31 : BitVec 32 := 1#32
  let arg14 : BitVec 32 := Scf.iv c0_i32_29 c1_i32_31 k1_t8
  let c16_i32_82 : BitVec 32 := 16#32
  let v78 : BitVec 32 := Scalar.muli arg14 c16_i32_82
  let v80 : Index := Scalar.indexCast v78
  ![4, v80.toNat]
def k1_off237 (k1_t8 : Fin k1_t8_loop.trips) : Fin 2 → Nat :=
  let c5_i32_86 : BitVec 32 := 5#32
  let v89 : Index := Scalar.indexCast c5_i32_86
  let c0_i32_29 : BitVec 32 := 0#32
  let c1_i32_31 : BitVec 32 := 1#32
  let arg14 : BitVec 32 := Scf.iv c0_i32_29 c1_i32_31 k1_t8
  let c16_i32_85 : BitVec 32 := 16#32
  let v88 : BitVec 32 := Scalar.muli arg14 c16_i32_85
  let v90 : Index := Scalar.indexCast v88
  ![5, v90.toNat]
def k1_off238 (k1_t8 : Fin k1_t8_loop.trips) : Fin 2 → Nat :=
  let c6_i32_89 : BitVec 32 := 6#32
  let v99 : Index := Scalar.indexCast c6_i32_89
  let c0_i32_29 : BitVec 32 := 0#32
  let c1_i32_31 : BitVec 32 := 1#32
  let arg14 : BitVec 32 := Scf.iv c0_i32_29 c1_i32_31 k1_t8
  let c16_i32_88 : BitVec 32 := 16#32
  let v98 : BitVec 32 := Scalar.muli arg14 c16_i32_88
  let v100 : Index := Scalar.indexCast v98
  ![6, v100.toNat]
def k1_off239 (k1_t8 : Fin k1_t8_loop.trips) : Fin 2 → Nat :=
  let c7_i32_92 : BitVec 32 := 7#32
  let v109 : Index := Scalar.indexCast c7_i32_92
  let c0_i32_29 : BitVec 32 := 0#32
  let c1_i32_31 : BitVec 32 := 1#32
  let arg14 : BitVec 32 := Scf.iv c0_i32_29 c1_i32_31 k1_t8
  let c16_i32_91 : BitVec 32 := 16#32
  let v108 : BitVec 32 := Scalar.muli arg14 c16_i32_91
  let v110 : Index := Scalar.indexCast v108
  ![7, v110.toNat]
def k1_off240 (k1_t8 : Fin k1_t8_loop.trips) : Fin 2 → Nat :=
  let c8_i32_95 : BitVec 32 := 8#32
  let v119 : Index := Scalar.indexCast c8_i32_95
  let c0_i32_29 : BitVec 32 := 0#32
  let c1_i32_31 : BitVec 32 := 1#32
  let arg14 : BitVec 32 := Scf.iv c0_i32_29 c1_i32_31 k1_t8
  let c16_i32_94 : BitVec 32 := 16#32
  let v118 : BitVec 32 := Scalar.muli arg14 c16_i32_94
  let v120 : Index := Scalar.indexCast v118
  ![8, v120.toNat]
def k1_off241 (k1_t8 : Fin k1_t8_loop.trips) : Fin 2 → Nat :=
  let c9_i32_98 : BitVec 32 := 9#32
  let v129 : Index := Scalar.indexCast c9_i32_98
  let c0_i32_29 : BitVec 32 := 0#32
  let c1_i32_31 : BitVec 32 := 1#32
  let arg14 : BitVec 32 := Scf.iv c0_i32_29 c1_i32_31 k1_t8
  let c16_i32_97 : BitVec 32 := 16#32
  let v128 : BitVec 32 := Scalar.muli arg14 c16_i32_97
  let v130 : Index := Scalar.indexCast v128
  ![9, v130.toNat]
def k1_off242 (k1_t8 : Fin k1_t8_loop.trips) : Fin 2 → Nat :=
  let c10_i32_101 : BitVec 32 := 10#32
  let v139 : Index := Scalar.indexCast c10_i32_101
  let c0_i32_29 : BitVec 32 := 0#32
  let c1_i32_31 : BitVec 32 := 1#32
  let arg14 : BitVec 32 := Scf.iv c0_i32_29 c1_i32_31 k1_t8
  let c16_i32_100 : BitVec 32 := 16#32
  let v138 : BitVec 32 := Scalar.muli arg14 c16_i32_100
  let v140 : Index := Scalar.indexCast v138
  ![10, v140.toNat]
def k1_off243 (k1_t8 : Fin k1_t8_loop.trips) : Fin 2 → Nat :=
  let c11_i32_104 : BitVec 32 := 11#32
  let v149 : Index := Scalar.indexCast c11_i32_104
  let c0_i32_29 : BitVec 32 := 0#32
  let c1_i32_31 : BitVec 32 := 1#32
  let arg14 : BitVec 32 := Scf.iv c0_i32_29 c1_i32_31 k1_t8
  let c16_i32_103 : BitVec 32 := 16#32
  let v148 : BitVec 32 := Scalar.muli arg14 c16_i32_103
  let v150 : Index := Scalar.indexCast v148
  ![11, v150.toNat]
def k1_off244 (k1_t8 : Fin k1_t8_loop.trips) : Fin 2 → Nat :=
  let c12_i32_107 : BitVec 32 := 12#32
  let v159 : Index := Scalar.indexCast c12_i32_107
  let c0_i32_29 : BitVec 32 := 0#32
  let c1_i32_31 : BitVec 32 := 1#32
  let arg14 : BitVec 32 := Scf.iv c0_i32_29 c1_i32_31 k1_t8
  let c16_i32_106 : BitVec 32 := 16#32
  let v158 : BitVec 32 := Scalar.muli arg14 c16_i32_106
  let v160 : Index := Scalar.indexCast v158
  ![12, v160.toNat]
def k1_off245 (k1_t8 : Fin k1_t8_loop.trips) : Fin 2 → Nat :=
  let c13_i32_110 : BitVec 32 := 13#32
  let v169 : Index := Scalar.indexCast c13_i32_110
  let c0_i32_29 : BitVec 32 := 0#32
  let c1_i32_31 : BitVec 32 := 1#32
  let arg14 : BitVec 32 := Scf.iv c0_i32_29 c1_i32_31 k1_t8
  let c16_i32_109 : BitVec 32 := 16#32
  let v168 : BitVec 32 := Scalar.muli arg14 c16_i32_109
  let v170 : Index := Scalar.indexCast v168
  ![13, v170.toNat]
def k1_off246 (k1_t8 : Fin k1_t8_loop.trips) : Fin 2 → Nat :=
  let c14_i32_113 : BitVec 32 := 14#32
  let v179 : Index := Scalar.indexCast c14_i32_113
  let c0_i32_29 : BitVec 32 := 0#32
  let c1_i32_31 : BitVec 32 := 1#32
  let arg14 : BitVec 32 := Scf.iv c0_i32_29 c1_i32_31 k1_t8
  let c16_i32_112 : BitVec 32 := 16#32
  let v178 : BitVec 32 := Scalar.muli arg14 c16_i32_112
  let v180 : Index := Scalar.indexCast v178
  ![14, v180.toNat]
def k1_off247 (k1_t8 : Fin k1_t8_loop.trips) : Fin 2 → Nat :=
  let c15_i32_116 : BitVec 32 := 15#32
  let v189 : Index := Scalar.indexCast c15_i32_116
  let c0_i32_29 : BitVec 32 := 0#32
  let c1_i32_31 : BitVec 32 := 1#32
  let arg14 : BitVec 32 := Scf.iv c0_i32_29 c1_i32_31 k1_t8
  let c16_i32_115 : BitVec 32 := 16#32
  let v188 : BitVec 32 := Scalar.muli arg14 c16_i32_115
  let v190 : Index := Scalar.indexCast v188
  ![15, v190.toNat]
def k1_off248 (k1_t8 : Fin k1_t8_loop.trips) : Fin 2 → Nat :=
  let c16_i32_119 : BitVec 32 := 16#32
  let v199 : Index := Scalar.indexCast c16_i32_119
  let c0_i32_29 : BitVec 32 := 0#32
  let c1_i32_31 : BitVec 32 := 1#32
  let arg14 : BitVec 32 := Scf.iv c0_i32_29 c1_i32_31 k1_t8
  let c16_i32_118 : BitVec 32 := 16#32
  let v198 : BitVec 32 := Scalar.muli arg14 c16_i32_118
  let v200 : Index := Scalar.indexCast v198
  ![16, v200.toNat]
def k1_off249 (k1_t8 : Fin k1_t8_loop.trips) : Fin 2 → Nat :=
  let c17_i32 : BitVec 32 := 17#32
  let v209 : Index := Scalar.indexCast c17_i32
  let c0_i32_29 : BitVec 32 := 0#32
  let c1_i32_31 : BitVec 32 := 1#32
  let arg14 : BitVec 32 := Scf.iv c0_i32_29 c1_i32_31 k1_t8
  let c16_i32_121 : BitVec 32 := 16#32
  let v208 : BitVec 32 := Scalar.muli arg14 c16_i32_121
  let v210 : Index := Scalar.indexCast v208
  ![17, v210.toNat]
def k1_off250 (k1_t8 : Fin k1_t8_loop.trips) : Fin 2 → Nat :=
  let c18_i32 : BitVec 32 := 18#32
  let v219 : Index := Scalar.indexCast c18_i32
  let c0_i32_29 : BitVec 32 := 0#32
  let c1_i32_31 : BitVec 32 := 1#32
  let arg14 : BitVec 32 := Scf.iv c0_i32_29 c1_i32_31 k1_t8
  let c16_i32_123 : BitVec 32 := 16#32
  let v218 : BitVec 32 := Scalar.muli arg14 c16_i32_123
  let v220 : Index := Scalar.indexCast v218
  ![18, v220.toNat]
def k1_off251 (k1_t8 : Fin k1_t8_loop.trips) : Fin 2 → Nat :=
  let c19_i32 : BitVec 32 := 19#32
  let v229 : Index := Scalar.indexCast c19_i32
  let c0_i32_29 : BitVec 32 := 0#32
  let c1_i32_31 : BitVec 32 := 1#32
  let arg14 : BitVec 32 := Scf.iv c0_i32_29 c1_i32_31 k1_t8
  let c16_i32_125 : BitVec 32 := 16#32
  let v228 : BitVec 32 := Scalar.muli arg14 c16_i32_125
  let v230 : Index := Scalar.indexCast v228
  ![19, v230.toNat]
def k1_off252 (k1_t8 : Fin k1_t8_loop.trips) : Fin 2 → Nat :=
  let c20_i32 : BitVec 32 := 20#32
  let v239 : Index := Scalar.indexCast c20_i32
  let c0_i32_29 : BitVec 32 := 0#32
  let c1_i32_31 : BitVec 32 := 1#32
  let arg14 : BitVec 32 := Scf.iv c0_i32_29 c1_i32_31 k1_t8
  let c16_i32_127 : BitVec 32 := 16#32
  let v238 : BitVec 32 := Scalar.muli arg14 c16_i32_127
  let v240 : Index := Scalar.indexCast v238
  ![20, v240.toNat]
def k1_off253 (k1_t8 : Fin k1_t8_loop.trips) : Fin 2 → Nat :=
  let c21_i32 : BitVec 32 := 21#32
  let v249 : Index := Scalar.indexCast c21_i32
  let c0_i32_29 : BitVec 32 := 0#32
  let c1_i32_31 : BitVec 32 := 1#32
  let arg14 : BitVec 32 := Scf.iv c0_i32_29 c1_i32_31 k1_t8
  let c16_i32_129 : BitVec 32 := 16#32
  let v248 : BitVec 32 := Scalar.muli arg14 c16_i32_129
  let v250 : Index := Scalar.indexCast v248
  ![21, v250.toNat]
def k1_off254 (k1_t8 : Fin k1_t8_loop.trips) : Fin 2 → Nat :=
  let c22_i32 : BitVec 32 := 22#32
  let v259 : Index := Scalar.indexCast c22_i32
  let c0_i32_29 : BitVec 32 := 0#32
  let c1_i32_31 : BitVec 32 := 1#32
  let arg14 : BitVec 32 := Scf.iv c0_i32_29 c1_i32_31 k1_t8
  let c16_i32_131 : BitVec 32 := 16#32
  let v258 : BitVec 32 := Scalar.muli arg14 c16_i32_131
  let v260 : Index := Scalar.indexCast v258
  ![22, v260.toNat]
def k1_off255 (k1_t8 : Fin k1_t8_loop.trips) : Fin 2 → Nat :=
  let c23_i32 : BitVec 32 := 23#32
  let v269 : Index := Scalar.indexCast c23_i32
  let c0_i32_29 : BitVec 32 := 0#32
  let c1_i32_31 : BitVec 32 := 1#32
  let arg14 : BitVec 32 := Scf.iv c0_i32_29 c1_i32_31 k1_t8
  let c16_i32_133 : BitVec 32 := 16#32
  let v268 : BitVec 32 := Scalar.muli arg14 c16_i32_133
  let v270 : Index := Scalar.indexCast v268
  ![23, v270.toNat]
def k1_off256 (k1_t8 : Fin k1_t8_loop.trips) : Fin 2 → Nat :=
  let c24_i32 : BitVec 32 := 24#32
  let v279 : Index := Scalar.indexCast c24_i32
  let c0_i32_29 : BitVec 32 := 0#32
  let c1_i32_31 : BitVec 32 := 1#32
  let arg14 : BitVec 32 := Scf.iv c0_i32_29 c1_i32_31 k1_t8
  let c16_i32_135 : BitVec 32 := 16#32
  let v278 : BitVec 32 := Scalar.muli arg14 c16_i32_135
  let v280 : Index := Scalar.indexCast v278
  ![24, v280.toNat]
def k1_off257 (k1_t8 : Fin k1_t8_loop.trips) : Fin 2 → Nat :=
  let c25_i32 : BitVec 32 := 25#32
  let v289 : Index := Scalar.indexCast c25_i32
  let c0_i32_29 : BitVec 32 := 0#32
  let c1_i32_31 : BitVec 32 := 1#32
  let arg14 : BitVec 32 := Scf.iv c0_i32_29 c1_i32_31 k1_t8
  let c16_i32_137 : BitVec 32 := 16#32
  let v288 : BitVec 32 := Scalar.muli arg14 c16_i32_137
  let v290 : Index := Scalar.indexCast v288
  ![25, v290.toNat]
def k1_off258 (k1_t8 : Fin k1_t8_loop.trips) : Fin 2 → Nat :=
  let c26_i32 : BitVec 32 := 26#32
  let v299 : Index := Scalar.indexCast c26_i32
  let c0_i32_29 : BitVec 32 := 0#32
  let c1_i32_31 : BitVec 32 := 1#32
  let arg14 : BitVec 32 := Scf.iv c0_i32_29 c1_i32_31 k1_t8
  let c16_i32_139 : BitVec 32 := 16#32
  let v298 : BitVec 32 := Scalar.muli arg14 c16_i32_139
  let v300 : Index := Scalar.indexCast v298
  ![26, v300.toNat]
def k1_off259 (k1_t8 : Fin k1_t8_loop.trips) : Fin 2 → Nat :=
  let c27_i32 : BitVec 32 := 27#32
  let v309 : Index := Scalar.indexCast c27_i32
  let c0_i32_29 : BitVec 32 := 0#32
  let c1_i32_31 : BitVec 32 := 1#32
  let arg14 : BitVec 32 := Scf.iv c0_i32_29 c1_i32_31 k1_t8
  let c16_i32_141 : BitVec 32 := 16#32
  let v308 : BitVec 32 := Scalar.muli arg14 c16_i32_141
  let v310 : Index := Scalar.indexCast v308
  ![27, v310.toNat]
def k1_off260 (k1_t8 : Fin k1_t8_loop.trips) : Fin 2 → Nat :=
  let c28_i32 : BitVec 32 := 28#32
  let v319 : Index := Scalar.indexCast c28_i32
  let c0_i32_29 : BitVec 32 := 0#32
  let c1_i32_31 : BitVec 32 := 1#32
  let arg14 : BitVec 32 := Scf.iv c0_i32_29 c1_i32_31 k1_t8
  let c16_i32_143 : BitVec 32 := 16#32
  let v318 : BitVec 32 := Scalar.muli arg14 c16_i32_143
  let v320 : Index := Scalar.indexCast v318
  ![28, v320.toNat]
def k1_off261 (k1_t8 : Fin k1_t8_loop.trips) : Fin 2 → Nat :=
  let c29_i32 : BitVec 32 := 29#32
  let v329 : Index := Scalar.indexCast c29_i32
  let c0_i32_29 : BitVec 32 := 0#32
  let c1_i32_31 : BitVec 32 := 1#32
  let arg14 : BitVec 32 := Scf.iv c0_i32_29 c1_i32_31 k1_t8
  let c16_i32_145 : BitVec 32 := 16#32
  let v328 : BitVec 32 := Scalar.muli arg14 c16_i32_145
  let v330 : Index := Scalar.indexCast v328
  ![29, v330.toNat]
def k1_off262 (k1_t8 : Fin k1_t8_loop.trips) : Fin 2 → Nat :=
  let c30_i32 : BitVec 32 := 30#32
  let v339 : Index := Scalar.indexCast c30_i32
  let c0_i32_29 : BitVec 32 := 0#32
  let c1_i32_31 : BitVec 32 := 1#32
  let arg14 : BitVec 32 := Scf.iv c0_i32_29 c1_i32_31 k1_t8
  let c16_i32_147 : BitVec 32 := 16#32
  let v338 : BitVec 32 := Scalar.muli arg14 c16_i32_147
  let v340 : Index := Scalar.indexCast v338
  ![30, v340.toNat]
def k1_off263 (k1_t8 : Fin k1_t8_loop.trips) : Fin 2 → Nat :=
  let c31_i32 : BitVec 32 := 31#32
  let v349 : Index := Scalar.indexCast c31_i32
  let c0_i32_29 : BitVec 32 := 0#32
  let c1_i32_31 : BitVec 32 := 1#32
  let arg14 : BitVec 32 := Scf.iv c0_i32_29 c1_i32_31 k1_t8
  let c16_i32_149 : BitVec 32 := 16#32
  let v348 : BitVec 32 := Scalar.muli arg14 c16_i32_149
  let v350 : Index := Scalar.indexCast v348
  ![31, v350.toNat]
def k1_off264 (k1_t8 : Fin k1_t8_loop.trips) : Fin 1 → Nat :=
  let c14336_i32 : BitVec 32 := 14336#32
  let c0_i32_29 : BitVec 32 := 0#32
  let c1_i32_31 : BitVec 32 := 1#32
  let arg14 : BitVec 32 := Scf.iv c0_i32_29 c1_i32_31 k1_t8
  let c16_i32_151 : BitVec 32 := 16#32
  let v364 : BitVec 32 := Scalar.muli arg14 c16_i32_151
  let v365 : BitVec 32 := Scalar.addi c14336_i32 v364
  let v366 : Index := Scalar.indexCast v365
  ![v366.toNat]
@[reducible] def k1_t9_loop : Scf.Loop 32 :=
  let c0_i32_33 : BitVec 32 := 0#32
  let c128_i32_34 : BitVec 32 := 128#32
  let v20 : BitVec 32 := Scalar.addi c0_i32_33 c128_i32_34
  let c1_i32_35 : BitVec 32 := 1#32
  ⟨c0_i32_33, v20, c1_i32_35⟩
def k1_off265 (k1_t9 : Fin k1_t9_loop.trips) : Fin 2 → Nat :=
  let c0_i32_71 : BitVec 32 := 0#32
  let v39 : Index := Scalar.indexCast c0_i32_71
  let c0_i32_33 : BitVec 32 := 0#32
  let c1_i32_35 : BitVec 32 := 1#32
  let arg14 : BitVec 32 := Scf.iv c0_i32_33 c1_i32_35 k1_t9
  let c16_i32_70 : BitVec 32 := 16#32
  let v38 : BitVec 32 := Scalar.muli arg14 c16_i32_70
  let v40 : Index := Scalar.indexCast v38
  ![0, v40.toNat]
def k1_off266 (k1_t9 : Fin k1_t9_loop.trips) : Fin 2 → Nat :=
  let c1_i32_74 : BitVec 32 := 1#32
  let v49 : Index := Scalar.indexCast c1_i32_74
  let c0_i32_33 : BitVec 32 := 0#32
  let c1_i32_35 : BitVec 32 := 1#32
  let arg14 : BitVec 32 := Scf.iv c0_i32_33 c1_i32_35 k1_t9
  let c16_i32_73 : BitVec 32 := 16#32
  let v48 : BitVec 32 := Scalar.muli arg14 c16_i32_73
  let v50 : Index := Scalar.indexCast v48
  ![1, v50.toNat]
def k1_off267 (k1_t9 : Fin k1_t9_loop.trips) : Fin 2 → Nat :=
  let c2_i32_77 : BitVec 32 := 2#32
  let v59 : Index := Scalar.indexCast c2_i32_77
  let c0_i32_33 : BitVec 32 := 0#32
  let c1_i32_35 : BitVec 32 := 1#32
  let arg14 : BitVec 32 := Scf.iv c0_i32_33 c1_i32_35 k1_t9
  let c16_i32_76 : BitVec 32 := 16#32
  let v58 : BitVec 32 := Scalar.muli arg14 c16_i32_76
  let v60 : Index := Scalar.indexCast v58
  ![2, v60.toNat]
def k1_off268 (k1_t9 : Fin k1_t9_loop.trips) : Fin 2 → Nat :=
  let c3_i32_80 : BitVec 32 := 3#32
  let v69 : Index := Scalar.indexCast c3_i32_80
  let c0_i32_33 : BitVec 32 := 0#32
  let c1_i32_35 : BitVec 32 := 1#32
  let arg14 : BitVec 32 := Scf.iv c0_i32_33 c1_i32_35 k1_t9
  let c16_i32_79 : BitVec 32 := 16#32
  let v68 : BitVec 32 := Scalar.muli arg14 c16_i32_79
  let v70 : Index := Scalar.indexCast v68
  ![3, v70.toNat]
def k1_off269 (k1_t9 : Fin k1_t9_loop.trips) : Fin 2 → Nat :=
  let c4_i32_83 : BitVec 32 := 4#32
  let v79 : Index := Scalar.indexCast c4_i32_83
  let c0_i32_33 : BitVec 32 := 0#32
  let c1_i32_35 : BitVec 32 := 1#32
  let arg14 : BitVec 32 := Scf.iv c0_i32_33 c1_i32_35 k1_t9
  let c16_i32_82 : BitVec 32 := 16#32
  let v78 : BitVec 32 := Scalar.muli arg14 c16_i32_82
  let v80 : Index := Scalar.indexCast v78
  ![4, v80.toNat]
def k1_off270 (k1_t9 : Fin k1_t9_loop.trips) : Fin 2 → Nat :=
  let c5_i32_86 : BitVec 32 := 5#32
  let v89 : Index := Scalar.indexCast c5_i32_86
  let c0_i32_33 : BitVec 32 := 0#32
  let c1_i32_35 : BitVec 32 := 1#32
  let arg14 : BitVec 32 := Scf.iv c0_i32_33 c1_i32_35 k1_t9
  let c16_i32_85 : BitVec 32 := 16#32
  let v88 : BitVec 32 := Scalar.muli arg14 c16_i32_85
  let v90 : Index := Scalar.indexCast v88
  ![5, v90.toNat]
def k1_off271 (k1_t9 : Fin k1_t9_loop.trips) : Fin 2 → Nat :=
  let c6_i32_89 : BitVec 32 := 6#32
  let v99 : Index := Scalar.indexCast c6_i32_89
  let c0_i32_33 : BitVec 32 := 0#32
  let c1_i32_35 : BitVec 32 := 1#32
  let arg14 : BitVec 32 := Scf.iv c0_i32_33 c1_i32_35 k1_t9
  let c16_i32_88 : BitVec 32 := 16#32
  let v98 : BitVec 32 := Scalar.muli arg14 c16_i32_88
  let v100 : Index := Scalar.indexCast v98
  ![6, v100.toNat]
def k1_off272 (k1_t9 : Fin k1_t9_loop.trips) : Fin 2 → Nat :=
  let c7_i32_92 : BitVec 32 := 7#32
  let v109 : Index := Scalar.indexCast c7_i32_92
  let c0_i32_33 : BitVec 32 := 0#32
  let c1_i32_35 : BitVec 32 := 1#32
  let arg14 : BitVec 32 := Scf.iv c0_i32_33 c1_i32_35 k1_t9
  let c16_i32_91 : BitVec 32 := 16#32
  let v108 : BitVec 32 := Scalar.muli arg14 c16_i32_91
  let v110 : Index := Scalar.indexCast v108
  ![7, v110.toNat]
def k1_off273 (k1_t9 : Fin k1_t9_loop.trips) : Fin 2 → Nat :=
  let c8_i32_95 : BitVec 32 := 8#32
  let v119 : Index := Scalar.indexCast c8_i32_95
  let c0_i32_33 : BitVec 32 := 0#32
  let c1_i32_35 : BitVec 32 := 1#32
  let arg14 : BitVec 32 := Scf.iv c0_i32_33 c1_i32_35 k1_t9
  let c16_i32_94 : BitVec 32 := 16#32
  let v118 : BitVec 32 := Scalar.muli arg14 c16_i32_94
  let v120 : Index := Scalar.indexCast v118
  ![8, v120.toNat]
def k1_off274 (k1_t9 : Fin k1_t9_loop.trips) : Fin 2 → Nat :=
  let c9_i32_98 : BitVec 32 := 9#32
  let v129 : Index := Scalar.indexCast c9_i32_98
  let c0_i32_33 : BitVec 32 := 0#32
  let c1_i32_35 : BitVec 32 := 1#32
  let arg14 : BitVec 32 := Scf.iv c0_i32_33 c1_i32_35 k1_t9
  let c16_i32_97 : BitVec 32 := 16#32
  let v128 : BitVec 32 := Scalar.muli arg14 c16_i32_97
  let v130 : Index := Scalar.indexCast v128
  ![9, v130.toNat]
def k1_off275 (k1_t9 : Fin k1_t9_loop.trips) : Fin 2 → Nat :=
  let c10_i32_101 : BitVec 32 := 10#32
  let v139 : Index := Scalar.indexCast c10_i32_101
  let c0_i32_33 : BitVec 32 := 0#32
  let c1_i32_35 : BitVec 32 := 1#32
  let arg14 : BitVec 32 := Scf.iv c0_i32_33 c1_i32_35 k1_t9
  let c16_i32_100 : BitVec 32 := 16#32
  let v138 : BitVec 32 := Scalar.muli arg14 c16_i32_100
  let v140 : Index := Scalar.indexCast v138
  ![10, v140.toNat]
def k1_off276 (k1_t9 : Fin k1_t9_loop.trips) : Fin 2 → Nat :=
  let c11_i32_104 : BitVec 32 := 11#32
  let v149 : Index := Scalar.indexCast c11_i32_104
  let c0_i32_33 : BitVec 32 := 0#32
  let c1_i32_35 : BitVec 32 := 1#32
  let arg14 : BitVec 32 := Scf.iv c0_i32_33 c1_i32_35 k1_t9
  let c16_i32_103 : BitVec 32 := 16#32
  let v148 : BitVec 32 := Scalar.muli arg14 c16_i32_103
  let v150 : Index := Scalar.indexCast v148
  ![11, v150.toNat]
def k1_off277 (k1_t9 : Fin k1_t9_loop.trips) : Fin 2 → Nat :=
  let c12_i32_107 : BitVec 32 := 12#32
  let v159 : Index := Scalar.indexCast c12_i32_107
  let c0_i32_33 : BitVec 32 := 0#32
  let c1_i32_35 : BitVec 32 := 1#32
  let arg14 : BitVec 32 := Scf.iv c0_i32_33 c1_i32_35 k1_t9
  let c16_i32_106 : BitVec 32 := 16#32
  let v158 : BitVec 32 := Scalar.muli arg14 c16_i32_106
  let v160 : Index := Scalar.indexCast v158
  ![12, v160.toNat]
def k1_off278 (k1_t9 : Fin k1_t9_loop.trips) : Fin 2 → Nat :=
  let c13_i32_110 : BitVec 32 := 13#32
  let v169 : Index := Scalar.indexCast c13_i32_110
  let c0_i32_33 : BitVec 32 := 0#32
  let c1_i32_35 : BitVec 32 := 1#32
  let arg14 : BitVec 32 := Scf.iv c0_i32_33 c1_i32_35 k1_t9
  let c16_i32_109 : BitVec 32 := 16#32
  let v168 : BitVec 32 := Scalar.muli arg14 c16_i32_109
  let v170 : Index := Scalar.indexCast v168
  ![13, v170.toNat]
def k1_off279 (k1_t9 : Fin k1_t9_loop.trips) : Fin 2 → Nat :=
  let c14_i32_113 : BitVec 32 := 14#32
  let v179 : Index := Scalar.indexCast c14_i32_113
  let c0_i32_33 : BitVec 32 := 0#32
  let c1_i32_35 : BitVec 32 := 1#32
  let arg14 : BitVec 32 := Scf.iv c0_i32_33 c1_i32_35 k1_t9
  let c16_i32_112 : BitVec 32 := 16#32
  let v178 : BitVec 32 := Scalar.muli arg14 c16_i32_112
  let v180 : Index := Scalar.indexCast v178
  ![14, v180.toNat]
def k1_off280 (k1_t9 : Fin k1_t9_loop.trips) : Fin 2 → Nat :=
  let c15_i32_116 : BitVec 32 := 15#32
  let v189 : Index := Scalar.indexCast c15_i32_116
  let c0_i32_33 : BitVec 32 := 0#32
  let c1_i32_35 : BitVec 32 := 1#32
  let arg14 : BitVec 32 := Scf.iv c0_i32_33 c1_i32_35 k1_t9
  let c16_i32_115 : BitVec 32 := 16#32
  let v188 : BitVec 32 := Scalar.muli arg14 c16_i32_115
  let v190 : Index := Scalar.indexCast v188
  ![15, v190.toNat]
def k1_off281 (k1_t9 : Fin k1_t9_loop.trips) : Fin 2 → Nat :=
  let c16_i32_119 : BitVec 32 := 16#32
  let v199 : Index := Scalar.indexCast c16_i32_119
  let c0_i32_33 : BitVec 32 := 0#32
  let c1_i32_35 : BitVec 32 := 1#32
  let arg14 : BitVec 32 := Scf.iv c0_i32_33 c1_i32_35 k1_t9
  let c16_i32_118 : BitVec 32 := 16#32
  let v198 : BitVec 32 := Scalar.muli arg14 c16_i32_118
  let v200 : Index := Scalar.indexCast v198
  ![16, v200.toNat]
def k1_off282 (k1_t9 : Fin k1_t9_loop.trips) : Fin 2 → Nat :=
  let c17_i32 : BitVec 32 := 17#32
  let v209 : Index := Scalar.indexCast c17_i32
  let c0_i32_33 : BitVec 32 := 0#32
  let c1_i32_35 : BitVec 32 := 1#32
  let arg14 : BitVec 32 := Scf.iv c0_i32_33 c1_i32_35 k1_t9
  let c16_i32_121 : BitVec 32 := 16#32
  let v208 : BitVec 32 := Scalar.muli arg14 c16_i32_121
  let v210 : Index := Scalar.indexCast v208
  ![17, v210.toNat]
def k1_off283 (k1_t9 : Fin k1_t9_loop.trips) : Fin 2 → Nat :=
  let c18_i32 : BitVec 32 := 18#32
  let v219 : Index := Scalar.indexCast c18_i32
  let c0_i32_33 : BitVec 32 := 0#32
  let c1_i32_35 : BitVec 32 := 1#32
  let arg14 : BitVec 32 := Scf.iv c0_i32_33 c1_i32_35 k1_t9
  let c16_i32_123 : BitVec 32 := 16#32
  let v218 : BitVec 32 := Scalar.muli arg14 c16_i32_123
  let v220 : Index := Scalar.indexCast v218
  ![18, v220.toNat]
def k1_off284 (k1_t9 : Fin k1_t9_loop.trips) : Fin 2 → Nat :=
  let c19_i32 : BitVec 32 := 19#32
  let v229 : Index := Scalar.indexCast c19_i32
  let c0_i32_33 : BitVec 32 := 0#32
  let c1_i32_35 : BitVec 32 := 1#32
  let arg14 : BitVec 32 := Scf.iv c0_i32_33 c1_i32_35 k1_t9
  let c16_i32_125 : BitVec 32 := 16#32
  let v228 : BitVec 32 := Scalar.muli arg14 c16_i32_125
  let v230 : Index := Scalar.indexCast v228
  ![19, v230.toNat]
def k1_off285 (k1_t9 : Fin k1_t9_loop.trips) : Fin 2 → Nat :=
  let c20_i32 : BitVec 32 := 20#32
  let v239 : Index := Scalar.indexCast c20_i32
  let c0_i32_33 : BitVec 32 := 0#32
  let c1_i32_35 : BitVec 32 := 1#32
  let arg14 : BitVec 32 := Scf.iv c0_i32_33 c1_i32_35 k1_t9
  let c16_i32_127 : BitVec 32 := 16#32
  let v238 : BitVec 32 := Scalar.muli arg14 c16_i32_127
  let v240 : Index := Scalar.indexCast v238
  ![20, v240.toNat]
def k1_off286 (k1_t9 : Fin k1_t9_loop.trips) : Fin 2 → Nat :=
  let c21_i32 : BitVec 32 := 21#32
  let v249 : Index := Scalar.indexCast c21_i32
  let c0_i32_33 : BitVec 32 := 0#32
  let c1_i32_35 : BitVec 32 := 1#32
  let arg14 : BitVec 32 := Scf.iv c0_i32_33 c1_i32_35 k1_t9
  let c16_i32_129 : BitVec 32 := 16#32
  let v248 : BitVec 32 := Scalar.muli arg14 c16_i32_129
  let v250 : Index := Scalar.indexCast v248
  ![21, v250.toNat]
def k1_off287 (k1_t9 : Fin k1_t9_loop.trips) : Fin 2 → Nat :=
  let c22_i32 : BitVec 32 := 22#32
  let v259 : Index := Scalar.indexCast c22_i32
  let c0_i32_33 : BitVec 32 := 0#32
  let c1_i32_35 : BitVec 32 := 1#32
  let arg14 : BitVec 32 := Scf.iv c0_i32_33 c1_i32_35 k1_t9
  let c16_i32_131 : BitVec 32 := 16#32
  let v258 : BitVec 32 := Scalar.muli arg14 c16_i32_131
  let v260 : Index := Scalar.indexCast v258
  ![22, v260.toNat]
def k1_off288 (k1_t9 : Fin k1_t9_loop.trips) : Fin 2 → Nat :=
  let c23_i32 : BitVec 32 := 23#32
  let v269 : Index := Scalar.indexCast c23_i32
  let c0_i32_33 : BitVec 32 := 0#32
  let c1_i32_35 : BitVec 32 := 1#32
  let arg14 : BitVec 32 := Scf.iv c0_i32_33 c1_i32_35 k1_t9
  let c16_i32_133 : BitVec 32 := 16#32
  let v268 : BitVec 32 := Scalar.muli arg14 c16_i32_133
  let v270 : Index := Scalar.indexCast v268
  ![23, v270.toNat]
def k1_off289 (k1_t9 : Fin k1_t9_loop.trips) : Fin 2 → Nat :=
  let c24_i32 : BitVec 32 := 24#32
  let v279 : Index := Scalar.indexCast c24_i32
  let c0_i32_33 : BitVec 32 := 0#32
  let c1_i32_35 : BitVec 32 := 1#32
  let arg14 : BitVec 32 := Scf.iv c0_i32_33 c1_i32_35 k1_t9
  let c16_i32_135 : BitVec 32 := 16#32
  let v278 : BitVec 32 := Scalar.muli arg14 c16_i32_135
  let v280 : Index := Scalar.indexCast v278
  ![24, v280.toNat]
def k1_off290 (k1_t9 : Fin k1_t9_loop.trips) : Fin 2 → Nat :=
  let c25_i32 : BitVec 32 := 25#32
  let v289 : Index := Scalar.indexCast c25_i32
  let c0_i32_33 : BitVec 32 := 0#32
  let c1_i32_35 : BitVec 32 := 1#32
  let arg14 : BitVec 32 := Scf.iv c0_i32_33 c1_i32_35 k1_t9
  let c16_i32_137 : BitVec 32 := 16#32
  let v288 : BitVec 32 := Scalar.muli arg14 c16_i32_137
  let v290 : Index := Scalar.indexCast v288
  ![25, v290.toNat]
def k1_off291 (k1_t9 : Fin k1_t9_loop.trips) : Fin 2 → Nat :=
  let c26_i32 : BitVec 32 := 26#32
  let v299 : Index := Scalar.indexCast c26_i32
  let c0_i32_33 : BitVec 32 := 0#32
  let c1_i32_35 : BitVec 32 := 1#32
  let arg14 : BitVec 32 := Scf.iv c0_i32_33 c1_i32_35 k1_t9
  let c16_i32_139 : BitVec 32 := 16#32
  let v298 : BitVec 32 := Scalar.muli arg14 c16_i32_139
  let v300 : Index := Scalar.indexCast v298
  ![26, v300.toNat]
def k1_off292 (k1_t9 : Fin k1_t9_loop.trips) : Fin 2 → Nat :=
  let c27_i32 : BitVec 32 := 27#32
  let v309 : Index := Scalar.indexCast c27_i32
  let c0_i32_33 : BitVec 32 := 0#32
  let c1_i32_35 : BitVec 32 := 1#32
  let arg14 : BitVec 32 := Scf.iv c0_i32_33 c1_i32_35 k1_t9
  let c16_i32_141 : BitVec 32 := 16#32
  let v308 : BitVec 32 := Scalar.muli arg14 c16_i32_141
  let v310 : Index := Scalar.indexCast v308
  ![27, v310.toNat]
def k1_off293 (k1_t9 : Fin k1_t9_loop.trips) : Fin 2 → Nat :=
  let c28_i32 : BitVec 32 := 28#32
  let v319 : Index := Scalar.indexCast c28_i32
  let c0_i32_33 : BitVec 32 := 0#32
  let c1_i32_35 : BitVec 32 := 1#32
  let arg14 : BitVec 32 := Scf.iv c0_i32_33 c1_i32_35 k1_t9
  let c16_i32_143 : BitVec 32 := 16#32
  let v318 : BitVec 32 := Scalar.muli arg14 c16_i32_143
  let v320 : Index := Scalar.indexCast v318
  ![28, v320.toNat]
def k1_off294 (k1_t9 : Fin k1_t9_loop.trips) : Fin 2 → Nat :=
  let c29_i32 : BitVec 32 := 29#32
  let v329 : Index := Scalar.indexCast c29_i32
  let c0_i32_33 : BitVec 32 := 0#32
  let c1_i32_35 : BitVec 32 := 1#32
  let arg14 : BitVec 32 := Scf.iv c0_i32_33 c1_i32_35 k1_t9
  let c16_i32_145 : BitVec 32 := 16#32
  let v328 : BitVec 32 := Scalar.muli arg14 c16_i32_145
  let v330 : Index := Scalar.indexCast v328
  ![29, v330.toNat]
def k1_off295 (k1_t9 : Fin k1_t9_loop.trips) : Fin 2 → Nat :=
  let c30_i32 : BitVec 32 := 30#32
  let v339 : Index := Scalar.indexCast c30_i32
  let c0_i32_33 : BitVec 32 := 0#32
  let c1_i32_35 : BitVec 32 := 1#32
  let arg14 : BitVec 32 := Scf.iv c0_i32_33 c1_i32_35 k1_t9
  let c16_i32_147 : BitVec 32 := 16#32
  let v338 : BitVec 32 := Scalar.muli arg14 c16_i32_147
  let v340 : Index := Scalar.indexCast v338
  ![30, v340.toNat]
def k1_off296 (k1_t9 : Fin k1_t9_loop.trips) : Fin 2 → Nat :=
  let c31_i32 : BitVec 32 := 31#32
  let v349 : Index := Scalar.indexCast c31_i32
  let c0_i32_33 : BitVec 32 := 0#32
  let c1_i32_35 : BitVec 32 := 1#32
  let arg14 : BitVec 32 := Scf.iv c0_i32_33 c1_i32_35 k1_t9
  let c16_i32_149 : BitVec 32 := 16#32
  let v348 : BitVec 32 := Scalar.muli arg14 c16_i32_149
  let v350 : Index := Scalar.indexCast v348
  ![31, v350.toNat]
def k1_off297 (k1_t9 : Fin k1_t9_loop.trips) : Fin 1 → Nat :=
  let c16384_i32 : BitVec 32 := 16384#32
  let c0_i32_33 : BitVec 32 := 0#32
  let c1_i32_35 : BitVec 32 := 1#32
  let arg14 : BitVec 32 := Scf.iv c0_i32_33 c1_i32_35 k1_t9
  let c16_i32_151 : BitVec 32 := 16#32
  let v364 : BitVec 32 := Scalar.muli arg14 c16_i32_151
  let v365 : BitVec 32 := Scalar.addi c16384_i32 v364
  let v366 : Index := Scalar.indexCast v365
  ![v366.toNat]
@[reducible] def k1_t10_loop : Scf.Loop 32 :=
  let c0_i32_37 : BitVec 32 := 0#32
  let c128_i32_38 : BitVec 32 := 128#32
  let v22 : BitVec 32 := Scalar.addi c0_i32_37 c128_i32_38
  let c1_i32_39 : BitVec 32 := 1#32
  ⟨c0_i32_37, v22, c1_i32_39⟩
def k1_off298 (k1_t10 : Fin k1_t10_loop.trips) : Fin 2 → Nat :=
  let c0_i32_71 : BitVec 32 := 0#32
  let v39 : Index := Scalar.indexCast c0_i32_71
  let c0_i32_37 : BitVec 32 := 0#32
  let c1_i32_39 : BitVec 32 := 1#32
  let arg14 : BitVec 32 := Scf.iv c0_i32_37 c1_i32_39 k1_t10
  let c16_i32_70 : BitVec 32 := 16#32
  let v38 : BitVec 32 := Scalar.muli arg14 c16_i32_70
  let v40 : Index := Scalar.indexCast v38
  ![0, v40.toNat]
def k1_off299 (k1_t10 : Fin k1_t10_loop.trips) : Fin 2 → Nat :=
  let c1_i32_74 : BitVec 32 := 1#32
  let v49 : Index := Scalar.indexCast c1_i32_74
  let c0_i32_37 : BitVec 32 := 0#32
  let c1_i32_39 : BitVec 32 := 1#32
  let arg14 : BitVec 32 := Scf.iv c0_i32_37 c1_i32_39 k1_t10
  let c16_i32_73 : BitVec 32 := 16#32
  let v48 : BitVec 32 := Scalar.muli arg14 c16_i32_73
  let v50 : Index := Scalar.indexCast v48
  ![1, v50.toNat]
def k1_off300 (k1_t10 : Fin k1_t10_loop.trips) : Fin 2 → Nat :=
  let c2_i32_77 : BitVec 32 := 2#32
  let v59 : Index := Scalar.indexCast c2_i32_77
  let c0_i32_37 : BitVec 32 := 0#32
  let c1_i32_39 : BitVec 32 := 1#32
  let arg14 : BitVec 32 := Scf.iv c0_i32_37 c1_i32_39 k1_t10
  let c16_i32_76 : BitVec 32 := 16#32
  let v58 : BitVec 32 := Scalar.muli arg14 c16_i32_76
  let v60 : Index := Scalar.indexCast v58
  ![2, v60.toNat]
def k1_off301 (k1_t10 : Fin k1_t10_loop.trips) : Fin 2 → Nat :=
  let c3_i32_80 : BitVec 32 := 3#32
  let v69 : Index := Scalar.indexCast c3_i32_80
  let c0_i32_37 : BitVec 32 := 0#32
  let c1_i32_39 : BitVec 32 := 1#32
  let arg14 : BitVec 32 := Scf.iv c0_i32_37 c1_i32_39 k1_t10
  let c16_i32_79 : BitVec 32 := 16#32
  let v68 : BitVec 32 := Scalar.muli arg14 c16_i32_79
  let v70 : Index := Scalar.indexCast v68
  ![3, v70.toNat]
def k1_off302 (k1_t10 : Fin k1_t10_loop.trips) : Fin 2 → Nat :=
  let c4_i32_83 : BitVec 32 := 4#32
  let v79 : Index := Scalar.indexCast c4_i32_83
  let c0_i32_37 : BitVec 32 := 0#32
  let c1_i32_39 : BitVec 32 := 1#32
  let arg14 : BitVec 32 := Scf.iv c0_i32_37 c1_i32_39 k1_t10
  let c16_i32_82 : BitVec 32 := 16#32
  let v78 : BitVec 32 := Scalar.muli arg14 c16_i32_82
  let v80 : Index := Scalar.indexCast v78
  ![4, v80.toNat]
def k1_off303 (k1_t10 : Fin k1_t10_loop.trips) : Fin 2 → Nat :=
  let c5_i32_86 : BitVec 32 := 5#32
  let v89 : Index := Scalar.indexCast c5_i32_86
  let c0_i32_37 : BitVec 32 := 0#32
  let c1_i32_39 : BitVec 32 := 1#32
  let arg14 : BitVec 32 := Scf.iv c0_i32_37 c1_i32_39 k1_t10
  let c16_i32_85 : BitVec 32 := 16#32
  let v88 : BitVec 32 := Scalar.muli arg14 c16_i32_85
  let v90 : Index := Scalar.indexCast v88
  ![5, v90.toNat]
def k1_off304 (k1_t10 : Fin k1_t10_loop.trips) : Fin 2 → Nat :=
  let c6_i32_89 : BitVec 32 := 6#32
  let v99 : Index := Scalar.indexCast c6_i32_89
  let c0_i32_37 : BitVec 32 := 0#32
  let c1_i32_39 : BitVec 32 := 1#32
  let arg14 : BitVec 32 := Scf.iv c0_i32_37 c1_i32_39 k1_t10
  let c16_i32_88 : BitVec 32 := 16#32
  let v98 : BitVec 32 := Scalar.muli arg14 c16_i32_88
  let v100 : Index := Scalar.indexCast v98
  ![6, v100.toNat]
def k1_off305 (k1_t10 : Fin k1_t10_loop.trips) : Fin 2 → Nat :=
  let c7_i32_92 : BitVec 32 := 7#32
  let v109 : Index := Scalar.indexCast c7_i32_92
  let c0_i32_37 : BitVec 32 := 0#32
  let c1_i32_39 : BitVec 32 := 1#32
  let arg14 : BitVec 32 := Scf.iv c0_i32_37 c1_i32_39 k1_t10
  let c16_i32_91 : BitVec 32 := 16#32
  let v108 : BitVec 32 := Scalar.muli arg14 c16_i32_91
  let v110 : Index := Scalar.indexCast v108
  ![7, v110.toNat]
def k1_off306 (k1_t10 : Fin k1_t10_loop.trips) : Fin 2 → Nat :=
  let c8_i32_95 : BitVec 32 := 8#32
  let v119 : Index := Scalar.indexCast c8_i32_95
  let c0_i32_37 : BitVec 32 := 0#32
  let c1_i32_39 : BitVec 32 := 1#32
  let arg14 : BitVec 32 := Scf.iv c0_i32_37 c1_i32_39 k1_t10
  let c16_i32_94 : BitVec 32 := 16#32
  let v118 : BitVec 32 := Scalar.muli arg14 c16_i32_94
  let v120 : Index := Scalar.indexCast v118
  ![8, v120.toNat]
def k1_off307 (k1_t10 : Fin k1_t10_loop.trips) : Fin 2 → Nat :=
  let c9_i32_98 : BitVec 32 := 9#32
  let v129 : Index := Scalar.indexCast c9_i32_98
  let c0_i32_37 : BitVec 32 := 0#32
  let c1_i32_39 : BitVec 32 := 1#32
  let arg14 : BitVec 32 := Scf.iv c0_i32_37 c1_i32_39 k1_t10
  let c16_i32_97 : BitVec 32 := 16#32
  let v128 : BitVec 32 := Scalar.muli arg14 c16_i32_97
  let v130 : Index := Scalar.indexCast v128
  ![9, v130.toNat]
def k1_off308 (k1_t10 : Fin k1_t10_loop.trips) : Fin 2 → Nat :=
  let c10_i32_101 : BitVec 32 := 10#32
  let v139 : Index := Scalar.indexCast c10_i32_101
  let c0_i32_37 : BitVec 32 := 0#32
  let c1_i32_39 : BitVec 32 := 1#32
  let arg14 : BitVec 32 := Scf.iv c0_i32_37 c1_i32_39 k1_t10
  let c16_i32_100 : BitVec 32 := 16#32
  let v138 : BitVec 32 := Scalar.muli arg14 c16_i32_100
  let v140 : Index := Scalar.indexCast v138
  ![10, v140.toNat]
def k1_off309 (k1_t10 : Fin k1_t10_loop.trips) : Fin 2 → Nat :=
  let c11_i32_104 : BitVec 32 := 11#32
  let v149 : Index := Scalar.indexCast c11_i32_104
  let c0_i32_37 : BitVec 32 := 0#32
  let c1_i32_39 : BitVec 32 := 1#32
  let arg14 : BitVec 32 := Scf.iv c0_i32_37 c1_i32_39 k1_t10
  let c16_i32_103 : BitVec 32 := 16#32
  let v148 : BitVec 32 := Scalar.muli arg14 c16_i32_103
  let v150 : Index := Scalar.indexCast v148
  ![11, v150.toNat]
def k1_off310 (k1_t10 : Fin k1_t10_loop.trips) : Fin 2 → Nat :=
  let c12_i32_107 : BitVec 32 := 12#32
  let v159 : Index := Scalar.indexCast c12_i32_107
  let c0_i32_37 : BitVec 32 := 0#32
  let c1_i32_39 : BitVec 32 := 1#32
  let arg14 : BitVec 32 := Scf.iv c0_i32_37 c1_i32_39 k1_t10
  let c16_i32_106 : BitVec 32 := 16#32
  let v158 : BitVec 32 := Scalar.muli arg14 c16_i32_106
  let v160 : Index := Scalar.indexCast v158
  ![12, v160.toNat]
def k1_off311 (k1_t10 : Fin k1_t10_loop.trips) : Fin 2 → Nat :=
  let c13_i32_110 : BitVec 32 := 13#32
  let v169 : Index := Scalar.indexCast c13_i32_110
  let c0_i32_37 : BitVec 32 := 0#32
  let c1_i32_39 : BitVec 32 := 1#32
  let arg14 : BitVec 32 := Scf.iv c0_i32_37 c1_i32_39 k1_t10
  let c16_i32_109 : BitVec 32 := 16#32
  let v168 : BitVec 32 := Scalar.muli arg14 c16_i32_109
  let v170 : Index := Scalar.indexCast v168
  ![13, v170.toNat]
def k1_off312 (k1_t10 : Fin k1_t10_loop.trips) : Fin 2 → Nat :=
  let c14_i32_113 : BitVec 32 := 14#32
  let v179 : Index := Scalar.indexCast c14_i32_113
  let c0_i32_37 : BitVec 32 := 0#32
  let c1_i32_39 : BitVec 32 := 1#32
  let arg14 : BitVec 32 := Scf.iv c0_i32_37 c1_i32_39 k1_t10
  let c16_i32_112 : BitVec 32 := 16#32
  let v178 : BitVec 32 := Scalar.muli arg14 c16_i32_112
  let v180 : Index := Scalar.indexCast v178
  ![14, v180.toNat]
def k1_off313 (k1_t10 : Fin k1_t10_loop.trips) : Fin 2 → Nat :=
  let c15_i32_116 : BitVec 32 := 15#32
  let v189 : Index := Scalar.indexCast c15_i32_116
  let c0_i32_37 : BitVec 32 := 0#32
  let c1_i32_39 : BitVec 32 := 1#32
  let arg14 : BitVec 32 := Scf.iv c0_i32_37 c1_i32_39 k1_t10
  let c16_i32_115 : BitVec 32 := 16#32
  let v188 : BitVec 32 := Scalar.muli arg14 c16_i32_115
  let v190 : Index := Scalar.indexCast v188
  ![15, v190.toNat]
def k1_off314 (k1_t10 : Fin k1_t10_loop.trips) : Fin 2 → Nat :=
  let c16_i32_119 : BitVec 32 := 16#32
  let v199 : Index := Scalar.indexCast c16_i32_119
  let c0_i32_37 : BitVec 32 := 0#32
  let c1_i32_39 : BitVec 32 := 1#32
  let arg14 : BitVec 32 := Scf.iv c0_i32_37 c1_i32_39 k1_t10
  let c16_i32_118 : BitVec 32 := 16#32
  let v198 : BitVec 32 := Scalar.muli arg14 c16_i32_118
  let v200 : Index := Scalar.indexCast v198
  ![16, v200.toNat]
def k1_off315 (k1_t10 : Fin k1_t10_loop.trips) : Fin 2 → Nat :=
  let c17_i32 : BitVec 32 := 17#32
  let v209 : Index := Scalar.indexCast c17_i32
  let c0_i32_37 : BitVec 32 := 0#32
  let c1_i32_39 : BitVec 32 := 1#32
  let arg14 : BitVec 32 := Scf.iv c0_i32_37 c1_i32_39 k1_t10
  let c16_i32_121 : BitVec 32 := 16#32
  let v208 : BitVec 32 := Scalar.muli arg14 c16_i32_121
  let v210 : Index := Scalar.indexCast v208
  ![17, v210.toNat]
def k1_off316 (k1_t10 : Fin k1_t10_loop.trips) : Fin 2 → Nat :=
  let c18_i32 : BitVec 32 := 18#32
  let v219 : Index := Scalar.indexCast c18_i32
  let c0_i32_37 : BitVec 32 := 0#32
  let c1_i32_39 : BitVec 32 := 1#32
  let arg14 : BitVec 32 := Scf.iv c0_i32_37 c1_i32_39 k1_t10
  let c16_i32_123 : BitVec 32 := 16#32
  let v218 : BitVec 32 := Scalar.muli arg14 c16_i32_123
  let v220 : Index := Scalar.indexCast v218
  ![18, v220.toNat]
def k1_off317 (k1_t10 : Fin k1_t10_loop.trips) : Fin 2 → Nat :=
  let c19_i32 : BitVec 32 := 19#32
  let v229 : Index := Scalar.indexCast c19_i32
  let c0_i32_37 : BitVec 32 := 0#32
  let c1_i32_39 : BitVec 32 := 1#32
  let arg14 : BitVec 32 := Scf.iv c0_i32_37 c1_i32_39 k1_t10
  let c16_i32_125 : BitVec 32 := 16#32
  let v228 : BitVec 32 := Scalar.muli arg14 c16_i32_125
  let v230 : Index := Scalar.indexCast v228
  ![19, v230.toNat]
def k1_off318 (k1_t10 : Fin k1_t10_loop.trips) : Fin 2 → Nat :=
  let c20_i32 : BitVec 32 := 20#32
  let v239 : Index := Scalar.indexCast c20_i32
  let c0_i32_37 : BitVec 32 := 0#32
  let c1_i32_39 : BitVec 32 := 1#32
  let arg14 : BitVec 32 := Scf.iv c0_i32_37 c1_i32_39 k1_t10
  let c16_i32_127 : BitVec 32 := 16#32
  let v238 : BitVec 32 := Scalar.muli arg14 c16_i32_127
  let v240 : Index := Scalar.indexCast v238
  ![20, v240.toNat]
def k1_off319 (k1_t10 : Fin k1_t10_loop.trips) : Fin 2 → Nat :=
  let c21_i32 : BitVec 32 := 21#32
  let v249 : Index := Scalar.indexCast c21_i32
  let c0_i32_37 : BitVec 32 := 0#32
  let c1_i32_39 : BitVec 32 := 1#32
  let arg14 : BitVec 32 := Scf.iv c0_i32_37 c1_i32_39 k1_t10
  let c16_i32_129 : BitVec 32 := 16#32
  let v248 : BitVec 32 := Scalar.muli arg14 c16_i32_129
  let v250 : Index := Scalar.indexCast v248
  ![21, v250.toNat]
def k1_off320 (k1_t10 : Fin k1_t10_loop.trips) : Fin 2 → Nat :=
  let c22_i32 : BitVec 32 := 22#32
  let v259 : Index := Scalar.indexCast c22_i32
  let c0_i32_37 : BitVec 32 := 0#32
  let c1_i32_39 : BitVec 32 := 1#32
  let arg14 : BitVec 32 := Scf.iv c0_i32_37 c1_i32_39 k1_t10
  let c16_i32_131 : BitVec 32 := 16#32
  let v258 : BitVec 32 := Scalar.muli arg14 c16_i32_131
  let v260 : Index := Scalar.indexCast v258
  ![22, v260.toNat]
def k1_off321 (k1_t10 : Fin k1_t10_loop.trips) : Fin 2 → Nat :=
  let c23_i32 : BitVec 32 := 23#32
  let v269 : Index := Scalar.indexCast c23_i32
  let c0_i32_37 : BitVec 32 := 0#32
  let c1_i32_39 : BitVec 32 := 1#32
  let arg14 : BitVec 32 := Scf.iv c0_i32_37 c1_i32_39 k1_t10
  let c16_i32_133 : BitVec 32 := 16#32
  let v268 : BitVec 32 := Scalar.muli arg14 c16_i32_133
  let v270 : Index := Scalar.indexCast v268
  ![23, v270.toNat]
def k1_off322 (k1_t10 : Fin k1_t10_loop.trips) : Fin 2 → Nat :=
  let c24_i32 : BitVec 32 := 24#32
  let v279 : Index := Scalar.indexCast c24_i32
  let c0_i32_37 : BitVec 32 := 0#32
  let c1_i32_39 : BitVec 32 := 1#32
  let arg14 : BitVec 32 := Scf.iv c0_i32_37 c1_i32_39 k1_t10
  let c16_i32_135 : BitVec 32 := 16#32
  let v278 : BitVec 32 := Scalar.muli arg14 c16_i32_135
  let v280 : Index := Scalar.indexCast v278
  ![24, v280.toNat]
def k1_off323 (k1_t10 : Fin k1_t10_loop.trips) : Fin 2 → Nat :=
  let c25_i32 : BitVec 32 := 25#32
  let v289 : Index := Scalar.indexCast c25_i32
  let c0_i32_37 : BitVec 32 := 0#32
  let c1_i32_39 : BitVec 32 := 1#32
  let arg14 : BitVec 32 := Scf.iv c0_i32_37 c1_i32_39 k1_t10
  let c16_i32_137 : BitVec 32 := 16#32
  let v288 : BitVec 32 := Scalar.muli arg14 c16_i32_137
  let v290 : Index := Scalar.indexCast v288
  ![25, v290.toNat]
def k1_off324 (k1_t10 : Fin k1_t10_loop.trips) : Fin 2 → Nat :=
  let c26_i32 : BitVec 32 := 26#32
  let v299 : Index := Scalar.indexCast c26_i32
  let c0_i32_37 : BitVec 32 := 0#32
  let c1_i32_39 : BitVec 32 := 1#32
  let arg14 : BitVec 32 := Scf.iv c0_i32_37 c1_i32_39 k1_t10
  let c16_i32_139 : BitVec 32 := 16#32
  let v298 : BitVec 32 := Scalar.muli arg14 c16_i32_139
  let v300 : Index := Scalar.indexCast v298
  ![26, v300.toNat]
def k1_off325 (k1_t10 : Fin k1_t10_loop.trips) : Fin 2 → Nat :=
  let c27_i32 : BitVec 32 := 27#32
  let v309 : Index := Scalar.indexCast c27_i32
  let c0_i32_37 : BitVec 32 := 0#32
  let c1_i32_39 : BitVec 32 := 1#32
  let arg14 : BitVec 32 := Scf.iv c0_i32_37 c1_i32_39 k1_t10
  let c16_i32_141 : BitVec 32 := 16#32
  let v308 : BitVec 32 := Scalar.muli arg14 c16_i32_141
  let v310 : Index := Scalar.indexCast v308
  ![27, v310.toNat]
def k1_off326 (k1_t10 : Fin k1_t10_loop.trips) : Fin 2 → Nat :=
  let c28_i32 : BitVec 32 := 28#32
  let v319 : Index := Scalar.indexCast c28_i32
  let c0_i32_37 : BitVec 32 := 0#32
  let c1_i32_39 : BitVec 32 := 1#32
  let arg14 : BitVec 32 := Scf.iv c0_i32_37 c1_i32_39 k1_t10
  let c16_i32_143 : BitVec 32 := 16#32
  let v318 : BitVec 32 := Scalar.muli arg14 c16_i32_143
  let v320 : Index := Scalar.indexCast v318
  ![28, v320.toNat]
def k1_off327 (k1_t10 : Fin k1_t10_loop.trips) : Fin 2 → Nat :=
  let c29_i32 : BitVec 32 := 29#32
  let v329 : Index := Scalar.indexCast c29_i32
  let c0_i32_37 : BitVec 32 := 0#32
  let c1_i32_39 : BitVec 32 := 1#32
  let arg14 : BitVec 32 := Scf.iv c0_i32_37 c1_i32_39 k1_t10
  let c16_i32_145 : BitVec 32 := 16#32
  let v328 : BitVec 32 := Scalar.muli arg14 c16_i32_145
  let v330 : Index := Scalar.indexCast v328
  ![29, v330.toNat]
def k1_off328 (k1_t10 : Fin k1_t10_loop.trips) : Fin 2 → Nat :=
  let c30_i32 : BitVec 32 := 30#32
  let v339 : Index := Scalar.indexCast c30_i32
  let c0_i32_37 : BitVec 32 := 0#32
  let c1_i32_39 : BitVec 32 := 1#32
  let arg14 : BitVec 32 := Scf.iv c0_i32_37 c1_i32_39 k1_t10
  let c16_i32_147 : BitVec 32 := 16#32
  let v338 : BitVec 32 := Scalar.muli arg14 c16_i32_147
  let v340 : Index := Scalar.indexCast v338
  ![30, v340.toNat]
def k1_off329 (k1_t10 : Fin k1_t10_loop.trips) : Fin 2 → Nat :=
  let c31_i32 : BitVec 32 := 31#32
  let v349 : Index := Scalar.indexCast c31_i32
  let c0_i32_37 : BitVec 32 := 0#32
  let c1_i32_39 : BitVec 32 := 1#32
  let arg14 : BitVec 32 := Scf.iv c0_i32_37 c1_i32_39 k1_t10
  let c16_i32_149 : BitVec 32 := 16#32
  let v348 : BitVec 32 := Scalar.muli arg14 c16_i32_149
  let v350 : Index := Scalar.indexCast v348
  ![31, v350.toNat]
def k1_off330 (k1_t10 : Fin k1_t10_loop.trips) : Fin 1 → Nat :=
  let c18432_i32 : BitVec 32 := 18432#32
  let c0_i32_37 : BitVec 32 := 0#32
  let c1_i32_39 : BitVec 32 := 1#32
  let arg14 : BitVec 32 := Scf.iv c0_i32_37 c1_i32_39 k1_t10
  let c16_i32_151 : BitVec 32 := 16#32
  let v364 : BitVec 32 := Scalar.muli arg14 c16_i32_151
  let v365 : BitVec 32 := Scalar.addi c18432_i32 v364
  let v366 : Index := Scalar.indexCast v365
  ![v366.toNat]
@[reducible] def k1_t11_loop : Scf.Loop 32 :=
  let c0_i32_41 : BitVec 32 := 0#32
  let c128_i32_42 : BitVec 32 := 128#32
  let v24 : BitVec 32 := Scalar.addi c0_i32_41 c128_i32_42
  let c1_i32_43 : BitVec 32 := 1#32
  ⟨c0_i32_41, v24, c1_i32_43⟩
def k1_off331 (k1_t11 : Fin k1_t11_loop.trips) : Fin 2 → Nat :=
  let c0_i32_71 : BitVec 32 := 0#32
  let v39 : Index := Scalar.indexCast c0_i32_71
  let c0_i32_41 : BitVec 32 := 0#32
  let c1_i32_43 : BitVec 32 := 1#32
  let arg14 : BitVec 32 := Scf.iv c0_i32_41 c1_i32_43 k1_t11
  let c16_i32_70 : BitVec 32 := 16#32
  let v38 : BitVec 32 := Scalar.muli arg14 c16_i32_70
  let v40 : Index := Scalar.indexCast v38
  ![0, v40.toNat]
def k1_off332 (k1_t11 : Fin k1_t11_loop.trips) : Fin 2 → Nat :=
  let c1_i32_74 : BitVec 32 := 1#32
  let v49 : Index := Scalar.indexCast c1_i32_74
  let c0_i32_41 : BitVec 32 := 0#32
  let c1_i32_43 : BitVec 32 := 1#32
  let arg14 : BitVec 32 := Scf.iv c0_i32_41 c1_i32_43 k1_t11
  let c16_i32_73 : BitVec 32 := 16#32
  let v48 : BitVec 32 := Scalar.muli arg14 c16_i32_73
  let v50 : Index := Scalar.indexCast v48
  ![1, v50.toNat]
def k1_off333 (k1_t11 : Fin k1_t11_loop.trips) : Fin 2 → Nat :=
  let c2_i32_77 : BitVec 32 := 2#32
  let v59 : Index := Scalar.indexCast c2_i32_77
  let c0_i32_41 : BitVec 32 := 0#32
  let c1_i32_43 : BitVec 32 := 1#32
  let arg14 : BitVec 32 := Scf.iv c0_i32_41 c1_i32_43 k1_t11
  let c16_i32_76 : BitVec 32 := 16#32
  let v58 : BitVec 32 := Scalar.muli arg14 c16_i32_76
  let v60 : Index := Scalar.indexCast v58
  ![2, v60.toNat]
def k1_off334 (k1_t11 : Fin k1_t11_loop.trips) : Fin 2 → Nat :=
  let c3_i32_80 : BitVec 32 := 3#32
  let v69 : Index := Scalar.indexCast c3_i32_80
  let c0_i32_41 : BitVec 32 := 0#32
  let c1_i32_43 : BitVec 32 := 1#32
  let arg14 : BitVec 32 := Scf.iv c0_i32_41 c1_i32_43 k1_t11
  let c16_i32_79 : BitVec 32 := 16#32
  let v68 : BitVec 32 := Scalar.muli arg14 c16_i32_79
  let v70 : Index := Scalar.indexCast v68
  ![3, v70.toNat]
def k1_off335 (k1_t11 : Fin k1_t11_loop.trips) : Fin 2 → Nat :=
  let c4_i32_83 : BitVec 32 := 4#32
  let v79 : Index := Scalar.indexCast c4_i32_83
  let c0_i32_41 : BitVec 32 := 0#32
  let c1_i32_43 : BitVec 32 := 1#32
  let arg14 : BitVec 32 := Scf.iv c0_i32_41 c1_i32_43 k1_t11
  let c16_i32_82 : BitVec 32 := 16#32
  let v78 : BitVec 32 := Scalar.muli arg14 c16_i32_82
  let v80 : Index := Scalar.indexCast v78
  ![4, v80.toNat]
def k1_off336 (k1_t11 : Fin k1_t11_loop.trips) : Fin 2 → Nat :=
  let c5_i32_86 : BitVec 32 := 5#32
  let v89 : Index := Scalar.indexCast c5_i32_86
  let c0_i32_41 : BitVec 32 := 0#32
  let c1_i32_43 : BitVec 32 := 1#32
  let arg14 : BitVec 32 := Scf.iv c0_i32_41 c1_i32_43 k1_t11
  let c16_i32_85 : BitVec 32 := 16#32
  let v88 : BitVec 32 := Scalar.muli arg14 c16_i32_85
  let v90 : Index := Scalar.indexCast v88
  ![5, v90.toNat]
def k1_off337 (k1_t11 : Fin k1_t11_loop.trips) : Fin 2 → Nat :=
  let c6_i32_89 : BitVec 32 := 6#32
  let v99 : Index := Scalar.indexCast c6_i32_89
  let c0_i32_41 : BitVec 32 := 0#32
  let c1_i32_43 : BitVec 32 := 1#32
  let arg14 : BitVec 32 := Scf.iv c0_i32_41 c1_i32_43 k1_t11
  let c16_i32_88 : BitVec 32 := 16#32
  let v98 : BitVec 32 := Scalar.muli arg14 c16_i32_88
  let v100 : Index := Scalar.indexCast v98
  ![6, v100.toNat]
def k1_off338 (k1_t11 : Fin k1_t11_loop.trips) : Fin 2 → Nat :=
  let c7_i32_92 : BitVec 32 := 7#32
  let v109 : Index := Scalar.indexCast c7_i32_92
  let c0_i32_41 : BitVec 32 := 0#32
  let c1_i32_43 : BitVec 32 := 1#32
  let arg14 : BitVec 32 := Scf.iv c0_i32_41 c1_i32_43 k1_t11
  let c16_i32_91 : BitVec 32 := 16#32
  let v108 : BitVec 32 := Scalar.muli arg14 c16_i32_91
  let v110 : Index := Scalar.indexCast v108
  ![7, v110.toNat]
def k1_off339 (k1_t11 : Fin k1_t11_loop.trips) : Fin 2 → Nat :=
  let c8_i32_95 : BitVec 32 := 8#32
  let v119 : Index := Scalar.indexCast c8_i32_95
  let c0_i32_41 : BitVec 32 := 0#32
  let c1_i32_43 : BitVec 32 := 1#32
  let arg14 : BitVec 32 := Scf.iv c0_i32_41 c1_i32_43 k1_t11
  let c16_i32_94 : BitVec 32 := 16#32
  let v118 : BitVec 32 := Scalar.muli arg14 c16_i32_94
  let v120 : Index := Scalar.indexCast v118
  ![8, v120.toNat]
def k1_off340 (k1_t11 : Fin k1_t11_loop.trips) : Fin 2 → Nat :=
  let c9_i32_98 : BitVec 32 := 9#32
  let v129 : Index := Scalar.indexCast c9_i32_98
  let c0_i32_41 : BitVec 32 := 0#32
  let c1_i32_43 : BitVec 32 := 1#32
  let arg14 : BitVec 32 := Scf.iv c0_i32_41 c1_i32_43 k1_t11
  let c16_i32_97 : BitVec 32 := 16#32
  let v128 : BitVec 32 := Scalar.muli arg14 c16_i32_97
  let v130 : Index := Scalar.indexCast v128
  ![9, v130.toNat]
def k1_off341 (k1_t11 : Fin k1_t11_loop.trips) : Fin 2 → Nat :=
  let c10_i32_101 : BitVec 32 := 10#32
  let v139 : Index := Scalar.indexCast c10_i32_101
  let c0_i32_41 : BitVec 32 := 0#32
  let c1_i32_43 : BitVec 32 := 1#32
  let arg14 : BitVec 32 := Scf.iv c0_i32_41 c1_i32_43 k1_t11
  let c16_i32_100 : BitVec 32 := 16#32
  let v138 : BitVec 32 := Scalar.muli arg14 c16_i32_100
  let v140 : Index := Scalar.indexCast v138
  ![10, v140.toNat]
def k1_off342 (k1_t11 : Fin k1_t11_loop.trips) : Fin 2 → Nat :=
  let c11_i32_104 : BitVec 32 := 11#32
  let v149 : Index := Scalar.indexCast c11_i32_104
  let c0_i32_41 : BitVec 32 := 0#32
  let c1_i32_43 : BitVec 32 := 1#32
  let arg14 : BitVec 32 := Scf.iv c0_i32_41 c1_i32_43 k1_t11
  let c16_i32_103 : BitVec 32 := 16#32
  let v148 : BitVec 32 := Scalar.muli arg14 c16_i32_103
  let v150 : Index := Scalar.indexCast v148
  ![11, v150.toNat]
def k1_off343 (k1_t11 : Fin k1_t11_loop.trips) : Fin 2 → Nat :=
  let c12_i32_107 : BitVec 32 := 12#32
  let v159 : Index := Scalar.indexCast c12_i32_107
  let c0_i32_41 : BitVec 32 := 0#32
  let c1_i32_43 : BitVec 32 := 1#32
  let arg14 : BitVec 32 := Scf.iv c0_i32_41 c1_i32_43 k1_t11
  let c16_i32_106 : BitVec 32 := 16#32
  let v158 : BitVec 32 := Scalar.muli arg14 c16_i32_106
  let v160 : Index := Scalar.indexCast v158
  ![12, v160.toNat]
def k1_off344 (k1_t11 : Fin k1_t11_loop.trips) : Fin 2 → Nat :=
  let c13_i32_110 : BitVec 32 := 13#32
  let v169 : Index := Scalar.indexCast c13_i32_110
  let c0_i32_41 : BitVec 32 := 0#32
  let c1_i32_43 : BitVec 32 := 1#32
  let arg14 : BitVec 32 := Scf.iv c0_i32_41 c1_i32_43 k1_t11
  let c16_i32_109 : BitVec 32 := 16#32
  let v168 : BitVec 32 := Scalar.muli arg14 c16_i32_109
  let v170 : Index := Scalar.indexCast v168
  ![13, v170.toNat]
def k1_off345 (k1_t11 : Fin k1_t11_loop.trips) : Fin 2 → Nat :=
  let c14_i32_113 : BitVec 32 := 14#32
  let v179 : Index := Scalar.indexCast c14_i32_113
  let c0_i32_41 : BitVec 32 := 0#32
  let c1_i32_43 : BitVec 32 := 1#32
  let arg14 : BitVec 32 := Scf.iv c0_i32_41 c1_i32_43 k1_t11
  let c16_i32_112 : BitVec 32 := 16#32
  let v178 : BitVec 32 := Scalar.muli arg14 c16_i32_112
  let v180 : Index := Scalar.indexCast v178
  ![14, v180.toNat]
def k1_off346 (k1_t11 : Fin k1_t11_loop.trips) : Fin 2 → Nat :=
  let c15_i32_116 : BitVec 32 := 15#32
  let v189 : Index := Scalar.indexCast c15_i32_116
  let c0_i32_41 : BitVec 32 := 0#32
  let c1_i32_43 : BitVec 32 := 1#32
  let arg14 : BitVec 32 := Scf.iv c0_i32_41 c1_i32_43 k1_t11
  let c16_i32_115 : BitVec 32 := 16#32
  let v188 : BitVec 32 := Scalar.muli arg14 c16_i32_115
  let v190 : Index := Scalar.indexCast v188
  ![15, v190.toNat]
def k1_off347 (k1_t11 : Fin k1_t11_loop.trips) : Fin 2 → Nat :=
  let c16_i32_119 : BitVec 32 := 16#32
  let v199 : Index := Scalar.indexCast c16_i32_119
  let c0_i32_41 : BitVec 32 := 0#32
  let c1_i32_43 : BitVec 32 := 1#32
  let arg14 : BitVec 32 := Scf.iv c0_i32_41 c1_i32_43 k1_t11
  let c16_i32_118 : BitVec 32 := 16#32
  let v198 : BitVec 32 := Scalar.muli arg14 c16_i32_118
  let v200 : Index := Scalar.indexCast v198
  ![16, v200.toNat]
def k1_off348 (k1_t11 : Fin k1_t11_loop.trips) : Fin 2 → Nat :=
  let c17_i32 : BitVec 32 := 17#32
  let v209 : Index := Scalar.indexCast c17_i32
  let c0_i32_41 : BitVec 32 := 0#32
  let c1_i32_43 : BitVec 32 := 1#32
  let arg14 : BitVec 32 := Scf.iv c0_i32_41 c1_i32_43 k1_t11
  let c16_i32_121 : BitVec 32 := 16#32
  let v208 : BitVec 32 := Scalar.muli arg14 c16_i32_121
  let v210 : Index := Scalar.indexCast v208
  ![17, v210.toNat]
def k1_off349 (k1_t11 : Fin k1_t11_loop.trips) : Fin 2 → Nat :=
  let c18_i32 : BitVec 32 := 18#32
  let v219 : Index := Scalar.indexCast c18_i32
  let c0_i32_41 : BitVec 32 := 0#32
  let c1_i32_43 : BitVec 32 := 1#32
  let arg14 : BitVec 32 := Scf.iv c0_i32_41 c1_i32_43 k1_t11
  let c16_i32_123 : BitVec 32 := 16#32
  let v218 : BitVec 32 := Scalar.muli arg14 c16_i32_123
  let v220 : Index := Scalar.indexCast v218
  ![18, v220.toNat]
def k1_off350 (k1_t11 : Fin k1_t11_loop.trips) : Fin 2 → Nat :=
  let c19_i32 : BitVec 32 := 19#32
  let v229 : Index := Scalar.indexCast c19_i32
  let c0_i32_41 : BitVec 32 := 0#32
  let c1_i32_43 : BitVec 32 := 1#32
  let arg14 : BitVec 32 := Scf.iv c0_i32_41 c1_i32_43 k1_t11
  let c16_i32_125 : BitVec 32 := 16#32
  let v228 : BitVec 32 := Scalar.muli arg14 c16_i32_125
  let v230 : Index := Scalar.indexCast v228
  ![19, v230.toNat]
def k1_off351 (k1_t11 : Fin k1_t11_loop.trips) : Fin 2 → Nat :=
  let c20_i32 : BitVec 32 := 20#32
  let v239 : Index := Scalar.indexCast c20_i32
  let c0_i32_41 : BitVec 32 := 0#32
  let c1_i32_43 : BitVec 32 := 1#32
  let arg14 : BitVec 32 := Scf.iv c0_i32_41 c1_i32_43 k1_t11
  let c16_i32_127 : BitVec 32 := 16#32
  let v238 : BitVec 32 := Scalar.muli arg14 c16_i32_127
  let v240 : Index := Scalar.indexCast v238
  ![20, v240.toNat]
def k1_off352 (k1_t11 : Fin k1_t11_loop.trips) : Fin 2 → Nat :=
  let c21_i32 : BitVec 32 := 21#32
  let v249 : Index := Scalar.indexCast c21_i32
  let c0_i32_41 : BitVec 32 := 0#32
  let c1_i32_43 : BitVec 32 := 1#32
  let arg14 : BitVec 32 := Scf.iv c0_i32_41 c1_i32_43 k1_t11
  let c16_i32_129 : BitVec 32 := 16#32
  let v248 : BitVec 32 := Scalar.muli arg14 c16_i32_129
  let v250 : Index := Scalar.indexCast v248
  ![21, v250.toNat]
def k1_off353 (k1_t11 : Fin k1_t11_loop.trips) : Fin 2 → Nat :=
  let c22_i32 : BitVec 32 := 22#32
  let v259 : Index := Scalar.indexCast c22_i32
  let c0_i32_41 : BitVec 32 := 0#32
  let c1_i32_43 : BitVec 32 := 1#32
  let arg14 : BitVec 32 := Scf.iv c0_i32_41 c1_i32_43 k1_t11
  let c16_i32_131 : BitVec 32 := 16#32
  let v258 : BitVec 32 := Scalar.muli arg14 c16_i32_131
  let v260 : Index := Scalar.indexCast v258
  ![22, v260.toNat]
def k1_off354 (k1_t11 : Fin k1_t11_loop.trips) : Fin 2 → Nat :=
  let c23_i32 : BitVec 32 := 23#32
  let v269 : Index := Scalar.indexCast c23_i32
  let c0_i32_41 : BitVec 32 := 0#32
  let c1_i32_43 : BitVec 32 := 1#32
  let arg14 : BitVec 32 := Scf.iv c0_i32_41 c1_i32_43 k1_t11
  let c16_i32_133 : BitVec 32 := 16#32
  let v268 : BitVec 32 := Scalar.muli arg14 c16_i32_133
  let v270 : Index := Scalar.indexCast v268
  ![23, v270.toNat]
def k1_off355 (k1_t11 : Fin k1_t11_loop.trips) : Fin 2 → Nat :=
  let c24_i32 : BitVec 32 := 24#32
  let v279 : Index := Scalar.indexCast c24_i32
  let c0_i32_41 : BitVec 32 := 0#32
  let c1_i32_43 : BitVec 32 := 1#32
  let arg14 : BitVec 32 := Scf.iv c0_i32_41 c1_i32_43 k1_t11
  let c16_i32_135 : BitVec 32 := 16#32
  let v278 : BitVec 32 := Scalar.muli arg14 c16_i32_135
  let v280 : Index := Scalar.indexCast v278
  ![24, v280.toNat]
def k1_off356 (k1_t11 : Fin k1_t11_loop.trips) : Fin 2 → Nat :=
  let c25_i32 : BitVec 32 := 25#32
  let v289 : Index := Scalar.indexCast c25_i32
  let c0_i32_41 : BitVec 32 := 0#32
  let c1_i32_43 : BitVec 32 := 1#32
  let arg14 : BitVec 32 := Scf.iv c0_i32_41 c1_i32_43 k1_t11
  let c16_i32_137 : BitVec 32 := 16#32
  let v288 : BitVec 32 := Scalar.muli arg14 c16_i32_137
  let v290 : Index := Scalar.indexCast v288
  ![25, v290.toNat]
def k1_off357 (k1_t11 : Fin k1_t11_loop.trips) : Fin 2 → Nat :=
  let c26_i32 : BitVec 32 := 26#32
  let v299 : Index := Scalar.indexCast c26_i32
  let c0_i32_41 : BitVec 32 := 0#32
  let c1_i32_43 : BitVec 32 := 1#32
  let arg14 : BitVec 32 := Scf.iv c0_i32_41 c1_i32_43 k1_t11
  let c16_i32_139 : BitVec 32 := 16#32
  let v298 : BitVec 32 := Scalar.muli arg14 c16_i32_139
  let v300 : Index := Scalar.indexCast v298
  ![26, v300.toNat]
def k1_off358 (k1_t11 : Fin k1_t11_loop.trips) : Fin 2 → Nat :=
  let c27_i32 : BitVec 32 := 27#32
  let v309 : Index := Scalar.indexCast c27_i32
  let c0_i32_41 : BitVec 32 := 0#32
  let c1_i32_43 : BitVec 32 := 1#32
  let arg14 : BitVec 32 := Scf.iv c0_i32_41 c1_i32_43 k1_t11
  let c16_i32_141 : BitVec 32 := 16#32
  let v308 : BitVec 32 := Scalar.muli arg14 c16_i32_141
  let v310 : Index := Scalar.indexCast v308
  ![27, v310.toNat]
def k1_off359 (k1_t11 : Fin k1_t11_loop.trips) : Fin 2 → Nat :=
  let c28_i32 : BitVec 32 := 28#32
  let v319 : Index := Scalar.indexCast c28_i32
  let c0_i32_41 : BitVec 32 := 0#32
  let c1_i32_43 : BitVec 32 := 1#32
  let arg14 : BitVec 32 := Scf.iv c0_i32_41 c1_i32_43 k1_t11
  let c16_i32_143 : BitVec 32 := 16#32
  let v318 : BitVec 32 := Scalar.muli arg14 c16_i32_143
  let v320 : Index := Scalar.indexCast v318
  ![28, v320.toNat]
def k1_off360 (k1_t11 : Fin k1_t11_loop.trips) : Fin 2 → Nat :=
  let c29_i32 : BitVec 32 := 29#32
  let v329 : Index := Scalar.indexCast c29_i32
  let c0_i32_41 : BitVec 32 := 0#32
  let c1_i32_43 : BitVec 32 := 1#32
  let arg14 : BitVec 32 := Scf.iv c0_i32_41 c1_i32_43 k1_t11
  let c16_i32_145 : BitVec 32 := 16#32
  let v328 : BitVec 32 := Scalar.muli arg14 c16_i32_145
  let v330 : Index := Scalar.indexCast v328
  ![29, v330.toNat]
def k1_off361 (k1_t11 : Fin k1_t11_loop.trips) : Fin 2 → Nat :=
  let c30_i32 : BitVec 32 := 30#32
  let v339 : Index := Scalar.indexCast c30_i32
  let c0_i32_41 : BitVec 32 := 0#32
  let c1_i32_43 : BitVec 32 := 1#32
  let arg14 : BitVec 32 := Scf.iv c0_i32_41 c1_i32_43 k1_t11
  let c16_i32_147 : BitVec 32 := 16#32
  let v338 : BitVec 32 := Scalar.muli arg14 c16_i32_147
  let v340 : Index := Scalar.indexCast v338
  ![30, v340.toNat]
def k1_off362 (k1_t11 : Fin k1_t11_loop.trips) : Fin 2 → Nat :=
  let c31_i32 : BitVec 32 := 31#32
  let v349 : Index := Scalar.indexCast c31_i32
  let c0_i32_41 : BitVec 32 := 0#32
  let c1_i32_43 : BitVec 32 := 1#32
  let arg14 : BitVec 32 := Scf.iv c0_i32_41 c1_i32_43 k1_t11
  let c16_i32_149 : BitVec 32 := 16#32
  let v348 : BitVec 32 := Scalar.muli arg14 c16_i32_149
  let v350 : Index := Scalar.indexCast v348
  ![31, v350.toNat]
def k1_off363 (k1_t11 : Fin k1_t11_loop.trips) : Fin 1 → Nat :=
  let c20480_i32 : BitVec 32 := 20480#32
  let c0_i32_41 : BitVec 32 := 0#32
  let c1_i32_43 : BitVec 32 := 1#32
  let arg14 : BitVec 32 := Scf.iv c0_i32_41 c1_i32_43 k1_t11
  let c16_i32_151 : BitVec 32 := 16#32
  let v364 : BitVec 32 := Scalar.muli arg14 c16_i32_151
  let v365 : BitVec 32 := Scalar.addi c20480_i32 v364
  let v366 : Index := Scalar.indexCast v365
  ![v366.toNat]
@[reducible] def k1_t12_loop : Scf.Loop 32 :=
  let c0_i32_45 : BitVec 32 := 0#32
  let c128_i32_46 : BitVec 32 := 128#32
  let v26 : BitVec 32 := Scalar.addi c0_i32_45 c128_i32_46
  let c1_i32_47 : BitVec 32 := 1#32
  ⟨c0_i32_45, v26, c1_i32_47⟩
def k1_off364 (k1_t12 : Fin k1_t12_loop.trips) : Fin 2 → Nat :=
  let c0_i32_71 : BitVec 32 := 0#32
  let v39 : Index := Scalar.indexCast c0_i32_71
  let c0_i32_45 : BitVec 32 := 0#32
  let c1_i32_47 : BitVec 32 := 1#32
  let arg14 : BitVec 32 := Scf.iv c0_i32_45 c1_i32_47 k1_t12
  let c16_i32_70 : BitVec 32 := 16#32
  let v38 : BitVec 32 := Scalar.muli arg14 c16_i32_70
  let v40 : Index := Scalar.indexCast v38
  ![0, v40.toNat]
def k1_off365 (k1_t12 : Fin k1_t12_loop.trips) : Fin 2 → Nat :=
  let c1_i32_74 : BitVec 32 := 1#32
  let v49 : Index := Scalar.indexCast c1_i32_74
  let c0_i32_45 : BitVec 32 := 0#32
  let c1_i32_47 : BitVec 32 := 1#32
  let arg14 : BitVec 32 := Scf.iv c0_i32_45 c1_i32_47 k1_t12
  let c16_i32_73 : BitVec 32 := 16#32
  let v48 : BitVec 32 := Scalar.muli arg14 c16_i32_73
  let v50 : Index := Scalar.indexCast v48
  ![1, v50.toNat]
def k1_off366 (k1_t12 : Fin k1_t12_loop.trips) : Fin 2 → Nat :=
  let c2_i32_77 : BitVec 32 := 2#32
  let v59 : Index := Scalar.indexCast c2_i32_77
  let c0_i32_45 : BitVec 32 := 0#32
  let c1_i32_47 : BitVec 32 := 1#32
  let arg14 : BitVec 32 := Scf.iv c0_i32_45 c1_i32_47 k1_t12
  let c16_i32_76 : BitVec 32 := 16#32
  let v58 : BitVec 32 := Scalar.muli arg14 c16_i32_76
  let v60 : Index := Scalar.indexCast v58
  ![2, v60.toNat]
def k1_off367 (k1_t12 : Fin k1_t12_loop.trips) : Fin 2 → Nat :=
  let c3_i32_80 : BitVec 32 := 3#32
  let v69 : Index := Scalar.indexCast c3_i32_80
  let c0_i32_45 : BitVec 32 := 0#32
  let c1_i32_47 : BitVec 32 := 1#32
  let arg14 : BitVec 32 := Scf.iv c0_i32_45 c1_i32_47 k1_t12
  let c16_i32_79 : BitVec 32 := 16#32
  let v68 : BitVec 32 := Scalar.muli arg14 c16_i32_79
  let v70 : Index := Scalar.indexCast v68
  ![3, v70.toNat]
def k1_off368 (k1_t12 : Fin k1_t12_loop.trips) : Fin 2 → Nat :=
  let c4_i32_83 : BitVec 32 := 4#32
  let v79 : Index := Scalar.indexCast c4_i32_83
  let c0_i32_45 : BitVec 32 := 0#32
  let c1_i32_47 : BitVec 32 := 1#32
  let arg14 : BitVec 32 := Scf.iv c0_i32_45 c1_i32_47 k1_t12
  let c16_i32_82 : BitVec 32 := 16#32
  let v78 : BitVec 32 := Scalar.muli arg14 c16_i32_82
  let v80 : Index := Scalar.indexCast v78
  ![4, v80.toNat]
def k1_off369 (k1_t12 : Fin k1_t12_loop.trips) : Fin 2 → Nat :=
  let c5_i32_86 : BitVec 32 := 5#32
  let v89 : Index := Scalar.indexCast c5_i32_86
  let c0_i32_45 : BitVec 32 := 0#32
  let c1_i32_47 : BitVec 32 := 1#32
  let arg14 : BitVec 32 := Scf.iv c0_i32_45 c1_i32_47 k1_t12
  let c16_i32_85 : BitVec 32 := 16#32
  let v88 : BitVec 32 := Scalar.muli arg14 c16_i32_85
  let v90 : Index := Scalar.indexCast v88
  ![5, v90.toNat]
def k1_off370 (k1_t12 : Fin k1_t12_loop.trips) : Fin 2 → Nat :=
  let c6_i32_89 : BitVec 32 := 6#32
  let v99 : Index := Scalar.indexCast c6_i32_89
  let c0_i32_45 : BitVec 32 := 0#32
  let c1_i32_47 : BitVec 32 := 1#32
  let arg14 : BitVec 32 := Scf.iv c0_i32_45 c1_i32_47 k1_t12
  let c16_i32_88 : BitVec 32 := 16#32
  let v98 : BitVec 32 := Scalar.muli arg14 c16_i32_88
  let v100 : Index := Scalar.indexCast v98
  ![6, v100.toNat]
def k1_off371 (k1_t12 : Fin k1_t12_loop.trips) : Fin 2 → Nat :=
  let c7_i32_92 : BitVec 32 := 7#32
  let v109 : Index := Scalar.indexCast c7_i32_92
  let c0_i32_45 : BitVec 32 := 0#32
  let c1_i32_47 : BitVec 32 := 1#32
  let arg14 : BitVec 32 := Scf.iv c0_i32_45 c1_i32_47 k1_t12
  let c16_i32_91 : BitVec 32 := 16#32
  let v108 : BitVec 32 := Scalar.muli arg14 c16_i32_91
  let v110 : Index := Scalar.indexCast v108
  ![7, v110.toNat]
def k1_off372 (k1_t12 : Fin k1_t12_loop.trips) : Fin 2 → Nat :=
  let c8_i32_95 : BitVec 32 := 8#32
  let v119 : Index := Scalar.indexCast c8_i32_95
  let c0_i32_45 : BitVec 32 := 0#32
  let c1_i32_47 : BitVec 32 := 1#32
  let arg14 : BitVec 32 := Scf.iv c0_i32_45 c1_i32_47 k1_t12
  let c16_i32_94 : BitVec 32 := 16#32
  let v118 : BitVec 32 := Scalar.muli arg14 c16_i32_94
  let v120 : Index := Scalar.indexCast v118
  ![8, v120.toNat]
def k1_off373 (k1_t12 : Fin k1_t12_loop.trips) : Fin 2 → Nat :=
  let c9_i32_98 : BitVec 32 := 9#32
  let v129 : Index := Scalar.indexCast c9_i32_98
  let c0_i32_45 : BitVec 32 := 0#32
  let c1_i32_47 : BitVec 32 := 1#32
  let arg14 : BitVec 32 := Scf.iv c0_i32_45 c1_i32_47 k1_t12
  let c16_i32_97 : BitVec 32 := 16#32
  let v128 : BitVec 32 := Scalar.muli arg14 c16_i32_97
  let v130 : Index := Scalar.indexCast v128
  ![9, v130.toNat]
def k1_off374 (k1_t12 : Fin k1_t12_loop.trips) : Fin 2 → Nat :=
  let c10_i32_101 : BitVec 32 := 10#32
  let v139 : Index := Scalar.indexCast c10_i32_101
  let c0_i32_45 : BitVec 32 := 0#32
  let c1_i32_47 : BitVec 32 := 1#32
  let arg14 : BitVec 32 := Scf.iv c0_i32_45 c1_i32_47 k1_t12
  let c16_i32_100 : BitVec 32 := 16#32
  let v138 : BitVec 32 := Scalar.muli arg14 c16_i32_100
  let v140 : Index := Scalar.indexCast v138
  ![10, v140.toNat]
def k1_off375 (k1_t12 : Fin k1_t12_loop.trips) : Fin 2 → Nat :=
  let c11_i32_104 : BitVec 32 := 11#32
  let v149 : Index := Scalar.indexCast c11_i32_104
  let c0_i32_45 : BitVec 32 := 0#32
  let c1_i32_47 : BitVec 32 := 1#32
  let arg14 : BitVec 32 := Scf.iv c0_i32_45 c1_i32_47 k1_t12
  let c16_i32_103 : BitVec 32 := 16#32
  let v148 : BitVec 32 := Scalar.muli arg14 c16_i32_103
  let v150 : Index := Scalar.indexCast v148
  ![11, v150.toNat]
def k1_off376 (k1_t12 : Fin k1_t12_loop.trips) : Fin 2 → Nat :=
  let c12_i32_107 : BitVec 32 := 12#32
  let v159 : Index := Scalar.indexCast c12_i32_107
  let c0_i32_45 : BitVec 32 := 0#32
  let c1_i32_47 : BitVec 32 := 1#32
  let arg14 : BitVec 32 := Scf.iv c0_i32_45 c1_i32_47 k1_t12
  let c16_i32_106 : BitVec 32 := 16#32
  let v158 : BitVec 32 := Scalar.muli arg14 c16_i32_106
  let v160 : Index := Scalar.indexCast v158
  ![12, v160.toNat]
def k1_off377 (k1_t12 : Fin k1_t12_loop.trips) : Fin 2 → Nat :=
  let c13_i32_110 : BitVec 32 := 13#32
  let v169 : Index := Scalar.indexCast c13_i32_110
  let c0_i32_45 : BitVec 32 := 0#32
  let c1_i32_47 : BitVec 32 := 1#32
  let arg14 : BitVec 32 := Scf.iv c0_i32_45 c1_i32_47 k1_t12
  let c16_i32_109 : BitVec 32 := 16#32
  let v168 : BitVec 32 := Scalar.muli arg14 c16_i32_109
  let v170 : Index := Scalar.indexCast v168
  ![13, v170.toNat]
def k1_off378 (k1_t12 : Fin k1_t12_loop.trips) : Fin 2 → Nat :=
  let c14_i32_113 : BitVec 32 := 14#32
  let v179 : Index := Scalar.indexCast c14_i32_113
  let c0_i32_45 : BitVec 32 := 0#32
  let c1_i32_47 : BitVec 32 := 1#32
  let arg14 : BitVec 32 := Scf.iv c0_i32_45 c1_i32_47 k1_t12
  let c16_i32_112 : BitVec 32 := 16#32
  let v178 : BitVec 32 := Scalar.muli arg14 c16_i32_112
  let v180 : Index := Scalar.indexCast v178
  ![14, v180.toNat]
def k1_off379 (k1_t12 : Fin k1_t12_loop.trips) : Fin 2 → Nat :=
  let c15_i32_116 : BitVec 32 := 15#32
  let v189 : Index := Scalar.indexCast c15_i32_116
  let c0_i32_45 : BitVec 32 := 0#32
  let c1_i32_47 : BitVec 32 := 1#32
  let arg14 : BitVec 32 := Scf.iv c0_i32_45 c1_i32_47 k1_t12
  let c16_i32_115 : BitVec 32 := 16#32
  let v188 : BitVec 32 := Scalar.muli arg14 c16_i32_115
  let v190 : Index := Scalar.indexCast v188
  ![15, v190.toNat]
def k1_off380 (k1_t12 : Fin k1_t12_loop.trips) : Fin 2 → Nat :=
  let c16_i32_119 : BitVec 32 := 16#32
  let v199 : Index := Scalar.indexCast c16_i32_119
  let c0_i32_45 : BitVec 32 := 0#32
  let c1_i32_47 : BitVec 32 := 1#32
  let arg14 : BitVec 32 := Scf.iv c0_i32_45 c1_i32_47 k1_t12
  let c16_i32_118 : BitVec 32 := 16#32
  let v198 : BitVec 32 := Scalar.muli arg14 c16_i32_118
  let v200 : Index := Scalar.indexCast v198
  ![16, v200.toNat]
def k1_off381 (k1_t12 : Fin k1_t12_loop.trips) : Fin 2 → Nat :=
  let c17_i32 : BitVec 32 := 17#32
  let v209 : Index := Scalar.indexCast c17_i32
  let c0_i32_45 : BitVec 32 := 0#32
  let c1_i32_47 : BitVec 32 := 1#32
  let arg14 : BitVec 32 := Scf.iv c0_i32_45 c1_i32_47 k1_t12
  let c16_i32_121 : BitVec 32 := 16#32
  let v208 : BitVec 32 := Scalar.muli arg14 c16_i32_121
  let v210 : Index := Scalar.indexCast v208
  ![17, v210.toNat]
def k1_off382 (k1_t12 : Fin k1_t12_loop.trips) : Fin 2 → Nat :=
  let c18_i32 : BitVec 32 := 18#32
  let v219 : Index := Scalar.indexCast c18_i32
  let c0_i32_45 : BitVec 32 := 0#32
  let c1_i32_47 : BitVec 32 := 1#32
  let arg14 : BitVec 32 := Scf.iv c0_i32_45 c1_i32_47 k1_t12
  let c16_i32_123 : BitVec 32 := 16#32
  let v218 : BitVec 32 := Scalar.muli arg14 c16_i32_123
  let v220 : Index := Scalar.indexCast v218
  ![18, v220.toNat]
def k1_off383 (k1_t12 : Fin k1_t12_loop.trips) : Fin 2 → Nat :=
  let c19_i32 : BitVec 32 := 19#32
  let v229 : Index := Scalar.indexCast c19_i32
  let c0_i32_45 : BitVec 32 := 0#32
  let c1_i32_47 : BitVec 32 := 1#32
  let arg14 : BitVec 32 := Scf.iv c0_i32_45 c1_i32_47 k1_t12
  let c16_i32_125 : BitVec 32 := 16#32
  let v228 : BitVec 32 := Scalar.muli arg14 c16_i32_125
  let v230 : Index := Scalar.indexCast v228
  ![19, v230.toNat]
def k1_off384 (k1_t12 : Fin k1_t12_loop.trips) : Fin 2 → Nat :=
  let c20_i32 : BitVec 32 := 20#32
  let v239 : Index := Scalar.indexCast c20_i32
  let c0_i32_45 : BitVec 32 := 0#32
  let c1_i32_47 : BitVec 32 := 1#32
  let arg14 : BitVec 32 := Scf.iv c0_i32_45 c1_i32_47 k1_t12
  let c16_i32_127 : BitVec 32 := 16#32
  let v238 : BitVec 32 := Scalar.muli arg14 c16_i32_127
  let v240 : Index := Scalar.indexCast v238
  ![20, v240.toNat]
def k1_off385 (k1_t12 : Fin k1_t12_loop.trips) : Fin 2 → Nat :=
  let c21_i32 : BitVec 32 := 21#32
  let v249 : Index := Scalar.indexCast c21_i32
  let c0_i32_45 : BitVec 32 := 0#32
  let c1_i32_47 : BitVec 32 := 1#32
  let arg14 : BitVec 32 := Scf.iv c0_i32_45 c1_i32_47 k1_t12
  let c16_i32_129 : BitVec 32 := 16#32
  let v248 : BitVec 32 := Scalar.muli arg14 c16_i32_129
  let v250 : Index := Scalar.indexCast v248
  ![21, v250.toNat]
def k1_off386 (k1_t12 : Fin k1_t12_loop.trips) : Fin 2 → Nat :=
  let c22_i32 : BitVec 32 := 22#32
  let v259 : Index := Scalar.indexCast c22_i32
  let c0_i32_45 : BitVec 32 := 0#32
  let c1_i32_47 : BitVec 32 := 1#32
  let arg14 : BitVec 32 := Scf.iv c0_i32_45 c1_i32_47 k1_t12
  let c16_i32_131 : BitVec 32 := 16#32
  let v258 : BitVec 32 := Scalar.muli arg14 c16_i32_131
  let v260 : Index := Scalar.indexCast v258
  ![22, v260.toNat]
def k1_off387 (k1_t12 : Fin k1_t12_loop.trips) : Fin 2 → Nat :=
  let c23_i32 : BitVec 32 := 23#32
  let v269 : Index := Scalar.indexCast c23_i32
  let c0_i32_45 : BitVec 32 := 0#32
  let c1_i32_47 : BitVec 32 := 1#32
  let arg14 : BitVec 32 := Scf.iv c0_i32_45 c1_i32_47 k1_t12
  let c16_i32_133 : BitVec 32 := 16#32
  let v268 : BitVec 32 := Scalar.muli arg14 c16_i32_133
  let v270 : Index := Scalar.indexCast v268
  ![23, v270.toNat]
def k1_off388 (k1_t12 : Fin k1_t12_loop.trips) : Fin 2 → Nat :=
  let c24_i32 : BitVec 32 := 24#32
  let v279 : Index := Scalar.indexCast c24_i32
  let c0_i32_45 : BitVec 32 := 0#32
  let c1_i32_47 : BitVec 32 := 1#32
  let arg14 : BitVec 32 := Scf.iv c0_i32_45 c1_i32_47 k1_t12
  let c16_i32_135 : BitVec 32 := 16#32
  let v278 : BitVec 32 := Scalar.muli arg14 c16_i32_135
  let v280 : Index := Scalar.indexCast v278
  ![24, v280.toNat]
def k1_off389 (k1_t12 : Fin k1_t12_loop.trips) : Fin 2 → Nat :=
  let c25_i32 : BitVec 32 := 25#32
  let v289 : Index := Scalar.indexCast c25_i32
  let c0_i32_45 : BitVec 32 := 0#32
  let c1_i32_47 : BitVec 32 := 1#32
  let arg14 : BitVec 32 := Scf.iv c0_i32_45 c1_i32_47 k1_t12
  let c16_i32_137 : BitVec 32 := 16#32
  let v288 : BitVec 32 := Scalar.muli arg14 c16_i32_137
  let v290 : Index := Scalar.indexCast v288
  ![25, v290.toNat]
def k1_off390 (k1_t12 : Fin k1_t12_loop.trips) : Fin 2 → Nat :=
  let c26_i32 : BitVec 32 := 26#32
  let v299 : Index := Scalar.indexCast c26_i32
  let c0_i32_45 : BitVec 32 := 0#32
  let c1_i32_47 : BitVec 32 := 1#32
  let arg14 : BitVec 32 := Scf.iv c0_i32_45 c1_i32_47 k1_t12
  let c16_i32_139 : BitVec 32 := 16#32
  let v298 : BitVec 32 := Scalar.muli arg14 c16_i32_139
  let v300 : Index := Scalar.indexCast v298
  ![26, v300.toNat]
def k1_off391 (k1_t12 : Fin k1_t12_loop.trips) : Fin 2 → Nat :=
  let c27_i32 : BitVec 32 := 27#32
  let v309 : Index := Scalar.indexCast c27_i32
  let c0_i32_45 : BitVec 32 := 0#32
  let c1_i32_47 : BitVec 32 := 1#32
  let arg14 : BitVec 32 := Scf.iv c0_i32_45 c1_i32_47 k1_t12
  let c16_i32_141 : BitVec 32 := 16#32
  let v308 : BitVec 32 := Scalar.muli arg14 c16_i32_141
  let v310 : Index := Scalar.indexCast v308
  ![27, v310.toNat]
def k1_off392 (k1_t12 : Fin k1_t12_loop.trips) : Fin 2 → Nat :=
  let c28_i32 : BitVec 32 := 28#32
  let v319 : Index := Scalar.indexCast c28_i32
  let c0_i32_45 : BitVec 32 := 0#32
  let c1_i32_47 : BitVec 32 := 1#32
  let arg14 : BitVec 32 := Scf.iv c0_i32_45 c1_i32_47 k1_t12
  let c16_i32_143 : BitVec 32 := 16#32
  let v318 : BitVec 32 := Scalar.muli arg14 c16_i32_143
  let v320 : Index := Scalar.indexCast v318
  ![28, v320.toNat]
def k1_off393 (k1_t12 : Fin k1_t12_loop.trips) : Fin 2 → Nat :=
  let c29_i32 : BitVec 32 := 29#32
  let v329 : Index := Scalar.indexCast c29_i32
  let c0_i32_45 : BitVec 32 := 0#32
  let c1_i32_47 : BitVec 32 := 1#32
  let arg14 : BitVec 32 := Scf.iv c0_i32_45 c1_i32_47 k1_t12
  let c16_i32_145 : BitVec 32 := 16#32
  let v328 : BitVec 32 := Scalar.muli arg14 c16_i32_145
  let v330 : Index := Scalar.indexCast v328
  ![29, v330.toNat]
def k1_off394 (k1_t12 : Fin k1_t12_loop.trips) : Fin 2 → Nat :=
  let c30_i32 : BitVec 32 := 30#32
  let v339 : Index := Scalar.indexCast c30_i32
  let c0_i32_45 : BitVec 32 := 0#32
  let c1_i32_47 : BitVec 32 := 1#32
  let arg14 : BitVec 32 := Scf.iv c0_i32_45 c1_i32_47 k1_t12
  let c16_i32_147 : BitVec 32 := 16#32
  let v338 : BitVec 32 := Scalar.muli arg14 c16_i32_147
  let v340 : Index := Scalar.indexCast v338
  ![30, v340.toNat]
def k1_off395 (k1_t12 : Fin k1_t12_loop.trips) : Fin 2 → Nat :=
  let c31_i32 : BitVec 32 := 31#32
  let v349 : Index := Scalar.indexCast c31_i32
  let c0_i32_45 : BitVec 32 := 0#32
  let c1_i32_47 : BitVec 32 := 1#32
  let arg14 : BitVec 32 := Scf.iv c0_i32_45 c1_i32_47 k1_t12
  let c16_i32_149 : BitVec 32 := 16#32
  let v348 : BitVec 32 := Scalar.muli arg14 c16_i32_149
  let v350 : Index := Scalar.indexCast v348
  ![31, v350.toNat]
def k1_off396 (k1_t12 : Fin k1_t12_loop.trips) : Fin 1 → Nat :=
  let c22528_i32 : BitVec 32 := 22528#32
  let c0_i32_45 : BitVec 32 := 0#32
  let c1_i32_47 : BitVec 32 := 1#32
  let arg14 : BitVec 32 := Scf.iv c0_i32_45 c1_i32_47 k1_t12
  let c16_i32_151 : BitVec 32 := 16#32
  let v364 : BitVec 32 := Scalar.muli arg14 c16_i32_151
  let v365 : BitVec 32 := Scalar.addi c22528_i32 v364
  let v366 : Index := Scalar.indexCast v365
  ![v366.toNat]
@[reducible] def k1_t13_loop : Scf.Loop 32 :=
  let c0_i32_49 : BitVec 32 := 0#32
  let c128_i32_50 : BitVec 32 := 128#32
  let v28 : BitVec 32 := Scalar.addi c0_i32_49 c128_i32_50
  let c1_i32_51 : BitVec 32 := 1#32
  ⟨c0_i32_49, v28, c1_i32_51⟩
def k1_off397 (k1_t13 : Fin k1_t13_loop.trips) : Fin 2 → Nat :=
  let c0_i32_71 : BitVec 32 := 0#32
  let v39 : Index := Scalar.indexCast c0_i32_71
  let c0_i32_49 : BitVec 32 := 0#32
  let c1_i32_51 : BitVec 32 := 1#32
  let arg14 : BitVec 32 := Scf.iv c0_i32_49 c1_i32_51 k1_t13
  let c16_i32_70 : BitVec 32 := 16#32
  let v38 : BitVec 32 := Scalar.muli arg14 c16_i32_70
  let v40 : Index := Scalar.indexCast v38
  ![0, v40.toNat]
def k1_off398 (k1_t13 : Fin k1_t13_loop.trips) : Fin 2 → Nat :=
  let c1_i32_74 : BitVec 32 := 1#32
  let v49 : Index := Scalar.indexCast c1_i32_74
  let c0_i32_49 : BitVec 32 := 0#32
  let c1_i32_51 : BitVec 32 := 1#32
  let arg14 : BitVec 32 := Scf.iv c0_i32_49 c1_i32_51 k1_t13
  let c16_i32_73 : BitVec 32 := 16#32
  let v48 : BitVec 32 := Scalar.muli arg14 c16_i32_73
  let v50 : Index := Scalar.indexCast v48
  ![1, v50.toNat]
def k1_off399 (k1_t13 : Fin k1_t13_loop.trips) : Fin 2 → Nat :=
  let c2_i32_77 : BitVec 32 := 2#32
  let v59 : Index := Scalar.indexCast c2_i32_77
  let c0_i32_49 : BitVec 32 := 0#32
  let c1_i32_51 : BitVec 32 := 1#32
  let arg14 : BitVec 32 := Scf.iv c0_i32_49 c1_i32_51 k1_t13
  let c16_i32_76 : BitVec 32 := 16#32
  let v58 : BitVec 32 := Scalar.muli arg14 c16_i32_76
  let v60 : Index := Scalar.indexCast v58
  ![2, v60.toNat]
def k1_off400 (k1_t13 : Fin k1_t13_loop.trips) : Fin 2 → Nat :=
  let c3_i32_80 : BitVec 32 := 3#32
  let v69 : Index := Scalar.indexCast c3_i32_80
  let c0_i32_49 : BitVec 32 := 0#32
  let c1_i32_51 : BitVec 32 := 1#32
  let arg14 : BitVec 32 := Scf.iv c0_i32_49 c1_i32_51 k1_t13
  let c16_i32_79 : BitVec 32 := 16#32
  let v68 : BitVec 32 := Scalar.muli arg14 c16_i32_79
  let v70 : Index := Scalar.indexCast v68
  ![3, v70.toNat]
def k1_off401 (k1_t13 : Fin k1_t13_loop.trips) : Fin 2 → Nat :=
  let c4_i32_83 : BitVec 32 := 4#32
  let v79 : Index := Scalar.indexCast c4_i32_83
  let c0_i32_49 : BitVec 32 := 0#32
  let c1_i32_51 : BitVec 32 := 1#32
  let arg14 : BitVec 32 := Scf.iv c0_i32_49 c1_i32_51 k1_t13
  let c16_i32_82 : BitVec 32 := 16#32
  let v78 : BitVec 32 := Scalar.muli arg14 c16_i32_82
  let v80 : Index := Scalar.indexCast v78
  ![4, v80.toNat]
def k1_off402 (k1_t13 : Fin k1_t13_loop.trips) : Fin 2 → Nat :=
  let c5_i32_86 : BitVec 32 := 5#32
  let v89 : Index := Scalar.indexCast c5_i32_86
  let c0_i32_49 : BitVec 32 := 0#32
  let c1_i32_51 : BitVec 32 := 1#32
  let arg14 : BitVec 32 := Scf.iv c0_i32_49 c1_i32_51 k1_t13
  let c16_i32_85 : BitVec 32 := 16#32
  let v88 : BitVec 32 := Scalar.muli arg14 c16_i32_85
  let v90 : Index := Scalar.indexCast v88
  ![5, v90.toNat]
def k1_off403 (k1_t13 : Fin k1_t13_loop.trips) : Fin 2 → Nat :=
  let c6_i32_89 : BitVec 32 := 6#32
  let v99 : Index := Scalar.indexCast c6_i32_89
  let c0_i32_49 : BitVec 32 := 0#32
  let c1_i32_51 : BitVec 32 := 1#32
  let arg14 : BitVec 32 := Scf.iv c0_i32_49 c1_i32_51 k1_t13
  let c16_i32_88 : BitVec 32 := 16#32
  let v98 : BitVec 32 := Scalar.muli arg14 c16_i32_88
  let v100 : Index := Scalar.indexCast v98
  ![6, v100.toNat]
def k1_off404 (k1_t13 : Fin k1_t13_loop.trips) : Fin 2 → Nat :=
  let c7_i32_92 : BitVec 32 := 7#32
  let v109 : Index := Scalar.indexCast c7_i32_92
  let c0_i32_49 : BitVec 32 := 0#32
  let c1_i32_51 : BitVec 32 := 1#32
  let arg14 : BitVec 32 := Scf.iv c0_i32_49 c1_i32_51 k1_t13
  let c16_i32_91 : BitVec 32 := 16#32
  let v108 : BitVec 32 := Scalar.muli arg14 c16_i32_91
  let v110 : Index := Scalar.indexCast v108
  ![7, v110.toNat]
def k1_off405 (k1_t13 : Fin k1_t13_loop.trips) : Fin 2 → Nat :=
  let c8_i32_95 : BitVec 32 := 8#32
  let v119 : Index := Scalar.indexCast c8_i32_95
  let c0_i32_49 : BitVec 32 := 0#32
  let c1_i32_51 : BitVec 32 := 1#32
  let arg14 : BitVec 32 := Scf.iv c0_i32_49 c1_i32_51 k1_t13
  let c16_i32_94 : BitVec 32 := 16#32
  let v118 : BitVec 32 := Scalar.muli arg14 c16_i32_94
  let v120 : Index := Scalar.indexCast v118
  ![8, v120.toNat]
def k1_off406 (k1_t13 : Fin k1_t13_loop.trips) : Fin 2 → Nat :=
  let c9_i32_98 : BitVec 32 := 9#32
  let v129 : Index := Scalar.indexCast c9_i32_98
  let c0_i32_49 : BitVec 32 := 0#32
  let c1_i32_51 : BitVec 32 := 1#32
  let arg14 : BitVec 32 := Scf.iv c0_i32_49 c1_i32_51 k1_t13
  let c16_i32_97 : BitVec 32 := 16#32
  let v128 : BitVec 32 := Scalar.muli arg14 c16_i32_97
  let v130 : Index := Scalar.indexCast v128
  ![9, v130.toNat]
def k1_off407 (k1_t13 : Fin k1_t13_loop.trips) : Fin 2 → Nat :=
  let c10_i32_101 : BitVec 32 := 10#32
  let v139 : Index := Scalar.indexCast c10_i32_101
  let c0_i32_49 : BitVec 32 := 0#32
  let c1_i32_51 : BitVec 32 := 1#32
  let arg14 : BitVec 32 := Scf.iv c0_i32_49 c1_i32_51 k1_t13
  let c16_i32_100 : BitVec 32 := 16#32
  let v138 : BitVec 32 := Scalar.muli arg14 c16_i32_100
  let v140 : Index := Scalar.indexCast v138
  ![10, v140.toNat]
def k1_off408 (k1_t13 : Fin k1_t13_loop.trips) : Fin 2 → Nat :=
  let c11_i32_104 : BitVec 32 := 11#32
  let v149 : Index := Scalar.indexCast c11_i32_104
  let c0_i32_49 : BitVec 32 := 0#32
  let c1_i32_51 : BitVec 32 := 1#32
  let arg14 : BitVec 32 := Scf.iv c0_i32_49 c1_i32_51 k1_t13
  let c16_i32_103 : BitVec 32 := 16#32
  let v148 : BitVec 32 := Scalar.muli arg14 c16_i32_103
  let v150 : Index := Scalar.indexCast v148
  ![11, v150.toNat]
def k1_off409 (k1_t13 : Fin k1_t13_loop.trips) : Fin 2 → Nat :=
  let c12_i32_107 : BitVec 32 := 12#32
  let v159 : Index := Scalar.indexCast c12_i32_107
  let c0_i32_49 : BitVec 32 := 0#32
  let c1_i32_51 : BitVec 32 := 1#32
  let arg14 : BitVec 32 := Scf.iv c0_i32_49 c1_i32_51 k1_t13
  let c16_i32_106 : BitVec 32 := 16#32
  let v158 : BitVec 32 := Scalar.muli arg14 c16_i32_106
  let v160 : Index := Scalar.indexCast v158
  ![12, v160.toNat]
def k1_off410 (k1_t13 : Fin k1_t13_loop.trips) : Fin 2 → Nat :=
  let c13_i32_110 : BitVec 32 := 13#32
  let v169 : Index := Scalar.indexCast c13_i32_110
  let c0_i32_49 : BitVec 32 := 0#32
  let c1_i32_51 : BitVec 32 := 1#32
  let arg14 : BitVec 32 := Scf.iv c0_i32_49 c1_i32_51 k1_t13
  let c16_i32_109 : BitVec 32 := 16#32
  let v168 : BitVec 32 := Scalar.muli arg14 c16_i32_109
  let v170 : Index := Scalar.indexCast v168
  ![13, v170.toNat]
def k1_off411 (k1_t13 : Fin k1_t13_loop.trips) : Fin 2 → Nat :=
  let c14_i32_113 : BitVec 32 := 14#32
  let v179 : Index := Scalar.indexCast c14_i32_113
  let c0_i32_49 : BitVec 32 := 0#32
  let c1_i32_51 : BitVec 32 := 1#32
  let arg14 : BitVec 32 := Scf.iv c0_i32_49 c1_i32_51 k1_t13
  let c16_i32_112 : BitVec 32 := 16#32
  let v178 : BitVec 32 := Scalar.muli arg14 c16_i32_112
  let v180 : Index := Scalar.indexCast v178
  ![14, v180.toNat]
def k1_off412 (k1_t13 : Fin k1_t13_loop.trips) : Fin 2 → Nat :=
  let c15_i32_116 : BitVec 32 := 15#32
  let v189 : Index := Scalar.indexCast c15_i32_116
  let c0_i32_49 : BitVec 32 := 0#32
  let c1_i32_51 : BitVec 32 := 1#32
  let arg14 : BitVec 32 := Scf.iv c0_i32_49 c1_i32_51 k1_t13
  let c16_i32_115 : BitVec 32 := 16#32
  let v188 : BitVec 32 := Scalar.muli arg14 c16_i32_115
  let v190 : Index := Scalar.indexCast v188
  ![15, v190.toNat]
def k1_off413 (k1_t13 : Fin k1_t13_loop.trips) : Fin 2 → Nat :=
  let c16_i32_119 : BitVec 32 := 16#32
  let v199 : Index := Scalar.indexCast c16_i32_119
  let c0_i32_49 : BitVec 32 := 0#32
  let c1_i32_51 : BitVec 32 := 1#32
  let arg14 : BitVec 32 := Scf.iv c0_i32_49 c1_i32_51 k1_t13
  let c16_i32_118 : BitVec 32 := 16#32
  let v198 : BitVec 32 := Scalar.muli arg14 c16_i32_118
  let v200 : Index := Scalar.indexCast v198
  ![16, v200.toNat]
def k1_off414 (k1_t13 : Fin k1_t13_loop.trips) : Fin 2 → Nat :=
  let c17_i32 : BitVec 32 := 17#32
  let v209 : Index := Scalar.indexCast c17_i32
  let c0_i32_49 : BitVec 32 := 0#32
  let c1_i32_51 : BitVec 32 := 1#32
  let arg14 : BitVec 32 := Scf.iv c0_i32_49 c1_i32_51 k1_t13
  let c16_i32_121 : BitVec 32 := 16#32
  let v208 : BitVec 32 := Scalar.muli arg14 c16_i32_121
  let v210 : Index := Scalar.indexCast v208
  ![17, v210.toNat]
def k1_off415 (k1_t13 : Fin k1_t13_loop.trips) : Fin 2 → Nat :=
  let c18_i32 : BitVec 32 := 18#32
  let v219 : Index := Scalar.indexCast c18_i32
  let c0_i32_49 : BitVec 32 := 0#32
  let c1_i32_51 : BitVec 32 := 1#32
  let arg14 : BitVec 32 := Scf.iv c0_i32_49 c1_i32_51 k1_t13
  let c16_i32_123 : BitVec 32 := 16#32
  let v218 : BitVec 32 := Scalar.muli arg14 c16_i32_123
  let v220 : Index := Scalar.indexCast v218
  ![18, v220.toNat]
def k1_off416 (k1_t13 : Fin k1_t13_loop.trips) : Fin 2 → Nat :=
  let c19_i32 : BitVec 32 := 19#32
  let v229 : Index := Scalar.indexCast c19_i32
  let c0_i32_49 : BitVec 32 := 0#32
  let c1_i32_51 : BitVec 32 := 1#32
  let arg14 : BitVec 32 := Scf.iv c0_i32_49 c1_i32_51 k1_t13
  let c16_i32_125 : BitVec 32 := 16#32
  let v228 : BitVec 32 := Scalar.muli arg14 c16_i32_125
  let v230 : Index := Scalar.indexCast v228
  ![19, v230.toNat]
def k1_off417 (k1_t13 : Fin k1_t13_loop.trips) : Fin 2 → Nat :=
  let c20_i32 : BitVec 32 := 20#32
  let v239 : Index := Scalar.indexCast c20_i32
  let c0_i32_49 : BitVec 32 := 0#32
  let c1_i32_51 : BitVec 32 := 1#32
  let arg14 : BitVec 32 := Scf.iv c0_i32_49 c1_i32_51 k1_t13
  let c16_i32_127 : BitVec 32 := 16#32
  let v238 : BitVec 32 := Scalar.muli arg14 c16_i32_127
  let v240 : Index := Scalar.indexCast v238
  ![20, v240.toNat]
def k1_off418 (k1_t13 : Fin k1_t13_loop.trips) : Fin 2 → Nat :=
  let c21_i32 : BitVec 32 := 21#32
  let v249 : Index := Scalar.indexCast c21_i32
  let c0_i32_49 : BitVec 32 := 0#32
  let c1_i32_51 : BitVec 32 := 1#32
  let arg14 : BitVec 32 := Scf.iv c0_i32_49 c1_i32_51 k1_t13
  let c16_i32_129 : BitVec 32 := 16#32
  let v248 : BitVec 32 := Scalar.muli arg14 c16_i32_129
  let v250 : Index := Scalar.indexCast v248
  ![21, v250.toNat]
def k1_off419 (k1_t13 : Fin k1_t13_loop.trips) : Fin 2 → Nat :=
  let c22_i32 : BitVec 32 := 22#32
  let v259 : Index := Scalar.indexCast c22_i32
  let c0_i32_49 : BitVec 32 := 0#32
  let c1_i32_51 : BitVec 32 := 1#32
  let arg14 : BitVec 32 := Scf.iv c0_i32_49 c1_i32_51 k1_t13
  let c16_i32_131 : BitVec 32 := 16#32
  let v258 : BitVec 32 := Scalar.muli arg14 c16_i32_131
  let v260 : Index := Scalar.indexCast v258
  ![22, v260.toNat]
def k1_off420 (k1_t13 : Fin k1_t13_loop.trips) : Fin 2 → Nat :=
  let c23_i32 : BitVec 32 := 23#32
  let v269 : Index := Scalar.indexCast c23_i32
  let c0_i32_49 : BitVec 32 := 0#32
  let c1_i32_51 : BitVec 32 := 1#32
  let arg14 : BitVec 32 := Scf.iv c0_i32_49 c1_i32_51 k1_t13
  let c16_i32_133 : BitVec 32 := 16#32
  let v268 : BitVec 32 := Scalar.muli arg14 c16_i32_133
  let v270 : Index := Scalar.indexCast v268
  ![23, v270.toNat]
def k1_off421 (k1_t13 : Fin k1_t13_loop.trips) : Fin 2 → Nat :=
  let c24_i32 : BitVec 32 := 24#32
  let v279 : Index := Scalar.indexCast c24_i32
  let c0_i32_49 : BitVec 32 := 0#32
  let c1_i32_51 : BitVec 32 := 1#32
  let arg14 : BitVec 32 := Scf.iv c0_i32_49 c1_i32_51 k1_t13
  let c16_i32_135 : BitVec 32 := 16#32
  let v278 : BitVec 32 := Scalar.muli arg14 c16_i32_135
  let v280 : Index := Scalar.indexCast v278
  ![24, v280.toNat]
def k1_off422 (k1_t13 : Fin k1_t13_loop.trips) : Fin 2 → Nat :=
  let c25_i32 : BitVec 32 := 25#32
  let v289 : Index := Scalar.indexCast c25_i32
  let c0_i32_49 : BitVec 32 := 0#32
  let c1_i32_51 : BitVec 32 := 1#32
  let arg14 : BitVec 32 := Scf.iv c0_i32_49 c1_i32_51 k1_t13
  let c16_i32_137 : BitVec 32 := 16#32
  let v288 : BitVec 32 := Scalar.muli arg14 c16_i32_137
  let v290 : Index := Scalar.indexCast v288
  ![25, v290.toNat]
def k1_off423 (k1_t13 : Fin k1_t13_loop.trips) : Fin 2 → Nat :=
  let c26_i32 : BitVec 32 := 26#32
  let v299 : Index := Scalar.indexCast c26_i32
  let c0_i32_49 : BitVec 32 := 0#32
  let c1_i32_51 : BitVec 32 := 1#32
  let arg14 : BitVec 32 := Scf.iv c0_i32_49 c1_i32_51 k1_t13
  let c16_i32_139 : BitVec 32 := 16#32
  let v298 : BitVec 32 := Scalar.muli arg14 c16_i32_139
  let v300 : Index := Scalar.indexCast v298
  ![26, v300.toNat]
def k1_off424 (k1_t13 : Fin k1_t13_loop.trips) : Fin 2 → Nat :=
  let c27_i32 : BitVec 32 := 27#32
  let v309 : Index := Scalar.indexCast c27_i32
  let c0_i32_49 : BitVec 32 := 0#32
  let c1_i32_51 : BitVec 32 := 1#32
  let arg14 : BitVec 32 := Scf.iv c0_i32_49 c1_i32_51 k1_t13
  let c16_i32_141 : BitVec 32 := 16#32
  let v308 : BitVec 32 := Scalar.muli arg14 c16_i32_141
  let v310 : Index := Scalar.indexCast v308
  ![27, v310.toNat]
def k1_off425 (k1_t13 : Fin k1_t13_loop.trips) : Fin 2 → Nat :=
  let c28_i32 : BitVec 32 := 28#32
  let v319 : Index := Scalar.indexCast c28_i32
  let c0_i32_49 : BitVec 32 := 0#32
  let c1_i32_51 : BitVec 32 := 1#32
  let arg14 : BitVec 32 := Scf.iv c0_i32_49 c1_i32_51 k1_t13
  let c16_i32_143 : BitVec 32 := 16#32
  let v318 : BitVec 32 := Scalar.muli arg14 c16_i32_143
  let v320 : Index := Scalar.indexCast v318
  ![28, v320.toNat]
def k1_off426 (k1_t13 : Fin k1_t13_loop.trips) : Fin 2 → Nat :=
  let c29_i32 : BitVec 32 := 29#32
  let v329 : Index := Scalar.indexCast c29_i32
  let c0_i32_49 : BitVec 32 := 0#32
  let c1_i32_51 : BitVec 32 := 1#32
  let arg14 : BitVec 32 := Scf.iv c0_i32_49 c1_i32_51 k1_t13
  let c16_i32_145 : BitVec 32 := 16#32
  let v328 : BitVec 32 := Scalar.muli arg14 c16_i32_145
  let v330 : Index := Scalar.indexCast v328
  ![29, v330.toNat]
def k1_off427 (k1_t13 : Fin k1_t13_loop.trips) : Fin 2 → Nat :=
  let c30_i32 : BitVec 32 := 30#32
  let v339 : Index := Scalar.indexCast c30_i32
  let c0_i32_49 : BitVec 32 := 0#32
  let c1_i32_51 : BitVec 32 := 1#32
  let arg14 : BitVec 32 := Scf.iv c0_i32_49 c1_i32_51 k1_t13
  let c16_i32_147 : BitVec 32 := 16#32
  let v338 : BitVec 32 := Scalar.muli arg14 c16_i32_147
  let v340 : Index := Scalar.indexCast v338
  ![30, v340.toNat]
def k1_off428 (k1_t13 : Fin k1_t13_loop.trips) : Fin 2 → Nat :=
  let c31_i32 : BitVec 32 := 31#32
  let v349 : Index := Scalar.indexCast c31_i32
  let c0_i32_49 : BitVec 32 := 0#32
  let c1_i32_51 : BitVec 32 := 1#32
  let arg14 : BitVec 32 := Scf.iv c0_i32_49 c1_i32_51 k1_t13
  let c16_i32_149 : BitVec 32 := 16#32
  let v348 : BitVec 32 := Scalar.muli arg14 c16_i32_149
  let v350 : Index := Scalar.indexCast v348
  ![31, v350.toNat]
def k1_off429 (k1_t13 : Fin k1_t13_loop.trips) : Fin 1 → Nat :=
  let c24576_i32 : BitVec 32 := 24576#32
  let c0_i32_49 : BitVec 32 := 0#32
  let c1_i32_51 : BitVec 32 := 1#32
  let arg14 : BitVec 32 := Scf.iv c0_i32_49 c1_i32_51 k1_t13
  let c16_i32_151 : BitVec 32 := 16#32
  let v364 : BitVec 32 := Scalar.muli arg14 c16_i32_151
  let v365 : BitVec 32 := Scalar.addi c24576_i32 v364
  let v366 : Index := Scalar.indexCast v365
  ![v366.toNat]
@[reducible] def k1_t14_loop : Scf.Loop 32 :=
  let c0_i32_53 : BitVec 32 := 0#32
  let c128_i32_54 : BitVec 32 := 128#32
  let v30 : BitVec 32 := Scalar.addi c0_i32_53 c128_i32_54
  let c1_i32_55 : BitVec 32 := 1#32
  ⟨c0_i32_53, v30, c1_i32_55⟩
def k1_off430 (k1_t14 : Fin k1_t14_loop.trips) : Fin 2 → Nat :=
  let c0_i32_71 : BitVec 32 := 0#32
  let v39 : Index := Scalar.indexCast c0_i32_71
  let c0_i32_53 : BitVec 32 := 0#32
  let c1_i32_55 : BitVec 32 := 1#32
  let arg14 : BitVec 32 := Scf.iv c0_i32_53 c1_i32_55 k1_t14
  let c16_i32_70 : BitVec 32 := 16#32
  let v38 : BitVec 32 := Scalar.muli arg14 c16_i32_70
  let v40 : Index := Scalar.indexCast v38
  ![0, v40.toNat]
def k1_off431 (k1_t14 : Fin k1_t14_loop.trips) : Fin 2 → Nat :=
  let c1_i32_74 : BitVec 32 := 1#32
  let v49 : Index := Scalar.indexCast c1_i32_74
  let c0_i32_53 : BitVec 32 := 0#32
  let c1_i32_55 : BitVec 32 := 1#32
  let arg14 : BitVec 32 := Scf.iv c0_i32_53 c1_i32_55 k1_t14
  let c16_i32_73 : BitVec 32 := 16#32
  let v48 : BitVec 32 := Scalar.muli arg14 c16_i32_73
  let v50 : Index := Scalar.indexCast v48
  ![1, v50.toNat]
def k1_off432 (k1_t14 : Fin k1_t14_loop.trips) : Fin 2 → Nat :=
  let c2_i32_77 : BitVec 32 := 2#32
  let v59 : Index := Scalar.indexCast c2_i32_77
  let c0_i32_53 : BitVec 32 := 0#32
  let c1_i32_55 : BitVec 32 := 1#32
  let arg14 : BitVec 32 := Scf.iv c0_i32_53 c1_i32_55 k1_t14
  let c16_i32_76 : BitVec 32 := 16#32
  let v58 : BitVec 32 := Scalar.muli arg14 c16_i32_76
  let v60 : Index := Scalar.indexCast v58
  ![2, v60.toNat]
def k1_off433 (k1_t14 : Fin k1_t14_loop.trips) : Fin 2 → Nat :=
  let c3_i32_80 : BitVec 32 := 3#32
  let v69 : Index := Scalar.indexCast c3_i32_80
  let c0_i32_53 : BitVec 32 := 0#32
  let c1_i32_55 : BitVec 32 := 1#32
  let arg14 : BitVec 32 := Scf.iv c0_i32_53 c1_i32_55 k1_t14
  let c16_i32_79 : BitVec 32 := 16#32
  let v68 : BitVec 32 := Scalar.muli arg14 c16_i32_79
  let v70 : Index := Scalar.indexCast v68
  ![3, v70.toNat]
def k1_off434 (k1_t14 : Fin k1_t14_loop.trips) : Fin 2 → Nat :=
  let c4_i32_83 : BitVec 32 := 4#32
  let v79 : Index := Scalar.indexCast c4_i32_83
  let c0_i32_53 : BitVec 32 := 0#32
  let c1_i32_55 : BitVec 32 := 1#32
  let arg14 : BitVec 32 := Scf.iv c0_i32_53 c1_i32_55 k1_t14
  let c16_i32_82 : BitVec 32 := 16#32
  let v78 : BitVec 32 := Scalar.muli arg14 c16_i32_82
  let v80 : Index := Scalar.indexCast v78
  ![4, v80.toNat]
def k1_off435 (k1_t14 : Fin k1_t14_loop.trips) : Fin 2 → Nat :=
  let c5_i32_86 : BitVec 32 := 5#32
  let v89 : Index := Scalar.indexCast c5_i32_86
  let c0_i32_53 : BitVec 32 := 0#32
  let c1_i32_55 : BitVec 32 := 1#32
  let arg14 : BitVec 32 := Scf.iv c0_i32_53 c1_i32_55 k1_t14
  let c16_i32_85 : BitVec 32 := 16#32
  let v88 : BitVec 32 := Scalar.muli arg14 c16_i32_85
  let v90 : Index := Scalar.indexCast v88
  ![5, v90.toNat]
def k1_off436 (k1_t14 : Fin k1_t14_loop.trips) : Fin 2 → Nat :=
  let c6_i32_89 : BitVec 32 := 6#32
  let v99 : Index := Scalar.indexCast c6_i32_89
  let c0_i32_53 : BitVec 32 := 0#32
  let c1_i32_55 : BitVec 32 := 1#32
  let arg14 : BitVec 32 := Scf.iv c0_i32_53 c1_i32_55 k1_t14
  let c16_i32_88 : BitVec 32 := 16#32
  let v98 : BitVec 32 := Scalar.muli arg14 c16_i32_88
  let v100 : Index := Scalar.indexCast v98
  ![6, v100.toNat]
def k1_off437 (k1_t14 : Fin k1_t14_loop.trips) : Fin 2 → Nat :=
  let c7_i32_92 : BitVec 32 := 7#32
  let v109 : Index := Scalar.indexCast c7_i32_92
  let c0_i32_53 : BitVec 32 := 0#32
  let c1_i32_55 : BitVec 32 := 1#32
  let arg14 : BitVec 32 := Scf.iv c0_i32_53 c1_i32_55 k1_t14
  let c16_i32_91 : BitVec 32 := 16#32
  let v108 : BitVec 32 := Scalar.muli arg14 c16_i32_91
  let v110 : Index := Scalar.indexCast v108
  ![7, v110.toNat]
def k1_off438 (k1_t14 : Fin k1_t14_loop.trips) : Fin 2 → Nat :=
  let c8_i32_95 : BitVec 32 := 8#32
  let v119 : Index := Scalar.indexCast c8_i32_95
  let c0_i32_53 : BitVec 32 := 0#32
  let c1_i32_55 : BitVec 32 := 1#32
  let arg14 : BitVec 32 := Scf.iv c0_i32_53 c1_i32_55 k1_t14
  let c16_i32_94 : BitVec 32 := 16#32
  let v118 : BitVec 32 := Scalar.muli arg14 c16_i32_94
  let v120 : Index := Scalar.indexCast v118
  ![8, v120.toNat]
def k1_off439 (k1_t14 : Fin k1_t14_loop.trips) : Fin 2 → Nat :=
  let c9_i32_98 : BitVec 32 := 9#32
  let v129 : Index := Scalar.indexCast c9_i32_98
  let c0_i32_53 : BitVec 32 := 0#32
  let c1_i32_55 : BitVec 32 := 1#32
  let arg14 : BitVec 32 := Scf.iv c0_i32_53 c1_i32_55 k1_t14
  let c16_i32_97 : BitVec 32 := 16#32
  let v128 : BitVec 32 := Scalar.muli arg14 c16_i32_97
  let v130 : Index := Scalar.indexCast v128
  ![9, v130.toNat]
def k1_off440 (k1_t14 : Fin k1_t14_loop.trips) : Fin 2 → Nat :=
  let c10_i32_101 : BitVec 32 := 10#32
  let v139 : Index := Scalar.indexCast c10_i32_101
  let c0_i32_53 : BitVec 32 := 0#32
  let c1_i32_55 : BitVec 32 := 1#32
  let arg14 : BitVec 32 := Scf.iv c0_i32_53 c1_i32_55 k1_t14
  let c16_i32_100 : BitVec 32 := 16#32
  let v138 : BitVec 32 := Scalar.muli arg14 c16_i32_100
  let v140 : Index := Scalar.indexCast v138
  ![10, v140.toNat]
def k1_off441 (k1_t14 : Fin k1_t14_loop.trips) : Fin 2 → Nat :=
  let c11_i32_104 : BitVec 32 := 11#32
  let v149 : Index := Scalar.indexCast c11_i32_104
  let c0_i32_53 : BitVec 32 := 0#32
  let c1_i32_55 : BitVec 32 := 1#32
  let arg14 : BitVec 32 := Scf.iv c0_i32_53 c1_i32_55 k1_t14
  let c16_i32_103 : BitVec 32 := 16#32
  let v148 : BitVec 32 := Scalar.muli arg14 c16_i32_103
  let v150 : Index := Scalar.indexCast v148
  ![11, v150.toNat]
def k1_off442 (k1_t14 : Fin k1_t14_loop.trips) : Fin 2 → Nat :=
  let c12_i32_107 : BitVec 32 := 12#32
  let v159 : Index := Scalar.indexCast c12_i32_107
  let c0_i32_53 : BitVec 32 := 0#32
  let c1_i32_55 : BitVec 32 := 1#32
  let arg14 : BitVec 32 := Scf.iv c0_i32_53 c1_i32_55 k1_t14
  let c16_i32_106 : BitVec 32 := 16#32
  let v158 : BitVec 32 := Scalar.muli arg14 c16_i32_106
  let v160 : Index := Scalar.indexCast v158
  ![12, v160.toNat]
def k1_off443 (k1_t14 : Fin k1_t14_loop.trips) : Fin 2 → Nat :=
  let c13_i32_110 : BitVec 32 := 13#32
  let v169 : Index := Scalar.indexCast c13_i32_110
  let c0_i32_53 : BitVec 32 := 0#32
  let c1_i32_55 : BitVec 32 := 1#32
  let arg14 : BitVec 32 := Scf.iv c0_i32_53 c1_i32_55 k1_t14
  let c16_i32_109 : BitVec 32 := 16#32
  let v168 : BitVec 32 := Scalar.muli arg14 c16_i32_109
  let v170 : Index := Scalar.indexCast v168
  ![13, v170.toNat]
def k1_off444 (k1_t14 : Fin k1_t14_loop.trips) : Fin 2 → Nat :=
  let c14_i32_113 : BitVec 32 := 14#32
  let v179 : Index := Scalar.indexCast c14_i32_113
  let c0_i32_53 : BitVec 32 := 0#32
  let c1_i32_55 : BitVec 32 := 1#32
  let arg14 : BitVec 32 := Scf.iv c0_i32_53 c1_i32_55 k1_t14
  let c16_i32_112 : BitVec 32 := 16#32
  let v178 : BitVec 32 := Scalar.muli arg14 c16_i32_112
  let v180 : Index := Scalar.indexCast v178
  ![14, v180.toNat]
def k1_off445 (k1_t14 : Fin k1_t14_loop.trips) : Fin 2 → Nat :=
  let c15_i32_116 : BitVec 32 := 15#32
  let v189 : Index := Scalar.indexCast c15_i32_116
  let c0_i32_53 : BitVec 32 := 0#32
  let c1_i32_55 : BitVec 32 := 1#32
  let arg14 : BitVec 32 := Scf.iv c0_i32_53 c1_i32_55 k1_t14
  let c16_i32_115 : BitVec 32 := 16#32
  let v188 : BitVec 32 := Scalar.muli arg14 c16_i32_115
  let v190 : Index := Scalar.indexCast v188
  ![15, v190.toNat]
def k1_off446 (k1_t14 : Fin k1_t14_loop.trips) : Fin 2 → Nat :=
  let c16_i32_119 : BitVec 32 := 16#32
  let v199 : Index := Scalar.indexCast c16_i32_119
  let c0_i32_53 : BitVec 32 := 0#32
  let c1_i32_55 : BitVec 32 := 1#32
  let arg14 : BitVec 32 := Scf.iv c0_i32_53 c1_i32_55 k1_t14
  let c16_i32_118 : BitVec 32 := 16#32
  let v198 : BitVec 32 := Scalar.muli arg14 c16_i32_118
  let v200 : Index := Scalar.indexCast v198
  ![16, v200.toNat]
def k1_off447 (k1_t14 : Fin k1_t14_loop.trips) : Fin 2 → Nat :=
  let c17_i32 : BitVec 32 := 17#32
  let v209 : Index := Scalar.indexCast c17_i32
  let c0_i32_53 : BitVec 32 := 0#32
  let c1_i32_55 : BitVec 32 := 1#32
  let arg14 : BitVec 32 := Scf.iv c0_i32_53 c1_i32_55 k1_t14
  let c16_i32_121 : BitVec 32 := 16#32
  let v208 : BitVec 32 := Scalar.muli arg14 c16_i32_121
  let v210 : Index := Scalar.indexCast v208
  ![17, v210.toNat]
def k1_off448 (k1_t14 : Fin k1_t14_loop.trips) : Fin 2 → Nat :=
  let c18_i32 : BitVec 32 := 18#32
  let v219 : Index := Scalar.indexCast c18_i32
  let c0_i32_53 : BitVec 32 := 0#32
  let c1_i32_55 : BitVec 32 := 1#32
  let arg14 : BitVec 32 := Scf.iv c0_i32_53 c1_i32_55 k1_t14
  let c16_i32_123 : BitVec 32 := 16#32
  let v218 : BitVec 32 := Scalar.muli arg14 c16_i32_123
  let v220 : Index := Scalar.indexCast v218
  ![18, v220.toNat]
def k1_off449 (k1_t14 : Fin k1_t14_loop.trips) : Fin 2 → Nat :=
  let c19_i32 : BitVec 32 := 19#32
  let v229 : Index := Scalar.indexCast c19_i32
  let c0_i32_53 : BitVec 32 := 0#32
  let c1_i32_55 : BitVec 32 := 1#32
  let arg14 : BitVec 32 := Scf.iv c0_i32_53 c1_i32_55 k1_t14
  let c16_i32_125 : BitVec 32 := 16#32
  let v228 : BitVec 32 := Scalar.muli arg14 c16_i32_125
  let v230 : Index := Scalar.indexCast v228
  ![19, v230.toNat]
def k1_off450 (k1_t14 : Fin k1_t14_loop.trips) : Fin 2 → Nat :=
  let c20_i32 : BitVec 32 := 20#32
  let v239 : Index := Scalar.indexCast c20_i32
  let c0_i32_53 : BitVec 32 := 0#32
  let c1_i32_55 : BitVec 32 := 1#32
  let arg14 : BitVec 32 := Scf.iv c0_i32_53 c1_i32_55 k1_t14
  let c16_i32_127 : BitVec 32 := 16#32
  let v238 : BitVec 32 := Scalar.muli arg14 c16_i32_127
  let v240 : Index := Scalar.indexCast v238
  ![20, v240.toNat]
def k1_off451 (k1_t14 : Fin k1_t14_loop.trips) : Fin 2 → Nat :=
  let c21_i32 : BitVec 32 := 21#32
  let v249 : Index := Scalar.indexCast c21_i32
  let c0_i32_53 : BitVec 32 := 0#32
  let c1_i32_55 : BitVec 32 := 1#32
  let arg14 : BitVec 32 := Scf.iv c0_i32_53 c1_i32_55 k1_t14
  let c16_i32_129 : BitVec 32 := 16#32
  let v248 : BitVec 32 := Scalar.muli arg14 c16_i32_129
  let v250 : Index := Scalar.indexCast v248
  ![21, v250.toNat]
def k1_off452 (k1_t14 : Fin k1_t14_loop.trips) : Fin 2 → Nat :=
  let c22_i32 : BitVec 32 := 22#32
  let v259 : Index := Scalar.indexCast c22_i32
  let c0_i32_53 : BitVec 32 := 0#32
  let c1_i32_55 : BitVec 32 := 1#32
  let arg14 : BitVec 32 := Scf.iv c0_i32_53 c1_i32_55 k1_t14
  let c16_i32_131 : BitVec 32 := 16#32
  let v258 : BitVec 32 := Scalar.muli arg14 c16_i32_131
  let v260 : Index := Scalar.indexCast v258
  ![22, v260.toNat]
def k1_off453 (k1_t14 : Fin k1_t14_loop.trips) : Fin 2 → Nat :=
  let c23_i32 : BitVec 32 := 23#32
  let v269 : Index := Scalar.indexCast c23_i32
  let c0_i32_53 : BitVec 32 := 0#32
  let c1_i32_55 : BitVec 32 := 1#32
  let arg14 : BitVec 32 := Scf.iv c0_i32_53 c1_i32_55 k1_t14
  let c16_i32_133 : BitVec 32 := 16#32
  let v268 : BitVec 32 := Scalar.muli arg14 c16_i32_133
  let v270 : Index := Scalar.indexCast v268
  ![23, v270.toNat]
def k1_off454 (k1_t14 : Fin k1_t14_loop.trips) : Fin 2 → Nat :=
  let c24_i32 : BitVec 32 := 24#32
  let v279 : Index := Scalar.indexCast c24_i32
  let c0_i32_53 : BitVec 32 := 0#32
  let c1_i32_55 : BitVec 32 := 1#32
  let arg14 : BitVec 32 := Scf.iv c0_i32_53 c1_i32_55 k1_t14
  let c16_i32_135 : BitVec 32 := 16#32
  let v278 : BitVec 32 := Scalar.muli arg14 c16_i32_135
  let v280 : Index := Scalar.indexCast v278
  ![24, v280.toNat]
def k1_off455 (k1_t14 : Fin k1_t14_loop.trips) : Fin 2 → Nat :=
  let c25_i32 : BitVec 32 := 25#32
  let v289 : Index := Scalar.indexCast c25_i32
  let c0_i32_53 : BitVec 32 := 0#32
  let c1_i32_55 : BitVec 32 := 1#32
  let arg14 : BitVec 32 := Scf.iv c0_i32_53 c1_i32_55 k1_t14
  let c16_i32_137 : BitVec 32 := 16#32
  let v288 : BitVec 32 := Scalar.muli arg14 c16_i32_137
  let v290 : Index := Scalar.indexCast v288
  ![25, v290.toNat]
def k1_off456 (k1_t14 : Fin k1_t14_loop.trips) : Fin 2 → Nat :=
  let c26_i32 : BitVec 32 := 26#32
  let v299 : Index := Scalar.indexCast c26_i32
  let c0_i32_53 : BitVec 32 := 0#32
  let c1_i32_55 : BitVec 32 := 1#32
  let arg14 : BitVec 32 := Scf.iv c0_i32_53 c1_i32_55 k1_t14
  let c16_i32_139 : BitVec 32 := 16#32
  let v298 : BitVec 32 := Scalar.muli arg14 c16_i32_139
  let v300 : Index := Scalar.indexCast v298
  ![26, v300.toNat]
def k1_off457 (k1_t14 : Fin k1_t14_loop.trips) : Fin 2 → Nat :=
  let c27_i32 : BitVec 32 := 27#32
  let v309 : Index := Scalar.indexCast c27_i32
  let c0_i32_53 : BitVec 32 := 0#32
  let c1_i32_55 : BitVec 32 := 1#32
  let arg14 : BitVec 32 := Scf.iv c0_i32_53 c1_i32_55 k1_t14
  let c16_i32_141 : BitVec 32 := 16#32
  let v308 : BitVec 32 := Scalar.muli arg14 c16_i32_141
  let v310 : Index := Scalar.indexCast v308
  ![27, v310.toNat]
def k1_off458 (k1_t14 : Fin k1_t14_loop.trips) : Fin 2 → Nat :=
  let c28_i32 : BitVec 32 := 28#32
  let v319 : Index := Scalar.indexCast c28_i32
  let c0_i32_53 : BitVec 32 := 0#32
  let c1_i32_55 : BitVec 32 := 1#32
  let arg14 : BitVec 32 := Scf.iv c0_i32_53 c1_i32_55 k1_t14
  let c16_i32_143 : BitVec 32 := 16#32
  let v318 : BitVec 32 := Scalar.muli arg14 c16_i32_143
  let v320 : Index := Scalar.indexCast v318
  ![28, v320.toNat]
def k1_off459 (k1_t14 : Fin k1_t14_loop.trips) : Fin 2 → Nat :=
  let c29_i32 : BitVec 32 := 29#32
  let v329 : Index := Scalar.indexCast c29_i32
  let c0_i32_53 : BitVec 32 := 0#32
  let c1_i32_55 : BitVec 32 := 1#32
  let arg14 : BitVec 32 := Scf.iv c0_i32_53 c1_i32_55 k1_t14
  let c16_i32_145 : BitVec 32 := 16#32
  let v328 : BitVec 32 := Scalar.muli arg14 c16_i32_145
  let v330 : Index := Scalar.indexCast v328
  ![29, v330.toNat]
def k1_off460 (k1_t14 : Fin k1_t14_loop.trips) : Fin 2 → Nat :=
  let c30_i32 : BitVec 32 := 30#32
  let v339 : Index := Scalar.indexCast c30_i32
  let c0_i32_53 : BitVec 32 := 0#32
  let c1_i32_55 : BitVec 32 := 1#32
  let arg14 : BitVec 32 := Scf.iv c0_i32_53 c1_i32_55 k1_t14
  let c16_i32_147 : BitVec 32 := 16#32
  let v338 : BitVec 32 := Scalar.muli arg14 c16_i32_147
  let v340 : Index := Scalar.indexCast v338
  ![30, v340.toNat]
def k1_off461 (k1_t14 : Fin k1_t14_loop.trips) : Fin 2 → Nat :=
  let c31_i32 : BitVec 32 := 31#32
  let v349 : Index := Scalar.indexCast c31_i32
  let c0_i32_53 : BitVec 32 := 0#32
  let c1_i32_55 : BitVec 32 := 1#32
  let arg14 : BitVec 32 := Scf.iv c0_i32_53 c1_i32_55 k1_t14
  let c16_i32_149 : BitVec 32 := 16#32
  let v348 : BitVec 32 := Scalar.muli arg14 c16_i32_149
  let v350 : Index := Scalar.indexCast v348
  ![31, v350.toNat]
def k1_off462 (k1_t14 : Fin k1_t14_loop.trips) : Fin 1 → Nat :=
  let c26624_i32 : BitVec 32 := 26624#32
  let c0_i32_53 : BitVec 32 := 0#32
  let c1_i32_55 : BitVec 32 := 1#32
  let arg14 : BitVec 32 := Scf.iv c0_i32_53 c1_i32_55 k1_t14
  let c16_i32_151 : BitVec 32 := 16#32
  let v364 : BitVec 32 := Scalar.muli arg14 c16_i32_151
  let v365 : BitVec 32 := Scalar.addi c26624_i32 v364
  let v366 : Index := Scalar.indexCast v365
  ![v366.toNat]
@[reducible] def k1_t15_loop : Scf.Loop 32 :=
  let c0_i32_57 : BitVec 32 := 0#32
  let c128_i32_58 : BitVec 32 := 128#32
  let v32 : BitVec 32 := Scalar.addi c0_i32_57 c128_i32_58
  let c1_i32_59 : BitVec 32 := 1#32
  ⟨c0_i32_57, v32, c1_i32_59⟩
def k1_off463 (k1_t15 : Fin k1_t15_loop.trips) : Fin 2 → Nat :=
  let c0_i32_71 : BitVec 32 := 0#32
  let v39 : Index := Scalar.indexCast c0_i32_71
  let c0_i32_57 : BitVec 32 := 0#32
  let c1_i32_59 : BitVec 32 := 1#32
  let arg14 : BitVec 32 := Scf.iv c0_i32_57 c1_i32_59 k1_t15
  let c16_i32_70 : BitVec 32 := 16#32
  let v38 : BitVec 32 := Scalar.muli arg14 c16_i32_70
  let v40 : Index := Scalar.indexCast v38
  ![0, v40.toNat]
def k1_off464 (k1_t15 : Fin k1_t15_loop.trips) : Fin 2 → Nat :=
  let c1_i32_74 : BitVec 32 := 1#32
  let v49 : Index := Scalar.indexCast c1_i32_74
  let c0_i32_57 : BitVec 32 := 0#32
  let c1_i32_59 : BitVec 32 := 1#32
  let arg14 : BitVec 32 := Scf.iv c0_i32_57 c1_i32_59 k1_t15
  let c16_i32_73 : BitVec 32 := 16#32
  let v48 : BitVec 32 := Scalar.muli arg14 c16_i32_73
  let v50 : Index := Scalar.indexCast v48
  ![1, v50.toNat]
def k1_off465 (k1_t15 : Fin k1_t15_loop.trips) : Fin 2 → Nat :=
  let c2_i32_77 : BitVec 32 := 2#32
  let v59 : Index := Scalar.indexCast c2_i32_77
  let c0_i32_57 : BitVec 32 := 0#32
  let c1_i32_59 : BitVec 32 := 1#32
  let arg14 : BitVec 32 := Scf.iv c0_i32_57 c1_i32_59 k1_t15
  let c16_i32_76 : BitVec 32 := 16#32
  let v58 : BitVec 32 := Scalar.muli arg14 c16_i32_76
  let v60 : Index := Scalar.indexCast v58
  ![2, v60.toNat]
def k1_off466 (k1_t15 : Fin k1_t15_loop.trips) : Fin 2 → Nat :=
  let c3_i32_80 : BitVec 32 := 3#32
  let v69 : Index := Scalar.indexCast c3_i32_80
  let c0_i32_57 : BitVec 32 := 0#32
  let c1_i32_59 : BitVec 32 := 1#32
  let arg14 : BitVec 32 := Scf.iv c0_i32_57 c1_i32_59 k1_t15
  let c16_i32_79 : BitVec 32 := 16#32
  let v68 : BitVec 32 := Scalar.muli arg14 c16_i32_79
  let v70 : Index := Scalar.indexCast v68
  ![3, v70.toNat]
def k1_off467 (k1_t15 : Fin k1_t15_loop.trips) : Fin 2 → Nat :=
  let c4_i32_83 : BitVec 32 := 4#32
  let v79 : Index := Scalar.indexCast c4_i32_83
  let c0_i32_57 : BitVec 32 := 0#32
  let c1_i32_59 : BitVec 32 := 1#32
  let arg14 : BitVec 32 := Scf.iv c0_i32_57 c1_i32_59 k1_t15
  let c16_i32_82 : BitVec 32 := 16#32
  let v78 : BitVec 32 := Scalar.muli arg14 c16_i32_82
  let v80 : Index := Scalar.indexCast v78
  ![4, v80.toNat]
def k1_off468 (k1_t15 : Fin k1_t15_loop.trips) : Fin 2 → Nat :=
  let c5_i32_86 : BitVec 32 := 5#32
  let v89 : Index := Scalar.indexCast c5_i32_86
  let c0_i32_57 : BitVec 32 := 0#32
  let c1_i32_59 : BitVec 32 := 1#32
  let arg14 : BitVec 32 := Scf.iv c0_i32_57 c1_i32_59 k1_t15
  let c16_i32_85 : BitVec 32 := 16#32
  let v88 : BitVec 32 := Scalar.muli arg14 c16_i32_85
  let v90 : Index := Scalar.indexCast v88
  ![5, v90.toNat]
def k1_off469 (k1_t15 : Fin k1_t15_loop.trips) : Fin 2 → Nat :=
  let c6_i32_89 : BitVec 32 := 6#32
  let v99 : Index := Scalar.indexCast c6_i32_89
  let c0_i32_57 : BitVec 32 := 0#32
  let c1_i32_59 : BitVec 32 := 1#32
  let arg14 : BitVec 32 := Scf.iv c0_i32_57 c1_i32_59 k1_t15
  let c16_i32_88 : BitVec 32 := 16#32
  let v98 : BitVec 32 := Scalar.muli arg14 c16_i32_88
  let v100 : Index := Scalar.indexCast v98
  ![6, v100.toNat]
def k1_off470 (k1_t15 : Fin k1_t15_loop.trips) : Fin 2 → Nat :=
  let c7_i32_92 : BitVec 32 := 7#32
  let v109 : Index := Scalar.indexCast c7_i32_92
  let c0_i32_57 : BitVec 32 := 0#32
  let c1_i32_59 : BitVec 32 := 1#32
  let arg14 : BitVec 32 := Scf.iv c0_i32_57 c1_i32_59 k1_t15
  let c16_i32_91 : BitVec 32 := 16#32
  let v108 : BitVec 32 := Scalar.muli arg14 c16_i32_91
  let v110 : Index := Scalar.indexCast v108
  ![7, v110.toNat]
def k1_off471 (k1_t15 : Fin k1_t15_loop.trips) : Fin 2 → Nat :=
  let c8_i32_95 : BitVec 32 := 8#32
  let v119 : Index := Scalar.indexCast c8_i32_95
  let c0_i32_57 : BitVec 32 := 0#32
  let c1_i32_59 : BitVec 32 := 1#32
  let arg14 : BitVec 32 := Scf.iv c0_i32_57 c1_i32_59 k1_t15
  let c16_i32_94 : BitVec 32 := 16#32
  let v118 : BitVec 32 := Scalar.muli arg14 c16_i32_94
  let v120 : Index := Scalar.indexCast v118
  ![8, v120.toNat]
def k1_off472 (k1_t15 : Fin k1_t15_loop.trips) : Fin 2 → Nat :=
  let c9_i32_98 : BitVec 32 := 9#32
  let v129 : Index := Scalar.indexCast c9_i32_98
  let c0_i32_57 : BitVec 32 := 0#32
  let c1_i32_59 : BitVec 32 := 1#32
  let arg14 : BitVec 32 := Scf.iv c0_i32_57 c1_i32_59 k1_t15
  let c16_i32_97 : BitVec 32 := 16#32
  let v128 : BitVec 32 := Scalar.muli arg14 c16_i32_97
  let v130 : Index := Scalar.indexCast v128
  ![9, v130.toNat]
def k1_off473 (k1_t15 : Fin k1_t15_loop.trips) : Fin 2 → Nat :=
  let c10_i32_101 : BitVec 32 := 10#32
  let v139 : Index := Scalar.indexCast c10_i32_101
  let c0_i32_57 : BitVec 32 := 0#32
  let c1_i32_59 : BitVec 32 := 1#32
  let arg14 : BitVec 32 := Scf.iv c0_i32_57 c1_i32_59 k1_t15
  let c16_i32_100 : BitVec 32 := 16#32
  let v138 : BitVec 32 := Scalar.muli arg14 c16_i32_100
  let v140 : Index := Scalar.indexCast v138
  ![10, v140.toNat]
def k1_off474 (k1_t15 : Fin k1_t15_loop.trips) : Fin 2 → Nat :=
  let c11_i32_104 : BitVec 32 := 11#32
  let v149 : Index := Scalar.indexCast c11_i32_104
  let c0_i32_57 : BitVec 32 := 0#32
  let c1_i32_59 : BitVec 32 := 1#32
  let arg14 : BitVec 32 := Scf.iv c0_i32_57 c1_i32_59 k1_t15
  let c16_i32_103 : BitVec 32 := 16#32
  let v148 : BitVec 32 := Scalar.muli arg14 c16_i32_103
  let v150 : Index := Scalar.indexCast v148
  ![11, v150.toNat]
def k1_off475 (k1_t15 : Fin k1_t15_loop.trips) : Fin 2 → Nat :=
  let c12_i32_107 : BitVec 32 := 12#32
  let v159 : Index := Scalar.indexCast c12_i32_107
  let c0_i32_57 : BitVec 32 := 0#32
  let c1_i32_59 : BitVec 32 := 1#32
  let arg14 : BitVec 32 := Scf.iv c0_i32_57 c1_i32_59 k1_t15
  let c16_i32_106 : BitVec 32 := 16#32
  let v158 : BitVec 32 := Scalar.muli arg14 c16_i32_106
  let v160 : Index := Scalar.indexCast v158
  ![12, v160.toNat]
def k1_off476 (k1_t15 : Fin k1_t15_loop.trips) : Fin 2 → Nat :=
  let c13_i32_110 : BitVec 32 := 13#32
  let v169 : Index := Scalar.indexCast c13_i32_110
  let c0_i32_57 : BitVec 32 := 0#32
  let c1_i32_59 : BitVec 32 := 1#32
  let arg14 : BitVec 32 := Scf.iv c0_i32_57 c1_i32_59 k1_t15
  let c16_i32_109 : BitVec 32 := 16#32
  let v168 : BitVec 32 := Scalar.muli arg14 c16_i32_109
  let v170 : Index := Scalar.indexCast v168
  ![13, v170.toNat]
def k1_off477 (k1_t15 : Fin k1_t15_loop.trips) : Fin 2 → Nat :=
  let c14_i32_113 : BitVec 32 := 14#32
  let v179 : Index := Scalar.indexCast c14_i32_113
  let c0_i32_57 : BitVec 32 := 0#32
  let c1_i32_59 : BitVec 32 := 1#32
  let arg14 : BitVec 32 := Scf.iv c0_i32_57 c1_i32_59 k1_t15
  let c16_i32_112 : BitVec 32 := 16#32
  let v178 : BitVec 32 := Scalar.muli arg14 c16_i32_112
  let v180 : Index := Scalar.indexCast v178
  ![14, v180.toNat]
def k1_off478 (k1_t15 : Fin k1_t15_loop.trips) : Fin 2 → Nat :=
  let c15_i32_116 : BitVec 32 := 15#32
  let v189 : Index := Scalar.indexCast c15_i32_116
  let c0_i32_57 : BitVec 32 := 0#32
  let c1_i32_59 : BitVec 32 := 1#32
  let arg14 : BitVec 32 := Scf.iv c0_i32_57 c1_i32_59 k1_t15
  let c16_i32_115 : BitVec 32 := 16#32
  let v188 : BitVec 32 := Scalar.muli arg14 c16_i32_115
  let v190 : Index := Scalar.indexCast v188
  ![15, v190.toNat]
def k1_off479 (k1_t15 : Fin k1_t15_loop.trips) : Fin 2 → Nat :=
  let c16_i32_119 : BitVec 32 := 16#32
  let v199 : Index := Scalar.indexCast c16_i32_119
  let c0_i32_57 : BitVec 32 := 0#32
  let c1_i32_59 : BitVec 32 := 1#32
  let arg14 : BitVec 32 := Scf.iv c0_i32_57 c1_i32_59 k1_t15
  let c16_i32_118 : BitVec 32 := 16#32
  let v198 : BitVec 32 := Scalar.muli arg14 c16_i32_118
  let v200 : Index := Scalar.indexCast v198
  ![16, v200.toNat]
def k1_off480 (k1_t15 : Fin k1_t15_loop.trips) : Fin 2 → Nat :=
  let c17_i32 : BitVec 32 := 17#32
  let v209 : Index := Scalar.indexCast c17_i32
  let c0_i32_57 : BitVec 32 := 0#32
  let c1_i32_59 : BitVec 32 := 1#32
  let arg14 : BitVec 32 := Scf.iv c0_i32_57 c1_i32_59 k1_t15
  let c16_i32_121 : BitVec 32 := 16#32
  let v208 : BitVec 32 := Scalar.muli arg14 c16_i32_121
  let v210 : Index := Scalar.indexCast v208
  ![17, v210.toNat]
def k1_off481 (k1_t15 : Fin k1_t15_loop.trips) : Fin 2 → Nat :=
  let c18_i32 : BitVec 32 := 18#32
  let v219 : Index := Scalar.indexCast c18_i32
  let c0_i32_57 : BitVec 32 := 0#32
  let c1_i32_59 : BitVec 32 := 1#32
  let arg14 : BitVec 32 := Scf.iv c0_i32_57 c1_i32_59 k1_t15
  let c16_i32_123 : BitVec 32 := 16#32
  let v218 : BitVec 32 := Scalar.muli arg14 c16_i32_123
  let v220 : Index := Scalar.indexCast v218
  ![18, v220.toNat]
def k1_off482 (k1_t15 : Fin k1_t15_loop.trips) : Fin 2 → Nat :=
  let c19_i32 : BitVec 32 := 19#32
  let v229 : Index := Scalar.indexCast c19_i32
  let c0_i32_57 : BitVec 32 := 0#32
  let c1_i32_59 : BitVec 32 := 1#32
  let arg14 : BitVec 32 := Scf.iv c0_i32_57 c1_i32_59 k1_t15
  let c16_i32_125 : BitVec 32 := 16#32
  let v228 : BitVec 32 := Scalar.muli arg14 c16_i32_125
  let v230 : Index := Scalar.indexCast v228
  ![19, v230.toNat]
def k1_off483 (k1_t15 : Fin k1_t15_loop.trips) : Fin 2 → Nat :=
  let c20_i32 : BitVec 32 := 20#32
  let v239 : Index := Scalar.indexCast c20_i32
  let c0_i32_57 : BitVec 32 := 0#32
  let c1_i32_59 : BitVec 32 := 1#32
  let arg14 : BitVec 32 := Scf.iv c0_i32_57 c1_i32_59 k1_t15
  let c16_i32_127 : BitVec 32 := 16#32
  let v238 : BitVec 32 := Scalar.muli arg14 c16_i32_127
  let v240 : Index := Scalar.indexCast v238
  ![20, v240.toNat]
def k1_off484 (k1_t15 : Fin k1_t15_loop.trips) : Fin 2 → Nat :=
  let c21_i32 : BitVec 32 := 21#32
  let v249 : Index := Scalar.indexCast c21_i32
  let c0_i32_57 : BitVec 32 := 0#32
  let c1_i32_59 : BitVec 32 := 1#32
  let arg14 : BitVec 32 := Scf.iv c0_i32_57 c1_i32_59 k1_t15
  let c16_i32_129 : BitVec 32 := 16#32
  let v248 : BitVec 32 := Scalar.muli arg14 c16_i32_129
  let v250 : Index := Scalar.indexCast v248
  ![21, v250.toNat]
def k1_off485 (k1_t15 : Fin k1_t15_loop.trips) : Fin 2 → Nat :=
  let c22_i32 : BitVec 32 := 22#32
  let v259 : Index := Scalar.indexCast c22_i32
  let c0_i32_57 : BitVec 32 := 0#32
  let c1_i32_59 : BitVec 32 := 1#32
  let arg14 : BitVec 32 := Scf.iv c0_i32_57 c1_i32_59 k1_t15
  let c16_i32_131 : BitVec 32 := 16#32
  let v258 : BitVec 32 := Scalar.muli arg14 c16_i32_131
  let v260 : Index := Scalar.indexCast v258
  ![22, v260.toNat]
def k1_off486 (k1_t15 : Fin k1_t15_loop.trips) : Fin 2 → Nat :=
  let c23_i32 : BitVec 32 := 23#32
  let v269 : Index := Scalar.indexCast c23_i32
  let c0_i32_57 : BitVec 32 := 0#32
  let c1_i32_59 : BitVec 32 := 1#32
  let arg14 : BitVec 32 := Scf.iv c0_i32_57 c1_i32_59 k1_t15
  let c16_i32_133 : BitVec 32 := 16#32
  let v268 : BitVec 32 := Scalar.muli arg14 c16_i32_133
  let v270 : Index := Scalar.indexCast v268
  ![23, v270.toNat]
def k1_off487 (k1_t15 : Fin k1_t15_loop.trips) : Fin 2 → Nat :=
  let c24_i32 : BitVec 32 := 24#32
  let v279 : Index := Scalar.indexCast c24_i32
  let c0_i32_57 : BitVec 32 := 0#32
  let c1_i32_59 : BitVec 32 := 1#32
  let arg14 : BitVec 32 := Scf.iv c0_i32_57 c1_i32_59 k1_t15
  let c16_i32_135 : BitVec 32 := 16#32
  let v278 : BitVec 32 := Scalar.muli arg14 c16_i32_135
  let v280 : Index := Scalar.indexCast v278
  ![24, v280.toNat]
def k1_off488 (k1_t15 : Fin k1_t15_loop.trips) : Fin 2 → Nat :=
  let c25_i32 : BitVec 32 := 25#32
  let v289 : Index := Scalar.indexCast c25_i32
  let c0_i32_57 : BitVec 32 := 0#32
  let c1_i32_59 : BitVec 32 := 1#32
  let arg14 : BitVec 32 := Scf.iv c0_i32_57 c1_i32_59 k1_t15
  let c16_i32_137 : BitVec 32 := 16#32
  let v288 : BitVec 32 := Scalar.muli arg14 c16_i32_137
  let v290 : Index := Scalar.indexCast v288
  ![25, v290.toNat]
def k1_off489 (k1_t15 : Fin k1_t15_loop.trips) : Fin 2 → Nat :=
  let c26_i32 : BitVec 32 := 26#32
  let v299 : Index := Scalar.indexCast c26_i32
  let c0_i32_57 : BitVec 32 := 0#32
  let c1_i32_59 : BitVec 32 := 1#32
  let arg14 : BitVec 32 := Scf.iv c0_i32_57 c1_i32_59 k1_t15
  let c16_i32_139 : BitVec 32 := 16#32
  let v298 : BitVec 32 := Scalar.muli arg14 c16_i32_139
  let v300 : Index := Scalar.indexCast v298
  ![26, v300.toNat]
def k1_off490 (k1_t15 : Fin k1_t15_loop.trips) : Fin 2 → Nat :=
  let c27_i32 : BitVec 32 := 27#32
  let v309 : Index := Scalar.indexCast c27_i32
  let c0_i32_57 : BitVec 32 := 0#32
  let c1_i32_59 : BitVec 32 := 1#32
  let arg14 : BitVec 32 := Scf.iv c0_i32_57 c1_i32_59 k1_t15
  let c16_i32_141 : BitVec 32 := 16#32
  let v308 : BitVec 32 := Scalar.muli arg14 c16_i32_141
  let v310 : Index := Scalar.indexCast v308
  ![27, v310.toNat]
def k1_off491 (k1_t15 : Fin k1_t15_loop.trips) : Fin 2 → Nat :=
  let c28_i32 : BitVec 32 := 28#32
  let v319 : Index := Scalar.indexCast c28_i32
  let c0_i32_57 : BitVec 32 := 0#32
  let c1_i32_59 : BitVec 32 := 1#32
  let arg14 : BitVec 32 := Scf.iv c0_i32_57 c1_i32_59 k1_t15
  let c16_i32_143 : BitVec 32 := 16#32
  let v318 : BitVec 32 := Scalar.muli arg14 c16_i32_143
  let v320 : Index := Scalar.indexCast v318
  ![28, v320.toNat]
def k1_off492 (k1_t15 : Fin k1_t15_loop.trips) : Fin 2 → Nat :=
  let c29_i32 : BitVec 32 := 29#32
  let v329 : Index := Scalar.indexCast c29_i32
  let c0_i32_57 : BitVec 32 := 0#32
  let c1_i32_59 : BitVec 32 := 1#32
  let arg14 : BitVec 32 := Scf.iv c0_i32_57 c1_i32_59 k1_t15
  let c16_i32_145 : BitVec 32 := 16#32
  let v328 : BitVec 32 := Scalar.muli arg14 c16_i32_145
  let v330 : Index := Scalar.indexCast v328
  ![29, v330.toNat]
def k1_off493 (k1_t15 : Fin k1_t15_loop.trips) : Fin 2 → Nat :=
  let c30_i32 : BitVec 32 := 30#32
  let v339 : Index := Scalar.indexCast c30_i32
  let c0_i32_57 : BitVec 32 := 0#32
  let c1_i32_59 : BitVec 32 := 1#32
  let arg14 : BitVec 32 := Scf.iv c0_i32_57 c1_i32_59 k1_t15
  let c16_i32_147 : BitVec 32 := 16#32
  let v338 : BitVec 32 := Scalar.muli arg14 c16_i32_147
  let v340 : Index := Scalar.indexCast v338
  ![30, v340.toNat]
def k1_off494 (k1_t15 : Fin k1_t15_loop.trips) : Fin 2 → Nat :=
  let c31_i32 : BitVec 32 := 31#32
  let v349 : Index := Scalar.indexCast c31_i32
  let c0_i32_57 : BitVec 32 := 0#32
  let c1_i32_59 : BitVec 32 := 1#32
  let arg14 : BitVec 32 := Scf.iv c0_i32_57 c1_i32_59 k1_t15
  let c16_i32_149 : BitVec 32 := 16#32
  let v348 : BitVec 32 := Scalar.muli arg14 c16_i32_149
  let v350 : Index := Scalar.indexCast v348
  ![31, v350.toNat]
def k1_off495 (k1_t15 : Fin k1_t15_loop.trips) : Fin 1 → Nat :=
  let c28672_i32 : BitVec 32 := 28672#32
  let c0_i32_57 : BitVec 32 := 0#32
  let c1_i32_59 : BitVec 32 := 1#32
  let arg14 : BitVec 32 := Scf.iv c0_i32_57 c1_i32_59 k1_t15
  let c16_i32_151 : BitVec 32 := 16#32
  let v364 : BitVec 32 := Scalar.muli arg14 c16_i32_151
  let v365 : BitVec 32 := Scalar.addi c28672_i32 v364
  let v366 : Index := Scalar.indexCast v365
  ![v366.toNat]
@[reducible] def k1_t16_loop : Scf.Loop 32 :=
  let c0_i32_61 : BitVec 32 := 0#32
  let c128_i32_62 : BitVec 32 := 128#32
  let v34 : BitVec 32 := Scalar.addi c0_i32_61 c128_i32_62
  let c1_i32_63 : BitVec 32 := 1#32
  ⟨c0_i32_61, v34, c1_i32_63⟩
def k1_off496 (k1_t16 : Fin k1_t16_loop.trips) : Fin 2 → Nat :=
  let c0_i32_71 : BitVec 32 := 0#32
  let v39 : Index := Scalar.indexCast c0_i32_71
  let c0_i32_61 : BitVec 32 := 0#32
  let c1_i32_63 : BitVec 32 := 1#32
  let arg14 : BitVec 32 := Scf.iv c0_i32_61 c1_i32_63 k1_t16
  let c16_i32_70 : BitVec 32 := 16#32
  let v38 : BitVec 32 := Scalar.muli arg14 c16_i32_70
  let v40 : Index := Scalar.indexCast v38
  ![0, v40.toNat]
def k1_off497 (k1_t16 : Fin k1_t16_loop.trips) : Fin 2 → Nat :=
  let c1_i32_74 : BitVec 32 := 1#32
  let v49 : Index := Scalar.indexCast c1_i32_74
  let c0_i32_61 : BitVec 32 := 0#32
  let c1_i32_63 : BitVec 32 := 1#32
  let arg14 : BitVec 32 := Scf.iv c0_i32_61 c1_i32_63 k1_t16
  let c16_i32_73 : BitVec 32 := 16#32
  let v48 : BitVec 32 := Scalar.muli arg14 c16_i32_73
  let v50 : Index := Scalar.indexCast v48
  ![1, v50.toNat]
def k1_off498 (k1_t16 : Fin k1_t16_loop.trips) : Fin 2 → Nat :=
  let c2_i32_77 : BitVec 32 := 2#32
  let v59 : Index := Scalar.indexCast c2_i32_77
  let c0_i32_61 : BitVec 32 := 0#32
  let c1_i32_63 : BitVec 32 := 1#32
  let arg14 : BitVec 32 := Scf.iv c0_i32_61 c1_i32_63 k1_t16
  let c16_i32_76 : BitVec 32 := 16#32
  let v58 : BitVec 32 := Scalar.muli arg14 c16_i32_76
  let v60 : Index := Scalar.indexCast v58
  ![2, v60.toNat]
def k1_off499 (k1_t16 : Fin k1_t16_loop.trips) : Fin 2 → Nat :=
  let c3_i32_80 : BitVec 32 := 3#32
  let v69 : Index := Scalar.indexCast c3_i32_80
  let c0_i32_61 : BitVec 32 := 0#32
  let c1_i32_63 : BitVec 32 := 1#32
  let arg14 : BitVec 32 := Scf.iv c0_i32_61 c1_i32_63 k1_t16
  let c16_i32_79 : BitVec 32 := 16#32
  let v68 : BitVec 32 := Scalar.muli arg14 c16_i32_79
  let v70 : Index := Scalar.indexCast v68
  ![3, v70.toNat]
def k1_off500 (k1_t16 : Fin k1_t16_loop.trips) : Fin 2 → Nat :=
  let c4_i32_83 : BitVec 32 := 4#32
  let v79 : Index := Scalar.indexCast c4_i32_83
  let c0_i32_61 : BitVec 32 := 0#32
  let c1_i32_63 : BitVec 32 := 1#32
  let arg14 : BitVec 32 := Scf.iv c0_i32_61 c1_i32_63 k1_t16
  let c16_i32_82 : BitVec 32 := 16#32
  let v78 : BitVec 32 := Scalar.muli arg14 c16_i32_82
  let v80 : Index := Scalar.indexCast v78
  ![4, v80.toNat]
def k1_off501 (k1_t16 : Fin k1_t16_loop.trips) : Fin 2 → Nat :=
  let c5_i32_86 : BitVec 32 := 5#32
  let v89 : Index := Scalar.indexCast c5_i32_86
  let c0_i32_61 : BitVec 32 := 0#32
  let c1_i32_63 : BitVec 32 := 1#32
  let arg14 : BitVec 32 := Scf.iv c0_i32_61 c1_i32_63 k1_t16
  let c16_i32_85 : BitVec 32 := 16#32
  let v88 : BitVec 32 := Scalar.muli arg14 c16_i32_85
  let v90 : Index := Scalar.indexCast v88
  ![5, v90.toNat]
def k1_off502 (k1_t16 : Fin k1_t16_loop.trips) : Fin 2 → Nat :=
  let c6_i32_89 : BitVec 32 := 6#32
  let v99 : Index := Scalar.indexCast c6_i32_89
  let c0_i32_61 : BitVec 32 := 0#32
  let c1_i32_63 : BitVec 32 := 1#32
  let arg14 : BitVec 32 := Scf.iv c0_i32_61 c1_i32_63 k1_t16
  let c16_i32_88 : BitVec 32 := 16#32
  let v98 : BitVec 32 := Scalar.muli arg14 c16_i32_88
  let v100 : Index := Scalar.indexCast v98
  ![6, v100.toNat]
def k1_off503 (k1_t16 : Fin k1_t16_loop.trips) : Fin 2 → Nat :=
  let c7_i32_92 : BitVec 32 := 7#32
  let v109 : Index := Scalar.indexCast c7_i32_92
  let c0_i32_61 : BitVec 32 := 0#32
  let c1_i32_63 : BitVec 32 := 1#32
  let arg14 : BitVec 32 := Scf.iv c0_i32_61 c1_i32_63 k1_t16
  let c16_i32_91 : BitVec 32 := 16#32
  let v108 : BitVec 32 := Scalar.muli arg14 c16_i32_91
  let v110 : Index := Scalar.indexCast v108
  ![7, v110.toNat]
def k1_off504 (k1_t16 : Fin k1_t16_loop.trips) : Fin 2 → Nat :=
  let c8_i32_95 : BitVec 32 := 8#32
  let v119 : Index := Scalar.indexCast c8_i32_95
  let c0_i32_61 : BitVec 32 := 0#32
  let c1_i32_63 : BitVec 32 := 1#32
  let arg14 : BitVec 32 := Scf.iv c0_i32_61 c1_i32_63 k1_t16
  let c16_i32_94 : BitVec 32 := 16#32
  let v118 : BitVec 32 := Scalar.muli arg14 c16_i32_94
  let v120 : Index := Scalar.indexCast v118
  ![8, v120.toNat]
def k1_off505 (k1_t16 : Fin k1_t16_loop.trips) : Fin 2 → Nat :=
  let c9_i32_98 : BitVec 32 := 9#32
  let v129 : Index := Scalar.indexCast c9_i32_98
  let c0_i32_61 : BitVec 32 := 0#32
  let c1_i32_63 : BitVec 32 := 1#32
  let arg14 : BitVec 32 := Scf.iv c0_i32_61 c1_i32_63 k1_t16
  let c16_i32_97 : BitVec 32 := 16#32
  let v128 : BitVec 32 := Scalar.muli arg14 c16_i32_97
  let v130 : Index := Scalar.indexCast v128
  ![9, v130.toNat]
def k1_off506 (k1_t16 : Fin k1_t16_loop.trips) : Fin 2 → Nat :=
  let c10_i32_101 : BitVec 32 := 10#32
  let v139 : Index := Scalar.indexCast c10_i32_101
  let c0_i32_61 : BitVec 32 := 0#32
  let c1_i32_63 : BitVec 32 := 1#32
  let arg14 : BitVec 32 := Scf.iv c0_i32_61 c1_i32_63 k1_t16
  let c16_i32_100 : BitVec 32 := 16#32
  let v138 : BitVec 32 := Scalar.muli arg14 c16_i32_100
  let v140 : Index := Scalar.indexCast v138
  ![10, v140.toNat]
def k1_off507 (k1_t16 : Fin k1_t16_loop.trips) : Fin 2 → Nat :=
  let c11_i32_104 : BitVec 32 := 11#32
  let v149 : Index := Scalar.indexCast c11_i32_104
  let c0_i32_61 : BitVec 32 := 0#32
  let c1_i32_63 : BitVec 32 := 1#32
  let arg14 : BitVec 32 := Scf.iv c0_i32_61 c1_i32_63 k1_t16
  let c16_i32_103 : BitVec 32 := 16#32
  let v148 : BitVec 32 := Scalar.muli arg14 c16_i32_103
  let v150 : Index := Scalar.indexCast v148
  ![11, v150.toNat]
def k1_off508 (k1_t16 : Fin k1_t16_loop.trips) : Fin 2 → Nat :=
  let c12_i32_107 : BitVec 32 := 12#32
  let v159 : Index := Scalar.indexCast c12_i32_107
  let c0_i32_61 : BitVec 32 := 0#32
  let c1_i32_63 : BitVec 32 := 1#32
  let arg14 : BitVec 32 := Scf.iv c0_i32_61 c1_i32_63 k1_t16
  let c16_i32_106 : BitVec 32 := 16#32
  let v158 : BitVec 32 := Scalar.muli arg14 c16_i32_106
  let v160 : Index := Scalar.indexCast v158
  ![12, v160.toNat]
def k1_off509 (k1_t16 : Fin k1_t16_loop.trips) : Fin 2 → Nat :=
  let c13_i32_110 : BitVec 32 := 13#32
  let v169 : Index := Scalar.indexCast c13_i32_110
  let c0_i32_61 : BitVec 32 := 0#32
  let c1_i32_63 : BitVec 32 := 1#32
  let arg14 : BitVec 32 := Scf.iv c0_i32_61 c1_i32_63 k1_t16
  let c16_i32_109 : BitVec 32 := 16#32
  let v168 : BitVec 32 := Scalar.muli arg14 c16_i32_109
  let v170 : Index := Scalar.indexCast v168
  ![13, v170.toNat]
def k1_off510 (k1_t16 : Fin k1_t16_loop.trips) : Fin 2 → Nat :=
  let c14_i32_113 : BitVec 32 := 14#32
  let v179 : Index := Scalar.indexCast c14_i32_113
  let c0_i32_61 : BitVec 32 := 0#32
  let c1_i32_63 : BitVec 32 := 1#32
  let arg14 : BitVec 32 := Scf.iv c0_i32_61 c1_i32_63 k1_t16
  let c16_i32_112 : BitVec 32 := 16#32
  let v178 : BitVec 32 := Scalar.muli arg14 c16_i32_112
  let v180 : Index := Scalar.indexCast v178
  ![14, v180.toNat]
def k1_off511 (k1_t16 : Fin k1_t16_loop.trips) : Fin 2 → Nat :=
  let c15_i32_116 : BitVec 32 := 15#32
  let v189 : Index := Scalar.indexCast c15_i32_116
  let c0_i32_61 : BitVec 32 := 0#32
  let c1_i32_63 : BitVec 32 := 1#32
  let arg14 : BitVec 32 := Scf.iv c0_i32_61 c1_i32_63 k1_t16
  let c16_i32_115 : BitVec 32 := 16#32
  let v188 : BitVec 32 := Scalar.muli arg14 c16_i32_115
  let v190 : Index := Scalar.indexCast v188
  ![15, v190.toNat]
def k1_off512 (k1_t16 : Fin k1_t16_loop.trips) : Fin 2 → Nat :=
  let c16_i32_119 : BitVec 32 := 16#32
  let v199 : Index := Scalar.indexCast c16_i32_119
  let c0_i32_61 : BitVec 32 := 0#32
  let c1_i32_63 : BitVec 32 := 1#32
  let arg14 : BitVec 32 := Scf.iv c0_i32_61 c1_i32_63 k1_t16
  let c16_i32_118 : BitVec 32 := 16#32
  let v198 : BitVec 32 := Scalar.muli arg14 c16_i32_118
  let v200 : Index := Scalar.indexCast v198
  ![16, v200.toNat]
def k1_off513 (k1_t16 : Fin k1_t16_loop.trips) : Fin 2 → Nat :=
  let c17_i32 : BitVec 32 := 17#32
  let v209 : Index := Scalar.indexCast c17_i32
  let c0_i32_61 : BitVec 32 := 0#32
  let c1_i32_63 : BitVec 32 := 1#32
  let arg14 : BitVec 32 := Scf.iv c0_i32_61 c1_i32_63 k1_t16
  let c16_i32_121 : BitVec 32 := 16#32
  let v208 : BitVec 32 := Scalar.muli arg14 c16_i32_121
  let v210 : Index := Scalar.indexCast v208
  ![17, v210.toNat]
def k1_off514 (k1_t16 : Fin k1_t16_loop.trips) : Fin 2 → Nat :=
  let c18_i32 : BitVec 32 := 18#32
  let v219 : Index := Scalar.indexCast c18_i32
  let c0_i32_61 : BitVec 32 := 0#32
  let c1_i32_63 : BitVec 32 := 1#32
  let arg14 : BitVec 32 := Scf.iv c0_i32_61 c1_i32_63 k1_t16
  let c16_i32_123 : BitVec 32 := 16#32
  let v218 : BitVec 32 := Scalar.muli arg14 c16_i32_123
  let v220 : Index := Scalar.indexCast v218
  ![18, v220.toNat]
def k1_off515 (k1_t16 : Fin k1_t16_loop.trips) : Fin 2 → Nat :=
  let c19_i32 : BitVec 32 := 19#32
  let v229 : Index := Scalar.indexCast c19_i32
  let c0_i32_61 : BitVec 32 := 0#32
  let c1_i32_63 : BitVec 32 := 1#32
  let arg14 : BitVec 32 := Scf.iv c0_i32_61 c1_i32_63 k1_t16
  let c16_i32_125 : BitVec 32 := 16#32
  let v228 : BitVec 32 := Scalar.muli arg14 c16_i32_125
  let v230 : Index := Scalar.indexCast v228
  ![19, v230.toNat]
def k1_off516 (k1_t16 : Fin k1_t16_loop.trips) : Fin 2 → Nat :=
  let c20_i32 : BitVec 32 := 20#32
  let v239 : Index := Scalar.indexCast c20_i32
  let c0_i32_61 : BitVec 32 := 0#32
  let c1_i32_63 : BitVec 32 := 1#32
  let arg14 : BitVec 32 := Scf.iv c0_i32_61 c1_i32_63 k1_t16
  let c16_i32_127 : BitVec 32 := 16#32
  let v238 : BitVec 32 := Scalar.muli arg14 c16_i32_127
  let v240 : Index := Scalar.indexCast v238
  ![20, v240.toNat]
def k1_off517 (k1_t16 : Fin k1_t16_loop.trips) : Fin 2 → Nat :=
  let c21_i32 : BitVec 32 := 21#32
  let v249 : Index := Scalar.indexCast c21_i32
  let c0_i32_61 : BitVec 32 := 0#32
  let c1_i32_63 : BitVec 32 := 1#32
  let arg14 : BitVec 32 := Scf.iv c0_i32_61 c1_i32_63 k1_t16
  let c16_i32_129 : BitVec 32 := 16#32
  let v248 : BitVec 32 := Scalar.muli arg14 c16_i32_129
  let v250 : Index := Scalar.indexCast v248
  ![21, v250.toNat]
def k1_off518 (k1_t16 : Fin k1_t16_loop.trips) : Fin 2 → Nat :=
  let c22_i32 : BitVec 32 := 22#32
  let v259 : Index := Scalar.indexCast c22_i32
  let c0_i32_61 : BitVec 32 := 0#32
  let c1_i32_63 : BitVec 32 := 1#32
  let arg14 : BitVec 32 := Scf.iv c0_i32_61 c1_i32_63 k1_t16
  let c16_i32_131 : BitVec 32 := 16#32
  let v258 : BitVec 32 := Scalar.muli arg14 c16_i32_131
  let v260 : Index := Scalar.indexCast v258
  ![22, v260.toNat]
def k1_off519 (k1_t16 : Fin k1_t16_loop.trips) : Fin 2 → Nat :=
  let c23_i32 : BitVec 32 := 23#32
  let v269 : Index := Scalar.indexCast c23_i32
  let c0_i32_61 : BitVec 32 := 0#32
  let c1_i32_63 : BitVec 32 := 1#32
  let arg14 : BitVec 32 := Scf.iv c0_i32_61 c1_i32_63 k1_t16
  let c16_i32_133 : BitVec 32 := 16#32
  let v268 : BitVec 32 := Scalar.muli arg14 c16_i32_133
  let v270 : Index := Scalar.indexCast v268
  ![23, v270.toNat]
def k1_off520 (k1_t16 : Fin k1_t16_loop.trips) : Fin 2 → Nat :=
  let c24_i32 : BitVec 32 := 24#32
  let v279 : Index := Scalar.indexCast c24_i32
  let c0_i32_61 : BitVec 32 := 0#32
  let c1_i32_63 : BitVec 32 := 1#32
  let arg14 : BitVec 32 := Scf.iv c0_i32_61 c1_i32_63 k1_t16
  let c16_i32_135 : BitVec 32 := 16#32
  let v278 : BitVec 32 := Scalar.muli arg14 c16_i32_135
  let v280 : Index := Scalar.indexCast v278
  ![24, v280.toNat]
def k1_off521 (k1_t16 : Fin k1_t16_loop.trips) : Fin 2 → Nat :=
  let c25_i32 : BitVec 32 := 25#32
  let v289 : Index := Scalar.indexCast c25_i32
  let c0_i32_61 : BitVec 32 := 0#32
  let c1_i32_63 : BitVec 32 := 1#32
  let arg14 : BitVec 32 := Scf.iv c0_i32_61 c1_i32_63 k1_t16
  let c16_i32_137 : BitVec 32 := 16#32
  let v288 : BitVec 32 := Scalar.muli arg14 c16_i32_137
  let v290 : Index := Scalar.indexCast v288
  ![25, v290.toNat]
def k1_off522 (k1_t16 : Fin k1_t16_loop.trips) : Fin 2 → Nat :=
  let c26_i32 : BitVec 32 := 26#32
  let v299 : Index := Scalar.indexCast c26_i32
  let c0_i32_61 : BitVec 32 := 0#32
  let c1_i32_63 : BitVec 32 := 1#32
  let arg14 : BitVec 32 := Scf.iv c0_i32_61 c1_i32_63 k1_t16
  let c16_i32_139 : BitVec 32 := 16#32
  let v298 : BitVec 32 := Scalar.muli arg14 c16_i32_139
  let v300 : Index := Scalar.indexCast v298
  ![26, v300.toNat]
def k1_off523 (k1_t16 : Fin k1_t16_loop.trips) : Fin 2 → Nat :=
  let c27_i32 : BitVec 32 := 27#32
  let v309 : Index := Scalar.indexCast c27_i32
  let c0_i32_61 : BitVec 32 := 0#32
  let c1_i32_63 : BitVec 32 := 1#32
  let arg14 : BitVec 32 := Scf.iv c0_i32_61 c1_i32_63 k1_t16
  let c16_i32_141 : BitVec 32 := 16#32
  let v308 : BitVec 32 := Scalar.muli arg14 c16_i32_141
  let v310 : Index := Scalar.indexCast v308
  ![27, v310.toNat]
def k1_off524 (k1_t16 : Fin k1_t16_loop.trips) : Fin 2 → Nat :=
  let c28_i32 : BitVec 32 := 28#32
  let v319 : Index := Scalar.indexCast c28_i32
  let c0_i32_61 : BitVec 32 := 0#32
  let c1_i32_63 : BitVec 32 := 1#32
  let arg14 : BitVec 32 := Scf.iv c0_i32_61 c1_i32_63 k1_t16
  let c16_i32_143 : BitVec 32 := 16#32
  let v318 : BitVec 32 := Scalar.muli arg14 c16_i32_143
  let v320 : Index := Scalar.indexCast v318
  ![28, v320.toNat]
def k1_off525 (k1_t16 : Fin k1_t16_loop.trips) : Fin 2 → Nat :=
  let c29_i32 : BitVec 32 := 29#32
  let v329 : Index := Scalar.indexCast c29_i32
  let c0_i32_61 : BitVec 32 := 0#32
  let c1_i32_63 : BitVec 32 := 1#32
  let arg14 : BitVec 32 := Scf.iv c0_i32_61 c1_i32_63 k1_t16
  let c16_i32_145 : BitVec 32 := 16#32
  let v328 : BitVec 32 := Scalar.muli arg14 c16_i32_145
  let v330 : Index := Scalar.indexCast v328
  ![29, v330.toNat]
def k1_off526 (k1_t16 : Fin k1_t16_loop.trips) : Fin 2 → Nat :=
  let c30_i32 : BitVec 32 := 30#32
  let v339 : Index := Scalar.indexCast c30_i32
  let c0_i32_61 : BitVec 32 := 0#32
  let c1_i32_63 : BitVec 32 := 1#32
  let arg14 : BitVec 32 := Scf.iv c0_i32_61 c1_i32_63 k1_t16
  let c16_i32_147 : BitVec 32 := 16#32
  let v338 : BitVec 32 := Scalar.muli arg14 c16_i32_147
  let v340 : Index := Scalar.indexCast v338
  ![30, v340.toNat]
def k1_off527 (k1_t16 : Fin k1_t16_loop.trips) : Fin 2 → Nat :=
  let c31_i32 : BitVec 32 := 31#32
  let v349 : Index := Scalar.indexCast c31_i32
  let c0_i32_61 : BitVec 32 := 0#32
  let c1_i32_63 : BitVec 32 := 1#32
  let arg14 : BitVec 32 := Scf.iv c0_i32_61 c1_i32_63 k1_t16
  let c16_i32_149 : BitVec 32 := 16#32
  let v348 : BitVec 32 := Scalar.muli arg14 c16_i32_149
  let v350 : Index := Scalar.indexCast v348
  ![31, v350.toNat]
def k1_off528 (k1_t16 : Fin k1_t16_loop.trips) : Fin 1 → Nat :=
  let c30720_i32 : BitVec 32 := 30720#32
  let c0_i32_61 : BitVec 32 := 0#32
  let c1_i32_63 : BitVec 32 := 1#32
  let arg14 : BitVec 32 := Scf.iv c0_i32_61 c1_i32_63 k1_t16
  let c16_i32_151 : BitVec 32 := 16#32
  let v364 : BitVec 32 := Scalar.muli arg14 c16_i32_151
  let v365 : BitVec 32 := Scalar.addi c30720_i32 v364
  let v366 : Index := Scalar.indexCast v365
  ![v366.toNat]
@[reducible] def k1_t17_loop : Scf.Loop 32 :=
  let c0_i32_66 : BitVec 32 := 0#32
  let c16_i32_67 : BitVec 32 := 16#32
  let v36 : BitVec 32 := Scalar.addi c0_i32_66 c16_i32_67
  let c1_i32_68 : BitVec 32 := 1#32
  ⟨c0_i32_66, v36, c1_i32_68⟩
def k1_off529 (i : grid1.Coords) (k1_t17 : Fin k1_t17_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let c0_i32_66 : BitVec 32 := 0#32
  let c1_i32_68 : BitVec 32 := 1#32
  let arg14 : BitVec 32 := Scf.iv c0_i32_66 c1_i32_68 k1_t17
  let c8192_i32 : BitVec 32 := 8192#32
  let v38 : BitVec 32 := Scalar.muli arg14 c8192_i32
  let v39 : BitVec 32 := Scalar.addi v2 v38
  ![v39.toNat]
@[reducible] def k1_t18_loop : Scf.Loop 32 :=
  let c0_i32_72 : BitVec 32 := 0#32
  let c64_i32 : BitVec 32 := 64#32
  let v42 : BitVec 32 := Scalar.addi c0_i32_72 c64_i32
  let c1_i32_73 : BitVec 32 := 1#32
  ⟨c0_i32_72, v42, c1_i32_73⟩
def k1_off530 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_108 : BitVec 32 := 128#32
  let v76 : BitVec 32 := Scalar.muli arg16 c128_i32_108
  let c0_i32_109 : BitVec 32 := 0#32
  let v77 : BitVec 32 := Scalar.addi v76 c0_i32_109
  let v78 : Index := Scalar.indexCast v77
  ![v78.toNat]
def k1_off531 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v89 : Index := Scalar.indexCast arg16
  let c0 : Index := 0#32
  ![v89.toNat, 0]

def k1_chk1 (v83 : IVec S16 32) : Prop :=
  (∀ a x, ((![v83] : Fin 1 → IVec S16 32) a x).toNat < S32768.size a) ∧
  (∀ a x, ((![v83] : Fin 1 → IVec S16 32) a x).toNat < S32768.size a)
theorem k1_idx1_inb : ∀ (v83 : IVec S16 32) (k1_hw1 : k1_chk1 v83), ∀ a x, ((![v83] : Fin 1 → IVec S16 32) a x).toNat < S32768.size a := fun v83 k1_hw1 => k1_hw1.1
theorem k1_idx2_inb : ∀ (v83 : IVec S16 32) (k1_hw1 : k1_chk1 v83), ∀ a x, ((![v83] : Fin 1 → IVec S16 32) a x).toNat < S32768.size a := fun v83 k1_hw1 => k1_hw1.2
def k1_off532 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_112 : BitVec 32 := 128#32
  let v91 : BitVec 32 := Scalar.muli arg16 c128_i32_112
  let c16_i32_113 : BitVec 32 := 16#32
  let v92 : BitVec 32 := Scalar.addi v91 c16_i32_113
  let v93 : Index := Scalar.indexCast v92
  ![v93.toNat]
def k1_off533 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v104 : Index := Scalar.indexCast arg16
  let c16 : Index := 16#32
  ![v104.toNat, 16]

def k1_chk2 (v98 : IVec S16 32) : Prop :=
  (∀ a x, ((![v98] : Fin 1 → IVec S16 32) a x).toNat < S32768.size a) ∧
  (∀ a x, ((![v98] : Fin 1 → IVec S16 32) a x).toNat < S32768.size a)
theorem k1_idx3_inb : ∀ (v98 : IVec S16 32) (k1_hw2 : k1_chk2 v98), ∀ a x, ((![v98] : Fin 1 → IVec S16 32) a x).toNat < S32768.size a := fun v98 k1_hw2 => k1_hw2.1
theorem k1_idx4_inb : ∀ (v98 : IVec S16 32) (k1_hw2 : k1_chk2 v98), ∀ a x, ((![v98] : Fin 1 → IVec S16 32) a x).toNat < S32768.size a := fun v98 k1_hw2 => k1_hw2.2
def k1_off534 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_120 : BitVec 32 := 128#32
  let v106 : BitVec 32 := Scalar.muli arg16 c128_i32_120
  let c32_i32 : BitVec 32 := 32#32
  let v107 : BitVec 32 := Scalar.addi v106 c32_i32
  let v108 : Index := Scalar.indexCast v107
  ![v108.toNat]
def k1_off535 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v119 : Index := Scalar.indexCast arg16
  let c32 : Index := 32#32
  ![v119.toNat, 32]

def k1_chk3 (v113 : IVec S16 32) : Prop :=
  (∀ a x, ((![v113] : Fin 1 → IVec S16 32) a x).toNat < S32768.size a) ∧
  (∀ a x, ((![v113] : Fin 1 → IVec S16 32) a x).toNat < S32768.size a)
theorem k1_idx5_inb : ∀ (v113 : IVec S16 32) (k1_hw3 : k1_chk3 v113), ∀ a x, ((![v113] : Fin 1 → IVec S16 32) a x).toNat < S32768.size a := fun v113 k1_hw3 => k1_hw3.1
theorem k1_idx6_inb : ∀ (v113 : IVec S16 32) (k1_hw3 : k1_chk3 v113), ∀ a x, ((![v113] : Fin 1 → IVec S16 32) a x).toNat < S32768.size a := fun v113 k1_hw3 => k1_hw3.2
def k1_off536 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_127 : BitVec 32 := 128#32
  let v121 : BitVec 32 := Scalar.muli arg16 c128_i32_127
  let c48_i32 : BitVec 32 := 48#32
  let v122 : BitVec 32 := Scalar.addi v121 c48_i32
  let v123 : Index := Scalar.indexCast v122
  ![v123.toNat]
def k1_off537 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v134 : Index := Scalar.indexCast arg16
  let c48 : Index := 48#32
  ![v134.toNat, 48]

def k1_chk4 (v128 : IVec S16 32) : Prop :=
  (∀ a x, ((![v128] : Fin 1 → IVec S16 32) a x).toNat < S32768.size a) ∧
  (∀ a x, ((![v128] : Fin 1 → IVec S16 32) a x).toNat < S32768.size a)
theorem k1_idx7_inb : ∀ (v128 : IVec S16 32) (k1_hw4 : k1_chk4 v128), ∀ a x, ((![v128] : Fin 1 → IVec S16 32) a x).toNat < S32768.size a := fun v128 k1_hw4 => k1_hw4.1
theorem k1_idx8_inb : ∀ (v128 : IVec S16 32) (k1_hw4 : k1_chk4 v128), ∀ a x, ((![v128] : Fin 1 → IVec S16 32) a x).toNat < S32768.size a := fun v128 k1_hw4 => k1_hw4.2
def k1_off538 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_134 : BitVec 32 := 128#32
  let v136 : BitVec 32 := Scalar.muli arg16 c128_i32_134
  let c64_i32_135 : BitVec 32 := 64#32
  let v137 : BitVec 32 := Scalar.addi v136 c64_i32_135
  let v138 : Index := Scalar.indexCast v137
  ![v138.toNat]
def k1_off539 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v149 : Index := Scalar.indexCast arg16
  let c64 : Index := 64#32
  ![v149.toNat, 64]

def k1_chk5 (v143 : IVec S16 32) : Prop :=
  (∀ a x, ((![v143] : Fin 1 → IVec S16 32) a x).toNat < S32768.size a) ∧
  (∀ a x, ((![v143] : Fin 1 → IVec S16 32) a x).toNat < S32768.size a)
theorem k1_idx9_inb : ∀ (v143 : IVec S16 32) (k1_hw5 : k1_chk5 v143), ∀ a x, ((![v143] : Fin 1 → IVec S16 32) a x).toNat < S32768.size a := fun v143 k1_hw5 => k1_hw5.1
theorem k1_idx10_inb : ∀ (v143 : IVec S16 32) (k1_hw5 : k1_chk5 v143), ∀ a x, ((![v143] : Fin 1 → IVec S16 32) a x).toNat < S32768.size a := fun v143 k1_hw5 => k1_hw5.2
def k1_off540 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_142 : BitVec 32 := 128#32
  let v151 : BitVec 32 := Scalar.muli arg16 c128_i32_142
  let c80_i32 : BitVec 32 := 80#32
  let v152 : BitVec 32 := Scalar.addi v151 c80_i32
  let v153 : Index := Scalar.indexCast v152
  ![v153.toNat]
def k1_off541 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v164 : Index := Scalar.indexCast arg16
  let c80 : Index := 80#32
  ![v164.toNat, 80]

def k1_chk6 (v158 : IVec S16 32) : Prop :=
  (∀ a x, ((![v158] : Fin 1 → IVec S16 32) a x).toNat < S32768.size a) ∧
  (∀ a x, ((![v158] : Fin 1 → IVec S16 32) a x).toNat < S32768.size a)
theorem k1_idx11_inb : ∀ (v158 : IVec S16 32) (k1_hw6 : k1_chk6 v158), ∀ a x, ((![v158] : Fin 1 → IVec S16 32) a x).toNat < S32768.size a := fun v158 k1_hw6 => k1_hw6.1
theorem k1_idx12_inb : ∀ (v158 : IVec S16 32) (k1_hw6 : k1_chk6 v158), ∀ a x, ((![v158] : Fin 1 → IVec S16 32) a x).toNat < S32768.size a := fun v158 k1_hw6 => k1_hw6.2
def k1_off542 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_149 : BitVec 32 := 128#32
  let v166 : BitVec 32 := Scalar.muli arg16 c128_i32_149
  let c96_i32 : BitVec 32 := 96#32
  let v167 : BitVec 32 := Scalar.addi v166 c96_i32
  let v168 : Index := Scalar.indexCast v167
  ![v168.toNat]
def k1_off543 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v179 : Index := Scalar.indexCast arg16
  let c96 : Index := 96#32
  ![v179.toNat, 96]

def k1_chk7 (v173 : IVec S16 32) : Prop :=
  (∀ a x, ((![v173] : Fin 1 → IVec S16 32) a x).toNat < S32768.size a) ∧
  (∀ a x, ((![v173] : Fin 1 → IVec S16 32) a x).toNat < S32768.size a)
theorem k1_idx13_inb : ∀ (v173 : IVec S16 32) (k1_hw7 : k1_chk7 v173), ∀ a x, ((![v173] : Fin 1 → IVec S16 32) a x).toNat < S32768.size a := fun v173 k1_hw7 => k1_hw7.1
theorem k1_idx14_inb : ∀ (v173 : IVec S16 32) (k1_hw7 : k1_chk7 v173), ∀ a x, ((![v173] : Fin 1 → IVec S16 32) a x).toNat < S32768.size a := fun v173 k1_hw7 => k1_hw7.2
def k1_off544 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_156 : BitVec 32 := 128#32
  let v181 : BitVec 32 := Scalar.muli arg16 c128_i32_156
  let c112_i32 : BitVec 32 := 112#32
  let v182 : BitVec 32 := Scalar.addi v181 c112_i32
  let v183 : Index := Scalar.indexCast v182
  ![v183.toNat]
def k1_off545 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let v194 : Index := Scalar.indexCast arg16
  let c112 : Index := 112#32
  ![v194.toNat, 112]

def k1_chk8 (v188 : IVec S16 32) : Prop :=
  (∀ a x, ((![v188] : Fin 1 → IVec S16 32) a x).toNat < S32768.size a) ∧
  (∀ a x, ((![v188] : Fin 1 → IVec S16 32) a x).toNat < S32768.size a)
theorem k1_idx15_inb : ∀ (v188 : IVec S16 32) (k1_hw8 : k1_chk8 v188), ∀ a x, ((![v188] : Fin 1 → IVec S16 32) a x).toNat < S32768.size a := fun v188 k1_hw8 => k1_hw8.1
theorem k1_idx16_inb : ∀ (v188 : IVec S16 32) (k1_hw8 : k1_chk8 v188), ∀ a x, ((![v188] : Fin 1 → IVec S16 32) a x).toNat < S32768.size a := fun v188 k1_hw8 => k1_hw8.2
def k1_off546 (k1_t18 : Fin k1_t18_loop.trips) : Fin 1 → Nat :=
  let c0_i32_72 : BitVec 32 := 0#32
  let c1_i32_73 : BitVec 32 := 1#32
  let arg16 : BitVec 32 := Scf.iv c0_i32_72 c1_i32_73 k1_t18
  let c128_i32_163 : BitVec 32 := 128#32
  let v196 : BitVec 32 := Scalar.muli arg16 c128_i32_163
  ![v196.toNat]
def k1_off547 (k1_t18 : Fin k1_t18_loop.trips) : Fin 2 → Nat :=
  let c0_i32_72 : BitVec 32 := 0#32
  let c1_i32_73 : BitVec 32 := 1#32
  let arg16 : BitVec 32 := Scf.iv c0_i32_72 c1_i32_73 k1_t18
  let c0_i32_164 : BitVec 32 := 0#32
  ![arg16.toNat, 0]
abbrev grid2 : Pipeline.Grid := ⟨2, ![2, 16], ![false, false]⟩

@[reducible] def k2_t1_loop : Scf.Loop 32 :=
  let c0_i32_1 : BitVec 32 := 0#32
  let c2048_i32 : BitVec 32 := 2048#32
  let v4 : BitVec 32 := Scalar.addi c0_i32_1 c2048_i32
  let c1_i32 : BitVec 32 := 1#32
  ⟨c0_i32_1, v4, c1_i32⟩
def k2_off1 (k2_t1 : Fin k2_t1_loop.trips) : Fin 1 → Nat :=
  let c0_i32_1 : BitVec 32 := 0#32
  let c1_i32 : BitVec 32 := 1#32
  let arg6 : BitVec 32 := Scf.iv c0_i32_1 c1_i32 k2_t1
  let c16_i32_10 : BitVec 32 := 16#32
  let v8 : BitVec 32 := Scalar.muli arg6 c16_i32_10
  let v9 : Index := Scalar.indexCast v8
  ![v9.toNat]
@[reducible] def k2_t2_loop : Scf.Loop 32 :=
  let c0_i32_4 : BitVec 32 := 0#32
  let c16_i32_5 : BitVec 32 := 16#32
  let v6 : BitVec 32 := Scalar.addi c0_i32_4 c16_i32_5
  let c1_i32_6 : BitVec 32 := 1#32
  ⟨c0_i32_4, v6, c1_i32_6⟩
def k2_off2 (i : grid2.Coords) (k2_t2 : Fin k2_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let c0_i32_4 : BitVec 32 := 0#32
  let c1_i32_6 : BitVec 32 := 1#32
  let arg6 : BitVec 32 := Scf.iv c0_i32_4 c1_i32_6 k2_t2
  let c8192_i32 : BitVec 32 := 8192#32
  let v8 : BitVec 32 := Scalar.muli arg6 c8192_i32
  let v9 : BitVec 32 := Scalar.addi v2 v8
  ![v9.toNat]
@[reducible] def k2_t3_loop : Scf.Loop 32 :=
  let c0_i32_11 : BitVec 32 := 0#32
  let c64_i32 : BitVec 32 := 64#32
  let v10 : BitVec 32 := Scalar.addi c0_i32_11 c64_i32
  let c1_i32_12 : BitVec 32 := 1#32
  ⟨c0_i32_11, v10, c1_i32_12⟩
def k2_off3 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32 : BitVec 32 := 128#32
  let v12 : BitVec 32 := Scalar.muli arg8 c128_i32
  let c0_i32_15 : BitVec 32 := 0#32
  let v13 : BitVec 32 := Scalar.addi v12 c0_i32_15
  let v14 : Index := Scalar.indexCast v13
  ![v14.toNat]

def k2_chk1 (v19 : IVec S16 32) : Prop :=
  (∀ a x, ((![v19] : Fin 1 → IVec S16 32) a x).toNat < S32768.size a)
theorem k2_idx1_inb : ∀ (v19 : IVec S16 32) (k2_hw1 : k2_chk1 v19), ∀ a x, ((![v19] : Fin 1 → IVec S16 32) a x).toNat < S32768.size a := fun v19 k2_hw1 => k2_hw1
def k2_off4 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_17 : BitVec 32 := 128#32
  let v21 : BitVec 32 := Scalar.muli arg8 c128_i32_17
  let c16_i32_18 : BitVec 32 := 16#32
  let v22 : BitVec 32 := Scalar.addi v21 c16_i32_18
  let v23 : Index := Scalar.indexCast v22
  ![v23.toNat]

def k2_chk2 (v28 : IVec S16 32) : Prop :=
  (∀ a x, ((![v28] : Fin 1 → IVec S16 32) a x).toNat < S32768.size a)
theorem k2_idx2_inb : ∀ (v28 : IVec S16 32) (k2_hw2 : k2_chk2 v28), ∀ a x, ((![v28] : Fin 1 → IVec S16 32) a x).toNat < S32768.size a := fun v28 k2_hw2 => k2_hw2
def k2_off5 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_24 : BitVec 32 := 128#32
  let v30 : BitVec 32 := Scalar.muli arg8 c128_i32_24
  let c32_i32 : BitVec 32 := 32#32
  let v31 : BitVec 32 := Scalar.addi v30 c32_i32
  let v32 : Index := Scalar.indexCast v31
  ![v32.toNat]

def k2_chk3 (v37 : IVec S16 32) : Prop :=
  (∀ a x, ((![v37] : Fin 1 → IVec S16 32) a x).toNat < S32768.size a)
theorem k2_idx3_inb : ∀ (v37 : IVec S16 32) (k2_hw3 : k2_chk3 v37), ∀ a x, ((![v37] : Fin 1 → IVec S16 32) a x).toNat < S32768.size a := fun v37 k2_hw3 => k2_hw3
def k2_off6 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_30 : BitVec 32 := 128#32
  let v39 : BitVec 32 := Scalar.muli arg8 c128_i32_30
  let c48_i32 : BitVec 32 := 48#32
  let v40 : BitVec 32 := Scalar.addi v39 c48_i32
  let v41 : Index := Scalar.indexCast v40
  ![v41.toNat]

def k2_chk4 (v46 : IVec S16 32) : Prop :=
  (∀ a x, ((![v46] : Fin 1 → IVec S16 32) a x).toNat < S32768.size a)
theorem k2_idx4_inb : ∀ (v46 : IVec S16 32) (k2_hw4 : k2_chk4 v46), ∀ a x, ((![v46] : Fin 1 → IVec S16 32) a x).toNat < S32768.size a := fun v46 k2_hw4 => k2_hw4
def k2_off7 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_36 : BitVec 32 := 128#32
  let v48 : BitVec 32 := Scalar.muli arg8 c128_i32_36
  let c64_i32_37 : BitVec 32 := 64#32
  let v49 : BitVec 32 := Scalar.addi v48 c64_i32_37
  let v50 : Index := Scalar.indexCast v49
  ![v50.toNat]

def k2_chk5 (v55 : IVec S16 32) : Prop :=
  (∀ a x, ((![v55] : Fin 1 → IVec S16 32) a x).toNat < S32768.size a)
theorem k2_idx5_inb : ∀ (v55 : IVec S16 32) (k2_hw5 : k2_chk5 v55), ∀ a x, ((![v55] : Fin 1 → IVec S16 32) a x).toNat < S32768.size a := fun v55 k2_hw5 => k2_hw5
def k2_off8 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_43 : BitVec 32 := 128#32
  let v57 : BitVec 32 := Scalar.muli arg8 c128_i32_43
  let c80_i32 : BitVec 32 := 80#32
  let v58 : BitVec 32 := Scalar.addi v57 c80_i32
  let v59 : Index := Scalar.indexCast v58
  ![v59.toNat]

def k2_chk6 (v64 : IVec S16 32) : Prop :=
  (∀ a x, ((![v64] : Fin 1 → IVec S16 32) a x).toNat < S32768.size a)
theorem k2_idx6_inb : ∀ (v64 : IVec S16 32) (k2_hw6 : k2_chk6 v64), ∀ a x, ((![v64] : Fin 1 → IVec S16 32) a x).toNat < S32768.size a := fun v64 k2_hw6 => k2_hw6
def k2_off9 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_49 : BitVec 32 := 128#32
  let v66 : BitVec 32 := Scalar.muli arg8 c128_i32_49
  let c96_i32 : BitVec 32 := 96#32
  let v67 : BitVec 32 := Scalar.addi v66 c96_i32
  let v68 : Index := Scalar.indexCast v67
  ![v68.toNat]

def k2_chk7 (v73 : IVec S16 32) : Prop :=
  (∀ a x, ((![v73] : Fin 1 → IVec S16 32) a x).toNat < S32768.size a)
theorem k2_idx7_inb : ∀ (v73 : IVec S16 32) (k2_hw7 : k2_chk7 v73), ∀ a x, ((![v73] : Fin 1 → IVec S16 32) a x).toNat < S32768.size a := fun v73 k2_hw7 => k2_hw7
def k2_off10 (k2_t3 : Fin k2_t3_loop.trips) : Fin 1 → Nat :=
  let c0_i32_11 : BitVec 32 := 0#32
  let c1_i32_12 : BitVec 32 := 1#32
  let arg8 : BitVec 32 := Scf.iv c0_i32_11 c1_i32_12 k2_t3
  let c128_i32_55 : BitVec 32 := 128#32
  let v75 : BitVec 32 := Scalar.muli arg8 c128_i32_55
  let c112_i32 : BitVec 32 := 112#32
  let v76 : BitVec 32 := Scalar.addi v75 c112_i32
  let v77 : Index := Scalar.indexCast v76
  ![v77.toNat]

def k2_chk8 (v82 : IVec S16 32) : Prop :=
  (∀ a x, ((![v82] : Fin 1 → IVec S16 32) a x).toNat < S32768.size a)
theorem k2_idx8_inb : ∀ (v82 : IVec S16 32) (k2_hw8 : k2_chk8 v82), ∀ a x, ((![v82] : Fin 1 → IVec S16 32) a x).toNat < S32768.size a := fun v82 k2_hw8 => k2_hw8
def k2_off11 (i : grid2.Coords) : Fin 3 → Nat :=
  let c0_i32_8 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_11_r1 : BitVec 32 := 0#32
  ![0, v1.toNat, 0]
def k2_off12 (i : grid2.Coords) : Fin 3 → Nat :=
  let c1_i32_9 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_11_r2 : BitVec 32 := 0#32
  ![1, v1.toNat, 0]
def k2_off13 (i : grid2.Coords) : Fin 3 → Nat :=
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r3 : BitVec 32 := 0#32
  ![2, v1.toNat, 0]
def k2_off14 (i : grid2.Coords) : Fin 3 → Nat :=
  let c3_i32 : BitVec 32 := 3#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r4 : BitVec 32 := 0#32
  ![3, v1.toNat, 0]
def k2_off15 (i : grid2.Coords) : Fin 3 → Nat :=
  let c4_i32 : BitVec 32 := 4#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r5 : BitVec 32 := 0#32
  ![4, v1.toNat, 0]
def k2_off16 (i : grid2.Coords) : Fin 3 → Nat :=
  let c5_i32 : BitVec 32 := 5#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r6 : BitVec 32 := 0#32
  ![5, v1.toNat, 0]
def k2_off17 (i : grid2.Coords) : Fin 3 → Nat :=
  let c6_i32 : BitVec 32 := 6#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r7 : BitVec 32 := 0#32
  ![6, v1.toNat, 0]
def k2_off18 (i : grid2.Coords) : Fin 3 → Nat :=
  let c7_i32 : BitVec 32 := 7#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r8 : BitVec 32 := 0#32
  ![7, v1.toNat, 0]
def k2_off19 (i : grid2.Coords) : Fin 3 → Nat :=
  let c8_i32 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r9 : BitVec 32 := 0#32
  ![8, v1.toNat, 0]
def k2_off20 (i : grid2.Coords) : Fin 3 → Nat :=
  let c9_i32 : BitVec 32 := 9#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r10 : BitVec 32 := 0#32
  ![9, v1.toNat, 0]
def k2_off21 (i : grid2.Coords) : Fin 3 → Nat :=
  let c10_i32 : BitVec 32 := 10#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r11 : BitVec 32 := 0#32
  ![10, v1.toNat, 0]
def k2_off22 (i : grid2.Coords) : Fin 3 → Nat :=
  let c11_i32 : BitVec 32 := 11#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r12 : BitVec 32 := 0#32
  ![11, v1.toNat, 0]
def k2_off23 (i : grid2.Coords) : Fin 3 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r13 : BitVec 32 := 0#32
  ![12, v1.toNat, 0]
def k2_off24 (i : grid2.Coords) : Fin 3 → Nat :=
  let c13_i32 : BitVec 32 := 13#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r14 : BitVec 32 := 0#32
  ![13, v1.toNat, 0]
def k2_off25 (i : grid2.Coords) : Fin 3 → Nat :=
  let c14_i32 : BitVec 32 := 14#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r15 : BitVec 32 := 0#32
  ![14, v1.toNat, 0]
def k2_off26 (i : grid2.Coords) : Fin 3 → Nat :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r16 : BitVec 32 := 0#32
  ![15, v1.toNat, 0]
abbrev grid3 : Pipeline.Grid := ⟨2, ![2, 16], ![false, false]⟩

@[reducible] def k3_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k3_off1 (k3_t1 : Fin k3_t1_loop.trips) : Fin 2 → Nat :=
  let c0_i32_71 : BitVec 32 := 0#32
  let v39 : Index := Scalar.indexCast c0_i32_71
  let c0_i32_2 : BitVec 32 := 0#32
  let c1_i32 : BitVec 32 := 1#32
  let arg14 : BitVec 32 := Scf.iv c0_i32_2 c1_i32 k3_t1
  let c16_i32_70 : BitVec 32 := 16#32
  let v38 : BitVec 32 := Scalar.muli arg14 c16_i32_70
  let v40 : Index := Scalar.indexCast v38
  ![0, v40.toNat]
def k3_off2 (k3_t1 : Fin k3_t1_loop.trips) : Fin 2 → Nat :=
  let c1_i32_74 : BitVec 32 := 1#32
  let v49 : Index := Scalar.indexCast c1_i32_74
  let c0_i32_2 : BitVec 32 := 0#32
  let c1_i32 : BitVec 32 := 1#32
  let arg14 : BitVec 32 := Scf.iv c0_i32_2 c1_i32 k3_t1
  let c16_i32_73 : BitVec 32 := 16#32
  let v48 : BitVec 32 := Scalar.muli arg14 c16_i32_73
  let v50 : Index := Scalar.indexCast v48
  ![1, v50.toNat]
def k3_off3 (k3_t1 : Fin k3_t1_loop.trips) : Fin 2 → Nat :=
  let c2_i32_77 : BitVec 32 := 2#32
  let v59 : Index := Scalar.indexCast c2_i32_77
  let c0_i32_2 : BitVec 32 := 0#32
  let c1_i32 : BitVec 32 := 1#32
  let arg14 : BitVec 32 := Scf.iv c0_i32_2 c1_i32 k3_t1
  let c16_i32_76 : BitVec 32 := 16#32
  let v58 : BitVec 32 := Scalar.muli arg14 c16_i32_76
  let v60 : Index := Scalar.indexCast v58
  ![2, v60.toNat]
def k3_off4 (k3_t1 : Fin k3_t1_loop.trips) : Fin 2 → Nat :=
  let c3_i32_80 : BitVec 32 := 3#32
  let v69 : Index := Scalar.indexCast c3_i32_80
  let c0_i32_2 : BitVec 32 := 0#32
  let c1_i32 : BitVec 32 := 1#32
  let arg14 : BitVec 32 := Scf.iv c0_i32_2 c1_i32 k3_t1
  let c16_i32_79 : BitVec 32 := 16#32
  let v68 : BitVec 32 := Scalar.muli arg14 c16_i32_79
  let v70 : Index := Scalar.indexCast v68
  ![3, v70.toNat]
def k3_off5 (k3_t1 : Fin k3_t1_loop.trips) : Fin 2 → Nat :=
  let c4_i32_83 : BitVec 32 := 4#32
  let v79 : Index := Scalar.indexCast c4_i32_83
  let c0_i32_2 : BitVec 32 := 0#32
  let c1_i32 : BitVec 32 := 1#32
  let arg14 : BitVec 32 := Scf.iv c0_i32_2 c1_i32 k3_t1
  let c16_i32_82 : BitVec 32 := 16#32
  let v78 : BitVec 32 := Scalar.muli arg14 c16_i32_82
  let v80 : Index := Scalar.indexCast v78
  ![4, v80.toNat]
def k3_off6 (k3_t1 : Fin k3_t1_loop.trips) : Fin 2 → Nat :=
  let c5_i32_86 : BitVec 32 := 5#32
  let v89 : Index := Scalar.indexCast c5_i32_86
  let c0_i32_2 : BitVec 32 := 0#32
  let c1_i32 : BitVec 32 := 1#32
  let arg14 : BitVec 32 := Scf.iv c0_i32_2 c1_i32 k3_t1
  let c16_i32_85 : BitVec 32 := 16#32
  let v88 : BitVec 32 := Scalar.muli arg14 c16_i32_85
  let v90 : Index := Scalar.indexCast v88
  ![5, v90.toNat]
def k3_off7 (k3_t1 : Fin k3_t1_loop.trips) : Fin 2 → Nat :=
  let c6_i32_89 : BitVec 32 := 6#32
  let v99 : Index := Scalar.indexCast c6_i32_89
  let c0_i32_2 : BitVec 32 := 0#32
  let c1_i32 : BitVec 32 := 1#32
  let arg14 : BitVec 32 := Scf.iv c0_i32_2 c1_i32 k3_t1
  let c16_i32_88 : BitVec 32 := 16#32
  let v98 : BitVec 32 := Scalar.muli arg14 c16_i32_88
  let v100 : Index := Scalar.indexCast v98
  ![6, v100.toNat]
def k3_off8 (k3_t1 : Fin k3_t1_loop.trips) : Fin 2 → Nat :=
  let c7_i32_92 : BitVec 32 := 7#32
  let v109 : Index := Scalar.indexCast c7_i32_92
  let c0_i32_2 : BitVec 32 := 0#32
  let c1_i32 : BitVec 32 := 1#32
  let arg14 : BitVec 32 := Scf.iv c0_i32_2 c1_i32 k3_t1
  let c16_i32_91 : BitVec 32 := 16#32
  let v108 : BitVec 32 := Scalar.muli arg14 c16_i32_91
  let v110 : Index := Scalar.indexCast v108
  ![7, v110.toNat]
def k3_off9 (k3_t1 : Fin k3_t1_loop.trips) : Fin 2 → Nat :=
  let c8_i32_95 : BitVec 32 := 8#32
  let v119 : Index := Scalar.indexCast c8_i32_95
  let c0_i32_2 : BitVec 32 := 0#32
  let c1_i32 : BitVec 32 := 1#32
  let arg14 : BitVec 32 := Scf.iv c0_i32_2 c1_i32 k3_t1
  let c16_i32_94 : BitVec 32 := 16#32
  let v118 : BitVec 32 := Scalar.muli arg14 c16_i32_94
  let v120 : Index := Scalar.indexCast v118
  ![8, v120.toNat]
def k3_off10 (k3_t1 : Fin k3_t1_loop.trips) : Fin 2 → Nat :=
  let c9_i32_98 : BitVec 32 := 9#32
  let v129 : Index := Scalar.indexCast c9_i32_98
  let c0_i32_2 : BitVec 32 := 0#32
  let c1_i32 : BitVec 32 := 1#32
  let arg14 : BitVec 32 := Scf.iv c0_i32_2 c1_i32 k3_t1
  let c16_i32_97 : BitVec 32 := 16#32
  let v128 : BitVec 32 := Scalar.muli arg14 c16_i32_97
  let v130 : Index := Scalar.indexCast v128
  ![9, v130.toNat]
def k3_off11 (k3_t1 : Fin k3_t1_loop.trips) : Fin 2 → Nat :=
  let c10_i32_101 : BitVec 32 := 10#32
  let v139 : Index := Scalar.indexCast c10_i32_101
  let c0_i32_2 : BitVec 32 := 0#32
  let c1_i32 : BitVec 32 := 1#32
  let arg14 : BitVec 32 := Scf.iv c0_i32_2 c1_i32 k3_t1
  let c16_i32_100 : BitVec 32 := 16#32
  let v138 : BitVec 32 := Scalar.muli arg14 c16_i32_100
  let v140 : Index := Scalar.indexCast v138
  ![10, v140.toNat]
def k3_off12 (k3_t1 : Fin k3_t1_loop.trips) : Fin 2 → Nat :=
  let c11_i32_104 : BitVec 32 := 11#32
  let v149 : Index := Scalar.indexCast c11_i32_104
  let c0_i32_2 : BitVec 32 := 0#32
  let c1_i32 : BitVec 32 := 1#32
  let arg14 : BitVec 32 := Scf.iv c0_i32_2 c1_i32 k3_t1
  let c16_i32_103 : BitVec 32 := 16#32
  let v148 : BitVec 32 := Scalar.muli arg14 c16_i32_103
  let v150 : Index := Scalar.indexCast v148
  ![11, v150.toNat]
def k3_off13 (k3_t1 : Fin k3_t1_loop.trips) : Fin 2 → Nat :=
  let c12_i32_107 : BitVec 32 := 12#32
  let v159 : Index := Scalar.indexCast c12_i32_107
  let c0_i32_2 : BitVec 32 := 0#32
  let c1_i32 : BitVec 32 := 1#32
  let arg14 : BitVec 32 := Scf.iv c0_i32_2 c1_i32 k3_t1
  let c16_i32_106 : BitVec 32 := 16#32
  let v158 : BitVec 32 := Scalar.muli arg14 c16_i32_106
  let v160 : Index := Scalar.indexCast v158
  ![12, v160.toNat]
def k3_off14 (k3_t1 : Fin k3_t1_loop.trips) : Fin 2 → Nat :=
  let c13_i32_110 : BitVec 32 := 13#32
  let v169 : Index := Scalar.indexCast c13_i32_110
  let c0_i32_2 : BitVec 32 := 0#32
  let c1_i32 : BitVec 32 := 1#32
  let arg14 : BitVec 32 := Scf.iv c0_i32_2 c1_i32 k3_t1
  let c16_i32_109 : BitVec 32 := 16#32
  let v168 : BitVec 32 := Scalar.muli arg14 c16_i32_109
  let v170 : Index := Scalar.indexCast v168
  ![13, v170.toNat]
def k3_off15 (k3_t1 : Fin k3_t1_loop.trips) : Fin 2 → Nat :=
  let c14_i32_113 : BitVec 32 := 14#32
  let v179 : Index := Scalar.indexCast c14_i32_113
  let c0_i32_2 : BitVec 32 := 0#32
  let c1_i32 : BitVec 32 := 1#32
  let arg14 : BitVec 32 := Scf.iv c0_i32_2 c1_i32 k3_t1
  let c16_i32_112 : BitVec 32 := 16#32
  let v178 : BitVec 32 := Scalar.muli arg14 c16_i32_112
  let v180 : Index := Scalar.indexCast v178
  ![14, v180.toNat]
def k3_off16 (k3_t1 : Fin k3_t1_loop.trips) : Fin 2 → Nat :=
  let c15_i32_116 : BitVec 32 := 15#32
  let v189 : Index := Scalar.indexCast c15_i32_116
  let c0_i32_2 : BitVec 32 := 0#32
  let c1_i32 : BitVec 32 := 1#32
  let arg14 : BitVec 32 := Scf.iv c0_i32_2 c1_i32 k3_t1
  let c16_i32_115 : BitVec 32 := 16#32
  let v188 : BitVec 32 := Scalar.muli arg14 c16_i32_115
  let v190 : Index := Scalar.indexCast v188
  ![15, v190.toNat]
def k3_off17 (k3_t1 : Fin k3_t1_loop.trips) : Fin 2 → Nat :=
  let c16_i32_119 : BitVec 32 := 16#32
  let v199 : Index := Scalar.indexCast c16_i32_119
  let c0_i32_2 : BitVec 32 := 0#32
  let c1_i32 : BitVec 32 := 1#32
  let arg14 : BitVec 32 := Scf.iv c0_i32_2 c1_i32 k3_t1
  let c16_i32_118 : BitVec 32 := 16#32
  let v198 : BitVec 32 := Scalar.muli arg14 c16_i32_118
  let v200 : Index := Scalar.indexCast v198
  ![16, v200.toNat]
def k3_off18 (k3_t1 : Fin k3_t1_loop.trips) : Fin 2 → Nat :=
  let c17_i32 : BitVec 32 := 17#32
  let v209 : Index := Scalar.indexCast c17_i32
  let c0_i32_2 : BitVec 32 := 0#32
  let c1_i32 : BitVec 32 := 1#32
  let arg14 : BitVec 32 := Scf.iv c0_i32_2 c1_i32 k3_t1
  let c16_i32_121 : BitVec 32 := 16#32
  let v208 : BitVec 32 := Scalar.muli arg14 c16_i32_121
  let v210 : Index := Scalar.indexCast v208
  ![17, v210.toNat]
def k3_off19 (k3_t1 : Fin k3_t1_loop.trips) : Fin 2 → Nat :=
  let c18_i32 : BitVec 32 := 18#32
  let v219 : Index := Scalar.indexCast c18_i32
  let c0_i32_2 : BitVec 32 := 0#32
  let c1_i32 : BitVec 32 := 1#32
  let arg14 : BitVec 32 := Scf.iv c0_i32_2 c1_i32 k3_t1
  let c16_i32_123 : BitVec 32 := 16#32
  let v218 : BitVec 32 := Scalar.muli arg14 c16_i32_123
  let v220 : Index := Scalar.indexCast v218
  ![18, v220.toNat]
def k3_off20 (k3_t1 : Fin k3_t1_loop.trips) : Fin 2 → Nat :=
  let c19_i32 : BitVec 32 := 19#32
  let v229 : Index := Scalar.indexCast c19_i32
  let c0_i32_2 : BitVec 32 := 0#32
  let c1_i32 : BitVec 32 := 1#32
  let arg14 : BitVec 32 := Scf.iv c0_i32_2 c1_i32 k3_t1
  let c16_i32_125 : BitVec 32 := 16#32
  let v228 : BitVec 32 := Scalar.muli arg14 c16_i32_125
  let v230 : Index := Scalar.indexCast v228
  ![19, v230.toNat]
def k3_off21 (k3_t1 : Fin k3_t1_loop.trips) : Fin 2 → Nat :=
  let c20_i32 : BitVec 32 := 20#32
  let v239 : Index := Scalar.indexCast c20_i32
  let c0_i32_2 : BitVec 32 := 0#32
  let c1_i32 : BitVec 32 := 1#32
  let arg14 : BitVec 32 := Scf.iv c0_i32_2 c1_i32 k3_t1
  let c16_i32_127 : BitVec 32 := 16#32
  let v238 : BitVec 32 := Scalar.muli arg14 c16_i32_127
  let v240 : Index := Scalar.indexCast v238
  ![20, v240.toNat]
def k3_off22 (k3_t1 : Fin k3_t1_loop.trips) : Fin 2 → Nat :=
  let c21_i32 : BitVec 32 := 21#32
  let v249 : Index := Scalar.indexCast c21_i32
  let c0_i32_2 : BitVec 32 := 0#32
  let c1_i32 : BitVec 32 := 1#32
  let arg14 : BitVec 32 := Scf.iv c0_i32_2 c1_i32 k3_t1
  let c16_i32_129 : BitVec 32 := 16#32
  let v248 : BitVec 32 := Scalar.muli arg14 c16_i32_129
  let v250 : Index := Scalar.indexCast v248
  ![21, v250.toNat]
def k3_off23 (k3_t1 : Fin k3_t1_loop.trips) : Fin 2 → Nat :=
  let c22_i32 : BitVec 32 := 22#32
  let v259 : Index := Scalar.indexCast c22_i32
  let c0_i32_2 : BitVec 32 := 0#32
  let c1_i32 : BitVec 32 := 1#32
  let arg14 : BitVec 32 := Scf.iv c0_i32_2 c1_i32 k3_t1
  let c16_i32_131 : BitVec 32 := 16#32
  let v258 : BitVec 32 := Scalar.muli arg14 c16_i32_131
  let v260 : Index := Scalar.indexCast v258
  ![22, v260.toNat]
def k3_off24 (k3_t1 : Fin k3_t1_loop.trips) : Fin 2 → Nat :=
  let c23_i32 : BitVec 32 := 23#32
  let v269 : Index := Scalar.indexCast c23_i32
  let c0_i32_2 : BitVec 32 := 0#32
  let c1_i32 : BitVec 32 := 1#32
  let arg14 : BitVec 32 := Scf.iv c0_i32_2 c1_i32 k3_t1
  let c16_i32_133 : BitVec 32 := 16#32
  let v268 : BitVec 32 := Scalar.muli arg14 c16_i32_133
  let v270 : Index := Scalar.indexCast v268
  ![23, v270.toNat]
def k3_off25 (k3_t1 : Fin k3_t1_loop.trips) : Fin 2 → Nat :=
  let c24_i32 : BitVec 32 := 24#32
  let v279 : Index := Scalar.indexCast c24_i32
  let c0_i32_2 : BitVec 32 := 0#32
  let c1_i32 : BitVec 32 := 1#32
  let arg14 : BitVec 32 := Scf.iv c0_i32_2 c1_i32 k3_t1
  let c16_i32_135 : BitVec 32 := 16#32
  let v278 : BitVec 32 := Scalar.muli arg14 c16_i32_135
  let v280 : Index := Scalar.indexCast v278
  ![24, v280.toNat]
def k3_off26 (k3_t1 : Fin k3_t1_loop.trips) : Fin 2 → Nat :=
  let c25_i32 : BitVec 32 := 25#32
  let v289 : Index := Scalar.indexCast c25_i32
  let c0_i32_2 : BitVec 32 := 0#32
  let c1_i32 : BitVec 32 := 1#32
  let arg14 : BitVec 32 := Scf.iv c0_i32_2 c1_i32 k3_t1
  let c16_i32_137 : BitVec 32 := 16#32
  let v288 : BitVec 32 := Scalar.muli arg14 c16_i32_137
  let v290 : Index := Scalar.indexCast v288
  ![25, v290.toNat]
def k3_off27 (k3_t1 : Fin k3_t1_loop.trips) : Fin 2 → Nat :=
  let c26_i32 : BitVec 32 := 26#32
  let v299 : Index := Scalar.indexCast c26_i32
  let c0_i32_2 : BitVec 32 := 0#32
  let c1_i32 : BitVec 32 := 1#32
  let arg14 : BitVec 32 := Scf.iv c0_i32_2 c1_i32 k3_t1
  let c16_i32_139 : BitVec 32 := 16#32
  let v298 : BitVec 32 := Scalar.muli arg14 c16_i32_139
  let v300 : Index := Scalar.indexCast v298
  ![26, v300.toNat]
def k3_off28 (k3_t1 : Fin k3_t1_loop.trips) : Fin 2 → Nat :=
  let c27_i32 : BitVec 32 := 27#32
  let v309 : Index := Scalar.indexCast c27_i32
  let c0_i32_2 : BitVec 32 := 0#32
  let c1_i32 : BitVec 32 := 1#32
  let arg14 : BitVec 32 := Scf.iv c0_i32_2 c1_i32 k3_t1
  let c16_i32_141 : BitVec 32 := 16#32
  let v308 : BitVec 32 := Scalar.muli arg14 c16_i32_141
  let v310 : Index := Scalar.indexCast v308
  ![27, v310.toNat]
def k3_off29 (k3_t1 : Fin k3_t1_loop.trips) : Fin 2 → Nat :=
  let c28_i32 : BitVec 32 := 28#32
  let v319 : Index := Scalar.indexCast c28_i32
  let c0_i32_2 : BitVec 32 := 0#32
  let c1_i32 : BitVec 32 := 1#32
  let arg14 : BitVec 32 := Scf.iv c0_i32_2 c1_i32 k3_t1
  let c16_i32_143 : BitVec 32 := 16#32
  let v318 : BitVec 32 := Scalar.muli arg14 c16_i32_143
  let v320 : Index := Scalar.indexCast v318
  ![28, v320.toNat]
def k3_off30 (k3_t1 : Fin k3_t1_loop.trips) : Fin 2 → Nat :=
  let c29_i32 : BitVec 32 := 29#32
  let v329 : Index := Scalar.indexCast c29_i32
  let c0_i32_2 : BitVec 32 := 0#32
  let c1_i32 : BitVec 32 := 1#32
  let arg14 : BitVec 32 := Scf.iv c0_i32_2 c1_i32 k3_t1
  let c16_i32_145 : BitVec 32 := 16#32
  let v328 : BitVec 32 := Scalar.muli arg14 c16_i32_145
  let v330 : Index := Scalar.indexCast v328
  ![29, v330.toNat]
def k3_off31 (k3_t1 : Fin k3_t1_loop.trips) : Fin 2 → Nat :=
  let c30_i32 : BitVec 32 := 30#32
  let v339 : Index := Scalar.indexCast c30_i32
  let c0_i32_2 : BitVec 32 := 0#32
  let c1_i32 : BitVec 32 := 1#32
  let arg14 : BitVec 32 := Scf.iv c0_i32_2 c1_i32 k3_t1
  let c16_i32_147 : BitVec 32 := 16#32
  let v338 : BitVec 32 := Scalar.muli arg14 c16_i32_147
  let v340 : Index := Scalar.indexCast v338
  ![30, v340.toNat]
def k3_off32 (k3_t1 : Fin k3_t1_loop.trips) : Fin 2 → Nat :=
  let c31_i32 : BitVec 32 := 31#32
  let v349 : Index := Scalar.indexCast c31_i32
  let c0_i32_2 : BitVec 32 := 0#32
  let c1_i32 : BitVec 32 := 1#32
  let arg14 : BitVec 32 := Scf.iv c0_i32_2 c1_i32 k3_t1
  let c16_i32_149 : BitVec 32 := 16#32
  let v348 : BitVec 32 := Scalar.muli arg14 c16_i32_149
  let v350 : Index := Scalar.indexCast v348
  ![31, v350.toNat]
def k3_off33 (k3_t1 : Fin k3_t1_loop.trips) : Fin 1 → Nat :=
  let c0_i32_152 : BitVec 32 := 0#32
  let c0_i32_2 : BitVec 32 := 0#32
  let c1_i32 : BitVec 32 := 1#32
  let arg14 : BitVec 32 := Scf.iv c0_i32_2 c1_i32 k3_t1
  let c16_i32_151 : BitVec 32 := 16#32
  let v364 : BitVec 32 := Scalar.muli arg14 c16_i32_151
  let v365 : BitVec 32 := Scalar.addi c0_i32_152 v364
  let v366 : Index := Scalar.indexCast v365
  ![v366.toNat]
@[reducible] def k3_t2_loop : Scf.Loop 32 :=
  let c0_i32_5 : BitVec 32 := 0#32
  let c128_i32_6 : BitVec 32 := 128#32
  let v6 : BitVec 32 := Scalar.addi c0_i32_5 c128_i32_6
  let c1_i32_7 : BitVec 32 := 1#32
  ⟨c0_i32_5, v6, c1_i32_7⟩
def k3_off34 (k3_t2 : Fin k3_t2_loop.trips) : Fin 2 → Nat :=
  let c0_i32_71 : BitVec 32 := 0#32
  let v39 : Index := Scalar.indexCast c0_i32_71
  let c0_i32_5 : BitVec 32 := 0#32
  let c1_i32_7 : BitVec 32 := 1#32
  let arg14 : BitVec 32 := Scf.iv c0_i32_5 c1_i32_7 k3_t2
  let c16_i32_70 : BitVec 32 := 16#32
  let v38 : BitVec 32 := Scalar.muli arg14 c16_i32_70
  let v40 : Index := Scalar.indexCast v38
  ![0, v40.toNat]
def k3_off35 (k3_t2 : Fin k3_t2_loop.trips) : Fin 2 → Nat :=
  let c1_i32_74 : BitVec 32 := 1#32
  let v49 : Index := Scalar.indexCast c1_i32_74
  let c0_i32_5 : BitVec 32 := 0#32
  let c1_i32_7 : BitVec 32 := 1#32
  let arg14 : BitVec 32 := Scf.iv c0_i32_5 c1_i32_7 k3_t2
  let c16_i32_73 : BitVec 32 := 16#32
  let v48 : BitVec 32 := Scalar.muli arg14 c16_i32_73
  let v50 : Index := Scalar.indexCast v48
  ![1, v50.toNat]
def k3_off36 (k3_t2 : Fin k3_t2_loop.trips) : Fin 2 → Nat :=
  let c2_i32_77 : BitVec 32 := 2#32
  let v59 : Index := Scalar.indexCast c2_i32_77
  let c0_i32_5 : BitVec 32 := 0#32
  let c1_i32_7 : BitVec 32 := 1#32
  let arg14 : BitVec 32 := Scf.iv c0_i32_5 c1_i32_7 k3_t2
  let c16_i32_76 : BitVec 32 := 16#32
  let v58 : BitVec 32 := Scalar.muli arg14 c16_i32_76
  let v60 : Index := Scalar.indexCast v58
  ![2, v60.toNat]
def k3_off37 (k3_t2 : Fin k3_t2_loop.trips) : Fin 2 → Nat :=
  let c3_i32_80 : BitVec 32 := 3#32
  let v69 : Index := Scalar.indexCast c3_i32_80
  let c0_i32_5 : BitVec 32 := 0#32
  let c1_i32_7 : BitVec 32 := 1#32
  let arg14 : BitVec 32 := Scf.iv c0_i32_5 c1_i32_7 k3_t2
  let c16_i32_79 : BitVec 32 := 16#32
  let v68 : BitVec 32 := Scalar.muli arg14 c16_i32_79
  let v70 : Index := Scalar.indexCast v68
  ![3, v70.toNat]
def k3_off38 (k3_t2 : Fin k3_t2_loop.trips) : Fin 2 → Nat :=
  let c4_i32_83 : BitVec 32 := 4#32
  let v79 : Index := Scalar.indexCast c4_i32_83
  let c0_i32_5 : BitVec 32 := 0#32
  let c1_i32_7 : BitVec 32 := 1#32
  let arg14 : BitVec 32 := Scf.iv c0_i32_5 c1_i32_7 k3_t2
  let c16_i32_82 : BitVec 32 := 16#32
  let v78 : BitVec 32 := Scalar.muli arg14 c16_i32_82
  let v80 : Index := Scalar.indexCast v78
  ![4, v80.toNat]
def k3_off39 (k3_t2 : Fin k3_t2_loop.trips) : Fin 2 → Nat :=
  let c5_i32_86 : BitVec 32 := 5#32
  let v89 : Index := Scalar.indexCast c5_i32_86
  let c0_i32_5 : BitVec 32 := 0#32
  let c1_i32_7 : BitVec 32 := 1#32
  let arg14 : BitVec 32 := Scf.iv c0_i32_5 c1_i32_7 k3_t2
  let c16_i32_85 : BitVec 32 := 16#32
  let v88 : BitVec 32 := Scalar.muli arg14 c16_i32_85
  let v90 : Index := Scalar.indexCast v88
  ![5, v90.toNat]
def k3_off40 (k3_t2 : Fin k3_t2_loop.trips) : Fin 2 → Nat :=
  let c6_i32_89 : BitVec 32 := 6#32
  let v99 : Index := Scalar.indexCast c6_i32_89
  let c0_i32_5 : BitVec 32 := 0#32
  let c1_i32_7 : BitVec 32 := 1#32
  let arg14 : BitVec 32 := Scf.iv c0_i32_5 c1_i32_7 k3_t2
  let c16_i32_88 : BitVec 32 := 16#32
  let v98 : BitVec 32 := Scalar.muli arg14 c16_i32_88
  let v100 : Index := Scalar.indexCast v98
  ![6, v100.toNat]
def k3_off41 (k3_t2 : Fin k3_t2_loop.trips) : Fin 2 → Nat :=
  let c7_i32_92 : BitVec 32 := 7#32
  let v109 : Index := Scalar.indexCast c7_i32_92
  let c0_i32_5 : BitVec 32 := 0#32
  let c1_i32_7 : BitVec 32 := 1#32
  let arg14 : BitVec 32 := Scf.iv c0_i32_5 c1_i32_7 k3_t2
  let c16_i32_91 : BitVec 32 := 16#32
  let v108 : BitVec 32 := Scalar.muli arg14 c16_i32_91
  let v110 : Index := Scalar.indexCast v108
  ![7, v110.toNat]
def k3_off42 (k3_t2 : Fin k3_t2_loop.trips) : Fin 2 → Nat :=
  let c8_i32_95 : BitVec 32 := 8#32
  let v119 : Index := Scalar.indexCast c8_i32_95
  let c0_i32_5 : BitVec 32 := 0#32
  let c1_i32_7 : BitVec 32 := 1#32
  let arg14 : BitVec 32 := Scf.iv c0_i32_5 c1_i32_7 k3_t2
  let c16_i32_94 : BitVec 32 := 16#32
  let v118 : BitVec 32 := Scalar.muli arg14 c16_i32_94
  let v120 : Index := Scalar.indexCast v118
  ![8, v120.toNat]
def k3_off43 (k3_t2 : Fin k3_t2_loop.trips) : Fin 2 → Nat :=
  let c9_i32_98 : BitVec 32 := 9#32
  let v129 : Index := Scalar.indexCast c9_i32_98
  let c0_i32_5 : BitVec 32 := 0#32
  let c1_i32_7 : BitVec 32 := 1#32
  let arg14 : BitVec 32 := Scf.iv c0_i32_5 c1_i32_7 k3_t2
  let c16_i32_97 : BitVec 32 := 16#32
  let v128 : BitVec 32 := Scalar.muli arg14 c16_i32_97
  let v130 : Index := Scalar.indexCast v128
  ![9, v130.toNat]
def k3_off44 (k3_t2 : Fin k3_t2_loop.trips) : Fin 2 → Nat :=
  let c10_i32_101 : BitVec 32 := 10#32
  let v139 : Index := Scalar.indexCast c10_i32_101
  let c0_i32_5 : BitVec 32 := 0#32
  let c1_i32_7 : BitVec 32 := 1#32
  let arg14 : BitVec 32 := Scf.iv c0_i32_5 c1_i32_7 k3_t2
  let c16_i32_100 : BitVec 32 := 16#32
  let v138 : BitVec 32 := Scalar.muli arg14 c16_i32_100
  let v140 : Index := Scalar.indexCast v138
  ![10, v140.toNat]
def k3_off45 (k3_t2 : Fin k3_t2_loop.trips) : Fin 2 → Nat :=
  let c11_i32_104 : BitVec 32 := 11#32
  let v149 : Index := Scalar.indexCast c11_i32_104
  let c0_i32_5 : BitVec 32 := 0#32
  let c1_i32_7 : BitVec 32 := 1#32
  let arg14 : BitVec 32 := Scf.iv c0_i32_5 c1_i32_7 k3_t2
  let c16_i32_103 : BitVec 32 := 16#32
  let v148 : BitVec 32 := Scalar.muli arg14 c16_i32_103
  let v150 : Index := Scalar.indexCast v148
  ![11, v150.toNat]
def k3_off46 (k3_t2 : Fin k3_t2_loop.trips) : Fin 2 → Nat :=
  let c12_i32_107 : BitVec 32 := 12#32
  let v159 : Index := Scalar.indexCast c12_i32_107
  let c0_i32_5 : BitVec 32 := 0#32
  let c1_i32_7 : BitVec 32 := 1#32
  let arg14 : BitVec 32 := Scf.iv c0_i32_5 c1_i32_7 k3_t2
  let c16_i32_106 : BitVec 32 := 16#32
  let v158 : BitVec 32 := Scalar.muli arg14 c16_i32_106
  let v160 : Index := Scalar.indexCast v158
  ![12, v160.toNat]
def k3_off47 (k3_t2 : Fin k3_t2_loop.trips) : Fin 2 → Nat :=
  let c13_i32_110 : BitVec 32 := 13#32
  let v169 : Index := Scalar.indexCast c13_i32_110
  let c0_i32_5 : BitVec 32 := 0#32
  let c1_i32_7 : BitVec 32 := 1#32
  let arg14 : BitVec 32 := Scf.iv c0_i32_5 c1_i32_7 k3_t2
  let c16_i32_109 : BitVec 32 := 16#32
  let v168 : BitVec 32 := Scalar.muli arg14 c16_i32_109
  let v170 : Index := Scalar.indexCast v168
  ![13, v170.toNat]
def k3_off48 (k3_t2 : Fin k3_t2_loop.trips) : Fin 2 → Nat :=
  let c14_i32_113 : BitVec 32 := 14#32
  let v179 : Index := Scalar.indexCast c14_i32_113
  let c0_i32_5 : BitVec 32 := 0#32
  let c1_i32_7 : BitVec 32 := 1#32
  let arg14 : BitVec 32 := Scf.iv c0_i32_5 c1_i32_7 k3_t2
  let c16_i32_112 : BitVec 32 := 16#32
  let v178 : BitVec 32 := Scalar.muli arg14 c16_i32_112
  let v180 : Index := Scalar.indexCast v178
  ![14, v180.toNat]
def k3_off49 (k3_t2 : Fin k3_t2_loop.trips) : Fin 2 → Nat :=
  let c15_i32_116 : BitVec 32 := 15#32
  let v189 : Index := Scalar.indexCast c15_i32_116
  let c0_i32_5 : BitVec 32 := 0#32
  let c1_i32_7 : BitVec 32 := 1#32
  let arg14 : BitVec 32 := Scf.iv c0_i32_5 c1_i32_7 k3_t2
  let c16_i32_115 : BitVec 32 := 16#32
  let v188 : BitVec 32 := Scalar.muli arg14 c16_i32_115
  let v190 : Index := Scalar.indexCast v188
  ![15, v190.toNat]
def k3_off50 (k3_t2 : Fin k3_t2_loop.trips) : Fin 2 → Nat :=
  let c16_i32_119 : BitVec 32 := 16#32
  let v199 : Index := Scalar.indexCast c16_i32_119
  let c0_i32_5 : BitVec 32 := 0#32
  let c1_i32_7 : BitVec 32 := 1#32
  let arg14 : BitVec 32 := Scf.iv c0_i32_5 c1_i32_7 k3_t2
  let c16_i32_118 : BitVec 32 := 16#32
  let v198 : BitVec 32 := Scalar.muli arg14 c16_i32_118
  let v200 : Index := Scalar.indexCast v198
  ![16, v200.toNat]
def k3_off51 (k3_t2 : Fin k3_t2_loop.trips) : Fin 2 → Nat :=
  let c17_i32 : BitVec 32 := 17#32
  let v209 : Index := Scalar.indexCast c17_i32
  let c0_i32_5 : BitVec 32 := 0#32
  let c1_i32_7 : BitVec 32 := 1#32
  let arg14 : BitVec 32 := Scf.iv c0_i32_5 c1_i32_7 k3_t2
  let c16_i32_121 : BitVec 32 := 16#32
  let v208 : BitVec 32 := Scalar.muli arg14 c16_i32_121
  let v210 : Index := Scalar.indexCast v208
  ![17, v210.toNat]
def k3_off52 (k3_t2 : Fin k3_t2_loop.trips) : Fin 2 → Nat :=
  let c18_i32 : BitVec 32 := 18#32
  let v219 : Index := Scalar.indexCast c18_i32
  let c0_i32_5 : BitVec 32 := 0#32
  let c1_i32_7 : BitVec 32 := 1#32
  let arg14 : BitVec 32 := Scf.iv c0_i32_5 c1_i32_7 k3_t2
  let c16_i32_123 : BitVec 32 := 16#32
  let v218 : BitVec 32 := Scalar.muli arg14 c16_i32_123
  let v220 : Index := Scalar.indexCast v218
  ![18, v220.toNat]
def k3_off53 (k3_t2 : Fin k3_t2_loop.trips) : Fin 2 → Nat :=
  let c19_i32 : BitVec 32 := 19#32
  let v229 : Index := Scalar.indexCast c19_i32
  let c0_i32_5 : BitVec 32 := 0#32
  let c1_i32_7 : BitVec 32 := 1#32
  let arg14 : BitVec 32 := Scf.iv c0_i32_5 c1_i32_7 k3_t2
  let c16_i32_125 : BitVec 32 := 16#32
  let v228 : BitVec 32 := Scalar.muli arg14 c16_i32_125
  let v230 : Index := Scalar.indexCast v228
  ![19, v230.toNat]
def k3_off54 (k3_t2 : Fin k3_t2_loop.trips) : Fin 2 → Nat :=
  let c20_i32 : BitVec 32 := 20#32
  let v239 : Index := Scalar.indexCast c20_i32
  let c0_i32_5 : BitVec 32 := 0#32
  let c1_i32_7 : BitVec 32 := 1#32
  let arg14 : BitVec 32 := Scf.iv c0_i32_5 c1_i32_7 k3_t2
  let c16_i32_127 : BitVec 32 := 16#32
  let v238 : BitVec 32 := Scalar.muli arg14 c16_i32_127
  let v240 : Index := Scalar.indexCast v238
  ![20, v240.toNat]
def k3_off55 (k3_t2 : Fin k3_t2_loop.trips) : Fin 2 → Nat :=
  let c21_i32 : BitVec 32 := 21#32
  let v249 : Index := Scalar.indexCast c21_i32
  let c0_i32_5 : BitVec 32 := 0#32
  let c1_i32_7 : BitVec 32 := 1#32
  let arg14 : BitVec 32 := Scf.iv c0_i32_5 c1_i32_7 k3_t2
  let c16_i32_129 : BitVec 32 := 16#32
  let v248 : BitVec 32 := Scalar.muli arg14 c16_i32_129
  let v250 : Index := Scalar.indexCast v248
  ![21, v250.toNat]
def k3_off56 (k3_t2 : Fin k3_t2_loop.trips) : Fin 2 → Nat :=
  let c22_i32 : BitVec 32 := 22#32
  let v259 : Index := Scalar.indexCast c22_i32
  let c0_i32_5 : BitVec 32 := 0#32
  let c1_i32_7 : BitVec 32 := 1#32
  let arg14 : BitVec 32 := Scf.iv c0_i32_5 c1_i32_7 k3_t2
  let c16_i32_131 : BitVec 32 := 16#32
  let v258 : BitVec 32 := Scalar.muli arg14 c16_i32_131
  let v260 : Index := Scalar.indexCast v258
  ![22, v260.toNat]
def k3_off57 (k3_t2 : Fin k3_t2_loop.trips) : Fin 2 → Nat :=
  let c23_i32 : BitVec 32 := 23#32
  let v269 : Index := Scalar.indexCast c23_i32
  let c0_i32_5 : BitVec 32 := 0#32
  let c1_i32_7 : BitVec 32 := 1#32
  let arg14 : BitVec 32 := Scf.iv c0_i32_5 c1_i32_7 k3_t2
  let c16_i32_133 : BitVec 32 := 16#32
  let v268 : BitVec 32 := Scalar.muli arg14 c16_i32_133
  let v270 : Index := Scalar.indexCast v268
  ![23, v270.toNat]
def k3_off58 (k3_t2 : Fin k3_t2_loop.trips) : Fin 2 → Nat :=
  let c24_i32 : BitVec 32 := 24#32
  let v279 : Index := Scalar.indexCast c24_i32
  let c0_i32_5 : BitVec 32 := 0#32
  let c1_i32_7 : BitVec 32 := 1#32
  let arg14 : BitVec 32 := Scf.iv c0_i32_5 c1_i32_7 k3_t2
  let c16_i32_135 : BitVec 32 := 16#32
  let v278 : BitVec 32 := Scalar.muli arg14 c16_i32_135
  let v280 : Index := Scalar.indexCast v278
  ![24, v280.toNat]
def k3_off59 (k3_t2 : Fin k3_t2_loop.trips) : Fin 2 → Nat :=
  let c25_i32 : BitVec 32 := 25#32
  let v289 : Index := Scalar.indexCast c25_i32
  let c0_i32_5 : BitVec 32 := 0#32
  let c1_i32_7 : BitVec 32 := 1#32
  let arg14 : BitVec 32 := Scf.iv c0_i32_5 c1_i32_7 k3_t2
  let c16_i32_137 : BitVec 32 := 16#32
  let v288 : BitVec 32 := Scalar.muli arg14 c16_i32_137
  let v290 : Index := Scalar.indexCast v288
  ![25, v290.toNat]
def k3_off60 (k3_t2 : Fin k3_t2_loop.trips) : Fin 2 → Nat :=
  let c26_i32 : BitVec 32 := 26#32
  let v299 : Index := Scalar.indexCast c26_i32
  let c0_i32_5 : BitVec 32 := 0#32
  let c1_i32_7 : BitVec 32 := 1#32
  let arg14 : BitVec 32 := Scf.iv c0_i32_5 c1_i32_7 k3_t2
  let c16_i32_139 : BitVec 32 := 16#32
  let v298 : BitVec 32 := Scalar.muli arg14 c16_i32_139
  let v300 : Index := Scalar.indexCast v298
  ![26, v300.toNat]
def k3_off61 (k3_t2 : Fin k3_t2_loop.trips) : Fin 2 → Nat :=
  let c27_i32 : BitVec 32 := 27#32
  let v309 : Index := Scalar.indexCast c27_i32
  let c0_i32_5 : BitVec 32 := 0#32
  let c1_i32_7 : BitVec 32 := 1#32
  let arg14 : BitVec 32 := Scf.iv c0_i32_5 c1_i32_7 k3_t2
  let c16_i32_141 : BitVec 32 := 16#32
  let v308 : BitVec 32 := Scalar.muli arg14 c16_i32_141
  let v310 : Index := Scalar.indexCast v308
  ![27, v310.toNat]
def k3_off62 (k3_t2 : Fin k3_t2_loop.trips) : Fin 2 → Nat :=
  let c28_i32 : BitVec 32 := 28#32
  let v319 : Index := Scalar.indexCast c28_i32
  let c0_i32_5 : BitVec 32 := 0#32
  let c1_i32_7 : BitVec 32 := 1#32
  let arg14 : BitVec 32 := Scf.iv c0_i32_5 c1_i32_7 k3_t2
  let c16_i32_143 : BitVec 32 := 16#32
  let v318 : BitVec 32 := Scalar.muli arg14 c16_i32_143
  let v320 : Index := Scalar.indexCast v318
  ![28, v320.toNat]
def k3_off63 (k3_t2 : Fin k3_t2_loop.trips) : Fin 2 → Nat :=
  let c29_i32 : BitVec 32 := 29#32
  let v329 : Index := Scalar.indexCast c29_i32
  let c0_i32_5 : BitVec 32 := 0#32
  let c1_i32_7 : BitVec 32 := 1#32
  let arg14 : BitVec 32 := Scf.iv c0_i32_5 c1_i32_7 k3_t2
  let c16_i32_145 : BitVec 32 := 16#32
  let v328 : BitVec 32 := Scalar.muli arg14 c16_i32_145
  let v330 : Index := Scalar.indexCast v328
  ![29, v330.toNat]
def k3_off64 (k3_t2 : Fin k3_t2_loop.trips) : Fin 2 → Nat :=
  let c30_i32 : BitVec 32 := 30#32
  let v339 : Index := Scalar.indexCast c30_i32
  let c0_i32_5 : BitVec 32 := 0#32
  let c1_i32_7 : BitVec 32 := 1#32
  let arg14 : BitVec 32 := Scf.iv c0_i32_5 c1_i32_7 k3_t2
  let c16_i32_147 : BitVec 32 := 16#32
  let v338 : BitVec 32 := Scalar.muli arg14 c16_i32_147
  let v340 : Index := Scalar.indexCast v338
  ![30, v340.toNat]
def k3_off65 (k3_t2 : Fin k3_t2_loop.trips) : Fin 2 → Nat :=
  let c31_i32 : BitVec 32 := 31#32
  let v349 : Index := Scalar.indexCast c31_i32
  let c0_i32_5 : BitVec 32 := 0#32
  let c1_i32_7 : BitVec 32 := 1#32
  let arg14 : BitVec 32 := Scf.iv c0_i32_5 c1_i32_7 k3_t2
  let c16_i32_149 : BitVec 32 := 16#32
  let v348 : BitVec 32 := Scalar.muli arg14 c16_i32_149
  let v350 : Index := Scalar.indexCast v348
  ![31, v350.toNat]
def k3_off66 (k3_t2 : Fin k3_t2_loop.trips) : Fin 1 → Nat :=
  let c2048_i32 : BitVec 32 := 2048#32
  let c0_i32_5 : BitVec 32 := 0#32
  let c1_i32_7 : BitVec 32 := 1#32
  let arg14 : BitVec 32 := Scf.iv c0_i32_5 c1_i32_7 k3_t2
  let c16_i32_151 : BitVec 32 := 16#32
  let v364 : BitVec 32 := Scalar.muli arg14 c16_i32_151
  let v365 : BitVec 32 := Scalar.addi c2048_i32 v364
  let v366 : Index := Scalar.indexCast v365
  ![v366.toNat]
@[reducible] def k3_t3_loop : Scf.Loop 32 :=
  let c0_i32_9 : BitVec 32 := 0#32
  let c128_i32_10 : BitVec 32 := 128#32
  let v8 : BitVec 32 := Scalar.addi c0_i32_9 c128_i32_10
  let c1_i32_11 : BitVec 32 := 1#32
  ⟨c0_i32_9, v8, c1_i32_11⟩
def k3_off67 (k3_t3 : Fin k3_t3_loop.trips) : Fin 2 → Nat :=
  let c0_i32_71 : BitVec 32 := 0#32
  let v39 : Index := Scalar.indexCast c0_i32_71
  let c0_i32_9 : BitVec 32 := 0#32
  let c1_i32_11 : BitVec 32 := 1#32
  let arg14 : BitVec 32 := Scf.iv c0_i32_9 c1_i32_11 k3_t3
  let c16_i32_70 : BitVec 32 := 16#32
  let v38 : BitVec 32 := Scalar.muli arg14 c16_i32_70
  let v40 : Index := Scalar.indexCast v38
  ![0, v40.toNat]
def k3_off68 (k3_t3 : Fin k3_t3_loop.trips) : Fin 2 → Nat :=
  let c1_i32_74 : BitVec 32 := 1#32
  let v49 : Index := Scalar.indexCast c1_i32_74
  let c0_i32_9 : BitVec 32 := 0#32
  let c1_i32_11 : BitVec 32 := 1#32
  let arg14 : BitVec 32 := Scf.iv c0_i32_9 c1_i32_11 k3_t3
  let c16_i32_73 : BitVec 32 := 16#32
  let v48 : BitVec 32 := Scalar.muli arg14 c16_i32_73
  let v50 : Index := Scalar.indexCast v48
  ![1, v50.toNat]
def k3_off69 (k3_t3 : Fin k3_t3_loop.trips) : Fin 2 → Nat :=
  let c2_i32_77 : BitVec 32 := 2#32
  let v59 : Index := Scalar.indexCast c2_i32_77
  let c0_i32_9 : BitVec 32 := 0#32
  let c1_i32_11 : BitVec 32 := 1#32
  let arg14 : BitVec 32 := Scf.iv c0_i32_9 c1_i32_11 k3_t3
  let c16_i32_76 : BitVec 32 := 16#32
  let v58 : BitVec 32 := Scalar.muli arg14 c16_i32_76
  let v60 : Index := Scalar.indexCast v58
  ![2, v60.toNat]
def k3_off70 (k3_t3 : Fin k3_t3_loop.trips) : Fin 2 → Nat :=
  let c3_i32_80 : BitVec 32 := 3#32
  let v69 : Index := Scalar.indexCast c3_i32_80
  let c0_i32_9 : BitVec 32 := 0#32
  let c1_i32_11 : BitVec 32 := 1#32
  let arg14 : BitVec 32 := Scf.iv c0_i32_9 c1_i32_11 k3_t3
  let c16_i32_79 : BitVec 32 := 16#32
  let v68 : BitVec 32 := Scalar.muli arg14 c16_i32_79
  let v70 : Index := Scalar.indexCast v68
  ![3, v70.toNat]
def k3_off71 (k3_t3 : Fin k3_t3_loop.trips) : Fin 2 → Nat :=
  let c4_i32_83 : BitVec 32 := 4#32
  let v79 : Index := Scalar.indexCast c4_i32_83
  let c0_i32_9 : BitVec 32 := 0#32
  let c1_i32_11 : BitVec 32 := 1#32
  let arg14 : BitVec 32 := Scf.iv c0_i32_9 c1_i32_11 k3_t3
  let c16_i32_82 : BitVec 32 := 16#32
  let v78 : BitVec 32 := Scalar.muli arg14 c16_i32_82
  let v80 : Index := Scalar.indexCast v78
  ![4, v80.toNat]
def k3_off72 (k3_t3 : Fin k3_t3_loop.trips) : Fin 2 → Nat :=
  let c5_i32_86 : BitVec 32 := 5#32
  let v89 : Index := Scalar.indexCast c5_i32_86
  let c0_i32_9 : BitVec 32 := 0#32
  let c1_i32_11 : BitVec 32 := 1#32
  let arg14 : BitVec 32 := Scf.iv c0_i32_9 c1_i32_11 k3_t3
  let c16_i32_85 : BitVec 32 := 16#32
  let v88 : BitVec 32 := Scalar.muli arg14 c16_i32_85
  let v90 : Index := Scalar.indexCast v88
  ![5, v90.toNat]
def k3_off73 (k3_t3 : Fin k3_t3_loop.trips) : Fin 2 → Nat :=
  let c6_i32_89 : BitVec 32 := 6#32
  let v99 : Index := Scalar.indexCast c6_i32_89
  let c0_i32_9 : BitVec 32 := 0#32
  let c1_i32_11 : BitVec 32 := 1#32
  let arg14 : BitVec 32 := Scf.iv c0_i32_9 c1_i32_11 k3_t3
  let c16_i32_88 : BitVec 32 := 16#32
  let v98 : BitVec 32 := Scalar.muli arg14 c16_i32_88
  let v100 : Index := Scalar.indexCast v98
  ![6, v100.toNat]
def k3_off74 (k3_t3 : Fin k3_t3_loop.trips) : Fin 2 → Nat :=
  let c7_i32_92 : BitVec 32 := 7#32
  let v109 : Index := Scalar.indexCast c7_i32_92
  let c0_i32_9 : BitVec 32 := 0#32
  let c1_i32_11 : BitVec 32 := 1#32
  let arg14 : BitVec 32 := Scf.iv c0_i32_9 c1_i32_11 k3_t3
  let c16_i32_91 : BitVec 32 := 16#32
  let v108 : BitVec 32 := Scalar.muli arg14 c16_i32_91
  let v110 : Index := Scalar.indexCast v108
  ![7, v110.toNat]
def k3_off75 (k3_t3 : Fin k3_t3_loop.trips) : Fin 2 → Nat :=
  let c8_i32_95 : BitVec 32 := 8#32
  let v119 : Index := Scalar.indexCast c8_i32_95
  let c0_i32_9 : BitVec 32 := 0#32
  let c1_i32_11 : BitVec 32 := 1#32
  let arg14 : BitVec 32 := Scf.iv c0_i32_9 c1_i32_11 k3_t3
  let c16_i32_94 : BitVec 32 := 16#32
  let v118 : BitVec 32 := Scalar.muli arg14 c16_i32_94
  let v120 : Index := Scalar.indexCast v118
  ![8, v120.toNat]
def k3_off76 (k3_t3 : Fin k3_t3_loop.trips) : Fin 2 → Nat :=
  let c9_i32_98 : BitVec 32 := 9#32
  let v129 : Index := Scalar.indexCast c9_i32_98
  let c0_i32_9 : BitVec 32 := 0#32
  let c1_i32_11 : BitVec 32 := 1#32
  let arg14 : BitVec 32 := Scf.iv c0_i32_9 c1_i32_11 k3_t3
  let c16_i32_97 : BitVec 32 := 16#32
  let v128 : BitVec 32 := Scalar.muli arg14 c16_i32_97
  let v130 : Index := Scalar.indexCast v128
  ![9, v130.toNat]
def k3_off77 (k3_t3 : Fin k3_t3_loop.trips) : Fin 2 → Nat :=
  let c10_i32_101 : BitVec 32 := 10#32
  let v139 : Index := Scalar.indexCast c10_i32_101
  let c0_i32_9 : BitVec 32 := 0#32
  let c1_i32_11 : BitVec 32 := 1#32
  let arg14 : BitVec 32 := Scf.iv c0_i32_9 c1_i32_11 k3_t3
  let c16_i32_100 : BitVec 32 := 16#32
  let v138 : BitVec 32 := Scalar.muli arg14 c16_i32_100
  let v140 : Index := Scalar.indexCast v138
  ![10, v140.toNat]
def k3_off78 (k3_t3 : Fin k3_t3_loop.trips) : Fin 2 → Nat :=
  let c11_i32_104 : BitVec 32 := 11#32
  let v149 : Index := Scalar.indexCast c11_i32_104
  let c0_i32_9 : BitVec 32 := 0#32
  let c1_i32_11 : BitVec 32 := 1#32
  let arg14 : BitVec 32 := Scf.iv c0_i32_9 c1_i32_11 k3_t3
  let c16_i32_103 : BitVec 32 := 16#32
  let v148 : BitVec 32 := Scalar.muli arg14 c16_i32_103
  let v150 : Index := Scalar.indexCast v148
  ![11, v150.toNat]
def k3_off79 (k3_t3 : Fin k3_t3_loop.trips) : Fin 2 → Nat :=
  let c12_i32_107 : BitVec 32 := 12#32
  let v159 : Index := Scalar.indexCast c12_i32_107
  let c0_i32_9 : BitVec 32 := 0#32
  let c1_i32_11 : BitVec 32 := 1#32
  let arg14 : BitVec 32 := Scf.iv c0_i32_9 c1_i32_11 k3_t3
  let c16_i32_106 : BitVec 32 := 16#32
  let v158 : BitVec 32 := Scalar.muli arg14 c16_i32_106
  let v160 : Index := Scalar.indexCast v158
  ![12, v160.toNat]
def k3_off80 (k3_t3 : Fin k3_t3_loop.trips) : Fin 2 → Nat :=
  let c13_i32_110 : BitVec 32 := 13#32
  let v169 : Index := Scalar.indexCast c13_i32_110
  let c0_i32_9 : BitVec 32 := 0#32
  let c1_i32_11 : BitVec 32 := 1#32
  let arg14 : BitVec 32 := Scf.iv c0_i32_9 c1_i32_11 k3_t3
  let c16_i32_109 : BitVec 32 := 16#32
  let v168 : BitVec 32 := Scalar.muli arg14 c16_i32_109
  let v170 : Index := Scalar.indexCast v168
  ![13, v170.toNat]
def k3_off81 (k3_t3 : Fin k3_t3_loop.trips) : Fin 2 → Nat :=
  let c14_i32_113 : BitVec 32 := 14#32
  let v179 : Index := Scalar.indexCast c14_i32_113
  let c0_i32_9 : BitVec 32 := 0#32
  let c1_i32_11 : BitVec 32 := 1#32
  let arg14 : BitVec 32 := Scf.iv c0_i32_9 c1_i32_11 k3_t3
  let c16_i32_112 : BitVec 32 := 16#32
  let v178 : BitVec 32 := Scalar.muli arg14 c16_i32_112
  let v180 : Index := Scalar.indexCast v178
  ![14, v180.toNat]
def k3_off82 (k3_t3 : Fin k3_t3_loop.trips) : Fin 2 → Nat :=
  let c15_i32_116 : BitVec 32 := 15#32
  let v189 : Index := Scalar.indexCast c15_i32_116
  let c0_i32_9 : BitVec 32 := 0#32
  let c1_i32_11 : BitVec 32 := 1#32
  let arg14 : BitVec 32 := Scf.iv c0_i32_9 c1_i32_11 k3_t3
  let c16_i32_115 : BitVec 32 := 16#32
  let v188 : BitVec 32 := Scalar.muli arg14 c16_i32_115
  let v190 : Index := Scalar.indexCast v188
  ![15, v190.toNat]
def k3_off83 (k3_t3 : Fin k3_t3_loop.trips) : Fin 2 → Nat :=
  let c16_i32_119 : BitVec 32 := 16#32
  let v199 : Index := Scalar.indexCast c16_i32_119
  let c0_i32_9 : BitVec 32 := 0#32
  let c1_i32_11 : BitVec 32 := 1#32
  let arg14 : BitVec 32 := Scf.iv c0_i32_9 c1_i32_11 k3_t3
  let c16_i32_118 : BitVec 32 := 16#32
  let v198 : BitVec 32 := Scalar.muli arg14 c16_i32_118
  let v200 : Index := Scalar.indexCast v198
  ![16, v200.toNat]
def k3_off84 (k3_t3 : Fin k3_t3_loop.trips) : Fin 2 → Nat :=
  let c17_i32 : BitVec 32 := 17#32
  let v209 : Index := Scalar.indexCast c17_i32
  let c0_i32_9 : BitVec 32 := 0#32
  let c1_i32_11 : BitVec 32 := 1#32
  let arg14 : BitVec 32 := Scf.iv c0_i32_9 c1_i32_11 k3_t3
  let c16_i32_121 : BitVec 32 := 16#32
  let v208 : BitVec 32 := Scalar.muli arg14 c16_i32_121
  let v210 : Index := Scalar.indexCast v208
  ![17, v210.toNat]
def k3_off85 (k3_t3 : Fin k3_t3_loop.trips) : Fin 2 → Nat :=
  let c18_i32 : BitVec 32 := 18#32
  let v219 : Index := Scalar.indexCast c18_i32
  let c0_i32_9 : BitVec 32 := 0#32
  let c1_i32_11 : BitVec 32 := 1#32
  let arg14 : BitVec 32 := Scf.iv c0_i32_9 c1_i32_11 k3_t3
  let c16_i32_123 : BitVec 32 := 16#32
  let v218 : BitVec 32 := Scalar.muli arg14 c16_i32_123
  let v220 : Index := Scalar.indexCast v218
  ![18, v220.toNat]
def k3_off86 (k3_t3 : Fin k3_t3_loop.trips) : Fin 2 → Nat :=
  let c19_i32 : BitVec 32 := 19#32
  let v229 : Index := Scalar.indexCast c19_i32
  let c0_i32_9 : BitVec 32 := 0#32
  let c1_i32_11 : BitVec 32 := 1#32
  let arg14 : BitVec 32 := Scf.iv c0_i32_9 c1_i32_11 k3_t3
  let c16_i32_125 : BitVec 32 := 16#32
  let v228 : BitVec 32 := Scalar.muli arg14 c16_i32_125
  let v230 : Index := Scalar.indexCast v228
  ![19, v230.toNat]
def k3_off87 (k3_t3 : Fin k3_t3_loop.trips) : Fin 2 → Nat :=
  let c20_i32 : BitVec 32 := 20#32
  let v239 : Index := Scalar.indexCast c20_i32
  let c0_i32_9 : BitVec 32 := 0#32
  let c1_i32_11 : BitVec 32 := 1#32
  let arg14 : BitVec 32 := Scf.iv c0_i32_9 c1_i32_11 k3_t3
  let c16_i32_127 : BitVec 32 := 16#32
  let v238 : BitVec 32 := Scalar.muli arg14 c16_i32_127
  let v240 : Index := Scalar.indexCast v238
  ![20, v240.toNat]
def k3_off88 (k3_t3 : Fin k3_t3_loop.trips) : Fin 2 → Nat :=
  let c21_i32 : BitVec 32 := 21#32
  let v249 : Index := Scalar.indexCast c21_i32
  let c0_i32_9 : BitVec 32 := 0#32
  let c1_i32_11 : BitVec 32 := 1#32
  let arg14 : BitVec 32 := Scf.iv c0_i32_9 c1_i32_11 k3_t3
  let c16_i32_129 : BitVec 32 := 16#32
  let v248 : BitVec 32 := Scalar.muli arg14 c16_i32_129
  let v250 : Index := Scalar.indexCast v248
  ![21, v250.toNat]
def k3_off89 (k3_t3 : Fin k3_t3_loop.trips) : Fin 2 → Nat :=
  let c22_i32 : BitVec 32 := 22#32
  let v259 : Index := Scalar.indexCast c22_i32
  let c0_i32_9 : BitVec 32 := 0#32
  let c1_i32_11 : BitVec 32 := 1#32
  let arg14 : BitVec 32 := Scf.iv c0_i32_9 c1_i32_11 k3_t3
  let c16_i32_131 : BitVec 32 := 16#32
  let v258 : BitVec 32 := Scalar.muli arg14 c16_i32_131
  let v260 : Index := Scalar.indexCast v258
  ![22, v260.toNat]
def k3_off90 (k3_t3 : Fin k3_t3_loop.trips) : Fin 2 → Nat :=
  let c23_i32 : BitVec 32 := 23#32
  let v269 : Index := Scalar.indexCast c23_i32
  let c0_i32_9 : BitVec 32 := 0#32
  let c1_i32_11 : BitVec 32 := 1#32
  let arg14 : BitVec 32 := Scf.iv c0_i32_9 c1_i32_11 k3_t3
  let c16_i32_133 : BitVec 32 := 16#32
  let v268 : BitVec 32 := Scalar.muli arg14 c16_i32_133
  let v270 : Index := Scalar.indexCast v268
  ![23, v270.toNat]
def k3_off91 (k3_t3 : Fin k3_t3_loop.trips) : Fin 2 → Nat :=
  let c24_i32 : BitVec 32 := 24#32
  let v279 : Index := Scalar.indexCast c24_i32
  let c0_i32_9 : BitVec 32 := 0#32
  let c1_i32_11 : BitVec 32 := 1#32
  let arg14 : BitVec 32 := Scf.iv c0_i32_9 c1_i32_11 k3_t3
  let c16_i32_135 : BitVec 32 := 16#32
  let v278 : BitVec 32 := Scalar.muli arg14 c16_i32_135
  let v280 : Index := Scalar.indexCast v278
  ![24, v280.toNat]
def k3_off92 (k3_t3 : Fin k3_t3_loop.trips) : Fin 2 → Nat :=
  let c25_i32 : BitVec 32 := 25#32
  let v289 : Index := Scalar.indexCast c25_i32
  let c0_i32_9 : BitVec 32 := 0#32
  let c1_i32_11 : BitVec 32 := 1#32
  let arg14 : BitVec 32 := Scf.iv c0_i32_9 c1_i32_11 k3_t3
  let c16_i32_137 : BitVec 32 := 16#32
  let v288 : BitVec 32 := Scalar.muli arg14 c16_i32_137
  let v290 : Index := Scalar.indexCast v288
  ![25, v290.toNat]
def k3_off93 (k3_t3 : Fin k3_t3_loop.trips) : Fin 2 → Nat :=
  let c26_i32 : BitVec 32 := 26#32
  let v299 : Index := Scalar.indexCast c26_i32
  let c0_i32_9 : BitVec 32 := 0#32
  let c1_i32_11 : BitVec 32 := 1#32
  let arg14 : BitVec 32 := Scf.iv c0_i32_9 c1_i32_11 k3_t3
  let c16_i32_139 : BitVec 32 := 16#32
  let v298 : BitVec 32 := Scalar.muli arg14 c16_i32_139
  let v300 : Index := Scalar.indexCast v298
  ![26, v300.toNat]
def k3_off94 (k3_t3 : Fin k3_t3_loop.trips) : Fin 2 → Nat :=
  let c27_i32 : BitVec 32 := 27#32
  let v309 : Index := Scalar.indexCast c27_i32
  let c0_i32_9 : BitVec 32 := 0#32
  let c1_i32_11 : BitVec 32 := 1#32
  let arg14 : BitVec 32 := Scf.iv c0_i32_9 c1_i32_11 k3_t3
  let c16_i32_141 : BitVec 32 := 16#32
  let v308 : BitVec 32 := Scalar.muli arg14 c16_i32_141
  let v310 : Index := Scalar.indexCast v308
  ![27, v310.toNat]
def k3_off95 (k3_t3 : Fin k3_t3_loop.trips) : Fin 2 → Nat :=
  let c28_i32 : BitVec 32 := 28#32
  let v319 : Index := Scalar.indexCast c28_i32
  let c0_i32_9 : BitVec 32 := 0#32
  let c1_i32_11 : BitVec 32 := 1#32
  let arg14 : BitVec 32 := Scf.iv c0_i32_9 c1_i32_11 k3_t3
  let c16_i32_143 : BitVec 32 := 16#32
  let v318 : BitVec 32 := Scalar.muli arg14 c16_i32_143
  let v320 : Index := Scalar.indexCast v318
  ![28, v320.toNat]
def k3_off96 (k3_t3 : Fin k3_t3_loop.trips) : Fin 2 → Nat :=
  let c29_i32 : BitVec 32 := 29#32
  let v329 : Index := Scalar.indexCast c29_i32
  let c0_i32_9 : BitVec 32 := 0#32
  let c1_i32_11 : BitVec 32 := 1#32
  let arg14 : BitVec 32 := Scf.iv c0_i32_9 c1_i32_11 k3_t3
  let c16_i32_145 : BitVec 32 := 16#32
  let v328 : BitVec 32 := Scalar.muli arg14 c16_i32_145
  let v330 : Index := Scalar.indexCast v328
  ![29, v330.toNat]
def k3_off97 (k3_t3 : Fin k3_t3_loop.trips) : Fin 2 → Nat :=
  let c30_i32 : BitVec 32 := 30#32
  let v339 : Index := Scalar.indexCast c30_i32
  let c0_i32_9 : BitVec 32 := 0#32
  let c1_i32_11 : BitVec 32 := 1#32
  let arg14 : BitVec 32 := Scf.iv c0_i32_9 c1_i32_11 k3_t3
  let c16_i32_147 : BitVec 32 := 16#32
  let v338 : BitVec 32 := Scalar.muli arg14 c16_i32_147
  let v340 : Index := Scalar.indexCast v338
  ![30, v340.toNat]
def k3_off98 (k3_t3 : Fin k3_t3_loop.trips) : Fin 2 → Nat :=
  let c31_i32 : BitVec 32 := 31#32
  let v349 : Index := Scalar.indexCast c31_i32
  let c0_i32_9 : BitVec 32 := 0#32
  let c1_i32_11 : BitVec 32 := 1#32
  let arg14 : BitVec 32 := Scf.iv c0_i32_9 c1_i32_11 k3_t3
  let c16_i32_149 : BitVec 32 := 16#32
  let v348 : BitVec 32 := Scalar.muli arg14 c16_i32_149
  let v350 : Index := Scalar.indexCast v348
  ![31, v350.toNat]
def k3_off99 (k3_t3 : Fin k3_t3_loop.trips) : Fin 1 → Nat :=
  let c4096_i32 : BitVec 32 := 4096#32
  let c0_i32_9 : BitVec 32 := 0#32
  let c1_i32_11 : BitVec 32 := 1#32
  let arg14 : BitVec 32 := Scf.iv c0_i32_9 c1_i32_11 k3_t3
  let c16_i32_151 : BitVec 32 := 16#32
  let v364 : BitVec 32 := Scalar.muli arg14 c16_i32_151
  let v365 : BitVec 32 := Scalar.addi c4096_i32 v364
  let v366 : Index := Scalar.indexCast v365
  ![v366.toNat]
@[reducible] def k3_t4_loop : Scf.Loop 32 :=
  let c0_i32_13 : BitVec 32 := 0#32
  let c128_i32_14 : BitVec 32 := 128#32
  let v10 : BitVec 32 := Scalar.addi c0_i32_13 c128_i32_14
  let c1_i32_15 : BitVec 32 := 1#32
  ⟨c0_i32_13, v10, c1_i32_15⟩
def k3_off100 (k3_t4 : Fin k3_t4_loop.trips) : Fin 2 → Nat :=
  let c0_i32_71 : BitVec 32 := 0#32
  let v39 : Index := Scalar.indexCast c0_i32_71
  let c0_i32_13 : BitVec 32 := 0#32
  let c1_i32_15 : BitVec 32 := 1#32
  let arg14 : BitVec 32 := Scf.iv c0_i32_13 c1_i32_15 k3_t4
  let c16_i32_70 : BitVec 32 := 16#32
  let v38 : BitVec 32 := Scalar.muli arg14 c16_i32_70
  let v40 : Index := Scalar.indexCast v38
  ![0, v40.toNat]
def k3_off101 (k3_t4 : Fin k3_t4_loop.trips) : Fin 2 → Nat :=
  let c1_i32_74 : BitVec 32 := 1#32
  let v49 : Index := Scalar.indexCast c1_i32_74
  let c0_i32_13 : BitVec 32 := 0#32
  let c1_i32_15 : BitVec 32 := 1#32
  let arg14 : BitVec 32 := Scf.iv c0_i32_13 c1_i32_15 k3_t4
  let c16_i32_73 : BitVec 32 := 16#32
  let v48 : BitVec 32 := Scalar.muli arg14 c16_i32_73
  let v50 : Index := Scalar.indexCast v48
  ![1, v50.toNat]
def k3_off102 (k3_t4 : Fin k3_t4_loop.trips) : Fin 2 → Nat :=
  let c2_i32_77 : BitVec 32 := 2#32
  let v59 : Index := Scalar.indexCast c2_i32_77
  let c0_i32_13 : BitVec 32 := 0#32
  let c1_i32_15 : BitVec 32 := 1#32
  let arg14 : BitVec 32 := Scf.iv c0_i32_13 c1_i32_15 k3_t4
  let c16_i32_76 : BitVec 32 := 16#32
  let v58 : BitVec 32 := Scalar.muli arg14 c16_i32_76
  let v60 : Index := Scalar.indexCast v58
  ![2, v60.toNat]
def k3_off103 (k3_t4 : Fin k3_t4_loop.trips) : Fin 2 → Nat :=
  let c3_i32_80 : BitVec 32 := 3#32
  let v69 : Index := Scalar.indexCast c3_i32_80
  let c0_i32_13 : BitVec 32 := 0#32
  let c1_i32_15 : BitVec 32 := 1#32
  let arg14 : BitVec 32 := Scf.iv c0_i32_13 c1_i32_15 k3_t4
  let c16_i32_79 : BitVec 32 := 16#32
  let v68 : BitVec 32 := Scalar.muli arg14 c16_i32_79
  let v70 : Index := Scalar.indexCast v68
  ![3, v70.toNat]
def k3_off104 (k3_t4 : Fin k3_t4_loop.trips) : Fin 2 → Nat :=
  let c4_i32_83 : BitVec 32 := 4#32
  let v79 : Index := Scalar.indexCast c4_i32_83
  let c0_i32_13 : BitVec 32 := 0#32
  let c1_i32_15 : BitVec 32 := 1#32
  let arg14 : BitVec 32 := Scf.iv c0_i32_13 c1_i32_15 k3_t4
  let c16_i32_82 : BitVec 32 := 16#32
  let v78 : BitVec 32 := Scalar.muli arg14 c16_i32_82
  let v80 : Index := Scalar.indexCast v78
  ![4, v80.toNat]
def k3_off105 (k3_t4 : Fin k3_t4_loop.trips) : Fin 2 → Nat :=
  let c5_i32_86 : BitVec 32 := 5#32
  let v89 : Index := Scalar.indexCast c5_i32_86
  let c0_i32_13 : BitVec 32 := 0#32
  let c1_i32_15 : BitVec 32 := 1#32
  let arg14 : BitVec 32 := Scf.iv c0_i32_13 c1_i32_15 k3_t4
  let c16_i32_85 : BitVec 32 := 16#32
  let v88 : BitVec 32 := Scalar.muli arg14 c16_i32_85
  let v90 : Index := Scalar.indexCast v88
  ![5, v90.toNat]
def k3_off106 (k3_t4 : Fin k3_t4_loop.trips) : Fin 2 → Nat :=
  let c6_i32_89 : BitVec 32 := 6#32
  let v99 : Index := Scalar.indexCast c6_i32_89
  let c0_i32_13 : BitVec 32 := 0#32
  let c1_i32_15 : BitVec 32 := 1#32
  let arg14 : BitVec 32 := Scf.iv c0_i32_13 c1_i32_15 k3_t4
  let c16_i32_88 : BitVec 32 := 16#32
  let v98 : BitVec 32 := Scalar.muli arg14 c16_i32_88
  let v100 : Index := Scalar.indexCast v98
  ![6, v100.toNat]
def k3_off107 (k3_t4 : Fin k3_t4_loop.trips) : Fin 2 → Nat :=
  let c7_i32_92 : BitVec 32 := 7#32
  let v109 : Index := Scalar.indexCast c7_i32_92
  let c0_i32_13 : BitVec 32 := 0#32
  let c1_i32_15 : BitVec 32 := 1#32
  let arg14 : BitVec 32 := Scf.iv c0_i32_13 c1_i32_15 k3_t4
  let c16_i32_91 : BitVec 32 := 16#32
  let v108 : BitVec 32 := Scalar.muli arg14 c16_i32_91
  let v110 : Index := Scalar.indexCast v108
  ![7, v110.toNat]
def k3_off108 (k3_t4 : Fin k3_t4_loop.trips) : Fin 2 → Nat :=
  let c8_i32_95 : BitVec 32 := 8#32
  let v119 : Index := Scalar.indexCast c8_i32_95
  let c0_i32_13 : BitVec 32 := 0#32
  let c1_i32_15 : BitVec 32 := 1#32
  let arg14 : BitVec 32 := Scf.iv c0_i32_13 c1_i32_15 k3_t4
  let c16_i32_94 : BitVec 32 := 16#32
  let v118 : BitVec 32 := Scalar.muli arg14 c16_i32_94
  let v120 : Index := Scalar.indexCast v118
  ![8, v120.toNat]
def k3_off109 (k3_t4 : Fin k3_t4_loop.trips) : Fin 2 → Nat :=
  let c9_i32_98 : BitVec 32 := 9#32
  let v129 : Index := Scalar.indexCast c9_i32_98
  let c0_i32_13 : BitVec 32 := 0#32
  let c1_i32_15 : BitVec 32 := 1#32
  let arg14 : BitVec 32 := Scf.iv c0_i32_13 c1_i32_15 k3_t4
  let c16_i32_97 : BitVec 32 := 16#32
  let v128 : BitVec 32 := Scalar.muli arg14 c16_i32_97
  let v130 : Index := Scalar.indexCast v128
  ![9, v130.toNat]
def k3_off110 (k3_t4 : Fin k3_t4_loop.trips) : Fin 2 → Nat :=
  let c10_i32_101 : BitVec 32 := 10#32
  let v139 : Index := Scalar.indexCast c10_i32_101
  let c0_i32_13 : BitVec 32 := 0#32
  let c1_i32_15 : BitVec 32 := 1#32
  let arg14 : BitVec 32 := Scf.iv c0_i32_13 c1_i32_15 k3_t4
  let c16_i32_100 : BitVec 32 := 16#32
  let v138 : BitVec 32 := Scalar.muli arg14 c16_i32_100
  let v140 : Index := Scalar.indexCast v138
  ![10, v140.toNat]
def k3_off111 (k3_t4 : Fin k3_t4_loop.trips) : Fin 2 → Nat :=
  let c11_i32_104 : BitVec 32 := 11#32
  let v149 : Index := Scalar.indexCast c11_i32_104
  let c0_i32_13 : BitVec 32 := 0#32
  let c1_i32_15 : BitVec 32 := 1#32
  let arg14 : BitVec 32 := Scf.iv c0_i32_13 c1_i32_15 k3_t4
  let c16_i32_103 : BitVec 32 := 16#32
  let v148 : BitVec 32 := Scalar.muli arg14 c16_i32_103
  let v150 : Index := Scalar.indexCast v148
  ![11, v150.toNat]
def k3_off112 (k3_t4 : Fin k3_t4_loop.trips) : Fin 2 → Nat :=
  let c12_i32_107 : BitVec 32 := 12#32
  let v159 : Index := Scalar.indexCast c12_i32_107
  let c0_i32_13 : BitVec 32 := 0#32
  let c1_i32_15 : BitVec 32 := 1#32
  let arg14 : BitVec 32 := Scf.iv c0_i32_13 c1_i32_15 k3_t4
  let c16_i32_106 : BitVec 32 := 16#32
  let v158 : BitVec 32 := Scalar.muli arg14 c16_i32_106
  let v160 : Index := Scalar.indexCast v158
  ![12, v160.toNat]
def k3_off113 (k3_t4 : Fin k3_t4_loop.trips) : Fin 2 → Nat :=
  let c13_i32_110 : BitVec 32 := 13#32
  let v169 : Index := Scalar.indexCast c13_i32_110
  let c0_i32_13 : BitVec 32 := 0#32
  let c1_i32_15 : BitVec 32 := 1#32
  let arg14 : BitVec 32 := Scf.iv c0_i32_13 c1_i32_15 k3_t4
  let c16_i32_109 : BitVec 32 := 16#32
  let v168 : BitVec 32 := Scalar.muli arg14 c16_i32_109
  let v170 : Index := Scalar.indexCast v168
  ![13, v170.toNat]
def k3_off114 (k3_t4 : Fin k3_t4_loop.trips) : Fin 2 → Nat :=
  let c14_i32_113 : BitVec 32 := 14#32
  let v179 : Index := Scalar.indexCast c14_i32_113
  let c0_i32_13 : BitVec 32 := 0#32
  let c1_i32_15 : BitVec 32 := 1#32
  let arg14 : BitVec 32 := Scf.iv c0_i32_13 c1_i32_15 k3_t4
  let c16_i32_112 : BitVec 32 := 16#32
  let v178 : BitVec 32 := Scalar.muli arg14 c16_i32_112
  let v180 : Index := Scalar.indexCast v178
  ![14, v180.toNat]
def k3_off115 (k3_t4 : Fin k3_t4_loop.trips) : Fin 2 → Nat :=
  let c15_i32_116 : BitVec 32 := 15#32
  let v189 : Index := Scalar.indexCast c15_i32_116
  let c0_i32_13 : BitVec 32 := 0#32
  let c1_i32_15 : BitVec 32 := 1#32
  let arg14 : BitVec 32 := Scf.iv c0_i32_13 c1_i32_15 k3_t4
  let c16_i32_115 : BitVec 32 := 16#32
  let v188 : BitVec 32 := Scalar.muli arg14 c16_i32_115
  let v190 : Index := Scalar.indexCast v188
  ![15, v190.toNat]
def k3_off116 (k3_t4 : Fin k3_t4_loop.trips) : Fin 2 → Nat :=
  let c16_i32_119 : BitVec 32 := 16#32
  let v199 : Index := Scalar.indexCast c16_i32_119
  let c0_i32_13 : BitVec 32 := 0#32
  let c1_i32_15 : BitVec 32 := 1#32
  let arg14 : BitVec 32 := Scf.iv c0_i32_13 c1_i32_15 k3_t4
  let c16_i32_118 : BitVec 32 := 16#32
  let v198 : BitVec 32 := Scalar.muli arg14 c16_i32_118
  let v200 : Index := Scalar.indexCast v198
  ![16, v200.toNat]
def k3_off117 (k3_t4 : Fin k3_t4_loop.trips) : Fin 2 → Nat :=
  let c17_i32 : BitVec 32 := 17#32
  let v209 : Index := Scalar.indexCast c17_i32
  let c0_i32_13 : BitVec 32 := 0#32
  let c1_i32_15 : BitVec 32 := 1#32
  let arg14 : BitVec 32 := Scf.iv c0_i32_13 c1_i32_15 k3_t4
  let c16_i32_121 : BitVec 32 := 16#32
  let v208 : BitVec 32 := Scalar.muli arg14 c16_i32_121
  let v210 : Index := Scalar.indexCast v208
  ![17, v210.toNat]
def k3_off118 (k3_t4 : Fin k3_t4_loop.trips) : Fin 2 → Nat :=
  let c18_i32 : BitVec 32 := 18#32
  let v219 : Index := Scalar.indexCast c18_i32
  let c0_i32_13 : BitVec 32 := 0#32
  let c1_i32_15 : BitVec 32 := 1#32
  let arg14 : BitVec 32 := Scf.iv c0_i32_13 c1_i32_15 k3_t4
  let c16_i32_123 : BitVec 32 := 16#32
  let v218 : BitVec 32 := Scalar.muli arg14 c16_i32_123
  let v220 : Index := Scalar.indexCast v218
  ![18, v220.toNat]
def k3_off119 (k3_t4 : Fin k3_t4_loop.trips) : Fin 2 → Nat :=
  let c19_i32 : BitVec 32 := 19#32
  let v229 : Index := Scalar.indexCast c19_i32
  let c0_i32_13 : BitVec 32 := 0#32
  let c1_i32_15 : BitVec 32 := 1#32
  let arg14 : BitVec 32 := Scf.iv c0_i32_13 c1_i32_15 k3_t4
  let c16_i32_125 : BitVec 32 := 16#32
  let v228 : BitVec 32 := Scalar.muli arg14 c16_i32_125
  let v230 : Index := Scalar.indexCast v228
  ![19, v230.toNat]
def k3_off120 (k3_t4 : Fin k3_t4_loop.trips) : Fin 2 → Nat :=
  let c20_i32 : BitVec 32 := 20#32
  let v239 : Index := Scalar.indexCast c20_i32
  let c0_i32_13 : BitVec 32 := 0#32
  let c1_i32_15 : BitVec 32 := 1#32
  let arg14 : BitVec 32 := Scf.iv c0_i32_13 c1_i32_15 k3_t4
  let c16_i32_127 : BitVec 32 := 16#32
  let v238 : BitVec 32 := Scalar.muli arg14 c16_i32_127
  let v240 : Index := Scalar.indexCast v238
  ![20, v240.toNat]
def k3_off121 (k3_t4 : Fin k3_t4_loop.trips) : Fin 2 → Nat :=
  let c21_i32 : BitVec 32 := 21#32
  let v249 : Index := Scalar.indexCast c21_i32
  let c0_i32_13 : BitVec 32 := 0#32
  let c1_i32_15 : BitVec 32 := 1#32
  let arg14 : BitVec 32 := Scf.iv c0_i32_13 c1_i32_15 k3_t4
  let c16_i32_129 : BitVec 32 := 16#32
  let v248 : BitVec 32 := Scalar.muli arg14 c16_i32_129
  let v250 : Index := Scalar.indexCast v248
  ![21, v250.toNat]
def k3_off122 (k3_t4 : Fin k3_t4_loop.trips) : Fin 2 → Nat :=
  let c22_i32 : BitVec 32 := 22#32
  let v259 : Index := Scalar.indexCast c22_i32
  let c0_i32_13 : BitVec 32 := 0#32
  let c1_i32_15 : BitVec 32 := 1#32
  let arg14 : BitVec 32 := Scf.iv c0_i32_13 c1_i32_15 k3_t4
  let c16_i32_131 : BitVec 32 := 16#32
  let v258 : BitVec 32 := Scalar.muli arg14 c16_i32_131
  let v260 : Index := Scalar.indexCast v258
  ![22, v260.toNat]
def k3_off123 (k3_t4 : Fin k3_t4_loop.trips) : Fin 2 → Nat :=
  let c23_i32 : BitVec 32 := 23#32
  let v269 : Index := Scalar.indexCast c23_i32
  let c0_i32_13 : BitVec 32 := 0#32
  let c1_i32_15 : BitVec 32 := 1#32
  let arg14 : BitVec 32 := Scf.iv c0_i32_13 c1_i32_15 k3_t4
  let c16_i32_133 : BitVec 32 := 16#32
  let v268 : BitVec 32 := Scalar.muli arg14 c16_i32_133
  let v270 : Index := Scalar.indexCast v268
  ![23, v270.toNat]
def k3_off124 (k3_t4 : Fin k3_t4_loop.trips) : Fin 2 → Nat :=
  let c24_i32 : BitVec 32 := 24#32
  let v279 : Index := Scalar.indexCast c24_i32
  let c0_i32_13 : BitVec 32 := 0#32
  let c1_i32_15 : BitVec 32 := 1#32
  let arg14 : BitVec 32 := Scf.iv c0_i32_13 c1_i32_15 k3_t4
  let c16_i32_135 : BitVec 32 := 16#32
  let v278 : BitVec 32 := Scalar.muli arg14 c16_i32_135
  let v280 : Index := Scalar.indexCast v278
  ![24, v280.toNat]
def k3_off125 (k3_t4 : Fin k3_t4_loop.trips) : Fin 2 → Nat :=
  let c25_i32 : BitVec 32 := 25#32
  let v289 : Index := Scalar.indexCast c25_i32
  let c0_i32_13 : BitVec 32 := 0#32
  let c1_i32_15 : BitVec 32 := 1#32
  let arg14 : BitVec 32 := Scf.iv c0_i32_13 c1_i32_15 k3_t4
  let c16_i32_137 : BitVec 32 := 16#32
  let v288 : BitVec 32 := Scalar.muli arg14 c16_i32_137
  let v290 : Index := Scalar.indexCast v288
  ![25, v290.toNat]
def k3_off126 (k3_t4 : Fin k3_t4_loop.trips) : Fin 2 → Nat :=
  let c26_i32 : BitVec 32 := 26#32
  let v299 : Index := Scalar.indexCast c26_i32
  let c0_i32_13 : BitVec 32 := 0#32
  let c1_i32_15 : BitVec 32 := 1#32
  let arg14 : BitVec 32 := Scf.iv c0_i32_13 c1_i32_15 k3_t4
  let c16_i32_139 : BitVec 32 := 16#32
  let v298 : BitVec 32 := Scalar.muli arg14 c16_i32_139
  let v300 : Index := Scalar.indexCast v298
  ![26, v300.toNat]
def k3_off127 (k3_t4 : Fin k3_t4_loop.trips) : Fin 2 → Nat :=
  let c27_i32 : BitVec 32 := 27#32
  let v309 : Index := Scalar.indexCast c27_i32
  let c0_i32_13 : BitVec 32 := 0#32
  let c1_i32_15 : BitVec 32 := 1#32
  let arg14 : BitVec 32 := Scf.iv c0_i32_13 c1_i32_15 k3_t4
  let c16_i32_141 : BitVec 32 := 16#32
  let v308 : BitVec 32 := Scalar.muli arg14 c16_i32_141
  let v310 : Index := Scalar.indexCast v308
  ![27, v310.toNat]
def k3_off128 (k3_t4 : Fin k3_t4_loop.trips) : Fin 2 → Nat :=
  let c28_i32 : BitVec 32 := 28#32
  let v319 : Index := Scalar.indexCast c28_i32
  let c0_i32_13 : BitVec 32 := 0#32
  let c1_i32_15 : BitVec 32 := 1#32
  let arg14 : BitVec 32 := Scf.iv c0_i32_13 c1_i32_15 k3_t4
  let c16_i32_143 : BitVec 32 := 16#32
  let v318 : BitVec 32 := Scalar.muli arg14 c16_i32_143
  let v320 : Index := Scalar.indexCast v318
  ![28, v320.toNat]
def k3_off129 (k3_t4 : Fin k3_t4_loop.trips) : Fin 2 → Nat :=
  let c29_i32 : BitVec 32 := 29#32
  let v329 : Index := Scalar.indexCast c29_i32
  let c0_i32_13 : BitVec 32 := 0#32
  let c1_i32_15 : BitVec 32 := 1#32
  let arg14 : BitVec 32 := Scf.iv c0_i32_13 c1_i32_15 k3_t4
  let c16_i32_145 : BitVec 32 := 16#32
  let v328 : BitVec 32 := Scalar.muli arg14 c16_i32_145
  let v330 : Index := Scalar.indexCast v328
  ![29, v330.toNat]
def k3_off130 (k3_t4 : Fin k3_t4_loop.trips) : Fin 2 → Nat :=
  let c30_i32 : BitVec 32 := 30#32
  let v339 : Index := Scalar.indexCast c30_i32
  let c0_i32_13 : BitVec 32 := 0#32
  let c1_i32_15 : BitVec 32 := 1#32
  let arg14 : BitVec 32 := Scf.iv c0_i32_13 c1_i32_15 k3_t4
  let c16_i32_147 : BitVec 32 := 16#32
  let v338 : BitVec 32 := Scalar.muli arg14 c16_i32_147
  let v340 : Index := Scalar.indexCast v338
  ![30, v340.toNat]
def k3_off131 (k3_t4 : Fin k3_t4_loop.trips) : Fin 2 → Nat :=
  let c31_i32 : BitVec 32 := 31#32
  let v349 : Index := Scalar.indexCast c31_i32
  let c0_i32_13 : BitVec 32 := 0#32
  let c1_i32_15 : BitVec 32 := 1#32
  let arg14 : BitVec 32 := Scf.iv c0_i32_13 c1_i32_15 k3_t4
  let c16_i32_149 : BitVec 32 := 16#32
  let v348 : BitVec 32 := Scalar.muli arg14 c16_i32_149
  let v350 : Index := Scalar.indexCast v348
  ![31, v350.toNat]
def k3_off132 (k3_t4 : Fin k3_t4_loop.trips) : Fin 1 → Nat :=
  let c6144_i32 : BitVec 32 := 6144#32
  let c0_i32_13 : BitVec 32 := 0#32
  let c1_i32_15 : BitVec 32 := 1#32
  let arg14 : BitVec 32 := Scf.iv c0_i32_13 c1_i32_15 k3_t4
  let c16_i32_151 : BitVec 32 := 16#32
  let v364 : BitVec 32 := Scalar.muli arg14 c16_i32_151
  let v365 : BitVec 32 := Scalar.addi c6144_i32 v364
  let v366 : Index := Scalar.indexCast v365
  ![v366.toNat]
@[reducible] def k3_t5_loop : Scf.Loop 32 :=
  let c0_i32_17 : BitVec 32 := 0#32
  let c128_i32_18 : BitVec 32 := 128#32
  let v12 : BitVec 32 := Scalar.addi c0_i32_17 c128_i32_18
  let c1_i32_19 : BitVec 32 := 1#32
  ⟨c0_i32_17, v12, c1_i32_19⟩
def k3_off133 (k3_t5 : Fin k3_t5_loop.trips) : Fin 2 → Nat :=
  let c0_i32_71 : BitVec 32 := 0#32
  let v39 : Index := Scalar.indexCast c0_i32_71
  let c0_i32_17 : BitVec 32 := 0#32
  let c1_i32_19 : BitVec 32 := 1#32
  let arg14 : BitVec 32 := Scf.iv c0_i32_17 c1_i32_19 k3_t5
  let c16_i32_70 : BitVec 32 := 16#32
  let v38 : BitVec 32 := Scalar.muli arg14 c16_i32_70
  let v40 : Index := Scalar.indexCast v38
  ![0, v40.toNat]
def k3_off134 (k3_t5 : Fin k3_t5_loop.trips) : Fin 2 → Nat :=
  let c1_i32_74 : BitVec 32 := 1#32
  let v49 : Index := Scalar.indexCast c1_i32_74
  let c0_i32_17 : BitVec 32 := 0#32
  let c1_i32_19 : BitVec 32 := 1#32
  let arg14 : BitVec 32 := Scf.iv c0_i32_17 c1_i32_19 k3_t5
  let c16_i32_73 : BitVec 32 := 16#32
  let v48 : BitVec 32 := Scalar.muli arg14 c16_i32_73
  let v50 : Index := Scalar.indexCast v48
  ![1, v50.toNat]
def k3_off135 (k3_t5 : Fin k3_t5_loop.trips) : Fin 2 → Nat :=
  let c2_i32_77 : BitVec 32 := 2#32
  let v59 : Index := Scalar.indexCast c2_i32_77
  let c0_i32_17 : BitVec 32 := 0#32
  let c1_i32_19 : BitVec 32 := 1#32
  let arg14 : BitVec 32 := Scf.iv c0_i32_17 c1_i32_19 k3_t5
  let c16_i32_76 : BitVec 32 := 16#32
  let v58 : BitVec 32 := Scalar.muli arg14 c16_i32_76
  let v60 : Index := Scalar.indexCast v58
  ![2, v60.toNat]
def k3_off136 (k3_t5 : Fin k3_t5_loop.trips) : Fin 2 → Nat :=
  let c3_i32_80 : BitVec 32 := 3#32
  let v69 : Index := Scalar.indexCast c3_i32_80
  let c0_i32_17 : BitVec 32 := 0#32
  let c1_i32_19 : BitVec 32 := 1#32
  let arg14 : BitVec 32 := Scf.iv c0_i32_17 c1_i32_19 k3_t5
  let c16_i32_79 : BitVec 32 := 16#32
  let v68 : BitVec 32 := Scalar.muli arg14 c16_i32_79
  let v70 : Index := Scalar.indexCast v68
  ![3, v70.toNat]
def k3_off137 (k3_t5 : Fin k3_t5_loop.trips) : Fin 2 → Nat :=
  let c4_i32_83 : BitVec 32 := 4#32
  let v79 : Index := Scalar.indexCast c4_i32_83
  let c0_i32_17 : BitVec 32 := 0#32
  let c1_i32_19 : BitVec 32 := 1#32
  let arg14 : BitVec 32 := Scf.iv c0_i32_17 c1_i32_19 k3_t5
  let c16_i32_82 : BitVec 32 := 16#32
  let v78 : BitVec 32 := Scalar.muli arg14 c16_i32_82
  let v80 : Index := Scalar.indexCast v78
  ![4, v80.toNat]
def k3_off138 (k3_t5 : Fin k3_t5_loop.trips) : Fin 2 → Nat :=
  let c5_i32_86 : BitVec 32 := 5#32
  let v89 : Index := Scalar.indexCast c5_i32_86
  let c0_i32_17 : BitVec 32 := 0#32
  let c1_i32_19 : BitVec 32 := 1#32
  let arg14 : BitVec 32 := Scf.iv c0_i32_17 c1_i32_19 k3_t5
  let c16_i32_85 : BitVec 32 := 16#32
  let v88 : BitVec 32 := Scalar.muli arg14 c16_i32_85
  let v90 : Index := Scalar.indexCast v88
  ![5, v90.toNat]
def k3_off139 (k3_t5 : Fin k3_t5_loop.trips) : Fin 2 → Nat :=
  let c6_i32_89 : BitVec 32 := 6#32
  let v99 : Index := Scalar.indexCast c6_i32_89
  let c0_i32_17 : BitVec 32 := 0#32
  let c1_i32_19 : BitVec 32 := 1#32
  let arg14 : BitVec 32 := Scf.iv c0_i32_17 c1_i32_19 k3_t5
  let c16_i32_88 : BitVec 32 := 16#32
  let v98 : BitVec 32 := Scalar.muli arg14 c16_i32_88
  let v100 : Index := Scalar.indexCast v98
  ![6, v100.toNat]
def k3_off140 (k3_t5 : Fin k3_t5_loop.trips) : Fin 2 → Nat :=
  let c7_i32_92 : BitVec 32 := 7#32
  let v109 : Index := Scalar.indexCast c7_i32_92
  let c0_i32_17 : BitVec 32 := 0#32
  let c1_i32_19 : BitVec 32 := 1#32
  let arg14 : BitVec 32 := Scf.iv c0_i32_17 c1_i32_19 k3_t5
  let c16_i32_91 : BitVec 32 := 16#32
  let v108 : BitVec 32 := Scalar.muli arg14 c16_i32_91
  let v110 : Index := Scalar.indexCast v108
  ![7, v110.toNat]
def k3_off141 (k3_t5 : Fin k3_t5_loop.trips) : Fin 2 → Nat :=
  let c8_i32_95 : BitVec 32 := 8#32
  let v119 : Index := Scalar.indexCast c8_i32_95
  let c0_i32_17 : BitVec 32 := 0#32
  let c1_i32_19 : BitVec 32 := 1#32
  let arg14 : BitVec 32 := Scf.iv c0_i32_17 c1_i32_19 k3_t5
  let c16_i32_94 : BitVec 32 := 16#32
  let v118 : BitVec 32 := Scalar.muli arg14 c16_i32_94
  let v120 : Index := Scalar.indexCast v118
  ![8, v120.toNat]
def k3_off142 (k3_t5 : Fin k3_t5_loop.trips) : Fin 2 → Nat :=
  let c9_i32_98 : BitVec 32 := 9#32
  let v129 : Index := Scalar.indexCast c9_i32_98
  let c0_i32_17 : BitVec 32 := 0#32
  let c1_i32_19 : BitVec 32 := 1#32
  let arg14 : BitVec 32 := Scf.iv c0_i32_17 c1_i32_19 k3_t5
  let c16_i32_97 : BitVec 32 := 16#32
  let v128 : BitVec 32 := Scalar.muli arg14 c16_i32_97
  let v130 : Index := Scalar.indexCast v128
  ![9, v130.toNat]
def k3_off143 (k3_t5 : Fin k3_t5_loop.trips) : Fin 2 → Nat :=
  let c10_i32_101 : BitVec 32 := 10#32
  let v139 : Index := Scalar.indexCast c10_i32_101
  let c0_i32_17 : BitVec 32 := 0#32
  let c1_i32_19 : BitVec 32 := 1#32
  let arg14 : BitVec 32 := Scf.iv c0_i32_17 c1_i32_19 k3_t5
  let c16_i32_100 : BitVec 32 := 16#32
  let v138 : BitVec 32 := Scalar.muli arg14 c16_i32_100
  let v140 : Index := Scalar.indexCast v138
  ![10, v140.toNat]
def k3_off144 (k3_t5 : Fin k3_t5_loop.trips) : Fin 2 → Nat :=
  let c11_i32_104 : BitVec 32 := 11#32
  let v149 : Index := Scalar.indexCast c11_i32_104
  let c0_i32_17 : BitVec 32 := 0#32
  let c1_i32_19 : BitVec 32 := 1#32
  let arg14 : BitVec 32 := Scf.iv c0_i32_17 c1_i32_19 k3_t5
  let c16_i32_103 : BitVec 32 := 16#32
  let v148 : BitVec 32 := Scalar.muli arg14 c16_i32_103
  let v150 : Index := Scalar.indexCast v148
  ![11, v150.toNat]
def k3_off145 (k3_t5 : Fin k3_t5_loop.trips) : Fin 2 → Nat :=
  let c12_i32_107 : BitVec 32 := 12#32
  let v159 : Index := Scalar.indexCast c12_i32_107
  let c0_i32_17 : BitVec 32 := 0#32
  let c1_i32_19 : BitVec 32 := 1#32
  let arg14 : BitVec 32 := Scf.iv c0_i32_17 c1_i32_19 k3_t5
  let c16_i32_106 : BitVec 32 := 16#32
  let v158 : BitVec 32 := Scalar.muli arg14 c16_i32_106
  let v160 : Index := Scalar.indexCast v158
  ![12, v160.toNat]
def k3_off146 (k3_t5 : Fin k3_t5_loop.trips) : Fin 2 → Nat :=
  let c13_i32_110 : BitVec 32 := 13#32
  let v169 : Index := Scalar.indexCast c13_i32_110
  let c0_i32_17 : BitVec 32 := 0#32
  let c1_i32_19 : BitVec 32 := 1#32
  let arg14 : BitVec 32 := Scf.iv c0_i32_17 c1_i32_19 k3_t5
  let c16_i32_109 : BitVec 32 := 16#32
  let v168 : BitVec 32 := Scalar.muli arg14 c16_i32_109
  let v170 : Index := Scalar.indexCast v168
  ![13, v170.toNat]
def k3_off147 (k3_t5 : Fin k3_t5_loop.trips) : Fin 2 → Nat :=
  let c14_i32_113 : BitVec 32 := 14#32
  let v179 : Index := Scalar.indexCast c14_i32_113
  let c0_i32_17 : BitVec 32 := 0#32
  let c1_i32_19 : BitVec 32 := 1#32
  let arg14 : BitVec 32 := Scf.iv c0_i32_17 c1_i32_19 k3_t5
  let c16_i32_112 : BitVec 32 := 16#32
  let v178 : BitVec 32 := Scalar.muli arg14 c16_i32_112
  let v180 : Index := Scalar.indexCast v178
  ![14, v180.toNat]
def k3_off148 (k3_t5 : Fin k3_t5_loop.trips) : Fin 2 → Nat :=
  let c15_i32_116 : BitVec 32 := 15#32
  let v189 : Index := Scalar.indexCast c15_i32_116
  let c0_i32_17 : BitVec 32 := 0#32
  let c1_i32_19 : BitVec 32 := 1#32
  let arg14 : BitVec 32 := Scf.iv c0_i32_17 c1_i32_19 k3_t5
  let c16_i32_115 : BitVec 32 := 16#32
  let v188 : BitVec 32 := Scalar.muli arg14 c16_i32_115
  let v190 : Index := Scalar.indexCast v188
  ![15, v190.toNat]
def k3_off149 (k3_t5 : Fin k3_t5_loop.trips) : Fin 2 → Nat :=
  let c16_i32_119 : BitVec 32 := 16#32
  let v199 : Index := Scalar.indexCast c16_i32_119
  let c0_i32_17 : BitVec 32 := 0#32
  let c1_i32_19 : BitVec 32 := 1#32
  let arg14 : BitVec 32 := Scf.iv c0_i32_17 c1_i32_19 k3_t5
  let c16_i32_118 : BitVec 32 := 16#32
  let v198 : BitVec 32 := Scalar.muli arg14 c16_i32_118
  let v200 : Index := Scalar.indexCast v198
  ![16, v200.toNat]
def k3_off150 (k3_t5 : Fin k3_t5_loop.trips) : Fin 2 → Nat :=
  let c17_i32 : BitVec 32 := 17#32
  let v209 : Index := Scalar.indexCast c17_i32
  let c0_i32_17 : BitVec 32 := 0#32
  let c1_i32_19 : BitVec 32 := 1#32
  let arg14 : BitVec 32 := Scf.iv c0_i32_17 c1_i32_19 k3_t5
  let c16_i32_121 : BitVec 32 := 16#32
  let v208 : BitVec 32 := Scalar.muli arg14 c16_i32_121
  let v210 : Index := Scalar.indexCast v208
  ![17, v210.toNat]
def k3_off151 (k3_t5 : Fin k3_t5_loop.trips) : Fin 2 → Nat :=
  let c18_i32 : BitVec 32 := 18#32
  let v219 : Index := Scalar.indexCast c18_i32
  let c0_i32_17 : BitVec 32 := 0#32
  let c1_i32_19 : BitVec 32 := 1#32
  let arg14 : BitVec 32 := Scf.iv c0_i32_17 c1_i32_19 k3_t5
  let c16_i32_123 : BitVec 32 := 16#32
  let v218 : BitVec 32 := Scalar.muli arg14 c16_i32_123
  let v220 : Index := Scalar.indexCast v218
  ![18, v220.toNat]
def k3_off152 (k3_t5 : Fin k3_t5_loop.trips) : Fin 2 → Nat :=
  let c19_i32 : BitVec 32 := 19#32
  let v229 : Index := Scalar.indexCast c19_i32
  let c0_i32_17 : BitVec 32 := 0#32
  let c1_i32_19 : BitVec 32 := 1#32
  let arg14 : BitVec 32 := Scf.iv c0_i32_17 c1_i32_19 k3_t5
  let c16_i32_125 : BitVec 32 := 16#32
  let v228 : BitVec 32 := Scalar.muli arg14 c16_i32_125
  let v230 : Index := Scalar.indexCast v228
  ![19, v230.toNat]
def k3_off153 (k3_t5 : Fin k3_t5_loop.trips) : Fin 2 → Nat :=
  let c20_i32 : BitVec 32 := 20#32
  let v239 : Index := Scalar.indexCast c20_i32
  let c0_i32_17 : BitVec 32 := 0#32
  let c1_i32_19 : BitVec 32 := 1#32
  let arg14 : BitVec 32 := Scf.iv c0_i32_17 c1_i32_19 k3_t5
  let c16_i32_127 : BitVec 32 := 16#32
  let v238 : BitVec 32 := Scalar.muli arg14 c16_i32_127
  let v240 : Index := Scalar.indexCast v238
  ![20, v240.toNat]
def k3_off154 (k3_t5 : Fin k3_t5_loop.trips) : Fin 2 → Nat :=
  let c21_i32 : BitVec 32 := 21#32
  let v249 : Index := Scalar.indexCast c21_i32
  let c0_i32_17 : BitVec 32 := 0#32
  let c1_i32_19 : BitVec 32 := 1#32
  let arg14 : BitVec 32 := Scf.iv c0_i32_17 c1_i32_19 k3_t5
  let c16_i32_129 : BitVec 32 := 16#32
  let v248 : BitVec 32 := Scalar.muli arg14 c16_i32_129
  let v250 : Index := Scalar.indexCast v248
  ![21, v250.toNat]
def k3_off155 (k3_t5 : Fin k3_t5_loop.trips) : Fin 2 → Nat :=
  let c22_i32 : BitVec 32 := 22#32
  let v259 : Index := Scalar.indexCast c22_i32
  let c0_i32_17 : BitVec 32 := 0#32
  let c1_i32_19 : BitVec 32 := 1#32
  let arg14 : BitVec 32 := Scf.iv c0_i32_17 c1_i32_19 k3_t5
  let c16_i32_131 : BitVec 32 := 16#32
  let v258 : BitVec 32 := Scalar.muli arg14 c16_i32_131
  let v260 : Index := Scalar.indexCast v258
  ![22, v260.toNat]
def k3_off156 (k3_t5 : Fin k3_t5_loop.trips) : Fin 2 → Nat :=
  let c23_i32 : BitVec 32 := 23#32
  let v269 : Index := Scalar.indexCast c23_i32
  let c0_i32_17 : BitVec 32 := 0#32
  let c1_i32_19 : BitVec 32 := 1#32
  let arg14 : BitVec 32 := Scf.iv c0_i32_17 c1_i32_19 k3_t5
  let c16_i32_133 : BitVec 32 := 16#32
  let v268 : BitVec 32 := Scalar.muli arg14 c16_i32_133
  let v270 : Index := Scalar.indexCast v268
  ![23, v270.toNat]
def k3_off157 (k3_t5 : Fin k3_t5_loop.trips) : Fin 2 → Nat :=
  let c24_i32 : BitVec 32 := 24#32
  let v279 : Index := Scalar.indexCast c24_i32
  let c0_i32_17 : BitVec 32 := 0#32
  let c1_i32_19 : BitVec 32 := 1#32
  let arg14 : BitVec 32 := Scf.iv c0_i32_17 c1_i32_19 k3_t5
  let c16_i32_135 : BitVec 32 := 16#32
  let v278 : BitVec 32 := Scalar.muli arg14 c16_i32_135
  let v280 : Index := Scalar.indexCast v278
  ![24, v280.toNat]
def k3_off158 (k3_t5 : Fin k3_t5_loop.trips) : Fin 2 → Nat :=
  let c25_i32 : BitVec 32 := 25#32
  let v289 : Index := Scalar.indexCast c25_i32
  let c0_i32_17 : BitVec 32 := 0#32
  let c1_i32_19 : BitVec 32 := 1#32
  let arg14 : BitVec 32 := Scf.iv c0_i32_17 c1_i32_19 k3_t5
  let c16_i32_137 : BitVec 32 := 16#32
  let v288 : BitVec 32 := Scalar.muli arg14 c16_i32_137
  let v290 : Index := Scalar.indexCast v288
  ![25, v290.toNat]
def k3_off159 (k3_t5 : Fin k3_t5_loop.trips) : Fin 2 → Nat :=
  let c26_i32 : BitVec 32 := 26#32
  let v299 : Index := Scalar.indexCast c26_i32
  let c0_i32_17 : BitVec 32 := 0#32
  let c1_i32_19 : BitVec 32 := 1#32
  let arg14 : BitVec 32 := Scf.iv c0_i32_17 c1_i32_19 k3_t5
  let c16_i32_139 : BitVec 32 := 16#32
  let v298 : BitVec 32 := Scalar.muli arg14 c16_i32_139
  let v300 : Index := Scalar.indexCast v298
  ![26, v300.toNat]
def k3_off160 (k3_t5 : Fin k3_t5_loop.trips) : Fin 2 → Nat :=
  let c27_i32 : BitVec 32 := 27#32
  let v309 : Index := Scalar.indexCast c27_i32
  let c0_i32_17 : BitVec 32 := 0#32
  let c1_i32_19 : BitVec 32 := 1#32
  let arg14 : BitVec 32 := Scf.iv c0_i32_17 c1_i32_19 k3_t5
  let c16_i32_141 : BitVec 32 := 16#32
  let v308 : BitVec 32 := Scalar.muli arg14 c16_i32_141
  let v310 : Index := Scalar.indexCast v308
  ![27, v310.toNat]
def k3_off161 (k3_t5 : Fin k3_t5_loop.trips) : Fin 2 → Nat :=
  let c28_i32 : BitVec 32 := 28#32
  let v319 : Index := Scalar.indexCast c28_i32
  let c0_i32_17 : BitVec 32 := 0#32
  let c1_i32_19 : BitVec 32 := 1#32
  let arg14 : BitVec 32 := Scf.iv c0_i32_17 c1_i32_19 k3_t5
  let c16_i32_143 : BitVec 32 := 16#32
  let v318 : BitVec 32 := Scalar.muli arg14 c16_i32_143
  let v320 : Index := Scalar.indexCast v318
  ![28, v320.toNat]
def k3_off162 (k3_t5 : Fin k3_t5_loop.trips) : Fin 2 → Nat :=
  let c29_i32 : BitVec 32 := 29#32
  let v329 : Index := Scalar.indexCast c29_i32
  let c0_i32_17 : BitVec 32 := 0#32
  let c1_i32_19 : BitVec 32 := 1#32
  let arg14 : BitVec 32 := Scf.iv c0_i32_17 c1_i32_19 k3_t5
  let c16_i32_145 : BitVec 32 := 16#32
  let v328 : BitVec 32 := Scalar.muli arg14 c16_i32_145
  let v330 : Index := Scalar.indexCast v328
  ![29, v330.toNat]
def k3_off163 (k3_t5 : Fin k3_t5_loop.trips) : Fin 2 → Nat :=
  let c30_i32 : BitVec 32 := 30#32
  let v339 : Index := Scalar.indexCast c30_i32
  let c0_i32_17 : BitVec 32 := 0#32
  let c1_i32_19 : BitVec 32 := 1#32
  let arg14 : BitVec 32 := Scf.iv c0_i32_17 c1_i32_19 k3_t5
  let c16_i32_147 : BitVec 32 := 16#32
  let v338 : BitVec 32 := Scalar.muli arg14 c16_i32_147
  let v340 : Index := Scalar.indexCast v338
  ![30, v340.toNat]
def k3_off164 (k3_t5 : Fin k3_t5_loop.trips) : Fin 2 → Nat :=
  let c31_i32 : BitVec 32 := 31#32
  let v349 : Index := Scalar.indexCast c31_i32
  let c0_i32_17 : BitVec 32 := 0#32
  let c1_i32_19 : BitVec 32 := 1#32
  let arg14 : BitVec 32 := Scf.iv c0_i32_17 c1_i32_19 k3_t5
  let c16_i32_149 : BitVec 32 := 16#32
  let v348 : BitVec 32 := Scalar.muli arg14 c16_i32_149
  let v350 : Index := Scalar.indexCast v348
  ![31, v350.toNat]
def k3_off165 (k3_t5 : Fin k3_t5_loop.trips) : Fin 1 → Nat :=
  let c8192_i32 : BitVec 32 := 8192#32
  let c0_i32_17 : BitVec 32 := 0#32
  let c1_i32_19 : BitVec 32 := 1#32
  let arg14 : BitVec 32 := Scf.iv c0_i32_17 c1_i32_19 k3_t5
  let c16_i32_151 : BitVec 32 := 16#32
  let v364 : BitVec 32 := Scalar.muli arg14 c16_i32_151
  let v365 : BitVec 32 := Scalar.addi c8192_i32 v364
  let v366 : Index := Scalar.indexCast v365
  ![v366.toNat]
@[reducible] def k3_t6_loop : Scf.Loop 32 :=
  let c0_i32_21 : BitVec 32 := 0#32
  let c128_i32_22 : BitVec 32 := 128#32
  let v14 : BitVec 32 := Scalar.addi c0_i32_21 c128_i32_22
  let c1_i32_23 : BitVec 32 := 1#32
  ⟨c0_i32_21, v14, c1_i32_23⟩
def k3_off166 (k3_t6 : Fin k3_t6_loop.trips) : Fin 2 → Nat :=
  let c0_i32_71 : BitVec 32 := 0#32
  let v39 : Index := Scalar.indexCast c0_i32_71
  let c0_i32_21 : BitVec 32 := 0#32
  let c1_i32_23 : BitVec 32 := 1#32
  let arg14 : BitVec 32 := Scf.iv c0_i32_21 c1_i32_23 k3_t6
  let c16_i32_70 : BitVec 32 := 16#32
  let v38 : BitVec 32 := Scalar.muli arg14 c16_i32_70
  let v40 : Index := Scalar.indexCast v38
  ![0, v40.toNat]
def k3_off167 (k3_t6 : Fin k3_t6_loop.trips) : Fin 2 → Nat :=
  let c1_i32_74 : BitVec 32 := 1#32
  let v49 : Index := Scalar.indexCast c1_i32_74
  let c0_i32_21 : BitVec 32 := 0#32
  let c1_i32_23 : BitVec 32 := 1#32
  let arg14 : BitVec 32 := Scf.iv c0_i32_21 c1_i32_23 k3_t6
  let c16_i32_73 : BitVec 32 := 16#32
  let v48 : BitVec 32 := Scalar.muli arg14 c16_i32_73
  let v50 : Index := Scalar.indexCast v48
  ![1, v50.toNat]
def k3_off168 (k3_t6 : Fin k3_t6_loop.trips) : Fin 2 → Nat :=
  let c2_i32_77 : BitVec 32 := 2#32
  let v59 : Index := Scalar.indexCast c2_i32_77
  let c0_i32_21 : BitVec 32 := 0#32
  let c1_i32_23 : BitVec 32 := 1#32
  let arg14 : BitVec 32 := Scf.iv c0_i32_21 c1_i32_23 k3_t6
  let c16_i32_76 : BitVec 32 := 16#32
  let v58 : BitVec 32 := Scalar.muli arg14 c16_i32_76
  let v60 : Index := Scalar.indexCast v58
  ![2, v60.toNat]
def k3_off169 (k3_t6 : Fin k3_t6_loop.trips) : Fin 2 → Nat :=
  let c3_i32_80 : BitVec 32 := 3#32
  let v69 : Index := Scalar.indexCast c3_i32_80
  let c0_i32_21 : BitVec 32 := 0#32
  let c1_i32_23 : BitVec 32 := 1#32
  let arg14 : BitVec 32 := Scf.iv c0_i32_21 c1_i32_23 k3_t6
  let c16_i32_79 : BitVec 32 := 16#32
  let v68 : BitVec 32 := Scalar.muli arg14 c16_i32_79
  let v70 : Index := Scalar.indexCast v68
  ![3, v70.toNat]
def k3_off170 (k3_t6 : Fin k3_t6_loop.trips) : Fin 2 → Nat :=
  let c4_i32_83 : BitVec 32 := 4#32
  let v79 : Index := Scalar.indexCast c4_i32_83
  let c0_i32_21 : BitVec 32 := 0#32
  let c1_i32_23 : BitVec 32 := 1#32
  let arg14 : BitVec 32 := Scf.iv c0_i32_21 c1_i32_23 k3_t6
  let c16_i32_82 : BitVec 32 := 16#32
  let v78 : BitVec 32 := Scalar.muli arg14 c16_i32_82
  let v80 : Index := Scalar.indexCast v78
  ![4, v80.toNat]
def k3_off171 (k3_t6 : Fin k3_t6_loop.trips) : Fin 2 → Nat :=
  let c5_i32_86 : BitVec 32 := 5#32
  let v89 : Index := Scalar.indexCast c5_i32_86
  let c0_i32_21 : BitVec 32 := 0#32
  let c1_i32_23 : BitVec 32 := 1#32
  let arg14 : BitVec 32 := Scf.iv c0_i32_21 c1_i32_23 k3_t6
  let c16_i32_85 : BitVec 32 := 16#32
  let v88 : BitVec 32 := Scalar.muli arg14 c16_i32_85
  let v90 : Index := Scalar.indexCast v88
  ![5, v90.toNat]
def k3_off172 (k3_t6 : Fin k3_t6_loop.trips) : Fin 2 → Nat :=
  let c6_i32_89 : BitVec 32 := 6#32
  let v99 : Index := Scalar.indexCast c6_i32_89
  let c0_i32_21 : BitVec 32 := 0#32
  let c1_i32_23 : BitVec 32 := 1#32
  let arg14 : BitVec 32 := Scf.iv c0_i32_21 c1_i32_23 k3_t6
  let c16_i32_88 : BitVec 32 := 16#32
  let v98 : BitVec 32 := Scalar.muli arg14 c16_i32_88
  let v100 : Index := Scalar.indexCast v98
  ![6, v100.toNat]
def k3_off173 (k3_t6 : Fin k3_t6_loop.trips) : Fin 2 → Nat :=
  let c7_i32_92 : BitVec 32 := 7#32
  let v109 : Index := Scalar.indexCast c7_i32_92
  let c0_i32_21 : BitVec 32 := 0#32
  let c1_i32_23 : BitVec 32 := 1#32
  let arg14 : BitVec 32 := Scf.iv c0_i32_21 c1_i32_23 k3_t6
  let c16_i32_91 : BitVec 32 := 16#32
  let v108 : BitVec 32 := Scalar.muli arg14 c16_i32_91
  let v110 : Index := Scalar.indexCast v108
  ![7, v110.toNat]
def k3_off174 (k3_t6 : Fin k3_t6_loop.trips) : Fin 2 → Nat :=
  let c8_i32_95 : BitVec 32 := 8#32
  let v119 : Index := Scalar.indexCast c8_i32_95
  let c0_i32_21 : BitVec 32 := 0#32
  let c1_i32_23 : BitVec 32 := 1#32
  let arg14 : BitVec 32 := Scf.iv c0_i32_21 c1_i32_23 k3_t6
  let c16_i32_94 : BitVec 32 := 16#32
  let v118 : BitVec 32 := Scalar.muli arg14 c16_i32_94
  let v120 : Index := Scalar.indexCast v118
  ![8, v120.toNat]
def k3_off175 (k3_t6 : Fin k3_t6_loop.trips) : Fin 2 → Nat :=
  let c9_i32_98 : BitVec 32 := 9#32
  let v129 : Index := Scalar.indexCast c9_i32_98
  let c0_i32_21 : BitVec 32 := 0#32
  let c1_i32_23 : BitVec 32 := 1#32
  let arg14 : BitVec 32 := Scf.iv c0_i32_21 c1_i32_23 k3_t6
  let c16_i32_97 : BitVec 32 := 16#32
  let v128 : BitVec 32 := Scalar.muli arg14 c16_i32_97
  let v130 : Index := Scalar.indexCast v128
  ![9, v130.toNat]
def k3_off176 (k3_t6 : Fin k3_t6_loop.trips) : Fin 2 → Nat :=
  let c10_i32_101 : BitVec 32 := 10#32
  let v139 : Index := Scalar.indexCast c10_i32_101
  let c0_i32_21 : BitVec 32 := 0#32
  let c1_i32_23 : BitVec 32 := 1#32
  let arg14 : BitVec 32 := Scf.iv c0_i32_21 c1_i32_23 k3_t6
  let c16_i32_100 : BitVec 32 := 16#32
  let v138 : BitVec 32 := Scalar.muli arg14 c16_i32_100
  let v140 : Index := Scalar.indexCast v138
  ![10, v140.toNat]
def k3_off177 (k3_t6 : Fin k3_t6_loop.trips) : Fin 2 → Nat :=
  let c11_i32_104 : BitVec 32 := 11#32
  let v149 : Index := Scalar.indexCast c11_i32_104
  let c0_i32_21 : BitVec 32 := 0#32
  let c1_i32_23 : BitVec 32 := 1#32
  let arg14 : BitVec 32 := Scf.iv c0_i32_21 c1_i32_23 k3_t6
  let c16_i32_103 : BitVec 32 := 16#32
  let v148 : BitVec 32 := Scalar.muli arg14 c16_i32_103
  let v150 : Index := Scalar.indexCast v148
  ![11, v150.toNat]
def k3_off178 (k3_t6 : Fin k3_t6_loop.trips) : Fin 2 → Nat :=
  let c12_i32_107 : BitVec 32 := 12#32
  let v159 : Index := Scalar.indexCast c12_i32_107
  let c0_i32_21 : BitVec 32 := 0#32
  let c1_i32_23 : BitVec 32 := 1#32
  let arg14 : BitVec 32 := Scf.iv c0_i32_21 c1_i32_23 k3_t6
  let c16_i32_106 : BitVec 32 := 16#32
  let v158 : BitVec 32 := Scalar.muli arg14 c16_i32_106
  let v160 : Index := Scalar.indexCast v158
  ![12, v160.toNat]
def k3_off179 (k3_t6 : Fin k3_t6_loop.trips) : Fin 2 → Nat :=
  let c13_i32_110 : BitVec 32 := 13#32
  let v169 : Index := Scalar.indexCast c13_i32_110
  let c0_i32_21 : BitVec 32 := 0#32
  let c1_i32_23 : BitVec 32 := 1#32
  let arg14 : BitVec 32 := Scf.iv c0_i32_21 c1_i32_23 k3_t6
  let c16_i32_109 : BitVec 32 := 16#32
  let v168 : BitVec 32 := Scalar.muli arg14 c16_i32_109
  let v170 : Index := Scalar.indexCast v168
  ![13, v170.toNat]
def k3_off180 (k3_t6 : Fin k3_t6_loop.trips) : Fin 2 → Nat :=
  let c14_i32_113 : BitVec 32 := 14#32
  let v179 : Index := Scalar.indexCast c14_i32_113
  let c0_i32_21 : BitVec 32 := 0#32
  let c1_i32_23 : BitVec 32 := 1#32
  let arg14 : BitVec 32 := Scf.iv c0_i32_21 c1_i32_23 k3_t6
  let c16_i32_112 : BitVec 32 := 16#32
  let v178 : BitVec 32 := Scalar.muli arg14 c16_i32_112
  let v180 : Index := Scalar.indexCast v178
  ![14, v180.toNat]
def k3_off181 (k3_t6 : Fin k3_t6_loop.trips) : Fin 2 → Nat :=
  let c15_i32_116 : BitVec 32 := 15#32
  let v189 : Index := Scalar.indexCast c15_i32_116
  let c0_i32_21 : BitVec 32 := 0#32
  let c1_i32_23 : BitVec 32 := 1#32
  let arg14 : BitVec 32 := Scf.iv c0_i32_21 c1_i32_23 k3_t6
  let c16_i32_115 : BitVec 32 := 16#32
  let v188 : BitVec 32 := Scalar.muli arg14 c16_i32_115
  let v190 : Index := Scalar.indexCast v188
  ![15, v190.toNat]
def k3_off182 (k3_t6 : Fin k3_t6_loop.trips) : Fin 2 → Nat :=
  let c16_i32_119 : BitVec 32 := 16#32
  let v199 : Index := Scalar.indexCast c16_i32_119
  let c0_i32_21 : BitVec 32 := 0#32
  let c1_i32_23 : BitVec 32 := 1#32
  let arg14 : BitVec 32 := Scf.iv c0_i32_21 c1_i32_23 k3_t6
  let c16_i32_118 : BitVec 32 := 16#32
  let v198 : BitVec 32 := Scalar.muli arg14 c16_i32_118
  let v200 : Index := Scalar.indexCast v198
  ![16, v200.toNat]
def k3_off183 (k3_t6 : Fin k3_t6_loop.trips) : Fin 2 → Nat :=
  let c17_i32 : BitVec 32 := 17#32
  let v209 : Index := Scalar.indexCast c17_i32
  let c0_i32_21 : BitVec 32 := 0#32
  let c1_i32_23 : BitVec 32 := 1#32
  let arg14 : BitVec 32 := Scf.iv c0_i32_21 c1_i32_23 k3_t6
  let c16_i32_121 : BitVec 32 := 16#32
  let v208 : BitVec 32 := Scalar.muli arg14 c16_i32_121
  let v210 : Index := Scalar.indexCast v208
  ![17, v210.toNat]
def k3_off184 (k3_t6 : Fin k3_t6_loop.trips) : Fin 2 → Nat :=
  let c18_i32 : BitVec 32 := 18#32
  let v219 : Index := Scalar.indexCast c18_i32
  let c0_i32_21 : BitVec 32 := 0#32
  let c1_i32_23 : BitVec 32 := 1#32
  let arg14 : BitVec 32 := Scf.iv c0_i32_21 c1_i32_23 k3_t6
  let c16_i32_123 : BitVec 32 := 16#32
  let v218 : BitVec 32 := Scalar.muli arg14 c16_i32_123
  let v220 : Index := Scalar.indexCast v218
  ![18, v220.toNat]
def k3_off185 (k3_t6 : Fin k3_t6_loop.trips) : Fin 2 → Nat :=
  let c19_i32 : BitVec 32 := 19#32
  let v229 : Index := Scalar.indexCast c19_i32
  let c0_i32_21 : BitVec 32 := 0#32
  let c1_i32_23 : BitVec 32 := 1#32
  let arg14 : BitVec 32 := Scf.iv c0_i32_21 c1_i32_23 k3_t6
  let c16_i32_125 : BitVec 32 := 16#32
  let v228 : BitVec 32 := Scalar.muli arg14 c16_i32_125
  let v230 : Index := Scalar.indexCast v228
  ![19, v230.toNat]
def k3_off186 (k3_t6 : Fin k3_t6_loop.trips) : Fin 2 → Nat :=
  let c20_i32 : BitVec 32 := 20#32
  let v239 : Index := Scalar.indexCast c20_i32
  let c0_i32_21 : BitVec 32 := 0#32
  let c1_i32_23 : BitVec 32 := 1#32
  let arg14 : BitVec 32 := Scf.iv c0_i32_21 c1_i32_23 k3_t6
  let c16_i32_127 : BitVec 32 := 16#32
  let v238 : BitVec 32 := Scalar.muli arg14 c16_i32_127
  let v240 : Index := Scalar.indexCast v238
  ![20, v240.toNat]
def k3_off187 (k3_t6 : Fin k3_t6_loop.trips) : Fin 2 → Nat :=
  let c21_i32 : BitVec 32 := 21#32
  let v249 : Index := Scalar.indexCast c21_i32
  let c0_i32_21 : BitVec 32 := 0#32
  let c1_i32_23 : BitVec 32 := 1#32
  let arg14 : BitVec 32 := Scf.iv c0_i32_21 c1_i32_23 k3_t6
  let c16_i32_129 : BitVec 32 := 16#32
  let v248 : BitVec 32 := Scalar.muli arg14 c16_i32_129
  let v250 : Index := Scalar.indexCast v248
  ![21, v250.toNat]
def k3_off188 (k3_t6 : Fin k3_t6_loop.trips) : Fin 2 → Nat :=
  let c22_i32 : BitVec 32 := 22#32
  let v259 : Index := Scalar.indexCast c22_i32
  let c0_i32_21 : BitVec 32 := 0#32
  let c1_i32_23 : BitVec 32 := 1#32
  let arg14 : BitVec 32 := Scf.iv c0_i32_21 c1_i32_23 k3_t6
  let c16_i32_131 : BitVec 32 := 16#32
  let v258 : BitVec 32 := Scalar.muli arg14 c16_i32_131
  let v260 : Index := Scalar.indexCast v258
  ![22, v260.toNat]
def k3_off189 (k3_t6 : Fin k3_t6_loop.trips) : Fin 2 → Nat :=
  let c23_i32 : BitVec 32 := 23#32
  let v269 : Index := Scalar.indexCast c23_i32
  let c0_i32_21 : BitVec 32 := 0#32
  let c1_i32_23 : BitVec 32 := 1#32
  let arg14 : BitVec 32 := Scf.iv c0_i32_21 c1_i32_23 k3_t6
  let c16_i32_133 : BitVec 32 := 16#32
  let v268 : BitVec 32 := Scalar.muli arg14 c16_i32_133
  let v270 : Index := Scalar.indexCast v268
  ![23, v270.toNat]
def k3_off190 (k3_t6 : Fin k3_t6_loop.trips) : Fin 2 → Nat :=
  let c24_i32 : BitVec 32 := 24#32
  let v279 : Index := Scalar.indexCast c24_i32
  let c0_i32_21 : BitVec 32 := 0#32
  let c1_i32_23 : BitVec 32 := 1#32
  let arg14 : BitVec 32 := Scf.iv c0_i32_21 c1_i32_23 k3_t6
  let c16_i32_135 : BitVec 32 := 16#32
  let v278 : BitVec 32 := Scalar.muli arg14 c16_i32_135
  let v280 : Index := Scalar.indexCast v278
  ![24, v280.toNat]
def k3_off191 (k3_t6 : Fin k3_t6_loop.trips) : Fin 2 → Nat :=
  let c25_i32 : BitVec 32 := 25#32
  let v289 : Index := Scalar.indexCast c25_i32
  let c0_i32_21 : BitVec 32 := 0#32
  let c1_i32_23 : BitVec 32 := 1#32
  let arg14 : BitVec 32 := Scf.iv c0_i32_21 c1_i32_23 k3_t6
  let c16_i32_137 : BitVec 32 := 16#32
  let v288 : BitVec 32 := Scalar.muli arg14 c16_i32_137
  let v290 : Index := Scalar.indexCast v288
  ![25, v290.toNat]
def k3_off192 (k3_t6 : Fin k3_t6_loop.trips) : Fin 2 → Nat :=
  let c26_i32 : BitVec 32 := 26#32
  let v299 : Index := Scalar.indexCast c26_i32
  let c0_i32_21 : BitVec 32 := 0#32
  let c1_i32_23 : BitVec 32 := 1#32
  let arg14 : BitVec 32 := Scf.iv c0_i32_21 c1_i32_23 k3_t6
  let c16_i32_139 : BitVec 32 := 16#32
  let v298 : BitVec 32 := Scalar.muli arg14 c16_i32_139
  let v300 : Index := Scalar.indexCast v298
  ![26, v300.toNat]
def k3_off193 (k3_t6 : Fin k3_t6_loop.trips) : Fin 2 → Nat :=
  let c27_i32 : BitVec 32 := 27#32
  let v309 : Index := Scalar.indexCast c27_i32
  let c0_i32_21 : BitVec 32 := 0#32
  let c1_i32_23 : BitVec 32 := 1#32
  let arg14 : BitVec 32 := Scf.iv c0_i32_21 c1_i32_23 k3_t6
  let c16_i32_141 : BitVec 32 := 16#32
  let v308 : BitVec 32 := Scalar.muli arg14 c16_i32_141
  let v310 : Index := Scalar.indexCast v308
  ![27, v310.toNat]
def k3_off194 (k3_t6 : Fin k3_t6_loop.trips) : Fin 2 → Nat :=
  let c28_i32 : BitVec 32 := 28#32
  let v319 : Index := Scalar.indexCast c28_i32
  let c0_i32_21 : BitVec 32 := 0#32
  let c1_i32_23 : BitVec 32 := 1#32
  let arg14 : BitVec 32 := Scf.iv c0_i32_21 c1_i32_23 k3_t6
  let c16_i32_143 : BitVec 32 := 16#32
  let v318 : BitVec 32 := Scalar.muli arg14 c16_i32_143
  let v320 : Index := Scalar.indexCast v318
  ![28, v320.toNat]
def k3_off195 (k3_t6 : Fin k3_t6_loop.trips) : Fin 2 → Nat :=
  let c29_i32 : BitVec 32 := 29#32
  let v329 : Index := Scalar.indexCast c29_i32
  let c0_i32_21 : BitVec 32 := 0#32
  let c1_i32_23 : BitVec 32 := 1#32
  let arg14 : BitVec 32 := Scf.iv c0_i32_21 c1_i32_23 k3_t6
  let c16_i32_145 : BitVec 32 := 16#32
  let v328 : BitVec 32 := Scalar.muli arg14 c16_i32_145
  let v330 : Index := Scalar.indexCast v328
  ![29, v330.toNat]
def k3_off196 (k3_t6 : Fin k3_t6_loop.trips) : Fin 2 → Nat :=
  let c30_i32 : BitVec 32 := 30#32
  let v339 : Index := Scalar.indexCast c30_i32
  let c0_i32_21 : BitVec 32 := 0#32
  let c1_i32_23 : BitVec 32 := 1#32
  let arg14 : BitVec 32 := Scf.iv c0_i32_21 c1_i32_23 k3_t6
  let c16_i32_147 : BitVec 32 := 16#32
  let v338 : BitVec 32 := Scalar.muli arg14 c16_i32_147
  let v340 : Index := Scalar.indexCast v338
  ![30, v340.toNat]
def k3_off197 (k3_t6 : Fin k3_t6_loop.trips) : Fin 2 → Nat :=
  let c31_i32 : BitVec 32 := 31#32
  let v349 : Index := Scalar.indexCast c31_i32
  let c0_i32_21 : BitVec 32 := 0#32
  let c1_i32_23 : BitVec 32 := 1#32
  let arg14 : BitVec 32 := Scf.iv c0_i32_21 c1_i32_23 k3_t6
  let c16_i32_149 : BitVec 32 := 16#32
  let v348 : BitVec 32 := Scalar.muli arg14 c16_i32_149
  let v350 : Index := Scalar.indexCast v348
  ![31, v350.toNat]
def k3_off198 (k3_t6 : Fin k3_t6_loop.trips) : Fin 1 → Nat :=
  let c10240_i32 : BitVec 32 := 10240#32
  let c0_i32_21 : BitVec 32 := 0#32
  let c1_i32_23 : BitVec 32 := 1#32
  let arg14 : BitVec 32 := Scf.iv c0_i32_21 c1_i32_23 k3_t6
  let c16_i32_151 : BitVec 32 := 16#32
  let v364 : BitVec 32 := Scalar.muli arg14 c16_i32_151
  let v365 : BitVec 32 := Scalar.addi c10240_i32 v364
  let v366 : Index := Scalar.indexCast v365
  ![v366.toNat]
@[reducible] def k3_t7_loop : Scf.Loop 32 :=
  let c0_i32_25 : BitVec 32 := 0#32
  let c128_i32_26 : BitVec 32 := 128#32
  let v16 : BitVec 32 := Scalar.addi c0_i32_25 c128_i32_26
  let c1_i32_27 : BitVec 32 := 1#32
  ⟨c0_i32_25, v16, c1_i32_27⟩
def k3_off199 (k3_t7 : Fin k3_t7_loop.trips) : Fin 2 → Nat :=
  let c0_i32_71 : BitVec 32 := 0#32
  let v39 : Index := Scalar.indexCast c0_i32_71
  let c0_i32_25 : BitVec 32 := 0#32
  let c1_i32_27 : BitVec 32 := 1#32
  let arg14 : BitVec 32 := Scf.iv c0_i32_25 c1_i32_27 k3_t7
  let c16_i32_70 : BitVec 32 := 16#32
  let v38 : BitVec 32 := Scalar.muli arg14 c16_i32_70
  let v40 : Index := Scalar.indexCast v38
  ![0, v40.toNat]
def k3_off200 (k3_t7 : Fin k3_t7_loop.trips) : Fin 2 → Nat :=
  let c1_i32_74 : BitVec 32 := 1#32
  let v49 : Index := Scalar.indexCast c1_i32_74
  let c0_i32_25 : BitVec 32 := 0#32
  let c1_i32_27 : BitVec 32 := 1#32
  let arg14 : BitVec 32 := Scf.iv c0_i32_25 c1_i32_27 k3_t7
  let c16_i32_73 : BitVec 32 := 16#32
  let v48 : BitVec 32 := Scalar.muli arg14 c16_i32_73
  let v50 : Index := Scalar.indexCast v48
  ![1, v50.toNat]
def k3_off201 (k3_t7 : Fin k3_t7_loop.trips) : Fin 2 → Nat :=
  let c2_i32_77 : BitVec 32 := 2#32
  let v59 : Index := Scalar.indexCast c2_i32_77
  let c0_i32_25 : BitVec 32 := 0#32
  let c1_i32_27 : BitVec 32 := 1#32
  let arg14 : BitVec 32 := Scf.iv c0_i32_25 c1_i32_27 k3_t7
  let c16_i32_76 : BitVec 32 := 16#32
  let v58 : BitVec 32 := Scalar.muli arg14 c16_i32_76
  let v60 : Index := Scalar.indexCast v58
  ![2, v60.toNat]
def k3_off202 (k3_t7 : Fin k3_t7_loop.trips) : Fin 2 → Nat :=
  let c3_i32_80 : BitVec 32 := 3#32
  let v69 : Index := Scalar.indexCast c3_i32_80
  let c0_i32_25 : BitVec 32 := 0#32
  let c1_i32_27 : BitVec 32 := 1#32
  let arg14 : BitVec 32 := Scf.iv c0_i32_25 c1_i32_27 k3_t7
  let c16_i32_79 : BitVec 32 := 16#32
  let v68 : BitVec 32 := Scalar.muli arg14 c16_i32_79
  let v70 : Index := Scalar.indexCast v68
  ![3, v70.toNat]
def k3_off203 (k3_t7 : Fin k3_t7_loop.trips) : Fin 2 → Nat :=
  let c4_i32_83 : BitVec 32 := 4#32
  let v79 : Index := Scalar.indexCast c4_i32_83
  let c0_i32_25 : BitVec 32 := 0#32
  let c1_i32_27 : BitVec 32 := 1#32
  let arg14 : BitVec 32 := Scf.iv c0_i32_25 c1_i32_27 k3_t7
  let c16_i32_82 : BitVec 32 := 16#32
  let v78 : BitVec 32 := Scalar.muli arg14 c16_i32_82
  let v80 : Index := Scalar.indexCast v78
  ![4, v80.toNat]
def k3_off204 (k3_t7 : Fin k3_t7_loop.trips) : Fin 2 → Nat :=
  let c5_i32_86 : BitVec 32 := 5#32
  let v89 : Index := Scalar.indexCast c5_i32_86
  let c0_i32_25 : BitVec 32 := 0#32
  let c1_i32_27 : BitVec 32 := 1#32
  let arg14 : BitVec 32 := Scf.iv c0_i32_25 c1_i32_27 k3_t7
  let c16_i32_85 : BitVec 32 := 16#32
  let v88 : BitVec 32 := Scalar.muli arg14 c16_i32_85
  let v90 : Index := Scalar.indexCast v88
  ![5, v90.toNat]
def k3_off205 (k3_t7 : Fin k3_t7_loop.trips) : Fin 2 → Nat :=
  let c6_i32_89 : BitVec 32 := 6#32
  let v99 : Index := Scalar.indexCast c6_i32_89
  let c0_i32_25 : BitVec 32 := 0#32
  let c1_i32_27 : BitVec 32 := 1#32
  let arg14 : BitVec 32 := Scf.iv c0_i32_25 c1_i32_27 k3_t7
  let c16_i32_88 : BitVec 32 := 16#32
  let v98 : BitVec 32 := Scalar.muli arg14 c16_i32_88
  let v100 : Index := Scalar.indexCast v98
  ![6, v100.toNat]
def k3_off206 (k3_t7 : Fin k3_t7_loop.trips) : Fin 2 → Nat :=
  let c7_i32_92 : BitVec 32 := 7#32
  let v109 : Index := Scalar.indexCast c7_i32_92
  let c0_i32_25 : BitVec 32 := 0#32
  let c1_i32_27 : BitVec 32 := 1#32
  let arg14 : BitVec 32 := Scf.iv c0_i32_25 c1_i32_27 k3_t7
  let c16_i32_91 : BitVec 32 := 16#32
  let v108 : BitVec 32 := Scalar.muli arg14 c16_i32_91
  let v110 : Index := Scalar.indexCast v108
  ![7, v110.toNat]
def k3_off207 (k3_t7 : Fin k3_t7_loop.trips) : Fin 2 → Nat :=
  let c8_i32_95 : BitVec 32 := 8#32
  let v119 : Index := Scalar.indexCast c8_i32_95
  let c0_i32_25 : BitVec 32 := 0#32
  let c1_i32_27 : BitVec 32 := 1#32
  let arg14 : BitVec 32 := Scf.iv c0_i32_25 c1_i32_27 k3_t7
  let c16_i32_94 : BitVec 32 := 16#32
  let v118 : BitVec 32 := Scalar.muli arg14 c16_i32_94
  let v120 : Index := Scalar.indexCast v118
  ![8, v120.toNat]
def k3_off208 (k3_t7 : Fin k3_t7_loop.trips) : Fin 2 → Nat :=
  let c9_i32_98 : BitVec 32 := 9#32
  let v129 : Index := Scalar.indexCast c9_i32_98
  let c0_i32_25 : BitVec 32 := 0#32
  let c1_i32_27 : BitVec 32 := 1#32
  let arg14 : BitVec 32 := Scf.iv c0_i32_25 c1_i32_27 k3_t7
  let c16_i32_97 : BitVec 32 := 16#32
  let v128 : BitVec 32 := Scalar.muli arg14 c16_i32_97
  let v130 : Index := Scalar.indexCast v128
  ![9, v130.toNat]
def k3_off209 (k3_t7 : Fin k3_t7_loop.trips) : Fin 2 → Nat :=
  let c10_i32_101 : BitVec 32 := 10#32
  let v139 : Index := Scalar.indexCast c10_i32_101
  let c0_i32_25 : BitVec 32 := 0#32
  let c1_i32_27 : BitVec 32 := 1#32
  let arg14 : BitVec 32 := Scf.iv c0_i32_25 c1_i32_27 k3_t7
  let c16_i32_100 : BitVec 32 := 16#32
  let v138 : BitVec 32 := Scalar.muli arg14 c16_i32_100
  let v140 : Index := Scalar.indexCast v138
  ![10, v140.toNat]
def k3_off210 (k3_t7 : Fin k3_t7_loop.trips) : Fin 2 → Nat :=
  let c11_i32_104 : BitVec 32 := 11#32
  let v149 : Index := Scalar.indexCast c11_i32_104
  let c0_i32_25 : BitVec 32 := 0#32
  let c1_i32_27 : BitVec 32 := 1#32
  let arg14 : BitVec 32 := Scf.iv c0_i32_25 c1_i32_27 k3_t7
  let c16_i32_103 : BitVec 32 := 16#32
  let v148 : BitVec 32 := Scalar.muli arg14 c16_i32_103
  let v150 : Index := Scalar.indexCast v148
  ![11, v150.toNat]
def k3_off211 (k3_t7 : Fin k3_t7_loop.trips) : Fin 2 → Nat :=
  let c12_i32_107 : BitVec 32 := 12#32
  let v159 : Index := Scalar.indexCast c12_i32_107
  let c0_i32_25 : BitVec 32 := 0#32
  let c1_i32_27 : BitVec 32 := 1#32
  let arg14 : BitVec 32 := Scf.iv c0_i32_25 c1_i32_27 k3_t7
  let c16_i32_106 : BitVec 32 := 16#32
  let v158 : BitVec 32 := Scalar.muli arg14 c16_i32_106
  let v160 : Index := Scalar.indexCast v158
  ![12, v160.toNat]
def k3_off212 (k3_t7 : Fin k3_t7_loop.trips) : Fin 2 → Nat :=
  let c13_i32_110 : BitVec 32 := 13#32
  let v169 : Index := Scalar.indexCast c13_i32_110
  let c0_i32_25 : BitVec 32 := 0#32
  let c1_i32_27 : BitVec 32 := 1#32
  let arg14 : BitVec 32 := Scf.iv c0_i32_25 c1_i32_27 k3_t7
  let c16_i32_109 : BitVec 32 := 16#32
  let v168 : BitVec 32 := Scalar.muli arg14 c16_i32_109
  let v170 : Index := Scalar.indexCast v168
  ![13, v170.toNat]
def k3_off213 (k3_t7 : Fin k3_t7_loop.trips) : Fin 2 → Nat :=
  let c14_i32_113 : BitVec 32 := 14#32
  let v179 : Index := Scalar.indexCast c14_i32_113
  let c0_i32_25 : BitVec 32 := 0#32
  let c1_i32_27 : BitVec 32 := 1#32
  let arg14 : BitVec 32 := Scf.iv c0_i32_25 c1_i32_27 k3_t7
  let c16_i32_112 : BitVec 32 := 16#32
  let v178 : BitVec 32 := Scalar.muli arg14 c16_i32_112
  let v180 : Index := Scalar.indexCast v178
  ![14, v180.toNat]
def k3_off214 (k3_t7 : Fin k3_t7_loop.trips) : Fin 2 → Nat :=
  let c15_i32_116 : BitVec 32 := 15#32
  let v189 : Index := Scalar.indexCast c15_i32_116
  let c0_i32_25 : BitVec 32 := 0#32
  let c1_i32_27 : BitVec 32 := 1#32
  let arg14 : BitVec 32 := Scf.iv c0_i32_25 c1_i32_27 k3_t7
  let c16_i32_115 : BitVec 32 := 16#32
  let v188 : BitVec 32 := Scalar.muli arg14 c16_i32_115
  let v190 : Index := Scalar.indexCast v188
  ![15, v190.toNat]
def k3_off215 (k3_t7 : Fin k3_t7_loop.trips) : Fin 2 → Nat :=
  let c16_i32_119 : BitVec 32 := 16#32
  let v199 : Index := Scalar.indexCast c16_i32_119
  let c0_i32_25 : BitVec 32 := 0#32
  let c1_i32_27 : BitVec 32 := 1#32
  let arg14 : BitVec 32 := Scf.iv c0_i32_25 c1_i32_27 k3_t7
  let c16_i32_118 : BitVec 32 := 16#32
  let v198 : BitVec 32 := Scalar.muli arg14 c16_i32_118
  let v200 : Index := Scalar.indexCast v198
  ![16, v200.toNat]
def k3_off216 (k3_t7 : Fin k3_t7_loop.trips) : Fin 2 → Nat :=
  let c17_i32 : BitVec 32 := 17#32
  let v209 : Index := Scalar.indexCast c17_i32
  let c0_i32_25 : BitVec 32 := 0#32
  let c1_i32_27 : BitVec 32 := 1#32
  let arg14 : BitVec 32 := Scf.iv c0_i32_25 c1_i32_27 k3_t7
  let c16_i32_121 : BitVec 32 := 16#32
  let v208 : BitVec 32 := Scalar.muli arg14 c16_i32_121
  let v210 : Index := Scalar.indexCast v208
  ![17, v210.toNat]
def k3_off217 (k3_t7 : Fin k3_t7_loop.trips) : Fin 2 → Nat :=
  let c18_i32 : BitVec 32 := 18#32
  let v219 : Index := Scalar.indexCast c18_i32
  let c0_i32_25 : BitVec 32 := 0#32
  let c1_i32_27 : BitVec 32 := 1#32
  let arg14 : BitVec 32 := Scf.iv c0_i32_25 c1_i32_27 k3_t7
  let c16_i32_123 : BitVec 32 := 16#32
  let v218 : BitVec 32 := Scalar.muli arg14 c16_i32_123
  let v220 : Index := Scalar.indexCast v218
  ![18, v220.toNat]
def k3_off218 (k3_t7 : Fin k3_t7_loop.trips) : Fin 2 → Nat :=
  let c19_i32 : BitVec 32 := 19#32
  let v229 : Index := Scalar.indexCast c19_i32
  let c0_i32_25 : BitVec 32 := 0#32
  let c1_i32_27 : BitVec 32 := 1#32
  let arg14 : BitVec 32 := Scf.iv c0_i32_25 c1_i32_27 k3_t7
  let c16_i32_125 : BitVec 32 := 16#32
  let v228 : BitVec 32 := Scalar.muli arg14 c16_i32_125
  let v230 : Index := Scalar.indexCast v228
  ![19, v230.toNat]
def k3_off219 (k3_t7 : Fin k3_t7_loop.trips) : Fin 2 → Nat :=
  let c20_i32 : BitVec 32 := 20#32
  let v239 : Index := Scalar.indexCast c20_i32
  let c0_i32_25 : BitVec 32 := 0#32
  let c1_i32_27 : BitVec 32 := 1#32
  let arg14 : BitVec 32 := Scf.iv c0_i32_25 c1_i32_27 k3_t7
  let c16_i32_127 : BitVec 32 := 16#32
  let v238 : BitVec 32 := Scalar.muli arg14 c16_i32_127
  let v240 : Index := Scalar.indexCast v238
  ![20, v240.toNat]
def k3_off220 (k3_t7 : Fin k3_t7_loop.trips) : Fin 2 → Nat :=
  let c21_i32 : BitVec 32 := 21#32
  let v249 : Index := Scalar.indexCast c21_i32
  let c0_i32_25 : BitVec 32 := 0#32
  let c1_i32_27 : BitVec 32 := 1#32
  let arg14 : BitVec 32 := Scf.iv c0_i32_25 c1_i32_27 k3_t7
  let c16_i32_129 : BitVec 32 := 16#32
  let v248 : BitVec 32 := Scalar.muli arg14 c16_i32_129
  let v250 : Index := Scalar.indexCast v248
  ![21, v250.toNat]
def k3_off221 (k3_t7 : Fin k3_t7_loop.trips) : Fin 2 → Nat :=
  let c22_i32 : BitVec 32 := 22#32
  let v259 : Index := Scalar.indexCast c22_i32
  let c0_i32_25 : BitVec 32 := 0#32
  let c1_i32_27 : BitVec 32 := 1#32
  let arg14 : BitVec 32 := Scf.iv c0_i32_25 c1_i32_27 k3_t7
  let c16_i32_131 : BitVec 32 := 16#32
  let v258 : BitVec 32 := Scalar.muli arg14 c16_i32_131
  let v260 : Index := Scalar.indexCast v258
  ![22, v260.toNat]
def k3_off222 (k3_t7 : Fin k3_t7_loop.trips) : Fin 2 → Nat :=
  let c23_i32 : BitVec 32 := 23#32
  let v269 : Index := Scalar.indexCast c23_i32
  let c0_i32_25 : BitVec 32 := 0#32
  let c1_i32_27 : BitVec 32 := 1#32
  let arg14 : BitVec 32 := Scf.iv c0_i32_25 c1_i32_27 k3_t7
  let c16_i32_133 : BitVec 32 := 16#32
  let v268 : BitVec 32 := Scalar.muli arg14 c16_i32_133
  let v270 : Index := Scalar.indexCast v268
  ![23, v270.toNat]
def k3_off223 (k3_t7 : Fin k3_t7_loop.trips) : Fin 2 → Nat :=
  let c24_i32 : BitVec 32 := 24#32
  let v279 : Index := Scalar.indexCast c24_i32
  let c0_i32_25 : BitVec 32 := 0#32
  let c1_i32_27 : BitVec 32 := 1#32
  let arg14 : BitVec 32 := Scf.iv c0_i32_25 c1_i32_27 k3_t7
  let c16_i32_135 : BitVec 32 := 16#32
  let v278 : BitVec 32 := Scalar.muli arg14 c16_i32_135
  let v280 : Index := Scalar.indexCast v278
  ![24, v280.toNat]
def k3_off224 (k3_t7 : Fin k3_t7_loop.trips) : Fin 2 → Nat :=
  let c25_i32 : BitVec 32 := 25#32
  let v289 : Index := Scalar.indexCast c25_i32
  let c0_i32_25 : BitVec 32 := 0#32
  let c1_i32_27 : BitVec 32 := 1#32
  let arg14 : BitVec 32 := Scf.iv c0_i32_25 c1_i32_27 k3_t7
  let c16_i32_137 : BitVec 32 := 16#32
  let v288 : BitVec 32 := Scalar.muli arg14 c16_i32_137
  let v290 : Index := Scalar.indexCast v288
  ![25, v290.toNat]
def k3_off225 (k3_t7 : Fin k3_t7_loop.trips) : Fin 2 → Nat :=
  let c26_i32 : BitVec 32 := 26#32
  let v299 : Index := Scalar.indexCast c26_i32
  let c0_i32_25 : BitVec 32 := 0#32
  let c1_i32_27 : BitVec 32 := 1#32
  let arg14 : BitVec 32 := Scf.iv c0_i32_25 c1_i32_27 k3_t7
  let c16_i32_139 : BitVec 32 := 16#32
  let v298 : BitVec 32 := Scalar.muli arg14 c16_i32_139
  let v300 : Index := Scalar.indexCast v298
  ![26, v300.toNat]
def k3_off226 (k3_t7 : Fin k3_t7_loop.trips) : Fin 2 → Nat :=
  let c27_i32 : BitVec 32 := 27#32
  let v309 : Index := Scalar.indexCast c27_i32
  let c0_i32_25 : BitVec 32 := 0#32
  let c1_i32_27 : BitVec 32 := 1#32
  let arg14 : BitVec 32 := Scf.iv c0_i32_25 c1_i32_27 k3_t7
  let c16_i32_141 : BitVec 32 := 16#32
  let v308 : BitVec 32 := Scalar.muli arg14 c16_i32_141
  let v310 : Index := Scalar.indexCast v308
  ![27, v310.toNat]
def k3_off227 (k3_t7 : Fin k3_t7_loop.trips) : Fin 2 → Nat :=
  let c28_i32 : BitVec 32 := 28#32
  let v319 : Index := Scalar.indexCast c28_i32
  let c0_i32_25 : BitVec 32 := 0#32
  let c1_i32_27 : BitVec 32 := 1#32
  let arg14 : BitVec 32 := Scf.iv c0_i32_25 c1_i32_27 k3_t7
  let c16_i32_143 : BitVec 32 := 16#32
  let v318 : BitVec 32 := Scalar.muli arg14 c16_i32_143
  let v320 : Index := Scalar.indexCast v318
  ![28, v320.toNat]
def k3_off228 (k3_t7 : Fin k3_t7_loop.trips) : Fin 2 → Nat :=
  let c29_i32 : BitVec 32 := 29#32
  let v329 : Index := Scalar.indexCast c29_i32
  let c0_i32_25 : BitVec 32 := 0#32
  let c1_i32_27 : BitVec 32 := 1#32
  let arg14 : BitVec 32 := Scf.iv c0_i32_25 c1_i32_27 k3_t7
  let c16_i32_145 : BitVec 32 := 16#32
  let v328 : BitVec 32 := Scalar.muli arg14 c16_i32_145
  let v330 : Index := Scalar.indexCast v328
  ![29, v330.toNat]
def k3_off229 (k3_t7 : Fin k3_t7_loop.trips) : Fin 2 → Nat :=
  let c30_i32 : BitVec 32 := 30#32
  let v339 : Index := Scalar.indexCast c30_i32
  let c0_i32_25 : BitVec 32 := 0#32
  let c1_i32_27 : BitVec 32 := 1#32
  let arg14 : BitVec 32 := Scf.iv c0_i32_25 c1_i32_27 k3_t7
  let c16_i32_147 : BitVec 32 := 16#32
  let v338 : BitVec 32 := Scalar.muli arg14 c16_i32_147
  let v340 : Index := Scalar.indexCast v338
  ![30, v340.toNat]
def k3_off230 (k3_t7 : Fin k3_t7_loop.trips) : Fin 2 → Nat :=
  let c31_i32 : BitVec 32 := 31#32
  let v349 : Index := Scalar.indexCast c31_i32
  let c0_i32_25 : BitVec 32 := 0#32
  let c1_i32_27 : BitVec 32 := 1#32
  let arg14 : BitVec 32 := Scf.iv c0_i32_25 c1_i32_27 k3_t7
  let c16_i32_149 : BitVec 32 := 16#32
  let v348 : BitVec 32 := Scalar.muli arg14 c16_i32_149
  let v350 : Index := Scalar.indexCast v348
  ![31, v350.toNat]
def k3_off231 (k3_t7 : Fin k3_t7_loop.trips) : Fin 1 → Nat :=
  let c12288_i32 : BitVec 32 := 12288#32
  let c0_i32_25 : BitVec 32 := 0#32
  let c1_i32_27 : BitVec 32 := 1#32
  let arg14 : BitVec 32 := Scf.iv c0_i32_25 c1_i32_27 k3_t7
  let c16_i32_151 : BitVec 32 := 16#32
  let v364 : BitVec 32 := Scalar.muli arg14 c16_i32_151
  let v365 : BitVec 32 := Scalar.addi c12288_i32 v364
  let v366 : Index := Scalar.indexCast v365
  ![v366.toNat]
@[reducible] def k3_t8_loop : Scf.Loop 32 :=
  let c0_i32_29 : BitVec 32 := 0#32
  let c128_i32_30 : BitVec 32 := 128#32
  let v18 : BitVec 32 := Scalar.addi c0_i32_29 c128_i32_30
  let c1_i32_31 : BitVec 32 := 1#32
  ⟨c0_i32_29, v18, c1_i32_31⟩
def k3_off232 (k3_t8 : Fin k3_t8_loop.trips) : Fin 2 → Nat :=
  let c0_i32_71 : BitVec 32 := 0#32
  let v39 : Index := Scalar.indexCast c0_i32_71
  let c0_i32_29 : BitVec 32 := 0#32
  let c1_i32_31 : BitVec 32 := 1#32
  let arg14 : BitVec 32 := Scf.iv c0_i32_29 c1_i32_31 k3_t8
  let c16_i32_70 : BitVec 32 := 16#32
  let v38 : BitVec 32 := Scalar.muli arg14 c16_i32_70
  let v40 : Index := Scalar.indexCast v38
  ![0, v40.toNat]
def k3_off233 (k3_t8 : Fin k3_t8_loop.trips) : Fin 2 → Nat :=
  let c1_i32_74 : BitVec 32 := 1#32
  let v49 : Index := Scalar.indexCast c1_i32_74
  let c0_i32_29 : BitVec 32 := 0#32
  let c1_i32_31 : BitVec 32 := 1#32
  let arg14 : BitVec 32 := Scf.iv c0_i32_29 c1_i32_31 k3_t8
  let c16_i32_73 : BitVec 32 := 16#32
  let v48 : BitVec 32 := Scalar.muli arg14 c16_i32_73
  let v50 : Index := Scalar.indexCast v48
  ![1, v50.toNat]
def k3_off234 (k3_t8 : Fin k3_t8_loop.trips) : Fin 2 → Nat :=
  let c2_i32_77 : BitVec 32 := 2#32
  let v59 : Index := Scalar.indexCast c2_i32_77
  let c0_i32_29 : BitVec 32 := 0#32
  let c1_i32_31 : BitVec 32 := 1#32
  let arg14 : BitVec 32 := Scf.iv c0_i32_29 c1_i32_31 k3_t8
  let c16_i32_76 : BitVec 32 := 16#32
  let v58 : BitVec 32 := Scalar.muli arg14 c16_i32_76
  let v60 : Index := Scalar.indexCast v58
  ![2, v60.toNat]
def k3_off235 (k3_t8 : Fin k3_t8_loop.trips) : Fin 2 → Nat :=
  let c3_i32_80 : BitVec 32 := 3#32
  let v69 : Index := Scalar.indexCast c3_i32_80
  let c0_i32_29 : BitVec 32 := 0#32
  let c1_i32_31 : BitVec 32 := 1#32
  let arg14 : BitVec 32 := Scf.iv c0_i32_29 c1_i32_31 k3_t8
  let c16_i32_79 : BitVec 32 := 16#32
  let v68 : BitVec 32 := Scalar.muli arg14 c16_i32_79
  let v70 : Index := Scalar.indexCast v68
  ![3, v70.toNat]
def k3_off236 (k3_t8 : Fin k3_t8_loop.trips) : Fin 2 → Nat :=
  let c4_i32_83 : BitVec 32 := 4#32
  let v79 : Index := Scalar.indexCast c4_i32_83
  let c0_i32_29 : BitVec 32 := 0#32
  let c1_i32_31 : BitVec 32 := 1#32
  let arg14 : BitVec 32 := Scf.iv c0_i32_29 c1_i32_31 k3_t8
  let c16_i32_82 : BitVec 32 := 16#32
  let v78 : BitVec 32 := Scalar.muli arg14 c16_i32_82
  let v80 : Index := Scalar.indexCast v78
  ![4, v80.toNat]
def k3_off237 (k3_t8 : Fin k3_t8_loop.trips) : Fin 2 → Nat :=
  let c5_i32_86 : BitVec 32 := 5#32
  let v89 : Index := Scalar.indexCast c5_i32_86
  let c0_i32_29 : BitVec 32 := 0#32
  let c1_i32_31 : BitVec 32 := 1#32
  let arg14 : BitVec 32 := Scf.iv c0_i32_29 c1_i32_31 k3_t8
  let c16_i32_85 : BitVec 32 := 16#32
  let v88 : BitVec 32 := Scalar.muli arg14 c16_i32_85
  let v90 : Index := Scalar.indexCast v88
  ![5, v90.toNat]
def k3_off238 (k3_t8 : Fin k3_t8_loop.trips) : Fin 2 → Nat :=
  let c6_i32_89 : BitVec 32 := 6#32
  let v99 : Index := Scalar.indexCast c6_i32_89
  let c0_i32_29 : BitVec 32 := 0#32
  let c1_i32_31 : BitVec 32 := 1#32
  let arg14 : BitVec 32 := Scf.iv c0_i32_29 c1_i32_31 k3_t8
  let c16_i32_88 : BitVec 32 := 16#32
  let v98 : BitVec 32 := Scalar.muli arg14 c16_i32_88
  let v100 : Index := Scalar.indexCast v98
  ![6, v100.toNat]
def k3_off239 (k3_t8 : Fin k3_t8_loop.trips) : Fin 2 → Nat :=
  let c7_i32_92 : BitVec 32 := 7#32
  let v109 : Index := Scalar.indexCast c7_i32_92
  let c0_i32_29 : BitVec 32 := 0#32
  let c1_i32_31 : BitVec 32 := 1#32
  let arg14 : BitVec 32 := Scf.iv c0_i32_29 c1_i32_31 k3_t8
  let c16_i32_91 : BitVec 32 := 16#32
  let v108 : BitVec 32 := Scalar.muli arg14 c16_i32_91
  let v110 : Index := Scalar.indexCast v108
  ![7, v110.toNat]
def k3_off240 (k3_t8 : Fin k3_t8_loop.trips) : Fin 2 → Nat :=
  let c8_i32_95 : BitVec 32 := 8#32
  let v119 : Index := Scalar.indexCast c8_i32_95
  let c0_i32_29 : BitVec 32 := 0#32
  let c1_i32_31 : BitVec 32 := 1#32
  let arg14 : BitVec 32 := Scf.iv c0_i32_29 c1_i32_31 k3_t8
  let c16_i32_94 : BitVec 32 := 16#32
  let v118 : BitVec 32 := Scalar.muli arg14 c16_i32_94
  let v120 : Index := Scalar.indexCast v118
  ![8, v120.toNat]
def k3_off241 (k3_t8 : Fin k3_t8_loop.trips) : Fin 2 → Nat :=
  let c9_i32_98 : BitVec 32 := 9#32
  let v129 : Index := Scalar.indexCast c9_i32_98
  let c0_i32_29 : BitVec 32 := 0#32
  let c1_i32_31 : BitVec 32 := 1#32
  let arg14 : BitVec 32 := Scf.iv c0_i32_29 c1_i32_31 k3_t8
  let c16_i32_97 : BitVec 32 := 16#32
  let v128 : BitVec 32 := Scalar.muli arg14 c16_i32_97
  let v130 : Index := Scalar.indexCast v128
  ![9, v130.toNat]
def k3_off242 (k3_t8 : Fin k3_t8_loop.trips) : Fin 2 → Nat :=
  let c10_i32_101 : BitVec 32 := 10#32
  let v139 : Index := Scalar.indexCast c10_i32_101
  let c0_i32_29 : BitVec 32 := 0#32
  let c1_i32_31 : BitVec 32 := 1#32
  let arg14 : BitVec 32 := Scf.iv c0_i32_29 c1_i32_31 k3_t8
  let c16_i32_100 : BitVec 32 := 16#32
  let v138 : BitVec 32 := Scalar.muli arg14 c16_i32_100
  let v140 : Index := Scalar.indexCast v138
  ![10, v140.toNat]
def k3_off243 (k3_t8 : Fin k3_t8_loop.trips) : Fin 2 → Nat :=
  let c11_i32_104 : BitVec 32 := 11#32
  let v149 : Index := Scalar.indexCast c11_i32_104
  let c0_i32_29 : BitVec 32 := 0#32
  let c1_i32_31 : BitVec 32 := 1#32
  let arg14 : BitVec 32 := Scf.iv c0_i32_29 c1_i32_31 k3_t8
  let c16_i32_103 : BitVec 32 := 16#32
  let v148 : BitVec 32 := Scalar.muli arg14 c16_i32_103
  let v150 : Index := Scalar.indexCast v148
  ![11, v150.toNat]
def k3_off244 (k3_t8 : Fin k3_t8_loop.trips) : Fin 2 → Nat :=
  let c12_i32_107 : BitVec 32 := 12#32
  let v159 : Index := Scalar.indexCast c12_i32_107
  let c0_i32_29 : BitVec 32 := 0#32
  let c1_i32_31 : BitVec 32 := 1#32
  let arg14 : BitVec 32 := Scf.iv c0_i32_29 c1_i32_31 k3_t8
  let c16_i32_106 : BitVec 32 := 16#32
  let v158 : BitVec 32 := Scalar.muli arg14 c16_i32_106
  let v160 : Index := Scalar.indexCast v158
  ![12, v160.toNat]
def k3_off245 (k3_t8 : Fin k3_t8_loop.trips) : Fin 2 → Nat :=
  let c13_i32_110 : BitVec 32 := 13#32
  let v169 : Index := Scalar.indexCast c13_i32_110
  let c0_i32_29 : BitVec 32 := 0#32
  let c1_i32_31 : BitVec 32 := 1#32
  let arg14 : BitVec 32 := Scf.iv c0_i32_29 c1_i32_31 k3_t8
  let c16_i32_109 : BitVec 32 := 16#32
  let v168 : BitVec 32 := Scalar.muli arg14 c16_i32_109
  let v170 : Index := Scalar.indexCast v168
  ![13, v170.toNat]
def k3_off246 (k3_t8 : Fin k3_t8_loop.trips) : Fin 2 → Nat :=
  let c14_i32_113 : BitVec 32 := 14#32
  let v179 : Index := Scalar.indexCast c14_i32_113
  let c0_i32_29 : BitVec 32 := 0#32
  let c1_i32_31 : BitVec 32 := 1#32
  let arg14 : BitVec 32 := Scf.iv c0_i32_29 c1_i32_31 k3_t8
  let c16_i32_112 : BitVec 32 := 16#32
  let v178 : BitVec 32 := Scalar.muli arg14 c16_i32_112
  let v180 : Index := Scalar.indexCast v178
  ![14, v180.toNat]
def k3_off247 (k3_t8 : Fin k3_t8_loop.trips) : Fin 2 → Nat :=
  let c15_i32_116 : BitVec 32 := 15#32
  let v189 : Index := Scalar.indexCast c15_i32_116
  let c0_i32_29 : BitVec 32 := 0#32
  let c1_i32_31 : BitVec 32 := 1#32
  let arg14 : BitVec 32 := Scf.iv c0_i32_29 c1_i32_31 k3_t8
  let c16_i32_115 : BitVec 32 := 16#32
  let v188 : BitVec 32 := Scalar.muli arg14 c16_i32_115
  let v190 : Index := Scalar.indexCast v188
  ![15, v190.toNat]
def k3_off248 (k3_t8 : Fin k3_t8_loop.trips) : Fin 2 → Nat :=
  let c16_i32_119 : BitVec 32 := 16#32
  let v199 : Index := Scalar.indexCast c16_i32_119
  let c0_i32_29 : BitVec 32 := 0#32
  let c1_i32_31 : BitVec 32 := 1#32
  let arg14 : BitVec 32 := Scf.iv c0_i32_29 c1_i32_31 k3_t8
  let c16_i32_118 : BitVec 32 := 16#32
  let v198 : BitVec 32 := Scalar.muli arg14 c16_i32_118
  let v200 : Index := Scalar.indexCast v198
  ![16, v200.toNat]
def k3_off249 (k3_t8 : Fin k3_t8_loop.trips) : Fin 2 → Nat :=
  let c17_i32 : BitVec 32 := 17#32
  let v209 : Index := Scalar.indexCast c17_i32
  let c0_i32_29 : BitVec 32 := 0#32
  let c1_i32_31 : BitVec 32 := 1#32
  let arg14 : BitVec 32 := Scf.iv c0_i32_29 c1_i32_31 k3_t8
  let c16_i32_121 : BitVec 32 := 16#32
  let v208 : BitVec 32 := Scalar.muli arg14 c16_i32_121
  let v210 : Index := Scalar.indexCast v208
  ![17, v210.toNat]
def k3_off250 (k3_t8 : Fin k3_t8_loop.trips) : Fin 2 → Nat :=
  let c18_i32 : BitVec 32 := 18#32
  let v219 : Index := Scalar.indexCast c18_i32
  let c0_i32_29 : BitVec 32 := 0#32
  let c1_i32_31 : BitVec 32 := 1#32
  let arg14 : BitVec 32 := Scf.iv c0_i32_29 c1_i32_31 k3_t8
  let c16_i32_123 : BitVec 32 := 16#32
  let v218 : BitVec 32 := Scalar.muli arg14 c16_i32_123
  let v220 : Index := Scalar.indexCast v218
  ![18, v220.toNat]
def k3_off251 (k3_t8 : Fin k3_t8_loop.trips) : Fin 2 → Nat :=
  let c19_i32 : BitVec 32 := 19#32
  let v229 : Index := Scalar.indexCast c19_i32
  let c0_i32_29 : BitVec 32 := 0#32
  let c1_i32_31 : BitVec 32 := 1#32
  let arg14 : BitVec 32 := Scf.iv c0_i32_29 c1_i32_31 k3_t8
  let c16_i32_125 : BitVec 32 := 16#32
  let v228 : BitVec 32 := Scalar.muli arg14 c16_i32_125
  let v230 : Index := Scalar.indexCast v228
  ![19, v230.toNat]
def k3_off252 (k3_t8 : Fin k3_t8_loop.trips) : Fin 2 → Nat :=
  let c20_i32 : BitVec 32 := 20#32
  let v239 : Index := Scalar.indexCast c20_i32
  let c0_i32_29 : BitVec 32 := 0#32
  let c1_i32_31 : BitVec 32 := 1#32
  let arg14 : BitVec 32 := Scf.iv c0_i32_29 c1_i32_31 k3_t8
  let c16_i32_127 : BitVec 32 := 16#32
  let v238 : BitVec 32 := Scalar.muli arg14 c16_i32_127
  let v240 : Index := Scalar.indexCast v238
  ![20, v240.toNat]
def k3_off253 (k3_t8 : Fin k3_t8_loop.trips) : Fin 2 → Nat :=
  let c21_i32 : BitVec 32 := 21#32
  let v249 : Index := Scalar.indexCast c21_i32
  let c0_i32_29 : BitVec 32 := 0#32
  let c1_i32_31 : BitVec 32 := 1#32
  let arg14 : BitVec 32 := Scf.iv c0_i32_29 c1_i32_31 k3_t8
  let c16_i32_129 : BitVec 32 := 16#32
  let v248 : BitVec 32 := Scalar.muli arg14 c16_i32_129
  let v250 : Index := Scalar.indexCast v248
  ![21, v250.toNat]
def k3_off254 (k3_t8 : Fin k3_t8_loop.trips) : Fin 2 → Nat :=
  let c22_i32 : BitVec 32 := 22#32
  let v259 : Index := Scalar.indexCast c22_i32
  let c0_i32_29 : BitVec 32 := 0#32
  let c1_i32_31 : BitVec 32 := 1#32
  let arg14 : BitVec 32 := Scf.iv c0_i32_29 c1_i32_31 k3_t8
  let c16_i32_131 : BitVec 32 := 16#32
  let v258 : BitVec 32 := Scalar.muli arg14 c16_i32_131
  let v260 : Index := Scalar.indexCast v258
  ![22, v260.toNat]
def k3_off255 (k3_t8 : Fin k3_t8_loop.trips) : Fin 2 → Nat :=
  let c23_i32 : BitVec 32 := 23#32
  let v269 : Index := Scalar.indexCast c23_i32
  let c0_i32_29 : BitVec 32 := 0#32
  let c1_i32_31 : BitVec 32 := 1#32
  let arg14 : BitVec 32 := Scf.iv c0_i32_29 c1_i32_31 k3_t8
  let c16_i32_133 : BitVec 32 := 16#32
  let v268 : BitVec 32 := Scalar.muli arg14 c16_i32_133
  let v270 : Index := Scalar.indexCast v268
  ![23, v270.toNat]
def k3_off256 (k3_t8 : Fin k3_t8_loop.trips) : Fin 2 → Nat :=
  let c24_i32 : BitVec 32 := 24#32
  let v279 : Index := Scalar.indexCast c24_i32
  let c0_i32_29 : BitVec 32 := 0#32
  let c1_i32_31 : BitVec 32 := 1#32
  let arg14 : BitVec 32 := Scf.iv c0_i32_29 c1_i32_31 k3_t8
  let c16_i32_135 : BitVec 32 := 16#32
  let v278 : BitVec 32 := Scalar.muli arg14 c16_i32_135
  let v280 : Index := Scalar.indexCast v278
  ![24, v280.toNat]
def k3_off257 (k3_t8 : Fin k3_t8_loop.trips) : Fin 2 → Nat :=
  let c25_i32 : BitVec 32 := 25#32
  let v289 : Index := Scalar.indexCast c25_i32
  let c0_i32_29 : BitVec 32 := 0#32
  let c1_i32_31 : BitVec 32 := 1#32
  let arg14 : BitVec 32 := Scf.iv c0_i32_29 c1_i32_31 k3_t8
  let c16_i32_137 : BitVec 32 := 16#32
  let v288 : BitVec 32 := Scalar.muli arg14 c16_i32_137
  let v290 : Index := Scalar.indexCast v288
  ![25, v290.toNat]
def k3_off258 (k3_t8 : Fin k3_t8_loop.trips) : Fin 2 → Nat :=
  let c26_i32 : BitVec 32 := 26#32
  let v299 : Index := Scalar.indexCast c26_i32
  let c0_i32_29 : BitVec 32 := 0#32
  let c1_i32_31 : BitVec 32 := 1#32
  let arg14 : BitVec 32 := Scf.iv c0_i32_29 c1_i32_31 k3_t8
  let c16_i32_139 : BitVec 32 := 16#32
  let v298 : BitVec 32 := Scalar.muli arg14 c16_i32_139
  let v300 : Index := Scalar.indexCast v298
  ![26, v300.toNat]
def k3_off259 (k3_t8 : Fin k3_t8_loop.trips) : Fin 2 → Nat :=
  let c27_i32 : BitVec 32 := 27#32
  let v309 : Index := Scalar.indexCast c27_i32
  let c0_i32_29 : BitVec 32 := 0#32
  let c1_i32_31 : BitVec 32 := 1#32
  let arg14 : BitVec 32 := Scf.iv c0_i32_29 c1_i32_31 k3_t8
  let c16_i32_141 : BitVec 32 := 16#32
  let v308 : BitVec 32 := Scalar.muli arg14 c16_i32_141
  let v310 : Index := Scalar.indexCast v308
  ![27, v310.toNat]
def k3_off260 (k3_t8 : Fin k3_t8_loop.trips) : Fin 2 → Nat :=
  let c28_i32 : BitVec 32 := 28#32
  let v319 : Index := Scalar.indexCast c28_i32
  let c0_i32_29 : BitVec 32 := 0#32
  let c1_i32_31 : BitVec 32 := 1#32
  let arg14 : BitVec 32 := Scf.iv c0_i32_29 c1_i32_31 k3_t8
  let c16_i32_143 : BitVec 32 := 16#32
  let v318 : BitVec 32 := Scalar.muli arg14 c16_i32_143
  let v320 : Index := Scalar.indexCast v318
  ![28, v320.toNat]
def k3_off261 (k3_t8 : Fin k3_t8_loop.trips) : Fin 2 → Nat :=
  let c29_i32 : BitVec 32 := 29#32
  let v329 : Index := Scalar.indexCast c29_i32
  let c0_i32_29 : BitVec 32 := 0#32
  let c1_i32_31 : BitVec 32 := 1#32
  let arg14 : BitVec 32 := Scf.iv c0_i32_29 c1_i32_31 k3_t8
  let c16_i32_145 : BitVec 32 := 16#32
  let v328 : BitVec 32 := Scalar.muli arg14 c16_i32_145
  let v330 : Index := Scalar.indexCast v328
  ![29, v330.toNat]
def k3_off262 (k3_t8 : Fin k3_t8_loop.trips) : Fin 2 → Nat :=
  let c30_i32 : BitVec 32 := 30#32
  let v339 : Index := Scalar.indexCast c30_i32
  let c0_i32_29 : BitVec 32 := 0#32
  let c1_i32_31 : BitVec 32 := 1#32
  let arg14 : BitVec 32 := Scf.iv c0_i32_29 c1_i32_31 k3_t8
  let c16_i32_147 : BitVec 32 := 16#32
  let v338 : BitVec 32 := Scalar.muli arg14 c16_i32_147
  let v340 : Index := Scalar.indexCast v338
  ![30, v340.toNat]
def k3_off263 (k3_t8 : Fin k3_t8_loop.trips) : Fin 2 → Nat :=
  let c31_i32 : BitVec 32 := 31#32
  let v349 : Index := Scalar.indexCast c31_i32
  let c0_i32_29 : BitVec 32 := 0#32
  let c1_i32_31 : BitVec 32 := 1#32
  let arg14 : BitVec 32 := Scf.iv c0_i32_29 c1_i32_31 k3_t8
  let c16_i32_149 : BitVec 32 := 16#32
  let v348 : BitVec 32 := Scalar.muli arg14 c16_i32_149
  let v350 : Index := Scalar.indexCast v348
  ![31, v350.toNat]
def k3_off264 (k3_t8 : Fin k3_t8_loop.trips) : Fin 1 → Nat :=
  let c14336_i32 : BitVec 32 := 14336#32
  let c0_i32_29 : BitVec 32 := 0#32
  let c1_i32_31 : BitVec 32 := 1#32
  let arg14 : BitVec 32 := Scf.iv c0_i32_29 c1_i32_31 k3_t8
  let c16_i32_151 : BitVec 32 := 16#32
  let v364 : BitVec 32 := Scalar.muli arg14 c16_i32_151
  let v365 : BitVec 32 := Scalar.addi c14336_i32 v364
  let v366 : Index := Scalar.indexCast v365
  ![v366.toNat]
@[reducible] def k3_t9_loop : Scf.Loop 32 :=
  let c0_i32_33 : BitVec 32 := 0#32
  let c128_i32_34 : BitVec 32 := 128#32
  let v20 : BitVec 32 := Scalar.addi c0_i32_33 c128_i32_34
  let c1_i32_35 : BitVec 32 := 1#32
  ⟨c0_i32_33, v20, c1_i32_35⟩
def k3_off265 (k3_t9 : Fin k3_t9_loop.trips) : Fin 2 → Nat :=
  let c0_i32_71 : BitVec 32 := 0#32
  let v39 : Index := Scalar.indexCast c0_i32_71
  let c0_i32_33 : BitVec 32 := 0#32
  let c1_i32_35 : BitVec 32 := 1#32
  let arg14 : BitVec 32 := Scf.iv c0_i32_33 c1_i32_35 k3_t9
  let c16_i32_70 : BitVec 32 := 16#32
  let v38 : BitVec 32 := Scalar.muli arg14 c16_i32_70
  let v40 : Index := Scalar.indexCast v38
  ![0, v40.toNat]
def k3_off266 (k3_t9 : Fin k3_t9_loop.trips) : Fin 2 → Nat :=
  let c1_i32_74 : BitVec 32 := 1#32
  let v49 : Index := Scalar.indexCast c1_i32_74
  let c0_i32_33 : BitVec 32 := 0#32
  let c1_i32_35 : BitVec 32 := 1#32
  let arg14 : BitVec 32 := Scf.iv c0_i32_33 c1_i32_35 k3_t9
  let c16_i32_73 : BitVec 32 := 16#32
  let v48 : BitVec 32 := Scalar.muli arg14 c16_i32_73
  let v50 : Index := Scalar.indexCast v48
  ![1, v50.toNat]
def k3_off267 (k3_t9 : Fin k3_t9_loop.trips) : Fin 2 → Nat :=
  let c2_i32_77 : BitVec 32 := 2#32
  let v59 : Index := Scalar.indexCast c2_i32_77
  let c0_i32_33 : BitVec 32 := 0#32
  let c1_i32_35 : BitVec 32 := 1#32
  let arg14 : BitVec 32 := Scf.iv c0_i32_33 c1_i32_35 k3_t9
  let c16_i32_76 : BitVec 32 := 16#32
  let v58 : BitVec 32 := Scalar.muli arg14 c16_i32_76
  let v60 : Index := Scalar.indexCast v58
  ![2, v60.toNat]
def k3_off268 (k3_t9 : Fin k3_t9_loop.trips) : Fin 2 → Nat :=
  let c3_i32_80 : BitVec 32 := 3#32
  let v69 : Index := Scalar.indexCast c3_i32_80
  let c0_i32_33 : BitVec 32 := 0#32
  let c1_i32_35 : BitVec 32 := 1#32
  let arg14 : BitVec 32 := Scf.iv c0_i32_33 c1_i32_35 k3_t9
  let c16_i32_79 : BitVec 32 := 16#32
  let v68 : BitVec 32 := Scalar.muli arg14 c16_i32_79
  let v70 : Index := Scalar.indexCast v68
  ![3, v70.toNat]
def k3_off269 (k3_t9 : Fin k3_t9_loop.trips) : Fin 2 → Nat :=
  let c4_i32_83 : BitVec 32 := 4#32
  let v79 : Index := Scalar.indexCast c4_i32_83
  let c0_i32_33 : BitVec 32 := 0#32
  let c1_i32_35 : BitVec 32 := 1#32
  let arg14 : BitVec 32 := Scf.iv c0_i32_33 c1_i32_35 k3_t9
  let c16_i32_82 : BitVec 32 := 16#32
  let v78 : BitVec 32 := Scalar.muli arg14 c16_i32_82
  let v80 : Index := Scalar.indexCast v78
  ![4, v80.toNat]
def k3_off270 (k3_t9 : Fin k3_t9_loop.trips) : Fin 2 → Nat :=
  let c5_i32_86 : BitVec 32 := 5#32
  let v89 : Index := Scalar.indexCast c5_i32_86
  let c0_i32_33 : BitVec 32 := 0#32
  let c1_i32_35 : BitVec 32 := 1#32
  let arg14 : BitVec 32 := Scf.iv c0_i32_33 c1_i32_35 k3_t9
  let c16_i32_85 : BitVec 32 := 16#32
  let v88 : BitVec 32 := Scalar.muli arg14 c16_i32_85
  let v90 : Index := Scalar.indexCast v88
  ![5, v90.toNat]
def k3_off271 (k3_t9 : Fin k3_t9_loop.trips) : Fin 2 → Nat :=
  let c6_i32_89 : BitVec 32 := 6#32
  let v99 : Index := Scalar.indexCast c6_i32_89
  let c0_i32_33 : BitVec 32 := 0#32
  let c1_i32_35 : BitVec 32 := 1#32
  let arg14 : BitVec 32 := Scf.iv c0_i32_33 c1_i32_35 k3_t9
  let c16_i32_88 : BitVec 32 := 16#32
  let v98 : BitVec 32 := Scalar.muli arg14 c16_i32_88
  let v100 : Index := Scalar.indexCast v98
  ![6, v100.toNat]
def k3_off272 (k3_t9 : Fin k3_t9_loop.trips) : Fin 2 → Nat :=
  let c7_i32_92 : BitVec 32 := 7#32
  let v109 : Index := Scalar.indexCast c7_i32_92
  let c0_i32_33 : BitVec 32 := 0#32
  let c1_i32_35 : BitVec 32 := 1#32
  let arg14 : BitVec 32 := Scf.iv c0_i32_33 c1_i32_35 k3_t9
  let c16_i32_91 : BitVec 32 := 16#32
  let v108 : BitVec 32 := Scalar.muli arg14 c16_i32_91
  let v110 : Index := Scalar.indexCast v108
  ![7, v110.toNat]
def k3_off273 (k3_t9 : Fin k3_t9_loop.trips) : Fin 2 → Nat :=
  let c8_i32_95 : BitVec 32 := 8#32
  let v119 : Index := Scalar.indexCast c8_i32_95
  let c0_i32_33 : BitVec 32 := 0#32
  let c1_i32_35 : BitVec 32 := 1#32
  let arg14 : BitVec 32 := Scf.iv c0_i32_33 c1_i32_35 k3_t9
  let c16_i32_94 : BitVec 32 := 16#32
  let v118 : BitVec 32 := Scalar.muli arg14 c16_i32_94
  let v120 : Index := Scalar.indexCast v118
  ![8, v120.toNat]
def k3_off274 (k3_t9 : Fin k3_t9_loop.trips) : Fin 2 → Nat :=
  let c9_i32_98 : BitVec 32 := 9#32
  let v129 : Index := Scalar.indexCast c9_i32_98
  let c0_i32_33 : BitVec 32 := 0#32
  let c1_i32_35 : BitVec 32 := 1#32
  let arg14 : BitVec 32 := Scf.iv c0_i32_33 c1_i32_35 k3_t9
  let c16_i32_97 : BitVec 32 := 16#32
  let v128 : BitVec 32 := Scalar.muli arg14 c16_i32_97
  let v130 : Index := Scalar.indexCast v128
  ![9, v130.toNat]
def k3_off275 (k3_t9 : Fin k3_t9_loop.trips) : Fin 2 → Nat :=
  let c10_i32_101 : BitVec 32 := 10#32
  let v139 : Index := Scalar.indexCast c10_i32_101
  let c0_i32_33 : BitVec 32 := 0#32
  let c1_i32_35 : BitVec 32 := 1#32
  let arg14 : BitVec 32 := Scf.iv c0_i32_33 c1_i32_35 k3_t9
  let c16_i32_100 : BitVec 32 := 16#32
  let v138 : BitVec 32 := Scalar.muli arg14 c16_i32_100
  let v140 : Index := Scalar.indexCast v138
  ![10, v140.toNat]
def k3_off276 (k3_t9 : Fin k3_t9_loop.trips) : Fin 2 → Nat :=
  let c11_i32_104 : BitVec 32 := 11#32
  let v149 : Index := Scalar.indexCast c11_i32_104
  let c0_i32_33 : BitVec 32 := 0#32
  let c1_i32_35 : BitVec 32 := 1#32
  let arg14 : BitVec 32 := Scf.iv c0_i32_33 c1_i32_35 k3_t9
  let c16_i32_103 : BitVec 32 := 16#32
  let v148 : BitVec 32 := Scalar.muli arg14 c16_i32_103
  let v150 : Index := Scalar.indexCast v148
  ![11, v150.toNat]
def k3_off277 (k3_t9 : Fin k3_t9_loop.trips) : Fin 2 → Nat :=
  let c12_i32_107 : BitVec 32 := 12#32
  let v159 : Index := Scalar.indexCast c12_i32_107
  let c0_i32_33 : BitVec 32 := 0#32
  let c1_i32_35 : BitVec 32 := 1#32
  let arg14 : BitVec 32 := Scf.iv c0_i32_33 c1_i32_35 k3_t9
  let c16_i32_106 : BitVec 32 := 16#32
  let v158 : BitVec 32 := Scalar.muli arg14 c16_i32_106
  let v160 : Index := Scalar.indexCast v158
  ![12, v160.toNat]
def k3_off278 (k3_t9 : Fin k3_t9_loop.trips) : Fin 2 → Nat :=
  let c13_i32_110 : BitVec 32 := 13#32
  let v169 : Index := Scalar.indexCast c13_i32_110
  let c0_i32_33 : BitVec 32 := 0#32
  let c1_i32_35 : BitVec 32 := 1#32
  let arg14 : BitVec 32 := Scf.iv c0_i32_33 c1_i32_35 k3_t9
  let c16_i32_109 : BitVec 32 := 16#32
  let v168 : BitVec 32 := Scalar.muli arg14 c16_i32_109
  let v170 : Index := Scalar.indexCast v168
  ![13, v170.toNat]
def k3_off279 (k3_t9 : Fin k3_t9_loop.trips) : Fin 2 → Nat :=
  let c14_i32_113 : BitVec 32 := 14#32
  let v179 : Index := Scalar.indexCast c14_i32_113
  let c0_i32_33 : BitVec 32 := 0#32
  let c1_i32_35 : BitVec 32 := 1#32
  let arg14 : BitVec 32 := Scf.iv c0_i32_33 c1_i32_35 k3_t9
  let c16_i32_112 : BitVec 32 := 16#32
  let v178 : BitVec 32 := Scalar.muli arg14 c16_i32_112
  let v180 : Index := Scalar.indexCast v178
  ![14, v180.toNat]
def k3_off280 (k3_t9 : Fin k3_t9_loop.trips) : Fin 2 → Nat :=
  let c15_i32_116 : BitVec 32 := 15#32
  let v189 : Index := Scalar.indexCast c15_i32_116
  let c0_i32_33 : BitVec 32 := 0#32
  let c1_i32_35 : BitVec 32 := 1#32
  let arg14 : BitVec 32 := Scf.iv c0_i32_33 c1_i32_35 k3_t9
  let c16_i32_115 : BitVec 32 := 16#32
  let v188 : BitVec 32 := Scalar.muli arg14 c16_i32_115
  let v190 : Index := Scalar.indexCast v188
  ![15, v190.toNat]
def k3_off281 (k3_t9 : Fin k3_t9_loop.trips) : Fin 2 → Nat :=
  let c16_i32_119 : BitVec 32 := 16#32
  let v199 : Index := Scalar.indexCast c16_i32_119
  let c0_i32_33 : BitVec 32 := 0#32
  let c1_i32_35 : BitVec 32 := 1#32
  let arg14 : BitVec 32 := Scf.iv c0_i32_33 c1_i32_35 k3_t9
  let c16_i32_118 : BitVec 32 := 16#32
  let v198 : BitVec 32 := Scalar.muli arg14 c16_i32_118
  let v200 : Index := Scalar.indexCast v198
  ![16, v200.toNat]
def k3_off282 (k3_t9 : Fin k3_t9_loop.trips) : Fin 2 → Nat :=
  let c17_i32 : BitVec 32 := 17#32
  let v209 : Index := Scalar.indexCast c17_i32
  let c0_i32_33 : BitVec 32 := 0#32
  let c1_i32_35 : BitVec 32 := 1#32
  let arg14 : BitVec 32 := Scf.iv c0_i32_33 c1_i32_35 k3_t9
  let c16_i32_121 : BitVec 32 := 16#32
  let v208 : BitVec 32 := Scalar.muli arg14 c16_i32_121
  let v210 : Index := Scalar.indexCast v208
  ![17, v210.toNat]
def k3_off283 (k3_t9 : Fin k3_t9_loop.trips) : Fin 2 → Nat :=
  let c18_i32 : BitVec 32 := 18#32
  let v219 : Index := Scalar.indexCast c18_i32
  let c0_i32_33 : BitVec 32 := 0#32
  let c1_i32_35 : BitVec 32 := 1#32
  let arg14 : BitVec 32 := Scf.iv c0_i32_33 c1_i32_35 k3_t9
  let c16_i32_123 : BitVec 32 := 16#32
  let v218 : BitVec 32 := Scalar.muli arg14 c16_i32_123
  let v220 : Index := Scalar.indexCast v218
  ![18, v220.toNat]
def k3_off284 (k3_t9 : Fin k3_t9_loop.trips) : Fin 2 → Nat :=
  let c19_i32 : BitVec 32 := 19#32
  let v229 : Index := Scalar.indexCast c19_i32
  let c0_i32_33 : BitVec 32 := 0#32
  let c1_i32_35 : BitVec 32 := 1#32
  let arg14 : BitVec 32 := Scf.iv c0_i32_33 c1_i32_35 k3_t9
  let c16_i32_125 : BitVec 32 := 16#32
  let v228 : BitVec 32 := Scalar.muli arg14 c16_i32_125
  let v230 : Index := Scalar.indexCast v228
  ![19, v230.toNat]
def k3_off285 (k3_t9 : Fin k3_t9_loop.trips) : Fin 2 → Nat :=
  let c20_i32 : BitVec 32 := 20#32
  let v239 : Index := Scalar.indexCast c20_i32
  let c0_i32_33 : BitVec 32 := 0#32
  let c1_i32_35 : BitVec 32 := 1#32
  let arg14 : BitVec 32 := Scf.iv c0_i32_33 c1_i32_35 k3_t9
  let c16_i32_127 : BitVec 32 := 16#32
  let v238 : BitVec 32 := Scalar.muli arg14 c16_i32_127
  let v240 : Index := Scalar.indexCast v238
  ![20, v240.toNat]
def k3_off286 (k3_t9 : Fin k3_t9_loop.trips) : Fin 2 → Nat :=
  let c21_i32 : BitVec 32 := 21#32
  let v249 : Index := Scalar.indexCast c21_i32
  let c0_i32_33 : BitVec 32 := 0#32
  let c1_i32_35 : BitVec 32 := 1#32
  let arg14 : BitVec 32 := Scf.iv c0_i32_33 c1_i32_35 k3_t9
  let c16_i32_129 : BitVec 32 := 16#32
  let v248 : BitVec 32 := Scalar.muli arg14 c16_i32_129
  let v250 : Index := Scalar.indexCast v248
  ![21, v250.toNat]
def k3_off287 (k3_t9 : Fin k3_t9_loop.trips) : Fin 2 → Nat :=
  let c22_i32 : BitVec 32 := 22#32
  let v259 : Index := Scalar.indexCast c22_i32
  let c0_i32_33 : BitVec 32 := 0#32
  let c1_i32_35 : BitVec 32 := 1#32
  let arg14 : BitVec 32 := Scf.iv c0_i32_33 c1_i32_35 k3_t9
  let c16_i32_131 : BitVec 32 := 16#32
  let v258 : BitVec 32 := Scalar.muli arg14 c16_i32_131
  let v260 : Index := Scalar.indexCast v258
  ![22, v260.toNat]
def k3_off288 (k3_t9 : Fin k3_t9_loop.trips) : Fin 2 → Nat :=
  let c23_i32 : BitVec 32 := 23#32
  let v269 : Index := Scalar.indexCast c23_i32
  let c0_i32_33 : BitVec 32 := 0#32
  let c1_i32_35 : BitVec 32 := 1#32
  let arg14 : BitVec 32 := Scf.iv c0_i32_33 c1_i32_35 k3_t9
  let c16_i32_133 : BitVec 32 := 16#32
  let v268 : BitVec 32 := Scalar.muli arg14 c16_i32_133
  let v270 : Index := Scalar.indexCast v268
  ![23, v270.toNat]
def k3_off289 (k3_t9 : Fin k3_t9_loop.trips) : Fin 2 → Nat :=
  let c24_i32 : BitVec 32 := 24#32
  let v279 : Index := Scalar.indexCast c24_i32
  let c0_i32_33 : BitVec 32 := 0#32
  let c1_i32_35 : BitVec 32 := 1#32
  let arg14 : BitVec 32 := Scf.iv c0_i32_33 c1_i32_35 k3_t9
  let c16_i32_135 : BitVec 32 := 16#32
  let v278 : BitVec 32 := Scalar.muli arg14 c16_i32_135
  let v280 : Index := Scalar.indexCast v278
  ![24, v280.toNat]
def k3_off290 (k3_t9 : Fin k3_t9_loop.trips) : Fin 2 → Nat :=
  let c25_i32 : BitVec 32 := 25#32
  let v289 : Index := Scalar.indexCast c25_i32
  let c0_i32_33 : BitVec 32 := 0#32
  let c1_i32_35 : BitVec 32 := 1#32
  let arg14 : BitVec 32 := Scf.iv c0_i32_33 c1_i32_35 k3_t9
  let c16_i32_137 : BitVec 32 := 16#32
  let v288 : BitVec 32 := Scalar.muli arg14 c16_i32_137
  let v290 : Index := Scalar.indexCast v288
  ![25, v290.toNat]
def k3_off291 (k3_t9 : Fin k3_t9_loop.trips) : Fin 2 → Nat :=
  let c26_i32 : BitVec 32 := 26#32
  let v299 : Index := Scalar.indexCast c26_i32
  let c0_i32_33 : BitVec 32 := 0#32
  let c1_i32_35 : BitVec 32 := 1#32
  let arg14 : BitVec 32 := Scf.iv c0_i32_33 c1_i32_35 k3_t9
  let c16_i32_139 : BitVec 32 := 16#32
  let v298 : BitVec 32 := Scalar.muli arg14 c16_i32_139
  let v300 : Index := Scalar.indexCast v298
  ![26, v300.toNat]
def k3_off292 (k3_t9 : Fin k3_t9_loop.trips) : Fin 2 → Nat :=
  let c27_i32 : BitVec 32 := 27#32
  let v309 : Index := Scalar.indexCast c27_i32
  let c0_i32_33 : BitVec 32 := 0#32
  let c1_i32_35 : BitVec 32 := 1#32
  let arg14 : BitVec 32 := Scf.iv c0_i32_33 c1_i32_35 k3_t9
  let c16_i32_141 : BitVec 32 := 16#32
  let v308 : BitVec 32 := Scalar.muli arg14 c16_i32_141
  let v310 : Index := Scalar.indexCast v308
  ![27, v310.toNat]
def k3_off293 (k3_t9 : Fin k3_t9_loop.trips) : Fin 2 → Nat :=
  let c28_i32 : BitVec 32 := 28#32
  let v319 : Index := Scalar.indexCast c28_i32
  let c0_i32_33 : BitVec 32 := 0#32
  let c1_i32_35 : BitVec 32 := 1#32
  let arg14 : BitVec 32 := Scf.iv c0_i32_33 c1_i32_35 k3_t9
  let c16_i32_143 : BitVec 32 := 16#32
  let v318 : BitVec 32 := Scalar.muli arg14 c16_i32_143
  let v320 : Index := Scalar.indexCast v318
  ![28, v320.toNat]
def k3_off294 (k3_t9 : Fin k3_t9_loop.trips) : Fin 2 → Nat :=
  let c29_i32 : BitVec 32 := 29#32
  let v329 : Index := Scalar.indexCast c29_i32
  let c0_i32_33 : BitVec 32 := 0#32
  let c1_i32_35 : BitVec 32 := 1#32
  let arg14 : BitVec 32 := Scf.iv c0_i32_33 c1_i32_35 k3_t9
  let c16_i32_145 : BitVec 32 := 16#32
  let v328 : BitVec 32 := Scalar.muli arg14 c16_i32_145
  let v330 : Index := Scalar.indexCast v328
  ![29, v330.toNat]
def k3_off295 (k3_t9 : Fin k3_t9_loop.trips) : Fin 2 → Nat :=
  let c30_i32 : BitVec 32 := 30#32
  let v339 : Index := Scalar.indexCast c30_i32
  let c0_i32_33 : BitVec 32 := 0#32
  let c1_i32_35 : BitVec 32 := 1#32
  let arg14 : BitVec 32 := Scf.iv c0_i32_33 c1_i32_35 k3_t9
  let c16_i32_147 : BitVec 32 := 16#32
  let v338 : BitVec 32 := Scalar.muli arg14 c16_i32_147
  let v340 : Index := Scalar.indexCast v338
  ![30, v340.toNat]
def k3_off296 (k3_t9 : Fin k3_t9_loop.trips) : Fin 2 → Nat :=
  let c31_i32 : BitVec 32 := 31#32
  let v349 : Index := Scalar.indexCast c31_i32
  let c0_i32_33 : BitVec 32 := 0#32
  let c1_i32_35 : BitVec 32 := 1#32
  let arg14 : BitVec 32 := Scf.iv c0_i32_33 c1_i32_35 k3_t9
  let c16_i32_149 : BitVec 32 := 16#32
  let v348 : BitVec 32 := Scalar.muli arg14 c16_i32_149
  let v350 : Index := Scalar.indexCast v348
  ![31, v350.toNat]
def k3_off297 (k3_t9 : Fin k3_t9_loop.trips) : Fin 1 → Nat :=
  let c16384_i32 : BitVec 32 := 16384#32
  let c0_i32_33 : BitVec 32 := 0#32
  let c1_i32_35 : BitVec 32 := 1#32
  let arg14 : BitVec 32 := Scf.iv c0_i32_33 c1_i32_35 k3_t9
  let c16_i32_151 : BitVec 32 := 16#32
  let v364 : BitVec 32 := Scalar.muli arg14 c16_i32_151
  let v365 : BitVec 32 := Scalar.addi c16384_i32 v364
  let v366 : Index := Scalar.indexCast v365
  ![v366.toNat]
@[reducible] def k3_t10_loop : Scf.Loop 32 :=
  let c0_i32_37 : BitVec 32 := 0#32
  let c128_i32_38 : BitVec 32 := 128#32
  let v22 : BitVec 32 := Scalar.addi c0_i32_37 c128_i32_38
  let c1_i32_39 : BitVec 32 := 1#32
  ⟨c0_i32_37, v22, c1_i32_39⟩
def k3_off298 (k3_t10 : Fin k3_t10_loop.trips) : Fin 2 → Nat :=
  let c0_i32_71 : BitVec 32 := 0#32
  let v39 : Index := Scalar.indexCast c0_i32_71
  let c0_i32_37 : BitVec 32 := 0#32
  let c1_i32_39 : BitVec 32 := 1#32
  let arg14 : BitVec 32 := Scf.iv c0_i32_37 c1_i32_39 k3_t10
  let c16_i32_70 : BitVec 32 := 16#32
  let v38 : BitVec 32 := Scalar.muli arg14 c16_i32_70
  let v40 : Index := Scalar.indexCast v38
  ![0, v40.toNat]
def k3_off299 (k3_t10 : Fin k3_t10_loop.trips) : Fin 2 → Nat :=
  let c1_i32_74 : BitVec 32 := 1#32
  let v49 : Index := Scalar.indexCast c1_i32_74
  let c0_i32_37 : BitVec 32 := 0#32
  let c1_i32_39 : BitVec 32 := 1#32
  let arg14 : BitVec 32 := Scf.iv c0_i32_37 c1_i32_39 k3_t10
  let c16_i32_73 : BitVec 32 := 16#32
  let v48 : BitVec 32 := Scalar.muli arg14 c16_i32_73
  let v50 : Index := Scalar.indexCast v48
  ![1, v50.toNat]
def k3_off300 (k3_t10 : Fin k3_t10_loop.trips) : Fin 2 → Nat :=
  let c2_i32_77 : BitVec 32 := 2#32
  let v59 : Index := Scalar.indexCast c2_i32_77
  let c0_i32_37 : BitVec 32 := 0#32
  let c1_i32_39 : BitVec 32 := 1#32
  let arg14 : BitVec 32 := Scf.iv c0_i32_37 c1_i32_39 k3_t10
  let c16_i32_76 : BitVec 32 := 16#32
  let v58 : BitVec 32 := Scalar.muli arg14 c16_i32_76
  let v60 : Index := Scalar.indexCast v58
  ![2, v60.toNat]
def k3_off301 (k3_t10 : Fin k3_t10_loop.trips) : Fin 2 → Nat :=
  let c3_i32_80 : BitVec 32 := 3#32
  let v69 : Index := Scalar.indexCast c3_i32_80
  let c0_i32_37 : BitVec 32 := 0#32
  let c1_i32_39 : BitVec 32 := 1#32
  let arg14 : BitVec 32 := Scf.iv c0_i32_37 c1_i32_39 k3_t10
  let c16_i32_79 : BitVec 32 := 16#32
  let v68 : BitVec 32 := Scalar.muli arg14 c16_i32_79
  let v70 : Index := Scalar.indexCast v68
  ![3, v70.toNat]
def k3_off302 (k3_t10 : Fin k3_t10_loop.trips) : Fin 2 → Nat :=
  let c4_i32_83 : BitVec 32 := 4#32
  let v79 : Index := Scalar.indexCast c4_i32_83
  let c0_i32_37 : BitVec 32 := 0#32
  let c1_i32_39 : BitVec 32 := 1#32
  let arg14 : BitVec 32 := Scf.iv c0_i32_37 c1_i32_39 k3_t10
  let c16_i32_82 : BitVec 32 := 16#32
  let v78 : BitVec 32 := Scalar.muli arg14 c16_i32_82
  let v80 : Index := Scalar.indexCast v78
  ![4, v80.toNat]
def k3_off303 (k3_t10 : Fin k3_t10_loop.trips) : Fin 2 → Nat :=
  let c5_i32_86 : BitVec 32 := 5#32
  let v89 : Index := Scalar.indexCast c5_i32_86
  let c0_i32_37 : BitVec 32 := 0#32
  let c1_i32_39 : BitVec 32 := 1#32
  let arg14 : BitVec 32 := Scf.iv c0_i32_37 c1_i32_39 k3_t10
  let c16_i32_85 : BitVec 32 := 16#32
  let v88 : BitVec 32 := Scalar.muli arg14 c16_i32_85
  let v90 : Index := Scalar.indexCast v88
  ![5, v90.toNat]
def k3_off304 (k3_t10 : Fin k3_t10_loop.trips) : Fin 2 → Nat :=
  let c6_i32_89 : BitVec 32 := 6#32
  let v99 : Index := Scalar.indexCast c6_i32_89
  let c0_i32_37 : BitVec 32 := 0#32
  let c1_i32_39 : BitVec 32 := 1#32
  let arg14 : BitVec 32 := Scf.iv c0_i32_37 c1_i32_39 k3_t10
  let c16_i32_88 : BitVec 32 := 16#32
  let v98 : BitVec 32 := Scalar.muli arg14 c16_i32_88
  let v100 : Index := Scalar.indexCast v98
  ![6, v100.toNat]
def k3_off305 (k3_t10 : Fin k3_t10_loop.trips) : Fin 2 → Nat :=
  let c7_i32_92 : BitVec 32 := 7#32
  let v109 : Index := Scalar.indexCast c7_i32_92
  let c0_i32_37 : BitVec 32 := 0#32
  let c1_i32_39 : BitVec 32 := 1#32
  let arg14 : BitVec 32 := Scf.iv c0_i32_37 c1_i32_39 k3_t10
  let c16_i32_91 : BitVec 32 := 16#32
  let v108 : BitVec 32 := Scalar.muli arg14 c16_i32_91
  let v110 : Index := Scalar.indexCast v108
  ![7, v110.toNat]
def k3_off306 (k3_t10 : Fin k3_t10_loop.trips) : Fin 2 → Nat :=
  let c8_i32_95 : BitVec 32 := 8#32
  let v119 : Index := Scalar.indexCast c8_i32_95
  let c0_i32_37 : BitVec 32 := 0#32
  let c1_i32_39 : BitVec 32 := 1#32
  let arg14 : BitVec 32 := Scf.iv c0_i32_37 c1_i32_39 k3_t10
  let c16_i32_94 : BitVec 32 := 16#32
  let v118 : BitVec 32 := Scalar.muli arg14 c16_i32_94
  let v120 : Index := Scalar.indexCast v118
  ![8, v120.toNat]
def k3_off307 (k3_t10 : Fin k3_t10_loop.trips) : Fin 2 → Nat :=
  let c9_i32_98 : BitVec 32 := 9#32
  let v129 : Index := Scalar.indexCast c9_i32_98
  let c0_i32_37 : BitVec 32 := 0#32
  let c1_i32_39 : BitVec 32 := 1#32
  let arg14 : BitVec 32 := Scf.iv c0_i32_37 c1_i32_39 k3_t10
  let c16_i32_97 : BitVec 32 := 16#32
  let v128 : BitVec 32 := Scalar.muli arg14 c16_i32_97
  let v130 : Index := Scalar.indexCast v128
  ![9, v130.toNat]
def k3_off308 (k3_t10 : Fin k3_t10_loop.trips) : Fin 2 → Nat :=
  let c10_i32_101 : BitVec 32 := 10#32
  let v139 : Index := Scalar.indexCast c10_i32_101
  let c0_i32_37 : BitVec 32 := 0#32
  let c1_i32_39 : BitVec 32 := 1#32
  let arg14 : BitVec 32 := Scf.iv c0_i32_37 c1_i32_39 k3_t10
  let c16_i32_100 : BitVec 32 := 16#32
  let v138 : BitVec 32 := Scalar.muli arg14 c16_i32_100
  let v140 : Index := Scalar.indexCast v138
  ![10, v140.toNat]
def k3_off309 (k3_t10 : Fin k3_t10_loop.trips) : Fin 2 → Nat :=
  let c11_i32_104 : BitVec 32 := 11#32
  let v149 : Index := Scalar.indexCast c11_i32_104
  let c0_i32_37 : BitVec 32 := 0#32
  let c1_i32_39 : BitVec 32 := 1#32
  let arg14 : BitVec 32 := Scf.iv c0_i32_37 c1_i32_39 k3_t10
  let c16_i32_103 : BitVec 32 := 16#32
  let v148 : BitVec 32 := Scalar.muli arg14 c16_i32_103
  let v150 : Index := Scalar.indexCast v148
  ![11, v150.toNat]
def k3_off310 (k3_t10 : Fin k3_t10_loop.trips) : Fin 2 → Nat :=
  let c12_i32_107 : BitVec 32 := 12#32
  let v159 : Index := Scalar.indexCast c12_i32_107
  let c0_i32_37 : BitVec 32 := 0#32
  let c1_i32_39 : BitVec 32 := 1#32
  let arg14 : BitVec 32 := Scf.iv c0_i32_37 c1_i32_39 k3_t10
  let c16_i32_106 : BitVec 32 := 16#32
  let v158 : BitVec 32 := Scalar.muli arg14 c16_i32_106
  let v160 : Index := Scalar.indexCast v158
  ![12, v160.toNat]
def k3_off311 (k3_t10 : Fin k3_t10_loop.trips) : Fin 2 → Nat :=
  let c13_i32_110 : BitVec 32 := 13#32
  let v169 : Index := Scalar.indexCast c13_i32_110
  let c0_i32_37 : BitVec 32 := 0#32
  let c1_i32_39 : BitVec 32 := 1#32
  let arg14 : BitVec 32 := Scf.iv c0_i32_37 c1_i32_39 k3_t10
  let c16_i32_109 : BitVec 32 := 16#32
  let v168 : BitVec 32 := Scalar.muli arg14 c16_i32_109
  let v170 : Index := Scalar.indexCast v168
  ![13, v170.toNat]
def k3_off312 (k3_t10 : Fin k3_t10_loop.trips) : Fin 2 → Nat :=
  let c14_i32_113 : BitVec 32 := 14#32
  let v179 : Index := Scalar.indexCast c14_i32_113
  let c0_i32_37 : BitVec 32 := 0#32
  let c1_i32_39 : BitVec 32 := 1#32
  let arg14 : BitVec 32 := Scf.iv c0_i32_37 c1_i32_39 k3_t10
  let c16_i32_112 : BitVec 32 := 16#32
  let v178 : BitVec 32 := Scalar.muli arg14 c16_i32_112
  let v180 : Index := Scalar.indexCast v178
  ![14, v180.toNat]
def k3_off313 (k3_t10 : Fin k3_t10_loop.trips) : Fin 2 → Nat :=
  let c15_i32_116 : BitVec 32 := 15#32
  let v189 : Index := Scalar.indexCast c15_i32_116
  let c0_i32_37 : BitVec 32 := 0#32
  let c1_i32_39 : BitVec 32 := 1#32
  let arg14 : BitVec 32 := Scf.iv c0_i32_37 c1_i32_39 k3_t10
  let c16_i32_115 : BitVec 32 := 16#32
  let v188 : BitVec 32 := Scalar.muli arg14 c16_i32_115
  let v190 : Index := Scalar.indexCast v188
  ![15, v190.toNat]
def k3_off314 (k3_t10 : Fin k3_t10_loop.trips) : Fin 2 → Nat :=
  let c16_i32_119 : BitVec 32 := 16#32
  let v199 : Index := Scalar.indexCast c16_i32_119
  let c0_i32_37 : BitVec 32 := 0#32
  let c1_i32_39 : BitVec 32 := 1#32
  let arg14 : BitVec 32 := Scf.iv c0_i32_37 c1_i32_39 k3_t10
  let c16_i32_118 : BitVec 32 := 16#32
  let v198 : BitVec 32 := Scalar.muli arg14 c16_i32_118
  let v200 : Index := Scalar.indexCast v198
  ![16, v200.toNat]
def k3_off315 (k3_t10 : Fin k3_t10_loop.trips) : Fin 2 → Nat :=
  let c17_i32 : BitVec 32 := 17#32
  let v209 : Index := Scalar.indexCast c17_i32
  let c0_i32_37 : BitVec 32 := 0#32
  let c1_i32_39 : BitVec 32 := 1#32
  let arg14 : BitVec 32 := Scf.iv c0_i32_37 c1_i32_39 k3_t10
  let c16_i32_121 : BitVec 32 := 16#32
  let v208 : BitVec 32 := Scalar.muli arg14 c16_i32_121
  let v210 : Index := Scalar.indexCast v208
  ![17, v210.toNat]
def k3_off316 (k3_t10 : Fin k3_t10_loop.trips) : Fin 2 → Nat :=
  let c18_i32 : BitVec 32 := 18#32
  let v219 : Index := Scalar.indexCast c18_i32
  let c0_i32_37 : BitVec 32 := 0#32
  let c1_i32_39 : BitVec 32 := 1#32
  let arg14 : BitVec 32 := Scf.iv c0_i32_37 c1_i32_39 k3_t10
  let c16_i32_123 : BitVec 32 := 16#32
  let v218 : BitVec 32 := Scalar.muli arg14 c16_i32_123
  let v220 : Index := Scalar.indexCast v218
  ![18, v220.toNat]
def k3_off317 (k3_t10 : Fin k3_t10_loop.trips) : Fin 2 → Nat :=
  let c19_i32 : BitVec 32 := 19#32
  let v229 : Index := Scalar.indexCast c19_i32
  let c0_i32_37 : BitVec 32 := 0#32
  let c1_i32_39 : BitVec 32 := 1#32
  let arg14 : BitVec 32 := Scf.iv c0_i32_37 c1_i32_39 k3_t10
  let c16_i32_125 : BitVec 32 := 16#32
  let v228 : BitVec 32 := Scalar.muli arg14 c16_i32_125
  let v230 : Index := Scalar.indexCast v228
  ![19, v230.toNat]
def k3_off318 (k3_t10 : Fin k3_t10_loop.trips) : Fin 2 → Nat :=
  let c20_i32 : BitVec 32 := 20#32
  let v239 : Index := Scalar.indexCast c20_i32
  let c0_i32_37 : BitVec 32 := 0#32
  let c1_i32_39 : BitVec 32 := 1#32
  let arg14 : BitVec 32 := Scf.iv c0_i32_37 c1_i32_39 k3_t10
  let c16_i32_127 : BitVec 32 := 16#32
  let v238 : BitVec 32 := Scalar.muli arg14 c16_i32_127
  let v240 : Index := Scalar.indexCast v238
  ![20, v240.toNat]
def k3_off319 (k3_t10 : Fin k3_t10_loop.trips) : Fin 2 → Nat :=
  let c21_i32 : BitVec 32 := 21#32
  let v249 : Index := Scalar.indexCast c21_i32
  let c0_i32_37 : BitVec 32 := 0#32
  let c1_i32_39 : BitVec 32 := 1#32
  let arg14 : BitVec 32 := Scf.iv c0_i32_37 c1_i32_39 k3_t10
  let c16_i32_129 : BitVec 32 := 16#32
  let v248 : BitVec 32 := Scalar.muli arg14 c16_i32_129
  let v250 : Index := Scalar.indexCast v248
  ![21, v250.toNat]
def k3_off320 (k3_t10 : Fin k3_t10_loop.trips) : Fin 2 → Nat :=
  let c22_i32 : BitVec 32 := 22#32
  let v259 : Index := Scalar.indexCast c22_i32
  let c0_i32_37 : BitVec 32 := 0#32
  let c1_i32_39 : BitVec 32 := 1#32
  let arg14 : BitVec 32 := Scf.iv c0_i32_37 c1_i32_39 k3_t10
  let c16_i32_131 : BitVec 32 := 16#32
  let v258 : BitVec 32 := Scalar.muli arg14 c16_i32_131
  let v260 : Index := Scalar.indexCast v258
  ![22, v260.toNat]
def k3_off321 (k3_t10 : Fin k3_t10_loop.trips) : Fin 2 → Nat :=
  let c23_i32 : BitVec 32 := 23#32
  let v269 : Index := Scalar.indexCast c23_i32
  let c0_i32_37 : BitVec 32 := 0#32
  let c1_i32_39 : BitVec 32 := 1#32
  let arg14 : BitVec 32 := Scf.iv c0_i32_37 c1_i32_39 k3_t10
  let c16_i32_133 : BitVec 32 := 16#32
  let v268 : BitVec 32 := Scalar.muli arg14 c16_i32_133
  let v270 : Index := Scalar.indexCast v268
  ![23, v270.toNat]
def k3_off322 (k3_t10 : Fin k3_t10_loop.trips) : Fin 2 → Nat :=
  let c24_i32 : BitVec 32 := 24#32
  let v279 : Index := Scalar.indexCast c24_i32
  let c0_i32_37 : BitVec 32 := 0#32
  let c1_i32_39 : BitVec 32 := 1#32
  let arg14 : BitVec 32 := Scf.iv c0_i32_37 c1_i32_39 k3_t10
  let c16_i32_135 : BitVec 32 := 16#32
  let v278 : BitVec 32 := Scalar.muli arg14 c16_i32_135
  let v280 : Index := Scalar.indexCast v278
  ![24, v280.toNat]
def k3_off323 (k3_t10 : Fin k3_t10_loop.trips) : Fin 2 → Nat :=
  let c25_i32 : BitVec 32 := 25#32
  let v289 : Index := Scalar.indexCast c25_i32
  let c0_i32_37 : BitVec 32 := 0#32
  let c1_i32_39 : BitVec 32 := 1#32
  let arg14 : BitVec 32 := Scf.iv c0_i32_37 c1_i32_39 k3_t10
  let c16_i32_137 : BitVec 32 := 16#32
  let v288 : BitVec 32 := Scalar.muli arg14 c16_i32_137
  let v290 : Index := Scalar.indexCast v288
  ![25, v290.toNat]
def k3_off324 (k3_t10 : Fin k3_t10_loop.trips) : Fin 2 → Nat :=
  let c26_i32 : BitVec 32 := 26#32
  let v299 : Index := Scalar.indexCast c26_i32
  let c0_i32_37 : BitVec 32 := 0#32
  let c1_i32_39 : BitVec 32 := 1#32
  let arg14 : BitVec 32 := Scf.iv c0_i32_37 c1_i32_39 k3_t10
  let c16_i32_139 : BitVec 32 := 16#32
  let v298 : BitVec 32 := Scalar.muli arg14 c16_i32_139
  let v300 : Index := Scalar.indexCast v298
  ![26, v300.toNat]
def k3_off325 (k3_t10 : Fin k3_t10_loop.trips) : Fin 2 → Nat :=
  let c27_i32 : BitVec 32 := 27#32
  let v309 : Index := Scalar.indexCast c27_i32
  let c0_i32_37 : BitVec 32 := 0#32
  let c1_i32_39 : BitVec 32 := 1#32
  let arg14 : BitVec 32 := Scf.iv c0_i32_37 c1_i32_39 k3_t10
  let c16_i32_141 : BitVec 32 := 16#32
  let v308 : BitVec 32 := Scalar.muli arg14 c16_i32_141
  let v310 : Index := Scalar.indexCast v308
  ![27, v310.toNat]
def k3_off326 (k3_t10 : Fin k3_t10_loop.trips) : Fin 2 → Nat :=
  let c28_i32 : BitVec 32 := 28#32
  let v319 : Index := Scalar.indexCast c28_i32
  let c0_i32_37 : BitVec 32 := 0#32
  let c1_i32_39 : BitVec 32 := 1#32
  let arg14 : BitVec 32 := Scf.iv c0_i32_37 c1_i32_39 k3_t10
  let c16_i32_143 : BitVec 32 := 16#32
  let v318 : BitVec 32 := Scalar.muli arg14 c16_i32_143
  let v320 : Index := Scalar.indexCast v318
  ![28, v320.toNat]
def k3_off327 (k3_t10 : Fin k3_t10_loop.trips) : Fin 2 → Nat :=
  let c29_i32 : BitVec 32 := 29#32
  let v329 : Index := Scalar.indexCast c29_i32
  let c0_i32_37 : BitVec 32 := 0#32
  let c1_i32_39 : BitVec 32 := 1#32
  let arg14 : BitVec 32 := Scf.iv c0_i32_37 c1_i32_39 k3_t10
  let c16_i32_145 : BitVec 32 := 16#32
  let v328 : BitVec 32 := Scalar.muli arg14 c16_i32_145
  let v330 : Index := Scalar.indexCast v328
  ![29, v330.toNat]
def k3_off328 (k3_t10 : Fin k3_t10_loop.trips) : Fin 2 → Nat :=
  let c30_i32 : BitVec 32 := 30#32
  let v339 : Index := Scalar.indexCast c30_i32
  let c0_i32_37 : BitVec 32 := 0#32
  let c1_i32_39 : BitVec 32 := 1#32
  let arg14 : BitVec 32 := Scf.iv c0_i32_37 c1_i32_39 k3_t10
  let c16_i32_147 : BitVec 32 := 16#32
  let v338 : BitVec 32 := Scalar.muli arg14 c16_i32_147
  let v340 : Index := Scalar.indexCast v338
  ![30, v340.toNat]
def k3_off329 (k3_t10 : Fin k3_t10_loop.trips) : Fin 2 → Nat :=
  let c31_i32 : BitVec 32 := 31#32
  let v349 : Index := Scalar.indexCast c31_i32
  let c0_i32_37 : BitVec 32 := 0#32
  let c1_i32_39 : BitVec 32 := 1#32
  let arg14 : BitVec 32 := Scf.iv c0_i32_37 c1_i32_39 k3_t10
  let c16_i32_149 : BitVec 32 := 16#32
  let v348 : BitVec 32 := Scalar.muli arg14 c16_i32_149
  let v350 : Index := Scalar.indexCast v348
  ![31, v350.toNat]
def k3_off330 (k3_t10 : Fin k3_t10_loop.trips) : Fin 1 → Nat :=
  let c18432_i32 : BitVec 32 := 18432#32
  let c0_i32_37 : BitVec 32 := 0#32
  let c1_i32_39 : BitVec 32 := 1#32
  let arg14 : BitVec 32 := Scf.iv c0_i32_37 c1_i32_39 k3_t10
  let c16_i32_151 : BitVec 32 := 16#32
  let v364 : BitVec 32 := Scalar.muli arg14 c16_i32_151
  let v365 : BitVec 32 := Scalar.addi c18432_i32 v364
  let v366 : Index := Scalar.indexCast v365
  ![v366.toNat]
@[reducible] def k3_t11_loop : Scf.Loop 32 :=
  let c0_i32_41 : BitVec 32 := 0#32
  let c128_i32_42 : BitVec 32 := 128#32
  let v24 : BitVec 32 := Scalar.addi c0_i32_41 c128_i32_42
  let c1_i32_43 : BitVec 32 := 1#32
  ⟨c0_i32_41, v24, c1_i32_43⟩
def k3_off331 (k3_t11 : Fin k3_t11_loop.trips) : Fin 2 → Nat :=
  let c0_i32_71 : BitVec 32 := 0#32
  let v39 : Index := Scalar.indexCast c0_i32_71
  let c0_i32_41 : BitVec 32 := 0#32
  let c1_i32_43 : BitVec 32 := 1#32
  let arg14 : BitVec 32 := Scf.iv c0_i32_41 c1_i32_43 k3_t11
  let c16_i32_70 : BitVec 32 := 16#32
  let v38 : BitVec 32 := Scalar.muli arg14 c16_i32_70
  let v40 : Index := Scalar.indexCast v38
  ![0, v40.toNat]
def k3_off332 (k3_t11 : Fin k3_t11_loop.trips) : Fin 2 → Nat :=
  let c1_i32_74 : BitVec 32 := 1#32
  let v49 : Index := Scalar.indexCast c1_i32_74
  let c0_i32_41 : BitVec 32 := 0#32
  let c1_i32_43 : BitVec 32 := 1#32
  let arg14 : BitVec 32 := Scf.iv c0_i32_41 c1_i32_43 k3_t11
  let c16_i32_73 : BitVec 32 := 16#32
  let v48 : BitVec 32 := Scalar.muli arg14 c16_i32_73
  let v50 : Index := Scalar.indexCast v48
  ![1, v50.toNat]
def k3_off333 (k3_t11 : Fin k3_t11_loop.trips) : Fin 2 → Nat :=
  let c2_i32_77 : BitVec 32 := 2#32
  let v59 : Index := Scalar.indexCast c2_i32_77
  let c0_i32_41 : BitVec 32 := 0#32
  let c1_i32_43 : BitVec 32 := 1#32
  let arg14 : BitVec 32 := Scf.iv c0_i32_41 c1_i32_43 k3_t11
  let c16_i32_76 : BitVec 32 := 16#32
  let v58 : BitVec 32 := Scalar.muli arg14 c16_i32_76
  let v60 : Index := Scalar.indexCast v58
  ![2, v60.toNat]
def k3_off334 (k3_t11 : Fin k3_t11_loop.trips) : Fin 2 → Nat :=
  let c3_i32_80 : BitVec 32 := 3#32
  let v69 : Index := Scalar.indexCast c3_i32_80
  let c0_i32_41 : BitVec 32 := 0#32
  let c1_i32_43 : BitVec 32 := 1#32
  let arg14 : BitVec 32 := Scf.iv c0_i32_41 c1_i32_43 k3_t11
  let c16_i32_79 : BitVec 32 := 16#32
  let v68 : BitVec 32 := Scalar.muli arg14 c16_i32_79
  let v70 : Index := Scalar.indexCast v68
  ![3, v70.toNat]
def k3_off335 (k3_t11 : Fin k3_t11_loop.trips) : Fin 2 → Nat :=
  let c4_i32_83 : BitVec 32 := 4#32
  let v79 : Index := Scalar.indexCast c4_i32_83
  let c0_i32_41 : BitVec 32 := 0#32
  let c1_i32_43 : BitVec 32 := 1#32
  let arg14 : BitVec 32 := Scf.iv c0_i32_41 c1_i32_43 k3_t11
  let c16_i32_82 : BitVec 32 := 16#32
  let v78 : BitVec 32 := Scalar.muli arg14 c16_i32_82
  let v80 : Index := Scalar.indexCast v78
  ![4, v80.toNat]
def k3_off336 (k3_t11 : Fin k3_t11_loop.trips) : Fin 2 → Nat :=
  let c5_i32_86 : BitVec 32 := 5#32
  let v89 : Index := Scalar.indexCast c5_i32_86
  let c0_i32_41 : BitVec 32 := 0#32
  let c1_i32_43 : BitVec 32 := 1#32
  let arg14 : BitVec 32 := Scf.iv c0_i32_41 c1_i32_43 k3_t11
  let c16_i32_85 : BitVec 32 := 16#32
  let v88 : BitVec 32 := Scalar.muli arg14 c16_i32_85
  let v90 : Index := Scalar.indexCast v88
  ![5, v90.toNat]
def k3_off337 (k3_t11 : Fin k3_t11_loop.trips) : Fin 2 → Nat :=
  let c6_i32_89 : BitVec 32 := 6#32
  let v99 : Index := Scalar.indexCast c6_i32_89
  let c0_i32_41 : BitVec 32 := 0#32
  let c1_i32_43 : BitVec 32 := 1#32
  let arg14 : BitVec 32 := Scf.iv c0_i32_41 c1_i32_43 k3_t11
  let c16_i32_88 : BitVec 32 := 16#32
  let v98 : BitVec 32 := Scalar.muli arg14 c16_i32_88
  let v100 : Index := Scalar.indexCast v98
  ![6, v100.toNat]
def k3_off338 (k3_t11 : Fin k3_t11_loop.trips) : Fin 2 → Nat :=
  let c7_i32_92 : BitVec 32 := 7#32
  let v109 : Index := Scalar.indexCast c7_i32_92
  let c0_i32_41 : BitVec 32 := 0#32
  let c1_i32_43 : BitVec 32 := 1#32
  let arg14 : BitVec 32 := Scf.iv c0_i32_41 c1_i32_43 k3_t11
  let c16_i32_91 : BitVec 32 := 16#32
  let v108 : BitVec 32 := Scalar.muli arg14 c16_i32_91
  let v110 : Index := Scalar.indexCast v108
  ![7, v110.toNat]
def k3_off339 (k3_t11 : Fin k3_t11_loop.trips) : Fin 2 → Nat :=
  let c8_i32_95 : BitVec 32 := 8#32
  let v119 : Index := Scalar.indexCast c8_i32_95
  let c0_i32_41 : BitVec 32 := 0#32
  let c1_i32_43 : BitVec 32 := 1#32
  let arg14 : BitVec 32 := Scf.iv c0_i32_41 c1_i32_43 k3_t11
  let c16_i32_94 : BitVec 32 := 16#32
  let v118 : BitVec 32 := Scalar.muli arg14 c16_i32_94
  let v120 : Index := Scalar.indexCast v118
  ![8, v120.toNat]
def k3_off340 (k3_t11 : Fin k3_t11_loop.trips) : Fin 2 → Nat :=
  let c9_i32_98 : BitVec 32 := 9#32
  let v129 : Index := Scalar.indexCast c9_i32_98
  let c0_i32_41 : BitVec 32 := 0#32
  let c1_i32_43 : BitVec 32 := 1#32
  let arg14 : BitVec 32 := Scf.iv c0_i32_41 c1_i32_43 k3_t11
  let c16_i32_97 : BitVec 32 := 16#32
  let v128 : BitVec 32 := Scalar.muli arg14 c16_i32_97
  let v130 : Index := Scalar.indexCast v128
  ![9, v130.toNat]
def k3_off341 (k3_t11 : Fin k3_t11_loop.trips) : Fin 2 → Nat :=
  let c10_i32_101 : BitVec 32 := 10#32
  let v139 : Index := Scalar.indexCast c10_i32_101
  let c0_i32_41 : BitVec 32 := 0#32
  let c1_i32_43 : BitVec 32 := 1#32
  let arg14 : BitVec 32 := Scf.iv c0_i32_41 c1_i32_43 k3_t11
  let c16_i32_100 : BitVec 32 := 16#32
  let v138 : BitVec 32 := Scalar.muli arg14 c16_i32_100
  let v140 : Index := Scalar.indexCast v138
  ![10, v140.toNat]
def k3_off342 (k3_t11 : Fin k3_t11_loop.trips) : Fin 2 → Nat :=
  let c11_i32_104 : BitVec 32 := 11#32
  let v149 : Index := Scalar.indexCast c11_i32_104
  let c0_i32_41 : BitVec 32 := 0#32
  let c1_i32_43 : BitVec 32 := 1#32
  let arg14 : BitVec 32 := Scf.iv c0_i32_41 c1_i32_43 k3_t11
  let c16_i32_103 : BitVec 32 := 16#32
  let v148 : BitVec 32 := Scalar.muli arg14 c16_i32_103
  let v150 : Index := Scalar.indexCast v148
  ![11, v150.toNat]
def k3_off343 (k3_t11 : Fin k3_t11_loop.trips) : Fin 2 → Nat :=
  let c12_i32_107 : BitVec 32 := 12#32
  let v159 : Index := Scalar.indexCast c12_i32_107
  let c0_i32_41 : BitVec 32 := 0#32
  let c1_i32_43 : BitVec 32 := 1#32
  let arg14 : BitVec 32 := Scf.iv c0_i32_41 c1_i32_43 k3_t11
  let c16_i32_106 : BitVec 32 := 16#32
  let v158 : BitVec 32 := Scalar.muli arg14 c16_i32_106
  let v160 : Index := Scalar.indexCast v158
  ![12, v160.toNat]
def k3_off344 (k3_t11 : Fin k3_t11_loop.trips) : Fin 2 → Nat :=
  let c13_i32_110 : BitVec 32 := 13#32
  let v169 : Index := Scalar.indexCast c13_i32_110
  let c0_i32_41 : BitVec 32 := 0#32
  let c1_i32_43 : BitVec 32 := 1#32
  let arg14 : BitVec 32 := Scf.iv c0_i32_41 c1_i32_43 k3_t11
  let c16_i32_109 : BitVec 32 := 16#32
  let v168 : BitVec 32 := Scalar.muli arg14 c16_i32_109
  let v170 : Index := Scalar.indexCast v168
  ![13, v170.toNat]
def k3_off345 (k3_t11 : Fin k3_t11_loop.trips) : Fin 2 → Nat :=
  let c14_i32_113 : BitVec 32 := 14#32
  let v179 : Index := Scalar.indexCast c14_i32_113
  let c0_i32_41 : BitVec 32 := 0#32
  let c1_i32_43 : BitVec 32 := 1#32
  let arg14 : BitVec 32 := Scf.iv c0_i32_41 c1_i32_43 k3_t11
  let c16_i32_112 : BitVec 32 := 16#32
  let v178 : BitVec 32 := Scalar.muli arg14 c16_i32_112
  let v180 : Index := Scalar.indexCast v178
  ![14, v180.toNat]
def k3_off346 (k3_t11 : Fin k3_t11_loop.trips) : Fin 2 → Nat :=
  let c15_i32_116 : BitVec 32 := 15#32
  let v189 : Index := Scalar.indexCast c15_i32_116
  let c0_i32_41 : BitVec 32 := 0#32
  let c1_i32_43 : BitVec 32 := 1#32
  let arg14 : BitVec 32 := Scf.iv c0_i32_41 c1_i32_43 k3_t11
  let c16_i32_115 : BitVec 32 := 16#32
  let v188 : BitVec 32 := Scalar.muli arg14 c16_i32_115
  let v190 : Index := Scalar.indexCast v188
  ![15, v190.toNat]
def k3_off347 (k3_t11 : Fin k3_t11_loop.trips) : Fin 2 → Nat :=
  let c16_i32_119 : BitVec 32 := 16#32
  let v199 : Index := Scalar.indexCast c16_i32_119
  let c0_i32_41 : BitVec 32 := 0#32
  let c1_i32_43 : BitVec 32 := 1#32
  let arg14 : BitVec 32 := Scf.iv c0_i32_41 c1_i32_43 k3_t11
  let c16_i32_118 : BitVec 32 := 16#32
  let v198 : BitVec 32 := Scalar.muli arg14 c16_i32_118
  let v200 : Index := Scalar.indexCast v198
  ![16, v200.toNat]
def k3_off348 (k3_t11 : Fin k3_t11_loop.trips) : Fin 2 → Nat :=
  let c17_i32 : BitVec 32 := 17#32
  let v209 : Index := Scalar.indexCast c17_i32
  let c0_i32_41 : BitVec 32 := 0#32
  let c1_i32_43 : BitVec 32 := 1#32
  let arg14 : BitVec 32 := Scf.iv c0_i32_41 c1_i32_43 k3_t11
  let c16_i32_121 : BitVec 32 := 16#32
  let v208 : BitVec 32 := Scalar.muli arg14 c16_i32_121
  let v210 : Index := Scalar.indexCast v208
  ![17, v210.toNat]
def k3_off349 (k3_t11 : Fin k3_t11_loop.trips) : Fin 2 → Nat :=
  let c18_i32 : BitVec 32 := 18#32
  let v219 : Index := Scalar.indexCast c18_i32
  let c0_i32_41 : BitVec 32 := 0#32
  let c1_i32_43 : BitVec 32 := 1#32
  let arg14 : BitVec 32 := Scf.iv c0_i32_41 c1_i32_43 k3_t11
  let c16_i32_123 : BitVec 32 := 16#32
  let v218 : BitVec 32 := Scalar.muli arg14 c16_i32_123
  let v220 : Index := Scalar.indexCast v218
  ![18, v220.toNat]
def k3_off350 (k3_t11 : Fin k3_t11_loop.trips) : Fin 2 → Nat :=
  let c19_i32 : BitVec 32 := 19#32
  let v229 : Index := Scalar.indexCast c19_i32
  let c0_i32_41 : BitVec 32 := 0#32
  let c1_i32_43 : BitVec 32 := 1#32
  let arg14 : BitVec 32 := Scf.iv c0_i32_41 c1_i32_43 k3_t11
  let c16_i32_125 : BitVec 32 := 16#32
  let v228 : BitVec 32 := Scalar.muli arg14 c16_i32_125
  let v230 : Index := Scalar.indexCast v228
  ![19, v230.toNat]
def k3_off351 (k3_t11 : Fin k3_t11_loop.trips) : Fin 2 → Nat :=
  let c20_i32 : BitVec 32 := 20#32
  let v239 : Index := Scalar.indexCast c20_i32
  let c0_i32_41 : BitVec 32 := 0#32
  let c1_i32_43 : BitVec 32 := 1#32
  let arg14 : BitVec 32 := Scf.iv c0_i32_41 c1_i32_43 k3_t11
  let c16_i32_127 : BitVec 32 := 16#32
  let v238 : BitVec 32 := Scalar.muli arg14 c16_i32_127
  let v240 : Index := Scalar.indexCast v238
  ![20, v240.toNat]
def k3_off352 (k3_t11 : Fin k3_t11_loop.trips) : Fin 2 → Nat :=
  let c21_i32 : BitVec 32 := 21#32
  let v249 : Index := Scalar.indexCast c21_i32
  let c0_i32_41 : BitVec 32 := 0#32
  let c1_i32_43 : BitVec 32 := 1#32
  let arg14 : BitVec 32 := Scf.iv c0_i32_41 c1_i32_43 k3_t11
  let c16_i32_129 : BitVec 32 := 16#32
  let v248 : BitVec 32 := Scalar.muli arg14 c16_i32_129
  let v250 : Index := Scalar.indexCast v248
  ![21, v250.toNat]
def k3_off353 (k3_t11 : Fin k3_t11_loop.trips) : Fin 2 → Nat :=
  let c22_i32 : BitVec 32 := 22#32
  let v259 : Index := Scalar.indexCast c22_i32
  let c0_i32_41 : BitVec 32 := 0#32
  let c1_i32_43 : BitVec 32 := 1#32
  let arg14 : BitVec 32 := Scf.iv c0_i32_41 c1_i32_43 k3_t11
  let c16_i32_131 : BitVec 32 := 16#32
  let v258 : BitVec 32 := Scalar.muli arg14 c16_i32_131
  let v260 : Index := Scalar.indexCast v258
  ![22, v260.toNat]
def k3_off354 (k3_t11 : Fin k3_t11_loop.trips) : Fin 2 → Nat :=
  let c23_i32 : BitVec 32 := 23#32
  let v269 : Index := Scalar.indexCast c23_i32
  let c0_i32_41 : BitVec 32 := 0#32
  let c1_i32_43 : BitVec 32 := 1#32
  let arg14 : BitVec 32 := Scf.iv c0_i32_41 c1_i32_43 k3_t11
  let c16_i32_133 : BitVec 32 := 16#32
  let v268 : BitVec 32 := Scalar.muli arg14 c16_i32_133
  let v270 : Index := Scalar.indexCast v268
  ![23, v270.toNat]
def k3_off355 (k3_t11 : Fin k3_t11_loop.trips) : Fin 2 → Nat :=
  let c24_i32 : BitVec 32 := 24#32
  let v279 : Index := Scalar.indexCast c24_i32
  let c0_i32_41 : BitVec 32 := 0#32
  let c1_i32_43 : BitVec 32 := 1#32
  let arg14 : BitVec 32 := Scf.iv c0_i32_41 c1_i32_43 k3_t11
  let c16_i32_135 : BitVec 32 := 16#32
  let v278 : BitVec 32 := Scalar.muli arg14 c16_i32_135
  let v280 : Index := Scalar.indexCast v278
  ![24, v280.toNat]
def k3_off356 (k3_t11 : Fin k3_t11_loop.trips) : Fin 2 → Nat :=
  let c25_i32 : BitVec 32 := 25#32
  let v289 : Index := Scalar.indexCast c25_i32
  let c0_i32_41 : BitVec 32 := 0#32
  let c1_i32_43 : BitVec 32 := 1#32
  let arg14 : BitVec 32 := Scf.iv c0_i32_41 c1_i32_43 k3_t11
  let c16_i32_137 : BitVec 32 := 16#32
  let v288 : BitVec 32 := Scalar.muli arg14 c16_i32_137
  let v290 : Index := Scalar.indexCast v288
  ![25, v290.toNat]
def k3_off357 (k3_t11 : Fin k3_t11_loop.trips) : Fin 2 → Nat :=
  let c26_i32 : BitVec 32 := 26#32
  let v299 : Index := Scalar.indexCast c26_i32
  let c0_i32_41 : BitVec 32 := 0#32
  let c1_i32_43 : BitVec 32 := 1#32
  let arg14 : BitVec 32 := Scf.iv c0_i32_41 c1_i32_43 k3_t11
  let c16_i32_139 : BitVec 32 := 16#32
  let v298 : BitVec 32 := Scalar.muli arg14 c16_i32_139
  let v300 : Index := Scalar.indexCast v298
  ![26, v300.toNat]
def k3_off358 (k3_t11 : Fin k3_t11_loop.trips) : Fin 2 → Nat :=
  let c27_i32 : BitVec 32 := 27#32
  let v309 : Index := Scalar.indexCast c27_i32
  let c0_i32_41 : BitVec 32 := 0#32
  let c1_i32_43 : BitVec 32 := 1#32
  let arg14 : BitVec 32 := Scf.iv c0_i32_41 c1_i32_43 k3_t11
  let c16_i32_141 : BitVec 32 := 16#32
  let v308 : BitVec 32 := Scalar.muli arg14 c16_i32_141
  let v310 : Index := Scalar.indexCast v308
  ![27, v310.toNat]
def k3_off359 (k3_t11 : Fin k3_t11_loop.trips) : Fin 2 → Nat :=
  let c28_i32 : BitVec 32 := 28#32
  let v319 : Index := Scalar.indexCast c28_i32
  let c0_i32_41 : BitVec 32 := 0#32
  let c1_i32_43 : BitVec 32 := 1#32
  let arg14 : BitVec 32 := Scf.iv c0_i32_41 c1_i32_43 k3_t11
  let c16_i32_143 : BitVec 32 := 16#32
  let v318 : BitVec 32 := Scalar.muli arg14 c16_i32_143
  let v320 : Index := Scalar.indexCast v318
  ![28, v320.toNat]
def k3_off360 (k3_t11 : Fin k3_t11_loop.trips) : Fin 2 → Nat :=
  let c29_i32 : BitVec 32 := 29#32
  let v329 : Index := Scalar.indexCast c29_i32
  let c0_i32_41 : BitVec 32 := 0#32
  let c1_i32_43 : BitVec 32 := 1#32
  let arg14 : BitVec 32 := Scf.iv c0_i32_41 c1_i32_43 k3_t11
  let c16_i32_145 : BitVec 32 := 16#32
  let v328 : BitVec 32 := Scalar.muli arg14 c16_i32_145
  let v330 : Index := Scalar.indexCast v328
  ![29, v330.toNat]
def k3_off361 (k3_t11 : Fin k3_t11_loop.trips) : Fin 2 → Nat :=
  let c30_i32 : BitVec 32 := 30#32
  let v339 : Index := Scalar.indexCast c30_i32
  let c0_i32_41 : BitVec 32 := 0#32
  let c1_i32_43 : BitVec 32 := 1#32
  let arg14 : BitVec 32 := Scf.iv c0_i32_41 c1_i32_43 k3_t11
  let c16_i32_147 : BitVec 32 := 16#32
  let v338 : BitVec 32 := Scalar.muli arg14 c16_i32_147
  let v340 : Index := Scalar.indexCast v338
  ![30, v340.toNat]
def k3_off362 (k3_t11 : Fin k3_t11_loop.trips) : Fin 2 → Nat :=
  let c31_i32 : BitVec 32 := 31#32
  let v349 : Index := Scalar.indexCast c31_i32
  let c0_i32_41 : BitVec 32 := 0#32
  let c1_i32_43 : BitVec 32 := 1#32
  let arg14 : BitVec 32 := Scf.iv c0_i32_41 c1_i32_43 k3_t11
  let c16_i32_149 : BitVec 32 := 16#32
  let v348 : BitVec 32 := Scalar.muli arg14 c16_i32_149
  let v350 : Index := Scalar.indexCast v348
  ![31, v350.toNat]
def k3_off363 (k3_t11 : Fin k3_t11_loop.trips) : Fin 1 → Nat :=
  let c20480_i32 : BitVec 32 := 20480#32
  let c0_i32_41 : BitVec 32 := 0#32
  let c1_i32_43 : BitVec 32 := 1#32
  let arg14 : BitVec 32 := Scf.iv c0_i32_41 c1_i32_43 k3_t11
  let c16_i32_151 : BitVec 32 := 16#32
  let v364 : BitVec 32 := Scalar.muli arg14 c16_i32_151
  let v365 : BitVec 32 := Scalar.addi c20480_i32 v364
  let v366 : Index := Scalar.indexCast v365
  ![v366.toNat]
@[reducible] def k3_t12_loop : Scf.Loop 32 :=
  let c0_i32_45 : BitVec 32 := 0#32
  let c128_i32_46 : BitVec 32 := 128#32
  let v26 : BitVec 32 := Scalar.addi c0_i32_45 c128_i32_46
  let c1_i32_47 : BitVec 32 := 1#32
  ⟨c0_i32_45, v26, c1_i32_47⟩
def k3_off364 (k3_t12 : Fin k3_t12_loop.trips) : Fin 2 → Nat :=
  let c0_i32_71 : BitVec 32 := 0#32
  let v39 : Index := Scalar.indexCast c0_i32_71
  let c0_i32_45 : BitVec 32 := 0#32
  let c1_i32_47 : BitVec 32 := 1#32
  let arg14 : BitVec 32 := Scf.iv c0_i32_45 c1_i32_47 k3_t12
  let c16_i32_70 : BitVec 32 := 16#32
  let v38 : BitVec 32 := Scalar.muli arg14 c16_i32_70
  let v40 : Index := Scalar.indexCast v38
  ![0, v40.toNat]
def k3_off365 (k3_t12 : Fin k3_t12_loop.trips) : Fin 2 → Nat :=
  let c1_i32_74 : BitVec 32 := 1#32
  let v49 : Index := Scalar.indexCast c1_i32_74
  let c0_i32_45 : BitVec 32 := 0#32
  let c1_i32_47 : BitVec 32 := 1#32
  let arg14 : BitVec 32 := Scf.iv c0_i32_45 c1_i32_47 k3_t12
  let c16_i32_73 : BitVec 32 := 16#32
  let v48 : BitVec 32 := Scalar.muli arg14 c16_i32_73
  let v50 : Index := Scalar.indexCast v48
  ![1, v50.toNat]
def k3_off366 (k3_t12 : Fin k3_t12_loop.trips) : Fin 2 → Nat :=
  let c2_i32_77 : BitVec 32 := 2#32
  let v59 : Index := Scalar.indexCast c2_i32_77
  let c0_i32_45 : BitVec 32 := 0#32
  let c1_i32_47 : BitVec 32 := 1#32
  let arg14 : BitVec 32 := Scf.iv c0_i32_45 c1_i32_47 k3_t12
  let c16_i32_76 : BitVec 32 := 16#32
  let v58 : BitVec 32 := Scalar.muli arg14 c16_i32_76
  let v60 : Index := Scalar.indexCast v58
  ![2, v60.toNat]
def k3_off367 (k3_t12 : Fin k3_t12_loop.trips) : Fin 2 → Nat :=
  let c3_i32_80 : BitVec 32 := 3#32
  let v69 : Index := Scalar.indexCast c3_i32_80
  let c0_i32_45 : BitVec 32 := 0#32
  let c1_i32_47 : BitVec 32 := 1#32
  let arg14 : BitVec 32 := Scf.iv c0_i32_45 c1_i32_47 k3_t12
  let c16_i32_79 : BitVec 32 := 16#32
  let v68 : BitVec 32 := Scalar.muli arg14 c16_i32_79
  let v70 : Index := Scalar.indexCast v68
  ![3, v70.toNat]
def k3_off368 (k3_t12 : Fin k3_t12_loop.trips) : Fin 2 → Nat :=
  let c4_i32_83 : BitVec 32 := 4#32
  let v79 : Index := Scalar.indexCast c4_i32_83
  let c0_i32_45 : BitVec 32 := 0#32
  let c1_i32_47 : BitVec 32 := 1#32
  let arg14 : BitVec 32 := Scf.iv c0_i32_45 c1_i32_47 k3_t12
  let c16_i32_82 : BitVec 32 := 16#32
  let v78 : BitVec 32 := Scalar.muli arg14 c16_i32_82
  let v80 : Index := Scalar.indexCast v78
  ![4, v80.toNat]
def k3_off369 (k3_t12 : Fin k3_t12_loop.trips) : Fin 2 → Nat :=
  let c5_i32_86 : BitVec 32 := 5#32
  let v89 : Index := Scalar.indexCast c5_i32_86
  let c0_i32_45 : BitVec 32 := 0#32
  let c1_i32_47 : BitVec 32 := 1#32
  let arg14 : BitVec 32 := Scf.iv c0_i32_45 c1_i32_47 k3_t12
  let c16_i32_85 : BitVec 32 := 16#32
  let v88 : BitVec 32 := Scalar.muli arg14 c16_i32_85
  let v90 : Index := Scalar.indexCast v88
  ![5, v90.toNat]
def k3_off370 (k3_t12 : Fin k3_t12_loop.trips) : Fin 2 → Nat :=
  let c6_i32_89 : BitVec 32 := 6#32
  let v99 : Index := Scalar.indexCast c6_i32_89
  let c0_i32_45 : BitVec 32 := 0#32
  let c1_i32_47 : BitVec 32 := 1#32
  let arg14 : BitVec 32 := Scf.iv c0_i32_45 c1_i32_47 k3_t12
  let c16_i32_88 : BitVec 32 := 16#32
  let v98 : BitVec 32 := Scalar.muli arg14 c16_i32_88
  let v100 : Index := Scalar.indexCast v98
  ![6, v100.toNat]
def k3_off371 (k3_t12 : Fin k3_t12_loop.trips) : Fin 2 → Nat :=
  let c7_i32_92 : BitVec 32 := 7#32
  let v109 : Index := Scalar.indexCast c7_i32_92
  let c0_i32_45 : BitVec 32 := 0#32
  let c1_i32_47 : BitVec 32 := 1#32
  let arg14 : BitVec 32 := Scf.iv c0_i32_45 c1_i32_47 k3_t12
  let c16_i32_91 : BitVec 32 := 16#32
  let v108 : BitVec 32 := Scalar.muli arg14 c16_i32_91
  let v110 : Index := Scalar.indexCast v108
  ![7, v110.toNat]
def k3_off372 (k3_t12 : Fin k3_t12_loop.trips) : Fin 2 → Nat :=
  let c8_i32_95 : BitVec 32 := 8#32
  let v119 : Index := Scalar.indexCast c8_i32_95
  let c0_i32_45 : BitVec 32 := 0#32
  let c1_i32_47 : BitVec 32 := 1#32
  let arg14 : BitVec 32 := Scf.iv c0_i32_45 c1_i32_47 k3_t12
  let c16_i32_94 : BitVec 32 := 16#32
  let v118 : BitVec 32 := Scalar.muli arg14 c16_i32_94
  let v120 : Index := Scalar.indexCast v118
  ![8, v120.toNat]
def k3_off373 (k3_t12 : Fin k3_t12_loop.trips) : Fin 2 → Nat :=
  let c9_i32_98 : BitVec 32 := 9#32
  let v129 : Index := Scalar.indexCast c9_i32_98
  let c0_i32_45 : BitVec 32 := 0#32
  let c1_i32_47 : BitVec 32 := 1#32
  let arg14 : BitVec 32 := Scf.iv c0_i32_45 c1_i32_47 k3_t12
  let c16_i32_97 : BitVec 32 := 16#32
  let v128 : BitVec 32 := Scalar.muli arg14 c16_i32_97
  let v130 : Index := Scalar.indexCast v128
  ![9, v130.toNat]
def k3_off374 (k3_t12 : Fin k3_t12_loop.trips) : Fin 2 → Nat :=
  let c10_i32_101 : BitVec 32 := 10#32
  let v139 : Index := Scalar.indexCast c10_i32_101
  let c0_i32_45 : BitVec 32 := 0#32
  let c1_i32_47 : BitVec 32 := 1#32
  let arg14 : BitVec 32 := Scf.iv c0_i32_45 c1_i32_47 k3_t12
  let c16_i32_100 : BitVec 32 := 16#32
  let v138 : BitVec 32 := Scalar.muli arg14 c16_i32_100
  let v140 : Index := Scalar.indexCast v138
  ![10, v140.toNat]
def k3_off375 (k3_t12 : Fin k3_t12_loop.trips) : Fin 2 → Nat :=
  let c11_i32_104 : BitVec 32 := 11#32
  let v149 : Index := Scalar.indexCast c11_i32_104
  let c0_i32_45 : BitVec 32 := 0#32
  let c1_i32_47 : BitVec 32 := 1#32
  let arg14 : BitVec 32 := Scf.iv c0_i32_45 c1_i32_47 k3_t12
  let c16_i32_103 : BitVec 32 := 16#32
  let v148 : BitVec 32 := Scalar.muli arg14 c16_i32_103
  let v150 : Index := Scalar.indexCast v148
  ![11, v150.toNat]
def k3_off376 (k3_t12 : Fin k3_t12_loop.trips) : Fin 2 → Nat :=
  let c12_i32_107 : BitVec 32 := 12#32
  let v159 : Index := Scalar.indexCast c12_i32_107
  let c0_i32_45 : BitVec 32 := 0#32
  let c1_i32_47 : BitVec 32 := 1#32
  let arg14 : BitVec 32 := Scf.iv c0_i32_45 c1_i32_47 k3_t12
  let c16_i32_106 : BitVec 32 := 16#32
  let v158 : BitVec 32 := Scalar.muli arg14 c16_i32_106
  let v160 : Index := Scalar.indexCast v158
  ![12, v160.toNat]
def k3_off377 (k3_t12 : Fin k3_t12_loop.trips) : Fin 2 → Nat :=
  let c13_i32_110 : BitVec 32 := 13#32
  let v169 : Index := Scalar.indexCast c13_i32_110
  let c0_i32_45 : BitVec 32 := 0#32
  let c1_i32_47 : BitVec 32 := 1#32
  let arg14 : BitVec 32 := Scf.iv c0_i32_45 c1_i32_47 k3_t12
  let c16_i32_109 : BitVec 32 := 16#32
  let v168 : BitVec 32 := Scalar.muli arg14 c16_i32_109
  let v170 : Index := Scalar.indexCast v168
  ![13, v170.toNat]
def k3_off378 (k3_t12 : Fin k3_t12_loop.trips) : Fin 2 → Nat :=
  let c14_i32_113 : BitVec 32 := 14#32
  let v179 : Index := Scalar.indexCast c14_i32_113
  let c0_i32_45 : BitVec 32 := 0#32
  let c1_i32_47 : BitVec 32 := 1#32
  let arg14 : BitVec 32 := Scf.iv c0_i32_45 c1_i32_47 k3_t12
  let c16_i32_112 : BitVec 32 := 16#32
  let v178 : BitVec 32 := Scalar.muli arg14 c16_i32_112
  let v180 : Index := Scalar.indexCast v178
  ![14, v180.toNat]
def k3_off379 (k3_t12 : Fin k3_t12_loop.trips) : Fin 2 → Nat :=
  let c15_i32_116 : BitVec 32 := 15#32
  let v189 : Index := Scalar.indexCast c15_i32_116
  let c0_i32_45 : BitVec 32 := 0#32
  let c1_i32_47 : BitVec 32 := 1#32
  let arg14 : BitVec 32 := Scf.iv c0_i32_45 c1_i32_47 k3_t12
  let c16_i32_115 : BitVec 32 := 16#32
  let v188 : BitVec 32 := Scalar.muli arg14 c16_i32_115
  let v190 : Index := Scalar.indexCast v188
  ![15, v190.toNat]
def k3_off380 (k3_t12 : Fin k3_t12_loop.trips) : Fin 2 → Nat :=
  let c16_i32_119 : BitVec 32 := 16#32
  let v199 : Index := Scalar.indexCast c16_i32_119
  let c0_i32_45 : BitVec 32 := 0#32
  let c1_i32_47 : BitVec 32 := 1#32
  let arg14 : BitVec 32 := Scf.iv c0_i32_45 c1_i32_47 k3_t12
  let c16_i32_118 : BitVec 32 := 16#32
  let v198 : BitVec 32 := Scalar.muli arg14 c16_i32_118
  let v200 : Index := Scalar.indexCast v198
  ![16, v200.toNat]
def k3_off381 (k3_t12 : Fin k3_t12_loop.trips) : Fin 2 → Nat :=
  let c17_i32 : BitVec 32 := 17#32
  let v209 : Index := Scalar.indexCast c17_i32
  let c0_i32_45 : BitVec 32 := 0#32
  let c1_i32_47 : BitVec 32 := 1#32
  let arg14 : BitVec 32 := Scf.iv c0_i32_45 c1_i32_47 k3_t12
  let c16_i32_121 : BitVec 32 := 16#32
  let v208 : BitVec 32 := Scalar.muli arg14 c16_i32_121
  let v210 : Index := Scalar.indexCast v208
  ![17, v210.toNat]
def k3_off382 (k3_t12 : Fin k3_t12_loop.trips) : Fin 2 → Nat :=
  let c18_i32 : BitVec 32 := 18#32
  let v219 : Index := Scalar.indexCast c18_i32
  let c0_i32_45 : BitVec 32 := 0#32
  let c1_i32_47 : BitVec 32 := 1#32
  let arg14 : BitVec 32 := Scf.iv c0_i32_45 c1_i32_47 k3_t12
  let c16_i32_123 : BitVec 32 := 16#32
  let v218 : BitVec 32 := Scalar.muli arg14 c16_i32_123
  let v220 : Index := Scalar.indexCast v218
  ![18, v220.toNat]
def k3_off383 (k3_t12 : Fin k3_t12_loop.trips) : Fin 2 → Nat :=
  let c19_i32 : BitVec 32 := 19#32
  let v229 : Index := Scalar.indexCast c19_i32
  let c0_i32_45 : BitVec 32 := 0#32
  let c1_i32_47 : BitVec 32 := 1#32
  let arg14 : BitVec 32 := Scf.iv c0_i32_45 c1_i32_47 k3_t12
  let c16_i32_125 : BitVec 32 := 16#32
  let v228 : BitVec 32 := Scalar.muli arg14 c16_i32_125
  let v230 : Index := Scalar.indexCast v228
  ![19, v230.toNat]
def k3_off384 (k3_t12 : Fin k3_t12_loop.trips) : Fin 2 → Nat :=
  let c20_i32 : BitVec 32 := 20#32
  let v239 : Index := Scalar.indexCast c20_i32
  let c0_i32_45 : BitVec 32 := 0#32
  let c1_i32_47 : BitVec 32 := 1#32
  let arg14 : BitVec 32 := Scf.iv c0_i32_45 c1_i32_47 k3_t12
  let c16_i32_127 : BitVec 32 := 16#32
  let v238 : BitVec 32 := Scalar.muli arg14 c16_i32_127
  let v240 : Index := Scalar.indexCast v238
  ![20, v240.toNat]
def k3_off385 (k3_t12 : Fin k3_t12_loop.trips) : Fin 2 → Nat :=
  let c21_i32 : BitVec 32 := 21#32
  let v249 : Index := Scalar.indexCast c21_i32
  let c0_i32_45 : BitVec 32 := 0#32
  let c1_i32_47 : BitVec 32 := 1#32
  let arg14 : BitVec 32 := Scf.iv c0_i32_45 c1_i32_47 k3_t12
  let c16_i32_129 : BitVec 32 := 16#32
  let v248 : BitVec 32 := Scalar.muli arg14 c16_i32_129
  let v250 : Index := Scalar.indexCast v248
  ![21, v250.toNat]
def k3_off386 (k3_t12 : Fin k3_t12_loop.trips) : Fin 2 → Nat :=
  let c22_i32 : BitVec 32 := 22#32
  let v259 : Index := Scalar.indexCast c22_i32
  let c0_i32_45 : BitVec 32 := 0#32
  let c1_i32_47 : BitVec 32 := 1#32
  let arg14 : BitVec 32 := Scf.iv c0_i32_45 c1_i32_47 k3_t12
  let c16_i32_131 : BitVec 32 := 16#32
  let v258 : BitVec 32 := Scalar.muli arg14 c16_i32_131
  let v260 : Index := Scalar.indexCast v258
  ![22, v260.toNat]
def k3_off387 (k3_t12 : Fin k3_t12_loop.trips) : Fin 2 → Nat :=
  let c23_i32 : BitVec 32 := 23#32
  let v269 : Index := Scalar.indexCast c23_i32
  let c0_i32_45 : BitVec 32 := 0#32
  let c1_i32_47 : BitVec 32 := 1#32
  let arg14 : BitVec 32 := Scf.iv c0_i32_45 c1_i32_47 k3_t12
  let c16_i32_133 : BitVec 32 := 16#32
  let v268 : BitVec 32 := Scalar.muli arg14 c16_i32_133
  let v270 : Index := Scalar.indexCast v268
  ![23, v270.toNat]
def k3_off388 (k3_t12 : Fin k3_t12_loop.trips) : Fin 2 → Nat :=
  let c24_i32 : BitVec 32 := 24#32
  let v279 : Index := Scalar.indexCast c24_i32
  let c0_i32_45 : BitVec 32 := 0#32
  let c1_i32_47 : BitVec 32 := 1#32
  let arg14 : BitVec 32 := Scf.iv c0_i32_45 c1_i32_47 k3_t12
  let c16_i32_135 : BitVec 32 := 16#32
  let v278 : BitVec 32 := Scalar.muli arg14 c16_i32_135
  let v280 : Index := Scalar.indexCast v278
  ![24, v280.toNat]
def k3_off389 (k3_t12 : Fin k3_t12_loop.trips) : Fin 2 → Nat :=
  let c25_i32 : BitVec 32 := 25#32
  let v289 : Index := Scalar.indexCast c25_i32
  let c0_i32_45 : BitVec 32 := 0#32
  let c1_i32_47 : BitVec 32 := 1#32
  let arg14 : BitVec 32 := Scf.iv c0_i32_45 c1_i32_47 k3_t12
  let c16_i32_137 : BitVec 32 := 16#32
  let v288 : BitVec 32 := Scalar.muli arg14 c16_i32_137
  let v290 : Index := Scalar.indexCast v288
  ![25, v290.toNat]
def k3_off390 (k3_t12 : Fin k3_t12_loop.trips) : Fin 2 → Nat :=
  let c26_i32 : BitVec 32 := 26#32
  let v299 : Index := Scalar.indexCast c26_i32
  let c0_i32_45 : BitVec 32 := 0#32
  let c1_i32_47 : BitVec 32 := 1#32
  let arg14 : BitVec 32 := Scf.iv c0_i32_45 c1_i32_47 k3_t12
  let c16_i32_139 : BitVec 32 := 16#32
  let v298 : BitVec 32 := Scalar.muli arg14 c16_i32_139
  let v300 : Index := Scalar.indexCast v298
  ![26, v300.toNat]
def k3_off391 (k3_t12 : Fin k3_t12_loop.trips) : Fin 2 → Nat :=
  let c27_i32 : BitVec 32 := 27#32
  let v309 : Index := Scalar.indexCast c27_i32
  let c0_i32_45 : BitVec 32 := 0#32
  let c1_i32_47 : BitVec 32 := 1#32
  let arg14 : BitVec 32 := Scf.iv c0_i32_45 c1_i32_47 k3_t12
  let c16_i32_141 : BitVec 32 := 16#32
  let v308 : BitVec 32 := Scalar.muli arg14 c16_i32_141
  let v310 : Index := Scalar.indexCast v308
  ![27, v310.toNat]
def k3_off392 (k3_t12 : Fin k3_t12_loop.trips) : Fin 2 → Nat :=
  let c28_i32 : BitVec 32 := 28#32
  let v319 : Index := Scalar.indexCast c28_i32
  let c0_i32_45 : BitVec 32 := 0#32
  let c1_i32_47 : BitVec 32 := 1#32
  let arg14 : BitVec 32 := Scf.iv c0_i32_45 c1_i32_47 k3_t12
  let c16_i32_143 : BitVec 32 := 16#32
  let v318 : BitVec 32 := Scalar.muli arg14 c16_i32_143
  let v320 : Index := Scalar.indexCast v318
  ![28, v320.toNat]
def k3_off393 (k3_t12 : Fin k3_t12_loop.trips) : Fin 2 → Nat :=
  let c29_i32 : BitVec 32 := 29#32
  let v329 : Index := Scalar.indexCast c29_i32
  let c0_i32_45 : BitVec 32 := 0#32
  let c1_i32_47 : BitVec 32 := 1#32
  let arg14 : BitVec 32 := Scf.iv c0_i32_45 c1_i32_47 k3_t12
  let c16_i32_145 : BitVec 32 := 16#32
  let v328 : BitVec 32 := Scalar.muli arg14 c16_i32_145
  let v330 : Index := Scalar.indexCast v328
  ![29, v330.toNat]
def k3_off394 (k3_t12 : Fin k3_t12_loop.trips) : Fin 2 → Nat :=
  let c30_i32 : BitVec 32 := 30#32
  let v339 : Index := Scalar.indexCast c30_i32
  let c0_i32_45 : BitVec 32 := 0#32
  let c1_i32_47 : BitVec 32 := 1#32
  let arg14 : BitVec 32 := Scf.iv c0_i32_45 c1_i32_47 k3_t12
  let c16_i32_147 : BitVec 32 := 16#32
  let v338 : BitVec 32 := Scalar.muli arg14 c16_i32_147
  let v340 : Index := Scalar.indexCast v338
  ![30, v340.toNat]
def k3_off395 (k3_t12 : Fin k3_t12_loop.trips) : Fin 2 → Nat :=
  let c31_i32 : BitVec 32 := 31#32
  let v349 : Index := Scalar.indexCast c31_i32
  let c0_i32_45 : BitVec 32 := 0#32
  let c1_i32_47 : BitVec 32 := 1#32
  let arg14 : BitVec 32 := Scf.iv c0_i32_45 c1_i32_47 k3_t12
  let c16_i32_149 : BitVec 32 := 16#32
  let v348 : BitVec 32 := Scalar.muli arg14 c16_i32_149
  let v350 : Index := Scalar.indexCast v348
  ![31, v350.toNat]
def k3_off396 (k3_t12 : Fin k3_t12_loop.trips) : Fin 1 → Nat :=
  let c22528_i32 : BitVec 32 := 22528#32
  let c0_i32_45 : BitVec 32 := 0#32
  let c1_i32_47 : BitVec 32 := 1#32
  let arg14 : BitVec 32 := Scf.iv c0_i32_45 c1_i32_47 k3_t12
  let c16_i32_151 : BitVec 32 := 16#32
  let v364 : BitVec 32 := Scalar.muli arg14 c16_i32_151
  let v365 : BitVec 32 := Scalar.addi c22528_i32 v364
  let v366 : Index := Scalar.indexCast v365
  ![v366.toNat]
@[reducible] def k3_t13_loop : Scf.Loop 32 :=
  let c0_i32_49 : BitVec 32 := 0#32
  let c128_i32_50 : BitVec 32 := 128#32
  let v28 : BitVec 32 := Scalar.addi c0_i32_49 c128_i32_50
  let c1_i32_51 : BitVec 32 := 1#32
  ⟨c0_i32_49, v28, c1_i32_51⟩
def k3_off397 (k3_t13 : Fin k3_t13_loop.trips) : Fin 2 → Nat :=
  let c0_i32_71 : BitVec 32 := 0#32
  let v39 : Index := Scalar.indexCast c0_i32_71
  let c0_i32_49 : BitVec 32 := 0#32
  let c1_i32_51 : BitVec 32 := 1#32
  let arg14 : BitVec 32 := Scf.iv c0_i32_49 c1_i32_51 k3_t13
  let c16_i32_70 : BitVec 32 := 16#32
  let v38 : BitVec 32 := Scalar.muli arg14 c16_i32_70
  let v40 : Index := Scalar.indexCast v38
  ![0, v40.toNat]
def k3_off398 (k3_t13 : Fin k3_t13_loop.trips) : Fin 2 → Nat :=
  let c1_i32_74 : BitVec 32 := 1#32
  let v49 : Index := Scalar.indexCast c1_i32_74
  let c0_i32_49 : BitVec 32 := 0#32
  let c1_i32_51 : BitVec 32 := 1#32
  let arg14 : BitVec 32 := Scf.iv c0_i32_49 c1_i32_51 k3_t13
  let c16_i32_73 : BitVec 32 := 16#32
  let v48 : BitVec 32 := Scalar.muli arg14 c16_i32_73
  let v50 : Index := Scalar.indexCast v48
  ![1, v50.toNat]
def k3_off399 (k3_t13 : Fin k3_t13_loop.trips) : Fin 2 → Nat :=
  let c2_i32_77 : BitVec 32 := 2#32
  let v59 : Index := Scalar.indexCast c2_i32_77
  let c0_i32_49 : BitVec 32 := 0#32
  let c1_i32_51 : BitVec 32 := 1#32
  let arg14 : BitVec 32 := Scf.iv c0_i32_49 c1_i32_51 k3_t13
  let c16_i32_76 : BitVec 32 := 16#32
  let v58 : BitVec 32 := Scalar.muli arg14 c16_i32_76
  let v60 : Index := Scalar.indexCast v58
  ![2, v60.toNat]
def k3_off400 (k3_t13 : Fin k3_t13_loop.trips) : Fin 2 → Nat :=
  let c3_i32_80 : BitVec 32 := 3#32
  let v69 : Index := Scalar.indexCast c3_i32_80
  let c0_i32_49 : BitVec 32 := 0#32
  let c1_i32_51 : BitVec 32 := 1#32
  let arg14 : BitVec 32 := Scf.iv c0_i32_49 c1_i32_51 k3_t13
  let c16_i32_79 : BitVec 32 := 16#32
  let v68 : BitVec 32 := Scalar.muli arg14 c16_i32_79
  let v70 : Index := Scalar.indexCast v68
  ![3, v70.toNat]
def k3_off401 (k3_t13 : Fin k3_t13_loop.trips) : Fin 2 → Nat :=
  let c4_i32_83 : BitVec 32 := 4#32
  let v79 : Index := Scalar.indexCast c4_i32_83
  let c0_i32_49 : BitVec 32 := 0#32
  let c1_i32_51 : BitVec 32 := 1#32
  let arg14 : BitVec 32 := Scf.iv c0_i32_49 c1_i32_51 k3_t13
  let c16_i32_82 : BitVec 32 := 16#32
  let v78 : BitVec 32 := Scalar.muli arg14 c16_i32_82
  let v80 : Index := Scalar.indexCast v78
  ![4, v80.toNat]
def k3_off402 (k3_t13 : Fin k3_t13_loop.trips) : Fin 2 → Nat :=
  let c5_i32_86 : BitVec 32 := 5#32
  let v89 : Index := Scalar.indexCast c5_i32_86
  let c0_i32_49 : BitVec 32 := 0#32
  let c1_i32_51 : BitVec 32 := 1#32
  let arg14 : BitVec 32 := Scf.iv c0_i32_49 c1_i32_51 k3_t13
  let c16_i32_85 : BitVec 32 := 16#32
  let v88 : BitVec 32 := Scalar.muli arg14 c16_i32_85
  let v90 : Index := Scalar.indexCast v88
  ![5, v90.toNat]
def k3_off403 (k3_t13 : Fin k3_t13_loop.trips) : Fin 2 → Nat :=
  let c6_i32_89 : BitVec 32 := 6#32
  let v99 : Index := Scalar.indexCast c6_i32_89
  let c0_i32_49 : BitVec 32 := 0#32
  let c1_i32_51 : BitVec 32 := 1#32
  let arg14 : BitVec 32 := Scf.iv c0_i32_49 c1_i32_51 k3_t13
  let c16_i32_88 : BitVec 32 := 16#32
  let v98 : BitVec 32 := Scalar.muli arg14 c16_i32_88
  let v100 : Index := Scalar.indexCast v98
  ![6, v100.toNat]
def k3_off404 (k3_t13 : Fin k3_t13_loop.trips) : Fin 2 → Nat :=
  let c7_i32_92 : BitVec 32 := 7#32
  let v109 : Index := Scalar.indexCast c7_i32_92
  let c0_i32_49 : BitVec 32 := 0#32
  let c1_i32_51 : BitVec 32 := 1#32
  let arg14 : BitVec 32 := Scf.iv c0_i32_49 c1_i32_51 k3_t13
  let c16_i32_91 : BitVec 32 := 16#32
  let v108 : BitVec 32 := Scalar.muli arg14 c16_i32_91
  let v110 : Index := Scalar.indexCast v108
  ![7, v110.toNat]
def k3_off405 (k3_t13 : Fin k3_t13_loop.trips) : Fin 2 → Nat :=
  let c8_i32_95 : BitVec 32 := 8#32
  let v119 : Index := Scalar.indexCast c8_i32_95
  let c0_i32_49 : BitVec 32 := 0#32
  let c1_i32_51 : BitVec 32 := 1#32
  let arg14 : BitVec 32 := Scf.iv c0_i32_49 c1_i32_51 k3_t13
  let c16_i32_94 : BitVec 32 := 16#32
  let v118 : BitVec 32 := Scalar.muli arg14 c16_i32_94
  let v120 : Index := Scalar.indexCast v118
  ![8, v120.toNat]
def k3_off406 (k3_t13 : Fin k3_t13_loop.trips) : Fin 2 → Nat :=
  let c9_i32_98 : BitVec 32 := 9#32
  let v129 : Index := Scalar.indexCast c9_i32_98
  let c0_i32_49 : BitVec 32 := 0#32
  let c1_i32_51 : BitVec 32 := 1#32
  let arg14 : BitVec 32 := Scf.iv c0_i32_49 c1_i32_51 k3_t13
  let c16_i32_97 : BitVec 32 := 16#32
  let v128 : BitVec 32 := Scalar.muli arg14 c16_i32_97
  let v130 : Index := Scalar.indexCast v128
  ![9, v130.toNat]
def k3_off407 (k3_t13 : Fin k3_t13_loop.trips) : Fin 2 → Nat :=
  let c10_i32_101 : BitVec 32 := 10#32
  let v139 : Index := Scalar.indexCast c10_i32_101
  let c0_i32_49 : BitVec 32 := 0#32
  let c1_i32_51 : BitVec 32 := 1#32
  let arg14 : BitVec 32 := Scf.iv c0_i32_49 c1_i32_51 k3_t13
  let c16_i32_100 : BitVec 32 := 16#32
  let v138 : BitVec 32 := Scalar.muli arg14 c16_i32_100
  let v140 : Index := Scalar.indexCast v138
  ![10, v140.toNat]
def k3_off408 (k3_t13 : Fin k3_t13_loop.trips) : Fin 2 → Nat :=
  let c11_i32_104 : BitVec 32 := 11#32
  let v149 : Index := Scalar.indexCast c11_i32_104
  let c0_i32_49 : BitVec 32 := 0#32
  let c1_i32_51 : BitVec 32 := 1#32
  let arg14 : BitVec 32 := Scf.iv c0_i32_49 c1_i32_51 k3_t13
  let c16_i32_103 : BitVec 32 := 16#32
  let v148 : BitVec 32 := Scalar.muli arg14 c16_i32_103
  let v150 : Index := Scalar.indexCast v148
  ![11, v150.toNat]
def k3_off409 (k3_t13 : Fin k3_t13_loop.trips) : Fin 2 → Nat :=
  let c12_i32_107 : BitVec 32 := 12#32
  let v159 : Index := Scalar.indexCast c12_i32_107
  let c0_i32_49 : BitVec 32 := 0#32
  let c1_i32_51 : BitVec 32 := 1#32
  let arg14 : BitVec 32 := Scf.iv c0_i32_49 c1_i32_51 k3_t13
  let c16_i32_106 : BitVec 32 := 16#32
  let v158 : BitVec 32 := Scalar.muli arg14 c16_i32_106
  let v160 : Index := Scalar.indexCast v158
  ![12, v160.toNat]
def k3_off410 (k3_t13 : Fin k3_t13_loop.trips) : Fin 2 → Nat :=
  let c13_i32_110 : BitVec 32 := 13#32
  let v169 : Index := Scalar.indexCast c13_i32_110
  let c0_i32_49 : BitVec 32 := 0#32
  let c1_i32_51 : BitVec 32 := 1#32
  let arg14 : BitVec 32 := Scf.iv c0_i32_49 c1_i32_51 k3_t13
  let c16_i32_109 : BitVec 32 := 16#32
  let v168 : BitVec 32 := Scalar.muli arg14 c16_i32_109
  let v170 : Index := Scalar.indexCast v168
  ![13, v170.toNat]
def k3_off411 (k3_t13 : Fin k3_t13_loop.trips) : Fin 2 → Nat :=
  let c14_i32_113 : BitVec 32 := 14#32
  let v179 : Index := Scalar.indexCast c14_i32_113
  let c0_i32_49 : BitVec 32 := 0#32
  let c1_i32_51 : BitVec 32 := 1#32
  let arg14 : BitVec 32 := Scf.iv c0_i32_49 c1_i32_51 k3_t13
  let c16_i32_112 : BitVec 32 := 16#32
  let v178 : BitVec 32 := Scalar.muli arg14 c16_i32_112
  let v180 : Index := Scalar.indexCast v178
  ![14, v180.toNat]
def k3_off412 (k3_t13 : Fin k3_t13_loop.trips) : Fin 2 → Nat :=
  let c15_i32_116 : BitVec 32 := 15#32
  let v189 : Index := Scalar.indexCast c15_i32_116
  let c0_i32_49 : BitVec 32 := 0#32
  let c1_i32_51 : BitVec 32 := 1#32
  let arg14 : BitVec 32 := Scf.iv c0_i32_49 c1_i32_51 k3_t13
  let c16_i32_115 : BitVec 32 := 16#32
  let v188 : BitVec 32 := Scalar.muli arg14 c16_i32_115
  let v190 : Index := Scalar.indexCast v188
  ![15, v190.toNat]
def k3_off413 (k3_t13 : Fin k3_t13_loop.trips) : Fin 2 → Nat :=
  let c16_i32_119 : BitVec 32 := 16#32
  let v199 : Index := Scalar.indexCast c16_i32_119
  let c0_i32_49 : BitVec 32 := 0#32
  let c1_i32_51 : BitVec 32 := 1#32
  let arg14 : BitVec 32 := Scf.iv c0_i32_49 c1_i32_51 k3_t13
  let c16_i32_118 : BitVec 32 := 16#32
  let v198 : BitVec 32 := Scalar.muli arg14 c16_i32_118
  let v200 : Index := Scalar.indexCast v198
  ![16, v200.toNat]
def k3_off414 (k3_t13 : Fin k3_t13_loop.trips) : Fin 2 → Nat :=
  let c17_i32 : BitVec 32 := 17#32
  let v209 : Index := Scalar.indexCast c17_i32
  let c0_i32_49 : BitVec 32 := 0#32
  let c1_i32_51 : BitVec 32 := 1#32
  let arg14 : BitVec 32 := Scf.iv c0_i32_49 c1_i32_51 k3_t13
  let c16_i32_121 : BitVec 32 := 16#32
  let v208 : BitVec 32 := Scalar.muli arg14 c16_i32_121
  let v210 : Index := Scalar.indexCast v208
  ![17, v210.toNat]
def k3_off415 (k3_t13 : Fin k3_t13_loop.trips) : Fin 2 → Nat :=
  let c18_i32 : BitVec 32 := 18#32
  let v219 : Index := Scalar.indexCast c18_i32
  let c0_i32_49 : BitVec 32 := 0#32
  let c1_i32_51 : BitVec 32 := 1#32
  let arg14 : BitVec 32 := Scf.iv c0_i32_49 c1_i32_51 k3_t13
  let c16_i32_123 : BitVec 32 := 16#32
  let v218 : BitVec 32 := Scalar.muli arg14 c16_i32_123
  let v220 : Index := Scalar.indexCast v218
  ![18, v220.toNat]
def k3_off416 (k3_t13 : Fin k3_t13_loop.trips) : Fin 2 → Nat :=
  let c19_i32 : BitVec 32 := 19#32
  let v229 : Index := Scalar.indexCast c19_i32
  let c0_i32_49 : BitVec 32 := 0#32
  let c1_i32_51 : BitVec 32 := 1#32
  let arg14 : BitVec 32 := Scf.iv c0_i32_49 c1_i32_51 k3_t13
  let c16_i32_125 : BitVec 32 := 16#32
  let v228 : BitVec 32 := Scalar.muli arg14 c16_i32_125
  let v230 : Index := Scalar.indexCast v228
  ![19, v230.toNat]
def k3_off417 (k3_t13 : Fin k3_t13_loop.trips) : Fin 2 → Nat :=
  let c20_i32 : BitVec 32 := 20#32
  let v239 : Index := Scalar.indexCast c20_i32
  let c0_i32_49 : BitVec 32 := 0#32
  let c1_i32_51 : BitVec 32 := 1#32
  let arg14 : BitVec 32 := Scf.iv c0_i32_49 c1_i32_51 k3_t13
  let c16_i32_127 : BitVec 32 := 16#32
  let v238 : BitVec 32 := Scalar.muli arg14 c16_i32_127
  let v240 : Index := Scalar.indexCast v238
  ![20, v240.toNat]
def k3_off418 (k3_t13 : Fin k3_t13_loop.trips) : Fin 2 → Nat :=
  let c21_i32 : BitVec 32 := 21#32
  let v249 : Index := Scalar.indexCast c21_i32
  let c0_i32_49 : BitVec 32 := 0#32
  let c1_i32_51 : BitVec 32 := 1#32
  let arg14 : BitVec 32 := Scf.iv c0_i32_49 c1_i32_51 k3_t13
  let c16_i32_129 : BitVec 32 := 16#32
  let v248 : BitVec 32 := Scalar.muli arg14 c16_i32_129
  let v250 : Index := Scalar.indexCast v248
  ![21, v250.toNat]
def k3_off419 (k3_t13 : Fin k3_t13_loop.trips) : Fin 2 → Nat :=
  let c22_i32 : BitVec 32 := 22#32
  let v259 : Index := Scalar.indexCast c22_i32
  let c0_i32_49 : BitVec 32 := 0#32
  let c1_i32_51 : BitVec 32 := 1#32
  let arg14 : BitVec 32 := Scf.iv c0_i32_49 c1_i32_51 k3_t13
  let c16_i32_131 : BitVec 32 := 16#32
  let v258 : BitVec 32 := Scalar.muli arg14 c16_i32_131
  let v260 : Index := Scalar.indexCast v258
  ![22, v260.toNat]
def k3_off420 (k3_t13 : Fin k3_t13_loop.trips) : Fin 2 → Nat :=
  let c23_i32 : BitVec 32 := 23#32
  let v269 : Index := Scalar.indexCast c23_i32
  let c0_i32_49 : BitVec 32 := 0#32
  let c1_i32_51 : BitVec 32 := 1#32
  let arg14 : BitVec 32 := Scf.iv c0_i32_49 c1_i32_51 k3_t13
  let c16_i32_133 : BitVec 32 := 16#32
  let v268 : BitVec 32 := Scalar.muli arg14 c16_i32_133
  let v270 : Index := Scalar.indexCast v268
  ![23, v270.toNat]
def k3_off421 (k3_t13 : Fin k3_t13_loop.trips) : Fin 2 → Nat :=
  let c24_i32 : BitVec 32 := 24#32
  let v279 : Index := Scalar.indexCast c24_i32
  let c0_i32_49 : BitVec 32 := 0#32
  let c1_i32_51 : BitVec 32 := 1#32
  let arg14 : BitVec 32 := Scf.iv c0_i32_49 c1_i32_51 k3_t13
  let c16_i32_135 : BitVec 32 := 16#32
  let v278 : BitVec 32 := Scalar.muli arg14 c16_i32_135
  let v280 : Index := Scalar.indexCast v278
  ![24, v280.toNat]
def k3_off422 (k3_t13 : Fin k3_t13_loop.trips) : Fin 2 → Nat :=
  let c25_i32 : BitVec 32 := 25#32
  let v289 : Index := Scalar.indexCast c25_i32
  let c0_i32_49 : BitVec 32 := 0#32
  let c1_i32_51 : BitVec 32 := 1#32
  let arg14 : BitVec 32 := Scf.iv c0_i32_49 c1_i32_51 k3_t13
  let c16_i32_137 : BitVec 32 := 16#32
  let v288 : BitVec 32 := Scalar.muli arg14 c16_i32_137
  let v290 : Index := Scalar.indexCast v288
  ![25, v290.toNat]
def k3_off423 (k3_t13 : Fin k3_t13_loop.trips) : Fin 2 → Nat :=
  let c26_i32 : BitVec 32 := 26#32
  let v299 : Index := Scalar.indexCast c26_i32
  let c0_i32_49 : BitVec 32 := 0#32
  let c1_i32_51 : BitVec 32 := 1#32
  let arg14 : BitVec 32 := Scf.iv c0_i32_49 c1_i32_51 k3_t13
  let c16_i32_139 : BitVec 32 := 16#32
  let v298 : BitVec 32 := Scalar.muli arg14 c16_i32_139
  let v300 : Index := Scalar.indexCast v298
  ![26, v300.toNat]
def k3_off424 (k3_t13 : Fin k3_t13_loop.trips) : Fin 2 → Nat :=
  let c27_i32 : BitVec 32 := 27#32
  let v309 : Index := Scalar.indexCast c27_i32
  let c0_i32_49 : BitVec 32 := 0#32
  let c1_i32_51 : BitVec 32 := 1#32
  let arg14 : BitVec 32 := Scf.iv c0_i32_49 c1_i32_51 k3_t13
  let c16_i32_141 : BitVec 32 := 16#32
  let v308 : BitVec 32 := Scalar.muli arg14 c16_i32_141
  let v310 : Index := Scalar.indexCast v308
  ![27, v310.toNat]
def k3_off425 (k3_t13 : Fin k3_t13_loop.trips) : Fin 2 → Nat :=
  let c28_i32 : BitVec 32 := 28#32
  let v319 : Index := Scalar.indexCast c28_i32
  let c0_i32_49 : BitVec 32 := 0#32
  let c1_i32_51 : BitVec 32 := 1#32
  let arg14 : BitVec 32 := Scf.iv c0_i32_49 c1_i32_51 k3_t13
  let c16_i32_143 : BitVec 32 := 16#32
  let v318 : BitVec 32 := Scalar.muli arg14 c16_i32_143
  let v320 : Index := Scalar.indexCast v318
  ![28, v320.toNat]
def k3_off426 (k3_t13 : Fin k3_t13_loop.trips) : Fin 2 → Nat :=
  let c29_i32 : BitVec 32 := 29#32
  let v329 : Index := Scalar.indexCast c29_i32
  let c0_i32_49 : BitVec 32 := 0#32
  let c1_i32_51 : BitVec 32 := 1#32
  let arg14 : BitVec 32 := Scf.iv c0_i32_49 c1_i32_51 k3_t13
  let c16_i32_145 : BitVec 32 := 16#32
  let v328 : BitVec 32 := Scalar.muli arg14 c16_i32_145
  let v330 : Index := Scalar.indexCast v328
  ![29, v330.toNat]
def k3_off427 (k3_t13 : Fin k3_t13_loop.trips) : Fin 2 → Nat :=
  let c30_i32 : BitVec 32 := 30#32
  let v339 : Index := Scalar.indexCast c30_i32
  let c0_i32_49 : BitVec 32 := 0#32
  let c1_i32_51 : BitVec 32 := 1#32
  let arg14 : BitVec 32 := Scf.iv c0_i32_49 c1_i32_51 k3_t13
  let c16_i32_147 : BitVec 32 := 16#32
  let v338 : BitVec 32 := Scalar.muli arg14 c16_i32_147
  let v340 : Index := Scalar.indexCast v338
  ![30, v340.toNat]
def k3_off428 (k3_t13 : Fin k3_t13_loop.trips) : Fin 2 → Nat :=
  let c31_i32 : BitVec 32 := 31#32
  let v349 : Index := Scalar.indexCast c31_i32
  let c0_i32_49 : BitVec 32 := 0#32
  let c1_i32_51 : BitVec 32 := 1#32
  let arg14 : BitVec 32 := Scf.iv c0_i32_49 c1_i32_51 k3_t13
  let c16_i32_149 : BitVec 32 := 16#32
  let v348 : BitVec 32 := Scalar.muli arg14 c16_i32_149
  let v350 : Index := Scalar.indexCast v348
  ![31, v350.toNat]
def k3_off429 (k3_t13 : Fin k3_t13_loop.trips) : Fin 1 → Nat :=
  let c24576_i32 : BitVec 32 := 24576#32
  let c0_i32_49 : BitVec 32 := 0#32
  let c1_i32_51 : BitVec 32 := 1#32
  let arg14 : BitVec 32 := Scf.iv c0_i32_49 c1_i32_51 k3_t13
  let c16_i32_151 : BitVec 32 := 16#32
  let v364 : BitVec 32 := Scalar.muli arg14 c16_i32_151
  let v365 : BitVec 32 := Scalar.addi c24576_i32 v364
  let v366 : Index := Scalar.indexCast v365
  ![v366.toNat]
@[reducible] def k3_t14_loop : Scf.Loop 32 :=
  let c0_i32_53 : BitVec 32 := 0#32
  let c128_i32_54 : BitVec 32 := 128#32
  let v30 : BitVec 32 := Scalar.addi c0_i32_53 c128_i32_54
  let c1_i32_55 : BitVec 32 := 1#32
  ⟨c0_i32_53, v30, c1_i32_55⟩
def k3_off430 (k3_t14 : Fin k3_t14_loop.trips) : Fin 2 → Nat :=
  let c0_i32_71 : BitVec 32 := 0#32
  let v39 : Index := Scalar.indexCast c0_i32_71
  let c0_i32_53 : BitVec 32 := 0#32
  let c1_i32_55 : BitVec 32 := 1#32
  let arg14 : BitVec 32 := Scf.iv c0_i32_53 c1_i32_55 k3_t14
  let c16_i32_70 : BitVec 32 := 16#32
  let v38 : BitVec 32 := Scalar.muli arg14 c16_i32_70
  let v40 : Index := Scalar.indexCast v38
  ![0, v40.toNat]
def k3_off431 (k3_t14 : Fin k3_t14_loop.trips) : Fin 2 → Nat :=
  let c1_i32_74 : BitVec 32 := 1#32
  let v49 : Index := Scalar.indexCast c1_i32_74
  let c0_i32_53 : BitVec 32 := 0#32
  let c1_i32_55 : BitVec 32 := 1#32
  let arg14 : BitVec 32 := Scf.iv c0_i32_53 c1_i32_55 k3_t14
  let c16_i32_73 : BitVec 32 := 16#32
  let v48 : BitVec 32 := Scalar.muli arg14 c16_i32_73
  let v50 : Index := Scalar.indexCast v48
  ![1, v50.toNat]
def k3_off432 (k3_t14 : Fin k3_t14_loop.trips) : Fin 2 → Nat :=
  let c2_i32_77 : BitVec 32 := 2#32
  let v59 : Index := Scalar.indexCast c2_i32_77
  let c0_i32_53 : BitVec 32 := 0#32
  let c1_i32_55 : BitVec 32 := 1#32
  let arg14 : BitVec 32 := Scf.iv c0_i32_53 c1_i32_55 k3_t14
  let c16_i32_76 : BitVec 32 := 16#32
  let v58 : BitVec 32 := Scalar.muli arg14 c16_i32_76
  let v60 : Index := Scalar.indexCast v58
  ![2, v60.toNat]
def k3_off433 (k3_t14 : Fin k3_t14_loop.trips) : Fin 2 → Nat :=
  let c3_i32_80 : BitVec 32 := 3#32
  let v69 : Index := Scalar.indexCast c3_i32_80
  let c0_i32_53 : BitVec 32 := 0#32
  let c1_i32_55 : BitVec 32 := 1#32
  let arg14 : BitVec 32 := Scf.iv c0_i32_53 c1_i32_55 k3_t14
  let c16_i32_79 : BitVec 32 := 16#32
  let v68 : BitVec 32 := Scalar.muli arg14 c16_i32_79
  let v70 : Index := Scalar.indexCast v68
  ![3, v70.toNat]
def k3_off434 (k3_t14 : Fin k3_t14_loop.trips) : Fin 2 → Nat :=
  let c4_i32_83 : BitVec 32 := 4#32
  let v79 : Index := Scalar.indexCast c4_i32_83
  let c0_i32_53 : BitVec 32 := 0#32
  let c1_i32_55 : BitVec 32 := 1#32
  let arg14 : BitVec 32 := Scf.iv c0_i32_53 c1_i32_55 k3_t14
  let c16_i32_82 : BitVec 32 := 16#32
  let v78 : BitVec 32 := Scalar.muli arg14 c16_i32_82
  let v80 : Index := Scalar.indexCast v78
  ![4, v80.toNat]
def k3_off435 (k3_t14 : Fin k3_t14_loop.trips) : Fin 2 → Nat :=
  let c5_i32_86 : BitVec 32 := 5#32
  let v89 : Index := Scalar.indexCast c5_i32_86
  let c0_i32_53 : BitVec 32 := 0#32
  let c1_i32_55 : BitVec 32 := 1#32
  let arg14 : BitVec 32 := Scf.iv c0_i32_53 c1_i32_55 k3_t14
  let c16_i32_85 : BitVec 32 := 16#32
  let v88 : BitVec 32 := Scalar.muli arg14 c16_i32_85
  let v90 : Index := Scalar.indexCast v88
  ![5, v90.toNat]
def k3_off436 (k3_t14 : Fin k3_t14_loop.trips) : Fin 2 → Nat :=
  let c6_i32_89 : BitVec 32 := 6#32
  let v99 : Index := Scalar.indexCast c6_i32_89
  let c0_i32_53 : BitVec 32 := 0#32
  let c1_i32_55 : BitVec 32 := 1#32
  let arg14 : BitVec 32 := Scf.iv c0_i32_53 c1_i32_55 k3_t14
  let c16_i32_88 : BitVec 32 := 16#32
  let v98 : BitVec 32 := Scalar.muli arg14 c16_i32_88
  let v100 : Index := Scalar.indexCast v98
  ![6, v100.toNat]
def k3_off437 (k3_t14 : Fin k3_t14_loop.trips) : Fin 2 → Nat :=
  let c7_i32_92 : BitVec 32 := 7#32
  let v109 : Index := Scalar.indexCast c7_i32_92
  let c0_i32_53 : BitVec 32 := 0#32
  let c1_i32_55 : BitVec 32 := 1#32
  let arg14 : BitVec 32 := Scf.iv c0_i32_53 c1_i32_55 k3_t14
  let c16_i32_91 : BitVec 32 := 16#32
  let v108 : BitVec 32 := Scalar.muli arg14 c16_i32_91
  let v110 : Index := Scalar.indexCast v108
  ![7, v110.toNat]
def k3_off438 (k3_t14 : Fin k3_t14_loop.trips) : Fin 2 → Nat :=
  let c8_i32_95 : BitVec 32 := 8#32
  let v119 : Index := Scalar.indexCast c8_i32_95
  let c0_i32_53 : BitVec 32 := 0#32
  let c1_i32_55 : BitVec 32 := 1#32
  let arg14 : BitVec 32 := Scf.iv c0_i32_53 c1_i32_55 k3_t14
  let c16_i32_94 : BitVec 32 := 16#32
  let v118 : BitVec 32 := Scalar.muli arg14 c16_i32_94
  let v120 : Index := Scalar.indexCast v118
  ![8, v120.toNat]
def k3_off439 (k3_t14 : Fin k3_t14_loop.trips) : Fin 2 → Nat :=
  let c9_i32_98 : BitVec 32 := 9#32
  let v129 : Index := Scalar.indexCast c9_i32_98
  let c0_i32_53 : BitVec 32 := 0#32
  let c1_i32_55 : BitVec 32 := 1#32
  let arg14 : BitVec 32 := Scf.iv c0_i32_53 c1_i32_55 k3_t14
  let c16_i32_97 : BitVec 32 := 16#32
  let v128 : BitVec 32 := Scalar.muli arg14 c16_i32_97
  let v130 : Index := Scalar.indexCast v128
  ![9, v130.toNat]
def k3_off440 (k3_t14 : Fin k3_t14_loop.trips) : Fin 2 → Nat :=
  let c10_i32_101 : BitVec 32 := 10#32
  let v139 : Index := Scalar.indexCast c10_i32_101
  let c0_i32_53 : BitVec 32 := 0#32
  let c1_i32_55 : BitVec 32 := 1#32
  let arg14 : BitVec 32 := Scf.iv c0_i32_53 c1_i32_55 k3_t14
  let c16_i32_100 : BitVec 32 := 16#32
  let v138 : BitVec 32 := Scalar.muli arg14 c16_i32_100
  let v140 : Index := Scalar.indexCast v138
  ![10, v140.toNat]
def k3_off441 (k3_t14 : Fin k3_t14_loop.trips) : Fin 2 → Nat :=
  let c11_i32_104 : BitVec 32 := 11#32
  let v149 : Index := Scalar.indexCast c11_i32_104
  let c0_i32_53 : BitVec 32 := 0#32
  let c1_i32_55 : BitVec 32 := 1#32
  let arg14 : BitVec 32 := Scf.iv c0_i32_53 c1_i32_55 k3_t14
  let c16_i32_103 : BitVec 32 := 16#32
  let v148 : BitVec 32 := Scalar.muli arg14 c16_i32_103
  let v150 : Index := Scalar.indexCast v148
  ![11, v150.toNat]
def k3_off442 (k3_t14 : Fin k3_t14_loop.trips) : Fin 2 → Nat :=
  let c12_i32_107 : BitVec 32 := 12#32
  let v159 : Index := Scalar.indexCast c12_i32_107
  let c0_i32_53 : BitVec 32 := 0#32
  let c1_i32_55 : BitVec 32 := 1#32
  let arg14 : BitVec 32 := Scf.iv c0_i32_53 c1_i32_55 k3_t14
  let c16_i32_106 : BitVec 32 := 16#32
  let v158 : BitVec 32 := Scalar.muli arg14 c16_i32_106
  let v160 : Index := Scalar.indexCast v158
  ![12, v160.toNat]
def k3_off443 (k3_t14 : Fin k3_t14_loop.trips) : Fin 2 → Nat :=
  let c13_i32_110 : BitVec 32 := 13#32
  let v169 : Index := Scalar.indexCast c13_i32_110
  let c0_i32_53 : BitVec 32 := 0#32
  let c1_i32_55 : BitVec 32 := 1#32
  let arg14 : BitVec 32 := Scf.iv c0_i32_53 c1_i32_55 k3_t14
  let c16_i32_109 : BitVec 32 := 16#32
  let v168 : BitVec 32 := Scalar.muli arg14 c16_i32_109
  let v170 : Index := Scalar.indexCast v168
  ![13, v170.toNat]
def k3_off444 (k3_t14 : Fin k3_t14_loop.trips) : Fin 2 → Nat :=
  let c14_i32_113 : BitVec 32 := 14#32
  let v179 : Index := Scalar.indexCast c14_i32_113
  let c0_i32_53 : BitVec 32 := 0#32
  let c1_i32_55 : BitVec 32 := 1#32
  let arg14 : BitVec 32 := Scf.iv c0_i32_53 c1_i32_55 k3_t14
  let c16_i32_112 : BitVec 32 := 16#32
  let v178 : BitVec 32 := Scalar.muli arg14 c16_i32_112
  let v180 : Index := Scalar.indexCast v178
  ![14, v180.toNat]
def k3_off445 (k3_t14 : Fin k3_t14_loop.trips) : Fin 2 → Nat :=
  let c15_i32_116 : BitVec 32 := 15#32
  let v189 : Index := Scalar.indexCast c15_i32_116
  let c0_i32_53 : BitVec 32 := 0#32
  let c1_i32_55 : BitVec 32 := 1#32
  let arg14 : BitVec 32 := Scf.iv c0_i32_53 c1_i32_55 k3_t14
  let c16_i32_115 : BitVec 32 := 16#32
  let v188 : BitVec 32 := Scalar.muli arg14 c16_i32_115
  let v190 : Index := Scalar.indexCast v188
  ![15, v190.toNat]
def k3_off446 (k3_t14 : Fin k3_t14_loop.trips) : Fin 2 → Nat :=
  let c16_i32_119 : BitVec 32 := 16#32
  let v199 : Index := Scalar.indexCast c16_i32_119
  let c0_i32_53 : BitVec 32 := 0#32
  let c1_i32_55 : BitVec 32 := 1#32
  let arg14 : BitVec 32 := Scf.iv c0_i32_53 c1_i32_55 k3_t14
  let c16_i32_118 : BitVec 32 := 16#32
  let v198 : BitVec 32 := Scalar.muli arg14 c16_i32_118
  let v200 : Index := Scalar.indexCast v198
  ![16, v200.toNat]
def k3_off447 (k3_t14 : Fin k3_t14_loop.trips) : Fin 2 → Nat :=
  let c17_i32 : BitVec 32 := 17#32
  let v209 : Index := Scalar.indexCast c17_i32
  let c0_i32_53 : BitVec 32 := 0#32
  let c1_i32_55 : BitVec 32 := 1#32
  let arg14 : BitVec 32 := Scf.iv c0_i32_53 c1_i32_55 k3_t14
  let c16_i32_121 : BitVec 32 := 16#32
  let v208 : BitVec 32 := Scalar.muli arg14 c16_i32_121
  let v210 : Index := Scalar.indexCast v208
  ![17, v210.toNat]
def k3_off448 (k3_t14 : Fin k3_t14_loop.trips) : Fin 2 → Nat :=
  let c18_i32 : BitVec 32 := 18#32
  let v219 : Index := Scalar.indexCast c18_i32
  let c0_i32_53 : BitVec 32 := 0#32
  let c1_i32_55 : BitVec 32 := 1#32
  let arg14 : BitVec 32 := Scf.iv c0_i32_53 c1_i32_55 k3_t14
  let c16_i32_123 : BitVec 32 := 16#32
  let v218 : BitVec 32 := Scalar.muli arg14 c16_i32_123
  let v220 : Index := Scalar.indexCast v218
  ![18, v220.toNat]
def k3_off449 (k3_t14 : Fin k3_t14_loop.trips) : Fin 2 → Nat :=
  let c19_i32 : BitVec 32 := 19#32
  let v229 : Index := Scalar.indexCast c19_i32
  let c0_i32_53 : BitVec 32 := 0#32
  let c1_i32_55 : BitVec 32 := 1#32
  let arg14 : BitVec 32 := Scf.iv c0_i32_53 c1_i32_55 k3_t14
  let c16_i32_125 : BitVec 32 := 16#32
  let v228 : BitVec 32 := Scalar.muli arg14 c16_i32_125
  let v230 : Index := Scalar.indexCast v228
  ![19, v230.toNat]
def k3_off450 (k3_t14 : Fin k3_t14_loop.trips) : Fin 2 → Nat :=
  let c20_i32 : BitVec 32 := 20#32
  let v239 : Index := Scalar.indexCast c20_i32
  let c0_i32_53 : BitVec 32 := 0#32
  let c1_i32_55 : BitVec 32 := 1#32
  let arg14 : BitVec 32 := Scf.iv c0_i32_53 c1_i32_55 k3_t14
  let c16_i32_127 : BitVec 32 := 16#32
  let v238 : BitVec 32 := Scalar.muli arg14 c16_i32_127
  let v240 : Index := Scalar.indexCast v238
  ![20, v240.toNat]
def k3_off451 (k3_t14 : Fin k3_t14_loop.trips) : Fin 2 → Nat :=
  let c21_i32 : BitVec 32 := 21#32
  let v249 : Index := Scalar.indexCast c21_i32
  let c0_i32_53 : BitVec 32 := 0#32
  let c1_i32_55 : BitVec 32 := 1#32
  let arg14 : BitVec 32 := Scf.iv c0_i32_53 c1_i32_55 k3_t14
  let c16_i32_129 : BitVec 32 := 16#32
  let v248 : BitVec 32 := Scalar.muli arg14 c16_i32_129
  let v250 : Index := Scalar.indexCast v248
  ![21, v250.toNat]
def k3_off452 (k3_t14 : Fin k3_t14_loop.trips) : Fin 2 → Nat :=
  let c22_i32 : BitVec 32 := 22#32
  let v259 : Index := Scalar.indexCast c22_i32
  let c0_i32_53 : BitVec 32 := 0#32
  let c1_i32_55 : BitVec 32 := 1#32
  let arg14 : BitVec 32 := Scf.iv c0_i32_53 c1_i32_55 k3_t14
  let c16_i32_131 : BitVec 32 := 16#32
  let v258 : BitVec 32 := Scalar.muli arg14 c16_i32_131
  let v260 : Index := Scalar.indexCast v258
  ![22, v260.toNat]
def k3_off453 (k3_t14 : Fin k3_t14_loop.trips) : Fin 2 → Nat :=
  let c23_i32 : BitVec 32 := 23#32
  let v269 : Index := Scalar.indexCast c23_i32
  let c0_i32_53 : BitVec 32 := 0#32
  let c1_i32_55 : BitVec 32 := 1#32
  let arg14 : BitVec 32 := Scf.iv c0_i32_53 c1_i32_55 k3_t14
  let c16_i32_133 : BitVec 32 := 16#32
  let v268 : BitVec 32 := Scalar.muli arg14 c16_i32_133
  let v270 : Index := Scalar.indexCast v268
  ![23, v270.toNat]
def k3_off454 (k3_t14 : Fin k3_t14_loop.trips) : Fin 2 → Nat :=
  let c24_i32 : BitVec 32 := 24#32
  let v279 : Index := Scalar.indexCast c24_i32
  let c0_i32_53 : BitVec 32 := 0#32
  let c1_i32_55 : BitVec 32 := 1#32
  let arg14 : BitVec 32 := Scf.iv c0_i32_53 c1_i32_55 k3_t14
  let c16_i32_135 : BitVec 32 := 16#32
  let v278 : BitVec 32 := Scalar.muli arg14 c16_i32_135
  let v280 : Index := Scalar.indexCast v278
  ![24, v280.toNat]
def k3_off455 (k3_t14 : Fin k3_t14_loop.trips) : Fin 2 → Nat :=
  let c25_i32 : BitVec 32 := 25#32
  let v289 : Index := Scalar.indexCast c25_i32
  let c0_i32_53 : BitVec 32 := 0#32
  let c1_i32_55 : BitVec 32 := 1#32
  let arg14 : BitVec 32 := Scf.iv c0_i32_53 c1_i32_55 k3_t14
  let c16_i32_137 : BitVec 32 := 16#32
  let v288 : BitVec 32 := Scalar.muli arg14 c16_i32_137
  let v290 : Index := Scalar.indexCast v288
  ![25, v290.toNat]
def k3_off456 (k3_t14 : Fin k3_t14_loop.trips) : Fin 2 → Nat :=
  let c26_i32 : BitVec 32 := 26#32
  let v299 : Index := Scalar.indexCast c26_i32
  let c0_i32_53 : BitVec 32 := 0#32
  let c1_i32_55 : BitVec 32 := 1#32
  let arg14 : BitVec 32 := Scf.iv c0_i32_53 c1_i32_55 k3_t14
  let c16_i32_139 : BitVec 32 := 16#32
  let v298 : BitVec 32 := Scalar.muli arg14 c16_i32_139
  let v300 : Index := Scalar.indexCast v298
  ![26, v300.toNat]
def k3_off457 (k3_t14 : Fin k3_t14_loop.trips) : Fin 2 → Nat :=
  let c27_i32 : BitVec 32 := 27#32
  let v309 : Index := Scalar.indexCast c27_i32
  let c0_i32_53 : BitVec 32 := 0#32
  let c1_i32_55 : BitVec 32 := 1#32
  let arg14 : BitVec 32 := Scf.iv c0_i32_53 c1_i32_55 k3_t14
  let c16_i32_141 : BitVec 32 := 16#32
  let v308 : BitVec 32 := Scalar.muli arg14 c16_i32_141
  let v310 : Index := Scalar.indexCast v308
  ![27, v310.toNat]
def k3_off458 (k3_t14 : Fin k3_t14_loop.trips) : Fin 2 → Nat :=
  let c28_i32 : BitVec 32 := 28#32
  let v319 : Index := Scalar.indexCast c28_i32
  let c0_i32_53 : BitVec 32 := 0#32
  let c1_i32_55 : BitVec 32 := 1#32
  let arg14 : BitVec 32 := Scf.iv c0_i32_53 c1_i32_55 k3_t14
  let c16_i32_143 : BitVec 32 := 16#32
  let v318 : BitVec 32 := Scalar.muli arg14 c16_i32_143
  let v320 : Index := Scalar.indexCast v318
  ![28, v320.toNat]
def k3_off459 (k3_t14 : Fin k3_t14_loop.trips) : Fin 2 → Nat :=
  let c29_i32 : BitVec 32 := 29#32
  let v329 : Index := Scalar.indexCast c29_i32
  let c0_i32_53 : BitVec 32 := 0#32
  let c1_i32_55 : BitVec 32 := 1#32
  let arg14 : BitVec 32 := Scf.iv c0_i32_53 c1_i32_55 k3_t14
  let c16_i32_145 : BitVec 32 := 16#32
  let v328 : BitVec 32 := Scalar.muli arg14 c16_i32_145
  let v330 : Index := Scalar.indexCast v328
  ![29, v330.toNat]
def k3_off460 (k3_t14 : Fin k3_t14_loop.trips) : Fin 2 → Nat :=
  let c30_i32 : BitVec 32 := 30#32
  let v339 : Index := Scalar.indexCast c30_i32
  let c0_i32_53 : BitVec 32 := 0#32
  let c1_i32_55 : BitVec 32 := 1#32
  let arg14 : BitVec 32 := Scf.iv c0_i32_53 c1_i32_55 k3_t14
  let c16_i32_147 : BitVec 32 := 16#32
  let v338 : BitVec 32 := Scalar.muli arg14 c16_i32_147
  let v340 : Index := Scalar.indexCast v338
  ![30, v340.toNat]
def k3_off461 (k3_t14 : Fin k3_t14_loop.trips) : Fin 2 → Nat :=
  let c31_i32 : BitVec 32 := 31#32
  let v349 : Index := Scalar.indexCast c31_i32
  let c0_i32_53 : BitVec 32 := 0#32
  let c1_i32_55 : BitVec 32 := 1#32
  let arg14 : BitVec 32 := Scf.iv c0_i32_53 c1_i32_55 k3_t14
  let c16_i32_149 : BitVec 32 := 16#32
  let v348 : BitVec 32 := Scalar.muli arg14 c16_i32_149
  let v350 : Index := Scalar.indexCast v348
  ![31, v350.toNat]
def k3_off462 (k3_t14 : Fin k3_t14_loop.trips) : Fin 1 → Nat :=
  let c26624_i32 : BitVec 32 := 26624#32
  let c0_i32_53 : BitVec 32 := 0#32
  let c1_i32_55 : BitVec 32 := 1#32
  let arg14 : BitVec 32 := Scf.iv c0_i32_53 c1_i32_55 k3_t14
  let c16_i32_151 : BitVec 32 := 16#32
  let v364 : BitVec 32 := Scalar.muli arg14 c16_i32_151
  let v365 : BitVec 32 := Scalar.addi c26624_i32 v364
  let v366 : Index := Scalar.indexCast v365
  ![v366.toNat]
@[reducible] def k3_t15_loop : Scf.Loop 32 :=
  let c0_i32_57 : BitVec 32 := 0#32
  let c128_i32_58 : BitVec 32 := 128#32
  let v32 : BitVec 32 := Scalar.addi c0_i32_57 c128_i32_58
  let c1_i32_59 : BitVec 32 := 1#32
  ⟨c0_i32_57, v32, c1_i32_59⟩
def k3_off463 (k3_t15 : Fin k3_t15_loop.trips) : Fin 2 → Nat :=
  let c0_i32_71 : BitVec 32 := 0#32
  let v39 : Index := Scalar.indexCast c0_i32_71
  let c0_i32_57 : BitVec 32 := 0#32
  let c1_i32_59 : BitVec 32 := 1#32
  let arg14 : BitVec 32 := Scf.iv c0_i32_57 c1_i32_59 k3_t15
  let c16_i32_70 : BitVec 32 := 16#32
  let v38 : BitVec 32 := Scalar.muli arg14 c16_i32_70
  let v40 : Index := Scalar.indexCast v38
  ![0, v40.toNat]
def k3_off464 (k3_t15 : Fin k3_t15_loop.trips) : Fin 2 → Nat :=
  let c1_i32_74 : BitVec 32 := 1#32
  let v49 : Index := Scalar.indexCast c1_i32_74
  let c0_i32_57 : BitVec 32 := 0#32
  let c1_i32_59 : BitVec 32 := 1#32
  let arg14 : BitVec 32 := Scf.iv c0_i32_57 c1_i32_59 k3_t15
  let c16_i32_73 : BitVec 32 := 16#32
  let v48 : BitVec 32 := Scalar.muli arg14 c16_i32_73
  let v50 : Index := Scalar.indexCast v48
  ![1, v50.toNat]
def k3_off465 (k3_t15 : Fin k3_t15_loop.trips) : Fin 2 → Nat :=
  let c2_i32_77 : BitVec 32 := 2#32
  let v59 : Index := Scalar.indexCast c2_i32_77
  let c0_i32_57 : BitVec 32 := 0#32
  let c1_i32_59 : BitVec 32 := 1#32
  let arg14 : BitVec 32 := Scf.iv c0_i32_57 c1_i32_59 k3_t15
  let c16_i32_76 : BitVec 32 := 16#32
  let v58 : BitVec 32 := Scalar.muli arg14 c16_i32_76
  let v60 : Index := Scalar.indexCast v58
  ![2, v60.toNat]
def k3_off466 (k3_t15 : Fin k3_t15_loop.trips) : Fin 2 → Nat :=
  let c3_i32_80 : BitVec 32 := 3#32
  let v69 : Index := Scalar.indexCast c3_i32_80
  let c0_i32_57 : BitVec 32 := 0#32
  let c1_i32_59 : BitVec 32 := 1#32
  let arg14 : BitVec 32 := Scf.iv c0_i32_57 c1_i32_59 k3_t15
  let c16_i32_79 : BitVec 32 := 16#32
  let v68 : BitVec 32 := Scalar.muli arg14 c16_i32_79
  let v70 : Index := Scalar.indexCast v68
  ![3, v70.toNat]
def k3_off467 (k3_t15 : Fin k3_t15_loop.trips) : Fin 2 → Nat :=
  let c4_i32_83 : BitVec 32 := 4#32
  let v79 : Index := Scalar.indexCast c4_i32_83
  let c0_i32_57 : BitVec 32 := 0#32
  let c1_i32_59 : BitVec 32 := 1#32
  let arg14 : BitVec 32 := Scf.iv c0_i32_57 c1_i32_59 k3_t15
  let c16_i32_82 : BitVec 32 := 16#32
  let v78 : BitVec 32 := Scalar.muli arg14 c16_i32_82
  let v80 : Index := Scalar.indexCast v78
  ![4, v80.toNat]
def k3_off468 (k3_t15 : Fin k3_t15_loop.trips) : Fin 2 → Nat :=
  let c5_i32_86 : BitVec 32 := 5#32
  let v89 : Index := Scalar.indexCast c5_i32_86
  let c0_i32_57 : BitVec 32 := 0#32
  let c1_i32_59 : BitVec 32 := 1#32
  let arg14 : BitVec 32 := Scf.iv c0_i32_57 c1_i32_59 k3_t15
  let c16_i32_85 : BitVec 32 := 16#32
  let v88 : BitVec 32 := Scalar.muli arg14 c16_i32_85
  let v90 : Index := Scalar.indexCast v88
  ![5, v90.toNat]
def k3_off469 (k3_t15 : Fin k3_t15_loop.trips) : Fin 2 → Nat :=
  let c6_i32_89 : BitVec 32 := 6#32
  let v99 : Index := Scalar.indexCast c6_i32_89
  let c0_i32_57 : BitVec 32 := 0#32
  let c1_i32_59 : BitVec 32 := 1#32
  let arg14 : BitVec 32 := Scf.iv c0_i32_57 c1_i32_59 k3_t15
  let c16_i32_88 : BitVec 32 := 16#32
  let v98 : BitVec 32 := Scalar.muli arg14 c16_i32_88
  let v100 : Index := Scalar.indexCast v98
  ![6, v100.toNat]
def k3_off470 (k3_t15 : Fin k3_t15_loop.trips) : Fin 2 → Nat :=
  let c7_i32_92 : BitVec 32 := 7#32
  let v109 : Index := Scalar.indexCast c7_i32_92
  let c0_i32_57 : BitVec 32 := 0#32
  let c1_i32_59 : BitVec 32 := 1#32
  let arg14 : BitVec 32 := Scf.iv c0_i32_57 c1_i32_59 k3_t15
  let c16_i32_91 : BitVec 32 := 16#32
  let v108 : BitVec 32 := Scalar.muli arg14 c16_i32_91
  let v110 : Index := Scalar.indexCast v108
  ![7, v110.toNat]
def k3_off471 (k3_t15 : Fin k3_t15_loop.trips) : Fin 2 → Nat :=
  let c8_i32_95 : BitVec 32 := 8#32
  let v119 : Index := Scalar.indexCast c8_i32_95
  let c0_i32_57 : BitVec 32 := 0#32
  let c1_i32_59 : BitVec 32 := 1#32
  let arg14 : BitVec 32 := Scf.iv c0_i32_57 c1_i32_59 k3_t15
  let c16_i32_94 : BitVec 32 := 16#32
  let v118 : BitVec 32 := Scalar.muli arg14 c16_i32_94
  let v120 : Index := Scalar.indexCast v118
  ![8, v120.toNat]
def k3_off472 (k3_t15 : Fin k3_t15_loop.trips) : Fin 2 → Nat :=
  let c9_i32_98 : BitVec 32 := 9#32
  let v129 : Index := Scalar.indexCast c9_i32_98
  let c0_i32_57 : BitVec 32 := 0#32
  let c1_i32_59 : BitVec 32 := 1#32
  let arg14 : BitVec 32 := Scf.iv c0_i32_57 c1_i32_59 k3_t15
  let c16_i32_97 : BitVec 32 := 16#32
  let v128 : BitVec 32 := Scalar.muli arg14 c16_i32_97
  let v130 : Index := Scalar.indexCast v128
  ![9, v130.toNat]
def k3_off473 (k3_t15 : Fin k3_t15_loop.trips) : Fin 2 → Nat :=
  let c10_i32_101 : BitVec 32 := 10#32
  let v139 : Index := Scalar.indexCast c10_i32_101
  let c0_i32_57 : BitVec 32 := 0#32
  let c1_i32_59 : BitVec 32 := 1#32
  let arg14 : BitVec 32 := Scf.iv c0_i32_57 c1_i32_59 k3_t15
  let c16_i32_100 : BitVec 32 := 16#32
  let v138 : BitVec 32 := Scalar.muli arg14 c16_i32_100
  let v140 : Index := Scalar.indexCast v138
  ![10, v140.toNat]
def k3_off474 (k3_t15 : Fin k3_t15_loop.trips) : Fin 2 → Nat :=
  let c11_i32_104 : BitVec 32 := 11#32
  let v149 : Index := Scalar.indexCast c11_i32_104
  let c0_i32_57 : BitVec 32 := 0#32
  let c1_i32_59 : BitVec 32 := 1#32
  let arg14 : BitVec 32 := Scf.iv c0_i32_57 c1_i32_59 k3_t15
  let c16_i32_103 : BitVec 32 := 16#32
  let v148 : BitVec 32 := Scalar.muli arg14 c16_i32_103
  let v150 : Index := Scalar.indexCast v148
  ![11, v150.toNat]
def k3_off475 (k3_t15 : Fin k3_t15_loop.trips) : Fin 2 → Nat :=
  let c12_i32_107 : BitVec 32 := 12#32
  let v159 : Index := Scalar.indexCast c12_i32_107
  let c0_i32_57 : BitVec 32 := 0#32
  let c1_i32_59 : BitVec 32 := 1#32
  let arg14 : BitVec 32 := Scf.iv c0_i32_57 c1_i32_59 k3_t15
  let c16_i32_106 : BitVec 32 := 16#32
  let v158 : BitVec 32 := Scalar.muli arg14 c16_i32_106
  let v160 : Index := Scalar.indexCast v158
  ![12, v160.toNat]
def k3_off476 (k3_t15 : Fin k3_t15_loop.trips) : Fin 2 → Nat :=
  let c13_i32_110 : BitVec 32 := 13#32
  let v169 : Index := Scalar.indexCast c13_i32_110
  let c0_i32_57 : BitVec 32 := 0#32
  let c1_i32_59 : BitVec 32 := 1#32
  let arg14 : BitVec 32 := Scf.iv c0_i32_57 c1_i32_59 k3_t15
  let c16_i32_109 : BitVec 32 := 16#32
  let v168 : BitVec 32 := Scalar.muli arg14 c16_i32_109
  let v170 : Index := Scalar.indexCast v168
  ![13, v170.toNat]
def k3_off477 (k3_t15 : Fin k3_t15_loop.trips) : Fin 2 → Nat :=
  let c14_i32_113 : BitVec 32 := 14#32
  let v179 : Index := Scalar.indexCast c14_i32_113
  let c0_i32_57 : BitVec 32 := 0#32
  let c1_i32_59 : BitVec 32 := 1#32
  let arg14 : BitVec 32 := Scf.iv c0_i32_57 c1_i32_59 k3_t15
  let c16_i32_112 : BitVec 32 := 16#32
  let v178 : BitVec 32 := Scalar.muli arg14 c16_i32_112
  let v180 : Index := Scalar.indexCast v178
  ![14, v180.toNat]
def k3_off478 (k3_t15 : Fin k3_t15_loop.trips) : Fin 2 → Nat :=
  let c15_i32_116 : BitVec 32 := 15#32
  let v189 : Index := Scalar.indexCast c15_i32_116
  let c0_i32_57 : BitVec 32 := 0#32
  let c1_i32_59 : BitVec 32 := 1#32
  let arg14 : BitVec 32 := Scf.iv c0_i32_57 c1_i32_59 k3_t15
  let c16_i32_115 : BitVec 32 := 16#32
  let v188 : BitVec 32 := Scalar.muli arg14 c16_i32_115
  let v190 : Index := Scalar.indexCast v188
  ![15, v190.toNat]
def k3_off479 (k3_t15 : Fin k3_t15_loop.trips) : Fin 2 → Nat :=
  let c16_i32_119 : BitVec 32 := 16#32
  let v199 : Index := Scalar.indexCast c16_i32_119
  let c0_i32_57 : BitVec 32 := 0#32
  let c1_i32_59 : BitVec 32 := 1#32
  let arg14 : BitVec 32 := Scf.iv c0_i32_57 c1_i32_59 k3_t15
  let c16_i32_118 : BitVec 32 := 16#32
  let v198 : BitVec 32 := Scalar.muli arg14 c16_i32_118
  let v200 : Index := Scalar.indexCast v198
  ![16, v200.toNat]
def k3_off480 (k3_t15 : Fin k3_t15_loop.trips) : Fin 2 → Nat :=
  let c17_i32 : BitVec 32 := 17#32
  let v209 : Index := Scalar.indexCast c17_i32
  let c0_i32_57 : BitVec 32 := 0#32
  let c1_i32_59 : BitVec 32 := 1#32
  let arg14 : BitVec 32 := Scf.iv c0_i32_57 c1_i32_59 k3_t15
  let c16_i32_121 : BitVec 32 := 16#32
  let v208 : BitVec 32 := Scalar.muli arg14 c16_i32_121
  let v210 : Index := Scalar.indexCast v208
  ![17, v210.toNat]
def k3_off481 (k3_t15 : Fin k3_t15_loop.trips) : Fin 2 → Nat :=
  let c18_i32 : BitVec 32 := 18#32
  let v219 : Index := Scalar.indexCast c18_i32
  let c0_i32_57 : BitVec 32 := 0#32
  let c1_i32_59 : BitVec 32 := 1#32
  let arg14 : BitVec 32 := Scf.iv c0_i32_57 c1_i32_59 k3_t15
  let c16_i32_123 : BitVec 32 := 16#32
  let v218 : BitVec 32 := Scalar.muli arg14 c16_i32_123
  let v220 : Index := Scalar.indexCast v218
  ![18, v220.toNat]
def k3_off482 (k3_t15 : Fin k3_t15_loop.trips) : Fin 2 → Nat :=
  let c19_i32 : BitVec 32 := 19#32
  let v229 : Index := Scalar.indexCast c19_i32
  let c0_i32_57 : BitVec 32 := 0#32
  let c1_i32_59 : BitVec 32 := 1#32
  let arg14 : BitVec 32 := Scf.iv c0_i32_57 c1_i32_59 k3_t15
  let c16_i32_125 : BitVec 32 := 16#32
  let v228 : BitVec 32 := Scalar.muli arg14 c16_i32_125
  let v230 : Index := Scalar.indexCast v228
  ![19, v230.toNat]
def k3_off483 (k3_t15 : Fin k3_t15_loop.trips) : Fin 2 → Nat :=
  let c20_i32 : BitVec 32 := 20#32
  let v239 : Index := Scalar.indexCast c20_i32
  let c0_i32_57 : BitVec 32 := 0#32
  let c1_i32_59 : BitVec 32 := 1#32
  let arg14 : BitVec 32 := Scf.iv c0_i32_57 c1_i32_59 k3_t15
  let c16_i32_127 : BitVec 32 := 16#32
  let v238 : BitVec 32 := Scalar.muli arg14 c16_i32_127
  let v240 : Index := Scalar.indexCast v238
  ![20, v240.toNat]
def k3_off484 (k3_t15 : Fin k3_t15_loop.trips) : Fin 2 → Nat :=
  let c21_i32 : BitVec 32 := 21#32
  let v249 : Index := Scalar.indexCast c21_i32
  let c0_i32_57 : BitVec 32 := 0#32
  let c1_i32_59 : BitVec 32 := 1#32
  let arg14 : BitVec 32 := Scf.iv c0_i32_57 c1_i32_59 k3_t15
  let c16_i32_129 : BitVec 32 := 16#32
  let v248 : BitVec 32 := Scalar.muli arg14 c16_i32_129
  let v250 : Index := Scalar.indexCast v248
  ![21, v250.toNat]
def k3_off485 (k3_t15 : Fin k3_t15_loop.trips) : Fin 2 → Nat :=
  let c22_i32 : BitVec 32 := 22#32
  let v259 : Index := Scalar.indexCast c22_i32
  let c0_i32_57 : BitVec 32 := 0#32
  let c1_i32_59 : BitVec 32 := 1#32
  let arg14 : BitVec 32 := Scf.iv c0_i32_57 c1_i32_59 k3_t15
  let c16_i32_131 : BitVec 32 := 16#32
  let v258 : BitVec 32 := Scalar.muli arg14 c16_i32_131
  let v260 : Index := Scalar.indexCast v258
  ![22, v260.toNat]
def k3_off486 (k3_t15 : Fin k3_t15_loop.trips) : Fin 2 → Nat :=
  let c23_i32 : BitVec 32 := 23#32
  let v269 : Index := Scalar.indexCast c23_i32
  let c0_i32_57 : BitVec 32 := 0#32
  let c1_i32_59 : BitVec 32 := 1#32
  let arg14 : BitVec 32 := Scf.iv c0_i32_57 c1_i32_59 k3_t15
  let c16_i32_133 : BitVec 32 := 16#32
  let v268 : BitVec 32 := Scalar.muli arg14 c16_i32_133
  let v270 : Index := Scalar.indexCast v268
  ![23, v270.toNat]
def k3_off487 (k3_t15 : Fin k3_t15_loop.trips) : Fin 2 → Nat :=
  let c24_i32 : BitVec 32 := 24#32
  let v279 : Index := Scalar.indexCast c24_i32
  let c0_i32_57 : BitVec 32 := 0#32
  let c1_i32_59 : BitVec 32 := 1#32
  let arg14 : BitVec 32 := Scf.iv c0_i32_57 c1_i32_59 k3_t15
  let c16_i32_135 : BitVec 32 := 16#32
  let v278 : BitVec 32 := Scalar.muli arg14 c16_i32_135
  let v280 : Index := Scalar.indexCast v278
  ![24, v280.toNat]
def k3_off488 (k3_t15 : Fin k3_t15_loop.trips) : Fin 2 → Nat :=
  let c25_i32 : BitVec 32 := 25#32
  let v289 : Index := Scalar.indexCast c25_i32
  let c0_i32_57 : BitVec 32 := 0#32
  let c1_i32_59 : BitVec 32 := 1#32
  let arg14 : BitVec 32 := Scf.iv c0_i32_57 c1_i32_59 k3_t15
  let c16_i32_137 : BitVec 32 := 16#32
  let v288 : BitVec 32 := Scalar.muli arg14 c16_i32_137
  let v290 : Index := Scalar.indexCast v288
  ![25, v290.toNat]
def k3_off489 (k3_t15 : Fin k3_t15_loop.trips) : Fin 2 → Nat :=
  let c26_i32 : BitVec 32 := 26#32
  let v299 : Index := Scalar.indexCast c26_i32
  let c0_i32_57 : BitVec 32 := 0#32
  let c1_i32_59 : BitVec 32 := 1#32
  let arg14 : BitVec 32 := Scf.iv c0_i32_57 c1_i32_59 k3_t15
  let c16_i32_139 : BitVec 32 := 16#32
  let v298 : BitVec 32 := Scalar.muli arg14 c16_i32_139
  let v300 : Index := Scalar.indexCast v298
  ![26, v300.toNat]
def k3_off490 (k3_t15 : Fin k3_t15_loop.trips) : Fin 2 → Nat :=
  let c27_i32 : BitVec 32 := 27#32
  let v309 : Index := Scalar.indexCast c27_i32
  let c0_i32_57 : BitVec 32 := 0#32
  let c1_i32_59 : BitVec 32 := 1#32
  let arg14 : BitVec 32 := Scf.iv c0_i32_57 c1_i32_59 k3_t15
  let c16_i32_141 : BitVec 32 := 16#32
  let v308 : BitVec 32 := Scalar.muli arg14 c16_i32_141
  let v310 : Index := Scalar.indexCast v308
  ![27, v310.toNat]
def k3_off491 (k3_t15 : Fin k3_t15_loop.trips) : Fin 2 → Nat :=
  let c28_i32 : BitVec 32 := 28#32
  let v319 : Index := Scalar.indexCast c28_i32
  let c0_i32_57 : BitVec 32 := 0#32
  let c1_i32_59 : BitVec 32 := 1#32
  let arg14 : BitVec 32 := Scf.iv c0_i32_57 c1_i32_59 k3_t15
  let c16_i32_143 : BitVec 32 := 16#32
  let v318 : BitVec 32 := Scalar.muli arg14 c16_i32_143
  let v320 : Index := Scalar.indexCast v318
  ![28, v320.toNat]
def k3_off492 (k3_t15 : Fin k3_t15_loop.trips) : Fin 2 → Nat :=
  let c29_i32 : BitVec 32 := 29#32
  let v329 : Index := Scalar.indexCast c29_i32
  let c0_i32_57 : BitVec 32 := 0#32
  let c1_i32_59 : BitVec 32 := 1#32
  let arg14 : BitVec 32 := Scf.iv c0_i32_57 c1_i32_59 k3_t15
  let c16_i32_145 : BitVec 32 := 16#32
  let v328 : BitVec 32 := Scalar.muli arg14 c16_i32_145
  let v330 : Index := Scalar.indexCast v328
  ![29, v330.toNat]
def k3_off493 (k3_t15 : Fin k3_t15_loop.trips) : Fin 2 → Nat :=
  let c30_i32 : BitVec 32 := 30#32
  let v339 : Index := Scalar.indexCast c30_i32
  let c0_i32_57 : BitVec 32 := 0#32
  let c1_i32_59 : BitVec 32 := 1#32
  let arg14 : BitVec 32 := Scf.iv c0_i32_57 c1_i32_59 k3_t15
  let c16_i32_147 : BitVec 32 := 16#32
  let v338 : BitVec 32 := Scalar.muli arg14 c16_i32_147
  let v340 : Index := Scalar.indexCast v338
  ![30, v340.toNat]
def k3_off494 (k3_t15 : Fin k3_t15_loop.trips) : Fin 2 → Nat :=
  let c31_i32 : BitVec 32 := 31#32
  let v349 : Index := Scalar.indexCast c31_i32
  let c0_i32_57 : BitVec 32 := 0#32
  let c1_i32_59 : BitVec 32 := 1#32
  let arg14 : BitVec 32 := Scf.iv c0_i32_57 c1_i32_59 k3_t15
  let c16_i32_149 : BitVec 32 := 16#32
  let v348 : BitVec 32 := Scalar.muli arg14 c16_i32_149
  let v350 : Index := Scalar.indexCast v348
  ![31, v350.toNat]
def k3_off495 (k3_t15 : Fin k3_t15_loop.trips) : Fin 1 → Nat :=
  let c28672_i32 : BitVec 32 := 28672#32
  let c0_i32_57 : BitVec 32 := 0#32
  let c1_i32_59 : BitVec 32 := 1#32
  let arg14 : BitVec 32 := Scf.iv c0_i32_57 c1_i32_59 k3_t15
  let c16_i32_151 : BitVec 32 := 16#32
  let v364 : BitVec 32 := Scalar.muli arg14 c16_i32_151
  let v365 : BitVec 32 := Scalar.addi c28672_i32 v364
  let v366 : Index := Scalar.indexCast v365
  ![v366.toNat]
@[reducible] def k3_t16_loop : Scf.Loop 32 :=
  let c0_i32_61 : BitVec 32 := 0#32
  let c128_i32_62 : BitVec 32 := 128#32
  let v34 : BitVec 32 := Scalar.addi c0_i32_61 c128_i32_62
  let c1_i32_63 : BitVec 32 := 1#32
  ⟨c0_i32_61, v34, c1_i32_63⟩
def k3_off496 (k3_t16 : Fin k3_t16_loop.trips) : Fin 2 → Nat :=
  let c0_i32_71 : BitVec 32 := 0#32
  let v39 : Index := Scalar.indexCast c0_i32_71
  let c0_i32_61 : BitVec 32 := 0#32
  let c1_i32_63 : BitVec 32 := 1#32
  let arg14 : BitVec 32 := Scf.iv c0_i32_61 c1_i32_63 k3_t16
  let c16_i32_70 : BitVec 32 := 16#32
  let v38 : BitVec 32 := Scalar.muli arg14 c16_i32_70
  let v40 : Index := Scalar.indexCast v38
  ![0, v40.toNat]
def k3_off497 (k3_t16 : Fin k3_t16_loop.trips) : Fin 2 → Nat :=
  let c1_i32_74 : BitVec 32 := 1#32
  let v49 : Index := Scalar.indexCast c1_i32_74
  let c0_i32_61 : BitVec 32 := 0#32
  let c1_i32_63 : BitVec 32 := 1#32
  let arg14 : BitVec 32 := Scf.iv c0_i32_61 c1_i32_63 k3_t16
  let c16_i32_73 : BitVec 32 := 16#32
  let v48 : BitVec 32 := Scalar.muli arg14 c16_i32_73
  let v50 : Index := Scalar.indexCast v48
  ![1, v50.toNat]
def k3_off498 (k3_t16 : Fin k3_t16_loop.trips) : Fin 2 → Nat :=
  let c2_i32_77 : BitVec 32 := 2#32
  let v59 : Index := Scalar.indexCast c2_i32_77
  let c0_i32_61 : BitVec 32 := 0#32
  let c1_i32_63 : BitVec 32 := 1#32
  let arg14 : BitVec 32 := Scf.iv c0_i32_61 c1_i32_63 k3_t16
  let c16_i32_76 : BitVec 32 := 16#32
  let v58 : BitVec 32 := Scalar.muli arg14 c16_i32_76
  let v60 : Index := Scalar.indexCast v58
  ![2, v60.toNat]
def k3_off499 (k3_t16 : Fin k3_t16_loop.trips) : Fin 2 → Nat :=
  let c3_i32_80 : BitVec 32 := 3#32
  let v69 : Index := Scalar.indexCast c3_i32_80
  let c0_i32_61 : BitVec 32 := 0#32
  let c1_i32_63 : BitVec 32 := 1#32
  let arg14 : BitVec 32 := Scf.iv c0_i32_61 c1_i32_63 k3_t16
  let c16_i32_79 : BitVec 32 := 16#32
  let v68 : BitVec 32 := Scalar.muli arg14 c16_i32_79
  let v70 : Index := Scalar.indexCast v68
  ![3, v70.toNat]
def k3_off500 (k3_t16 : Fin k3_t16_loop.trips) : Fin 2 → Nat :=
  let c4_i32_83 : BitVec 32 := 4#32
  let v79 : Index := Scalar.indexCast c4_i32_83
  let c0_i32_61 : BitVec 32 := 0#32
  let c1_i32_63 : BitVec 32 := 1#32
  let arg14 : BitVec 32 := Scf.iv c0_i32_61 c1_i32_63 k3_t16
  let c16_i32_82 : BitVec 32 := 16#32
  let v78 : BitVec 32 := Scalar.muli arg14 c16_i32_82
  let v80 : Index := Scalar.indexCast v78
  ![4, v80.toNat]
def k3_off501 (k3_t16 : Fin k3_t16_loop.trips) : Fin 2 → Nat :=
  let c5_i32_86 : BitVec 32 := 5#32
  let v89 : Index := Scalar.indexCast c5_i32_86
  let c0_i32_61 : BitVec 32 := 0#32
  let c1_i32_63 : BitVec 32 := 1#32
  let arg14 : BitVec 32 := Scf.iv c0_i32_61 c1_i32_63 k3_t16
  let c16_i32_85 : BitVec 32 := 16#32
  let v88 : BitVec 32 := Scalar.muli arg14 c16_i32_85
  let v90 : Index := Scalar.indexCast v88
  ![5, v90.toNat]
def k3_off502 (k3_t16 : Fin k3_t16_loop.trips) : Fin 2 → Nat :=
  let c6_i32_89 : BitVec 32 := 6#32
  let v99 : Index := Scalar.indexCast c6_i32_89
  let c0_i32_61 : BitVec 32 := 0#32
  let c1_i32_63 : BitVec 32 := 1#32
  let arg14 : BitVec 32 := Scf.iv c0_i32_61 c1_i32_63 k3_t16
  let c16_i32_88 : BitVec 32 := 16#32
  let v98 : BitVec 32 := Scalar.muli arg14 c16_i32_88
  let v100 : Index := Scalar.indexCast v98
  ![6, v100.toNat]
def k3_off503 (k3_t16 : Fin k3_t16_loop.trips) : Fin 2 → Nat :=
  let c7_i32_92 : BitVec 32 := 7#32
  let v109 : Index := Scalar.indexCast c7_i32_92
  let c0_i32_61 : BitVec 32 := 0#32
  let c1_i32_63 : BitVec 32 := 1#32
  let arg14 : BitVec 32 := Scf.iv c0_i32_61 c1_i32_63 k3_t16
  let c16_i32_91 : BitVec 32 := 16#32
  let v108 : BitVec 32 := Scalar.muli arg14 c16_i32_91
  let v110 : Index := Scalar.indexCast v108
  ![7, v110.toNat]
def k3_off504 (k3_t16 : Fin k3_t16_loop.trips) : Fin 2 → Nat :=
  let c8_i32_95 : BitVec 32 := 8#32
  let v119 : Index := Scalar.indexCast c8_i32_95
  let c0_i32_61 : BitVec 32 := 0#32
  let c1_i32_63 : BitVec 32 := 1#32
  let arg14 : BitVec 32 := Scf.iv c0_i32_61 c1_i32_63 k3_t16
  let c16_i32_94 : BitVec 32 := 16#32
  let v118 : BitVec 32 := Scalar.muli arg14 c16_i32_94
  let v120 : Index := Scalar.indexCast v118
  ![8, v120.toNat]
def k3_off505 (k3_t16 : Fin k3_t16_loop.trips) : Fin 2 → Nat :=
  let c9_i32_98 : BitVec 32 := 9#32
  let v129 : Index := Scalar.indexCast c9_i32_98
  let c0_i32_61 : BitVec 32 := 0#32
  let c1_i32_63 : BitVec 32 := 1#32
  let arg14 : BitVec 32 := Scf.iv c0_i32_61 c1_i32_63 k3_t16
  let c16_i32_97 : BitVec 32 := 16#32
  let v128 : BitVec 32 := Scalar.muli arg14 c16_i32_97
  let v130 : Index := Scalar.indexCast v128
  ![9, v130.toNat]
def k3_off506 (k3_t16 : Fin k3_t16_loop.trips) : Fin 2 → Nat :=
  let c10_i32_101 : BitVec 32 := 10#32
  let v139 : Index := Scalar.indexCast c10_i32_101
  let c0_i32_61 : BitVec 32 := 0#32
  let c1_i32_63 : BitVec 32 := 1#32
  let arg14 : BitVec 32 := Scf.iv c0_i32_61 c1_i32_63 k3_t16
  let c16_i32_100 : BitVec 32 := 16#32
  let v138 : BitVec 32 := Scalar.muli arg14 c16_i32_100
  let v140 : Index := Scalar.indexCast v138
  ![10, v140.toNat]
def k3_off507 (k3_t16 : Fin k3_t16_loop.trips) : Fin 2 → Nat :=
  let c11_i32_104 : BitVec 32 := 11#32
  let v149 : Index := Scalar.indexCast c11_i32_104
  let c0_i32_61 : BitVec 32 := 0#32
  let c1_i32_63 : BitVec 32 := 1#32
  let arg14 : BitVec 32 := Scf.iv c0_i32_61 c1_i32_63 k3_t16
  let c16_i32_103 : BitVec 32 := 16#32
  let v148 : BitVec 32 := Scalar.muli arg14 c16_i32_103
  let v150 : Index := Scalar.indexCast v148
  ![11, v150.toNat]
def k3_off508 (k3_t16 : Fin k3_t16_loop.trips) : Fin 2 → Nat :=
  let c12_i32_107 : BitVec 32 := 12#32
  let v159 : Index := Scalar.indexCast c12_i32_107
  let c0_i32_61 : BitVec 32 := 0#32
  let c1_i32_63 : BitVec 32 := 1#32
  let arg14 : BitVec 32 := Scf.iv c0_i32_61 c1_i32_63 k3_t16
  let c16_i32_106 : BitVec 32 := 16#32
  let v158 : BitVec 32 := Scalar.muli arg14 c16_i32_106
  let v160 : Index := Scalar.indexCast v158
  ![12, v160.toNat]
def k3_off509 (k3_t16 : Fin k3_t16_loop.trips) : Fin 2 → Nat :=
  let c13_i32_110 : BitVec 32 := 13#32
  let v169 : Index := Scalar.indexCast c13_i32_110
  let c0_i32_61 : BitVec 32 := 0#32
  let c1_i32_63 : BitVec 32 := 1#32
  let arg14 : BitVec 32 := Scf.iv c0_i32_61 c1_i32_63 k3_t16
  let c16_i32_109 : BitVec 32 := 16#32
  let v168 : BitVec 32 := Scalar.muli arg14 c16_i32_109
  let v170 : Index := Scalar.indexCast v168
  ![13, v170.toNat]
def k3_off510 (k3_t16 : Fin k3_t16_loop.trips) : Fin 2 → Nat :=
  let c14_i32_113 : BitVec 32 := 14#32
  let v179 : Index := Scalar.indexCast c14_i32_113
  let c0_i32_61 : BitVec 32 := 0#32
  let c1_i32_63 : BitVec 32 := 1#32
  let arg14 : BitVec 32 := Scf.iv c0_i32_61 c1_i32_63 k3_t16
  let c16_i32_112 : BitVec 32 := 16#32
  let v178 : BitVec 32 := Scalar.muli arg14 c16_i32_112
  let v180 : Index := Scalar.indexCast v178
  ![14, v180.toNat]
def k3_off511 (k3_t16 : Fin k3_t16_loop.trips) : Fin 2 → Nat :=
  let c15_i32_116 : BitVec 32 := 15#32
  let v189 : Index := Scalar.indexCast c15_i32_116
  let c0_i32_61 : BitVec 32 := 0#32
  let c1_i32_63 : BitVec 32 := 1#32
  let arg14 : BitVec 32 := Scf.iv c0_i32_61 c1_i32_63 k3_t16
  let c16_i32_115 : BitVec 32 := 16#32
  let v188 : BitVec 32 := Scalar.muli arg14 c16_i32_115
  let v190 : Index := Scalar.indexCast v188
  ![15, v190.toNat]
def k3_off512 (k3_t16 : Fin k3_t16_loop.trips) : Fin 2 → Nat :=
  let c16_i32_119 : BitVec 32 := 16#32
  let v199 : Index := Scalar.indexCast c16_i32_119
  let c0_i32_61 : BitVec 32 := 0#32
  let c1_i32_63 : BitVec 32 := 1#32
  let arg14 : BitVec 32 := Scf.iv c0_i32_61 c1_i32_63 k3_t16
  let c16_i32_118 : BitVec 32 := 16#32
  let v198 : BitVec 32 := Scalar.muli arg14 c16_i32_118
  let v200 : Index := Scalar.indexCast v198
  ![16, v200.toNat]
def k3_off513 (k3_t16 : Fin k3_t16_loop.trips) : Fin 2 → Nat :=
  let c17_i32 : BitVec 32 := 17#32
  let v209 : Index := Scalar.indexCast c17_i32
  let c0_i32_61 : BitVec 32 := 0#32
  let c1_i32_63 : BitVec 32 := 1#32
  let arg14 : BitVec 32 := Scf.iv c0_i32_61 c1_i32_63 k3_t16
  let c16_i32_121 : BitVec 32 := 16#32
  let v208 : BitVec 32 := Scalar.muli arg14 c16_i32_121
  let v210 : Index := Scalar.indexCast v208
  ![17, v210.toNat]
def k3_off514 (k3_t16 : Fin k3_t16_loop.trips) : Fin 2 → Nat :=
  let c18_i32 : BitVec 32 := 18#32
  let v219 : Index := Scalar.indexCast c18_i32
  let c0_i32_61 : BitVec 32 := 0#32
  let c1_i32_63 : BitVec 32 := 1#32
  let arg14 : BitVec 32 := Scf.iv c0_i32_61 c1_i32_63 k3_t16
  let c16_i32_123 : BitVec 32 := 16#32
  let v218 : BitVec 32 := Scalar.muli arg14 c16_i32_123
  let v220 : Index := Scalar.indexCast v218
  ![18, v220.toNat]
def k3_off515 (k3_t16 : Fin k3_t16_loop.trips) : Fin 2 → Nat :=
  let c19_i32 : BitVec 32 := 19#32
  let v229 : Index := Scalar.indexCast c19_i32
  let c0_i32_61 : BitVec 32 := 0#32
  let c1_i32_63 : BitVec 32 := 1#32
  let arg14 : BitVec 32 := Scf.iv c0_i32_61 c1_i32_63 k3_t16
  let c16_i32_125 : BitVec 32 := 16#32
  let v228 : BitVec 32 := Scalar.muli arg14 c16_i32_125
  let v230 : Index := Scalar.indexCast v228
  ![19, v230.toNat]
def k3_off516 (k3_t16 : Fin k3_t16_loop.trips) : Fin 2 → Nat :=
  let c20_i32 : BitVec 32 := 20#32
  let v239 : Index := Scalar.indexCast c20_i32
  let c0_i32_61 : BitVec 32 := 0#32
  let c1_i32_63 : BitVec 32 := 1#32
  let arg14 : BitVec 32 := Scf.iv c0_i32_61 c1_i32_63 k3_t16
  let c16_i32_127 : BitVec 32 := 16#32
  let v238 : BitVec 32 := Scalar.muli arg14 c16_i32_127
  let v240 : Index := Scalar.indexCast v238
  ![20, v240.toNat]
def k3_off517 (k3_t16 : Fin k3_t16_loop.trips) : Fin 2 → Nat :=
  let c21_i32 : BitVec 32 := 21#32
  let v249 : Index := Scalar.indexCast c21_i32
  let c0_i32_61 : BitVec 32 := 0#32
  let c1_i32_63 : BitVec 32 := 1#32
  let arg14 : BitVec 32 := Scf.iv c0_i32_61 c1_i32_63 k3_t16
  let c16_i32_129 : BitVec 32 := 16#32
  let v248 : BitVec 32 := Scalar.muli arg14 c16_i32_129
  let v250 : Index := Scalar.indexCast v248
  ![21, v250.toNat]
def k3_off518 (k3_t16 : Fin k3_t16_loop.trips) : Fin 2 → Nat :=
  let c22_i32 : BitVec 32 := 22#32
  let v259 : Index := Scalar.indexCast c22_i32
  let c0_i32_61 : BitVec 32 := 0#32
  let c1_i32_63 : BitVec 32 := 1#32
  let arg14 : BitVec 32 := Scf.iv c0_i32_61 c1_i32_63 k3_t16
  let c16_i32_131 : BitVec 32 := 16#32
  let v258 : BitVec 32 := Scalar.muli arg14 c16_i32_131
  let v260 : Index := Scalar.indexCast v258
  ![22, v260.toNat]
def k3_off519 (k3_t16 : Fin k3_t16_loop.trips) : Fin 2 → Nat :=
  let c23_i32 : BitVec 32 := 23#32
  let v269 : Index := Scalar.indexCast c23_i32
  let c0_i32_61 : BitVec 32 := 0#32
  let c1_i32_63 : BitVec 32 := 1#32
  let arg14 : BitVec 32 := Scf.iv c0_i32_61 c1_i32_63 k3_t16
  let c16_i32_133 : BitVec 32 := 16#32
  let v268 : BitVec 32 := Scalar.muli arg14 c16_i32_133
  let v270 : Index := Scalar.indexCast v268
  ![23, v270.toNat]
def k3_off520 (k3_t16 : Fin k3_t16_loop.trips) : Fin 2 → Nat :=
  let c24_i32 : BitVec 32 := 24#32
  let v279 : Index := Scalar.indexCast c24_i32
  let c0_i32_61 : BitVec 32 := 0#32
  let c1_i32_63 : BitVec 32 := 1#32
  let arg14 : BitVec 32 := Scf.iv c0_i32_61 c1_i32_63 k3_t16
  let c16_i32_135 : BitVec 32 := 16#32
  let v278 : BitVec 32 := Scalar.muli arg14 c16_i32_135
  let v280 : Index := Scalar.indexCast v278
  ![24, v280.toNat]
def k3_off521 (k3_t16 : Fin k3_t16_loop.trips) : Fin 2 → Nat :=
  let c25_i32 : BitVec 32 := 25#32
  let v289 : Index := Scalar.indexCast c25_i32
  let c0_i32_61 : BitVec 32 := 0#32
  let c1_i32_63 : BitVec 32 := 1#32
  let arg14 : BitVec 32 := Scf.iv c0_i32_61 c1_i32_63 k3_t16
  let c16_i32_137 : BitVec 32 := 16#32
  let v288 : BitVec 32 := Scalar.muli arg14 c16_i32_137
  let v290 : Index := Scalar.indexCast v288
  ![25, v290.toNat]
def k3_off522 (k3_t16 : Fin k3_t16_loop.trips) : Fin 2 → Nat :=
  let c26_i32 : BitVec 32 := 26#32
  let v299 : Index := Scalar.indexCast c26_i32
  let c0_i32_61 : BitVec 32 := 0#32
  let c1_i32_63 : BitVec 32 := 1#32
  let arg14 : BitVec 32 := Scf.iv c0_i32_61 c1_i32_63 k3_t16
  let c16_i32_139 : BitVec 32 := 16#32
  let v298 : BitVec 32 := Scalar.muli arg14 c16_i32_139
  let v300 : Index := Scalar.indexCast v298
  ![26, v300.toNat]
def k3_off523 (k3_t16 : Fin k3_t16_loop.trips) : Fin 2 → Nat :=
  let c27_i32 : BitVec 32 := 27#32
  let v309 : Index := Scalar.indexCast c27_i32
  let c0_i32_61 : BitVec 32 := 0#32
  let c1_i32_63 : BitVec 32 := 1#32
  let arg14 : BitVec 32 := Scf.iv c0_i32_61 c1_i32_63 k3_t16
  let c16_i32_141 : BitVec 32 := 16#32
  let v308 : BitVec 32 := Scalar.muli arg14 c16_i32_141
  let v310 : Index := Scalar.indexCast v308
  ![27, v310.toNat]
def k3_off524 (k3_t16 : Fin k3_t16_loop.trips) : Fin 2 → Nat :=
  let c28_i32 : BitVec 32 := 28#32
  let v319 : Index := Scalar.indexCast c28_i32
  let c0_i32_61 : BitVec 32 := 0#32
  let c1_i32_63 : BitVec 32 := 1#32
  let arg14 : BitVec 32 := Scf.iv c0_i32_61 c1_i32_63 k3_t16
  let c16_i32_143 : BitVec 32 := 16#32
  let v318 : BitVec 32 := Scalar.muli arg14 c16_i32_143
  let v320 : Index := Scalar.indexCast v318
  ![28, v320.toNat]
def k3_off525 (k3_t16 : Fin k3_t16_loop.trips) : Fin 2 → Nat :=
  let c29_i32 : BitVec 32 := 29#32
  let v329 : Index := Scalar.indexCast c29_i32
  let c0_i32_61 : BitVec 32 := 0#32
  let c1_i32_63 : BitVec 32 := 1#32
  let arg14 : BitVec 32 := Scf.iv c0_i32_61 c1_i32_63 k3_t16
  let c16_i32_145 : BitVec 32 := 16#32
  let v328 : BitVec 32 := Scalar.muli arg14 c16_i32_145
  let v330 : Index := Scalar.indexCast v328
  ![29, v330.toNat]
def k3_off526 (k3_t16 : Fin k3_t16_loop.trips) : Fin 2 → Nat :=
  let c30_i32 : BitVec 32 := 30#32
  let v339 : Index := Scalar.indexCast c30_i32
  let c0_i32_61 : BitVec 32 := 0#32
  let c1_i32_63 : BitVec 32 := 1#32
  let arg14 : BitVec 32 := Scf.iv c0_i32_61 c1_i32_63 k3_t16
  let c16_i32_147 : BitVec 32 := 16#32
  let v338 : BitVec 32 := Scalar.muli arg14 c16_i32_147
  let v340 : Index := Scalar.indexCast v338
  ![30, v340.toNat]
def k3_off527 (k3_t16 : Fin k3_t16_loop.trips) : Fin 2 → Nat :=
  let c31_i32 : BitVec 32 := 31#32
  let v349 : Index := Scalar.indexCast c31_i32
  let c0_i32_61 : BitVec 32 := 0#32
  let c1_i32_63 : BitVec 32 := 1#32
  let arg14 : BitVec 32 := Scf.iv c0_i32_61 c1_i32_63 k3_t16
  let c16_i32_149 : BitVec 32 := 16#32
  let v348 : BitVec 32 := Scalar.muli arg14 c16_i32_149
  let v350 : Index := Scalar.indexCast v348
  ![31, v350.toNat]
def k3_off528 (k3_t16 : Fin k3_t16_loop.trips) : Fin 1 → Nat :=
  let c30720_i32 : BitVec 32 := 30720#32
  let c0_i32_61 : BitVec 32 := 0#32
  let c1_i32_63 : BitVec 32 := 1#32
  let arg14 : BitVec 32 := Scf.iv c0_i32_61 c1_i32_63 k3_t16
  let c16_i32_151 : BitVec 32 := 16#32
  let v364 : BitVec 32 := Scalar.muli arg14 c16_i32_151
  let v365 : BitVec 32 := Scalar.addi c30720_i32 v364
  let v366 : Index := Scalar.indexCast v365
  ![v366.toNat]
@[reducible] def k3_t17_loop : Scf.Loop 32 :=
  let c0_i32_66 : BitVec 32 := 0#32
  let c16_i32_67 : BitVec 32 := 16#32
  let v36 : BitVec 32 := Scalar.addi c0_i32_66 c16_i32_67
  let c1_i32_68 : BitVec 32 := 1#32
  ⟨c0_i32_66, v36, c1_i32_68⟩
def k3_off529 (i : grid3.Coords) (k3_t17 : Fin k3_t17_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let c0_i32_66 : BitVec 32 := 0#32
  let c1_i32_68 : BitVec 32 := 1#32
  let arg14 : BitVec 32 := Scf.iv c0_i32_66 c1_i32_68 k3_t17
  let c8192_i32 : BitVec 32 := 8192#32
  let v38 : BitVec 32 := Scalar.muli arg14 c8192_i32
  let v39 : BitVec 32 := Scalar.addi v2 v38
  ![v39.toNat]
@[reducible] def k3_t18_loop : Scf.Loop 32 :=
  let c0_i32_72 : BitVec 32 := 0#32
  let c64_i32 : BitVec 32 := 64#32
  let v42 : BitVec 32 := Scalar.addi c0_i32_72 c64_i32
  let c1_i32_73 : BitVec 32 := 1#32
  ⟨c0_i32_72, v42, c1_i32_73⟩
def k3_off530 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_108 : BitVec 32 := 128#32
  let v76 : BitVec 32 := Scalar.muli arg16 c128_i32_108
  let c0_i32_109 : BitVec 32 := 0#32
  let v77 : BitVec 32 := Scalar.addi v76 c0_i32_109
  let v78 : Index := Scalar.indexCast v77
  ![v78.toNat]
def k3_off531 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v89 : Index := Scalar.indexCast arg16
  let c0 : Index := 0#32
  ![v89.toNat, 0]

def k3_chk1 (v83 : IVec S16 32) : Prop :=
  (∀ a x, ((![v83] : Fin 1 → IVec S16 32) a x).toNat < S32768.size a) ∧
  (∀ a x, ((![v83] : Fin 1 → IVec S16 32) a x).toNat < S32768.size a)
theorem k3_idx1_inb : ∀ (v83 : IVec S16 32) (k3_hw1 : k3_chk1 v83), ∀ a x, ((![v83] : Fin 1 → IVec S16 32) a x).toNat < S32768.size a := fun v83 k3_hw1 => k3_hw1.1
theorem k3_idx2_inb : ∀ (v83 : IVec S16 32) (k3_hw1 : k3_chk1 v83), ∀ a x, ((![v83] : Fin 1 → IVec S16 32) a x).toNat < S32768.size a := fun v83 k3_hw1 => k3_hw1.2
def k3_off532 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_112 : BitVec 32 := 128#32
  let v91 : BitVec 32 := Scalar.muli arg16 c128_i32_112
  let c16_i32_113 : BitVec 32 := 16#32
  let v92 : BitVec 32 := Scalar.addi v91 c16_i32_113
  let v93 : Index := Scalar.indexCast v92
  ![v93.toNat]
def k3_off533 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v104 : Index := Scalar.indexCast arg16
  let c16 : Index := 16#32
  ![v104.toNat, 16]

def k3_chk2 (v98 : IVec S16 32) : Prop :=
  (∀ a x, ((![v98] : Fin 1 → IVec S16 32) a x).toNat < S32768.size a) ∧
  (∀ a x, ((![v98] : Fin 1 → IVec S16 32) a x).toNat < S32768.size a)
theorem k3_idx3_inb : ∀ (v98 : IVec S16 32) (k3_hw2 : k3_chk2 v98), ∀ a x, ((![v98] : Fin 1 → IVec S16 32) a x).toNat < S32768.size a := fun v98 k3_hw2 => k3_hw2.1
theorem k3_idx4_inb : ∀ (v98 : IVec S16 32) (k3_hw2 : k3_chk2 v98), ∀ a x, ((![v98] : Fin 1 → IVec S16 32) a x).toNat < S32768.size a := fun v98 k3_hw2 => k3_hw2.2
def k3_off534 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_120 : BitVec 32 := 128#32
  let v106 : BitVec 32 := Scalar.muli arg16 c128_i32_120
  let c32_i32 : BitVec 32 := 32#32
  let v107 : BitVec 32 := Scalar.addi v106 c32_i32
  let v108 : Index := Scalar.indexCast v107
  ![v108.toNat]
def k3_off535 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v119 : Index := Scalar.indexCast arg16
  let c32 : Index := 32#32
  ![v119.toNat, 32]

def k3_chk3 (v113 : IVec S16 32) : Prop :=
  (∀ a x, ((![v113] : Fin 1 → IVec S16 32) a x).toNat < S32768.size a) ∧
  (∀ a x, ((![v113] : Fin 1 → IVec S16 32) a x).toNat < S32768.size a)
theorem k3_idx5_inb : ∀ (v113 : IVec S16 32) (k3_hw3 : k3_chk3 v113), ∀ a x, ((![v113] : Fin 1 → IVec S16 32) a x).toNat < S32768.size a := fun v113 k3_hw3 => k3_hw3.1
theorem k3_idx6_inb : ∀ (v113 : IVec S16 32) (k3_hw3 : k3_chk3 v113), ∀ a x, ((![v113] : Fin 1 → IVec S16 32) a x).toNat < S32768.size a := fun v113 k3_hw3 => k3_hw3.2
def k3_off536 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_127 : BitVec 32 := 128#32
  let v121 : BitVec 32 := Scalar.muli arg16 c128_i32_127
  let c48_i32 : BitVec 32 := 48#32
  let v122 : BitVec 32 := Scalar.addi v121 c48_i32
  let v123 : Index := Scalar.indexCast v122
  ![v123.toNat]
def k3_off537 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v134 : Index := Scalar.indexCast arg16
  let c48 : Index := 48#32
  ![v134.toNat, 48]

def k3_chk4 (v128 : IVec S16 32) : Prop :=
  (∀ a x, ((![v128] : Fin 1 → IVec S16 32) a x).toNat < S32768.size a) ∧
  (∀ a x, ((![v128] : Fin 1 → IVec S16 32) a x).toNat < S32768.size a)
theorem k3_idx7_inb : ∀ (v128 : IVec S16 32) (k3_hw4 : k3_chk4 v128), ∀ a x, ((![v128] : Fin 1 → IVec S16 32) a x).toNat < S32768.size a := fun v128 k3_hw4 => k3_hw4.1
theorem k3_idx8_inb : ∀ (v128 : IVec S16 32) (k3_hw4 : k3_chk4 v128), ∀ a x, ((![v128] : Fin 1 → IVec S16 32) a x).toNat < S32768.size a := fun v128 k3_hw4 => k3_hw4.2
def k3_off538 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_134 : BitVec 32 := 128#32
  let v136 : BitVec 32 := Scalar.muli arg16 c128_i32_134
  let c64_i32_135 : BitVec 32 := 64#32
  let v137 : BitVec 32 := Scalar.addi v136 c64_i32_135
  let v138 : Index := Scalar.indexCast v137
  ![v138.toNat]
def k3_off539 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v149 : Index := Scalar.indexCast arg16
  let c64 : Index := 64#32
  ![v149.toNat, 64]

def k3_chk5 (v143 : IVec S16 32) : Prop :=
  (∀ a x, ((![v143] : Fin 1 → IVec S16 32) a x).toNat < S32768.size a) ∧
  (∀ a x, ((![v143] : Fin 1 → IVec S16 32) a x).toNat < S32768.size a)
theorem k3_idx9_inb : ∀ (v143 : IVec S16 32) (k3_hw5 : k3_chk5 v143), ∀ a x, ((![v143] : Fin 1 → IVec S16 32) a x).toNat < S32768.size a := fun v143 k3_hw5 => k3_hw5.1
theorem k3_idx10_inb : ∀ (v143 : IVec S16 32) (k3_hw5 : k3_chk5 v143), ∀ a x, ((![v143] : Fin 1 → IVec S16 32) a x).toNat < S32768.size a := fun v143 k3_hw5 => k3_hw5.2
def k3_off540 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_142 : BitVec 32 := 128#32
  let v151 : BitVec 32 := Scalar.muli arg16 c128_i32_142
  let c80_i32 : BitVec 32 := 80#32
  let v152 : BitVec 32 := Scalar.addi v151 c80_i32
  let v153 : Index := Scalar.indexCast v152
  ![v153.toNat]
def k3_off541 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v164 : Index := Scalar.indexCast arg16
  let c80 : Index := 80#32
  ![v164.toNat, 80]

def k3_chk6 (v158 : IVec S16 32) : Prop :=
  (∀ a x, ((![v158] : Fin 1 → IVec S16 32) a x).toNat < S32768.size a) ∧
  (∀ a x, ((![v158] : Fin 1 → IVec S16 32) a x).toNat < S32768.size a)
theorem k3_idx11_inb : ∀ (v158 : IVec S16 32) (k3_hw6 : k3_chk6 v158), ∀ a x, ((![v158] : Fin 1 → IVec S16 32) a x).toNat < S32768.size a := fun v158 k3_hw6 => k3_hw6.1
theorem k3_idx12_inb : ∀ (v158 : IVec S16 32) (k3_hw6 : k3_chk6 v158), ∀ a x, ((![v158] : Fin 1 → IVec S16 32) a x).toNat < S32768.size a := fun v158 k3_hw6 => k3_hw6.2
def k3_off542 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_149 : BitVec 32 := 128#32
  let v166 : BitVec 32 := Scalar.muli arg16 c128_i32_149
  let c96_i32 : BitVec 32 := 96#32
  let v167 : BitVec 32 := Scalar.addi v166 c96_i32
  let v168 : Index := Scalar.indexCast v167
  ![v168.toNat]
def k3_off543 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v179 : Index := Scalar.indexCast arg16
  let c96 : Index := 96#32
  ![v179.toNat, 96]

def k3_chk7 (v173 : IVec S16 32) : Prop :=
  (∀ a x, ((![v173] : Fin 1 → IVec S16 32) a x).toNat < S32768.size a) ∧
  (∀ a x, ((![v173] : Fin 1 → IVec S16 32) a x).toNat < S32768.size a)
theorem k3_idx13_inb : ∀ (v173 : IVec S16 32) (k3_hw7 : k3_chk7 v173), ∀ a x, ((![v173] : Fin 1 → IVec S16 32) a x).toNat < S32768.size a := fun v173 k3_hw7 => k3_hw7.1
theorem k3_idx14_inb : ∀ (v173 : IVec S16 32) (k3_hw7 : k3_chk7 v173), ∀ a x, ((![v173] : Fin 1 → IVec S16 32) a x).toNat < S32768.size a := fun v173 k3_hw7 => k3_hw7.2
def k3_off544 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_156 : BitVec 32 := 128#32
  let v181 : BitVec 32 := Scalar.muli arg16 c128_i32_156
  let c112_i32 : BitVec 32 := 112#32
  let v182 : BitVec 32 := Scalar.addi v181 c112_i32
  let v183 : Index := Scalar.indexCast v182
  ![v183.toNat]
def k3_off545 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let v194 : Index := Scalar.indexCast arg16
  let c112 : Index := 112#32
  ![v194.toNat, 112]

def k3_chk8 (v188 : IVec S16 32) : Prop :=
  (∀ a x, ((![v188] : Fin 1 → IVec S16 32) a x).toNat < S32768.size a) ∧
  (∀ a x, ((![v188] : Fin 1 → IVec S16 32) a x).toNat < S32768.size a)
theorem k3_idx15_inb : ∀ (v188 : IVec S16 32) (k3_hw8 : k3_chk8 v188), ∀ a x, ((![v188] : Fin 1 → IVec S16 32) a x).toNat < S32768.size a := fun v188 k3_hw8 => k3_hw8.1
theorem k3_idx16_inb : ∀ (v188 : IVec S16 32) (k3_hw8 : k3_chk8 v188), ∀ a x, ((![v188] : Fin 1 → IVec S16 32) a x).toNat < S32768.size a := fun v188 k3_hw8 => k3_hw8.2
def k3_off546 (k3_t18 : Fin k3_t18_loop.trips) : Fin 1 → Nat :=
  let c0_i32_72 : BitVec 32 := 0#32
  let c1_i32_73 : BitVec 32 := 1#32
  let arg16 : BitVec 32 := Scf.iv c0_i32_72 c1_i32_73 k3_t18
  let c128_i32_163 : BitVec 32 := 128#32
  let v196 : BitVec 32 := Scalar.muli arg16 c128_i32_163
  ![v196.toNat]
def k3_off547 (k3_t18 : Fin k3_t18_loop.trips) : Fin 2 → Nat :=
  let c0_i32_72 : BitVec 32 := 0#32
  let c1_i32_73 : BitVec 32 := 1#32
  let arg16 : BitVec 32 := Scf.iv c0_i32_72 c1_i32_73 k3_t18
  let c0_i32_164 : BitVec 32 := 0#32
  ![arg16.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== Reference.lean ====
abbrev S4194304 : Shape := ⟨1, ![4194304]⟩
abbrev S_ : Shape := ⟨0, ![]⟩
abbrev S4194304x1 : Shape := ⟨2, ![4194304, 1]⟩
abbrev S1 : Shape := ⟨1, ![1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S4194304, .i32⟩
  | .hbm, ⟨1, _⟩ => ⟨S4194304, .i32⟩
  | .hbm, ⟨2, _⟩ => ⟨S4194304, .i32⟩
  | .hbm, ⟨3, _⟩ => ⟨S4194304, .i32⟩
  | .hbm, ⟨4, _⟩ => ⟨S4194304, .i32⟩
  | .hbm, ⟨5, _⟩ => ⟨S_, .i32⟩
  | .hbm, ⟨6, _⟩ => ⟨S4194304, .i32⟩
  | .hbm, ⟨7, _⟩ => ⟨S4194304, .i1⟩
  | .hbm, ⟨8, _⟩ => ⟨S_, .i32⟩
  | .hbm, ⟨9, _⟩ => ⟨S4194304, .i32⟩
  | .hbm, ⟨10, _⟩ => ⟨S4194304, .i32⟩
  | .hbm, ⟨11, _⟩ => ⟨S4194304, .i32⟩
  | .hbm, ⟨12, _⟩ => ⟨S4194304x1, .i32⟩
  | .hbm, ⟨13, _⟩ => ⟨S1, .i32⟩
  | .hbm, ⟨14, _⟩ => ⟨S_, .i32⟩
  | .hbm, ⟨15, _⟩ => ⟨S4194304x1, .i32⟩
  | .hbm, ⟨16, _⟩ => ⟨S4194304x1, .i1⟩
  | .hbm, ⟨17, _⟩ => ⟨S1x1, .i32⟩
  | .hbm, ⟨18, _⟩ => ⟨S4194304x1, .i32⟩
  | .hbm, ⟨19, _⟩ => ⟨S4194304x1, .i1⟩
  | .hbm, ⟨20, _⟩ => ⟨S4194304x1, .i1⟩
  | .hbm, ⟨21, _⟩ => ⟨S_, .i1⟩
  | .hbm, ⟨22, _⟩ => ⟨S4194304, .i1⟩
  | .hbm, ⟨23, _⟩ => ⟨S4194304, .i32⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S_, .i32⟩
  | .hbm, ⟨28, _⟩ => ⟨S4194304, .i32⟩
  | .hbm, ⟨29, _⟩ => ⟨S4194304, .i1⟩
  | .hbm, ⟨30, _⟩ => ⟨S_, .i32⟩
  | .hbm, ⟨31, _⟩ => ⟨S4194304, .i32⟩
  | .hbm, ⟨32, _⟩ => ⟨S4194304, .i32⟩
  | .hbm, ⟨33, _⟩ => ⟨S4194304, .i32⟩
  | .hbm, ⟨34, _⟩ => ⟨S4194304x1, .i32⟩
  | .hbm, ⟨35, _⟩ => ⟨S1, .i32⟩
  | .hbm, ⟨36, _⟩ => ⟨S_, .i32⟩
  | .hbm, ⟨37, _⟩ => ⟨S4194304x1, .i32⟩
  | .hbm, ⟨38, _⟩ => ⟨S4194304x1, .i1⟩
  | .hbm, ⟨39, _⟩ => ⟨S1x1, .i32⟩
  | .hbm, ⟨40, _⟩ => ⟨S4194304x1, .i32⟩
  | .hbm, ⟨41, _⟩ => ⟨S4194304x1, .i1⟩
  | .hbm, ⟨42, _⟩ => ⟨S4194304x1, .i1⟩
  | .hbm, ⟨43, _⟩ => ⟨S_, .i1⟩
  | .hbm, ⟨44, _⟩ => ⟨S4194304, .i1⟩
  | .hbm, ⟨45, _⟩ => ⟨S4194304, .i32⟩
  | .hbm, ⟨46, _⟩ => ⟨S_, .i32⟩
  | .hbm, ⟨47, _⟩ => ⟨S4194304, .i32⟩
  | .hbm, ⟨48, _⟩ => ⟨S4194304, .i32⟩
  | _, _ => ⟨S4194304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_c_4 : Ref sig .tc := ⟨.hbm, 24, rfl⟩
abbrev main_call1_v14 : Ref sig .tc := ⟨.hbm, 25, rfl⟩
abbrev main_v1 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_c_4 : Ref sig .tc := ⟨.hbm, 46, rfl⟩
abbrev main_call2_v14 : Ref sig .tc := ⟨.hbm, 47, rfl⟩
abbrev main_v2 : Ref sig .tc := ⟨.hbm, 48, rfl⟩

abbrev nD : Nat := 1
abbrev τ : Topo := Topo.v7x

variable {F : FTy → Type} [FloatOps F]
-- ==== Proof.Res.lean ====
module

public import proofs.«01_k».proof.Proof.Generic
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Exec.Geometry
public import Idealize.ShloMosaic.Lib.Batch
public import Idealize.ShloMosaic.Lib.Tactic

/-! What a tile holds while it runs: memrefs at contents stated as functions of the memref's own indices, its
    semaphores at zero, and what it owes. Each operation of the two programs gets its rule over these. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

/-! ### The program as the launch theorem sees it -/

abbrev 𝒱₀ : Variants := Variants.none
abbrev UH : Type := URounds (GSem nD τ sig) ℕ
abbrev UU : Type := UH × Counters
/-- The logic's model for this program. -/
abbrev MM (F : FTy → Type) : Type := MT nD τ sig (HIx 4) (Elt F) ℕ UU ℕ
abbrev EC (F : FTy → Type) : UEmb Counters (MM F) := countersEmb

local notation "𝕄" => MT nD τ sig (HIx 4) (Elt F) ℕ UU ℕ

variable (d : Dev nD) (c : Fin τ.nSC) (s : Fin τ.nSub)

section Pts

variable [∀ e, Nonempty (Elt F e)] {sp : Space} {sh : Shape}

/-- The indices `S` of a memref held at share `q`, the element at `x` being `g x`. -/
def pts (m : Memref sig .scVector sp sh .i32) (q : PosShare TreeShare) (S : Finset sh.Idx) (g : sh.Idx → BitVec 32) : sProp 𝕄 :=
  m.view.loc (V d c s) ↦[S.map m.view.emb]{q} (m.view.rep (Val := Elt F) g)

variable {d c s}

/-- Elements of a buffer held at any contents are the memref's indices held at what it reads of them. -/
theorem pts_of (m : Memref sig .scVector sp sh .i32) (q : PosShare TreeShare) (S : Finset sh.Idx)
    (f : Buf (Elt F) (m.view.loc (V d c s))) (g : sh.Idx → BitVec 32) (h : ∀ x ∈ S, m.view.read (Elt F) f x = g x) :
    (m.view.loc (V d c s) ↦[S.map m.view.emb]{q} f : sProp 𝕄) = pts d c s m q S g := by
  unfold pts
  refine pointsTo_congr fun i hi => ?_
  obtain ⟨x, hx, rfl⟩ := Finset.mem_map.mp hi
  have h1 := h x hx
  have h2 := congrFun (View.read_rep (Val := Elt F) m.view g) x
  rw [← h2, View.read_apply, View.read_apply] at h1
  exact (cast_bijective _).1 h1

theorem pts_congr (m : Memref sig .scVector sp sh .i32) (q : PosShare TreeShare) (S : Finset sh.Idx)
    {g g' : sh.Idx → BitVec 32} (h : ∀ x ∈ S, g x = g' x) : (pts d c s m q S g : sProp 𝕄) = pts d c s m q S g' :=
  pts_of m q S _ g' fun x hx => by rw [View.read_rep]; exact h x hx

/-- A piece held is the memref's held on the piece's indices. -/
theorem pts_slice (m : Memref sig .scVector sp sh .i32) (r : Rect sh) (hr : ∀ a, r.stride a = 1) (q : PosShare TreeShare)
    (S : Finset r.shape.Idx) (g : sh.Idx → BitVec 32) :
    (pts d c s (m.slice r hr) q S (fun x => g (r.emb x)) : sProp 𝕄) = pts d c s m q (S.map r.emb) g := by
  have h := pts_of (d := d) (c := c) (s := s) (F := F) (m.slice r hr) q S (m.view.rep (Val := Elt F) g) (fun x => g (r.emb x))
    fun x _ => congrFun (View.read_rep (Val := Elt F) m.view g) (r.emb x)
  rw [← h]
  unfold pts
  rw [Finset.map_map]

/-- A memref of another shape with as many elements is the memref at the indices row by row the same. -/
theorem pts_squeeze {sh' : Shape} (m : Memref sig .scVector sp sh .i32) (hq : sh.Squeezes sh') (q : PosShare TreeShare)
    (S : Finset sh'.Idx) (g : sh.Idx → BitVec 32) :
    (pts d c s (m.squeeze sh' hq) q S (fun x => g (Shape.reshapeEquiv hq.numel_eq x)) : sProp 𝕄)
      = pts d c s m q (S.map (Shape.reshapeEquiv hq.numel_eq).toEmbedding) g := by
  have h := pts_of (d := d) (c := c) (s := s) (F := F) (m.squeeze sh' hq) q S (m.view.rep (Val := Elt F) g) (fun x => g (Shape.reshapeEquiv hq.numel_eq x))
    fun x _ => congrFun (View.read_rep (Val := Elt F) m.view g) (Shape.reshapeEquiv hq.numel_eq x)
  rw [← h]
  unfold pts
  rw [Finset.map_map]

theorem pts_split (m : Memref sig .scVector sp sh .i32) (q : PosShare TreeShare) {S R : Finset sh.Idx} (h : R ⊆ S)
    (g : sh.Idx → BitVec 32) : (pts d c s m q S g : sProp 𝕄) ⊣⊢ iprop(pts d c s m q R g ∗ pts d c s m q (S \ R) g) := by
  unfold pts
  rw [show (S \ R).map m.view.emb = S.map m.view.emb \ R.map m.view.emb from Finset.map_sdiff ..]
  exact pointsTo_split_subset (Finset.map_subset_map.mpr h)

theorem pts_biUnion {T : Type} (m : Memref sig .scVector sp sh .i32) (q : PosShare TreeShare) (A : Finset T) (R : T → Finset sh.Idx)
    (h : ∀ t ∈ A, ∀ t' ∈ A, t ≠ t' → Disjoint (R t) (R t')) (g : sh.Idx → BitVec 32) :
    (pts d c s m q (A.biUnion R) g : sProp 𝕄) = bigSep A fun t => pts d c s m q (R t) g := by
  classical
  unfold pts
  have hs : (A.biUnion R).map m.view.emb = A.biUnion fun t => (R t).map m.view.emb := by
    ext i; simp only [Finset.mem_map, Finset.mem_biUnion]
    constructor
    · rintro ⟨x, ⟨t, ht, hx⟩, rfl⟩; exact ⟨t, ht, x, hx, rfl⟩
    · rintro ⟨t, ht, x, hx, rfl⟩; exact ⟨x, ⟨t, ht, hx⟩, rfl⟩
  rw [hs]
  have h' : ∀ t ∈ A, ∀ t' ∈ A, t ≠ t' → Disjoint ((R t).map m.view.emb) ((R t').map m.view.emb) :=
    fun t ht t' ht' hne => (Finset.disjoint_map _).mpr (h t ht t' ht' hne)
  generalize m.view.rep (Val := Elt F) g = f
  exact pointsTo_biUnion (ℓ := m.view.loc (V d c s)) A (fun t => (R t).map m.view.emb) h'

theorem pts_share (m : Memref sig .scVector sp sh .i32) (q : PosShare TreeShare) (S : Finset sh.Idx)
    (g : sh.Idx → BitVec 32) : (pts d c s m q S g : sProp 𝕄) ⊣⊢ iprop(pts d c s m q.left S g ∗ pts d c s m q.right S g) :=
  pointsTo_share (PosShare.mem_left_op_right q)

instance pts_storable (m : Memref sig .scVector sp sh .i32) (q : PosShare TreeShare) (S : Finset sh.Idx)
    (g : sh.Idx → BitVec 32) : BI.Storable (upEmb : UEmb _ 𝕄) (pts d c s m q S g) := by unfold pts; infer_instance

end Pts

/-! ### Loads and stores -/

section Mem

variable [FloatOps F] [Facts] [∀ e, Nonempty (Elt F e)] {sp : Space} {sh : Shape} {α : Type} {Q : α → sProp (MT nD τ sig (HIx 4) (Elt F) ℕ UU ℕ)}

/-- The weakest precondition of a tile's program. -/
abbrev WP {d : Dev nD} {c : Fin τ.nSC} {s : Fin τ.nSub} (p : TProg F c s α) (Q : α → sProp 𝕄) : sProp 𝕄 :=
  wp frame (wpE (defs₀ (F := F)) 𝒱₀ (V d c s) none) Set.univ p Q

variable {d c s}

theorem wp_ptsLoad {cs : CoreSpace} {m : Memref sig .scVector cs sh .i32} {r : Rect sh} {hl : m.view.LoadsAt r.toLoadRect}
    {k : (r.shape.Idx → Elt F .i32) → TProg F c s α} {q : PosShare TreeShare} {S : Finset sh.Idx} {g : sh.Idx → BitVec 32}
    (hS : ∀ x, r.emb x ∈ S) :
    pts d c s m q S g ⊢ iprop((pts d c s m q S g -∗ WP (d := d) (k fun x => g (r.emb x)) Q) -∗ WP (d := d) (.op (.load m r.toLoadRect hl) k) Q) := by
  have h := wp_load_rect (Γ := .empty) (defs := defs₀ (F := F)) 𝒱₀ (V d c s) none Set.univ (m := m) (r := r) (hl := hl) (k := k) (Q := Q) (q := q)
    (S := S.map m.view.emb) (f := m.view.rep (Val := Elt F) g) (by
      rw [View.set_slice]
      refine Finset.map_subset_map.mpr fun y hy => ?_
      rw [← Rect.map_emb_univ] at hy
      obtain ⟨x, -, rfl⟩ := Finset.mem_map.mp hy
      exact hS x)
  rw [show (m.access r).read (Elt F) (m.view.rep (Val := Elt F) g) = fun x => g (r.emb x) from
    funext fun x => congrFun (View.read_rep (Val := Elt F) m.view g) (r.emb x)] at h
  exact h

theorem wp_ptsStore {cs : CoreSpace} {m : Memref sig .scVector cs sh .i32} {r : Rect sh} {w : r.shape.Idx → BitVec 32}
    {hx : (m.access r).Stores Finset.univ} {hm : Finset.univ = Finset.univ ∨ ∀ a, r.stride a = 1}
    {k : PUnit → TProg F c s α} {S : Finset sh.Idx} {g : sh.Idx → BitVec 32} (g' : sh.Idx → BitVec 32)
    (hS : ∀ x, r.emb x ∈ S) (h1 : ∀ x, g' (r.emb x) = w x) (h2 : ∀ y ∈ S, (∀ x, r.emb x ≠ y) → g' y = g y) :
    pts d c s m fullShare S g ⊢ iprop((pts d c s m fullShare S g' -∗ WP (d := d) (k ⟨⟩) Q) -∗ WP (d := d) (.op (.store (e := .i32) m r w Finset.univ hx hm) k) Q) := by
  have h := wp_store (Γ := .empty) (defs := defs₀ (F := F)) 𝒱₀ (V d c s) none Set.univ (m := m) (r := r) (w := w) (hx := hx) (hm := hm) (k := k) (Q := Q)
    (S := S.map m.view.emb) (f := m.view.rep (Val := Elt F) g) (by
      show (m.view.slice r).set ⊆ _
      rw [View.set_slice]
      refine Finset.map_subset_map.mpr fun y hy => ?_
      rw [← Rect.map_emb_univ] at hy
      obtain ⟨x, -, rfl⟩ := Finset.mem_map.mp hy
      exact hS x)
  have e := pts_of (d := d) (c := c) (s := s) (F := F) m fullShare S ((m.access r).write (Elt F) (m.view.rep (Val := Elt F) g) w Finset.univ) g' (by
    intro y hy
    by_cases hr : ∃ x, r.emb x = y
    · obtain ⟨x, rfl⟩ := hr
      rw [h1]
      exact View.read_slice_write_emb (v := m.view) r _ _ (Finset.mem_univ x)
    · rw [h2 y hy fun x hx => hr ⟨x, hx⟩]
      refine (View.read_slice_write_of_not_mem (v := m.view) r _ _ _ ?_).trans (congrFun (View.read_rep (Val := Elt F) m.view g) y)
      rintro hm
      obtain ⟨x, -, hx⟩ := Finset.mem_map.mp hm
      exact hr ⟨x, hx⟩)
  rw [← e]
  exact h

omit [FloatOps F] [Facts] [∀ e, Nonempty (Elt F e)] in
theorem whole_emb (x : sh.Idx) : (Rect.whole sh).emb x = x := funext fun a => Fin.ext (by
  show 0 + 1 * (x a).val = (x a).val
  omega)

omit [FloatOps F] [Facts] [∀ e, Nonempty (Elt F e)] in
theorem access_whole_set {cs : CoreSpace} (m : Memref sig .scVector cs sh .i32) : (m.access (.whole sh)).set = Finset.univ.map m.view.emb := by
  show (m.view.slice _).set = _
  rw [View.set_slice, ← Rect.map_emb_univ]
  congr 1
  ext x
  simp only [Finset.mem_map, Finset.mem_univ, true_and, iff_true]
  exact ⟨x, whole_emb x⟩

theorem read_access_whole' {cs : CoreSpace} (m : Memref sig .scVector cs sh .i32) (f : m.view.ty.Contents (Elt F)) :
    (m.access (.whole sh)).read (Elt F) f = m.view.read (Elt F) f :=
  funext fun x => by
    show m.view.read (Elt F) f ((Rect.whole sh).emb x) = _
    rw [whole_emb]

theorem wp_ptsLoadIdx {t : Shape} {m : Memref sig .scVector .vmem sh .i32} {idxs : Fin sh.rank → IVec t 32}
    {h : ∀ a x, (idxs a x).toNat < sh.size a} {hl : m.view.Loads} {k : Vec F t .i32 → TProg F c s α} {q : PosShare TreeShare}
    {g : sh.Idx → BitVec 32} :
    pts d c s m q Finset.univ g ⊢ iprop((pts d c s m q Finset.univ g -∗ WP (d := d) (k (loadIdx (e := .i32) g idxs h)) Q)
      -∗ WP (d := d) (SparseCore.vectorLoadIdx m idxs h hl >>= k) Q) := by
  have h := SparseCore.wp_vectorLoadIdx (defs := defs₀ (F := F)) 𝒱₀ (V d c s) none Set.univ (base := m) (idxs := idxs) (h := h) (hl := hl) (k := k) (Q := Q) (q := q)
    (S := Finset.univ.map m.view.emb) (f := m.view.rep (Val := Elt F) g) (by rw [access_whole_set])
  rw [read_access_whole', View.read_rep] at h
  exact h

theorem wp_ptsStoreIdx {dd : Fin 1 → Nat} {m : Memref sig .scVector .vmem sh .i32} {idxs : Fin sh.rank → IVec ⟨1, dd⟩ 32} {v : IVec ⟨1, dd⟩ 32}
    {mask : IVec ⟨1, dd⟩ 1} {add : Bool} {h : ∀ a x, (idxs a x).toNat < sh.size a} {hs : (m.access (.whole sh)).Stores Finset.univ}
    {k : PUnit → TProg F c s α} {g : sh.Idx → BitVec 32} :
    pts d c s m fullShare Finset.univ g
      ⊢ iprop((pts d c s m fullShare Finset.univ (storeIdx (F := F) (e := .i32) g idxs v mask add h) -∗ WP (d := d) (k ⟨⟩) Q)
      -∗ WP (d := d) (SparseCore.vectorStoreIdx (F := F) (e := .i32) m idxs v mask add h hs >>= k) Q) := by
  have h := SparseCore.wp_vectorStoreIdx (defs := defs₀ (F := F)) 𝒱₀ (V d c s) none Set.univ (base := m) (idxs := idxs) (v := v) (mask := mask) (add := add) (h := h) (hs := hs) (k := k) (Q := Q)
    (f := m.view.rep (Val := Elt F) g)
  rw [read_access_whole', View.read_rep, access_whole_set] at h
  rw [← pts_of (d := d) (c := c) (s := s) (F := F) m fullShare Finset.univ ((m.access (.whole sh)).write (Elt F) (m.view.rep (Val := Elt F) g) (storeIdx (F := F) (e := .i32) g idxs v mask add ‹_›) Finset.univ)
    (storeIdx (F := F) (e := .i32) g idxs v mask add ‹_›) fun x _ => by
      rw [← read_access_whole']; exact congrFun (View.read_write_univ (v := m.access (.whole sh)) _ _) x]
  exact h

end Mem

end Cert.Radix

end
-- ==== Proof.Env.lean ====
module

public import proofs.«01_k».proof.Proof.Res

/-! What a tile carries along its run beside its memory: the evidence for its waits, what it owes, and its semaphores at
    zero. A copy and its wait as one step; the indirect scatters of one window as one batch. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

variable (d : Dev nD) (c : Fin τ.nSC) (s : Fin τ.nSub)

/-- What the tile owes, its waits recorded since the start among `W` and those of no order. -/
def owed (O : CellTallies nD τ sig (HIx 4)) (W : Waits sig (HIx 4)) : sProp 𝕄 :=
  iprop(∃ W', ⌜∀ p ∈ W', p ∈ W ∨ p.2 = none⌝ ∗ owes (V d c s) O W')

/-- The tile's surroundings: its waits' evidence, what it owes, and the semaphores of `SS` at zero. -/
def env (O : CellTallies nD τ sig (HIx 4)) (W : Waits sig (HIx 4)) (SS : Finset (GSem nD τ sig)) : sProp 𝕄 :=
  iprop(Transfers.MayWaits (V d c s) (none : HIx 4) O ∗ owed d c s O W ∗ bigSep SS fun g => semVal g 0)

variable {d c s}

theorem pts_eq [∀ e, Nonempty (Elt F e)] {sp : Space} {sh : Shape} (m : Memref sig .scVector sp sh .i32) (q : PosShare TreeShare) (S : Finset sh.Idx) (g : sh.Idx → BitVec 32) :
    (pts d c s m q S g : sProp 𝕄) = (m.view.loc (V d c s) ↦[S.map m.view.emb]{q} (m.view.rep (Val := Elt F) g)) := rfl

theorem env_take {O : CellTallies nD τ sig (HIx 4)} {W : Waits sig (HIx 4)} {SS : Finset (GSem nD τ sig)} {g : GSem nD τ sig} (hg : g ∈ SS) :
    (env d c s O W SS : sProp 𝕄) ⊢ iprop(semVal g 0 ∗ env d c s O W (SS.erase g)) := by
  unfold env
  rw [show (bigSep SS fun g => semVal g 0 : sProp 𝕄) = iprop(semVal g 0 ∗ bigSep (SS.erase g) fun g => semVal g 0) from bigSep_erase hg]
  iintro ⟨HM, HO, Hv, Hs⟩
  isplitl [Hv]; · iexact Hv
  isplitl [HM]; · iexact HM
  isplitl [HO] <;> iassumption

theorem env_put {O : CellTallies nD τ sig (HIx 4)} {W : Waits sig (HIx 4)} {SS : Finset (GSem nD τ sig)} {g : GSem nD τ sig} (hg : g ∈ SS) :
    iprop(semVal g 0 ∗ env d c s O W (SS.erase g)) ⊢ (env d c s O W SS : sProp 𝕄) := by
  unfold env
  rw [show (bigSep SS fun g => semVal g 0 : sProp 𝕄) = iprop(semVal g 0 ∗ bigSep (SS.erase g) fun g => semVal g 0) from bigSep_erase hg]
  iintro ⟨Hv, HM, HO, Hs⟩
  isplitl [HM]; · iexact HM
  isplitl [HO]; · iexact HO
  isplitl [Hv] <;> iassumption

theorem env_eq {O : CellTallies nD τ sig (HIx 4)} {W : Waits sig (HIx 4)} {SS : Finset (GSem nD τ sig)} :
    (env d c s O W SS : sProp 𝕄) = iprop(Transfers.MayWaits (V d c s) (none : HIx 4) O
      ∗ (∃ W', ⌜∀ p ∈ W', p ∈ W ∨ p.2 = none⌝ ∗ owes (V d c s) O W') ∗ bigSep SS fun g => semVal g 0) := rfl

theorem owed_insert {O : CellTallies nD τ sig (HIx 4)} {W W' : Waits sig (HIx 4)} {sm : SemLoc sig} (h : ∀ p ∈ W', p ∈ W ∨ p.2 = none) :
    (owes (V d c s) O (insert (sm, (none : HIx 4)) W') : sProp 𝕄) ⊢ owed d c s O W := by
  unfold owed
  iintro HO
  iexists _
  isplitr [HO]
  · ipureintro
    intro p hp
    rcases (Finset.mem_insert (a := p) (b := (sm, (none : HIx 4))) (s := W')).mp hp with h1 | hp
    · exact Or.inr (by rw [h1])
    · exact h p hp
  · iexact HO

section Dma

variable [FloatOps F] [Facts] [∀ e, Nonempty (Elt F e)] {sp sp' : Space} {sh : Shape} {α : Type} {Q : α → sProp (MT nD τ sig (HIx 4) (Elt F) ℕ UU ℕ)}

theorem map_univ_set (m : Memref sig .scVector sp sh .i32) : Finset.univ.map m.view.emb = m.view.set := rfl

/-- A copy of a memref's elements onto another's, and the wait for it. -/
theorem wp_dmaPair {src : Memref sig .scVector sp sh .i32} {dst : Memref sig .scVector sp' sh .i32} {sem : DmaSem sig}
    {hsrc hsrc' : src.view.WordExact} {hdst hdst' : dst.view.WordExact} {hsem : DmaTarget.Typed sp (.dma sem) (DmaTarget.here (nD := nD) (p := Proc.scVector c s) dst)}
    {k : PUnit → TProg F c s α} {q : PosShare TreeShare} {g g' : sh.Idx → BitVec 32}
    {O : CellTallies nD τ sig (HIx 4)} {W : Waits sig (HIx 4)} {SS : Finset (GSem nD τ sig)}
    (hg : (V d c s, SemLoc.dma sem) ∈ SS) (hn : 0 < sh.numel) :
    iprop(env d c s O W SS ∗ pts d c s src q Finset.univ g ∗ pts d c s dst fullShare Finset.univ g')
      ⊢ iprop((iprop(env d c s O W SS ∗ pts d c s src q Finset.univ g ∗ pts d c s dst fullShare Finset.univ g) -∗ WP (d := d) (k ⟨⟩) Q)
        -∗ WP (d := d) (.op (.enqueueDma src (.here dst) (.dma sem) hsrc hdst hsem) fun _ => .op (.waitDma2 sem src dst hsrc' hdst') k) Q) := by
  have e : (dst.view.loc (V d c s) ↦[Finset.univ.map dst.view.emb]{fullShare}
      (dst.view.write (Elt F) (dst.view.rep (Val := Elt F) g') ((ReadAs.same : ReadAs (Elt F) sh .i32 sh .i32).apply (src.view.read (Elt F) (src.view.rep (Val := Elt F) g))) Finset.univ) : sProp 𝕄)
      = pts d c s dst fullShare Finset.univ g :=
    pts_of dst fullShare Finset.univ _ g fun x _ => by
      have h1 := congrFun (View.read_write_univ (v := dst.view) (dst.view.rep (Val := Elt F) g') ((ReadAs.same : ReadAs (Elt F) sh .i32 sh .i32).apply (src.view.read (Elt F) (src.view.rep (Val := Elt F) g)))) x
      rw [h1]
      show src.view.read (Elt F) (src.view.rep (Val := Elt F) g) x = g x
      rw [View.read_rep]
  iintro ⟨HE, Hs, Hd⟩ Hk
  ihave H := (env_take hg) $$ HE
  icases H with ⟨Hv, HE⟩
  iapply (Transfers.wp_dmaLocal (EC F) 𝒱₀ (V d c s) none (none : HIx 4) dst.view.dmaCredit (src := src) (dst := dst) (sm := .dma sem) (q := q)
      (fs := src.view.rep (Val := Elt F) g) (fd := dst.view.rep (Val := Elt F) g') (Sd := Finset.univ.map dst.view.emb)
      (View.amount_dma _ _) (View.dmaCredit_pos _ hn) subset_rfl) $$ [Hs Hd Hv]
  · isplitl [Hs]; · iapply (Entails.of_eq (pts_eq ..)) $$ Hs
    isplitl [Hd]; · iapply (Entails.of_eq (pts_eq ..)) $$ Hd
    iexact Hv
  iintro HF
  ihave HE := (Entails.of_eq env_eq) $$ HE
  icases HE with ⟨#HM, ⟨%W', %hW, HO⟩, Hss⟩
  iapply (Transfers.wp_waitLocalO (EC F) 𝒱₀ (V d c s) none (none : HIx 4) rfl) $$ [HF HO]
  · isplitl [HF]; · iexact HF
    isplitl [HO]; · iexact HO
    iapply (Transfers.MayWaits.elim (SemLoc.dma sem)) $$ HM
  rw [e, show (src.view.loc (V d c s) ↦[src.view.set]{q} src.view.rep (Val := Elt F) g : sProp 𝕄) = pts d c s src q Finset.univ g from rfl]
  iintro ⟨⟨Hd, Hs⟩, Hv, HO⟩
  iapply Hk
  isplitr [Hs Hd]
  · iapply (env_put hg)
    isplitl [Hv]; · iexact Hv
    unfold env
    isplitr; · iexact HM
    isplitl [HO]; · iapply (owed_insert hW) $$ HO
    iexact Hss
  · isplitl [Hs]; · iexact Hs
    iexact Hd

end Dma

/-! ### The scatters of a window -/

section Scatter

variable [FloatOps F] [Facts] [∀ e, Nonempty (Elt F e)] {α : Type} {Q : α → sProp (MT nD τ sig (HIx 4) (Elt F) ℕ UU ℕ)}

/-- Entry `l` of a list of a hundred and twenty-eight. -/
abbrev ix128 (l : Fin 128) : S128.Idx := fun | ⟨0, _⟩ => l
/-- Word `p` of an array of the keys' length. -/
abbrev ixN (p : Fin 4194304) : S4194304.Idx := fun | ⟨0, _⟩ => p

omit [FloatOps F] [Facts] [∀ e, Nonempty (Elt F e)] in
theorem idx1_ext {n : Fin 1 → Nat} {x y : (⟨1, n⟩ : Shape).Idx} (h : (x 0).val = (y 0).val) : x = y :=
  funext fun | ⟨0, _⟩ => Fin.ext h

omit [FloatOps F] [Facts] [∀ e, Nonempty (Elt F e)] in
theorem rowMajor1 {n : Nat} (x : (⟨1, ![n]⟩ : Shape).Idx) : ((⟨1, ![n]⟩ : Shape).rowMajor x : ℕ) = (x 0).val := by
  show ((Shape.rowMajorPi ![n] x : Fin _) : ℕ) = _
  rw [Shape.rowMajorPi_succ_val]
  have h0 : ∀ z : (a : Fin 0) → Fin (![n] a.succ), ((Shape.rowMajorPi (fun a : Fin 0 => ![n] a.succ) z : Fin _) : ℕ) = 0 := fun z => by
    have h := (Shape.rowMajorPi (fun a : Fin 0 => ![n] a.succ) z).isLt
    have h1 : (∏ a : Fin 0, ![n] a.succ) = 1 := Fin.prod_univ_zero _
    exact Nat.lt_one_iff.mp (h.trans_eq h1)
  rw [h0, Fin.prod_univ_zero]
  omega

omit [FloatOps F] [Facts] [∀ e, Nonempty (Elt F e)] in
theorem ix128_entry (l : Fin 128) (h : (128 : ℕ) = S128.numel) : (S128.rowMajor.symm (Fin.cast h l) : S128.Idx) = ix128 l := by
  rw [Equiv.symm_apply_eq]
  apply Fin.ext
  exact (rowMajor1 (n := 128) (ix128 l)).symm

/-- The issue rights from `j` on are the next `m` and those from there on. -/
theorem pending_take {n : ℕ} (Φ : Fin n → sProp 𝕄) (j m : ℕ) (h : j + m ≤ n) :
    bigSep (Transfers.pending (n := n) j) Φ = iprop((bigSep Finset.univ fun l : Fin m => Φ ⟨j + l.val, by omega⟩) ∗ bigSep (Transfers.pending (n := n) (j + m)) Φ) := by
  classical
  let e : Fin m ↪ Fin n := ⟨fun l => ⟨j + l.val, by omega⟩, fun a b h => by simpa [Fin.ext_iff] using h⟩
  have hsub : Finset.univ.map e ⊆ Transfers.pending (n := n) j := by
    intro t ht
    obtain ⟨l, -, rfl⟩ := Finset.mem_map.mp ht
    exact Finset.mem_filter.mpr ⟨Finset.mem_univ _, Nat.le_add_right _ _⟩
  have hrest : Transfers.pending (n := n) j \ Finset.univ.map e = Transfers.pending (n := n) (j + m) := by
    ext t
    rw [Finset.mem_sdiff, Transfers.pending, Transfers.pending, Finset.mem_filter, Finset.mem_filter]
    constructor
    · rintro ⟨⟨-, h1⟩, h2⟩
      refine ⟨Finset.mem_univ _, ?_⟩
      by_contra h3
      exact h2 (Finset.mem_map.mpr ⟨⟨t.val - j, by omega⟩, Finset.mem_univ _, Fin.ext (show j + (t.val - j) = t.val by omega)⟩)
    · rintro ⟨-, h1⟩
      refine ⟨⟨Finset.mem_univ _, by omega⟩, fun hm => ?_⟩
      obtain ⟨l, -, hl⟩ := Finset.mem_map.mp hm
      have h2 : j + l.val = t.val := congrArg Fin.val hl
      have := l.isLt
      omega
  have h1 : bigSep (Transfers.pending (n := n) j) Φ = iprop(bigSep (Finset.univ.map e) Φ ∗ bigSep (Transfers.pending (n := n) j \ Finset.univ.map e) Φ) :=
    bigSep_sdiff_split hsub
  rw [h1, hrest, Idealize.SL.BI.bigSep_map e]
  rfl

omit [FloatOps F] [Facts] [∀ e, Nonempty (Elt F e)] in
/-- A row of a list is its one element. -/
theorem rowRect_set1 {n : Fin 1 → Nat} (a : Fin 1) (k : Fin (n a)) :
    ((⟨1, n⟩ : Shape).rowRect a k).set = {fun b => ⟨k.val, by rw [Subsingleton.elim b a]; exact k.isLt⟩} := by
  rw [← Rect.map_emb_univ]
  ext y
  rw [Finset.mem_map, Finset.mem_singleton]
  constructor
  · rintro ⟨j, -, rfl⟩
    refine idx1_ext ?_
    rw [Subsingleton.elim (0 : Fin 1) a]
    exact congrArg Fin.val (Shape.rowRect_emb_axis (s := ⟨1, n⟩) a k j)
  · rintro rfl
    refine ⟨fun b => ⟨0, ?_⟩, Finset.mem_univ _, idx1_ext ?_⟩
    · show 0 < if b = a then 1 else n b
      rw [if_pos (Subsingleton.elim b a)]; exact Nat.one_pos
    · rw [Subsingleton.elim (0 : Fin 1) a]
      exact congrArg Fin.val (Shape.rowRect_emb_axis (s := ⟨1, n⟩) a k _)

omit [FloatOps F] [Facts] [∀ e, Nonempty (Elt F e)] in
theorem read_cast_const {sp : Space} {sh sh' : Shape} (v : View sig .scVector sp sh .i32) (hs : sh = sh') (f : v.ty.Contents (Elt F))
    (a : BitVec 32) (h : ∀ y, v.read (Elt F) f y = a) (x : sh'.Idx) : (v.cast hs rfl).read (Elt F) f x = a := by
  subst hs; exact h x

omit [FloatOps F] [Facts] [∀ e, Nonempty (Elt F e)] in
theorem credit_scVector {sp : Space} {sh : Shape} (v : View sig .scVector sp sh .i32) : v.dmaCredit = sh.numel * 32 := rfl

/-- The scatter of a hundred and twenty-eight words, as the next transfers of a batch: word `l` of `src` goes to the
    place the list's entry `l` names. -/
theorem wp_scatterBatch {src : Memref sig .scVector .vmem S128 .i32} {dst : Memref sig .scVector .hbm S4194304 .i32}
    {offs : Memref sig .scVector .vmem S128 .i32} {hg : S4194304.Gathers 0 S128} {hn : S128.numel = S128.size hg.axis'} {sem : DmaSem sig}
    {hp : (V d c s).2.kind = .scVector} {he : EltTy.i32.bits = 32} {hsp : Space.hbm = .hbm ∨ Space.hbm = .shared} {hr : S4194304.StreamRows 0}
    {k : PUnit → TProg F c s α} {n : ℕ} {D : Fin n → sProp 𝕄} {j u : ℕ} (hj : j + 128 ≤ n) (hu : u ≤ j * 32)
    {q qo : PosShare TreeShare} {gs go : S128.Idx → BitVec 32} {gd : S4194304.Idx → BitVec 32} (p : Fin 128 → Fin 4194304)
    (hgo : ∀ l, (go (ix128 l)).toNat = (p l).val)
    (hD : ∀ l : Fin 128, iprop(pts d c s dst fullShare {ixN (p l)} (fun _ => gs (ix128 l)) ∗ pts d c s offs qo {ix128 l} go ∗ pts d c s src q {ix128 l} gs)
      ⊢ D ⟨j + l.val, by omega⟩) :
    iprop(Transfers.Batch (EC F) (V d c s) (.dma sem) (none : HIx 4) 32 D j u
        ∗ (bigSep Finset.univ fun l : Fin 128 => pts d c s dst fullShare {ixN (p l)} gd)
        ∗ (bigSep Finset.univ fun l : Fin 128 => pts d c s offs qo {ix128 l} go)
        ∗ (bigSep Finset.univ fun l : Fin 128 => pts d c s src q {ix128 l} gs))
      ⊢ iprop((Transfers.Batch (EC F) (V d c s) (.dma sem) (none : HIx 4) 32 D (j + 128) u -∗ WP (d := d) (k ⟨⟩) Q)
          -∗ WP (d := d) (SparseCore.enqueueIndirectScatter (p := (V d c s).2) hp src dst hg offs hn sem he hsp hr >>= k) Q) := by
  classical
  rw [SparseCore.enqueueIndirectScatter_bind]
  let fs := src.view.rep (Val := Elt F) gs
  let fo := offs.view.rep (Val := Elt F) go
  let fd := dst.view.rep (Val := Elt F) gd
  let S : Stream nD τ sig (Elt F) :=
    Stream.issued (V d c s) offs.view hn sem (fun j w => (SparseCore.rowOf (S4194304.size hg.axis) w).map (SparseCore.scatterRow (V d c s) src dst hg sem he hsp hr j)) 0
  have hentry : ∀ l : Fin 128, (S.entry l : S128.Idx) = ix128 l := fun l => ix128_entry l hn.symm
  have hfo : ∀ x, offs.view.read (Elt F) fo x = go x := fun x => congrFun (View.read_rep (Val := Elt F) offs.view go) x
  let rd : Fin 128 → RowDma τ sig (Elt F) (V d c s).2 sem := fun l => SparseCore.scatterRow (V d c s) src dst hg sem he hsp hr l (p l)
  let w : Fin 128 → (S4194304.rowShape hg.axis).Idx → Elt F .i32 := SparseCore.scatterRowPayload (V d c s) src hg fs
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ l, S.row l (S.word fo l) = some (rd l) := fun l => by
    change (SparseCore.rowOf (S4194304.size hg.axis) (offs.view.read (Elt F) fo (S.entry l))).map _ = _
    have e1 : (offs.view.read (Elt F) fo (S.entry l) : BitVec 32).toNat = (p l).val := by
      exact (congrArg BitVec.toNat ((hfo _).trans (congrArg go (hentry l)))).trans (hgo l)
    have e2 : SparseCore.rowOf (S4194304.size hg.axis) (offs.view.read (Elt F) fo (S.entry l)) = some (p l) := by
      rw [SparseCore.rowOf_of_lt (by rw [e1]; exact (p l).isLt)]
      exact congrArg some (Fin.ext e1)
    rw [e2]; rfl
  have hsrcset : ∀ l, ({ix128 l} : Finset S128.Idx).map src.view.emb = (rd l).src.view.set := fun l => by
    have h1 : (src.view.slice (S128.rowRect hg.axis' l)).set = (rd l).src.view.set :=
      (View.set_cast (v := src.view.slice (S128.rowRect hg.axis' l)) _ _).symm
    have h2 : (S128.rowRect hg.axis' l).set = {ix128 l} :=
      (rowRect_set1 (n := ![128]) hg.axis' l).trans (congrArg singleton (idx1_ext rfl))
    exact ((congrArg (Finset.map src.view.emb) h2).symm.trans (View.set_slice ..).symm).trans h1
  have hdstset : ∀ l, ({ixN (p l)} : Finset S4194304.Idx).map dst.view.emb = (dst.view.slice (S4194304.rowRect hg.axis (p l))).set := fun l => by
    have h2 : (S4194304.rowRect hg.axis (p l)).set = {ixN (p l)} :=
      (rowRect_set1 (n := ![4194304]) hg.axis (p l)).trans (congrArg singleton (idx1_ext rfl))
    exact (congrArg (Finset.map dst.view.emb) h2).symm.trans (View.set_slice ..).symm
  have hwrite : ∀ l, (dst.view.loc (V d c s) ↦[(dst.view.slice (S4194304.rowRect hg.axis (p l))).set]{fullShare}
      ((dst.view.slice (S4194304.rowRect hg.axis (p l))).write (Elt F) fd (w l) Finset.univ) : sProp 𝕄)
      = pts d c s dst fullShare {ixN (p l)} (fun _ => gs (ix128 l)) := fun l => by
    rw [← hdstset]
    refine pts_of dst fullShare _ _ _ fun x hx => ?_
    rw [Finset.mem_singleton.mp hx]
    have hx : (S4194304.rowRect hg.axis (p l)).emb (fun b => ⟨0, by
        show 0 < if b = hg.axis then 1 else _
        rw [if_pos (Subsingleton.elim (α := Fin 1) b hg.axis)]; exact Nat.one_pos⟩) = ixN (p l) :=
      idx1_ext (congrArg Fin.val (Shape.rowRect_emb_axis hg.axis (p l) _))
    rw [← hx]
    refine (View.read_slice_write_emb (v := dst.view) (S4194304.rowRect hg.axis (p l)) _ _ (Finset.mem_univ _)).trans ?_
    refine read_cast_const (src.view.slice (S128.rowRect hg.axis' l)) hg.rowShape_eq fs _ (fun y => ?_) _
    exact (congrFun (View.read_rep (Val := Elt F) src.view gs) ((S128.rowRect hg.axis' l).emb y)).trans
      (congrArg gs (idx1_ext (congrArg Fin.val (Shape.rowRect_emb_axis hg.axis' l y))))
  have hrow : (S4194304.rowShape hg.axis).numel = 1 := by
    refine Finset.prod_eq_one fun b _ => ?_
    exact if_pos (Subsingleton.elim (α := Fin 1) b hg.axis)
  have hcr : ∀ l, (rd l).dst.view.dmaCredit = 32 := fun l => by
    rw [credit_scVector]
    exact (congrArg (· * 32) hrow).trans (Nat.one_mul 32)
  have hN : ∑ l, (rd l).dst.view.dmaCredit = 128 * 32 := by
    rw [Finset.sum_congr rfl fun l _ => hcr l, Finset.sum_const, Finset.card_univ, Fintype.card_fin, smul_eq_mul]
  rw [show (Transfers.Batch (EC F) (V d c s) (.dma sem) (none : HIx 4) 32 D j u : sProp 𝕄)
    = iprop(∃ γ γ₀ κ, inv κ (Transfers.batchBody (EC F) (V d c s, .dma sem) 32 D γ γ₀) ∗ bigSep (Transfers.pending j) (fun t => count (EC F) (γ t) 0) ∗ count (EC F) γ₀ u
    ∗ cred (tallyAt (V d c s, .dma sem) (none : HIx 4) (j * 32 - u))) from rfl]
  iintro ⟨⟨%γ, %γ₀, %κ, #Hinv, Hγ, H0, Hc⟩, Hd, Ho, Hs⟩ Hk
  ihave Hγ := (Entails.of_eq (pending_take _ j 128 hj)) $$ Hγ
  icases Hγ with ⟨Hγ, Hrest⟩
  iapply (wp_enqueueIndirectDma 𝒱₀ (V d c s) none Set.univ (qo := qo) (fo := fo) (rd := rd) (none : HIx 4) (128 * 32) hA hrd hN) $$ [Hd Ho Hs Hγ]
  · have hrow : ∀ l : Fin 128, iprop(inv κ (Transfers.batchBody (EC F) (V d c s, .dma sem) 32 D γ γ₀)
          ∗ (((pts d c s dst fullShare {ixN (p l)} gd ∗ pts d c s offs qo {ix128 l} go) ∗ pts d c s src q {ix128 l} gs) ∗ count (EC F) (γ ⟨j + l.val, by omega⟩) 0))
        ⊢ iprop(S.heldEntry qo fo l ∗ (S.heldEntry qo fo l -∗ rowRes (V d c s) (rd l))) := fun l => by
      have he : (S.heldEntry qo fo l : sProp 𝕄) = pts d c s offs qo {ix128 l} go := by
        rw [pts_eq, Finset.map_singleton]
        show (S.loc ↦[{S.offs.emb (S.entry l)}]{qo} fo : sProp 𝕄) = _
        exact congrArg (fun x => (offs.view.loc (V d c s) ↦[{offs.view.emb x}]{qo} fo : sProp 𝕄)) (hentry l)
      rw [he]
      iintro ⟨#Hinv, ⟨⟨Hr, He⟩, Hsq⟩, Hγj⟩
      isplitl [He]; · iexact He
      iintro He
      unfold rowRes
      iexists q, fs, iprop(pts d c s dst fullShare {ixN (p l)} (fun _ => gs (ix128 l)) ∗ pts d c s offs qo {ix128 l} go)
      isplitl [Hsq]; · iapply (Entails.of_eq (show (pts d c s src q {ix128 l} gs : sProp 𝕄) = _ from by rw [pts_eq, hsrcset l])) $$ Hsq
      isplitl [Hr He]
      · iapply writeUpdate_frame
        isplitl [Hr]
        · ihave Hr := (Entails.of_eq (show (pts d c s dst fullShare {ixN (p l)} gd : sProp 𝕄)
            = (dst.view.loc (V d c s) ↦[(dst.view.slice (S4194304.rowRect hg.axis (p l))).set]{fullShare} fd) from by rw [pts_eq, hdstset l])) $$ Hr
          iapply (Entails.of_eq (congrArg (writeUpdate (V d c s) (rd l).dst.view ((rd l).via.apply (View.read (Elt F) (rd l).src.view fs))) (hwrite l)))
          iapply (pointsTo_writeUpdate (V d c s) (v := dst.view.slice (S4194304.rowRect hg.axis (p l))) subset_rfl) $$ Hr
        · iexact He
      · rw [View.amount_dma, hcr]
        have hdel : iprop((pts d c s dst fullShare {ixN (p l)} (fun _ => gs (ix128 l)) ∗ pts d c s offs qo {ix128 l} go)
            ∗ ((rd l).src.view.loc (V d c s) ↦[(rd l).src.view.set]{q} fs)) ⊢ D ⟨j + l.val, by omega⟩ := by
          refine BIBase.Entails.trans ?_ (hD l)
          rw [← hsrcset l]
          iintro ⟨⟨H1, H2⟩, H3⟩
          isplitl [H1]; · iexact H1
          isplitl [H2]; · iexact H2
          iapply (Entails.of_eq (show ((rd l).src.view.loc (V d c s) ↦[({ix128 l} : Finset S128.Idx).map src.view.emb]{q} fs : sProp 𝕄) = pts d c s src q {ix128 l} gs from rfl)) $$ H3
        iapply (Transfers.batch_creditUpdate (EC F) (D := D) (γ₀ := γ₀) (γ := γ) (N := 32) (ι := κ) ⟨j + l.val, by omega⟩ hdel)
        isplitr; · iexact Hinv
        iexact Hγj
    unfold Stream.res
    ihave H1 := Transfers.bigSep_sep_in _ _ _ $$ [Hd Ho]; · isplitl [Hd] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun l _ => hrow l)
    isplitr; · iexact Hinv
    iexact H3
  · iintro Hcred
    iapply Hk
    unfold Transfers.Batch
    iexists γ, γ₀, κ
    isplitr; · iexact Hinv
    isplitl [Hrest]; · iexact Hrest
    isplitl [H0]; · iexact H0
    rw [show (j + 128) * 32 - u = (j * 32 - u) + 128 * 32 by omega, ← tallyAt_add]
    isplitl [Hc] <;> iassumption

/-- A wait among a batch's, for a hundred and twenty-eight of its transfers. -/
theorem wp_waitBatch128 {src : Memref sig .scVector .vmem S128 .i32} {dst : Memref sig .scVector .hbm S4194304 .i32} {sem : DmaSem sig}
    {hsrc : src.view.WordExact} {hdst : dst.view.WordExact}
    {k : PUnit → TProg F c s α} {n : ℕ} {D : Fin n → sProp 𝕄} {j u : ℕ} (hu : u + 128 * 32 ≤ 32 * j)
    {O : CellTallies nD τ sig (HIx 4)} {W : Waits sig (HIx 4)} {SS : Finset (GSem nD τ sig)} :
    iprop(env d c s O W SS ∗ Transfers.Batch (EC F) (V d c s) (.dma sem) (none : HIx 4) 32 D j u)
      ⊢ iprop((iprop(env d c s O W SS ∗ Transfers.Batch (EC F) (V d c s) (.dma sem) (none : HIx 4) 32 D j (u + 128 * 32)) -∗ WP (d := d) (k ⟨⟩) Q)
          -∗ WP (d := d) (SparseCore.waitIndirectScatter sem src dst hsrc hdst >>= k) Q) := by
  change _ ⊢ iprop(_ -∗ WP (d := d) (.op (.waitDma2 sem dst src hdst hsrc) k) Q)
  iintro ⟨HE, HB⟩ Hk
  ihave HE := (Entails.of_eq env_eq) $$ HE
  icases HE with ⟨#HM, ⟨%W', %hW, HO⟩, Hss⟩
  iapply (Transfers.wp_waitBatchMulO (EC F) 𝒱₀ (V d c s) none (none : HIx 4) 128 (by rw [credit_scVector]; rfl) hu) $$ [HB HO]
  · isplitl [HB]; · iexact HB
    isplitl [HO]; · iexact HO
    iapply (Transfers.MayWaits.elim (SemLoc.dma sem)) $$ HM
  iintro ⟨HB, HO⟩
  iapply Hk
  isplitr [HB]
  · unfold env
    isplitr; · iexact HM
    isplitl [HO]; · iapply (owed_insert hW) $$ HO
    iexact Hss
  · iexact HB

end Scatter

end Cert.Radix

end
-- ==== Proof.Count.lean ====
module

public import proofs.«01_k».proof.Proof.Generic
public import Mathlib.Algebra.BigOperators.Intervals

/-! A counting pass: where a stable sort by one digit puts each index, by counts alone. -/

@[expose] public section

namespace Cert.Radix

/-- How many indices of `[a, b)` have digit `v`. -/
def cnt (f : ℕ → ℕ) (a b v : ℕ) : ℕ := ((Finset.Ico a b).filter fun j => f j = v).card

/-- How many indices below `n` have a digit less than `v`. -/
def less (f : ℕ → ℕ) (n v : ℕ) : ℕ := ((Finset.range n).filter fun j => f j < v).card

/-- Where a stable sort of the indices below `n` by their digit puts index `i`. -/
def pos (f : ℕ → ℕ) (n i : ℕ) : ℕ := less f n (f i) + cnt f 0 i (f i)

variable {f : ℕ → ℕ}

theorem cnt_self (a v : ℕ) : cnt f a a v = 0 := by simp [cnt]

theorem cnt_succ {a b : ℕ} (h : a ≤ b) (v : ℕ) : cnt f a (b + 1) v = cnt f a b v + if f b = v then 1 else 0 := by
  unfold cnt
  have e : Finset.Ico a (b + 1) = insert b (Finset.Ico a b) := by
    ext x; simp only [Finset.mem_Ico, Finset.mem_insert]; omega
  rw [e, Finset.filter_insert]
  split
  · rw [Finset.card_insert_of_notMem (by simp)]
  · rfl

theorem cnt_add {a b c : ℕ} (h : a ≤ b) (h' : b ≤ c) (v : ℕ) : cnt f a b v + cnt f b c v = cnt f a c v := by
  induction c, h' using Nat.le_induction with
  | base => rw [cnt_self, Nat.add_zero]
  | succ c hc ih => rw [cnt_succ hc, cnt_succ (h.trans hc), ← ih, Nat.add_assoc]

theorem cnt_le (a b v : ℕ) : cnt f a b v ≤ b - a := by
  unfold cnt
  exact (Finset.card_filter_le _ _).trans (by rw [Nat.card_Ico])

theorem cnt_mono {a b b' : ℕ} (h : a ≤ b) (h' : b ≤ b') (v : ℕ) : cnt f a b v ≤ cnt f a b' v := by
  rw [← cnt_add h h' v]; exact Nat.le_add_right _ _

theorem less_zero (n : ℕ) : less f n 0 = 0 := by simp [less]

theorem less_le (n v : ℕ) : less f n v ≤ n := by
  unfold less
  exact (Finset.card_filter_le _ _).trans (by rw [Finset.card_range])

theorem less_succ (n v : ℕ) : less f n (v + 1) = less f n v + cnt f 0 n v := by
  unfold less cnt
  rw [← Finset.range_eq_Ico, ← Finset.card_union_of_disjoint]
  · congr 1
    ext x
    simp only [Finset.mem_filter, Finset.mem_union]
    constructor
    · rintro ⟨h, h'⟩
      rcases Nat.lt_succ_iff_lt_or_eq.mp h' with h' | h'
      · exact Or.inl ⟨h, h'⟩
      · exact Or.inr ⟨h, h'⟩
    · rintro (⟨h, h'⟩ | ⟨h, h'⟩)
      · exact ⟨h, by omega⟩
      · exact ⟨h, by omega⟩
  · rw [Finset.disjoint_left]
    intro x hx hx'
    have h1 := (Finset.mem_filter.mp hx).2
    have h2 := (Finset.mem_filter.mp hx').2
    omega

theorem less_mono {n v v' : ℕ} (h : v ≤ v') : less f n v ≤ less f n v' := by
  unfold less
  refine Finset.card_le_card fun x hx => ?_
  have := Finset.mem_filter.mp hx
  exact Finset.mem_filter.mpr ⟨this.1, by omega⟩

theorem less_sum (n a b : ℕ) (h : a ≤ b) : less f n b = less f n a + ∑ v ∈ Finset.Ico a b, cnt f 0 n v := by
  induction b, h using Nat.le_induction with
  | base => simp
  | succ b hb ih => rw [less_succ, ih, Finset.sum_Ico_succ_top hb, Nat.add_assoc]

theorem cnt_lt_of_lt {n i : ℕ} (h : i < n) : cnt f 0 i (f i) < cnt f 0 n (f i) := by
  have h1 : cnt f 0 (i + 1) (f i) ≤ cnt f 0 n (f i) := cnt_mono (Nat.zero_le _) h _
  rw [cnt_succ (Nat.zero_le _), if_pos rfl] at h1
  omega

theorem pos_lt_less {n i : ℕ} (h : i < n) : pos f n i < less f n (f i + 1) := by
  rw [less_succ]
  unfold pos
  have := cnt_lt_of_lt (f := f) h
  omega

theorem pos_lt {n i : ℕ} (h : i < n) : pos f n i < n := (pos_lt_less h).trans_le (less_le _ _)

/-- Positions are ordered by the digit first and the index next. -/
theorem pos_lt_pos {n i j : ℕ} (hi : i < n) (h : f i < f j ∨ (f i = f j ∧ i < j)) : pos f n i < pos f n j := by
  rcases h with h | ⟨h, h'⟩
  · refine (pos_lt_less hi).trans_le ((less_mono h).trans ?_)
    exact Nat.le_add_right _ _
  · unfold pos
    rw [← h]
    have := cnt_lt_of_lt (f := f) h'
    omega

theorem pos_lt_iff {n i j : ℕ} (hi : i < n) (hj : j < n) : pos f n i < pos f n j ↔ (f i < f j ∨ (f i = f j ∧ i < j)) := by
  refine ⟨fun h => ?_, pos_lt_pos hi⟩
  by_contra hc
  have : j = i ∨ (f j < f i ∨ (f j = f i ∧ j < i)) := by omega
  rcases this with rfl | h'
  · omega
  · have := pos_lt_pos hj h'
    omega

theorem pos_inj {n i j : ℕ} (hi : i < n) (hj : j < n) (h : pos f n i = pos f n j) : i = j := by
  by_contra hne
  have : (f i < f j ∨ (f i = f j ∧ i < j)) ∨ (f j < f i ∨ (f j = f i ∧ j < i)) := by omega
  rcases this with h' | h'
  · have := pos_lt_pos hi h'; omega
  · have := pos_lt_pos hj h'; omega

/-- Every place below `n` is some index's. -/
theorem pos_surj {n p : ℕ} (h : p < n) : ∃ i, i < n ∧ pos f n i = p := by
  let e : Fin n → Fin n := fun i => ⟨pos f n i.val, pos_lt i.isLt⟩
  have hinj : Function.Injective e := fun a b hab => Fin.ext (pos_inj a.isLt b.isLt (congrArg Fin.val hab))
  obtain ⟨i, hi⟩ := (Finite.injective_iff_surjective.mp hinj) ⟨p, h⟩
  exact ⟨i.val, i.isLt, congrArg Fin.val hi⟩

/-- The index a place is given to. -/
noncomputable def unpos (f : ℕ → ℕ) (n p : ℕ) : ℕ := open Classical in if h : ∃ i, i < n ∧ pos f n i = p then h.choose else 0

theorem unpos_lt {n p : ℕ} (h : p < n) : unpos f n p < n := by
  unfold unpos; rw [dif_pos (pos_surj h)]; exact (pos_surj h).choose_spec.1

theorem pos_unpos {n p : ℕ} (h : p < n) : pos f n (unpos f n p) = p := by
  unfold unpos; rw [dif_pos (pos_surj h)]; exact (pos_surj h).choose_spec.2

theorem unpos_pos {n i : ℕ} (h : i < n) : unpos f n (pos f n i) = i :=
  pos_inj (unpos_lt (pos_lt h)) h (pos_unpos (pos_lt h))

end Cert.Radix
-- ==== Proof.Lanes.lean ====
module

public import proofs.«01_k».proof.Proof.Generic
public import proofs.«01_k».proof.Proof.Count

/-! The sixteen lanes: what a scan count, a masked adding scatter and a prefix sum leave, in counts of digits. -/

@[expose] public section

noncomputable section

namespace Cert.Radix

open Idealize.ShloMosaic
open Cert.KernelIdeal

/-- Lane `l`. -/
abbrev ix16 (l : Fin 16) : S16.Idx := fun | ⟨0, _⟩ => l

theorem ix16_eta (x : S16.Idx) : ix16 (x 0) = x := funext fun | ⟨0, _⟩ => rfl

theorem ofLane_eq (l : Fin 16) : (Shape.ofLane (d := ![16]) l : S16.Idx) = ix16 l := funext fun | ⟨0, _⟩ => rfl

theorem lane_pos (x : S16.Idx) : (S16.rowMajor x : ℕ) = (x 0).val := by
  show ((Shape.rowMajorPi ![16] x : Fin _) : ℕ) = _
  rw [Shape.rowMajorPi_succ_val]
  have h0 : ∀ z : (a : Fin 0) → Fin (![16] a.succ), ((Shape.rowMajorPi (fun a : Fin 0 => ![16] a.succ) z : Fin _) : ℕ) = 0 := fun z => by
    have h := (Shape.rowMajorPi (fun a : Fin 0 => ![16] a.succ) z).isLt
    have h1 : (∏ a : Fin 0, ![16] a.succ) = 1 := Fin.prod_univ_zero _
    exact Nat.lt_one_iff.mp (h.trans_eq h1)
  rw [h0, Fin.prod_univ_zero]
  omega

variable {f : ℕ → ℕ}

/-- Lanes up to `l` of a digit are the indices of `[i₀, i₀ + l]` of it. -/
theorem card_lanes (i₀ m v : ℕ) (hm : m ≤ 16) :
    ((Finset.univ : Finset S16.Idx).filter fun j => (j 0).val < m ∧ f (i₀ + (j 0).val) = v).card = cnt f i₀ (i₀ + m) v := by
  unfold cnt
  refine Finset.card_bij (fun j _ => i₀ + (j 0).val) ?_ ?_ ?_
  · intro j hj
    have := (Finset.mem_filter.mp hj).2
    exact Finset.mem_filter.mpr ⟨Finset.mem_Ico.mpr ⟨by omega, by omega⟩, this.2⟩
  · intro j _ j' _ h
    have h' : (j 0).val = (j' 0).val := by omega
    rw [← ix16_eta j, ← ix16_eta j', Fin.ext h']
  · intro b hb
    have h := Finset.mem_filter.mp hb
    have h1 := Finset.mem_Ico.mp h.1
    refine ⟨ix16 ⟨b - i₀, by omega⟩, Finset.mem_filter.mpr ⟨Finset.mem_univ _, ?_, ?_⟩, ?_⟩
    · show b - i₀ < m; omega
    · show f (i₀ + (b - i₀)) = v
      rw [Nat.add_sub_cancel' h1.1]; exact h.2
    · show i₀ + (b - i₀) = b; omega

/-- The scan count's counts. -/
theorem laneCounts_eq {d : IVec S16 32} {i₀ : ℕ} (hd : ∀ x, (d x).toNat = f (i₀ + (x 0).val)) (x : S16.Idx) :
    laneCounts d x = BitVec.ofNat 32 (cnt f i₀ (i₀ + (x 0).val + 1) (f (i₀ + (x 0).val))) := by
  show (if (1#1 : BitVec 1) = 1 then BitVec.ofNat 32 (Finset.univ.filter fun j => (S16.rowMajor j).val ≤ (S16.rowMajor x).val ∧ (1#1 : BitVec 1) = 1 ∧ d j = d x).card else 1) = _
  rw [if_pos (show (1#1 : BitVec 1) = 1 from rfl), Nat.add_assoc, ← card_lanes i₀ ((x 0).val + 1) _ (x 0).isLt]
  congr 2
  ext j
  simp only [Finset.mem_filter, Finset.mem_univ, true_and, lane_pos]
  constructor
  · rintro ⟨h1, -, h2⟩
    exact ⟨by omega, by rw [← hd, ← hd, h2]⟩
  · rintro ⟨h1, h2⟩
    exact ⟨by omega, rfl, BitVec.eq_of_toNat_eq (by rw [hd, hd, h2])⟩

theorem laneLast_eq {d : IVec S16 32} {i₀ : ℕ} (hd : ∀ x, (d x).toNat = f (i₀ + (x 0).val)) (x : S16.Idx) :
    laneLast d x = 1 ↔ ∀ j : Fin 16, (x 0).val < j.val → f (i₀ + j.val) ≠ f (i₀ + (x 0).val) := by
  unfold laneLast scanCount
  dsimp only
  split
  · rename_i h
    refine iff_of_true rfl fun j hj he => ?_
    refine h.2 (ix16 j) (by rw [lane_pos, lane_pos]; exact hj) ⟨rfl, BitVec.eq_of_toNat_eq ?_⟩
    rw [hd, hd]; exact he
  · rename_i h
    refine iff_of_false (by decide) fun hc => h ⟨rfl, fun j hj he => ?_⟩
    rw [lane_pos, lane_pos] at hj
    exact hc (j 0) hj (by rw [← hd x, ← hd j, he.2])

section Store

variable {F : FTy → Type} [FloatOps F]

/-- One lane of a masked adding scatter. -/
def laneStep (d v : IVec S16 32) (mask : IVec S16 1) (h : ∀ a x, ((![d] : Fin 1 → IVec S16 32) a x).toNat < S32768.size a)
    (g : S32768.Idx → BitVec 32) (k : Fin 16) : S32768.Idx → BitVec 32 :=
  let x : S16.Idx := Shape.ofLane (d := ![16]) k
  if mask x = 1 then
    let i := idxAt (s := S32768) ![d] h x
    let w := if true then Elt.idxAdd (F := F) .i32 (g i) (v x) else v x
    fun j => if (∀ a, (j a).val = (i a).val) then w else g j
  else g

/-- A masked adding scatter adds to each word what the set lanes naming it carry. -/
theorem store_fold (g : S32768.Idx → BitVec 32) (d v : IVec S16 32) (mask : IVec S16 1) (h : ∀ a x, ((![d] : Fin 1 → IVec S16 32) a x).toNat < S32768.size a)
    (L : List (Fin 16)) (y : S32768.Idx) :
    (L.foldl (laneStep (F := F) d v mask h) g) y
    = g y + (L.map fun k => if mask (ix16 k) = 1 ∧ (d (ix16 k)).toNat = (y 0).val then v (ix16 k) else 0).sum := by
  induction L generalizing g with
  | nil => simp
  | cons k L ih =>
    rw [List.foldl_cons, ih, List.map_cons, List.sum_cons, ← BitVec.add_assoc]
    congr 1
    unfold laneStep
    simp only [ofLane_eq, ↓reduceIte]
    by_cases hm : mask (ix16 k) = 1
    · rw [if_pos hm]
      have e : (∀ a, (y a).val = (idxAt (s := S32768) ![d] h (ix16 k) a).val) ↔ (d (ix16 k)).toNat = (y 0).val :=
        ⟨fun h => (h 0).symm, fun h a => by rw [Subsingleton.elim a 0]; exact h.symm⟩
      by_cases hy : (d (ix16 k)).toNat = (y 0).val
      · rw [if_pos (e.mpr hy), if_pos ⟨hm, hy⟩]
        have : idxAt (s := S32768) ![d] h (ix16 k) = y := funext fun a => Fin.ext (e.mpr hy a).symm
        rw [this]; rfl
      · rw [if_neg (fun h => hy (e.mp h)), if_neg (fun h => hy h.2)]; exact (BitVec.add_zero _).symm
    · rw [if_neg hm, if_neg (fun h => hm h.1)]; exact (BitVec.add_zero _).symm

theorem storeIdx_lanes (g : S32768.Idx → BitVec 32) (d v : IVec S16 32) (mask : IVec S16 1) (h : ∀ a x, ((![d] : Fin 1 → IVec S16 32) a x).toNat < S32768.size a) :
    storeIdx (F := F) (e := .i32) (d := ![16]) g ![d] v mask true h = (List.finRange 16).foldl (laneStep (F := F) d v mask h) g := by
  unfold storeIdx
  refine List.foldl_ext _ _ _ fun g k _ => ?_
  unfold laneStep
  dsimp only
  split
  · funext j
    congr
  · rfl

/-- A sum all of whose terms but one are zero. -/
theorem sum_one (L : List (Fin 16)) (hn : L.Nodup) (t : Fin 16 → BitVec 32) (m : Fin 16) (h : ∀ k, k ≠ m → t k = 0#32) :
    (L.map t).sum = if m ∈ L then t m else 0#32 := by
  induction L with
  | nil => rfl
  | cons k L ih =>
    rw [List.map_cons, List.sum_cons, ih hn.of_cons]
    by_cases hk : k = m
    · subst hk
      rw [if_neg (List.nodup_cons.mp hn).1, if_pos List.mem_cons_self]
      exact BitVec.add_zero _
    · rw [h k hk]
      have : m ∈ k :: L ↔ m ∈ L := ⟨fun h => (List.mem_cons.mp h).resolve_left (fun e => hk e.symm), List.mem_cons_of_mem _⟩
      simp only [this]
      exact BitVec.zero_add _

/-- The table after sixteen keys are counted into it. -/
theorem store_counts {g : S32768.Idx → BitVec 32} {d : IVec S16 32} {i₀ : ℕ} (hd : ∀ x, (d x).toNat = f (i₀ + (x 0).val))
    (h : ∀ a x, ((![d] : Fin 1 → IVec S16 32) a x).toNat < S32768.size a) (y : S32768.Idx) :
    storeIdx (F := F) (e := .i32) (d := ![16]) g ![d] (laneCounts d) (laneLast d) true h y = g y + BitVec.ofNat 32 (cnt f i₀ (i₀ + 16) (y 0).val) := by
  refine (congrFun (storeIdx_lanes (F := F) g d (laneCounts d) (laneLast d) h) y).trans ?_
  refine (store_fold (F := F) g d (laneCounts d) (laneLast d) h (List.finRange 16) y).trans ?_
  refine congrArg (fun z : BitVec 32 => g y + z) ?_
  by_cases hex : ∃ k : Fin 16, f (i₀ + k.val) = (y 0).val
  · let A : Finset (Fin 16) := Finset.univ.filter fun k => f (i₀ + k.val) = (y 0).val
    have hA : A.Nonempty := by
      obtain ⟨k, hk⟩ := hex
      exact ⟨k, Finset.mem_filter.mpr ⟨Finset.mem_univ _, hk⟩⟩
    let m := A.max' hA
    have hm : f (i₀ + m.val) = (y 0).val := (Finset.mem_filter.mp (A.max'_mem hA)).2
    have hmax : ∀ j : Fin 16, m.val < j.val → f (i₀ + j.val) ≠ (y 0).val := fun j hj he => by
      have := A.le_max' j (Finset.mem_filter.mpr ⟨Finset.mem_univ _, he⟩)
      exact absurd (Fin.lt_def.mpr hj) (not_lt.mpr this)
    refine (sum_one _ (List.nodup_finRange 16) _ m ?_).trans ?_
    rotate_left
    · rw [if_pos (List.mem_finRange m), if_pos ⟨(laneLast_eq hd _).mpr fun j hj => by show f (i₀ + j.val) ≠ f (i₀ + m.val); rw [hm]; exact hmax j hj, by rw [hd]; exact hm⟩, laneCounts_eq hd]
      show BitVec.ofNat 32 (cnt f i₀ (i₀ + m.val + 1) (f (i₀ + m.val))) = _
      rw [hm, ← cnt_add (f := f) (b := i₀ + m.val + 1) (by omega) (c := i₀ + 16) (by have := m.isLt; omega)]
      have : cnt f (i₀ + m.val + 1) (i₀ + 16) (y 0).val = 0 := by
        unfold cnt
        rw [Finset.card_eq_zero, Finset.filter_eq_empty_iff]
        intro j hj he
        have hj' := Finset.mem_Ico.mp hj
        refine hmax ⟨j - i₀, by omega⟩ (by show m.val < j - i₀; omega) ?_
        show f (i₀ + (j - i₀)) = _
        rw [Nat.add_sub_cancel' (by omega)]; exact he
      simp only [this, Nat.add_zero]
    · intro k hk
      refine if_neg fun hc => hk ?_
      have h1 := (laneLast_eq hd _).mp hc.1
      have h2 : f (i₀ + k.val) = (y 0).val := (hd (ix16 k)).symm.trans hc.2
      rcases lt_trichotomy k.val m.val with h3 | h3 | h3
      · exact absurd (hm.trans h2.symm) (h1 m h3)
      · exact Fin.ext h3
      · exact absurd h2 (hmax k h3)
  · have hno : ∀ k : Fin 16, f (i₀ + k.val) ≠ (y 0).val := fun k hk => hex ⟨k, hk⟩
    refine (sum_one _ (List.nodup_finRange 16) _ 0 fun k _ => if_neg fun hc => hno k ((hd (ix16 k)).symm.trans hc.2)).trans ?_
    rw [if_pos (List.mem_finRange _), if_neg fun hc => hno 0 ((hd (ix16 0)).symm.trans hc.2)]
    have : cnt f i₀ (i₀ + 16) (y 0).val = 0 := by
      unfold cnt
      rw [Finset.card_eq_zero, Finset.filter_eq_empty_iff]
      intro j hj he
      have hj' := Finset.mem_Ico.mp hj
      refine hno ⟨j - i₀, by omega⟩ ?_
      show f (i₀ + (j - i₀)) = _
      rw [Nat.add_sub_cancel' (by omega)]; exact he
    rw [this]

end Store

/-- A prefix sum of words that are the values of a function of the index. -/
theorem scan_eq {v : IVec S16 32} {T : ℕ → ℕ} {b : ℕ} (hv : ∀ x, v x = BitVec.ofNat 32 (T (b + (x 0).val))) (x : S16.Idx) :
    scan .sum v x = BitVec.ofNat 32 (∑ k ∈ Finset.Ico b (b + (x 0).val + 1), T k) := by
  obtain ⟨l, rfl⟩ : ∃ l, x = ix16 l := ⟨x 0, (ix16_eta x).symm⟩
  show (((List.finRange 16).filter fun k => decide (0 < k.val ∧ k.val ≤ l.val)).foldl
      (fun r k => r + v (Shape.ofLane (d := ![16]) k)) (v (Shape.ofLane (d := ![16]) (0 : Fin 16)))) = BitVec.ofNat 32 (∑ k ∈ Finset.Ico b (b + l.val + 1), T k)
  simp only [ofLane_eq, hv]
  have key : ∀ n : ℕ, n < 16 → (((List.finRange 16).filter fun k => decide (0 < k.val ∧ k.val ≤ n)).map Fin.val) = List.range' 1 n := by decide
  have hfold : ∀ (L : List (Fin 16)) (r : BitVec 32), L.foldl (fun r k => r + BitVec.ofNat 32 (T (b + k.val))) r
      = (L.map Fin.val).foldl (fun r k => r + BitVec.ofNat 32 (T (b + k))) r := fun L => by
    induction L with
    | nil => intro r; rfl
    | cons k L ih => intro r; exact ih _
  refine (hfold _ _).trans ?_
  rw [key l.val l.isLt]
  have hsum : ∀ n : ℕ, (List.range' 1 n).foldl (fun r k => r + BitVec.ofNat 32 (T (b + k))) (BitVec.ofNat 32 (T (b + 0)))
      = BitVec.ofNat 32 (∑ k ∈ Finset.Ico b (b + n + 1), T k) := fun n => by
    induction n with
    | zero => simp
    | succ n ih =>
      rw [List.range'_concat, List.foldl_append, ih, Nat.one_mul]
      rw [List.foldl_cons, List.foldl_nil, ← BitVec.ofNat_add]
      congr 1
      rw [show b + (n + 1) = b + n + 1 by omega, Finset.sum_Ico_succ_top (b := b + n + 1) (by omega), show b + (1 + n) = b + n + 1 by omega]
  exact hsum l.val

end Cert.Radix

end
-- ==== Proof.Step.lean ====
module

public import proofs.«01_k».proof.Proof.Env
public import proofs.«01_k».proof.Proof.Lanes

/-! The keys' digits, the pieces of the arrays a tile works on, and its copies between a piece and a whole buffer. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

/-! ### Digits -/

/-- The digit of a key at a shift. -/
def dig (sh k : BitVec 32) : ℕ := (IntOp.andi (IntOp.shrui .vector k sh) 32767#32).toNat

theorem dig_lt (sh k : BitVec 32) : dig sh k < 32768 := by
  unfold dig IntOp.andi
  rw [BitVec.toNat_and]
  exact Nat.lt_of_le_of_lt Nat.and_le_right (by decide)

theorem digits_toNat (sh : BitVec 32) (v : IVec S16 32) (x : S16.Idx) : (digits sh v x).toNat = dig sh (v x) := rfl

theorem chk_digits (sh : BitVec 32) (v : IVec S16 32) : chk (digits sh v) := by
  intro a x
  rw [show a = (0 : Fin 1) from Subsingleton.elim (α := Fin 1) _ _]
  exact dig_lt sh (v x)

theorem chk2_digits (sh : BitVec 32) (v : IVec S16 32) : chk2 (digits sh v) := ⟨chk_digits sh v, chk_digits sh v⟩

/-- Word `i` of an array of the keys' length, the index wrapped. -/
def ixm (i : ℕ) : S4194304.Idx := ixN ⟨i % 4194304, Nat.mod_lt _ (by decide)⟩

theorem ixm_val {i : ℕ} (h : i < 4194304) : (ixm i 0).val = i := Nat.mod_eq_of_lt h

theorem ixm_eta (x : S4194304.Idx) : ixm (x 0).val = x := idx1_ext (ixm_val (x 0).isLt)

/-- The digit of key `i`. -/
def dgt (sh : BitVec 32) (K : S4194304.Idx → BitVec 32) (i : ℕ) : ℕ := dig sh (K (ixm i))

theorem dgt_lt (sh : BitVec 32) (K : S4194304.Idx → BitVec 32) (i : ℕ) : dgt sh K i < 32768 := dig_lt _ _

/-- The digits' counts over an interval, as a table. -/
def tab (f : ℕ → ℕ) (a b : ℕ) : S32768.Idx → BitVec 32 := fun y => BitVec.ofNat 32 (cnt f a b (y 0).val)

/-- Window `t` of tile `w`'s keys. -/
def wkeys (K : S4194304.Idx → BitVec 32) (w t : ℕ) : S8192.Idx → BitVec 32 := fun x => K (ixm (131072 * w + 8192 * t + (x 0).val))

/-- Tile `w`'s part of the keys. -/
def chunk (w : ℕ) : Finset S4194304.Idx := Finset.univ.filter fun x => 131072 * w ≤ (x 0).val ∧ (x 0).val < 131072 * (w + 1)

theorem mem_chunk {w : ℕ} {x : S4194304.Idx} : x ∈ chunk w ↔ 131072 * w ≤ (x 0).val ∧ (x 0).val < 131072 * (w + 1) :=
  ⟨fun h => (Finset.mem_filter.mp h).2, fun h => Finset.mem_filter.mpr ⟨Finset.mem_univ _, h⟩⟩

/-! ### Pieces -/

theorem unit_val {sh : Shape} (off size : Fin sh.rank → Nat) (inb) (x : (Rect.unit (s := sh) off size inb).shape.Idx) (a : Fin sh.rank) :
    ((Rect.unit (s := sh) off size inb).emb x a).val = off a + (x a).val := by
  show off a + 1 * (x a).val = _
  omega

section Focus

variable [∀ e, Nonempty (Elt F e)] {sp : Space} {sh : Shape} {d : Dev nD} {c : Fin τ.nSC} {s : Fin τ.nSub}

/-- A piece of what is held, apart. -/
theorem pts_take (m : Memref sig .scVector sp sh .i32) (r : Rect sh) (hr : ∀ a, r.stride a = 1) (q : PosShare TreeShare)
    {S : Finset sh.Idx} (hS : ∀ x, r.emb x ∈ S) (g : sh.Idx → BitVec 32) :
    (pts d c s m q S g : sProp 𝕄) ⊢ iprop(pts d c s (m.slice r hr) q Finset.univ (fun x => g (r.emb x)) ∗ pts d c s m q (S \ Finset.univ.map r.emb) g) := by
  rw [pts_slice]
  refine (pts_split m q (fun y hy => ?_) g).1
  obtain ⟨x, -, rfl⟩ := Finset.mem_map.mp hy
  exact hS x

/-- A piece put back with other contents. -/
theorem pts_put (m : Memref sig .scVector sp sh .i32) (r : Rect sh) (hr : ∀ a, r.stride a = 1) (q : PosShare TreeShare)
    {S : Finset sh.Idx} (hS : ∀ x, r.emb x ∈ S) (g g' : sh.Idx → BitVec 32) (w : r.shape.Idx → BitVec 32)
    (h1 : ∀ x, g' (r.emb x) = w x) (h2 : ∀ y ∈ S, (∀ x, r.emb x ≠ y) → g' y = g y) :
    iprop(pts d c s (m.slice r hr) q Finset.univ w ∗ pts d c s m q (S \ Finset.univ.map r.emb) g) ⊢ (pts d c s m q S g' : sProp 𝕄) := by
  rw [← pts_congr (m.slice r hr) q Finset.univ (fun x _ => h1 x), pts_slice,
    ← pts_congr m q (S \ Finset.univ.map r.emb) (g := g') (g' := g) (fun y hy => h2 y (Finset.mem_sdiff.mp hy).1 fun x hx =>
      (Finset.mem_sdiff.mp hy).2 (Finset.mem_map.mpr ⟨x, Finset.mem_univ _, hx⟩))]
  refine (pts_split m q (fun y hy => ?_) g').2
  obtain ⟨x, -, rfl⟩ := Finset.mem_map.mp hy
  exact hS x

/-- A piece of as many elements in another shape, held whole. -/
theorem pts_squeeze_univ {sh' : Shape} (m : Memref sig .scVector sp sh .i32) (hq : sh.Squeezes sh') (q : PosShare TreeShare)
    (g : sh.Idx → BitVec 32) :
    (pts d c s m q Finset.univ g : sProp 𝕄) = pts d c s (m.squeeze sh' hq) q Finset.univ (fun x => g (Shape.reshapeEquiv hq.numel_eq x)) := by
  rw [pts_squeeze, Finset.map_univ_equiv]

end Focus

section Dma2

variable [FloatOps F] [Facts] [∀ e, Nonempty (Elt F e)] {sp sp' : Space} {sh : Shape} {α : Type} {Q : α → sProp (MT nD τ sig (HIx 4) (Elt F) ℕ UU ℕ)}
variable {d : Dev nD} {c : Fin τ.nSC} {s : Fin τ.nSub}

/-- A program at its end. -/
theorem wp_end (a : α) : Q a ⊢ WP (d := d) (c := c) (s := s) (F := F) (.ret a) Q := by
  unfold WP
  rw [wp_ret]
  iintro H; imodintro; iexact H

/-- A program past a check that holds. -/
theorem wp_check {P : Prop} {dc : Decidable P} {k : PLift P → TProg F c s α} (h : P) :
    WP (d := d) (k ⟨h⟩) Q ⊢ WP (d := d) (.op (.assume P dc) k) Q :=
  wp_assume (Γ := .empty) (defs := defs₀ (F := F)) 𝒱₀ (V d c s) none Set.univ h

/-- A piece copied onto a whole buffer. -/
theorem wp_dmaIn {src : Memref sig .scVector sp sh .i32} (r : Rect sh) {hr : ∀ a, r.stride a = 1} {dst : Memref sig .scVector sp' r.shape .i32} {sem : DmaSem sig}
    {hsrc hsrc' : (src.slice r hr).view.WordExact} {hdst hdst' : dst.view.WordExact} {hsem : DmaTarget.Typed sp (.dma sem) (DmaTarget.here (nD := nD) (p := Proc.scVector c s) dst)}
    {k : PUnit → TProg F c s α} {q : PosShare TreeShare} {S : Finset sh.Idx} {g : sh.Idx → BitVec 32} {g' : r.shape.Idx → BitVec 32} (g2 : r.shape.Idx → BitVec 32)
    {O : CellTallies nD τ sig (HIx 4)} {W : Waits sig (HIx 4)} {SS : Finset (GSem nD τ sig)}
    (hg : (V d c s, SemLoc.dma sem) ∈ SS) (hn : 0 < r.shape.numel) (hS : ∀ x, r.emb x ∈ S) (h2 : ∀ x, g (r.emb x) = g2 x) :
    iprop(env d c s O W SS ∗ pts d c s src q S g ∗ pts d c s dst fullShare Finset.univ g')
      ⊢ iprop((iprop(env d c s O W SS ∗ pts d c s src q S g ∗ pts d c s dst fullShare Finset.univ g2) -∗ WP (d := d) (k ⟨⟩) Q)
        -∗ WP (d := d) (.op (.enqueueDma (src.slice r hr) (.here dst) (.dma sem) hsrc hdst hsem) fun _ => .op (.waitDma2 sem (src.slice r hr) dst hsrc' hdst') k) Q) := by
  iintro ⟨HE, Hs, Hd⟩ Hk
  ihave Hs := (pts_take src r hr q hS g) $$ Hs
  icases Hs with ⟨Hs, Hr⟩
  iapply (wp_dmaPair (src := src.slice r hr) (dst := dst) (q := q) (g := fun x => g (r.emb x)) (g' := g') hg hn) $$ [HE Hs Hd]
  · isplitl [HE]; · iexact HE
    isplitl [Hs] <;> iassumption
  iintro ⟨HE, Hs, Hd⟩
  iapply Hk
  isplitl [HE]; · iexact HE
  isplitr [Hd]
  · iapply (pts_put src r hr q hS g g (fun x => g (r.emb x)) (fun _ => rfl) (fun _ _ _ => rfl))
    isplitl [Hs] <;> iassumption
  · iapply (Entails.of_eq (pts_congr dst fullShare Finset.univ fun x _ => h2 x)) $$ Hd

/-- A copy and its wait, the contents it leaves stated another way. -/
theorem wp_dmaTo {src : Memref sig .scVector sp sh .i32} {dst : Memref sig .scVector sp' sh .i32} {sem : DmaSem sig}
    {hsrc hsrc' : src.view.WordExact} {hdst hdst' : dst.view.WordExact} {hsem : DmaTarget.Typed sp (.dma sem) (DmaTarget.here (nD := nD) (p := Proc.scVector c s) dst)}
    {k : PUnit → TProg F c s α} {q : PosShare TreeShare} {g g' : sh.Idx → BitVec 32} (g2 : sh.Idx → BitVec 32)
    {O : CellTallies nD τ sig (HIx 4)} {W : Waits sig (HIx 4)} {SS : Finset (GSem nD τ sig)}
    (hg : (V d c s, SemLoc.dma sem) ∈ SS) (hn : 0 < sh.numel) (h2 : ∀ x, g x = g2 x) :
    iprop(env d c s O W SS ∗ pts d c s src q Finset.univ g ∗ pts d c s dst fullShare Finset.univ g')
      ⊢ iprop((iprop(env d c s O W SS ∗ pts d c s src q Finset.univ g ∗ pts d c s dst fullShare Finset.univ g2) -∗ WP (d := d) (k ⟨⟩) Q)
        -∗ WP (d := d) (.op (.enqueueDma src (.here dst) (.dma sem) hsrc hdst hsem) fun _ => .op (.waitDma2 sem src dst hsrc' hdst') k) Q) := by
  rw [← pts_congr dst fullShare Finset.univ (fun x _ => h2 x)]
  exact wp_dmaPair hg hn

end Dma2

end Cert.Radix

end
-- ==== Proof.Hist.lean ====
module

public import proofs.«01_k».proof.Proof.Step

/-! The histogram program of one tile: what it leaves in its row of the grid. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

theorem unit_ex {sh : Shape} (off size : Fin sh.rank → Nat) (inb) (y : sh.Idx) (h : ∀ a, off a ≤ (y a).val ∧ (y a).val < off a + size a) :
    ∃ x, (Rect.unit (s := sh) off size inb).emb x = y :=
  ⟨fun a => ⟨(y a).val - off a, by have := h a; show _ < size a; omega⟩, funext fun a => Fin.ext (by
    rw [unit_val]; have := h a; show off a + ((y a).val - off a) = _; omega)⟩

/-- Tile `w`'s row of the grid. -/
def grow (w : ℕ) : Finset S16x32x2048.Idx := Finset.univ.filter fun x => (x 1).val = w

theorem mem_grow {w : ℕ} {x : S16x32x2048.Idx} : x ∈ grow w ↔ (x 1).val = w :=
  ⟨fun h => (Finset.mem_filter.mp h).2, fun h => Finset.mem_filter.mpr ⟨Finset.mem_univ _, h⟩⟩

/-- The grid of the tiles' counts of each digit. -/
def gridv (f : ℕ → ℕ) : S16x32x2048.Idx → BitVec 32 := fun x =>
  BitVec.ofNat 32 (cnt f (131072 * (x 1).val) (131072 * ((x 1).val + 1)) (2048 * (x 0).val + (x 2).val))

theorem reshape_part (h : S2048.numel = S1x1x2048.numel) (x : S2048.Idx) :
    (Shape.reshapeEquiv h x : S1x1x2048.Idx) = (fun | ⟨0, _⟩ => ⟨0, Nat.one_pos⟩ | ⟨1, _⟩ => ⟨0, Nat.one_pos⟩ | ⟨2, _⟩ => x 0) := by
  refine Shape.reshapeEquiv_eq_of_rowMajor h ?_
  rw [Shape.rowMajor_val_three, Shape.rowMajor_val_one]
  show (0 * 1 + 0) * 2048 + (x 0).val = (x 0).val
  omega

section Run

variable [FloatOps F] [Facts] [∀ e, Nonempty (Elt F e)] {α : Type} {Q : α → sProp (MT nD τ sig (HIx 4) (Elt F) ℕ UU ℕ)}
variable {d : Dev nD} {c : Fin τ.nSC} {s : Fin τ.nSub}

/-- The table zeroed. -/
theorem wp_zeroLoop {a5 : Memref sig .scVector .vmem S32768 .i32} {g : S32768.Idx → BitVec 32} {kk : BitVec 32 → TProg F c s α} :
    pts d c s a5 fullShare Finset.univ g ⊢ iprop((∀ acc, pts d c s a5 fullShare Finset.univ (fun _ => 0#32) -∗ WP (d := d) (kk acc) Q)
      -∗ WP (d := d) (Scf.Loop.for (loopN 2048#32) loop2048_ok 0#32 (fun t _ => zeroBody a5 t) >>= kk) Q) := by
  have hbody : ∀ (t : Fin (loopN 2048#32).trips) (acc : BitVec 32),
      (iprop(∃ g, pts d c s a5 fullShare Finset.univ g ∗ ⌜∀ y : S32768.Idx, (y 0).val < 16 * t.val → g y = 0#32⌝) : sProp 𝕄)
        ⊢ WP (d := d) (zeroBody (c := c) (s := s) a5 t) fun _ => iprop(∃ g, pts d c s a5 fullShare Finset.univ g ∗ ⌜∀ y : S32768.Idx, (y 0).val < 16 * (t.val + 1) → g y = 0#32⌝) := by
    intro t acc
    have ht : t.val < 2048 := t.isLt
    have ho : offZ t 0 = 16 * t.val := by rw [offZ_eq _ ht]; rfl
    unfold zeroBody
    iintro ⟨%g, Hg, %hz⟩
    iapply (wp_ptsLoad (fun _ => Finset.mem_univ _)) $$ Hg
    iintro Hg
    iapply (wp_ptsStore (fun y => if (y 0).val < 16 * (t.val + 1) then 0#32 else g y) (fun _ => Finset.mem_univ _) ?h1 ?h2) $$ Hg
    case h1 =>
      intro x
      refine if_pos ?_
      have h1 := unit_val (sh := S32768) (offZ t) S16.size (offZ_inb t) x 0
      have h2 : (x 0).val < 16 := (x 0).isLt
      omega
    case h2 =>
      intro y _ hy
      show (if (y 0).val < 16 * (t.val + 1) then 0#32 else g y) = g y
      split
      · rename_i hlt
        by_cases hc : (y 0).val < 16 * t.val
        · exact (hz y hc).symm
        · obtain ⟨x, hx⟩ := unit_ex (sh := S32768) (offZ t) S16.size (offZ_inb t) y (fun a => by
            rw [show a = (0 : Fin 1) from Subsingleton.elim (α := Fin 1) _ _, ho]
            show _ ∧ _ < _ + 16
            omega)
          exact absurd hx (hy x)
      · rfl
    iintro Hg
    iapply (wp_end (F := F) _)
    iexists _
    isplitl [Hg]; · iexact Hg
    ipureintro
    exact fun y hy => if_pos hy
  iintro Hg Hk
  iapply (Scf.wp_for_bind frame (wpE (defs₀ (F := F)) 𝒱₀ (V d c s) none) Set.univ 0#32 (Scalar.addi 0#32 2048#32) 1#32 loop2048_ok 0#32 (fun t _ => zeroBody a5 t)
    (fun n _ => iprop(∃ g, pts d c s a5 fullShare Finset.univ g ∗ ⌜∀ y : S32768.Idx, (y 0).val < 16 * n → g y = 0#32⌝)) hbody) $$ [Hg]
  · iexists _
    isplitl [Hg]; · iexact Hg
    ipureintro
    intro y hy; omega
  iintro %acc ⟨%g, Hg, %hz⟩
  iapply Hk
  iapply (Entails.of_eq (pts_congr a5 fullShare Finset.univ (g := g) (g' := fun _ => 0#32) fun y _ => hz y (y 0).isLt)) $$ Hg

/-- The pieces of a trip counted. -/
theorem wp_pieces0 {a4 : Memref sig .scVector .vmem S8192 .i32} {a5 : Memref sig .scVector .vmem S32768 .i32} (sh : BitVec 32)
    (K : S4194304.Idx → BitVec 32) (w n : ℕ) (t : Fin (loopN 64#32).trips) (rs : List (Fin 8)) (j m : ℕ) (hrs : rs.map Fin.val = List.range' j m)
    {Q : BitVec 32 → sProp 𝕄} :
    iprop(pts d c s a4 fullShare Finset.univ (wkeys K w n) ∗ pts d c s a5 fullShare Finset.univ (tab (dgt sh K) (131072 * w) (131072 * w + 8192 * n + 128 * t.val + 16 * j)))
      ⊢ iprop((iprop(pts d c s a4 fullShare Finset.univ (wkeys K w n) ∗ pts d c s a5 fullShare Finset.univ (tab (dgt sh K) (131072 * w) (131072 * w + 8192 * n + 128 * t.val + 16 * (j + m)))) -∗ Q 0#32)
      -∗ WP (d := d) (pieces0 (F := F) (c := c) (s := s) chk.dec sh a4 a5 t rs) Q) := by
  induction rs generalizing j m with
  | nil =>
    have hm : m = 0 := by simpa using (congrArg List.length hrs).symm
    subst hm
    unfold pieces0
    iintro H Hk
    iapply (wp_end (F := F) _)
    iapply Hk $$ H
  | cons r rs ih =>
    obtain ⟨m, rfl⟩ : ∃ m', m = m' + 1 := ⟨m - 1, by have := congrArg List.length hrs; simp at this; omega⟩
    rw [List.map_cons, List.range'_succ, List.cons.injEq] at hrs
    obtain ⟨hr, hrs⟩ := hrs
    have ht : t.val < 64 := t.isLt
    have ho : offV t r 0 = 128 * t.val + 16 * j := by rw [offV_eq _ _ ht r.isLt, hr]; rfl
    have hd : ∀ x : S16.Idx, (digits sh (fun x => wkeys K w n ((Rect.unit (s := S8192) (offV t r) S16.size (offV_inb t r)).emb x)) x).toNat
        = dgt sh K (131072 * w + 8192 * n + 128 * t.val + 16 * j + (x 0).val) := fun x => by
      have h1 := unit_val (sh := S8192) (offV t r) S16.size (offV_inb t r) x 0
      show dig sh (K (ixm (131072 * w + 8192 * n + ((Rect.unit (s := S8192) (offV t r) S16.size (offV_inb t r)).emb x 0).val))) = _
      rw [h1, ho]
      unfold dgt
      congr 3
      omega
    iintro ⟨H4, H5⟩ Hk
    unfold pieces0
    iapply (wp_ptsLoad (fun _ => Finset.mem_univ _)) $$ H4
    iintro H4
    iapply (wp_check (chk_digits sh _))
    iapply (wp_ptsStoreIdx (dd := ![16]) (m := a5) (add := true)) $$ H5
    iintro H5
    iapply (ih (j + 1) m hrs) $$ [H4 H5]
    · isplitl [H4]; · iexact H4
      iapply (Entails.of_eq (pts_congr a5 fullShare Finset.univ ?_)) $$ H5
      intro y _
      refine (store_counts (F := F) hd _ y).trans ?_
      show BitVec.ofNat 32 _ + BitVec.ofNat 32 _ = BitVec.ofNat 32 _
      rw [← BitVec.ofNat_add, cnt_add (by omega) (by omega)]
      congr 2
    · rw [show j + 1 + m = j + (m + 1) by omega]
      iexact Hk

/-- One window of the histogram. -/
theorem wp_winBody0 {a2 : Memref sig .scVector .hbm S4194304 .i32} {a4 : Memref sig .scVector .vmem S8192 .i32} {h4 : a4.IsWhole}
    {a5 : Memref sig .scVector .vmem S32768 .i32} (sh : BitVec 32) (i : grid0.Coords) (sem0 : DmaSems sig S_) (q : PosShare TreeShare)
    (K : S4194304.Idx → BitVec 32) (t : Fin (loopN 16#32).trips)
    {O : CellTallies nD τ sig (HIx 4)} {W : Waits sig (HIx 4)} {SS : Finset (GSem nD τ sig)} (hg : (V d c s, SemLoc.dma sem0.sem) ∈ SS) :
    iprop(env d c s O W SS ∗ pts d c s a2 q (chunk (wid i)) K ∗ (∃ g, pts d c s a4 fullShare Finset.univ g)
        ∗ pts d c s a5 fullShare Finset.univ (tab (dgt sh K) (131072 * wid i) (131072 * wid i + 8192 * t.val)))
      ⊢ WP (d := d) (winBody0 (F := F) (c := c) (s := s) sh i a2 a4 h4 a5 sem0 t) fun _ =>
      iprop(env d c s O W SS ∗ pts d c s a2 q (chunk (wid i)) K ∗ (∃ g, pts d c s a4 fullShare Finset.univ g)
        ∗ pts d c s a5 fullShare Finset.univ (tab (dgt sh K) (131072 * wid i) (131072 * wid i + 8192 * (t.val + 1)))) := by
  have ht : t.val < 16 := t.isLt
  have ho : offW i t 0 = 131072 * wid i + 8192 * t.val := by rw [offW_eq _ _ ht]; rfl
  have hw := wid_lt i
  have hv := fun x => unit_val (sh := S4194304) (offW i t) S8192.size (offW_inb i t) x 0
  rw [show 131072 * wid i + 8192 * (t.val + 1) = 131072 * wid i + 8192 * t.val + 128 * (loopN 64#32).trips by
    rw [show (loopN 64#32).trips = 64 from rfl]; omega]
  unfold winBody0
  iintro ⟨HE, H2, ⟨%g, H4⟩, H5⟩
  have hS : ∀ x : S8192.Idx, (Rect.unit (s := S4194304) (offW i t) S8192.size (offW_inb i t)).emb x ∈ chunk (wid i) := fun x => by
    have h1 := hv x
    have h2 : (x 0).val < 8192 := (x 0).isLt
    rw [mem_chunk]; omega
  have e : ∀ x : S8192.Idx, K ((Rect.unit (s := S4194304) (offW i t) S8192.size (offW_inb i t)).emb x) = wkeys K (wid i) t.val x := fun x => by
    unfold wkeys
    congr 1
    refine idx1_ext ?_
    have h2 : (x 0).val < 8192 := (x 0).isLt
    rw [hv x, ho, ixm_val (by omega)]
  iapply (wp_dmaIn (Rect.unit (s := S4194304) (offW i t) S8192.size (offW_inb i t)) (wkeys K (wid i) t.val) (S := chunk (wid i)) hg (show 0 < S8192.numel by decide) hS e) $$ [HE H2 H4]
  · isplitl [HE]; · iexact HE
    isplitl [H2] <;> iassumption
  iintro ⟨HE, H2, H4⟩
  iapply (Scf.wp_for_bind frame (wpE (defs₀ (F := F)) 𝒱₀ (V d c s) none) Set.univ 0#32 (Scalar.addi 0#32 64#32) 1#32 loop64_ok 0#32 (fun t _ => pieces0 chk.dec sh a4 a5 t all8)
    (fun n _ => iprop(pts d c s a4 fullShare Finset.univ (wkeys K (wid i) t.val) ∗ pts d c s a5 fullShare Finset.univ (tab (dgt sh K) (131072 * wid i) (131072 * wid i + 8192 * t.val + 128 * n))))
    (fun n acc => by
      iintro H
      iapply (wp_pieces0 sh K (wid i) t.val n all8 0 8 (by decide)) $$ H
      iintro H
      iexact H)) $$ [H4 H5]
  · isplitl [H4] <;> iassumption
  iintro %acc ⟨H4, H5⟩
  iapply (wp_end (F := F) _)
  isplitl [HE]; · iexact HE
  isplitl [H2]; · iexact H2
  isplitl [H4]; · iexists _; iexact H4
  iexact H5

/-- The table copied to the tile's row of the grid. -/
theorem wp_copies0 {a3 : Memref sig .scVector .hbm S16x32x2048 .i32} {a5 : Memref sig .scVector .vmem S32768 .i32} (i : grid0.Coords)
    (sems : Fin 16 → DmaSems sig S_) (f : ℕ → ℕ) (qs : List (Fin 16)) (j m : ℕ) (hqs : qs.map Fin.val = List.range' j m)
    {O : CellTallies nD τ sig (HIx 4)} {W : Waits sig (HIx 4)} {SS : Finset (GSem nD τ sig)} (hg : ∀ q, (V d c s, SemLoc.dma (sems q).sem) ∈ SS)
    (g : S16x32x2048.Idx → BitVec 32) (hz : ∀ x ∈ grow (wid i), (x 0).val < j → g x = gridv f x) {Q : PUnit → sProp 𝕄} :
    iprop(env d c s O W SS ∗ pts d c s a5 fullShare Finset.univ (tab f (131072 * wid i) (131072 * (wid i + 1))) ∗ pts d c s a3 fullShare (grow (wid i)) g)
      ⊢ iprop((∀ g', iprop(⌜∀ x ∈ grow (wid i), (x 0).val < j + m → g' x = gridv f x⌝ ∗ env d c s O W SS
          ∗ pts d c s a5 fullShare Finset.univ (tab f (131072 * wid i) (131072 * (wid i + 1))) ∗ pts d c s a3 fullShare (grow (wid i)) g') -∗ Q ⟨⟩)
      -∗ WP (d := d) (copies0 (F := F) (c := c) (s := s) i a3 a5 sems qs) Q) := by
  induction qs generalizing j m g with
  | nil =>
    have hm : m = 0 := by simpa using (congrArg List.length hqs).symm
    subst hm
    unfold copies0
    iintro ⟨HE, H5, H3⟩ Hk
    iapply (wp_end (F := F) _)
    iapply Hk
    isplitr; · ipureintro; exact hz
    isplitl [HE]; · iexact HE
    isplitl [H5] <;> iassumption
  | cons q qs ih =>
    obtain ⟨m, rfl⟩ : ∃ m', m = m' + 1 := ⟨m - 1, by have := congrArg List.length hqs; simp at this; omega⟩
    rw [List.map_cons, List.range'_succ, List.cons.injEq] at hqs
    obtain ⟨hq, hqs⟩ := hqs
    have hv5 := fun x => unit_val (sh := S32768) ![2048 * q.val] S2048.size (offC_inb q) x 0
    have hv3 : ∀ (x : S1x1x2048.Idx) (a : Fin 3), ((Rect.unit (s := S16x32x2048) (offG i q) S1x1x2048.size (offG_inb i q)).emb x a).val
        = (![q.val, wid i, 0] : Fin 3 → ℕ) a + (x a).val := fun x a =>
      (unit_val (sh := S16x32x2048) (offG i q) S1x1x2048.size (offG_inb i q) x a).trans (congrArg (· + (x a).val) (congrFun (offG_eq i q) a))
    have hS3 : ∀ x, (Rect.unit (s := S16x32x2048) (offG i q) S1x1x2048.size (offG_inb i q)).emb x ∈ grow (wid i) := fun x => by
      rw [mem_grow, hv3]
      have : (x 1).val < 1 := (x 1).isLt
      show wid i + (x 1).val = wid i
      omega
    have hval : ∀ z : S1x1x2048.Idx, gridv f ((Rect.unit (s := S16x32x2048) (offG i q) S1x1x2048.size (offG_inb i q)).emb z)
        = BitVec.ofNat 32 (cnt f (131072 * wid i) (131072 * (wid i + 1)) (2048 * q.val + (z 2).val)) := fun z => by
      have h0 : (z 0).val < 1 := (z 0).isLt
      have h1 : (z 1).val < 1 := (z 1).isLt
      have e0 := hv3 z 0; have e1 := hv3 z 1; have e2 := hv3 z 2
      have e0' : ((Rect.unit (s := S16x32x2048) (offG i q) S1x1x2048.size (offG_inb i q)).emb z 0).val = q.val := e0.trans (by show q.val + (z 0).val = _; omega)
      have e1' : ((Rect.unit (s := S16x32x2048) (offG i q) S1x1x2048.size (offG_inb i q)).emb z 1).val = wid i := e1.trans (by show wid i + (z 1).val = _; omega)
      have e2' : ((Rect.unit (s := S16x32x2048) (offG i q) S1x1x2048.size (offG_inb i q)).emb z 2).val = (z 2).val := e2.trans (by show 0 + (z 2).val = _; omega)
      unfold gridv
      rw [e0', e1', e2']
    have e : ∀ x : S2048.Idx, tab f (131072 * wid i) (131072 * (wid i + 1)) ((Rect.unit (s := S32768) ![2048 * q.val] S2048.size (offC_inb q)).emb x)
        = gridv f ((Rect.unit (s := S16x32x2048) (offG i q) S1x1x2048.size (offG_inb i q)).emb (Shape.reshapeEquiv squeezes_S1x1x2048_S2048.numel_eq x)) := fun x => by
      rw [hval, reshape_part]
      unfold tab
      rw [hv5]
      rfl
    unfold copies0
    iintro ⟨HE, H5, H3⟩ Hk
    ihave H3 := (pts_take a3 _ (fun _ => rfl) fullShare hS3 g) $$ H3
    icases H3 with ⟨H3, Hr3⟩
    ihave H3 := (Entails.of_eq (pts_squeeze_univ _ squeezes_S1x1x2048_S2048 fullShare _)) $$ H3
    ihave H5 := (pts_take a5 (Rect.unit (s := S32768) ![2048 * q.val] S2048.size (offC_inb q)) (fun _ => rfl) fullShare (fun _ => Finset.mem_univ _) _) $$ H5
    icases H5 with ⟨H5, Hr5⟩
    iapply (wp_dmaTo (fun x : S2048.Idx => gridv f ((Rect.unit (s := S16x32x2048) (offG i q) S1x1x2048.size (offG_inb i q)).emb (Shape.reshapeEquiv squeezes_S1x1x2048_S2048.numel_eq x)))
      (hg q) (show 0 < S2048.numel by decide) e) $$ [HE H3 H5]
    · isplitl [HE]; · iexact HE
      isplitl [H5]
      · iexact H5
      · iexact H3
    iintro ⟨HE, H5, H3⟩
    ihave H3 := (Entails.of_eq (pts_squeeze_univ (a3.slice _ _) squeezes_S1x1x2048_S2048 fullShare
      (fun z => gridv f ((Rect.unit (s := S16x32x2048) (offG i q) S1x1x2048.size (offG_inb i q)).emb z))).symm) $$ H3
    ihave H3 := (pts_put a3 (Rect.unit (s := S16x32x2048) (offG i q) S1x1x2048.size (offG_inb i q)) (fun _ => rfl) fullShare hS3 g
      (fun y => if (y 0).val = q.val then gridv f y else g y) _ (fun x => if_pos (by
        have h0 : (x 0).val < 1 := (x 0).isLt
        exact (hv3 x 0).trans (by show q.val + (x 0).val = _; omega))) (fun y hy hn => by
          refine if_neg fun hc => ?_
          obtain ⟨x, hx⟩ := unit_ex (sh := S16x32x2048) (offG i q) S1x1x2048.size (offG_inb i q) y (fun a => by
            rw [offG_eq]
            have h1 := mem_grow.mp hy
            have h2 : (y 2).val < 2048 := (y 2).isLt
            fin_cases a
            · show q.val ≤ (y 0).val ∧ (y 0).val < q.val + 1; omega
            · show wid i ≤ (y 1).val ∧ (y 1).val < wid i + 1; omega
            · show 0 ≤ (y 2).val ∧ (y 2).val < 0 + 2048; omega)
          exact hn x hx)) $$ [H3 Hr3]
    · isplitl [H3] <;> iassumption
    ihave H5 := (pts_put a5 (Rect.unit (s := S32768) ![2048 * q.val] S2048.size (offC_inb q)) (fun _ => rfl) fullShare (fun _ => Finset.mem_univ _) _
      (tab f (131072 * wid i) (131072 * (wid i + 1))) _ (fun _ => rfl) (fun _ _ _ => rfl)) $$ [H5 Hr5]
    · isplitl [H5]
      · iexact H5
      · iexact Hr5
    iapply (ih (j + 1) m hqs (fun y => if (y 0).val = q.val then gridv f y else g y) (fun x hx hlt => by
      by_cases hc : (x 0).val = q.val
      · exact if_pos hc
      · exact (if_neg hc).trans (hz x hx (by omega)))) $$ [HE H3 H5]
    · isplitl [HE]; · iexact HE
      isplitl [H5]
      · iexact H5
      · iexact H3
    · rw [show j + 1 + m = j + (m + 1) by omega]
      iexact Hk

/-- The histogram program of one tile. -/
theorem wp_hist {a2 : Memref sig .scVector .hbm S4194304 .i32} {a3 : Memref sig .scVector .hbm S16x32x2048 .i32} {a4 : Memref sig .scVector .vmem S8192 .i32} {h4 : a4.IsWhole}
    {a5 : Memref sig .scVector .vmem S32768 .i32} (sh : BitVec 32) (i : grid0.Coords) (sem0 : DmaSems sig S_) (sems : Fin 16 → DmaSems sig S_) (q : PosShare TreeShare)
    (K : S4194304.Idx → BitVec 32)
    {O : CellTallies nD τ sig (HIx 4)} {W : Waits sig (HIx 4)} {SS : Finset (GSem nD τ sig)} (hg : (V d c s, SemLoc.dma sem0.sem) ∈ SS)
    (hgs : ∀ q, (V d c s, SemLoc.dma (sems q).sem) ∈ SS) :
    iprop(env d c s O W SS ∗ pts d c s a2 q (chunk (wid i)) K ∗ (∃ g, pts d c s a3 fullShare (grow (wid i)) g)
        ∗ (∃ g, pts d c s a4 fullShare Finset.univ g) ∗ (∃ g, pts d c s a5 fullShare Finset.univ g))
      ⊢ WP (d := d) (hist (F := F) (c := c) (s := s) sh i a2 a3 a4 h4 a5 sem0 sems) fun _ =>
      iprop(env d c s O W SS ∗ pts d c s a2 q (chunk (wid i)) K ∗ pts d c s a3 fullShare (grow (wid i)) (gridv (dgt sh K))
        ∗ (∃ g, pts d c s a4 fullShare Finset.univ g) ∗ (∃ g, pts d c s a5 fullShare Finset.univ g)) := by
  unfold hist
  iintro ⟨HE, H2, ⟨%g3, H3⟩, H4, ⟨%g5, H5⟩⟩
  iapply wp_zeroLoop $$ H5
  iintro %_ H5
  have e : ∀ y ∈ (Finset.univ : Finset S32768.Idx), 0#32 = tab (dgt sh K) (131072 * wid i) (131072 * wid i + 8192 * 0) y := fun y _ => by
    unfold tab
    rw [Nat.mul_zero, Nat.add_zero, cnt_self]
  ihave H5 := (Entails.of_eq (pts_congr a5 fullShare Finset.univ e)) $$ H5
  iapply (Scf.wp_for_bind frame (wpE (defs₀ (F := F)) 𝒱₀ (V d c s) none) Set.univ 0#32 (Scalar.addi 0#32 16#32) 1#32 loop16_ok 0#32 (fun t _ => winBody0 sh i a2 a4 h4 a5 sem0 t)
    (fun n _ => iprop(env d c s O W SS ∗ pts d c s a2 q (chunk (wid i)) K ∗ (∃ g, pts d c s a4 fullShare Finset.univ g)
        ∗ pts d c s a5 fullShare Finset.univ (tab (dgt sh K) (131072 * wid i) (131072 * wid i + 8192 * n))))
    (fun n acc => wp_winBody0 sh i sem0 q K n hg)) $$ [HE H2 H4 H5]
  · isplitl [HE]; · iexact HE
    isplitl [H2]; · iexact H2
    isplitl [H4] <;> iassumption
  iintro %_ ⟨HE, H2, H4, H5⟩
  rw [show 131072 * wid i + 8192 * (loopN 16#32).trips = 131072 * (wid i + 1) by
    rw [show (loopN 16#32).trips = 16 from rfl]; omega]
  iapply (wp_copies0 i sems (dgt sh K) all16 0 16 (by decide) hgs g3 (fun _ _ h => absurd h (Nat.not_lt_zero _))) $$ [HE H3 H5]
  · isplitl [HE]; · iexact HE
    isplitl [H5]
    · iexact H5
    · iexact H3
  iintro %g' ⟨%hz, HE, H5, H3⟩
  isplitl [HE]; · iexact HE
  isplitl [H2]; · iexact H2
  isplitl [H3]
  · iapply (Entails.of_eq (pts_congr a3 fullShare (grow (wid i)) fun x hx => hz x hx (x 0).isLt)) $$ H3
  isplitl [H4]; · iexact H4
  iexists _; iexact H5

end Run

end Cert.Radix

end
-- ==== Proof.Scan.lean ====
module

public import proofs.«01_k».proof.Proof.Hist

/-! The scans at the head of the permutation: every digit's first position, from the grid of the tiles' counts. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

/-- The number of keys. -/
abbrev NK : ℕ := 4194304

/-- For each digit the position of its next key, once the keys before `b` are placed. -/
def offs (f : ℕ → ℕ) (b : ℕ) : S32768.Idx → BitVec 32 := fun y => BitVec.ofNat 32 (less f NK (y 0).val + cnt f 0 b (y 0).val)

/-- Part `q` of the grid. -/
def part (f : ℕ → ℕ) (q : ℕ) : S32x2048.Idx → BitVec 32 := fun x =>
  BitVec.ofNat 32 (cnt f (131072 * (x 0).val) (131072 * ((x 0).val + 1)) (2048 * q + (x 1).val))

theorem reshape_part2 (h : S32x2048.numel = S1x32x2048.numel) (x : S32x2048.Idx) :
    (Shape.reshapeEquiv h x : S1x32x2048.Idx) = (fun | ⟨0, _⟩ => ⟨0, Nat.one_pos⟩ | ⟨1, _⟩ => x 0 | ⟨2, _⟩ => x 1) := by
  refine Shape.reshapeEquiv_eq_of_rowMajor h ?_
  rw [Shape.rowMajor_val_three, Shape.rowMajor_val_two]
  show (0 * 32 + (x 0).val) * 2048 + (x 1).val = (x 0).val * 2048 + (x 1).val
  omega

theorem cast_row {α : Type} (v : S1x16.Idx → α) (h : S1x16.ShapeCasts S16) (x : S16.Idx) :
    shapeCast S16 v h x = v (fun | ⟨0, _⟩ => ⟨0, Nat.one_pos⟩ | ⟨1, _⟩ => x 0) := by
  unfold shapeCast
  congr 1
  refine Shape.reshapeEquiv_eq_of_rowMajor h ?_
  rw [Shape.rowMajor_val_two, Shape.rowMajor_val_one]
  show 0 * 16 + (x 0).val = (x 0).val
  omega

theorem widB_eq [Facts] (i : grid0.Coords) : widB i = BitVec.ofNat 32 (wid i) :=
  BitVec.eq_of_toNat_eq (by rw [widB_toNat, BitVec.toNat_ofNat]; have := wid_lt i; omega)

theorem before_eq (r w : ℕ) (hr : r < 32) (hw : w < 32) :
    Scalar.extui (Scalar.cmpi .slt (BitVec.ofNat 32 r) (BitVec.ofNat 32 w)) = if r < w then 1#32 else 0#32 := by
  have : ∀ r w : Fin 32, Scalar.extui (Scalar.cmpi .slt (BitVec.ofNat 32 r.val) (BitVec.ofNat 32 w.val)) = if r.val < w.val then 1#32 else 0#32 := by decide
  exact this ⟨r, hr⟩ ⟨w, hw⟩

section Run

variable [FloatOps F] [Facts] [∀ e, Nonempty (Elt F e)] {α : Type} {Q : α → sProp (MT nD τ sig (HIx 4) (Elt F) ℕ UU ℕ)}
variable {d : Dev nD} {c : Fin τ.nSC} {s : Fin τ.nSub}

/-- The rows of a part added up. -/
theorem wp_rows {a11 : Memref sig .scVector .vmem S32x2048 .i32} (i : grid0.Coords) (f : ℕ → ℕ) (q : ℕ) (t : Fin (loopN 128#32).trips)
    (rs : List (Fin 32)) (j m : ℕ) (hrs : rs.map Fin.val = List.range' j m) (tot pre : IVec S16 32)
    (ht : ∀ x, tot x = BitVec.ofNat 32 (cnt f 0 (131072 * j) (2048 * q + 16 * t.val + (x 0).val)))
    (hp : ∀ x, pre x = BitVec.ofNat 32 (cnt f 0 (131072 * min j (wid i)) (2048 * q + 16 * t.val + (x 0).val)))
    {k : IVec S16 32 → IVec S16 32 → TProg F c s (BitVec 32)} {Q : BitVec 32 → sProp 𝕄} :
    pts d c s a11 fullShare Finset.univ (part f q)
      ⊢ iprop((∀ tot pre, iprop(⌜∀ x : S16.Idx, tot x = BitVec.ofNat 32 (cnt f 0 (131072 * (j + m)) (2048 * q + 16 * t.val + (x 0).val))⌝
          ∗ ⌜∀ x : S16.Idx, pre x = BitVec.ofNat 32 (cnt f 0 (131072 * min (j + m) (wid i)) (2048 * q + 16 * t.val + (x 0).val))⌝
          ∗ pts d c s a11 fullShare Finset.univ (part f q)) -∗ WP (d := d) (k tot pre) Q)
        -∗ WP (d := d) (rows (F := F) (c := c) (s := s) (widB i) a11 t rs tot pre k) Q) := by
  induction rs generalizing j m tot pre with
  | nil =>
    have hm : m = 0 := by simpa using (congrArg List.length hrs).symm
    subst hm
    unfold rows
    iintro H Hk
    iapply Hk
    isplitr; · ipureintro; exact ht
    isplitr; · ipureintro; exact hp
    iexact H
  | cons r rs ih =>
    obtain ⟨m, rfl⟩ : ∃ m', m = m' + 1 := ⟨m - 1, by have := congrArg List.length hrs; simp at this; omega⟩
    rw [List.map_cons, List.range'_succ, List.cons.injEq] at hrs
    obtain ⟨hr, hrs⟩ := hrs
    have htt : t.val < 128 := t.isLt
    have hw := wid_lt i
    have hv := fun (x : S1x16.Idx) (a : Fin 2) => (unit_val (sh := S32x2048) (offR t r) S1x16.size (offR_inb t r) x a).trans
      (congrArg (· + (x a).val) (congrFun (offR_eq t r htt) a))
    have hld : ∀ x : S16.Idx, shapeCast S16 (fun x => part f q ((Rect.unit (s := S32x2048) (offR t r) S1x16.size (offR_inb t r)).emb x)) shapeCasts_S1x16_S16 x
        = BitVec.ofNat 32 (cnt f (131072 * j) (131072 * (j + 1)) (2048 * q + 16 * t.val + (x 0).val)) := fun x => by
      rw [cast_row]
      unfold part
      rw [hv, hv]
      show BitVec.ofNat 32 (cnt f (131072 * (r.val + 0)) (131072 * (r.val + 0 + 1)) (2048 * q + (16 * t.val + (x 0).val))) = _
      rw [hr, Nat.add_zero, Nat.add_assoc]
    iintro H Hk
    unfold rows
    iapply (wp_ptsLoad (fun _ => Finset.mem_univ _)) $$ H
    iintro H
    rw [show j + (m + 1) = j + 1 + m by omega]
    iapply (ih (j + 1) m hrs _ _ ?ht ?hp) $$ H Hk
    case ht =>
      intro x
      show tot x + shapeCast S16 _ _ x = _
      rw [ht, hld, ← BitVec.ofNat_add, cnt_add (Nat.zero_le _) (by omega)]
    case hp =>
      intro x
      show pre x + shapeCast S16 _ _ x * Scalar.extui (Scalar.cmpi .slt (BitVec.ofNat 32 r.val) (widB i)) = _
      rw [hp, hld, widB_eq, before_eq _ _ r.isLt hw, hr]
      split
      · rename_i hlt
        rw [BitVec.mul_one, ← BitVec.ofNat_add, Nat.min_eq_left (by omega), Nat.min_eq_left (by omega), cnt_add (Nat.zero_le _) (by omega)]
      · rename_i hlt
        rw [BitVec.mul_zero, BitVec.add_zero, Nat.min_eq_right (by omega), Nat.min_eq_right (by omega)]

/-- One trip of a scan. -/
theorem wp_scanBody {a10 : Memref sig .scVector .vmem S32768 .i32} {a11 : Memref sig .scVector .vmem S32x2048 .i32} (i : grid0.Coords) (f : ℕ → ℕ) (q : Fin 16)
    (t : Fin (loopN 128#32).trips) (acc : BitVec 32) :
    iprop(∃ g, pts d c s a10 fullShare Finset.univ g ∗ pts d c s a11 fullShare Finset.univ (part f q.val)
        ∗ ⌜(∀ y : S32768.Idx, (y 0).val < 2048 * q.val + 16 * t.val → g y = offs f (131072 * wid i) y) ∧ acc = BitVec.ofNat 32 (less f NK (2048 * q.val + 16 * t.val))⌝)
      ⊢ WP (d := d) (scanBody (F := F) (c := c) (s := s) (widB i) q a10 a11 t acc) fun acc =>
      iprop(∃ g, pts d c s a10 fullShare Finset.univ g ∗ pts d c s a11 fullShare Finset.univ (part f q.val)
        ∗ ⌜(∀ y : S32768.Idx, (y 0).val < 2048 * q.val + 16 * (t.val + 1) → g y = offs f (131072 * wid i) y) ∧ acc = BitVec.ofNat 32 (less f NK (2048 * q.val + 16 * (t.val + 1)))⌝) := by
  have ht : t.val < 128 := t.isLt
  have hw := wid_lt i
  have ho : offO t q 0 = 2048 * q.val + 16 * t.val := by rw [offO_eq _ _ ht q.isLt]; rfl
  have hv := fun x => unit_val (sh := S32768) (offO t q) S16.size (offO_inb t q) x 0
  unfold scanBody
  iintro ⟨%g, H10, H11, %hg, %hacc⟩
  iapply (wp_rows i f q.val t all32 0 32 (by decide) _ _ ?h1 ?h2) $$ H11
  case h1 => intro x; rw [Nat.mul_zero, cnt_self]; rfl
  case h2 => intro x; rw [Nat.zero_min, Nat.mul_zero, cnt_self]; rfl
  iintro %tot %pre ⟨%htot, %hpre, H11⟩
  rw [show 131072 * (0 + 32) = NK by decide] at htot
  have hscan := scan_eq (v := tot) (T := cnt f 0 NK) (b := 2048 * q.val + 16 * t.val) htot
  iapply (wp_ptsLoad (fun _ => Finset.mem_univ _)) $$ H10
  iintro H10
  have hval : ∀ x : S16.Idx, (addi (addi (subi (scan .sum tot) tot) pre) (broadcast S16 acc)) x = BitVec.ofNat 32 (less f NK (2048 * q.val + 16 * t.val + (x 0).val) + cnt f 0 (131072 * wid i) (2048 * q.val + 16 * t.val + (x 0).val)) := fun x => by
    show (scan .sum tot x - tot x + pre x) + acc = _
    rw [hscan, hpre, hacc, htot, Finset.sum_Ico_succ_top (by omega), BitVec.ofNat_add, BitVec.add_sub_cancel]
    have hmin : min (0 + 32) (wid i) = wid i := Nat.min_eq_right (by omega)
    rw [hmin, ← BitVec.ofNat_add, ← BitVec.ofNat_add, less_sum NK (2048 * q.val + 16 * t.val) (2048 * q.val + 16 * t.val + (x 0).val) (by omega)]
    refine congrArg (BitVec.ofNat 32) ?_
    generalize (∑ v ∈ Finset.Ico (2048 * q.val + 16 * t.val) (2048 * q.val + 16 * t.val + (x 0).val), cnt f 0 NK v) = A
    generalize less f NK (2048 * q.val + 16 * t.val) = B
    generalize cnt f 0 (131072 * wid i) (2048 * q.val + 16 * t.val + (x 0).val) = C
    omega
  iapply (wp_ptsStore (fun y => if 2048 * q.val + 16 * t.val ≤ (y 0).val ∧ (y 0).val < 2048 * q.val + 16 * (t.val + 1) then offs f (131072 * wid i) y else g y) (fun _ => Finset.mem_univ _) ?h3 ?h4) $$ H10
  case h3 =>
    intro x
    have h1 := hv x
    have h2 : (x 0).val < 16 := (x 0).isLt
    refine (if_pos ⟨by omega, by omega⟩).trans ?_
    refine Eq.trans ?_ (hval x).symm
    unfold offs
    rw [h1, ho]
  case h4 =>
    intro y _ hy
    refine if_neg fun hc => ?_
    obtain ⟨x, hx⟩ := unit_ex (sh := S32768) (offO t q) S16.size (offO_inb t q) y (fun a => by
      rw [show a = (0 : Fin 1) from Subsingleton.elim (α := Fin 1) _ _, ho]
      show _ ∧ _ < _ + 16
      omega)
    exact hy x hx
  iintro H10
  iapply (wp_end (F := F) _)
  iexists _
  isplitl [H10]; · iexact H10
  isplitl [H11]; · iexact H11
  ipureintro
  refine ⟨fun y hy => ?_, ?_⟩
  · show (if _ then _ else _) = _
    split
    · rfl
    · rename_i hc
      exact hg y (by omega)
  · show acc + scan .sum tot (fun a => ⟨(![15] : Fin 1 → ℕ) a, _⟩) = _
    rw [hscan, hacc, ← BitVec.ofNat_add, show 2048 * q.val + 16 * (t.val + 1) = 2048 * q.val + 16 * t.val + 15 + 1 by omega,
      less_sum NK (2048 * q.val + 16 * t.val) (2048 * q.val + 16 * t.val + 15 + 1) (by omega)]
    rfl

/-- The scans of a list of parts. -/
theorem wp_scans {a4 : Memref sig .scVector .hbm S16x32x2048 .i32} {a10 : Memref sig .scVector .vmem S32768 .i32} {a11 : Memref sig .scVector .vmem S32x2048 .i32} {h11 : a11.IsWhole}
    (i : grid0.Coords) (f : ℕ → ℕ) (sems : Fin 16 → DmaSems sig S_) (qg : PosShare TreeShare) (qs : List (Fin 16)) (j m : ℕ) (hqs : qs.map Fin.val = List.range' j m)
    {O : CellTallies nD τ sig (HIx 4)} {W : Waits sig (HIx 4)} {SS : Finset (GSem nD τ sig)} (hg : ∀ q, (V d c s, SemLoc.dma (sems q).sem) ∈ SS)
    (g : S32768.Idx → BitVec 32) (hz : ∀ y : S32768.Idx, (y 0).val < 2048 * j → g y = offs f (131072 * wid i) y)
    (acc : BitVec 32) (hacc : acc = BitVec.ofNat 32 (less f NK (2048 * j))) {k : TProg F c s PUnit} {Q : PUnit → sProp 𝕄} :
    iprop(env d c s O W SS ∗ pts d c s a4 qg Finset.univ (gridv f) ∗ pts d c s a10 fullShare Finset.univ g ∗ (∃ g', pts d c s a11 fullShare Finset.univ g'))
      ⊢ iprop((∀ g, iprop(⌜∀ y : S32768.Idx, (y 0).val < 2048 * (j + m) → g y = offs f (131072 * wid i) y⌝ ∗ env d c s O W SS
          ∗ pts d c s a4 qg Finset.univ (gridv f) ∗ pts d c s a10 fullShare Finset.univ g ∗ (∃ g', pts d c s a11 fullShare Finset.univ g')) -∗ WP (d := d) k Q)
      -∗ WP (d := d) (scans (F := F) (c := c) (s := s) (widB i) a4 a10 a11 h11 sems qs acc k) Q) := by
  induction qs generalizing j m g acc with
  | nil =>
    have hm : m = 0 := by simpa using (congrArg List.length hqs).symm
    subst hm
    unfold scans
    iintro ⟨HE, H4, H10, H11⟩ Hk
    iapply Hk
    isplitr; · ipureintro; exact hz
    isplitl [HE]; · iexact HE
    isplitl [H4]; · iexact H4
    isplitl [H10] <;> iassumption
  | cons q qs ih =>
    obtain ⟨m, rfl⟩ : ∃ m', m = m' + 1 := ⟨m - 1, by have := congrArg List.length hqs; simp at this; omega⟩
    rw [List.map_cons, List.range'_succ, List.cons.injEq] at hqs
    obtain ⟨hq, hqs⟩ := hqs
    have hv := fun (x : S1x32x2048.Idx) (a : Fin 3) => unit_val (sh := S16x32x2048) ![q.val, 0, 0] S1x32x2048.size (offQ_inb q) x a
    have e : ∀ x : S32x2048.Idx, gridv f ((Rect.unit (s := S16x32x2048) ![q.val, 0, 0] S1x32x2048.size (offQ_inb q)).emb (Shape.reshapeEquiv squeezes_S1x32x2048_S32x2048.numel_eq x))
        = part f q.val x := fun x => by
      rw [reshape_part2]
      unfold gridv part
      rw [hv, hv, hv]
      show BitVec.ofNat 32 (cnt f (131072 * (0 + (x 0).val)) (131072 * (0 + (x 0).val + 1)) (2048 * (q.val + 0) + (0 + (x 1).val))) = _
      simp only [Nat.zero_add, Nat.add_zero]
    unfold scans
    iintro ⟨HE, H4, H10, ⟨%g', H11⟩⟩ Hk
    ihave H4 := (pts_take a4 (Rect.unit (s := S16x32x2048) ![q.val, 0, 0] S1x32x2048.size (offQ_inb q)) (fun _ => rfl) qg (fun _ => Finset.mem_univ _) (gridv f)) $$ H4
    icases H4 with ⟨H4, Hr4⟩
    ihave H4 := (Entails.of_eq (pts_squeeze_univ _ squeezes_S1x32x2048_S32x2048 qg _)) $$ H4
    iapply (wp_dmaTo (part f q.val) (hg q) (show 0 < S32x2048.numel by decide) e) $$ [HE H4 H11]
    · isplitl [HE]; · iexact HE
      isplitl [H4]
      · iexact H4
      · iexact H11
    iintro ⟨HE, H4, H11⟩
    ihave H4 := (Entails.of_eq (pts_squeeze_univ (a4.slice _ _) squeezes_S1x32x2048_S32x2048 qg
      (fun z => gridv f ((Rect.unit (s := S16x32x2048) ![q.val, 0, 0] S1x32x2048.size (offQ_inb q)).emb z))).symm) $$ H4
    ihave H4 := (pts_put a4 (Rect.unit (s := S16x32x2048) ![q.val, 0, 0] S1x32x2048.size (offQ_inb q)) (fun _ => rfl) qg (fun _ => Finset.mem_univ _) (gridv f) (gridv f) _ (fun _ => rfl) (fun _ _ _ => rfl)) $$ [H4 Hr4]
    · isplitl [H4]
      · iexact H4
      · iexact Hr4
    iapply (Scf.wp_for_bind frame (wpE (defs₀ (F := F)) 𝒱₀ (V d c s) none) Set.univ 0#32 (Scalar.addi 0#32 128#32) 1#32 loop128_ok acc (fun t acc => scanBody (widB i) q a10 a11 t acc)
      (fun n acc => iprop(∃ g, pts d c s a10 fullShare Finset.univ g ∗ pts d c s a11 fullShare Finset.univ (part f q.val)
        ∗ ⌜(∀ y : S32768.Idx, (y 0).val < 2048 * q.val + 16 * n → g y = offs f (131072 * wid i) y) ∧ acc = BitVec.ofNat 32 (less f NK (2048 * q.val + 16 * n))⌝))
      (fun n acc => wp_scanBody i f q n acc)) $$ [H10 H11]
    · iexists g
      isplitl [H10]; · iexact H10
      isplitl [H11]; · iexact H11
      ipureintro
      rw [hq, Nat.mul_zero, Nat.add_zero]
      exact ⟨hz, hacc⟩
    iintro %acc' ⟨%g2, H10, H11, %hg2, %hacc2⟩
    have htr : 2048 * q.val + 16 * (loopN 128#32).trips = 2048 * (j + 1) := by
      rw [show (loopN 128#32).trips = 128 from rfl, hq]; omega
    iapply (ih (j + 1) m hqs g2 (fun y hy => hg2 y (hy.trans_eq htr.symm)) acc' (hacc2.trans (by rw [← htr]))) $$ [HE H4 H10 H11]
    · isplitl [HE]; · iexact HE
      isplitl [H4]; · iexact H4
      isplitl [H10]; · iexact H10
      iexists _; iexact H11
    · rw [show j + 1 + m = j + (m + 1) by omega]
      iexact Hk

end Run

end Cert.Radix

end
-- ==== Proof.Places.lean ====
module

public import proofs.«01_k».proof.Proof.Scan

/-! The windows of the permutation: each key's position, and the scatters that take keys and values there. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

/-- The place of key `i`. -/
def pF (f : ℕ → ℕ) (i : ℕ) : Fin 4194304 := ⟨pos f NK i % 4194304, Nat.mod_lt _ (by decide)⟩

theorem pF_val {f : ℕ → ℕ} {i : ℕ} (h : i < NK) : (pF f i).val = pos f NK i := Nat.mod_eq_of_lt (pos_lt h)

theorem pF_inj {f : ℕ → ℕ} {i j : ℕ} (hi : i < NK) (hj : j < NK) (h : (ixN (pF f i) : S4194304.Idx) = ixN (pF f j)) : i = j := by
  have h' : (pF f i).val = (pF f j).val := congrArg (fun x : S4194304.Idx => (x 0).val) h
  rw [pF_val hi, pF_val hj] at h'
  exact pos_inj hi hj h'

/-- The places of the keys of `[a, b)`. -/
def dstS (f : ℕ → ℕ) (a b : ℕ) : Finset S4194304.Idx := open Classical in (Finset.Ico a b).image fun i => ixN (pF f i)

theorem mem_dstS {f : ℕ → ℕ} {a b : ℕ} {x : S4194304.Idx} : x ∈ dstS f a b ↔ ∃ i, a ≤ i ∧ i < b ∧ ixN (pF f i) = x := by
  classical
  unfold dstS
  rw [Finset.mem_image]
  constructor
  · rintro ⟨i, hi, hx⟩
    have := Finset.mem_Ico.mp hi
    exact ⟨i, this.1, this.2, hx⟩
  · rintro ⟨i, h1, h2, hx⟩
    exact ⟨i, Finset.mem_Ico.mpr ⟨h1, h2⟩, hx⟩

/-- The array with each word at its place. -/
def permv (f : ℕ → ℕ) (K : S4194304.Idx → BitVec 32) : S4194304.Idx → BitVec 32 := fun x => K (ixm (unpos f NK (x 0).val))

theorem permv_at {f : ℕ → ℕ} (K : S4194304.Idx → BitVec 32) {i : ℕ} (h : i < NK) : permv f K (ixN (pF f i)) = K (ixm i) := by
  unfold permv
  show K (ixm (unpos f NK (pF f i).val)) = _
  rw [pF_val h, unpos_pos h]

/-- The positions of a window's keys. -/
def posw (f : ℕ → ℕ) (b : ℕ) : S64x128.Idx → BitVec 32 := fun z => BitVec.ofNat 32 (pos f NK (b + 128 * (z 0).val + (z 1).val))

abbrev ix8 (k : Fin 8192) : S8192.Idx := fun | ⟨0, _⟩ => k
/-- Entry `k` of a window's positions. -/
abbrev ix64 (k : Fin 8192) : S64x128.Idx := fun
  | ⟨0, _⟩ => ⟨k.val / 128, by have := k.isLt; show _ < 64; omega⟩
  | ⟨1, _⟩ => ⟨k.val % 128, Nat.mod_lt _ (by decide)⟩

/-- The keys of a window from `m` on. -/
def from8 (m : ℕ) : Finset S8192.Idx := Finset.univ.filter fun x => m ≤ (x 0).val
/-- The rows of a window's positions from `t` on. -/
def rowsF (t : ℕ) : Finset S64x128.Idx := Finset.univ.filter fun x => t ≤ (x 0).val

theorem mem_from8 {m : ℕ} {x : S8192.Idx} : x ∈ from8 m ↔ m ≤ (x 0).val :=
  ⟨fun h => (Finset.mem_filter.mp h).2, fun h => Finset.mem_filter.mpr ⟨Finset.mem_univ _, h⟩⟩
theorem mem_rowsF {m : ℕ} {x : S64x128.Idx} : x ∈ rowsF m ↔ m ≤ (x 0).val :=
  ⟨fun h => (Finset.mem_filter.mp h).2, fun h => Finset.mem_filter.mpr ⟨Finset.mem_univ _, h⟩⟩

theorem from8_zero : from8 0 = Finset.univ := Finset.filter_true_of_mem fun _ _ => Nat.zero_le _
theorem rowsF_zero : rowsF 0 = Finset.univ := Finset.filter_true_of_mem fun _ _ => Nat.zero_le _

theorem idx2_ext {n : Fin 2 → Nat} {x y : (⟨2, n⟩ : Shape).Idx} (h : (x 0).val = (y 0).val) (h' : (x 1).val = (y 1).val) : x = y :=
  funext fun | ⟨0, _⟩ => Fin.ext h | ⟨1, _⟩ => Fin.ext h'

theorem reshape_row (h : S128.numel = S1x128.numel) (x : S128.Idx) :
    (Shape.reshapeEquiv h x : S1x128.Idx) = (fun | ⟨0, _⟩ => ⟨0, Nat.one_pos⟩ | ⟨1, _⟩ => x 0) := by
  refine Shape.reshapeEquiv_eq_of_rowMajor h ?_
  rw [Shape.rowMajor_val_two, Shape.rowMajor_val_one]
  show 0 * 128 + (x 0).val = (x 0).val
  omega

theorem cast_col {α : Type} (v : S16.Idx → α) (h : S16.ShapeCasts S1x16) (z : S1x16.Idx) :
    shapeCast S1x16 v h z = v (fun | ⟨0, _⟩ => z 1) := by
  unfold shapeCast
  congr 1
  refine Shape.reshapeEquiv_eq_of_rowMajor h ?_
  rw [Shape.rowMajor_val_two, Shape.rowMajor_val_one]
  have : (z 0).val < 1 := (z 0).isLt
  show (z 1).val = (z 0).val * 16 + (z 1).val
  omega

section Sets

variable [∀ e, Nonempty (Elt F e)] {d : Dev nD} {c : Fin τ.nSC} {s : Fin τ.nSub}

/-- A list of a hundred and twenty-eight, entry by entry. -/
theorem pts_entries {sp : Space} (m : Memref sig .scVector sp S128 .i32) (q : PosShare TreeShare) (g : S128.Idx → BitVec 32) :
    (pts d c s m q Finset.univ g : sProp 𝕄) = bigSep Finset.univ fun l : Fin 128 => pts d c s m q {ix128 l} g := by
  classical
  rw [← pts_biUnion m q Finset.univ (fun l => {ix128 l}) (fun t _ t' _ hne => Finset.disjoint_singleton.mpr fun h => hne (congrFun h 0)) g]
  congr 1
  ext x
  simp only [Finset.mem_univ, Finset.mem_biUnion, Finset.mem_singleton, true_and, true_iff]
  exact ⟨x 0, funext fun | ⟨0, _⟩ => rfl⟩

/-- A window, word by word. -/
theorem pts_words {sp : Space} (m : Memref sig .scVector sp S8192 .i32) (q : PosShare TreeShare) (g : S8192.Idx → BitVec 32) :
    (bigSep Finset.univ fun k : Fin 8192 => pts d c s m q {ix8 k} g : sProp 𝕄) = pts d c s m q Finset.univ g := by
  classical
  rw [← pts_biUnion m q Finset.univ (fun l => {ix8 l}) (fun t _ t' _ hne => Finset.disjoint_singleton.mpr fun h => hne (congrFun h 0)) g]
  refine congrArg (fun S => (pts d c s m q S g : sProp 𝕄)) ?_
  ext x
  simp only [Finset.mem_univ, Finset.mem_biUnion, Finset.mem_singleton, true_and, iff_true]
  exact ⟨x 0, funext fun | ⟨0, _⟩ => rfl⟩

/-- A window's positions, entry by entry. -/
theorem pts_grid {sp : Space} (m : Memref sig .scVector sp S64x128 .i32) (q : PosShare TreeShare) (g : S64x128.Idx → BitVec 32) :
    (bigSep Finset.univ fun k : Fin 8192 => pts d c s m q {ix64 k} g : sProp 𝕄) = pts d c s m q Finset.univ g := by
  classical
  rw [← pts_biUnion m q Finset.univ (fun l => {ix64 l}) (fun t _ t' _ hne => Finset.disjoint_singleton.mpr fun h => hne (by
    have h0 : t.val / 128 = t'.val / 128 := congrArg (fun x : S64x128.Idx => (x 0).val) h
    have h1 : t.val % 128 = t'.val % 128 := congrArg (fun x : S64x128.Idx => (x 1).val) h
    exact Fin.ext (by omega))) g]
  refine congrArg (fun S => (pts d c s m q S g : sProp 𝕄)) ?_
  ext x
  simp only [Finset.mem_univ, Finset.mem_biUnion, Finset.mem_singleton, true_and, iff_true]
  have h0 : (x 0).val < 64 := (x 0).isLt
  have h1 : (x 1).val < 128 := (x 1).isLt
  exact ⟨⟨128 * (x 0).val + (x 1).val, by omega⟩, idx2_ext (by show (x 0).val = (128 * (x 0).val + (x 1).val) / 128; omega) (by show (x 1).val = (128 * (x 0).val + (x 1).val) % 128; omega)⟩

/-- The places of the next `m` keys, one by one, and of those after. -/
theorem pts_places {sp : Space} (m5 : Memref sig .scVector sp S4194304 .i32) (f : ℕ → ℕ) (a b m : ℕ) (h : a + m ≤ b) (hb : b ≤ NK) (g : S4194304.Idx → BitVec 32) :
    (pts d c s m5 fullShare (dstS f a b) g : sProp 𝕄) ⊣⊢ iprop((bigSep Finset.univ fun l : Fin m => pts d c s m5 fullShare {ixN (pF f (a + l.val))} g)
      ∗ pts d c s m5 fullShare (dstS f (a + m) b) g) := by
  classical
  have e1 : (bigSep Finset.univ fun l : Fin m => pts d c s m5 fullShare {ixN (pF f (a + l.val))} g : sProp 𝕄) = pts d c s m5 fullShare (dstS f a (a + m)) g := by
    rw [← pts_biUnion m5 fullShare Finset.univ (fun l : Fin m => {ixN (pF f (a + l.val))}) (fun t _ t' _ hne => Finset.disjoint_singleton.mpr fun h => hne (by
      have := pF_inj (by have := t.isLt; omega) (by have := t'.isLt; omega) h
      exact Fin.ext (by omega))) g]
    congr 1
    ext x
    rw [mem_dstS]
    simp only [Finset.mem_univ, Finset.mem_biUnion, Finset.mem_singleton, true_and]
    constructor
    · rintro ⟨l, hl⟩
      exact ⟨a + l.val, by omega, by have := l.isLt; omega, hl.symm⟩
    · rintro ⟨i, h1, h2, hx⟩
      exact ⟨⟨i - a, by omega⟩, by rw [← hx]; show ixN (pF f i) = ixN (pF f (a + (i - a))); rw [Nat.add_sub_cancel' h1]⟩
  have e2 : dstS f (a + m) b = dstS f a b \ dstS f a (a + m) := by
    ext x
    rw [Finset.mem_sdiff, mem_dstS, mem_dstS, mem_dstS]
    constructor
    · rintro ⟨i, h1, h2, hx⟩
      refine ⟨⟨i, by omega, h2, hx⟩, ?_⟩
      rintro ⟨j, h3, h4, hy⟩
      have := pF_inj (f := f) (i := i) (j := j) (by omega) (by omega) (hx.trans hy.symm)
      omega
    · rintro ⟨⟨i, h1, h2, hx⟩, hn⟩
      refine ⟨i, ?_, h2, hx⟩
      by_contra hc
      exact hn ⟨i, h1, by omega, hx⟩
  rw [e1, e2]
  refine pts_split m5 fullShare (fun x hx => ?_) g
  obtain ⟨i, h1, h2, h3⟩ := mem_dstS.mp hx
  exact mem_dstS.mpr ⟨i, h1, by omega, h3⟩

/-- The next hundred and twenty-eight words of a window, one by one, and those after. -/
theorem pts_srcs (m : Memref sig .scVector .vmem S8192 .i32) (t : Fin (loopN 64#32).trips) [Facts] (g : S8192.Idx → BitVec 32) :
    (pts d c s m fullShare (from8 (128 * t.val)) g : sProp 𝕄) ⊢ iprop((bigSep Finset.univ fun l : Fin 128 =>
        pts d c s (m.slice (Rect.unit (s := S8192) (offK t) S128.size (offK_inb t)) (fun _ => rfl)) fullShare {ix128 l} (fun x => g ((Rect.unit (s := S8192) (offK t) S128.size (offK_inb t)).emb x)))
      ∗ pts d c s m fullShare (from8 (128 * (t.val + 1))) g) := by
  have ht : t.val < 64 := t.isLt
  have ho : offK t 0 = 128 * t.val := by rw [offK_eq _ ht]; rfl
  have hv := fun x => unit_val (sh := S8192) (offK t) S128.size (offK_inb t) x 0
  refine (pts_take m (Rect.unit (s := S8192) (offK t) S128.size (offK_inb t)) (fun _ => rfl) fullShare (fun x => by
    have := hv x; rw [mem_from8]; omega) g).trans ?_
  have e : from8 (128 * t.val) \ Finset.univ.map (Rect.unit (s := S8192) (offK t) S128.size (offK_inb t)).emb = from8 (128 * (t.val + 1)) := by
    ext y
    rw [Finset.mem_sdiff, mem_from8, mem_from8]
    constructor
    · rintro ⟨h1, h2⟩
      by_contra hc
      obtain ⟨x, hx⟩ := unit_ex (sh := S8192) (offK t) S128.size (offK_inb t) y (fun a => by
        rw [show a = (0 : Fin 1) from Subsingleton.elim (α := Fin 1) _ _, ho]
        show _ ∧ _ < _ + 128
        omega)
      exact h2 (Finset.mem_map.mpr ⟨x, Finset.mem_univ _, hx⟩)
    · intro h
      refine ⟨by omega, fun hm => ?_⟩
      obtain ⟨x, -, hx⟩ := Finset.mem_map.mp hm
      have h1 := hv x
      have h2 : (x 0).val < 128 := (x 0).isLt
      rw [hx] at h1
      omega
  rw [e]
  exact sep_mono (Entails.of_eq (pts_entries _ fullShare _)) .rfl

/-- The next row of a window's positions, entry by entry. -/
theorem pts_offs (m : Memref sig .scVector .vmem S64x128 .i32) (t : Fin (loopN 64#32).trips) [Facts] (g : S64x128.Idx → BitVec 32) :
    (pts d c s m fullShare (rowsF t.val) g : sProp 𝕄) ⊢ iprop((bigSep Finset.univ fun l : Fin 128 =>
        pts d c s ((m.slice (Rect.unit (s := S64x128) (offL t) S1x128.size (offL_inb t)) (fun _ => rfl)).squeeze S128 squeezes_S1x128_S128) fullShare.left {ix128 l}
          (fun x => g ((Rect.unit (s := S64x128) (offL t) S1x128.size (offL_inb t)).emb (Shape.reshapeEquiv squeezes_S1x128_S128.numel_eq x))))
      ∗ (bigSep Finset.univ fun l : Fin 128 =>
        pts d c s ((m.slice (Rect.unit (s := S64x128) (offL t) S1x128.size (offL_inb t)) (fun _ => rfl)).squeeze S128 squeezes_S1x128_S128) fullShare.right {ix128 l}
          (fun x => g ((Rect.unit (s := S64x128) (offL t) S1x128.size (offL_inb t)).emb (Shape.reshapeEquiv squeezes_S1x128_S128.numel_eq x))))
      ∗ pts d c s m fullShare (rowsF (t.val + 1)) g) := by
  have ht : t.val < 64 := t.isLt
  have ho := offL_eq t ht
  have hv := fun (x : S1x128.Idx) => (unit_val (sh := S64x128) (offL t) S1x128.size (offL_inb t) x 0).trans (congrArg (· + (x 0).val) (congrFun ho 0))
  refine (pts_take m (Rect.unit (s := S64x128) (offL t) S1x128.size (offL_inb t)) (fun _ => rfl) fullShare (fun x => by
    have h1 := hv x
    rw [mem_rowsF]
    exact h1.symm ▸ Nat.le_add_right _ _) g).trans ?_
  have e : rowsF t.val \ Finset.univ.map (Rect.unit (s := S64x128) (offL t) S1x128.size (offL_inb t)).emb = rowsF (t.val + 1) := by
    ext y
    rw [Finset.mem_sdiff, mem_rowsF, mem_rowsF]
    constructor
    · rintro ⟨h1, h2⟩
      by_contra hc
      obtain ⟨x, hx⟩ := unit_ex (sh := S64x128) (offL t) S1x128.size (offL_inb t) y (fun a => by
        rw [ho]
        have h2 : (y 1).val < 128 := (y 1).isLt
        fin_cases a
        · show t.val ≤ (y 0).val ∧ (y 0).val < t.val + 1; omega
        · show 0 ≤ (y 1).val ∧ (y 1).val < 0 + 128; omega)
      exact h2 (Finset.mem_map.mpr ⟨x, Finset.mem_univ _, hx⟩)
    · intro h
      refine ⟨by omega, fun hm => ?_⟩
      obtain ⟨x, -, hx⟩ := Finset.mem_map.mp hm
      have h1 := hv x
      have h2 : (x 0).val < 1 := (x 0).isLt
      rw [hx] at h1
      have h3 : (y 0).val = t.val + (x 0).val := h1
      omega
  rw [e, pts_squeeze_univ _ squeezes_S1x128_S128]
  iintro ⟨H, Hr⟩
  ihave H := (pts_share _ fullShare _ _).1 $$ H
  icases H with ⟨H1, H2⟩
  isplitl [H1]
  · iapply (Entails.of_eq (pts_entries _ fullShare.left _)) $$ H1
  isplitl [H2]
  · iapply (Entails.of_eq (pts_entries _ fullShare.right _)) $$ H2
  iexact Hr

end Sets

end Cert.Radix

end
-- ==== Proof.Chunk.lean ====
module

public import proofs.«01_k».proof.Proof.Places

/-! The permutation program of one tile: every key and value of its part at the key's place. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

section Run

variable [FloatOps F] [Facts] [∀ e, Nonempty (Elt F e)] {α : Type} {Q : α → sProp (MT nD τ sig (HIx 4) (Elt F) ℕ UU ℕ)}
variable {d : Dev nD} {c : Fin τ.nSC} {s : Fin τ.nSub}

/-- The pieces of a trip given their positions. -/
theorem wp_pieces1 {a7 : Memref sig .scVector .vmem S8192 .i32} {a9 : Memref sig .scVector .vmem S64x128 .i32} {a10 : Memref sig .scVector .vmem S32768 .i32} (sh : BitVec 32)
    (K : S4194304.Idx → BitVec 32) (w n : ℕ) (hw : w < 32) (hn : n < 16) (t : Fin (loopN 64#32).trips) (rs : List (Fin 8)) (j m : ℕ) (hrs : rs.map Fin.val = List.range' j m)
    (g9 : S64x128.Idx → BitVec 32) (hz : ∀ z : S64x128.Idx, (z 0).val = t.val → (z 1).val < 16 * j → g9 z = posw (dgt sh K) (131072 * w + 8192 * n) z)
    {k : TProg F c s (BitVec 32)} {Q : BitVec 32 → sProp 𝕄} :
    iprop(pts d c s a7 fullShare (from8 (128 * t.val)) (wkeys K w n) ∗ pts d c s a9 fullShare (rowsF t.val) g9
        ∗ pts d c s a10 fullShare Finset.univ (offs (dgt sh K) (131072 * w + 8192 * n + 128 * t.val + 16 * j)))
      ⊢ iprop((∀ g9, iprop(⌜∀ z : S64x128.Idx, (z 0).val = t.val → (z 1).val < 16 * (j + m) → g9 z = posw (dgt sh K) (131072 * w + 8192 * n) z⌝
          ∗ pts d c s a7 fullShare (from8 (128 * t.val)) (wkeys K w n) ∗ pts d c s a9 fullShare (rowsF t.val) g9
          ∗ pts d c s a10 fullShare Finset.univ (offs (dgt sh K) (131072 * w + 8192 * n + 128 * t.val + 16 * (j + m)))) -∗ WP (d := d) k Q)
      -∗ WP (d := d) (pieces1 (F := F) (c := c) (s := s) chk2.dec sh a7 a9 a10 t rs k) Q) := by
  induction rs generalizing j m g9 with
  | nil =>
    have hm : m = 0 := by simpa using (congrArg List.length hrs).symm
    subst hm
    unfold pieces1
    iintro ⟨H7, H9, H10⟩ Hk
    iapply Hk
    isplitr; · ipureintro; exact hz
    isplitl [H7]; · iexact H7
    isplitl [H9] <;> iassumption
  | cons r rs ih =>
    obtain ⟨m, rfl⟩ : ∃ m', m = m' + 1 := ⟨m - 1, by have := congrArg List.length hrs; simp at this; omega⟩
    have hr8 : r.val < 8 := r.isLt
    rw [List.map_cons, List.range'_succ, List.cons.injEq] at hrs
    obtain ⟨hr, hrs⟩ := hrs
    have ht : t.val < 64 := t.isLt
    have ho : offV t r 0 = 128 * t.val + 16 * j := by rw [offV_eq _ _ ht r.isLt, hr]; rfl
    have hv7 := fun (x : S16.Idx) => unit_val (sh := S8192) (offV t r) S16.size (offV_inb t r) x 0
    have hv9 := fun (x : S1x16.Idx) (a : Fin 2) => (unit_val (sh := S64x128) (offP t r) S1x16.size (offP_inb t r) x a).trans
      (congrArg (· + (x a).val) (congrFun (offP_eq t r ht) a))
    have hd : ∀ x : S16.Idx, (digits sh (fun x => wkeys K w n ((Rect.unit (s := S8192) (offV t r) S16.size (offV_inb t r)).emb x)) x).toNat
        = dgt sh K (131072 * w + 8192 * n + 128 * t.val + 16 * j + (x 0).val) := fun x => by
      show dig sh (K (ixm (131072 * w + 8192 * n + ((Rect.unit (s := S8192) (offV t r) S16.size (offV_inb t r)).emb x 0).val))) = _
      rw [hv7, ho]
      unfold dgt
      congr 3
      omega
    have hpos : ∀ (x : S16.Idx) (hc : _), (subi (addi (loadIdx (F := F) (e := .i32) (offs (dgt sh K) (131072 * w + 8192 * n + 128 * t.val + 16 * j))
          ![digits sh (fun x => wkeys K w n ((Rect.unit (s := S8192) (offV t r) S16.size (offV_inb t r)).emb x))] hc)
          (laneCounts (digits sh (fun x => wkeys K w n ((Rect.unit (s := S8192) (offV t r) S16.size (offV_inb t r)).emb x))))) (broadcast S16 1#32)) x
        = BitVec.ofNat 32 (pos (dgt sh K) NK (131072 * w + 8192 * n + 128 * t.val + 16 * j + (x 0).val)) := fun x hc => by
      show (BitVec.ofNat 32 (less (dgt sh K) NK (digits sh _ x).toNat + cnt (dgt sh K) 0 (131072 * w + 8192 * n + 128 * t.val + 16 * j) (digits sh _ x).toNat) + laneCounts _ x) - 1#32 = _
      rw [laneCounts_eq hd, hd, ← BitVec.ofNat_add, Nat.add_assoc, cnt_add (Nat.zero_le _) (by omega), cnt_succ (Nat.zero_le _), if_pos rfl, ← Nat.add_assoc, BitVec.ofNat_add, BitVec.add_sub_cancel]
      rfl
    iintro ⟨H7, H9, H10⟩ Hk
    unfold pieces1
    iapply (wp_ptsLoad (fun x => by
      have h := hv7 x
      rw [mem_from8]; omega)) $$ H7
    iintro H7
    iapply (wp_check (chk2_digits sh _))
    iapply (wp_ptsLoadIdx (t := S16) (m := a10)) $$ H10
    iintro H10
    iapply (wp_ptsLoad (fun x => by
      have h : _ = t.val + (x 0).val := hv9 x 0
      rw [mem_rowsF]; omega)) $$ H9
    iintro H9
    iapply (wp_ptsStore (fun z => if (z 0).val = t.val ∧ 16 * j ≤ (z 1).val ∧ (z 1).val < 16 * (j + 1) then posw (dgt sh K) (131072 * w + 8192 * n) z else g9 z) (fun x => by
      have h : _ = t.val + (x 0).val := hv9 x 0
      rw [mem_rowsF]; omega) ?h1 ?h2) $$ H9
    case h1 =>
      intro x
      have h0 : _ = t.val + (x 0).val := hv9 x 0
      have h1 : _ = 16 * r.val + (x 1).val := hv9 x 1
      have h2 : (x 0).val < 1 := (x 0).isLt
      have h3 : (x 1).val < 16 := (x 1).isLt
      refine (if_pos ⟨by omega, by omega, by omega⟩).trans ?_
      rw [cast_col]
      refine Eq.trans ?_ (hpos _ _).symm
      unfold posw
      refine congrArg (fun i => BitVec.ofNat 32 (pos (dgt sh K) NK i)) ?_
      show _ = 131072 * w + 8192 * n + 128 * t.val + 16 * j + (x 1).val
      omega
    case h2 =>
      intro z _ hn
      refine if_neg fun hc => ?_
      obtain ⟨x, hx⟩ := unit_ex (sh := S64x128) (offP t r) S1x16.size (offP_inb t r) z (fun a => by
        rw [offP_eq t r ht]
        fin_cases a
        · show t.val ≤ (z 0).val ∧ (z 0).val < t.val + 1; omega
        · show 16 * r.val ≤ (z 1).val ∧ (z 1).val < 16 * r.val + 16; omega)
      exact hn x hx
    iintro H9
    iapply (wp_ptsStoreIdx (dd := ![16]) (m := a10) (add := true)) $$ H10
    iintro H10
    iapply (ih (j + 1) m hrs (fun z => if (z 0).val = t.val ∧ 16 * j ≤ (z 1).val ∧ (z 1).val < 16 * (j + 1) then posw (dgt sh K) (131072 * w + 8192 * n) z else g9 z) (fun z h0 h1 => by
      by_cases hc : (z 0).val = t.val ∧ 16 * j ≤ (z 1).val ∧ (z 1).val < 16 * (j + 1)
      · exact if_pos hc
      · exact (if_neg hc).trans (hz z h0 (by omega)))) $$ [H7 H9 H10]
    · isplitl [H7]; · iexact H7
      isplitl [H9]; · iexact H9
      iapply (Entails.of_eq (pts_congr a10 fullShare Finset.univ ?_)) $$ H10
      intro y _
      refine (store_counts (F := F) hd _ y).trans ?_
      show BitVec.ofNat 32 _ + BitVec.ofNat 32 _ = BitVec.ofNat 32 _
      rw [← BitVec.ofNat_add, Nat.add_assoc, cnt_add (by omega) (by omega)]
      congr 2
    · rw [show j + 1 + m = j + (m + 1) by omega]
      iexact Hk

/-- What the scatter of word `k` of a window leaves: the word at its place, its position's entry and the word back. -/
def Dl (d : Dev nD) (c : Fin τ.nSC) (s : Fin τ.nSub) (m5 : Memref sig .scVector .hbm S4194304 .i32) (m7 : Memref sig .scVector .vmem S8192 .i32) (m9 : Memref sig .scVector .vmem S64x128 .i32)
    (qo : PosShare TreeShare) (f : ℕ → ℕ) (b : ℕ) (kv : S8192.Idx → BitVec 32) (k : Fin 8192) : sProp 𝕄 :=
  iprop(pts d c s m5 fullShare {ixN (pF f (b + k.val))} (fun _ => kv (ix8 k)) ∗ pts d c s m9 qo {ix64 k} (posw f b) ∗ pts d c s m7 fullShare {ix8 k} kv)

instance Dl_storable (m5 : Memref sig .scVector .hbm S4194304 .i32) (m7 : Memref sig .scVector .vmem S8192 .i32) (m9 : Memref sig .scVector .vmem S64x128 .i32)
    (qo : PosShare TreeShare) (f : ℕ → ℕ) (b : ℕ) (kv : S8192.Idx → BitVec 32) (k : Fin 8192) : BI.Storable (upEmb : UEmb _ 𝕄) (Dl d c s m5 m7 m9 qo f b kv k) := by
  unfold Dl; infer_instance

theorem ixfull (p : S4194304.Idx) : (Rect.unit (s := S4194304) ![0] S4194304.size inb_S4194304_S4194304_0).emb p = p :=
  idx1_ext ((unit_val (sh := S4194304) ![0] S4194304.size inb_S4194304_S4194304_0 p 0).trans (Nat.zero_add _))

theorem embK (t : Fin (loopN 64#32).trips) (l : Fin 128) (h : 128 * t.val + l.val < 8192) :
    (Rect.unit (s := S8192) (offK t) S128.size (offK_inb t)).emb (ix128 l) = ix8 ⟨128 * t.val + l.val, h⟩ := by
  refine idx1_ext ((unit_val (sh := S8192) (offK t) S128.size (offK_inb t) (ix128 l) 0).trans
    (congrArg (· + l.val) (congrFun (offK_eq _ t.isLt) 0)))

theorem embL (t : Fin (loopN 64#32).trips) (l : Fin 128) (h : 128 * t.val + l.val < 8192) :
    (Rect.unit (s := S64x128) (offL t) S1x128.size (offL_inb t)).emb (Shape.reshapeEquiv squeezes_S1x128_S128.numel_eq (ix128 l)) = ix64 ⟨128 * t.val + l.val, h⟩ := by
  rw [reshape_row]
  have hv := fun (x : S1x128.Idx) (a : Fin 2) => (unit_val (sh := S64x128) (offL t) S1x128.size (offL_inb t) x a).trans (congrArg (· + (x a).val) (congrFun (offL_eq t t.isLt) a))
  refine idx2_ext ((hv _ 0).trans ?_) ((hv _ 1).trans ?_)
  · show t.val + 0 = (128 * t.val + l.val) / 128
    have := l.isLt; omega
  · show 0 + l.val = (128 * t.val + l.val) % 128
    have := l.isLt; omega

/-- One chunk's words scattered to their places. -/
theorem wp_scatterChunk {m5 : Memref sig .scVector .hbm S4194304 .i32} {m7 : Memref sig .scVector .vmem S8192 .i32} {m9 : Memref sig .scVector .vmem S64x128 .i32}
    (t : Fin (loopN 64#32).trips) {hg : S4194304.Gathers 0 S128} {hn : S128.numel = S128.size hg.axis'} {sem : DmaSem sig}
    {hp : (V d c s).2.kind = .scVector} {he : EltTy.i32.bits = 32} {hsp : Space.hbm = .hbm ∨ Space.hbm = .shared} {hr : S4194304.StreamRows 0}
    {k : PUnit → TProg F c s α} (f : ℕ → ℕ) (b : ℕ) (hb : b + 8192 ≤ NK) {u : ℕ} (hu : u ≤ 128 * t.val * 32) (qo : PosShare TreeShare) (kv : S8192.Idx → BitVec 32) (g5 : S4194304.Idx → BitVec 32)
    (g9 : S64x128.Idx → BitVec 32) (h9 : ∀ z : S64x128.Idx, (z 0).val = t.val → g9 z = posw f b z) :
    iprop(Transfers.Batch (EC F) (V d c s) (.dma sem) (none : HIx 4) 32 (Dl d c s m5 m7 m9 qo f b kv) (128 * t.val) u
        ∗ pts d c s m5 fullShare (dstS f (b + 128 * t.val) (b + 8192)) g5
        ∗ (bigSep Finset.univ fun l : Fin 128 => pts d c s ((m9.slice (Rect.unit (s := S64x128) (offL t) S1x128.size (offL_inb t)) (fun _ => rfl)).squeeze S128 squeezes_S1x128_S128) qo {ix128 l}
          (fun x => g9 ((Rect.unit (s := S64x128) (offL t) S1x128.size (offL_inb t)).emb (Shape.reshapeEquiv squeezes_S1x128_S128.numel_eq x))))
        ∗ pts d c s m7 fullShare (from8 (128 * t.val)) kv)
      ⊢ iprop((iprop(Transfers.Batch (EC F) (V d c s) (.dma sem) (none : HIx 4) 32 (Dl d c s m5 m7 m9 qo f b kv) (128 * t.val + 128) u
          ∗ pts d c s m5 fullShare (dstS f (b + 128 * (t.val + 1)) (b + 8192)) g5
          ∗ pts d c s m7 fullShare (from8 (128 * (t.val + 1))) kv) -∗ WP (d := d) (k ⟨⟩) Q)
        -∗ WP (d := d) (SparseCore.enqueueIndirectScatter (p := (V d c s).2) hp (m7.slice (Rect.unit (s := S8192) (offK t) S128.size (offK_inb t)) (fun _ => rfl))
          (m5.slice (Rect.unit (s := S4194304) ![0] S4194304.size inb_S4194304_S4194304_0) (fun _ => rfl)) hg
          ((m9.slice (Rect.unit (s := S64x128) (offL t) S1x128.size (offL_inb t)) (fun _ => rfl)).squeeze S128 squeezes_S1x128_S128) hn sem he hsp hr >>= k) Q) := by
  have ht : t.val < 64 := t.isLt
  have hdst : ∀ (p : Fin 4194304) (g : S4194304.Idx → BitVec 32),
      (pts d c s m5 fullShare {ixN p} g : sProp 𝕄) = pts d c s (m5.slice (Rect.unit (s := S4194304) ![0] S4194304.size inb_S4194304_S4194304_0) (fun _ => rfl)) fullShare {ixN p}
        (fun x => g ((Rect.unit (s := S4194304) ![0] S4194304.size inb_S4194304_S4194304_0).emb x)) := fun p g => by
    rw [pts_slice, Finset.map_singleton, ixfull]
  iintro ⟨HB, H5, H9, H7⟩ Hk
  ihave H5 := (pts_places m5 f (b + 128 * t.val) (b + 8192) 128 (by omega) hb g5).1 $$ H5
  icases H5 with ⟨H5, Hr5⟩
  ihave H7 := (pts_srcs m7 t kv) $$ H7
  icases H7 with ⟨H7, Hr7⟩
  iapply (wp_scatterBatch (D := Dl d c s m5 m7 m9 qo f b kv) (j := 128 * t.val) (u := u) (n := 8192) (q := fullShare) (qo := qo) (gs := fun x => kv ((Rect.unit (s := S8192) (offK t) S128.size (offK_inb t)).emb x))
    (go := fun x => g9 ((Rect.unit (s := S64x128) (offL t) S1x128.size (offL_inb t)).emb (Shape.reshapeEquiv squeezes_S1x128_S128.numel_eq x)))
    (gd := fun x => g5 ((Rect.unit (s := S4194304) ![0] S4194304.size inb_S4194304_S4194304_0).emb x))
    (by omega) hu (fun l => pF f (b + 128 * t.val + l.val)) ?hgo ?hD) $$ [HB H5 H9 H7]
  case hgo =>
    intro l
    have hl := l.isLt
    rw [embL t l (by omega), h9 _ (by show (128 * t.val + l.val) / 128 = t.val; omega), pF_val (by show _ < 4194304; have : b + 8192 ≤ 4194304 := hb; omega)]
    unfold posw
    rw [BitVec.toNat_ofNat]
    have e : b + 128 * ((128 * t.val + l.val) / 128) + (128 * t.val + l.val) % 128 = b + 128 * t.val + l.val := by omega
    show pos f NK (b + 128 * ((128 * t.val + l.val) / 128) + (128 * t.val + l.val) % 128) % 2 ^ 32 = _
    rw [e]
    refine Nat.mod_eq_of_lt ?_
    have h1 : b + 8192 ≤ 4194304 := hb
    have h2 : pos f NK (b + 128 * t.val + l.val) < 4194304 := pos_lt (by show _ < 4194304; omega)
    omega
  case hD =>
    intro l
    have hl := l.isLt
    have hk : 128 * t.val + l.val < 8192 := by omega
    unfold Dl
    refine sep_mono (Entails.of_eq ?_) (sep_mono (Entails.of_eq ?_) (Entails.of_eq ?_))
    · refine (hdst (pF f (b + 128 * t.val + l.val)) (fun _ => kv ((Rect.unit (s := S8192) (offK t) S128.size (offK_inb t)).emb (ix128 l)))).symm.trans ?_
      rw [embK t l hk]
      show pts d c s m5 fullShare {ixN (pF f (b + 128 * t.val + l.val))} _ = pts d c s m5 fullShare {ixN (pF f (b + (128 * t.val + l.val)))} _
      rw [Nat.add_assoc]
    · have h1 := pts_squeeze (d := d) (c := c) (s := s) (F := F) (m9.slice (Rect.unit (s := S64x128) (offL t) S1x128.size (offL_inb t)) (fun _ => rfl)) squeezes_S1x128_S128 qo {ix128 l}
        (fun y => g9 ((Rect.unit (s := S64x128) (offL t) S1x128.size (offL_inb t)).emb y))
      refine h1.trans ?_
      rw [pts_slice, Finset.map_singleton, Finset.map_singleton]
      have h2 : ((Rect.unit (s := S64x128) (offL t) S1x128.size (offL_inb t)).emb ((Shape.reshapeEquiv squeezes_S1x128_S128.numel_eq).toEmbedding (ix128 l))) = ix64 ⟨128 * t.val + l.val, hk⟩ := embL t l hk
      rw [h2]
      refine pts_congr m9 qo _ fun z hz => ?_
      rw [Finset.mem_singleton.mp hz]
      exact h9 _ (by show (128 * t.val + l.val) / 128 = t.val; omega)
    · refine (pts_slice (d := d) (c := c) (s := s) (F := F) m7 (Rect.unit (s := S8192) (offK t) S128.size (offK_inb t)) (fun _ => rfl) fullShare {ix128 l} kv).trans ?_
      rw [Finset.map_singleton, embK t l hk]
  · isplitl [HB]; · iexact HB
    isplitl [H5]
    · iapply (Entails.of_eq (congrArg (bigSep Finset.univ) (funext fun l : Fin 128 => hdst (pF f (b + 128 * t.val + l.val)) g5))) $$ H5
    isplitl [H9]; · iexact H9
    iexact H7
  iintro HB
  iapply Hk
  isplitl [HB]; · iexact HB
  isplitl [Hr5]
  · rw [show b + 128 * (t.val + 1) = b + 128 * t.val + 128 by omega]
    iexact Hr5
  · iexact Hr7

end Run

end Cert.Radix

end
-- ==== Proof.Perm.lean ====
module

public import proofs.«01_k».proof.Proof.Chunk

/-! The windows of the permutation and the program around them. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

section Run

variable [FloatOps F] [Facts] [∀ e, Nonempty (Elt F e)] {α : Type} {Q : α → sProp (MT nD τ sig (HIx 4) (Elt F) ℕ UU ℕ)}
variable {d : Dev nD} {c : Fin τ.nSC} {s : Fin τ.nSub}

/-- No element is held for nothing. -/
theorem pts_none {sp : Space} {sh : Shape} (m : Memref sig .scVector sp sh .i32) (q : PosShare TreeShare) (g : sh.Idx → BitVec 32) :
    (iprop(emp) : sProp 𝕄) ⊢ pts d c s m q ∅ g := by
  unfold pts
  rw [Finset.map_empty, pointsTo_empty]

/-- The places of `[a, e)` are those of `[a, b)` and those of `[b, e)`. -/
theorem pts_dst (m : Memref sig .scVector .hbm S4194304 .i32) (f : ℕ → ℕ) (a b e : ℕ) (hab : a ≤ b) (hbe : b ≤ e) (he : e ≤ NK) (g : S4194304.Idx → BitVec 32) :
    (pts d c s m fullShare (dstS f a e) g : sProp 𝕄) ⊣⊢ iprop(pts d c s m fullShare (dstS f a b) g ∗ pts d c s m fullShare (dstS f b e) g) := by
  have hs : dstS f a b ⊆ dstS f a e := fun x hx => by
    obtain ⟨i, h1, h2, h3⟩ := mem_dstS.mp hx
    exact mem_dstS.mpr ⟨i, h1, by omega, h3⟩
  have h := pts_split (d := d) (c := c) (s := s) (F := F) m fullShare hs g
  have hd : dstS f a e \ dstS f a b = dstS f b e := by
    ext x
    rw [Finset.mem_sdiff, mem_dstS, mem_dstS, mem_dstS]
    constructor
    · rintro ⟨⟨i, h1, h2, h3⟩, hn⟩
      exact ⟨i, by by_contra hc; exact hn ⟨i, h1, by omega, h3⟩, h2, h3⟩
    · rintro ⟨i, h1, h2, h3⟩
      refine ⟨⟨i, by omega, h2, h3⟩, ?_⟩
      rintro ⟨i', h1', h2', h3'⟩
      have := pF_inj (f := f) (i := i) (j := i') (by omega) (by omega) (h3.trans h3'.symm)
      omega
  rw [hd] at h
  exact h

/-- The two waits of a trip, given both batches. -/
theorem wp_wait2 {a5 a6 : Memref sig .scVector .hbm S4194304 .i32} {a7 a8 : Memref sig .scVector .vmem S8192 .i32} {s12 s13 : DmaSems sig S_}
    {k : TProg F c s α} {n : ℕ} {D D' : Fin n → sProp 𝕄} {j u : ℕ} (hu : u + 128 * 32 ≤ 32 * j)
    {O : CellTallies nD τ sig (HIx 4)} {W : Waits sig (HIx 4)} {SS : Finset (GSem nD τ sig)} :
    iprop(env d c s O W SS ∗ Transfers.Batch (EC F) (V d c s) (.dma s12.sem) (none : HIx 4) 32 D j u ∗ Transfers.Batch (EC F) (V d c s) (.dma s13.sem) (none : HIx 4) 32 D' j u)
      ⊢ iprop((iprop(env d c s O W SS ∗ Transfers.Batch (EC F) (V d c s) (.dma s12.sem) (none : HIx 4) 32 D j (u + 128 * 32)
          ∗ Transfers.Batch (EC F) (V d c s) (.dma s13.sem) (none : HIx 4) 32 D' j (u + 128 * 32)) -∗ WP (d := d) k Q)
        -∗ WP (d := d) (wait2 (F := F) (c := c) (s := s) a5 a6 a7 a8 s12 s13 k) Q) := by
  unfold wait2
  iintro ⟨HE, H1, H2⟩ Hk
  iapply (wp_waitBatch128 hu) $$ [HE H1]
  · isplitl [HE] <;> iassumption
  iintro ⟨HE, H1⟩
  iapply (wp_waitBatch128 hu) $$ [HE H2]
  · isplitl [HE] <;> iassumption
  iintro ⟨HE, H2⟩
  iapply Hk
  isplitl [HE]; · iexact HE
  isplitl [H1] <;> iassumption

/-- What holds at trip `n` of window `t`'s loop. -/
def chunkInv (d : Dev nD) (c : Fin τ.nSC) (s : Fin τ.nSub) (O : CellTallies nD τ sig (HIx 4)) (W : Waits sig (HIx 4)) (SS : Finset (GSem nD τ sig))
    (a5 a6 : Memref sig .scVector .hbm S4194304 .i32) (a7 a8 : Memref sig .scVector .vmem S8192 .i32)
    (a9 : Memref sig .scVector .vmem S64x128 .i32) (a10 : Memref sig .scVector .vmem S32768 .i32) (s12 s13 : DmaSems sig S_)
    (f : ℕ → ℕ) (b : ℕ) (kv vv : S8192.Idx → BitVec 32) (n : ℕ) : sProp 𝕄 :=
  iprop(env d c s O W SS ∗ pts d c s a7 fullShare (from8 (128 * n)) kv ∗ pts d c s a8 fullShare (from8 (128 * n)) vv
    ∗ (∃ g, pts d c s a9 fullShare (rowsF n) g) ∗ pts d c s a10 fullShare Finset.univ (offs f (b + 128 * n))
    ∗ (∃ g, pts d c s a5 fullShare (dstS f (b + 128 * n) (b + 8192)) g) ∗ (∃ g, pts d c s a6 fullShare (dstS f (b + 128 * n) (b + 8192)) g)
    ∗ Transfers.Batch (EC F) (V d c s) (.dma s12.sem) (none : HIx 4) 32 (Dl d c s a5 a7 a9 fullShare.left f b kv) (128 * n) (4096 * (n - 4))
    ∗ Transfers.Batch (EC F) (V d c s) (.dma s13.sem) (none : HIx 4) 32 (Dl d c s a6 a8 a9 fullShare.right f b vv) (128 * n) (4096 * (n - 4)))

/-- What holds before window `n`: the first `n` windows' words at their places. -/
def winInv (d : Dev nD) (c : Fin τ.nSC) (s : Fin τ.nSub) (O : CellTallies nD τ sig (HIx 4)) (W : Waits sig (HIx 4)) (SS : Finset (GSem nD τ sig))
    (a2 a3 a5 a6 : Memref sig .scVector .hbm S4194304 .i32) (a7 a8 : Memref sig .scVector .vmem S8192 .i32)
    (a9 : Memref sig .scVector .vmem S64x128 .i32) (a10 : Memref sig .scVector .vmem S32768 .i32)
    (q q' : PosShare TreeShare) (w : ℕ) (f : ℕ → ℕ) (K Vv : S4194304.Idx → BitVec 32) (n : ℕ) : sProp 𝕄 :=
  iprop(env d c s O W SS ∗ pts d c s a2 q (chunk w) K ∗ pts d c s a3 q' (chunk w) Vv
    ∗ (∃ g, pts d c s a7 fullShare Finset.univ g) ∗ (∃ g, pts d c s a8 fullShare Finset.univ g) ∗ (∃ g, pts d c s a9 fullShare Finset.univ g)
    ∗ pts d c s a10 fullShare Finset.univ (offs f (131072 * w + 8192 * n))
    ∗ pts d c s a5 fullShare (dstS f (131072 * w) (131072 * w + 8192 * n)) (permv f K) ∗ (∃ g, pts d c s a5 fullShare (dstS f (131072 * w + 8192 * n) (131072 * (w + 1))) g)
    ∗ pts d c s a6 fullShare (dstS f (131072 * w) (131072 * w + 8192 * n)) (permv f Vv) ∗ (∃ g, pts d c s a6 fullShare (dstS f (131072 * w + 8192 * n) (131072 * (w + 1))) g))

/-- The trip's condition says the trip is the fifth or later. -/
theorem cond_iff : ∀ t : Fin 64, (Scalar.cmpi .ne (Scalar.extui (Scalar.cmpi .sge (Scf.iv 0#32 1#32 t) 4#32) : BitVec 32) 0#32 = 1#1) ↔ 4 ≤ t.val := by decide

/-- One trip of a window. -/
theorem wp_chunkBody {a5 a6 : Memref sig .scVector .hbm S4194304 .i32} {a7 a8 : Memref sig .scVector .vmem S8192 .i32}
    {a9 : Memref sig .scVector .vmem S64x128 .i32} {a10 : Memref sig .scVector .vmem S32768 .i32} {s12 s13 : DmaSems sig S_} (sh : BitVec 32)
    (K Vv : S4194304.Idx → BitVec 32) (w n : ℕ) (hw : w < 32) (hn : n < 16) (t : Fin (loopN 64#32).trips)
    {O : CellTallies nD τ sig (HIx 4)} {W : Waits sig (HIx 4)} {SS : Finset (GSem nD τ sig)} :
    chunkInv d c s O W SS a5 a6 a7 a8 a9 a10 s12 s13 (dgt sh K) (131072 * w + 8192 * n) (wkeys K w n) (wkeys Vv w n) t.val
      ⊢ WP (d := d) (chunkBody (F := F) (c := c) (s := s) sh a5 a6 a7 a8 a9 a10 s12 s13 t) fun _ =>
        chunkInv d c s O W SS a5 a6 a7 a8 a9 a10 s12 s13 (dgt sh K) (131072 * w + 8192 * n) (wkeys K w n) (wkeys Vv w n) (t.val + 1) := by
  have ht : t.val < 64 := t.isLt
  have hb : 131072 * w + 8192 * n + 8192 ≤ NK := by show _ ≤ 4194304; omega
  unfold chunkInv chunkBody
  iintro ⟨HE, H7, H8, ⟨%g9, H9⟩, H10, ⟨%g5, H5⟩, ⟨%g6, H6⟩, HB, HC⟩
  iapply (wp_pieces1 sh K w n hw hn t all8 0 8 (by decide) g9 (fun _ _ h => absurd h (Nat.not_lt_zero _))) $$ [H7 H9 H10]
  · isplitl [H7]; · iexact H7
    isplitl [H9]
    · iexact H9
    · iexact H10
  iintro %g9 ⟨%hz, H7, H9, H10⟩
  have h9 : ∀ z : S64x128.Idx, (z 0).val = t.val → g9 z = posw (dgt sh K) (131072 * w + 8192 * n) z := fun z h => hz z h (z 1).isLt
  ihave H9 := (pts_offs a9 t g9) $$ H9
  icases H9 with ⟨H9, H9', Hr9⟩
  iapply (wp_scatterChunk (m5 := a5) (m7 := a7) (m9 := a9) t (dgt sh K) (131072 * w + 8192 * n) hb (u := 4096 * (t.val - 4)) (by omega) fullShare.left (wkeys K w n) g5 g9 h9) $$ [HB H5 H9 H7]
  · isplitl [HB]; · iexact HB
    isplitl [H5]; · iexact H5
    isplitl [H9] <;> iassumption
  iintro ⟨HB, H5, H7⟩
  iapply (wp_scatterChunk (m5 := a6) (m7 := a8) (m9 := a9) t (dgt sh K) (131072 * w + 8192 * n) hb (u := 4096 * (t.val - 4)) (by omega) fullShare.right (wkeys Vv w n) g6 g9 h9) $$ [HC H6 H9' H8]
  · isplitl [HC]; · iexact HC
    isplitl [H6]; · iexact H6
    isplitl [H9'] <;> iassumption
  iintro ⟨HC, H6, H8⟩
  by_cases hc : 4 ≤ t.val
  · rw [dif_pos ((cond_iff t).mpr hc)]
    iapply (wp_wait2 (j := 128 * t.val + 128) (u := 4096 * (t.val - 4)) (by omega)) $$ [HE HB HC]
    · isplitl [HE]; · iexact HE
      isplitl [HB] <;> iassumption
    iintro ⟨HE, HB, HC⟩
    iapply (wp_end (F := F) _)
    rw [show 4096 * (t.val + 1 - 4) = 4096 * (t.val - 4) + 128 * 32 by omega, show 128 * (t.val + 1) = 128 * t.val + 128 by omega,
      show 131072 * w + 8192 * n + 128 * t.val + 16 * (0 + 8) = 131072 * w + 8192 * n + (128 * t.val + 128) by omega]
    isplitl [HE]; · iexact HE
    isplitl [H7]; · iexact H7
    isplitl [H8]; · iexact H8
    isplitl [Hr9]; · iexists g9; iexact Hr9
    isplitl [H10]; · iexact H10
    isplitl [H5]; · iexists g5; iexact H5
    isplitl [H6]; · iexists g6; iexact H6
    isplitl [HB] <;> iassumption
  · rw [dif_neg (fun h => hc ((cond_iff t).mp h))]
    iapply (wp_end (F := F) _)
    rw [show 4096 * (t.val + 1 - 4) = 4096 * (t.val - 4) by omega, show 128 * (t.val + 1) = 128 * t.val + 128 by omega,
      show 131072 * w + 8192 * n + 128 * t.val + 16 * (0 + 8) = 131072 * w + 8192 * n + (128 * t.val + 128) by omega]
    isplitl [HE]; · iexact HE
    isplitl [H7]; · iexact H7
    isplitl [H8]; · iexact H8
    isplitl [Hr9]; · iexists g9; iexact Hr9
    isplitl [H10]; · iexact H10
    isplitl [H5]; · iexists g5; iexact H5
    isplitl [H6]; · iexists g6; iexact H6
    isplitl [HB] <;> iassumption

/-- The words of a batch put back together: the places hold the window's words, the positions and the words are back. -/
theorem Dl_join {a5 : Memref sig .scVector .hbm S4194304 .i32} {a7 : Memref sig .scVector .vmem S8192 .i32} {a9 : Memref sig .scVector .vmem S64x128 .i32} (qo : PosShare TreeShare)
    (f : ℕ → ℕ) (K : S4194304.Idx → BitVec 32) (w n : ℕ) (hw : w < 32) (hn : n < 16) :
    (bigSep Finset.univ (Dl d c s a5 a7 a9 qo f (131072 * w + 8192 * n) (wkeys K w n)) : sProp 𝕄)
      ⊢ iprop(pts d c s a5 fullShare (dstS f (131072 * w + 8192 * n) (131072 * w + 8192 * n + 8192)) (permv f K)
        ∗ pts d c s a9 qo Finset.univ (posw f (131072 * w + 8192 * n)) ∗ pts d c s a7 fullShare Finset.univ (wkeys K w n)) := by
  have hb : 131072 * w + 8192 * n + 8192 ≤ NK := by show _ ≤ 4194304; omega
  have e : ∀ k : Fin 8192, (pts d c s a5 fullShare {ixN (pF f (131072 * w + 8192 * n + k.val))} (fun _ => wkeys K w n (ix8 k)) : sProp 𝕄)
      = pts d c s a5 fullShare {ixN (pF f (131072 * w + 8192 * n + k.val))} (permv f K) := fun k => by
    refine pts_congr a5 fullShare _ fun x hx => ?_
    have hk := k.isLt
    rw [Finset.mem_singleton.mp hx, permv_at K (by show _ < 4194304; omega)]
    rfl
  have hd : (Dl d c s a5 a7 a9 qo f (131072 * w + 8192 * n) (wkeys K w n) : Fin 8192 → sProp 𝕄)
      = fun k => iprop(pts d c s a5 fullShare {ixN (pF f (131072 * w + 8192 * n + k.val))} (permv f K) ∗ pts d c s a9 qo {ix64 k} (posw f (131072 * w + 8192 * n)) ∗ pts d c s a7 fullShare {ix8 k} (wkeys K w n)) := by
    funext k
    unfold Dl
    rw [e]
  rw [hd]
  refine (Transfers.bigSep_sep_out _ _ _).trans ?_
  iintro ⟨H5, H⟩
  ihave H := (Transfers.bigSep_sep_out _ _ _) $$ H
  icases H with ⟨H9, H7⟩
  isplitl [H5]
  · iapply (pts_places a5 f (131072 * w + 8192 * n) (131072 * w + 8192 * n + 8192) 8192 le_rfl hb (permv f K)).2
    isplitl [H5]; · iexact H5
    rw [show (dstS f (131072 * w + 8192 * n + 8192) (131072 * w + 8192 * n + 8192)) = ∅ from ?he]
    case he =>
      refine Finset.eq_empty_of_forall_notMem fun x hx => ?_
      obtain ⟨i, h1, h2, _⟩ := mem_dstS.mp hx
      omega
    iapply (pts_none a5 _ _)
    iempintro
  isplitl [H9]
  · iapply (Entails.of_eq (pts_grid a9 qo _)) $$ H9
  · iapply (Entails.of_eq (pts_words a7 fullShare _)) $$ H7

/-- One window of the permutation. -/
theorem wp_winBody1 {a2 a3 a5 a6 : Memref sig .scVector .hbm S4194304 .i32} {a7 a8 : Memref sig .scVector .vmem S8192 .i32} {h7 : a7.IsWhole} {h8 : a8.IsWhole}
    {a9 : Memref sig .scVector .vmem S64x128 .i32} {a10 : Memref sig .scVector .vmem S32768 .i32} {s12 s13 s16 s17 : DmaSems sig S_} (sh : BitVec 32) (i : grid0.Coords)
    (q q' : PosShare TreeShare) (K Vv : S4194304.Idx → BitVec 32) (t : Fin (loopN 16#32).trips)
    {O : CellTallies nD τ sig (HIx 4)} {W : Waits sig (HIx 4)} {SS : Finset (GSem nD τ sig)}
    (hg12 : (V d c s, SemLoc.dma s12.sem) ∈ SS) (hg13 : (V d c s, SemLoc.dma s13.sem) ∈ SS.erase (V d c s, SemLoc.dma s12.sem))
    (hg16 : (V d c s, SemLoc.dma s16.sem) ∈ SS) (hg17 : (V d c s, SemLoc.dma s17.sem) ∈ SS) :
    winInv d c s O W SS a2 a3 a5 a6 a7 a8 a9 a10 q q' (wid i) (dgt sh K) K Vv t.val
      ⊢ WP (d := d) (winBody1 (F := F) (c := c) (s := s) sh i a2 a3 a5 a6 a7 h7 a8 h8 a9 a10 s12 s13 s16 s17 t) fun _ =>
        winInv d c s O W SS a2 a3 a5 a6 a7 a8 a9 a10 q q' (wid i) (dgt sh K) K Vv (t.val + 1) := by
  have ht : t.val < 16 := t.isLt
  have ho : offW i t 0 = 131072 * wid i + 8192 * t.val := by rw [offW_eq _ _ ht]; rfl
  have hw := wid_lt i
  have hv := fun x => unit_val (sh := S4194304) (offW i t) S8192.size (offW_inb i t) x 0
  have hb : 131072 * wid i + 8192 * t.val + 8192 ≤ 131072 * (wid i + 1) := by omega
  have hN : 131072 * (wid i + 1) ≤ NK := by show _ ≤ 4194304; omega
  have hS : ∀ x : S8192.Idx, (Rect.unit (s := S4194304) (offW i t) S8192.size (offW_inb i t)).emb x ∈ chunk (wid i) := fun x => by
    have h1 := hv x
    have h2 : (x 0).val < 8192 := (x 0).isLt
    rw [mem_chunk]; omega
  have e : ∀ (K : S4194304.Idx → BitVec 32) (x : S8192.Idx), K ((Rect.unit (s := S4194304) (offW i t) S8192.size (offW_inb i t)).emb x) = wkeys K (wid i) t.val x := fun K x => by
    unfold wkeys
    congr 1
    refine idx1_ext ?_
    have h2 : (x 0).val < 8192 := (x 0).isLt
    rw [hv x, ho, ixm_val (by omega)]
  unfold winInv winBody1
  iintro ⟨HE, H2, H3, ⟨%g7, H7⟩, ⟨%g8, H8⟩, ⟨%g9, H9⟩, H10, H5, ⟨%g5, Hr5⟩, H6, ⟨%g6, Hr6⟩⟩
  ihave Hr5 := (pts_dst a5 (dgt sh K) (131072 * wid i + 8192 * t.val) (131072 * wid i + 8192 * t.val + 8192) (131072 * (wid i + 1)) (by omega) hb hN g5).1 $$ Hr5
  icases Hr5 with ⟨Hw5, Hr5⟩
  ihave Hr6 := (pts_dst a6 (dgt sh K) (131072 * wid i + 8192 * t.val) (131072 * wid i + 8192 * t.val + 8192) (131072 * (wid i + 1)) (by omega) hb hN g6).1 $$ Hr6
  icases Hr6 with ⟨Hw6, Hr6⟩
  iapply (wp_dmaIn (Rect.unit (s := S4194304) (offW i t) S8192.size (offW_inb i t)) (wkeys K (wid i) t.val) (S := chunk (wid i)) hg16 (show 0 < S8192.numel by decide) hS (e K)) $$ [HE H2 H7]
  · isplitl [HE]; · iexact HE
    isplitl [H2]
    · iexact H2
    · iexact H7
  iintro ⟨HE, H2, H7⟩
  iapply (wp_dmaIn (Rect.unit (s := S4194304) (offW i t) S8192.size (offW_inb i t)) (wkeys Vv (wid i) t.val) (S := chunk (wid i)) hg17 (show 0 < S8192.numel by decide) hS (e Vv)) $$ [HE H3 H8]
  · isplitl [HE]; · iexact HE
    isplitl [H3]
    · iexact H3
    · iexact H8
  iintro ⟨HE, H3, H8⟩
  ihave HE := (env_take hg12) $$ HE
  icases HE with ⟨Hv12, HE⟩
  ihave HE := (env_take hg13) $$ HE
  icases HE with ⟨Hv13, HE⟩
  imod (Transfers.batch_alloc' (EC F) (V d c s) (none : HIx 4) 32 (Dl d c s a5 a7 a9 fullShare.left (dgt sh K) (131072 * wid i + 8192 * t.val) (wkeys K (wid i) t.val)) (E := Set.univ)) $$ Hv12 with HB
  imod (Transfers.batch_alloc' (EC F) (V d c s) (none : HIx 4) 32 (Dl d c s a6 a8 a9 fullShare.right (dgt sh K) (131072 * wid i + 8192 * t.val) (wkeys Vv (wid i) t.val)) (E := Set.univ)) $$ Hv13 with HC
  iapply (Scf.wp_for_bind frame (wpE (defs₀ (F := F)) 𝒱₀ (V d c s) none) Set.univ 0#32 (Scalar.addi 0#32 64#32) 1#32 loop64_ok 0#32 (fun t _ => chunkBody sh a5 a6 a7 a8 a9 a10 s12 s13 t)
    (fun n _ => chunkInv d c s O W ((SS.erase (V d c s, SemLoc.dma s12.sem)).erase (V d c s, SemLoc.dma s13.sem)) a5 a6 a7 a8 a9 a10 s12 s13 (dgt sh K) (131072 * wid i + 8192 * t.val)
      (wkeys K (wid i) t.val) (wkeys Vv (wid i) t.val) n)
    (fun n acc => wp_chunkBody sh K Vv (wid i) t.val hw ht n)) $$ [HE H7 H8 H9 H10 Hw5 Hw6 HB HC]
  · unfold chunkInv
    rw [Nat.mul_zero, from8_zero, rowsF_zero]
    isplitl [HE]; · iexact HE
    isplitl [H7]; · iexact H7
    isplitl [H8]; · iexact H8
    isplitl [H9]; · iexists g9; iexact H9
    isplitl [H10]; · iexact H10
    isplitl [Hw5]; · iexists g5; iexact Hw5
    isplitl [Hw6]; · iexists g6; iexact Hw6
    isplitl [HB]
    · iexact HB
    · iexact HC
  iintro %_ H
  rw [show Scf.trips (0#32 : BitVec 32) (Scalar.addi 0#32 64#32) 1#32 = 64 from rfl]
  unfold chunkInv
  icases H with ⟨HE, -, -, -, H10, -, -, HB, HC⟩
  iapply (wp_wait2 (j := 128 * 64) (u := 4096 * (64 - 4)) (by omega)) $$ [HE HB HC]
  · isplitl [HE]; · iexact HE
    isplitl [HB] <;> iassumption
  iintro ⟨HE, HB, HC⟩
  iapply (wp_wait2 (j := 128 * 64) (u := 4096 * (64 - 4) + 128 * 32) (by omega)) $$ [HE HB HC]
  · isplitl [HE]; · iexact HE
    isplitl [HB] <;> iassumption
  iintro ⟨HE, HB, HC⟩
  iapply (wp_wait2 (j := 128 * 64) (u := 4096 * (64 - 4) + 128 * 32 + 128 * 32) (by omega)) $$ [HE HB HC]
  · isplitl [HE]; · iexact HE
    isplitl [HB] <;> iassumption
  iintro ⟨HE, HB, HC⟩
  iapply (wp_wait2 (j := 128 * 64) (u := 4096 * (64 - 4) + 128 * 32 + 128 * 32 + 128 * 32) (by omega)) $$ [HE HB HC]
  · isplitl [HE]; · iexact HE
    isplitl [HB] <;> iassumption
  iintro ⟨HE, HB, HC⟩
  imod (Transfers.batch_collect' (EC F) (V d c s) (sm := .dma s12.sem) (ι := (none : HIx 4)) (N := 32) (by omega)
    (D := Dl d c s a5 a7 a9 fullShare.left (dgt sh K) (131072 * wid i + 8192 * t.val) (wkeys K (wid i) t.val))) $$ HB with ⟨HB, Hv12⟩
  imod (Transfers.batch_collect' (EC F) (V d c s) (sm := .dma s13.sem) (ι := (none : HIx 4)) (N := 32) (by omega)
    (D := Dl d c s a6 a8 a9 fullShare.right (dgt sh K) (131072 * wid i + 8192 * t.val) (wkeys Vv (wid i) t.val))) $$ HC with ⟨HC, Hv13⟩
  ihave HB := (Dl_join fullShare.left (dgt sh K) K (wid i) t.val hw ht) $$ HB
  icases HB with ⟨Hw5, H9, H7⟩
  ihave HC := (Dl_join fullShare.right (dgt sh K) Vv (wid i) t.val hw ht) $$ HC
  icases HC with ⟨Hw6, H9', H8⟩
  ihave H9 := (pts_share a9 fullShare Finset.univ (posw (dgt sh K) (131072 * wid i + 8192 * t.val))).2 $$ [H9 H9']
  · isplitl [H9] <;> iassumption
  ihave HE := (env_put hg13) $$ [Hv13 HE]
  · isplitl [Hv13] <;> iassumption
  ihave HE := (env_put hg12) $$ [Hv12 HE]
  · isplitl [Hv12] <;> iassumption
  iapply (wp_end (F := F) _)
  rw [show 131072 * wid i + 8192 * (t.val + 1) = 131072 * wid i + 8192 * t.val + 8192 by omega]
  isplitl [HE]; · iexact HE
  isplitl [H2]; · iexact H2
  isplitl [H3]; · iexact H3
  isplitl [H7]; · iexists _; iexact H7
  isplitl [H8]; · iexists _; iexact H8
  isplitl [H9]; · iexists _; iexact H9
  isplitl [H10]; · iexact H10
  isplitl [H5 Hw5]
  · iapply (pts_dst a5 (dgt sh K) (131072 * wid i) (131072 * wid i + 8192 * t.val) (131072 * wid i + 8192 * t.val + 8192) (by omega) (by omega) (by omega) (permv (dgt sh K) K)).2
    isplitl [H5] <;> iassumption
  isplitl [Hr5]; · iexists g5; iexact Hr5
  isplitl [H6 Hw6]
  · iapply (pts_dst a6 (dgt sh K) (131072 * wid i) (131072 * wid i + 8192 * t.val) (131072 * wid i + 8192 * t.val + 8192) (by omega) (by omega) (by omega) (permv (dgt sh K) Vv)).2
    isplitl [H6] <;> iassumption
  · iexists g6; iexact Hr6

/-- The permutation program of one tile. -/
theorem wp_perm {a2 a3 a5 a6 : Memref sig .scVector .hbm S4194304 .i32} {a4 : Memref sig .scVector .hbm S16x32x2048 .i32}
    {a7 a8 : Memref sig .scVector .vmem S8192 .i32} {h7 : a7.IsWhole} {h8 : a8.IsWhole}
    {a9 : Memref sig .scVector .vmem S64x128 .i32} {a10 : Memref sig .scVector .vmem S32768 .i32} {a11 : Memref sig .scVector .vmem S32x2048 .i32} {h11 : a11.IsWhole}
    {s12 s13 s16 s17 : DmaSems sig S_} {sems : Fin 16 → DmaSems sig S_} (sh : BitVec 32) (i : grid0.Coords)
    (q q' qg : PosShare TreeShare) (K Vv : S4194304.Idx → BitVec 32)
    {O : CellTallies nD τ sig (HIx 4)} {W : Waits sig (HIx 4)} {SS : Finset (GSem nD τ sig)}
    (hg12 : (V d c s, SemLoc.dma s12.sem) ∈ SS) (hg13 : (V d c s, SemLoc.dma s13.sem) ∈ SS.erase (V d c s, SemLoc.dma s12.sem))
    (hg16 : (V d c s, SemLoc.dma s16.sem) ∈ SS) (hg17 : (V d c s, SemLoc.dma s17.sem) ∈ SS) (hgs : ∀ q, (V d c s, SemLoc.dma (sems q).sem) ∈ SS) :
    iprop(env d c s O W SS ∗ pts d c s a2 q (chunk (wid i)) K ∗ pts d c s a3 q' (chunk (wid i)) Vv ∗ pts d c s a4 qg Finset.univ (gridv (dgt sh K))
        ∗ (∃ g, pts d c s a5 fullShare (dstS (dgt sh K) (131072 * wid i) (131072 * (wid i + 1))) g) ∗ (∃ g, pts d c s a6 fullShare (dstS (dgt sh K) (131072 * wid i) (131072 * (wid i + 1))) g)
        ∗ (∃ g, pts d c s a7 fullShare Finset.univ g) ∗ (∃ g, pts d c s a8 fullShare Finset.univ g) ∗ (∃ g, pts d c s a9 fullShare Finset.univ g)
        ∗ (∃ g, pts d c s a10 fullShare Finset.univ g) ∗ (∃ g, pts d c s a11 fullShare Finset.univ g))
      ⊢ WP (d := d) (perm (F := F) (c := c) (s := s) sh i a2 a3 a4 a5 a6 a7 h7 a8 h8 a9 a10 a11 h11 s12 s13 sems s16 s17) fun _ =>
      iprop(env d c s O W SS ∗ pts d c s a2 q (chunk (wid i)) K ∗ pts d c s a3 q' (chunk (wid i)) Vv ∗ pts d c s a4 qg Finset.univ (gridv (dgt sh K))
        ∗ pts d c s a5 fullShare (dstS (dgt sh K) (131072 * wid i) (131072 * (wid i + 1))) (permv (dgt sh K) K) ∗ pts d c s a6 fullShare (dstS (dgt sh K) (131072 * wid i) (131072 * (wid i + 1))) (permv (dgt sh K) Vv)
        ∗ (∃ g, pts d c s a7 fullShare Finset.univ g) ∗ (∃ g, pts d c s a8 fullShare Finset.univ g) ∗ (∃ g, pts d c s a9 fullShare Finset.univ g)
        ∗ (∃ g, pts d c s a10 fullShare Finset.univ g) ∗ (∃ g, pts d c s a11 fullShare Finset.univ g)) := by
  unfold perm
  iintro ⟨HE, H2, H3, H4, H5, H6, H7, H8, H9, ⟨%g10, H10⟩, H11⟩
  iapply (wp_scans i (dgt sh K) sems qg all16 0 16 (by decide) hgs g10 (fun _ h => absurd h (Nat.not_lt_zero _)) 0#32 (by rw [Nat.mul_zero, less_zero])) $$ [HE H4 H10 H11]
  · isplitl [HE]; · iexact HE
    isplitl [H4]; · iexact H4
    isplitl [H10]
    · iexact H10
    · iexact H11
  iintro %g ⟨%hz, HE, H4, H10, H11⟩
  ihave H10 := (Entails.of_eq (pts_congr a10 fullShare Finset.univ fun y _ => hz y (y 0).isLt)) $$ H10
  iapply (Scf.wp_for_bind frame (wpE (defs₀ (F := F)) 𝒱₀ (V d c s) none) Set.univ 0#32 (Scalar.addi 0#32 16#32) 1#32 loop16_ok 0#32 (fun t _ => winBody1 sh i a2 a3 a5 a6 a7 h7 a8 h8 a9 a10 s12 s13 s16 s17 t)
    (fun n _ => winInv d c s O W SS a2 a3 a5 a6 a7 a8 a9 a10 q q' (wid i) (dgt sh K) K Vv n)
    (fun n acc => wp_winBody1 sh i q q' K Vv n hg12 hg13 hg16 hg17)) $$ [HE H2 H3 H5 H6 H7 H8 H9 H10]
  · unfold winInv
    rw [show 131072 * wid i + 8192 * 0 = 131072 * wid i by omega]
    isplitl [HE]; · iexact HE
    isplitl [H2]; · iexact H2
    isplitl [H3]; · iexact H3
    isplitl [H7]; · iexact H7
    isplitl [H8]; · iexact H8
    isplitl [H9]; · iexact H9
    isplitl [H10]; · iexact H10
    rw [show dstS (dgt sh K) (131072 * wid i) (131072 * wid i) = ∅ from Finset.eq_empty_of_forall_notMem fun x hx => by
      obtain ⟨i, h1, h2, _⟩ := mem_dstS.mp hx
      omega]
    isplitr
    · iapply (pts_none a5 _ _)
      iempintro
    isplitl [H5]; · iexact H5
    isplitr
    · iapply (pts_none a6 _ _)
      iempintro
    iexact H6
  iintro %_ H
  unfold winInv
  rw [show Scf.trips (0#32 : BitVec 32) (Scalar.addi 0#32 16#32) 1#32 = 16 from rfl, show 131072 * wid i + 8192 * 16 = 131072 * (wid i + 1) by omega]
  icases H with ⟨HE, H2, H3, H7, H8, H9, H10, H5, -, H6, -⟩
  iapply (wp_end (F := F) _)
  isplitl [HE]; · iexact HE
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexact H11

end Run

end Cert.Radix

end
-- ==== Proof.HistEq.lean ====
module

public import proofs.«01_k».proof.Proof.Generic

/-! The two histogram kernels as printed are the histogram program at shifts zero and fifteen. -/

@[expose] public section

namespace Cert.Radix

open Idealize.ShloMosaic Idealize.SL.Sem
open Cert.KernelIdeal

variable {F : FTy → Type} [FloatOps F] [Facts]

/-- Programs that begin with the same effect are equal when they continue alike. -/
theorem op_congr {E : Type → Type _} {α β : Type} {e : E β} {k k' : β → Prog E α} (h : ∀ x, k x = k' x) : Prog.op e k = Prog.op e k' :=
  congrArg _ (funext h)

/-- Programs in sequence are equal when they are in turn. -/
theorem bind_congr' {E : Type → Type _} {α β : Type} {p p' : Prog E β} {k k' : β → Prog E α} (hp : p = p') (h : ∀ x, k x = k' x) :
    (p >>= k) = (p' >>= k') := by rw [hp, funext h]

/-- Loops of equal regions are equal. -/
theorem for_congr {E : Type → Type _} {σ : Type} (l : Scf.Loop 32) {hok : l.OK} (init : σ) {b b' : Fin l.trips → σ → Prog E σ}
    (h : ∀ t a, b t a = b' t a) : Scf.Loop.for l hok init b = Scf.Loop.for l hok init b' := by
  rw [show b = b' from funext fun t => funext (h t)]

theorem hist_eq0 (i : grid0.Coords) (arg2 : Memref sig .scVector .hbm S4194304 .i32) (harg2 : arg2.IsWhole) (arg3 : Memref sig .scVector .hbm S16x32x2048 .i32) (harg3 : arg3.IsWhole)
    (arg4 : Memref sig .scVector .vmem S8192 .i32) (harg4 : arg4.IsWhole) (arg5 : Memref sig .scVector .vmem S32768 .i32) (harg5 : arg5.IsWhole)
    (v12_r0 v8_r1 v8_r2 v8_r3 v8_r4 v8_r5 v8_r6 v8_r7 v8_r8 v8_r9 v8_r10 v8_r11 v8_r12 v8_r13 v8_r14 v8_r15 v8_r16 : DmaSems sig S_) :
    cc0_hist_kernel (F := F) i arg2 harg2 arg3 harg3 arg4 harg4 arg5 harg5 v12_r0 v8_r1 v8_r2 v8_r3 v8_r4 v8_r5 v8_r6 v8_r7 v8_r8 v8_r9 v8_r10 v8_r11 v8_r12 v8_r13 v8_r14 v8_r15 v8_r16 = hist 0#32 i arg2 arg3 arg4 harg4 arg5 v12_r0
      ![v8_r1, v8_r2, v8_r3, v8_r4, v8_r5, v8_r6, v8_r7, v8_r8, v8_r9, v8_r10, v8_r11, v8_r12, v8_r13, v8_r14, v8_r15, v8_r16] := by
  refine (Prog.bind_assoc _ _ _).trans ?_
  refine bind_congr' rfl fun _ => ?_
  refine (Prog.bind_assoc _ _ _).trans ?_
  refine bind_congr' ?_ fun _ => rfl
  exact for_congr _ _ fun t a => op_congr fun _ => op_congr fun _ => rfl

theorem hist_eq2 (i : grid0.Coords) (arg2 : Memref sig .scVector .hbm S4194304 .i32) (harg2 : arg2.IsWhole) (arg3 : Memref sig .scVector .hbm S16x32x2048 .i32) (harg3 : arg3.IsWhole)
    (arg4 : Memref sig .scVector .vmem S8192 .i32) (harg4 : arg4.IsWhole) (arg5 : Memref sig .scVector .vmem S32768 .i32) (harg5 : arg5.IsWhole)
    (v12_r0 v8_r1 v8_r2 v8_r3 v8_r4 v8_r5 v8_r6 v8_r7 v8_r8 v8_r9 v8_r10 v8_r11 v8_r12 v8_r13 v8_r14 v8_r15 v8_r16 : DmaSems sig S_) :
    cc2_hist_kernel (F := F) i arg2 harg2 arg3 harg3 arg4 harg4 arg5 harg5 v12_r0 v8_r1 v8_r2 v8_r3 v8_r4 v8_r5 v8_r6 v8_r7 v8_r8 v8_r9 v8_r10 v8_r11 v8_r12 v8_r13 v8_r14 v8_r15 v8_r16 = hist 15#32 i arg2 arg3 arg4 harg4 arg5 v12_r0
      ![v8_r1, v8_r2, v8_r3, v8_r4, v8_r5, v8_r6, v8_r7, v8_r8, v8_r9, v8_r10, v8_r11, v8_r12, v8_r13, v8_r14, v8_r15, v8_r16] := by
  refine (Prog.bind_assoc _ _ _).trans ?_
  refine bind_congr' rfl fun _ => ?_
  refine (Prog.bind_assoc _ _ _).trans ?_
  refine bind_congr' ?_ fun _ => rfl
  exact for_congr _ _ fun t a => op_congr fun _ => op_congr fun _ => rfl

end Cert.Radix
-- ==== Proof.PermEq1.lean ====
module

public import proofs.«01_k».proof.Proof.HistEq

/-! The permutation kernel of the first pass as printed is the permutation program. -/

@[expose] public section

namespace Cert.Radix

open Idealize.ShloMosaic Idealize.SL.Sem
open Cert.KernelIdeal

variable {F : FTy → Type} [FloatOps F] [Facts]

set_option maxRecDepth 100000 in
set_option maxHeartbeats 4000000 in
theorem perm_eq1 (i : grid0.Coords) (arg2 : Memref sig .scVector .hbm S4194304 .i32) (harg2 : arg2.IsWhole)
    (arg3 : Memref sig .scVector .hbm S4194304 .i32) (harg3 : arg3.IsWhole)
    (arg4 : Memref sig .scVector .hbm S16x32x2048 .i32) (harg4 : arg4.IsWhole)
    (arg5 : Memref sig .scVector .hbm S4194304 .i32) (harg5 : arg5.IsWhole)
    (arg6 : Memref sig .scVector .hbm S4194304 .i32) (harg6 : arg6.IsWhole)
    (arg7 : Memref sig .scVector .vmem S8192 .i32) (harg7 : arg7.IsWhole)
    (arg8 : Memref sig .scVector .vmem S8192 .i32) (harg8 : arg8.IsWhole)
    (arg9 : Memref sig .scVector .vmem S64x128 .i32) (harg9 : arg9.IsWhole)
    (arg10 : Memref sig .scVector .vmem S32768 .i32) (harg10 : arg10.IsWhole)
    (arg11 : Memref sig .scVector .vmem S32x2048 .i32) (harg11 : arg11.IsWhole)
    (arg12 arg13 v38_r0 v38_r1 v38_r2 v38_r3 v38_r4 v38_r5 v38_r6 v38_r7 v38_r8 v38_r9 v38_r10 v38_r11 v38_r12 v38_r13 v38_r14 v38_r15 v76_r16 v76_r17 : DmaSems sig S_) :
    cc1_perm_kernel (F := F) i arg2 harg2 arg3 harg3 arg4 harg4 arg5 harg5 arg6 harg6 arg7 harg7 arg8 harg8 arg9 harg9 arg10 harg10 arg11 harg11 arg12 arg13 v38_r0 v38_r1 v38_r2 v38_r3 v38_r4 v38_r5 v38_r6 v38_r7 v38_r8 v38_r9 v38_r10 v38_r11 v38_r12 v38_r13 v38_r14 v38_r15 v76_r16 v76_r17 = perm 0#32 i arg2 arg3 arg4 arg5 arg6 arg7 harg7 arg8 harg8 arg9 arg10 arg11 harg11 arg12 arg13
      ![v38_r0, v38_r1, v38_r2, v38_r3, v38_r4, v38_r5, v38_r6, v38_r7, v38_r8, v38_r9, v38_r10, v38_r11, v38_r12, v38_r13, v38_r14, v38_r15] v76_r16 v76_r17 := by
  simp only [cc1_perm_kernel, k1_part117, k1_part118, k1_part119, k1_part120, k1_part121, k1_part122, k1_part123, k1_part124, bind_assoc, Prog.bind_lift, Prog.bind_op, pure_bind]
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine bind_congr' (for_congr _ _ fun t a => ?_) fun _ => rfl
  refine op_congr fun _ => op_congr fun _ => op_congr fun _ => op_congr fun _ => bind_congr' (for_congr _ _ fun t a => ?_) fun _ => rfl
  rfl

end Cert.Radix
-- ==== Proof.PermEq3.lean ====
module

public import proofs.«01_k».proof.Proof.HistEq

/-! The permutation kernel of the second pass as printed is the permutation program. -/

@[expose] public section

namespace Cert.Radix

open Idealize.ShloMosaic Idealize.SL.Sem
open Cert.KernelIdeal

variable {F : FTy → Type} [FloatOps F] [Facts]

set_option maxRecDepth 100000 in
set_option maxHeartbeats 4000000 in
theorem perm_eq3 (i : grid0.Coords) (arg2 : Memref sig .scVector .hbm S4194304 .i32) (harg2 : arg2.IsWhole)
    (arg3 : Memref sig .scVector .hbm S4194304 .i32) (harg3 : arg3.IsWhole)
    (arg4 : Memref sig .scVector .hbm S16x32x2048 .i32) (harg4 : arg4.IsWhole)
    (arg5 : Memref sig .scVector .hbm S4194304 .i32) (harg5 : arg5.IsWhole)
    (arg6 : Memref sig .scVector .hbm S4194304 .i32) (harg6 : arg6.IsWhole)
    (arg7 : Memref sig .scVector .vmem S8192 .i32) (harg7 : arg7.IsWhole)
    (arg8 : Memref sig .scVector .vmem S8192 .i32) (harg8 : arg8.IsWhole)
    (arg9 : Memref sig .scVector .vmem S64x128 .i32) (harg9 : arg9.IsWhole)
    (arg10 : Memref sig .scVector .vmem S32768 .i32) (harg10 : arg10.IsWhole)
    (arg11 : Memref sig .scVector .vmem S32x2048 .i32) (harg11 : arg11.IsWhole)
    (arg12 arg13 v38_r0 v38_r1 v38_r2 v38_r3 v38_r4 v38_r5 v38_r6 v38_r7 v38_r8 v38_r9 v38_r10 v38_r11 v38_r12 v38_r13 v38_r14 v38_r15 v76_r16 v76_r17 : DmaSems sig S_) :
    cc3_perm_kernel (F := F) i arg2 harg2 arg3 harg3 arg4 harg4 arg5 harg5 arg6 harg6 arg7 harg7 arg8 harg8 arg9 harg9 arg10 harg10 arg11 harg11 arg12 arg13 v38_r0 v38_r1 v38_r2 v38_r3 v38_r4 v38_r5 v38_r6 v38_r7 v38_r8 v38_r9 v38_r10 v38_r11 v38_r12 v38_r13 v38_r14 v38_r15 v76_r16 v76_r17 = perm 15#32 i arg2 arg3 arg4 arg5 arg6 arg7 harg7 arg8 harg8 arg9 arg10 arg11 harg11 arg12 arg13
      ![v38_r0, v38_r1, v38_r2, v38_r3, v38_r4, v38_r5, v38_r6, v38_r7, v38_r8, v38_r9, v38_r10, v38_r11, v38_r12, v38_r13, v38_r14, v38_r15] v76_r16 v76_r17 := by
  simp only [cc3_perm_kernel, k3_part117, k3_part118, k3_part119, k3_part120, k3_part121, k3_part122, k3_part123, k3_part124, bind_assoc, Prog.bind_lift, Prog.bind_op, pure_bind]
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine op_congr fun _ => op_congr fun _ => bind_congr' (for_congr _ _ fun t a => rfl) fun _ => ?_
  refine bind_congr' (for_congr _ _ fun t a => ?_) fun _ => rfl
  refine op_congr fun _ => op_congr fun _ => op_congr fun _ => op_congr fun _ => bind_congr' (for_congr _ _ fun t a => ?_) fun _ => rfl
  rfl

end Cert.Radix
-- ==== Proof.Task.lean ====
module

public import proofs.«01_k».proof.Proof.Perm
public import proofs.«01_k».proof.Proof.HistEq
public import proofs.«01_k».proof.Proof.PermEq1
public import proofs.«01_k».proof.Proof.PermEq3
public import Idealize.ShloMosaic.Lib.ShareLeaves

/-! The tasks of the four calls: what a tile is handed and what it hands back, and that its program does so. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

/-! ### The program as the launch sees it -/

abbrev ΛP : Labels := Pipeline.Sig Λ₀ (Fin 0) fun p => (pcfgs (F := F) p).Adm
abbrev KC [Facts] : SparseCore.Cfg τ sig (ΛP (F := F)) 4 := sc (F := F)

/-! ### What is handed over -/

section Res

variable [∀ e, Nonempty (Elt F e)]

/-- A call's arrays are named as the first tile names them. -/
abbrev hb (d : Dev nD) {sp : Space} {sh : Shape} (m : Memref sig .scVector sp sh .i32) (q : PosShare TreeShare) (S : Finset sh.Idx) (g : sh.Idx → BitVec 32) : sProp 𝕄 :=
  pts d 0 0 m q S g

/-- Tile `w`'s share of a table all tiles read. -/
def tq (w : ℕ) : PosShare TreeShare := if h : w < 2 ^ 5 then ShareLeaves.leaf 5 fullShare ⟨w, h⟩ else fullShare

variable (d : Dev nD) (a2 a3 a5 a6 : Memref sig .scVector .hbm S4194304 .i32) (a4 : Memref sig .scVector .hbm S16x32x2048 .i32)

/-- Handed to tile `w` of a histogram call: its keys and its row of the grid. -/
def histGo (K : S4194304.Idx → BitVec 32) (w : ℕ) : sProp 𝕄 :=
  iprop(hb d a2 fullShare (chunk w) K ∗ ∃ g, hb d a4 fullShare (grow w) g)
/-- Handed back: the row counts the keys' digits. -/
def histTd (K : S4194304.Idx → BitVec 32) (f : ℕ → ℕ) (w : ℕ) : sProp 𝕄 :=
  iprop(hb d a2 fullShare (chunk w) K ∗ hb d a4 fullShare (grow w) (gridv f))
/-- Handed to tile `w` of a permutation call: its keys and values, a share of the grid, the places its words go to. -/
def permGo (K Vv : S4194304.Idx → BitVec 32) (f : ℕ → ℕ) (w : ℕ) : sProp 𝕄 :=
  iprop(hb d a2 fullShare (chunk w) K ∗ hb d a3 fullShare (chunk w) Vv ∗ hb d a4 (tq w) Finset.univ (gridv f)
    ∗ (∃ g, hb d a5 fullShare (dstS f (131072 * w) (131072 * (w + 1))) g) ∗ ∃ g, hb d a6 fullShare (dstS f (131072 * w) (131072 * (w + 1))) g)
/-- Handed back: the words at their places. -/
def permTd (K Vv : S4194304.Idx → BitVec 32) (f : ℕ → ℕ) (w : ℕ) : sProp 𝕄 :=
  iprop(hb d a2 fullShare (chunk w) K ∗ hb d a3 fullShare (chunk w) Vv ∗ hb d a4 (tq w) Finset.univ (gridv f)
    ∗ hb d a5 fullShare (dstS f (131072 * w) (131072 * (w + 1))) (permv f K) ∗ hb d a6 fullShare (dstS f (131072 * w) (131072 * (w + 1))) (permv f Vv))

instance histGo_storable (K : S4194304.Idx → BitVec 32) (w : ℕ) : BI.Storable (upEmb : UEmb _ 𝕄) (histGo d a2 a4 K w) := by unfold histGo; infer_instance
instance histTd_storable (K : S4194304.Idx → BitVec 32) (f : ℕ → ℕ) (w : ℕ) : BI.Storable (upEmb : UEmb _ 𝕄) (histTd d a2 a4 K f w) := by unfold histTd; infer_instance
instance permGo_storable (K Vv : S4194304.Idx → BitVec 32) (f : ℕ → ℕ) (w : ℕ) : BI.Storable (upEmb : UEmb _ 𝕄) (permGo d a2 a3 a5 a6 a4 K Vv f w) := by unfold permGo; infer_instance
instance permTd_storable (K Vv : S4194304.Idx → BitVec 32) (f : ℕ → ℕ) (w : ℕ) : BI.Storable (upEmb : UEmb _ 𝕄) (permTd d a2 a3 a5 a6 a4 K Vv f w) := by unfold permTd; infer_instance

/-- A whole buffer at some contents is its memref's indices at some contents. -/
theorem own_pts {sp : Space} {sh : Shape} (m : Memref sig .scVector sp sh .i32) (h : m.IsWhole) (d : Dev nD) (c : Fin τ.nSC) (s : Fin τ.nSub) :
    (iprop(∃ f, m.view.loc (V d c s) ↦{fullShare} f) : sProp 𝕄) = iprop(∃ g, pts d c s m fullShare Finset.univ g) := by
  have hs : (Finset.univ : Finset sh.Idx).map m.view.emb = Finset.univ := h.set_eq_univ
  have h1 : (iprop(∃ f, m.view.loc (V d c s) ↦{fullShare} f) : sProp 𝕄) ⊢ iprop(∃ g, pts d c s m fullShare Finset.univ g) := by
    iintro ⟨%f, H⟩
    iexists (m.view.read (Elt F) f)
    have e := pts_of (F := F) (d := d) (c := c) (s := s) m fullShare Finset.univ f (m.view.read (Elt F) f) fun _ _ => rfl
    rw [hs] at e
    iapply (Entails.of_eq e) $$ H
  have h2 : (iprop(∃ g, pts d c s m fullShare Finset.univ g) : sProp 𝕄) ⊢ iprop(∃ f, m.view.loc (V d c s) ↦{fullShare} f) := by
    iintro ⟨%g, H⟩
    iexists (m.view.rep (Val := Elt F) g)
    have e : (pts d c s m fullShare Finset.univ g : sProp 𝕄) = (m.view.loc (V d c s) ↦{fullShare} m.view.rep (Val := Elt F) g) := by unfold pts; rw [hs]
    iapply (Entails.of_eq e) $$ H
  exact BI.Entails.antisymm h1 h2

end Res

section Task

variable [FloatOps F] [Facts] [∀ e, Nonempty (Elt F e)]
variable (d : Dev nD) (c : Fin τ.nSC) (s : Fin τ.nSub)

/-- What surrounds a task, from what the launch gives the tile. -/
theorem env_of (O : CellTallies nD τ sig (HIx 4)) (W : Waits sig (HIx 4)) (hO : ∀ g, O g none = 0) :
    iprop(levAts (KC (F := F)).L (KC (F := F)).lev ∗ ownSems0 (V d c s) ∗ owes (V d c s) O W) ⊢ (env d c s O W (ownCells (V d c s)) : sProp 𝕄) := by
  unfold env owed SparseCore.Cfg.ownSems0
  iintro ⟨#Hl, Hs, HO⟩
  isplitr
  · iapply (show levAts (KC (F := F)).L (KC (F := F)).lev ⊢ Transfers.MayWaits (V d c s) (none : HIx 4) O from (KC (F := F)).mayWaits_none (thr := V d c s) hO) $$ Hl
  isplitl [HO]
  · iexists W
    isplitr
    · ipureintro; exact fun _ h => Or.inl h
    · iexact HO
  · iexact Hs

/-- A histogram task. -/
theorem task_hist {a2 : Memref sig .scVector .hbm S4194304 .i32} {a4 : Memref sig .scVector .hbm S16x32x2048 .i32} {b1 : Memref sig .scVector .vmem S8192 .i32} {h1 : b1.IsWhole}
    {b2 : Memref sig .scVector .vmem S32768 .i32} (h2 : b2.IsWhole) (sh : BitVec 32) (i : grid0.Coords) {sem0 : DmaSems sig S_} {sems : Fin 16 → DmaSems sig S_}
    (K : S4194304.Idx → BitVec 32) (hg : (SemLoc.dma sem0.sem : SemLoc sig).isScoped .scVector = true) (hgs : ∀ q, (SemLoc.dma (sems q).sem : SemLoc sig).isScoped .scVector = true)
    (hF : (KC (F := F)).Facts) {R : sProp 𝕄} (hbufs : (ownBufs (V d c s) : sProp 𝕄) = iprop((∃ f, b1.view.loc (V d c s) ↦{fullShare} f) ∗ (∃ f, b2.view.loc (V d c s) ↦{fullShare} f) ∗ R))
    (e2 : ∀ (q : PosShare TreeShare) S g, (pts d c s a2 q S g : sProp 𝕄) = pts d 0 0 a2 q S g) (e4 : ∀ (q : PosShare TreeShare) S g, (pts d c s a4 q S g : sProp 𝕄) = pts d 0 0 a4 q S g)
    (O : CellTallies nD τ sig (HIx 4)) (W : Waits sig (HIx 4)) (hO : ∀ g, O g none = 0) :
    iprop(levAts (KC (F := F)).L (KC (F := F)).lev ∗ emp ∗ histGo d a2 a4 K (wid i) ∗ scopedBufs (V d c s) ∗ scopedSems0 (V d c s) ∗ owes (V d c s) O W)
      ⊢ WP (d := d) (hist (F := F) (c := c) (s := s) sh i a2 a4 b1 h1 b2 sem0 sems) fun _ =>
        iprop(histTd d a2 a4 K (dgt sh K) (wid i) ∗ scopedBufs (V d c s) ∗ scopedSems0 (V d c s) ∗ ∃ W', ⌜∀ p ∈ W', p ∈ W ∨ p.2 = none⌝ ∗ owes (V d c s) O W') := by
  have hmem : ∀ sm : SemLoc sig, sm.isScoped .scVector = true → ((V d c s, sm) : GSem nD τ sig) ∈ ownCells (V d c s) := fun sm h => mem_ownCells.mpr ⟨rfl, h⟩
  rw [(KC (F := F)).scopedBufs_V hF d c s, SparseCore.Cfg.scopedSems0_V (Val := Elt F) d c s, hbufs, own_pts b1 h1, own_pts b2 h2]
  unfold histGo histTd
  simp only [hb, ← e2, ← e4]
  iintro ⟨#Hl, -, ⟨H2, H4⟩, ⟨Hb1, Hb2, HR⟩, Hs, HO⟩
  ihave HE := (env_of d c s O W hO) $$ [Hs HO]
  · isplitr; · iexact Hl
    isplitl [Hs] <;> iassumption
  iapply (wp_wand_r frame _ _)
  isplitl [HE H2 H4 Hb1 Hb2]
  · iapply (wp_hist sh i sem0 sems fullShare K (hmem _ hg) fun q => hmem _ (hgs q)) $$ [HE H2 H4 Hb1 Hb2]
    isplitl [HE]; · iexact HE
    isplitl [H2]; · iexact H2
    isplitl [H4]; · iexact H4
    isplitl [Hb1] <;> iassumption
  iintro %_ ⟨HE, H2, H4, Hb1, Hb2⟩
  unfold env owed SparseCore.Cfg.ownSems0
  icases HE with ⟨-, HO, Hs⟩
  isplitl [H2 H4]; · isplitl [H2] <;> iassumption
  isplitl [Hb1 Hb2 HR]
  · isplitl [Hb1]; · iexact Hb1
    isplitl [Hb2] <;> iassumption
  isplitl [Hs] <;> iassumption

/-- A permutation task. -/
theorem task_perm {a2 a3 a5 a6 : Memref sig .scVector .hbm S4194304 .i32} {a4 : Memref sig .scVector .hbm S16x32x2048 .i32}
    {b1 b2 : Memref sig .scVector .vmem S8192 .i32} {h1 : b1.IsWhole} {h2 : b2.IsWhole} {b3 : Memref sig .scVector .vmem S64x128 .i32} (h3 : b3.IsWhole)
    {b4 : Memref sig .scVector .vmem S32768 .i32} (h4 : b4.IsWhole) {b5 : Memref sig .scVector .vmem S32x2048 .i32} {h5 : b5.IsWhole}
    (sh : BitVec 32) (i : grid0.Coords) {s12 s13 s16 s17 : DmaSems sig S_} {sems : Fin 16 → DmaSems sig S_} (K Vv : S4194304.Idx → BitVec 32)
    (hg12 : (SemLoc.dma s12.sem : SemLoc sig).isScoped .scVector = true) (hg13 : (SemLoc.dma s13.sem : SemLoc sig).isScoped .scVector = true)
    (hne : (SemLoc.dma s13.sem : SemLoc sig) ≠ SemLoc.dma s12.sem)
    (hg16 : (SemLoc.dma s16.sem : SemLoc sig).isScoped .scVector = true) (hg17 : (SemLoc.dma s17.sem : SemLoc sig).isScoped .scVector = true)
    (hgs : ∀ q, (SemLoc.dma (sems q).sem : SemLoc sig).isScoped .scVector = true)
    (hF : (KC (F := F)).Facts) {R : sProp 𝕄} (hbufs : (ownBufs (V d c s) : sProp 𝕄) = iprop((∃ f, b1.view.loc (V d c s) ↦{fullShare} f) ∗ (∃ f, b2.view.loc (V d c s) ↦{fullShare} f)
      ∗ (∃ f, b3.view.loc (V d c s) ↦{fullShare} f) ∗ (∃ f, b4.view.loc (V d c s) ↦{fullShare} f) ∗ (∃ f, b5.view.loc (V d c s) ↦{fullShare} f) ∗ R))
    (e2 : ∀ (q : PosShare TreeShare) S g, (pts d c s a2 q S g : sProp 𝕄) = pts d 0 0 a2 q S g) (e3 : ∀ (q : PosShare TreeShare) S g, (pts d c s a3 q S g : sProp 𝕄) = pts d 0 0 a3 q S g)
    (e4 : ∀ (q : PosShare TreeShare) S g, (pts d c s a4 q S g : sProp 𝕄) = pts d 0 0 a4 q S g) (e5 : ∀ (q : PosShare TreeShare) S g, (pts d c s a5 q S g : sProp 𝕄) = pts d 0 0 a5 q S g)
    (e6 : ∀ (q : PosShare TreeShare) S g, (pts d c s a6 q S g : sProp 𝕄) = pts d 0 0 a6 q S g)
    (O : CellTallies nD τ sig (HIx 4)) (W : Waits sig (HIx 4)) (hO : ∀ g, O g none = 0) :
    iprop(levAts (KC (F := F)).L (KC (F := F)).lev ∗ emp ∗ permGo d a2 a3 a5 a6 a4 K Vv (dgt sh K) (wid i) ∗ scopedBufs (V d c s) ∗ scopedSems0 (V d c s) ∗ owes (V d c s) O W)
      ⊢ WP (d := d) (perm (F := F) (c := c) (s := s) sh i a2 a3 a4 a5 a6 b1 h1 b2 h2 b3 b4 b5 h5 s12 s13 sems s16 s17) fun _ =>
        iprop(permTd d a2 a3 a5 a6 a4 K Vv (dgt sh K) (wid i) ∗ scopedBufs (V d c s) ∗ scopedSems0 (V d c s) ∗ ∃ W', ⌜∀ p ∈ W', p ∈ W ∨ p.2 = none⌝ ∗ owes (V d c s) O W') := by
  have hmem : ∀ sm : SemLoc sig, sm.isScoped .scVector = true → ((V d c s, sm) : GSem nD τ sig) ∈ ownCells (V d c s) := fun sm h => mem_ownCells.mpr ⟨rfl, h⟩
  rw [(KC (F := F)).scopedBufs_V hF d c s, SparseCore.Cfg.scopedSems0_V (Val := Elt F) d c s, hbufs, own_pts b1 h1, own_pts b2 h2, own_pts b3 h3, own_pts b4 h4, own_pts b5 h5]
  unfold permGo permTd
  simp only [hb, ← e2, ← e3, ← e4, ← e5, ← e6]
  iintro ⟨#Hl, -, ⟨H2, H3, H4, H5, H6⟩, ⟨Hb1, Hb2, Hb3, Hb4, Hb5, HR⟩, Hs, HO⟩
  ihave HE := (env_of d c s O W hO) $$ [Hs HO]
  · isplitr; · iexact Hl
    isplitl [Hs] <;> iassumption
  iapply (wp_wand_r frame _ _)
  isplitl [HE H2 H3 H4 H5 H6 Hb1 Hb2 Hb3 Hb4 Hb5]
  · iapply (wp_perm sh i fullShare fullShare (tq (wid i)) K Vv (hmem _ hg12) (Finset.mem_erase.mpr ⟨fun h => hne (Prod.mk.inj h).2, hmem _ hg13⟩)
      (hmem _ hg16) (hmem _ hg17) fun q => hmem _ (hgs q)) $$ [HE H2 H3 H4 H5 H6 Hb1 Hb2 Hb3 Hb4 Hb5]
    isplitl [HE]; · iexact HE
    isplitl [H2]; · iexact H2
    isplitl [H3]; · iexact H3
    isplitl [H4]; · iexact H4
    isplitl [H5]; · iexact H5
    isplitl [H6]; · iexact H6
    isplitl [Hb1]; · iexact Hb1
    isplitl [Hb2]; · iexact Hb2
    isplitl [Hb3]; · iexact Hb3
    isplitl [Hb4] <;> iassumption
  iintro %_ ⟨HE, H2, H3, H4, H5, H6, Hb1, Hb2, Hb3, Hb4, Hb5⟩
  unfold env owed SparseCore.Cfg.ownSems0
  icases HE with ⟨-, HO, Hs⟩
  isplitl [H2 H3 H4 H5 H6]
  · isplitl [H2]; · iexact H2
    isplitl [H3]; · iexact H3
    isplitl [H4]; · iexact H4
    isplitl [H5] <;> iassumption
  isplitl [Hb1 Hb2 Hb3 Hb4 Hb5 HR]
  · isplitl [Hb1]; · iexact Hb1
    isplitl [Hb2]; · iexact Hb2
    isplitl [Hb3]; · iexact Hb3
    isplitl [Hb4]; · iexact Hb4
    isplitl [Hb5] <;> iassumption
  isplitl [Hs] <;> iassumption

end Task

end Cert.Radix

end
-- ==== Proof.Join.lean ====
module

public import proofs.«01_k».proof.Proof.Task

/-! What the four calls carry, as pieces of whole arrays. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

section Join

variable [∀ e, Nonempty (Elt F e)] (d : Dev nD) (a2 a3 a5 a6 : Memref sig .scVector .hbm S4194304 .i32) (a4 : Memref sig .scVector .hbm S16x32x2048 .i32)

/-- The keys are the tiles' keys. -/
theorem hb_chunks (q : PosShare TreeShare) (g : S4194304.Idx → BitVec 32) :
    (hb d a2 q Finset.univ g : sProp 𝕄) = bigSep Finset.univ fun w : Fin 32 => hb d a2 q (chunk w.val) g := by
  classical
  unfold hb
  rw [← pts_biUnion a2 q Finset.univ (fun w : Fin 32 => chunk w.val) (fun t _ t' _ hne => Finset.disjoint_left.mpr fun x h h' => hne (Fin.ext (by
    have h1 := mem_chunk.mp h
    have h2 := mem_chunk.mp h'
    omega))) g]
  refine congrArg (fun S => (pts d 0 0 a2 q S g : sProp 𝕄)) (Finset.ext fun x => ?_)
  have hx : (x 0).val < 4194304 := (x 0).isLt
  rw [Finset.mem_biUnion]
  exact ⟨fun _ => ⟨⟨(x 0).val / 131072, by omega⟩, Finset.mem_univ _, mem_chunk.mpr (by
    show 131072 * ((x 0).val / 131072) ≤ (x 0).val ∧ (x 0).val < 131072 * ((x 0).val / 131072 + 1); omega)⟩, fun _ => Finset.mem_univ _⟩

/-- The grid is the tiles' rows. -/
theorem hb_grows (q : PosShare TreeShare) (g : S16x32x2048.Idx → BitVec 32) :
    (hb d a4 q Finset.univ g : sProp 𝕄) = bigSep Finset.univ fun w : Fin 32 => hb d a4 q (grow w.val) g := by
  classical
  unfold hb
  rw [← pts_biUnion a4 q Finset.univ (fun w : Fin 32 => grow w.val) (fun t _ t' _ hne => Finset.disjoint_left.mpr fun x h h' => hne (Fin.ext (by
    have h1 := mem_grow.mp h
    have h2 := mem_grow.mp h'
    omega))) g]
  refine congrArg (fun S => (pts d 0 0 a4 q S g : sProp 𝕄)) (Finset.ext fun x => ?_)
  rw [Finset.mem_biUnion]
  exact ⟨fun _ => ⟨x 1, Finset.mem_univ _, mem_grow.mpr rfl⟩, fun _ => Finset.mem_univ _⟩

/-- A whole output is the places of the tiles' words. -/
theorem hb_places (f : ℕ → ℕ) (q : PosShare TreeShare) (g : S4194304.Idx → BitVec 32) :
    (hb d a2 q Finset.univ g : sProp 𝕄) = bigSep Finset.univ fun w : Fin 32 => hb d a2 q (dstS f (131072 * w.val) (131072 * (w.val + 1))) g := by
  classical
  unfold hb
  rw [← pts_biUnion a2 q Finset.univ (fun w : Fin 32 => dstS f (131072 * w.val) (131072 * (w.val + 1))) (fun t _ t' _ hne => Finset.disjoint_left.mpr fun x h h' => hne (Fin.ext (by
    obtain ⟨i, h1, h2, h3⟩ := mem_dstS.mp h
    obtain ⟨i', h1', h2', h3'⟩ := mem_dstS.mp h'
    have ht := t.isLt
    have ht' := t'.isLt
    have := pF_inj (f := f) (i := i) (j := i') (by show _ < 4194304; omega) (by show _ < 4194304; omega) (h3.trans h3'.symm)
    omega))) g]
  refine congrArg (fun S => (pts d 0 0 a2 q S g : sProp 𝕄)) (Finset.ext fun x => ?_)
  rw [Finset.mem_biUnion]
  refine ⟨fun _ => ?_, fun _ => Finset.mem_univ _⟩
  have hx : (x 0).val < NK := (x 0).isLt
  have hu : unpos f NK (x 0).val < NK := unpos_lt hx
  have hu' : unpos f NK (x 0).val < 4194304 := hu
  refine ⟨⟨unpos f NK (x 0).val / 131072, by omega⟩, Finset.mem_univ _, mem_dstS.mpr ⟨unpos f NK (x 0).val, ?_, ?_, ?_⟩⟩
  · show 131072 * (unpos f NK (x 0).val / 131072) ≤ _; omega
  · show _ < 131072 * (unpos f NK (x 0).val / 131072 + 1); omega
  · refine idx1_ext ?_
    show (pF f (unpos f NK (x 0).val)).val = (x 0).val
    rw [pF_val hu, pos_unpos hx]

/-- A table all tiles read is their shares of it. -/
theorem hb_shares (S : Finset S16x32x2048.Idx) (g : S16x32x2048.Idx → BitVec 32) :
    (hb d a4 fullShare S g : sProp 𝕄) = bigSep Finset.univ fun w : Fin 32 => hb d a4 (tq w.val) S g := by
  unfold hb pts
  rw [ShareLeaves.pointsTo_leaves _ _ 5 fullShare]
  refine bigSep_congr fun w _ => ?_
  unfold tq
  rw [dif_pos w.isLt]

/-- What each holds at one choice, each holds at some. -/
theorem bigSep_some {A : Type} (Φ : Fin 32 → A → sProp 𝕄) (g : A) :
    (bigSep Finset.univ fun w => Φ w g) ⊢ (bigSep Finset.univ fun w => iprop(∃ g, Φ w g) : sProp 𝕄) := by
  have h : ∀ w, (Φ w g : sProp 𝕄) ⊢ iprop(∃ g, Φ w g) := fun w => by
    iintro H
    iexists g
    iexact H
  exact bigSep_mono fun w _ => h w

/-- What a histogram call takes. -/
theorem hist_out (K : S4194304.Idx → BitVec 32) :
    (iprop(hb d a2 fullShare Finset.univ K ∗ ∃ g, hb d a4 fullShare Finset.univ g) : sProp 𝕄) ⊢ bigSep Finset.univ fun w : Fin 32 => histGo d a2 a4 K w.val := by
  unfold histGo
  iintro ⟨H2, %g, H4⟩
  ihave H2 := (Entails.of_eq (hb_chunks d a2 fullShare K)) $$ H2
  ihave H4 := (Entails.of_eq (hb_grows d a4 fullShare g)) $$ H4
  iapply (Transfers.bigSep_sep_in _ _ _)
  isplitl [H2]; · iexact H2
  iapply (bigSep_some (fun (w : Fin 32) g => (hb d a4 fullShare (grow w.val) g : sProp 𝕄)) g) $$ H4

/-- What a histogram call gives back. -/
theorem hist_in (K : S4194304.Idx → BitVec 32) (f : ℕ → ℕ) :
    (bigSep Finset.univ fun w : Fin 32 => histTd d a2 a4 K f w.val : sProp 𝕄) ⊢ iprop(hb d a2 fullShare Finset.univ K ∗ hb d a4 fullShare Finset.univ (gridv f)) := by
  unfold histTd
  iintro H
  ihave H := (Transfers.bigSep_sep_out _ _ _) $$ H
  icases H with ⟨H2, H4⟩
  isplitl [H2]
  · iapply (Entails.of_eq (hb_chunks d a2 fullShare K).symm) $$ H2
  · iapply (Entails.of_eq (hb_grows d a4 fullShare (gridv f)).symm) $$ H4

/-- An output at some contents is its places at some contents. -/
theorem places_out (f : ℕ → ℕ) :
    (iprop(∃ g, hb d a5 fullShare Finset.univ g) : sProp 𝕄) ⊢ bigSep Finset.univ fun w : Fin 32 => iprop(∃ g, hb d a5 fullShare (dstS f (131072 * w.val) (131072 * (w.val + 1))) g) := by
  iintro ⟨%g, H⟩
  ihave H := (Entails.of_eq (hb_places d a5 f fullShare g)) $$ H
  iapply (bigSep_some (fun (w : Fin 32) g => (hb d a5 fullShare (dstS f (131072 * w.val) (131072 * (w.val + 1))) g : sProp 𝕄)) g) $$ H

/-- What a permutation call takes. -/
theorem perm_out (K Vv : S4194304.Idx → BitVec 32) (f : ℕ → ℕ) :
    (iprop(hb d a2 fullShare Finset.univ K ∗ hb d a3 fullShare Finset.univ Vv ∗ hb d a4 fullShare Finset.univ (gridv f)
      ∗ (∃ g, hb d a5 fullShare Finset.univ g) ∗ ∃ g, hb d a6 fullShare Finset.univ g) : sProp 𝕄) ⊢ bigSep Finset.univ fun w : Fin 32 => permGo d a2 a3 a5 a6 a4 K Vv f w.val := by
  unfold permGo
  iintro ⟨H2, H3, H4, H5, H6⟩
  ihave H2 := (Entails.of_eq (hb_chunks d a2 fullShare K)) $$ H2
  ihave H3 := (Entails.of_eq (hb_chunks d a3 fullShare Vv)) $$ H3
  ihave H4 := (Entails.of_eq (hb_shares d a4 Finset.univ (gridv f))) $$ H4
  ihave H5 := (places_out d a5 f) $$ H5
  ihave H6 := (places_out d a6 f) $$ H6
  iapply (Transfers.bigSep_sep_in _ _ _)
  isplitl [H2]; · iexact H2
  iapply (Transfers.bigSep_sep_in _ _ _)
  isplitl [H3]; · iexact H3
  iapply (Transfers.bigSep_sep_in _ _ _)
  isplitl [H4]; · iexact H4
  iapply (Transfers.bigSep_sep_in _ _ _)
  isplitl [H5]
  · iexact H5
  · iexact H6

/-- What a permutation call gives back. -/
theorem perm_in (K Vv : S4194304.Idx → BitVec 32) (f : ℕ → ℕ) :
    (bigSep Finset.univ fun w : Fin 32 => permTd d a2 a3 a5 a6 a4 K Vv f w.val : sProp 𝕄) ⊢ iprop(hb d a2 fullShare Finset.univ K ∗ hb d a3 fullShare Finset.univ Vv
      ∗ hb d a4 fullShare Finset.univ (gridv f) ∗ hb d a5 fullShare Finset.univ (permv f K) ∗ hb d a6 fullShare Finset.univ (permv f Vv)) := by
  unfold permTd
  iintro H
  ihave H := (Transfers.bigSep_sep_out _ _ _) $$ H
  icases H with ⟨H2, H⟩
  ihave H := (Transfers.bigSep_sep_out _ _ _) $$ H
  icases H with ⟨H3, H⟩
  ihave H := (Transfers.bigSep_sep_out _ _ _) $$ H
  icases H with ⟨H4, H⟩
  ihave H := (Transfers.bigSep_sep_out _ _ _) $$ H
  icases H with ⟨H5, H6⟩
  isplitl [H2]
  · iapply (Entails.of_eq (hb_chunks d a2 fullShare K).symm) $$ H2
  isplitl [H3]
  · iapply (Entails.of_eq (hb_chunks d a3 fullShare Vv).symm) $$ H3
  isplitl [H4]
  · iapply (Entails.of_eq (hb_shares d a4 Finset.univ (gridv f)).symm) $$ H4
  isplitl [H5]
  · iapply (Entails.of_eq (hb_places d a5 f fullShare (permv f K)).symm) $$ H5
  · iapply (Entails.of_eq (hb_places d a6 f fullShare (permv f Vv)).symm) $$ H6

/-- The tiles, by SparseCore and vector subcore. -/
theorem tiles_eq (Φ : ℕ → sProp 𝕄) :
    (bigSep Finset.univ fun w : Fin 32 => Φ w.val) = bigSep Finset.univ fun c : Fin 2 => bigSep Finset.univ fun i : Fin 16 => Φ (16 * c.val + i.val) := by
  rw [bigSep_univ_equiv (finProdFinEquiv : Fin 2 × Fin 16 ≃ Fin 32) (fun w : Fin 32 => Φ w.val), bigSep_univ_prod]
  refine bigSep_congr fun c _ => bigSep_congr fun i _ => congrArg Φ ?_
  show i.val + 16 * c.val = _
  omega

/-- A whole array as the host names it. -/
theorem whole_pts {sp : Space} {sh : Shape} (m : Memref sig .scVector sp sh .i32) (h : m.IsWhole) (f : Buf (Elt F) (m.view.loc (V d 0 0))) (g : sh.Idx → BitVec 32)
    (hr : ∀ x, m.view.read (Elt F) f x = g x) : (m.view.loc (V d 0 0) ↦{fullShare} f : sProp 𝕄) = hb d m fullShare Finset.univ g := by
  have hs : (Finset.univ : Finset sh.Idx).map m.view.emb = Finset.univ := h.set_eq_univ
  have e := pts_of (F := F) (d := d) (c := 0) (s := 0) m fullShare Finset.univ f g fun x _ => hr x
  rw [hs] at e
  exact e

end Join

end Cert.Radix

end
-- ==== Proof.Launch.lean ====
module

public import proofs.«01_k».proof.Proof.Join

/-! The four calls under the launch: what each carries, and that each tile's program keeps it. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

abbrev DD [FloatOps F] [Facts] : Defs nD τ sig (Elt F) (ΛP (F := F)) := Pipeline.defs pcfgs defs₀
abbrev 𝒱 : Variants := 𝒱₀.lift
abbrev v₀ : 𝒱.V := Sum.inl none
/-- The handshakes' rounds, in the first half of the certificate's state. -/
abbrev EH (F : FTy → Type) : Emb UH (MM F) := Idealize.ShloMosaic.embL

/-- The launch semaphores are the launch's own, and no scoped buffer of a SparseCore is a task's. -/
theorem kfacts [Facts] : (KC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ### The arrays, and what is in them -/

abbrev A0 : Memref sig .scVector .hbm S4194304 .i32 := Memref.whole main_arg0_scv
abbrev A1 : Memref sig .scVector .hbm S4194304 .i32 := Memref.whole main_arg1_scv
abbrev G1 : Memref sig .scVector .hbm S16x32x2048 .i32 := Memref.whole main_v0_scv
abbrev B0 : Memref sig .scVector .hbm S4194304 .i32 := Memref.whole main_v1_0_scv
abbrev B1 : Memref sig .scVector .hbm S4194304 .i32 := Memref.whole main_v1_1_scv
abbrev G2 : Memref sig .scVector .hbm S16x32x2048 .i32 := Memref.whole main_v2_scv
abbrev R0 : Memref sig .scVector .hbm S4194304 .i32 := Memref.whole main_v3_0_scv
abbrev R1 : Memref sig .scVector .hbm S4194304 .i32 := Memref.whole main_v3_1_scv

theorem at_A0 [∀ e, Nonempty (Elt F e)] (d : Dev nD) (c : Fin τ.nSC) (s : Fin τ.nSub) (q : PosShare TreeShare) (S : Finset S4194304.Idx) (g : S4194304.Idx → BitVec 32) :
    (pts d c s A0 q S g : sProp 𝕄) = pts d 0 0 A0 q S g := rfl
theorem at_A1 [∀ e, Nonempty (Elt F e)] (d : Dev nD) (c : Fin τ.nSC) (s : Fin τ.nSub) (q : PosShare TreeShare) (S : Finset S4194304.Idx) (g : S4194304.Idx → BitVec 32) :
    (pts d c s A1 q S g : sProp 𝕄) = pts d 0 0 A1 q S g := rfl
theorem at_G1 [∀ e, Nonempty (Elt F e)] (d : Dev nD) (c : Fin τ.nSC) (s : Fin τ.nSub) (q : PosShare TreeShare) (S : Finset S16x32x2048.Idx) (g : S16x32x2048.Idx → BitVec 32) :
    (pts d c s G1 q S g : sProp 𝕄) = pts d 0 0 G1 q S g := rfl
theorem at_B0 [∀ e, Nonempty (Elt F e)] (d : Dev nD) (c : Fin τ.nSC) (s : Fin τ.nSub) (q : PosShare TreeShare) (S : Finset S4194304.Idx) (g : S4194304.Idx → BitVec 32) :
    (pts d c s B0 q S g : sProp 𝕄) = pts d 0 0 B0 q S g := rfl
theorem at_B1 [∀ e, Nonempty (Elt F e)] (d : Dev nD) (c : Fin τ.nSC) (s : Fin τ.nSub) (q : PosShare TreeShare) (S : Finset S4194304.Idx) (g : S4194304.Idx → BitVec 32) :
    (pts d c s B1 q S g : sProp 𝕄) = pts d 0 0 B1 q S g := rfl
theorem at_G2 [∀ e, Nonempty (Elt F e)] (d : Dev nD) (c : Fin τ.nSC) (s : Fin τ.nSub) (q : PosShare TreeShare) (S : Finset S16x32x2048.Idx) (g : S16x32x2048.Idx → BitVec 32) :
    (pts d c s G2 q S g : sProp 𝕄) = pts d 0 0 G2 q S g := rfl
theorem at_R0 [∀ e, Nonempty (Elt F e)] (d : Dev nD) (c : Fin τ.nSC) (s : Fin τ.nSub) (q : PosShare TreeShare) (S : Finset S4194304.Idx) (g : S4194304.Idx → BitVec 32) :
    (pts d c s R0 q S g : sProp 𝕄) = pts d 0 0 R0 q S g := rfl
theorem at_R1 [∀ e, Nonempty (Elt F e)] (d : Dev nD) (c : Fin τ.nSC) (s : Fin τ.nSub) (q : PosShare TreeShare) (S : Finset S4194304.Idx) (g : S4194304.Idx → BitVec 32) :
    (pts d c s R1 q S g : sProp 𝕄) = pts d 0 0 R1 q S g := rfl

variable (m : (ℓ : Loc nD τ sig) → Buf (Elt F) ℓ)

/-- The keys and the values at the launch. -/
def key0 (d : Dev nD) : S4194304.Idx → BitVec 32 := m ((SparseCore.T d).loc main_arg0)
def val0 (d : Dev nD) : S4194304.Idx → BitVec 32 := m ((SparseCore.T d).loc main_arg1)
/-- The low digits of the keys, and both after the first pass. -/
def dig1 (d : Dev nD) : ℕ → ℕ := dgt 0#32 (key0 m d)
def key1 (d : Dev nD) : S4194304.Idx → BitVec 32 := permv (dig1 m d) (key0 m d)
def val1 (d : Dev nD) : S4194304.Idx → BitVec 32 := permv (dig1 m d) (val0 m d)
/-- The high digits of the keys so permuted, and both after the second pass. -/
def dig2 (d : Dev nD) : ℕ → ℕ := dgt 15#32 (key1 m d)
def key2 (d : Dev nD) : S4194304.Idx → BitVec 32 := permv (dig2 m d) (key1 m d)
def val2 (d : Dev nD) : S4194304.Idx → BitVec 32 := permv (dig2 m d) (val1 m d)

section Pay

variable [FloatOps F] [Facts] [∀ e, Nonempty (Elt F e)]

/-- Handed to tile `w` at call `q`. -/
def goW (d : Dev nD) : Fin 4 → ℕ → sProp 𝕄
  | 0 => histGo d A0 G1 (key0 m d)
  | 1 => permGo d A0 A1 B0 B1 G1 (key0 m d) (val0 m d) (dig1 m d)
  | 2 => histGo d B0 G2 (key1 m d)
  | 3 => permGo d B0 B1 R0 R1 G2 (key1 m d) (val1 m d) (dig2 m d)
/-- Handed back by tile `w` at call `q`. -/
def tdW (d : Dev nD) : Fin 4 → ℕ → sProp 𝕄
  | 0 => histTd d A0 G1 (key0 m d) (dig1 m d)
  | 1 => permTd d A0 A1 B0 B1 G1 (key0 m d) (val0 m d) (dig1 m d)
  | 2 => histTd d B0 G2 (key1 m d) (dig2 m d)
  | 3 => permTd d B0 B1 R0 R1 G2 (key1 m d) (val1 m d) (dig2 m d)

instance goW_storable (d : Dev nD) (q : Fin 4) (w : ℕ) : BI.Storable (upEmb : UEmb _ 𝕄) (goW m d q w) := by
  match q with
  | 0 => unfold goW; infer_instance
  | 1 => unfold goW; infer_instance
  | 2 => unfold goW; infer_instance
  | 3 => unfold goW; infer_instance
instance tdW_storable (d : Dev nD) (q : Fin 4) (w : ℕ) : BI.Storable (upEmb : UEmb _ 𝕄) (tdW m d q w) := by
  match q with
  | 0 => unfold tdW; infer_instance
  | 1 => unfold tdW; infer_instance
  | 2 => unfold tdW; infer_instance
  | 3 => unfold tdW; infer_instance

/-- What the launch's handshakes carry: to a SparseCore its tiles' pieces, and back. -/
def PP : (KC (F := F)).Pay (nD := nD) (Val := Elt F) (Name := ℕ) (U := UU) where
  st := fun q d c => bigSep Finset.univ fun i : Fin ((KC (F := F)).nSub q) => goW m d q (16 * c.val + i.val)
  dn := fun q d c => bigSep Finset.univ fun i : Fin ((KC (F := F)).nSub q) => tdW m d q (16 * c.val + i.val)
  go := fun q d c i => goW m d q (16 * c.val + i.val)
  td := fun q d c i => tdW m d q (16 * c.val + i.val)
  x := fun _ _ => iprop(emp)

instance PP_storable : (PP (F := F) m).IsStorable where
  st _ _ _ := by unfold PP; infer_instance
  dn _ _ _ := by unfold PP; infer_instance
  go _ _ _ _ := by unfold PP; infer_instance
  td _ _ _ _ := by unfold PP; infer_instance

theorem vecSplit (q : Fin 4) : (KC (F := F)).VecSplit' (PP m) q := by
  intro d c
  show (bigSep Finset.univ fun i : Fin ((KC (F := F)).nSub q) => goW m d q (16 * c.val + i.val)) ⊢ |={Set.univ}=> iprop(
      (bigSep Finset.univ fun i : Fin ((KC (F := F)).nSub q) => goW m d q (16 * c.val + i.val))
      ∗ ((bigSep Finset.univ fun i : Fin ((KC (F := F)).nSub q) => tdW m d q (16 * c.val + i.val))
          -∗ bigSep Finset.univ fun i : Fin ((KC (F := F)).nSub q) => tdW m d q (16 * c.val + i.val)))
  iintro H
  imodintro
  isplitl [H]; · iexact H
  iintro H
  iexact H

end Pay

end Cert.Radix

end
-- ==== Proof.Tiles.lean ====
module

public import proofs.«01_k».proof.Proof.Launch

/-! Each tile's program of each call, under what the launch hands it. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

open Cert.KernelIdeal.K0.Facts₀ Cert.KernelIdeal.K1.Facts₀ Cert.KernelIdeal.K2.Facts₀ Cert.KernelIdeal.K3.Facts₀

variable (m : (ℓ : Loc nD τ sig) → Buf (Elt F) ℓ)

section Tiles

variable [FloatOps F] [Facts] [∀ e, Nonempty (Elt F e)]

omit [FloatOps F] [Facts] [∀ e, Nonempty (Elt F e)] in
/-- One of a tile's own buffers, and the rest. -/
theorem own_take {d : Dev nD} {c : Fin τ.nSC} {s : Fin τ.nSub} (R : Finset (DevRef τ sig)) (b : Ref sig .scVector) (hb : (Proc.scVector c s : Proc τ).devRef b ∈ R) :
    (bigSep R fun b => iprop(∃ f, ((d, b) : Loc nD τ sig) ↦{fullShare} f) : sProp 𝕄)
      = iprop((∃ f, (Memref.whole b).view.loc (V d c s) ↦{fullShare} f) ∗ bigSep (R.erase ((Proc.scVector c s : Proc τ).devRef b)) fun b => iprop(∃ f, ((d, b) : Loc nD τ sig) ↦{fullShare} f)) :=
  SparseCore.bigSep_erase' hb

omit [FloatOps F] [Facts] [∀ e, Nonempty (Elt F e)] in
theorem bufs0 (d : Dev nD) (c : Fin τ.nSC) (s : Fin τ.nSub) : ∃ R : sProp 𝕄, (ownBufs (V d c s) : sProp 𝕄) = iprop((∃ f, (Memref.whole cc0_scratch0).view.loc (V d c s) ↦{fullShare} f) ∗ (∃ f, (Memref.whole cc0_scratch1).view.loc (V d c s) ↦{fullShare} f) ∗ R) := by
  have hm : ∀ b : Ref sig .scVector, ((Proc.scVector c s : Proc τ).devRef b).owner = .proc (.scVector c s) → (Proc.scVector c s : Proc τ).devRef b ∈ ownRefs (τ := τ) (sig := sig) (.scVector c s) :=
    fun b h => SparseCore.Cfg.mem_ownRefs_of_owner h
  have hn : ∀ {b b' : Ref sig .scVector}, b ≠ b' → (Proc.scVector c s : Proc τ).devRef b ≠ (Proc.scVector c s : Proc τ).devRef b' := fun h e => h (Proc.devRef_injective _ e)
  refine ⟨bigSep (((ownRefs (τ := τ) (sig := sig) (.scVector c s)).erase ((Proc.scVector c s : Proc τ).devRef cc0_scratch0)).erase ((Proc.scVector c s : Proc τ).devRef cc0_scratch1)) fun b => iprop(∃ f, ((d, b) : Loc nD τ sig) ↦{fullShare} f), ?_⟩
  unfold SparseCore.Cfg.ownBufs
  refine (own_take _ cc0_scratch0 (hm cc0_scratch0 rfl)).trans ?_
  refine congrArg (fun X : sProp 𝕄 => iprop(_ ∗ X)) ?_
  refine (own_take _ cc0_scratch1 (Finset.mem_erase.mpr ⟨hn (show (cc0_scratch1 : Ref sig .scVector) ≠ cc0_scratch0 by decide), (hm cc0_scratch1 rfl)⟩)).trans ?_
  rfl

omit [FloatOps F] [Facts] [∀ e, Nonempty (Elt F e)] in
theorem bufs1 (d : Dev nD) (c : Fin τ.nSC) (s : Fin τ.nSub) : ∃ R : sProp 𝕄, (ownBufs (V d c s) : sProp 𝕄) = iprop((∃ f, (Memref.whole cc1_scratch0).view.loc (V d c s) ↦{fullShare} f) ∗ (∃ f, (Memref.whole cc1_scratch1).view.loc (V d c s) ↦{fullShare} f) ∗ (∃ f, (Memref.whole cc1_scratch2).view.loc (V d c s) ↦{fullShare} f) ∗ (∃ f, (Memref.whole cc1_scratch3).view.loc (V d c s) ↦{fullShare} f) ∗ (∃ f, (Memref.whole cc1_scratch4).view.loc (V d c s) ↦{fullShare} f) ∗ R) := by
  have hm : ∀ b : Ref sig .scVector, ((Proc.scVector c s : Proc τ).devRef b).owner = .proc (.scVector c s) → (Proc.scVector c s : Proc τ).devRef b ∈ ownRefs (τ := τ) (sig := sig) (.scVector c s) :=
    fun b h => SparseCore.Cfg.mem_ownRefs_of_owner h
  have hn : ∀ {b b' : Ref sig .scVector}, b ≠ b' → (Proc.scVector c s : Proc τ).devRef b ≠ (Proc.scVector c s : Proc τ).devRef b' := fun h e => h (Proc.devRef_injective _ e)
  refine ⟨bigSep ((((((ownRefs (τ := τ) (sig := sig) (.scVector c s)).erase ((Proc.scVector c s : Proc τ).devRef cc1_scratch0)).erase ((Proc.scVector c s : Proc τ).devRef cc1_scratch1)).erase ((Proc.scVector c s : Proc τ).devRef cc1_scratch2)).erase ((Proc.scVector c s : Proc τ).devRef cc1_scratch3)).erase ((Proc.scVector c s : Proc τ).devRef cc1_scratch4)) fun b => iprop(∃ f, ((d, b) : Loc nD τ sig) ↦{fullShare} f), ?_⟩
  unfold SparseCore.Cfg.ownBufs
  refine (own_take _ cc1_scratch0 (hm cc1_scratch0 rfl)).trans ?_
  refine congrArg (fun X : sProp 𝕄 => iprop(_ ∗ X)) ?_
  refine (own_take _ cc1_scratch1 (Finset.mem_erase.mpr ⟨hn (show (cc1_scratch1 : Ref sig .scVector) ≠ cc1_scratch0 by decide), (hm cc1_scratch1 rfl)⟩)).trans ?_
  refine congrArg (fun X : sProp 𝕄 => iprop(_ ∗ X)) ?_
  refine (own_take _ cc1_scratch2 (Finset.mem_erase.mpr ⟨hn (show (cc1_scratch2 : Ref sig .scVector) ≠ cc1_scratch1 by decide), (Finset.mem_erase.mpr ⟨hn (show (cc1_scratch2 : Ref sig .scVector) ≠ cc1_scratch0 by decide), (hm cc1_scratch2 rfl)⟩)⟩)).trans ?_
  refine congrArg (fun X : sProp 𝕄 => iprop(_ ∗ X)) ?_
  refine (own_take _ cc1_scratch3 (Finset.mem_erase.mpr ⟨hn (show (cc1_scratch3 : Ref sig .scVector) ≠ cc1_scratch2 by decide), (Finset.mem_erase.mpr ⟨hn (show (cc1_scratch3 : Ref sig .scVector) ≠ cc1_scratch1 by decide), (Finset.mem_erase.mpr ⟨hn (show (cc1_scratch3 : Ref sig .scVector) ≠ cc1_scratch0 by decide), (hm cc1_scratch3 rfl)⟩)⟩)⟩)).trans ?_
  refine congrArg (fun X : sProp 𝕄 => iprop(_ ∗ X)) ?_
  refine (own_take _ cc1_scratch4 (Finset.mem_erase.mpr ⟨hn (show (cc1_scratch4 : Ref sig .scVector) ≠ cc1_scratch3 by decide), (Finset.mem_erase.mpr ⟨hn (show (cc1_scratch4 : Ref sig .scVector) ≠ cc1_scratch2 by decide), (Finset.mem_erase.mpr ⟨hn (show (cc1_scratch4 : Ref sig .scVector) ≠ cc1_scratch1 by decide), (Finset.mem_erase.mpr ⟨hn (show (cc1_scratch4 : Ref sig .scVector) ≠ cc1_scratch0 by decide), (hm cc1_scratch4 rfl)⟩)⟩)⟩)⟩)).trans ?_
  rfl

omit [FloatOps F] [Facts] [∀ e, Nonempty (Elt F e)] in
theorem bufs2 (d : Dev nD) (c : Fin τ.nSC) (s : Fin τ.nSub) : ∃ R : sProp 𝕄, (ownBufs (V d c s) : sProp 𝕄) = iprop((∃ f, (Memref.whole cc2_scratch0).view.loc (V d c s) ↦{fullShare} f) ∗ (∃ f, (Memref.whole cc2_scratch1).view.loc (V d c s) ↦{fullShare} f) ∗ R) := by
  have hm : ∀ b : Ref sig .scVector, ((Proc.scVector c s : Proc τ).devRef b).owner = .proc (.scVector c s) → (Proc.scVector c s : Proc τ).devRef b ∈ ownRefs (τ := τ) (sig := sig) (.scVector c s) :=
    fun b h => SparseCore.Cfg.mem_ownRefs_of_owner h
  have hn : ∀ {b b' : Ref sig .scVector}, b ≠ b' → (Proc.scVector c s : Proc τ).devRef b ≠ (Proc.scVector c s : Proc τ).devRef b' := fun h e => h (Proc.devRef_injective _ e)
  refine ⟨bigSep (((ownRefs (τ := τ) (sig := sig) (.scVector c s)).erase ((Proc.scVector c s : Proc τ).devRef cc2_scratch0)).erase ((Proc.scVector c s : Proc τ).devRef cc2_scratch1)) fun b => iprop(∃ f, ((d, b) : Loc nD τ sig) ↦{fullShare} f), ?_⟩
  unfold SparseCore.Cfg.ownBufs
  refine (own_take _ cc2_scratch0 (hm cc2_scratch0 rfl)).trans ?_
  refine congrArg (fun X : sProp 𝕄 => iprop(_ ∗ X)) ?_
  refine (own_take _ cc2_scratch1 (Finset.mem_erase.mpr ⟨hn (show (cc2_scratch1 : Ref sig .scVector) ≠ cc2_scratch0 by decide), (hm cc2_scratch1 rfl)⟩)).trans ?_
  rfl

omit [FloatOps F] [Facts] [∀ e, Nonempty (Elt F e)] in
theorem bufs3 (d : Dev nD) (c : Fin τ.nSC) (s : Fin τ.nSub) : ∃ R : sProp 𝕄, (ownBufs (V d c s) : sProp 𝕄) = iprop((∃ f, (Memref.whole cc3_scratch0).view.loc (V d c s) ↦{fullShare} f) ∗ (∃ f, (Memref.whole cc3_scratch1).view.loc (V d c s) ↦{fullShare} f) ∗ (∃ f, (Memref.whole cc3_scratch2).view.loc (V d c s) ↦{fullShare} f) ∗ (∃ f, (Memref.whole cc3_scratch3).view.loc (V d c s) ↦{fullShare} f) ∗ (∃ f, (Memref.whole cc3_scratch4).view.loc (V d c s) ↦{fullShare} f) ∗ R) := by
  have hm : ∀ b : Ref sig .scVector, ((Proc.scVector c s : Proc τ).devRef b).owner = .proc (.scVector c s) → (Proc.scVector c s : Proc τ).devRef b ∈ ownRefs (τ := τ) (sig := sig) (.scVector c s) :=
    fun b h => SparseCore.Cfg.mem_ownRefs_of_owner h
  have hn : ∀ {b b' : Ref sig .scVector}, b ≠ b' → (Proc.scVector c s : Proc τ).devRef b ≠ (Proc.scVector c s : Proc τ).devRef b' := fun h e => h (Proc.devRef_injective _ e)
  refine ⟨bigSep ((((((ownRefs (τ := τ) (sig := sig) (.scVector c s)).erase ((Proc.scVector c s : Proc τ).devRef cc3_scratch0)).erase ((Proc.scVector c s : Proc τ).devRef cc3_scratch1)).erase ((Proc.scVector c s : Proc τ).devRef cc3_scratch2)).erase ((Proc.scVector c s : Proc τ).devRef cc3_scratch3)).erase ((Proc.scVector c s : Proc τ).devRef cc3_scratch4)) fun b => iprop(∃ f, ((d, b) : Loc nD τ sig) ↦{fullShare} f), ?_⟩
  unfold SparseCore.Cfg.ownBufs
  refine (own_take _ cc3_scratch0 (hm cc3_scratch0 rfl)).trans ?_
  refine congrArg (fun X : sProp 𝕄 => iprop(_ ∗ X)) ?_
  refine (own_take _ cc3_scratch1 (Finset.mem_erase.mpr ⟨hn (show (cc3_scratch1 : Ref sig .scVector) ≠ cc3_scratch0 by decide), (hm cc3_scratch1 rfl)⟩)).trans ?_
  refine congrArg (fun X : sProp 𝕄 => iprop(_ ∗ X)) ?_
  refine (own_take _ cc3_scratch2 (Finset.mem_erase.mpr ⟨hn (show (cc3_scratch2 : Ref sig .scVector) ≠ cc3_scratch1 by decide), (Finset.mem_erase.mpr ⟨hn (show (cc3_scratch2 : Ref sig .scVector) ≠ cc3_scratch0 by decide), (hm cc3_scratch2 rfl)⟩)⟩)).trans ?_
  refine congrArg (fun X : sProp 𝕄 => iprop(_ ∗ X)) ?_
  refine (own_take _ cc3_scratch3 (Finset.mem_erase.mpr ⟨hn (show (cc3_scratch3 : Ref sig .scVector) ≠ cc3_scratch2 by decide), (Finset.mem_erase.mpr ⟨hn (show (cc3_scratch3 : Ref sig .scVector) ≠ cc3_scratch1 by decide), (Finset.mem_erase.mpr ⟨hn (show (cc3_scratch3 : Ref sig .scVector) ≠ cc3_scratch0 by decide), (hm cc3_scratch3 rfl)⟩)⟩)⟩)).trans ?_
  refine congrArg (fun X : sProp 𝕄 => iprop(_ ∗ X)) ?_
  refine (own_take _ cc3_scratch4 (Finset.mem_erase.mpr ⟨hn (show (cc3_scratch4 : Ref sig .scVector) ≠ cc3_scratch3 by decide), (Finset.mem_erase.mpr ⟨hn (show (cc3_scratch4 : Ref sig .scVector) ≠ cc3_scratch2 by decide), (Finset.mem_erase.mpr ⟨hn (show (cc3_scratch4 : Ref sig .scVector) ≠ cc3_scratch1 by decide), (Finset.mem_erase.mpr ⟨hn (show (cc3_scratch4 : Ref sig .scVector) ≠ cc3_scratch0 by decide), (hm cc3_scratch4 rfl)⟩)⟩)⟩)⟩)).trans ?_
  rfl

/-- The coordinates of a tile of a call's grid. -/
def coordsV (c : Fin (grid0.bound 0)) (s : Fin (grid0.bound 1)) : grid0.Coords := fun | 0 => c | 1 => s | ⟨_ + 2, h⟩ => absurd h (Nat.not_lt.2 (Nat.le_add_left _ _))

omit [FloatOps F] [Facts] [∀ e, Nonempty (Elt F e)] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

omit [∀ e, Nonempty (Elt F e)] [FloatOps F] in
theorem sems1 : (SemLoc.dma cc1_scratch6.sem : SemLoc sig) ≠ .dma cc1_scratch5.sem := fun h => absurd (congrArg Fin.val (SemLoc.dma.inj h)) (by simp [cc1_scratch6, cc1_scratch5, SemArray.sem, SemArray.consecutive])

omit [∀ e, Nonempty (Elt F e)] [FloatOps F] in
theorem sems3 : (SemLoc.dma cc3_scratch6.sem : SemLoc sig) ≠ .dma cc3_scratch5.sem := fun h => absurd (congrArg Fin.val (SemLoc.dma.inj h)) (by simp [cc3_scratch6, cc3_scratch5, SemArray.sem, SemArray.consecutive])

/-- A task of call 0. -/
theorem task0 (d : Dev nD) (i : grid0.Coords) (O : CellTallies nD τ sig (HIx 4)) (W : Waits sig (HIx 4)) (hO : ∀ g, O g none = 0) :
    iprop(levAts (KC (F := F)).L (KC (F := F)).lev ∗ emp ∗ goW m d 0 (wid i) ∗ scopedBufs (V d ((i 0).castLE hcore0) ((i 1).castLE hsub0))
        ∗ scopedSems0 (V d ((i 0).castLE hcore0) ((i 1).castLE hsub0)) ∗ owes (V d ((i 0).castLE hcore0) ((i 1).castLE hsub0)) O W)
      ⊢ wp frame (wpE (defs₀ (F := F)) 𝒱₀ (V d ((i 0).castLE hcore0) ((i 1).castLE hsub0)) none) Set.univ (cc0_hist_kernel (F := F) i A0 (Memref.isWhole_whole _) G1 (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
        fun _ => iprop(tdW m d 0 (wid i) ∗ scopedBufs (V d ((i 0).castLE hcore0) ((i 1).castLE hsub0)) ∗ scopedSems0 (V d ((i 0).castLE hcore0) ((i 1).castLE hsub0))
          ∗ ∃ W', ⌜∀ p ∈ W', p ∈ W ∨ p.2 = none⌝ ∗ owes (V d ((i 0).castLE hcore0) ((i 1).castLE hsub0)) O W') := by
  obtain ⟨R, hR⟩ := bufs0 (F := F) d ((i 0).castLE hcore0) ((i 1).castLE hsub0)
  rw [hist_eq0]
  exact task_hist d _ _ (Memref.isWhole_whole _) 0#32 i (key0 m d) rfl (fun q => match q with | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))) kfacts hR (fun _ _ _ => rfl) (fun _ _ _ => rfl) O W hO

theorem defs₀_vector0 (c : Fin τ.nSC) (s : Fin τ.nSub) : defs₀ (F := F) (.scVector c s) 0 () = SparseCore.onTile hcore0 hsub0 (fun c s => (fun i : grid0.Coords => cc0_hist_kernel (F := F) i A0 (Memref.isWhole_whole _) G1 (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) (coordsV c s)) ⟨⟩ c s := rfl

theorem tileObl0 : (KC (F := F)).TileObl (DD (F := F)) 𝒱 (PP m) v₀ 0 := by
  intro d c i O W hO _ _
  simp only [show (PP m).ox = fun _ _ => 0 from rfl, add_zero]
  have hci : ((KC (F := F)).core 0 c).val < grid0.bound 0 ∧ ((KC (F := F)).sub 0 i).val < grid0.bound 1 := ⟨c.isLt, i.isLt⟩
  change _ ⊢ wp _ _ _ (Pipeline.liftProg (defs₀ (F := F) (.scVector ((KC (F := F)).core 0 c) ((KC (F := F)).sub 0 i)) 0 ())) _
  refine BI.Entails.trans ?_ (Pipeline.wp_liftProg (DD (F := F)) (Pipeline.defs_kernel pcfgs defs₀) 𝒱₀ _ Set.univ none _ _)
  rw [defs₀_vector0]; simp only [SparseCore.onTile, hci, and_self, ↓reduceDIte]
  exact (task0 m d (coordsV ⟨_, hci.1⟩ ⟨_, hci.2⟩) O W hO).trans (wp_mono frame _ _ fun _ => obl_post)

/-- A task of call 1. -/
theorem task1 (d : Dev nD) (i : grid0.Coords) (O : CellTallies nD τ sig (HIx 4)) (W : Waits sig (HIx 4)) (hO : ∀ g, O g none = 0) :
    iprop(levAts (KC (F := F)).L (KC (F := F)).lev ∗ emp ∗ goW m d 1 (wid i) ∗ scopedBufs (V d ((i 0).castLE hcore1) ((i 1).castLE hsub1))
        ∗ scopedSems0 (V d ((i 0).castLE hcore1) ((i 1).castLE hsub1)) ∗ owes (V d ((i 0).castLE hcore1) ((i 1).castLE hsub1)) O W)
      ⊢ wp frame (wpE (defs₀ (F := F)) 𝒱₀ (V d ((i 0).castLE hcore1) ((i 1).castLE hsub1)) none) Set.univ (cc1_perm_kernel (F := F) i A0 (Memref.isWhole_whole _) A1 (Memref.isWhole_whole _) G1 (Memref.isWhole_whole _) B0 (Memref.isWhole_whole _) B1 (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17)
        fun _ => iprop(tdW m d 1 (wid i) ∗ scopedBufs (V d ((i 0).castLE hcore1) ((i 1).castLE hsub1)) ∗ scopedSems0 (V d ((i 0).castLE hcore1) ((i 1).castLE hsub1))
          ∗ ∃ W', ⌜∀ p ∈ W', p ∈ W ∨ p.2 = none⌝ ∗ owes (V d ((i 0).castLE hcore1) ((i 1).castLE hsub1)) O W') := by
  obtain ⟨R, hR⟩ := bufs1 (F := F) d ((i 0).castLE hcore1) ((i 1).castLE hsub1)
  rw [perm_eq1]
  exact task_perm d _ _ (Memref.isWhole_whole _) (Memref.isWhole_whole _) 0#32 i (key0 m d) (val0 m d) rfl rfl sems1 rfl rfl (fun q => match q with | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))) kfacts hR
    (fun _ _ _ => rfl) (fun _ _ _ => rfl) (fun _ _ _ => rfl) (fun _ _ _ => rfl) (fun _ _ _ => rfl) O W hO

theorem defs₀_vector1 (c : Fin τ.nSC) (s : Fin τ.nSub) : defs₀ (F := F) (.scVector c s) 1 () = SparseCore.onTile hcore1 hsub1 (fun c s => (fun i : grid0.Coords => cc1_perm_kernel (F := F) i A0 (Memref.isWhole_whole _) A1 (Memref.isWhole_whole _) G1 (Memref.isWhole_whole _) B0 (Memref.isWhole_whole _) B1 (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17) (coordsV c s)) ⟨⟩ c s := rfl

theorem tileObl1 : (KC (F := F)).TileObl (DD (F := F)) 𝒱 (PP m) v₀ 1 := by
  intro d c i O W hO _ _
  simp only [show (PP m).ox = fun _ _ => 0 from rfl, add_zero]
  have hci : ((KC (F := F)).core 1 c).val < grid0.bound 0 ∧ ((KC (F := F)).sub 1 i).val < grid0.bound 1 := ⟨c.isLt, i.isLt⟩
  change _ ⊢ wp _ _ _ (Pipeline.liftProg (defs₀ (F := F) (.scVector ((KC (F := F)).core 1 c) ((KC (F := F)).sub 1 i)) 1 ())) _
  refine BI.Entails.trans ?_ (Pipeline.wp_liftProg (DD (F := F)) (Pipeline.defs_kernel pcfgs defs₀) 𝒱₀ _ Set.univ none _ _)
  rw [defs₀_vector1]; simp only [SparseCore.onTile, hci, and_self, ↓reduceDIte]
  exact (task1 m d (coordsV ⟨_, hci.1⟩ ⟨_, hci.2⟩) O W hO).trans (wp_mono frame _ _ fun _ => obl_post)

/-- A task of call 2. -/
theorem task2 (d : Dev nD) (i : grid0.Coords) (O : CellTallies nD τ sig (HIx 4)) (W : Waits sig (HIx 4)) (hO : ∀ g, O g none = 0) :
    iprop(levAts (KC (F := F)).L (KC (F := F)).lev ∗ emp ∗ goW m d 2 (wid i) ∗ scopedBufs (V d ((i 0).castLE hcore2) ((i 1).castLE hsub2))
        ∗ scopedSems0 (V d ((i 0).castLE hcore2) ((i 1).castLE hsub2)) ∗ owes (V d ((i 0).castLE hcore2) ((i 1).castLE hsub2)) O W)
      ⊢ wp frame (wpE (defs₀ (F := F)) 𝒱₀ (V d ((i 0).castLE hcore2) ((i 1).castLE hsub2)) none) Set.univ (cc2_hist_kernel (F := F) i B0 (Memref.isWhole_whole _) G2 (Memref.isWhole_whole _) (Memref.whole cc2_scratch0) (Memref.isWhole_whole _) (Memref.whole cc2_scratch1) (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16)
        fun _ => iprop(tdW m d 2 (wid i) ∗ scopedBufs (V d ((i 0).castLE hcore2) ((i 1).castLE hsub2)) ∗ scopedSems0 (V d ((i 0).castLE hcore2) ((i 1).castLE hsub2))
          ∗ ∃ W', ⌜∀ p ∈ W', p ∈ W ∨ p.2 = none⌝ ∗ owes (V d ((i 0).castLE hcore2) ((i 1).castLE hsub2)) O W') := by
  obtain ⟨R, hR⟩ := bufs2 (F := F) d ((i 0).castLE hcore2) ((i 1).castLE hsub2)
  rw [hist_eq2]
  exact task_hist d _ _ (Memref.isWhole_whole _) 15#32 i (key1 m d) rfl (fun q => match q with | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))) kfacts hR (fun _ _ _ => rfl) (fun _ _ _ => rfl) O W hO

theorem defs₀_vector2 (c : Fin τ.nSC) (s : Fin τ.nSub) : defs₀ (F := F) (.scVector c s) 2 () = SparseCore.onTile hcore2 hsub2 (fun c s => (fun i : grid0.Coords => cc2_hist_kernel (F := F) i B0 (Memref.isWhole_whole _) G2 (Memref.isWhole_whole _) (Memref.whole cc2_scratch0) (Memref.isWhole_whole _) (Memref.whole cc2_scratch1) (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16) (coordsV c s)) ⟨⟩ c s := rfl

theorem tileObl2 : (KC (F := F)).TileObl (DD (F := F)) 𝒱 (PP m) v₀ 2 := by
  intro d c i O W hO _ _
  simp only [show (PP m).ox = fun _ _ => 0 from rfl, add_zero]
  have hci : ((KC (F := F)).core 2 c).val < grid0.bound 0 ∧ ((KC (F := F)).sub 2 i).val < grid0.bound 1 := ⟨c.isLt, i.isLt⟩
  change _ ⊢ wp _ _ _ (Pipeline.liftProg (defs₀ (F := F) (.scVector ((KC (F := F)).core 2 c) ((KC (F := F)).sub 2 i)) 2 ())) _
  refine BI.Entails.trans ?_ (Pipeline.wp_liftProg (DD (F := F)) (Pipeline.defs_kernel pcfgs defs₀) 𝒱₀ _ Set.univ none _ _)
  rw [defs₀_vector2]; simp only [SparseCore.onTile, hci, and_self, ↓reduceDIte]
  exact (task2 m d (coordsV ⟨_, hci.1⟩ ⟨_, hci.2⟩) O W hO).trans (wp_mono frame _ _ fun _ => obl_post)

/-- A task of call 3. -/
theorem task3 (d : Dev nD) (i : grid0.Coords) (O : CellTallies nD τ sig (HIx 4)) (W : Waits sig (HIx 4)) (hO : ∀ g, O g none = 0) :
    iprop(levAts (KC (F := F)).L (KC (F := F)).lev ∗ emp ∗ goW m d 3 (wid i) ∗ scopedBufs (V d ((i 0).castLE hcore3) ((i 1).castLE hsub3))
        ∗ scopedSems0 (V d ((i 0).castLE hcore3) ((i 1).castLE hsub3)) ∗ owes (V d ((i 0).castLE hcore3) ((i 1).castLE hsub3)) O W)
      ⊢ wp frame (wpE (defs₀ (F := F)) 𝒱₀ (V d ((i 0).castLE hcore3) ((i 1).castLE hsub3)) none) Set.univ (cc3_perm_kernel (F := F) i B0 (Memref.isWhole_whole _) B1 (Memref.isWhole_whole _) G2 (Memref.isWhole_whole _) R0 (Memref.isWhole_whole _) R1 (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scratch5 cc3_scratch6 cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17)
        fun _ => iprop(tdW m d 3 (wid i) ∗ scopedBufs (V d ((i 0).castLE hcore3) ((i 1).castLE hsub3)) ∗ scopedSems0 (V d ((i 0).castLE hcore3) ((i 1).castLE hsub3))
          ∗ ∃ W', ⌜∀ p ∈ W', p ∈ W ∨ p.2 = none⌝ ∗ owes (V d ((i 0).castLE hcore3) ((i 1).castLE hsub3)) O W') := by
  obtain ⟨R, hR⟩ := bufs3 (F := F) d ((i 0).castLE hcore3) ((i 1).castLE hsub3)
  rw [perm_eq3]
  exact task_perm d _ _ (Memref.isWhole_whole _) (Memref.isWhole_whole _) 15#32 i (key1 m d) (val1 m d) rfl rfl sems3 rfl rfl (fun q => match q with | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))) kfacts hR
    (fun _ _ _ => rfl) (fun _ _ _ => rfl) (fun _ _ _ => rfl) (fun _ _ _ => rfl) (fun _ _ _ => rfl) O W hO

theorem defs₀_vector3 (c : Fin τ.nSC) (s : Fin τ.nSub) : defs₀ (F := F) (.scVector c s) 3 () = SparseCore.onTile hcore3 hsub3 (fun c s => (fun i : grid0.Coords => cc3_perm_kernel (F := F) i B0 (Memref.isWhole_whole _) B1 (Memref.isWhole_whole _) G2 (Memref.isWhole_whole _) R0 (Memref.isWhole_whole _) R1 (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scratch5 cc3_scratch6 cc3_scoped0 cc3_scoped1 cc3_scoped2 cc3_scoped3 cc3_scoped4 cc3_scoped5 cc3_scoped6 cc3_scoped7 cc3_scoped8 cc3_scoped9 cc3_scoped10 cc3_scoped11 cc3_scoped12 cc3_scoped13 cc3_scoped14 cc3_scoped15 cc3_scoped16 cc3_scoped17) (coordsV c s)) ⟨⟩ c s := rfl

theorem tileObl3 : (KC (F := F)).TileObl (DD (F := F)) 𝒱 (PP m) v₀ 3 := by
  intro d c i O W hO _ _
  simp only [show (PP m).ox = fun _ _ => 0 from rfl, add_zero]
  have hci : ((KC (F := F)).core 3 c).val < grid0.bound 0 ∧ ((KC (F := F)).sub 3 i).val < grid0.bound 1 := ⟨c.isLt, i.isLt⟩
  change _ ⊢ wp _ _ _ (Pipeline.liftProg (defs₀ (F := F) (.scVector ((KC (F := F)).core 3 c) ((KC (F := F)).sub 3 i)) 3 ())) _
  refine BI.Entails.trans ?_ (Pipeline.wp_liftProg (DD (F := F)) (Pipeline.defs_kernel pcfgs defs₀) 𝒱₀ _ Set.univ none _ _)
  rw [defs₀_vector3]; simp only [SparseCore.onTile, hci, and_self, ↓reduceDIte]
  exact (task3 m d (coordsV ⟨_, hci.1⟩ ⟨_, hci.2⟩) O W hO).trans (wp_mono frame _ _ fun _ => obl_post)

end Tiles

end Cert.Radix

end
-- ==== Proof.Main.lean ====
module

public import proofs.«01_k».proof.Proof.Tiles

/-! The whole run: the four calls in turn, what memory holds at the end. -/

@[expose] public section

noncomputable section

namespace Cert.Radix

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Cert.KernelIdeal.Shapes1.Facts₀

variable {F : FTy → Type}

local notation "𝕄" => MT nD τ sig (HIx 4) (Elt F) ℕ UU ℕ

variable (m : (ℓ : Loc nD τ sig) → Buf (Elt F) ℓ) (ρ : Dev nD → PrngReg)

section Main

variable [FloatOps F] [Facts] [∀ e, Nonempty (Elt F e)]

/-! ### What the launch hands a call, and what comes back -/

theorem st0_eq (d : Dev nD) : (bigSep Finset.univ fun c : Fin ((KC (F := F)).nCore 0) => (PP m).st 0 d c) = bigSep Finset.univ fun w : Fin 32 => histGo d A0 G1 (key0 m d) w.val :=
  (tiles_eq (goW m d 0)).symm
theorem dn0_eq (d : Dev nD) : (bigSep Finset.univ fun c : Fin ((KC (F := F)).nCore 0) => (PP m).dn 0 d c) = bigSep Finset.univ fun w : Fin 32 => histTd d A0 G1 (key0 m d) (dig1 m d) w.val :=
  (tiles_eq (tdW m d 0)).symm
theorem st1_eq (d : Dev nD) : (bigSep Finset.univ fun c : Fin ((KC (F := F)).nCore 1) => (PP m).st 1 d c) = bigSep Finset.univ fun w : Fin 32 => permGo d A0 A1 B0 B1 G1 (key0 m d) (val0 m d) (dig1 m d) w.val :=
  (tiles_eq (goW m d 1)).symm
theorem dn1_eq (d : Dev nD) : (bigSep Finset.univ fun c : Fin ((KC (F := F)).nCore 1) => (PP m).dn 1 d c) = bigSep Finset.univ fun w : Fin 32 => permTd d A0 A1 B0 B1 G1 (key0 m d) (val0 m d) (dig1 m d) w.val :=
  (tiles_eq (tdW m d 1)).symm
theorem st2_eq (d : Dev nD) : (bigSep Finset.univ fun c : Fin ((KC (F := F)).nCore 2) => (PP m).st 2 d c) = bigSep Finset.univ fun w : Fin 32 => histGo d B0 G2 (key1 m d) w.val :=
  (tiles_eq (goW m d 2)).symm
theorem dn2_eq (d : Dev nD) : (bigSep Finset.univ fun c : Fin ((KC (F := F)).nCore 2) => (PP m).dn 2 d c) = bigSep Finset.univ fun w : Fin 32 => histTd d B0 G2 (key1 m d) (dig2 m d) w.val :=
  (tiles_eq (tdW m d 2)).symm
theorem st3_eq (d : Dev nD) : (bigSep Finset.univ fun c : Fin ((KC (F := F)).nCore 3) => (PP m).st 3 d c) = bigSep Finset.univ fun w : Fin 32 => permGo d B0 B1 R0 R1 G2 (key1 m d) (val1 m d) (dig2 m d) w.val :=
  (tiles_eq (goW m d 3)).symm
theorem dn3_eq (d : Dev nD) : (bigSep Finset.univ fun c : Fin ((KC (F := F)).nCore 3) => (PP m).dn 3 d c) = bigSep Finset.univ fun w : Fin 32 => permTd d B0 B1 R0 R1 G2 (key1 m d) (val1 m d) (dig2 m d) w.val :=
  (tiles_eq (tdW m d 3)).symm

/-! ### The arrays, as @main names them and as the tiles do -/

omit [FloatOps F] [Facts] in
theorem loc_A0 (d : Dev nD) (f : S4194304.Idx → BitVec 32) : (((SparseCore.T d).loc main_arg0 ↦{fullShare} (f : Buf (Elt F) ((SparseCore.T d).loc main_arg0))) : sProp 𝕄) = hb d A0 fullShare Finset.univ f :=
  whole_pts d A0 (Memref.isWhole_whole _) f f fun _ => rfl
omit [FloatOps F] [Facts] in
theorem loc_A1 (d : Dev nD) (f : S4194304.Idx → BitVec 32) : (((SparseCore.T d).loc main_arg1 ↦{fullShare} (f : Buf (Elt F) ((SparseCore.T d).loc main_arg1))) : sProp 𝕄) = hb d A1 fullShare Finset.univ f :=
  whole_pts d A1 (Memref.isWhole_whole _) f f fun _ => rfl
omit [FloatOps F] [Facts] in
theorem loc_G1 (d : Dev nD) (f : S16x32x2048.Idx → BitVec 32) : (((SparseCore.T d).loc main_v0 ↦{fullShare} (f : Buf (Elt F) ((SparseCore.T d).loc main_v0))) : sProp 𝕄) = hb d G1 fullShare Finset.univ f :=
  whole_pts d G1 (Memref.isWhole_whole _) f f fun _ => rfl
omit [FloatOps F] [Facts] in
theorem loc_B0 (d : Dev nD) (f : S4194304.Idx → BitVec 32) : (((SparseCore.T d).loc main_v1_0 ↦{fullShare} (f : Buf (Elt F) ((SparseCore.T d).loc main_v1_0))) : sProp 𝕄) = hb d B0 fullShare Finset.univ f :=
  whole_pts d B0 (Memref.isWhole_whole _) f f fun _ => rfl
omit [FloatOps F] [Facts] in
theorem loc_B1 (d : Dev nD) (f : S4194304.Idx → BitVec 32) : (((SparseCore.T d).loc main_v1_1 ↦{fullShare} (f : Buf (Elt F) ((SparseCore.T d).loc main_v1_1))) : sProp 𝕄) = hb d B1 fullShare Finset.univ f :=
  whole_pts d B1 (Memref.isWhole_whole _) f f fun _ => rfl
omit [FloatOps F] [Facts] in
theorem loc_G2 (d : Dev nD) (f : S16x32x2048.Idx → BitVec 32) : (((SparseCore.T d).loc main_v2 ↦{fullShare} (f : Buf (Elt F) ((SparseCore.T d).loc main_v2))) : sProp 𝕄) = hb d G2 fullShare Finset.univ f :=
  whole_pts d G2 (Memref.isWhole_whole _) f f fun _ => rfl
omit [FloatOps F] [Facts] in
theorem loc_R0 (d : Dev nD) (f : S4194304.Idx → BitVec 32) : (((SparseCore.T d).loc main_v3_0 ↦{fullShare} (f : Buf (Elt F) ((SparseCore.T d).loc main_v3_0))) : sProp 𝕄) = hb d R0 fullShare Finset.univ f :=
  whole_pts d R0 (Memref.isWhole_whole _) f f fun _ => rfl
omit [FloatOps F] [Facts] in
theorem loc_R1 (d : Dev nD) (f : S4194304.Idx → BitVec 32) : (((SparseCore.T d).loc main_v3_1 ↦{fullShare} (f : Buf (Elt F) ((SparseCore.T d).loc main_v3_1))) : sProp 𝕄) = hb d R1 fullShare Finset.univ f :=
  whole_pts d R1 (Memref.isWhole_whole _) f f fun _ => rfl

omit [FloatOps F] [Facts] [∀ e, Nonempty (Elt F e)] in
theorem unscoped_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_v0 ↦{fullShare} W main_v0) ∗ ((SparseCore.T d).loc main_v1_0 ↦{fullShare} W main_v1_0) ∗ ((SparseCore.T d).loc main_v1_1 ↦{fullShare} W main_v1_1) ∗ ((SparseCore.T d).loc main_v2 ↦{fullShare} W main_v2) ∗ ((SparseCore.T d).loc main_v3_0 ↦{fullShare} W main_v3_0) ∗ ((SparseCore.T d).loc main_v3_1 ↦{fullShare} W main_v3_1)) := by
  unfold unscopedBufs
  rw [show (Finset.univ.filter fun b : Ref sig .tc => ¬ b.isScoped) = {main_arg0, main_arg1, main_v0, main_v1_0, main_v1_1, main_v2, main_v3_0, main_v3_1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ### The run's start -/

omit [∀ e, Nonempty (Elt F e)] [FloatOps F] [Facts] in
theorem emps {I : Type} (s : Finset I) : (bigSep s fun _ => iprop(emp)) = (iprop(emp) : sProp 𝕄) := bigSep_emp_const s

def u₀ : UU := (initOf (KC (F := F)).hsCells (KC (F := F)).hsToks, 1)

omit [∀ e, Nonempty (Elt F e)] [FloatOps F] in
theorem hu₀ (X : Fin 4 → Thread nD τ → sProp 𝕄) (hX : X = fun _ _ => iprop(emp)) : (ownU (u₀ (F := F)) : sProp 𝕄)
    ⊢ |={Set.univ}=> iprop(BI.own (EH F (initOf (KC (F := F)).hsCells (KC (F := F)).hsToks)) ∗ (bigSep Finset.univ fun _ : Dev nD => iprop(emp))
        ∗ bigSep Finset.univ fun thr : Thread nD τ => bigSep Finset.univ fun q : Fin 4 => X q thr) := by
  subst hX
  unfold u₀
  iintro Hu
  ihave H := (ownU_pair (initOf (KC (F := F)).hsCells (KC (F := F)).hsToks) (1 : Counters)) $$ Hu
  icases H with ⟨HH, -⟩
  imodintro
  isplitl [HH]; · iexact HH
  isplitr; · rw [emps]; iempintro
  rw [show (bigSep Finset.univ fun _ : Thread nD τ => bigSep Finset.univ fun _ : Fin 4 => (iprop(emp) : sProp 𝕄)) = iprop(emp) from
    (bigSep_congr fun _ _ => emps _).trans (emps _)]
  iempintro

/-! ### @main -/

/-- What @main leaves: the arguments as they were, the results sorted by both digits. -/
abbrev FIN (d : Dev nD) : sProp 𝕄 :=
  iprop(hb d A0 fullShare Finset.univ (key0 m d) ∗ hb d A1 fullShare Finset.univ (val0 m d) ∗ hb d R0 fullShare Finset.univ (key2 m d) ∗ hb d R1 fullShare Finset.univ (val2 m d))

/-- Some words, named. -/
theorem some_hb (d : Dev nD) {sp : Space} {sh : Shape} (a : Memref sig .scVector sp sh .i32) (g : sh.Idx → BitVec 32) :
    (hb d a fullShare Finset.univ g : sProp 𝕄) ⊢ iprop(∃ g, hb d a fullShare Finset.univ g) := by
  iintro H
  iexists g
  iexact H

theorem hmain (κ : GSem nD τ sig → ℕ) (d : Dev nD) :
    iprop((KC (F := F)).ctx (EH F) (PP m) κ ∗ (KC (F := F)).tcSt (EH F) d 0 ∗ (KC (F := F)).tcRes m ρ d ∗ emp)
      ⊢ wp frame (wpE ((KC (F := F)).defs (DD (F := F))) 𝒱 (SparseCore.T d) none) Set.univ (main d)
          fun _ => iprop((KC (F := F)).tcSt (EH F) d 4 ∗ FIN m d ∗ (KC (F := F)).tcEnd d) := by
  unfold SparseCore.Cfg.tcRes SparseCore.Cfg.tcEnd
  rw [unscoped_eq]
  simp only [main, wp_bind, wp_pure]
  iintro ⟨#Hctx, Hst, ⟨Hb, ⟨HA0, HA1, HG1, HB0, HB1, HG2, HR0, HR1⟩, Hts, -⟩, -⟩
  ihave HA0 := (Entails.of_eq (loc_A0 d _)) $$ HA0
  ihave HA1 := (Entails.of_eq (loc_A1 d _)) $$ HA1
  ihave HG1 := (Entails.of_eq (loc_G1 d _)) $$ HG1
  ihave HB0 := (Entails.of_eq (loc_B0 d _)) $$ HB0
  ihave HB1 := (Entails.of_eq (loc_B1 d _)) $$ HB1
  ihave HG2 := (Entails.of_eq (loc_G2 d _)) $$ HG2
  ihave HR0 := (Entails.of_eq (loc_R0 d _)) $$ HR0
  ihave HR1 := (Entails.of_eq (loc_R1 d _)) $$ HR1
  ihave HG1 := (some_hb d G1 _) $$ HG1
  ihave HB0 := (some_hb d B0 _) $$ HB0
  ihave HB1 := (some_hb d B1 _) $$ HB1
  ihave HG2 := (some_hb d G2 _) $$ HG2
  ihave HR0 := (some_hb d R0 _) $$ HR0
  ihave HR1 := (some_hb d R1 _) $$ HR1
  iapply ((KC (F := F)).wp_run (DD (F := F)) 𝒱 (EH := EH F) (P := PP m) κ d 0) $$ [Hst HA0 HG1 Hb Hts HA1 HB0 HB1 HG2 HR0 HR1]
  isplitr; · iexact Hctx
  isplitl [Hst]; · iexact Hst
  isplitl [HA0 HG1]
  · rw [st0_eq]
    iapply (hist_out d A0 G1 (key0 m d))
    isplitl [HA0]; · iexact HA0
    iexact HG1
  iintro ⟨Hst, H⟩
  ihave H := (Entails.of_eq (dn0_eq m d)) $$ H
  ihave H := (hist_in d A0 G1 (key0 m d) (dig1 m d)) $$ H
  icases H with ⟨HA0, HG1⟩
  iapply ((KC (F := F)).wp_run (DD (F := F)) 𝒱 (EH := EH F) (P := PP m) κ d 1) $$ [Hst HA0 HA1 HG1 HB0 HB1 Hb Hts HG2 HR0 HR1]
  isplitr; · iexact Hctx
  isplitl [Hst]; · iexact Hst
  isplitl [HA0 HA1 HG1 HB0 HB1]
  · rw [st1_eq]
    iapply (perm_out d A0 A1 B0 B1 G1 (key0 m d) (val0 m d) (dig1 m d))
    isplitl [HA0]; · iexact HA0
    isplitl [HA1]; · iexact HA1
    isplitl [HG1]; · iexact HG1
    isplitl [HB0]; · iexact HB0
    iexact HB1
  iintro ⟨Hst, H⟩
  ihave H := (Entails.of_eq (dn1_eq m d)) $$ H
  ihave H := (perm_in d A0 A1 B0 B1 G1 (key0 m d) (val0 m d) (dig1 m d) ) $$ H
  icases H with ⟨HA0, HA1, HG1, HB0, HB1⟩
  iapply ((KC (F := F)).wp_run (DD (F := F)) 𝒱 (EH := EH F) (P := PP m) κ d 2) $$ [Hst HB0 HG2 Hb Hts HA0 HA1 HG1 HB1 HR0 HR1]
  isplitr; · iexact Hctx
  isplitl [Hst]; · iexact Hst
  isplitl [HB0 HG2]
  · rw [st2_eq]
    iapply (hist_out d B0 G2 (key1 m d))
    isplitl [HB0]; · iexact HB0
    iexact HG2
  iintro ⟨Hst, H⟩
  ihave H := (Entails.of_eq (dn2_eq m d)) $$ H
  ihave H := (hist_in d B0 G2 (key1 m d) (dig2 m d)) $$ H
  icases H with ⟨HB0, HG2⟩
  iapply ((KC (F := F)).wp_run (DD (F := F)) 𝒱 (EH := EH F) (P := PP m) κ d 3) $$ [Hst HB0 HB1 HG2 HR0 HR1 Hb Hts HA0 HA1 HG1]
  isplitr; · iexact Hctx
  isplitl [Hst]; · iexact Hst
  isplitl [HB0 HB1 HG2 HR0 HR1]
  · rw [st3_eq]
    iapply (perm_out d B0 B1 R0 R1 G2 (key1 m d) (val1 m d) (dig2 m d))
    isplitl [HB0]; · iexact HB0
    isplitl [HB1]; · iexact HB1
    isplitl [HG2]; · iexact HG2
    isplitl [HR0]; · iexact HR0
    iexact HR1
  iintro ⟨Hst, H⟩
  ihave H := (Entails.of_eq (dn3_eq m d)) $$ H
  ihave H := (perm_in d B0 B1 R0 R1 G2 (key1 m d) (val1 m d) (dig2 m d) ) $$ H
  icases H with ⟨HB0, HB1, HG2, HR0, HR1⟩
  imodintro
  isplitl [Hst]; · iexact Hst
  isplitr [Hb Hts]
  · isplitl [HA0]; · iexact HA0
    isplitl [HA1]; · iexact HA1
    isplitl [HR0]; · iexact HR0
    iexact HR1
  isplitl [Hb] <;> iassumption

/-- What the end of the run is about: the arguments and the results. -/
def fq (d : Dev nD) (s' : Phys nD τ sig (Elt F)) : Prop :=
  s'.mem.mem ((SparseCore.T d).loc main_arg0) = key0 m d ∧ s'.mem.mem ((SparseCore.T d).loc main_arg1) = val0 m d
    ∧ s'.mem.mem ((SparseCore.T d).loc main_v3_0) = key2 m d ∧ s'.mem.mem ((SparseCore.T d).loc main_v3_1) = val2 m d

omit [FloatOps F] [Facts] [∀ e, Nonempty (Elt F e)] in
/-- What is held of an array is what memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3⟩, HSI⟩
  ihave H0 := (Entails.of_eq (loc_A0 d _).symm) $$ H0
  ihave H1 := (Entails.of_eq (loc_A1 d _).symm) $$ H1
  ihave H2 := (Entails.of_eq (loc_R0 d _).symm) $$ H2
  ihave H3 := (Entails.of_eq (loc_R1 d _).symm) $$ H3
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, HSI⟩
  iclear HSI
  ipureintro; exact ⟨h0, h1, h2, h3⟩

/-! ### The run -/

/-- The end of a run: on every device the arguments are as they were and the results are the keys and the values after
    both passes; every semaphore is zero. -/
def QC : PUnit × MemSt nD τ sig (Elt F) → Prop := fun r => (∀ d : Dev nD,
  r.2.mem ((SparseCore.T d).loc main_arg0) = key0 m d ∧ r.2.mem ((SparseCore.T d).loc main_arg1) = val0 m d
    ∧ r.2.mem ((SparseCore.T d).loc main_v3_0) = key2 m d ∧ r.2.mem ((SparseCore.T d).loc main_v3_1) = val2 m d) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := KC (F := F)) (D := DD (F := F)) (𝒱 := 𝒱) (EH := EH F) (P := PP m) (A := ∅) kfacts v₀
    (fun q hq => match q with | 0 => nomatch hq | 1 => nomatch hq | 2 => nomatch hq | 3 => nomatch hq)
    (fun q _ => match q with | 0 => tileObl0 m | 1 => tileObl1 m | 2 => tileObl2 m | 3 => tileObl3 m)
    (fun q _ => SparseCore.Cfg.VecSplit.of_plain (vecSplit m q))
    m ρ main (fun _ => iprop(emp)) (FIN m) (u₀ (F := F)) (sep_elim_left.trans (hu₀ _ rfl)) (hmain m ρ) (fq m) (hfin m) (QC m) (fun _ h hz => ⟨h, hz⟩)

end Main

end Cert.Radix

end
-- ==== Proof.Order.lean ====
module

public import proofs.«01_k».proof.Proof.Count
public import Idealize.ShloMosaic.Lib.SortFacts

/-! Two counting passes, by the low digit and then by the high one, are one stable sort; and so is a sort's table. -/

@[expose] public section

namespace Cert.Radix

open Idealize.ShloMosaic

/-- A map of the numbers below `n` into themselves that keeps their order is the identity. -/
theorem mono_id {n : ℕ} (φ : ℕ → ℕ) (hlt : ∀ p < n, φ p < n) (hm : ∀ p q, p < q → q < n → φ p < φ q) : ∀ p < n, φ p = p := by
  have h1 : ∀ p, p < n → p ≤ φ p := by
    intro p
    induction p with
    | zero => intro _; exact Nat.zero_le _
    | succ p ih =>
      intro h
      have := ih (by omega)
      have := hm p (p + 1) (Nat.lt_succ_self p) h
      omega
  have h2 : ∀ k, ∀ p, p + k + 1 = n → φ p + k + 1 ≤ n := by
    intro k
    induction k with
    | zero => intro p h; have := hlt p (by omega); omega
    | succ k ih =>
      intro p h
      have := ih (p + 1) (by omega)
      have := hm p (p + 1) (Nat.lt_succ_self p) (by omega)
      omega
  intro p h
  have := h1 p h
  have := h2 (n - 1 - p) p (by omega)
  omega

/-- Sorting by the low digit and then, stably, by the high digit sorts by the two together. -/
theorem pos_two (κ lo f2 : ℕ → ℕ) (n B : ℕ) (hlo : ∀ i < n, lo i = κ i % B) (h2 : ∀ p < n, f2 p = κ (unpos lo n p) / B) :
    ∀ p < n, unpos lo n (unpos f2 n p) = unpos κ n p := by
  intro p hp
  have hv : ∀ i < n, f2 (pos lo n i) = κ i / B := fun i hi => by rw [h2 _ (pos_lt hi), unpos_pos hi]
  have key : ∀ i j, i < n → j < n → (κ i < κ j ∨ (κ i = κ j ∧ i < j)) → pos f2 n (pos lo n i) < pos f2 n (pos lo n j) := by
    intro i j hi hj h
    refine (pos_lt_iff (pos_lt hi) (pos_lt hj)).mpr ?_
    rw [hv i hi, hv j hj, pos_lt_iff hi hj, hlo i hi, hlo j hj]
    have hi' := Nat.div_add_mod (κ i) B
    have hj' := Nat.div_add_mod (κ j) B
    rcases h with h | ⟨h, h'⟩
    · have hle : κ i / B ≤ κ j / B := Nat.div_le_div_right h.le
      rcases Nat.lt_or_ge (κ i / B) (κ j / B) with hlt | hge
      · exact Or.inl hlt
      · have he : κ i / B = κ j / B := le_antisymm hle hge
        rw [he] at hi'
        exact Or.inr ⟨he, Or.inl (by omega)⟩
    · rw [h]
      exact Or.inr ⟨rfl, Or.inr ⟨rfl, h'⟩⟩
  have hid := mono_id (n := n) (fun p => pos f2 n (pos lo n (unpos κ n p))) (fun p hp => pos_lt (pos_lt (unpos_lt hp)))
    (fun p q hpq hq => key _ _ (unpos_lt (hpq.trans hq)) (unpos_lt hq)
      ((pos_lt_iff (unpos_lt (hpq.trans hq)) (unpos_lt hq)).mp (by rw [pos_unpos (hpq.trans hq), pos_unpos hq]; exact hpq))) p hp
  have e : unpos f2 n p = pos lo n (unpos κ n p) := by
    have := congrArg (unpos f2 n) hid
    rw [← this]
    exact unpos_pos (pos_lt (unpos_lt hp))
  rw [e, unpos_pos (unpos_lt hp)]

/-- Inserting a first index into indices in order keeps them in order. -/
theorem insert_ordered {n : ℕ} (κ : Fin n → ℕ) (a : Fin n) (l : List (Fin n)) (ha : ∀ b ∈ l, a < b)
    (hl : l.Pairwise fun b c => κ b < κ c ∨ (κ b = κ c ∧ b < c)) :
    (insertBefore (fun k k' => decide (κ k < κ k')) a l).Pairwise fun b c => κ b < κ c ∨ (κ b = κ c ∧ b < c) := by
  induction l with
  | nil => exact List.pairwise_singleton _ _
  | cons b l ih =>
    rw [List.pairwise_cons] at hl
    have hab : a < b := ha b List.mem_cons_self
    unfold insertBefore
    split
    · rename_i h
      have h' : κ b < κ a := of_decide_eq_true h
      refine List.pairwise_cons.mpr ⟨fun c hc => ?_, ih (fun c hc => ha c (List.mem_cons_of_mem b hc)) hl.2⟩
      rcases List.mem_cons.mp ((perm_insertBefore _ a l).mem_iff.mp hc) with rfl | hc'
      · exact Or.inl h'
      · exact hl.1 c hc'
    · rename_i h
      have h' : ¬ κ b < κ a := fun e => h (decide_eq_true e)
      have hb : κ a < κ b ∨ (κ a = κ b ∧ a < b) := by
        rcases Nat.lt_or_ge (κ a) (κ b) with hlt | hge
        · exact Or.inl hlt
        · exact Or.inr ⟨by omega, hab⟩
      refine List.pairwise_cons.mpr ⟨fun c hc => ?_, List.pairwise_cons.mpr hl⟩
      rcases List.mem_cons.mp hc with rfl | hc'
      · exact hb
      · have hc2 := hl.1 c hc'
        rcases hb with hb | ⟨hb, hb'⟩ <;> rcases hc2 with h2 | ⟨h2, h2'⟩
        · exact Or.inl (hb.trans h2)
        · exact Or.inl (by omega)
        · exact Or.inl (by omega)
        · exact Or.inr ⟨hb.trans h2, hb'.trans h2'⟩

/-- A stable sort of indices in order leaves them in order of their keys, ties by index. -/
theorem sort_ordered {n : ℕ} (κ : Fin n → ℕ) (l : List (Fin n)) (hl : l.Pairwise (· < ·)) :
    (stableSort (fun k k' => decide (κ k < κ k')) l).Pairwise fun b c => κ b < κ c ∨ (κ b = κ c ∧ b < c) := by
  induction l with
  | nil => exact List.Pairwise.nil
  | cons a l ih =>
    rw [List.pairwise_cons] at hl
    unfold stableSort
    exact insert_ordered κ a _ (fun b hb => hl.1 b ((perm_stableSort _ l).mem_iff.mp hb)) (ih hl.2)

/-- What a stable sort puts at place `p` is the index whose count of indices before it is `p`. -/
theorem sortedFrom_eq {n : ℕ} (κ : ℕ → ℕ) (before : Fin n → Fin n → Bool) (hb : ∀ k k', before k k' = decide (κ k.val < κ k'.val)) (p : Fin n) :
    (sortedFrom before p).val = unpos κ n p.val := by
  obtain rfl : before = fun k k' => decide (κ k.val < κ k'.val) := funext fun k => funext fun k' => hb k k'
  set R : Fin n → Fin n → Bool := fun k k' => decide (κ k.val < κ k'.val) with hR
  have hp := List.pairwise_iff_get.mp (sort_ordered (fun k : Fin n => κ k.val) (List.finRange n) (List.pairwise_lt_finRange n))
  have hm : ∀ a b : Fin n, a < b → pos κ n (sortedFrom R a).val < pos κ n (sortedFrom R b).val := by
    intro a b hab
    refine pos_lt_pos (sortedFrom R a).isLt ?_
    exact hp (a.cast (length_sortPositions n R).symm) (b.cast (length_sortPositions n R).symm) hab
  have hid := mono_id (n := n) (fun q => if h : q < n then pos κ n (sortedFrom R ⟨q, h⟩).val else 0)
    (fun q hq => by rw [dif_pos hq]; exact pos_lt (sortedFrom R ⟨q, hq⟩).isLt)
    (fun q r hqr hr => by rw [dif_pos (hqr.trans hr), dif_pos hr]; exact hm _ _ hqr) p.val p.isLt
  rw [dif_pos p.isLt] at hid
  rw [← congrArg (unpos κ n) hid, unpos_pos (sortedFrom R ⟨p.val, p.isLt⟩).isLt]

end Cert.Radix

end
-- ==== Proof.Sorted.lean ====
module

public import proofs.«01_k».proof.Proof.Places
public import proofs.«01_k».proof.Proof.Order

/-! The kernel's two passes compose to one stable sort of the keys. -/

@[expose] public section

noncomputable section

namespace Cert.Radix

open Idealize.ShloMosaic
open Cert.KernelIdeal

/-- The low digit is the key modulo the table's length. -/
theorem dig_low (k : BitVec 32) : dig 0#32 k = k.toNat % 32768 := by
  unfold dig IntOp.andi IntOp.shrui
  rw [if_pos (by decide), BitVec.toNat_and, BitVec.ushiftRight_eq', BitVec.toNat_ushiftRight]
  show (k.toNat >>> 0) &&& (2 ^ 15 - 1) = _
  rw [Nat.and_two_pow_sub_one_eq_mod, Nat.shiftRight_zero]

/-- The high digit of a key below the square of the table's length is the quotient. -/
theorem dig_high (k : BitVec 32) (h : k.toNat < 2 ^ 30) : dig 15#32 k = k.toNat / 32768 := by
  unfold dig IntOp.andi IntOp.shrui
  rw [if_pos (by decide), BitVec.toNat_and, BitVec.ushiftRight_eq', BitVec.toNat_ushiftRight]
  show (k.toNat >>> 15) &&& (2 ^ 15 - 1) = _
  rw [Nat.and_two_pow_sub_one_eq_mod, Nat.shiftRight_eq_div_pow]
  omega

/-- The keys as numbers, by index. -/
def kap (K : S4194304.Idx → BitVec 32) (i : ℕ) : ℕ := (K (ixm i)).toNat

/-- An array read in the order of the keys: place `p` reads the index with `p` indices before it, smaller keys first and equal keys by index. -/
def sortd (K W : S4194304.Idx → BitVec 32) : S4194304.Idx → BitVec 32 := fun x => W (ixm (unpos (kap K) NK (x 0).val))

/-- Permuting by the low digits and then by the permuted keys' high digits is reading in the order of the keys. -/
theorem two_passes (K : S4194304.Idx → BitVec 32) (hK : ∀ i, (K i).toNat < 2 ^ 30) (W : S4194304.Idx → BitVec 32) :
    permv (dgt 15#32 (permv (dgt 0#32 K) K)) (permv (dgt 0#32 K) W) = sortd K W := by
  have hNK : NK = 4194304 := rfl
  have h2 : ∀ p < NK, dgt 15#32 (permv (dgt 0#32 K) K) p = kap K (unpos (dgt 0#32 K) NK p) / 32768 := by
    intro p hp
    show dig 15#32 (K (ixm (unpos (dgt 0#32 K) NK (ixm p 0).val))) = _
    rw [ixm_val (by omega), dig_high _ (hK _)]
    rfl
  funext x
  have hx : (x 0).val < NK := (x 0).isLt
  have hlt : unpos (dgt 15#32 (permv (dgt 0#32 K) K)) NK (x 0).val < 4194304 := unpos_lt hx
  show W (ixm (unpos (dgt 0#32 K) NK (ixm (unpos (dgt 15#32 (permv (dgt 0#32 K) K)) NK (x 0).val) 0).val)) = _
  rw [ixm_val hlt, pos_two (kap K) (dgt 0#32 K) _ NK 32768 (fun i _ => dig_low _) h2 _ hx]
  rfl

theorem ixm_ofFin (p : Fin 4194304) : ixm p.val = Shape.Idx.ofFin p := idx1_ext (ixm_val p.isLt)

theorem kap_ofFin (K : S4194304.Idx → BitVec 32) (p : Fin 4194304) : kap K p.val = (K (Shape.Idx.ofFin p)).toNat :=
  congrArg (fun i => (K i).toNat) (ixm_ofFin p)

/-- An array agreeing place by place with that reading is it. -/
theorem sortd_of {X K W : S4194304.Idx → BitVec 32} (u : ℕ → ℕ) (he : unpos (kap K) NK = u) (hu : ∀ p < 4194304, u p < 4194304)
    (h : ∀ p : Fin 4194304, X (Shape.Idx.ofFin p) = W (Shape.Idx.ofFin ⟨u p.val, hu _ p.isLt⟩)) : X = sortd K W := by
  funext j
  obtain ⟨p, rfl⟩ : ∃ p : Fin 4194304, j = Shape.Idx.ofFin p := ⟨j 0, Shape.Idx.eq_ofFin j⟩
  show X (Shape.Idx.ofFin p) = W (ixm (unpos (kap K) NK p.val))
  rw [he, h p]
  exact congrArg W (ixm_ofFin ⟨u p.val, hu _ p.isLt⟩).symm

end Cert.Radix

end

end
-- ==== Proof.End.lean ====
module

public import proofs.«01_k».proof.Proof.Main
public import proofs.«01_k».proof.Proof.Sorted
public import proofs.«01_k».proof.Proof.Gen.Pre_in_range
public import Idealize.ShloMosaic.Lib.ReduceAll
public import Idealize.ShloMosaic.Lib.StableHlo.Predicate

/-! What the kernel's results are, from keys in the drawn range. -/

@[expose] public section

noncomputable section

namespace Cert.Radix

open Idealize.ShloMosaic Idealize.SL.Sem
open Cert.KernelIdeal

/-- The precondition, read: every key is below a thousand million. -/
theorem key_lt {F : FTy → Type} [FloatOps F] (K V : S4194304.Idx → BitVec 32) (h : Cert.Pre_in_range.fn (F := F) K V = fun _ => 1#1) (i : S4194304.Idx) :
    (K i).toNat < 1000000000 := by
  have hs : Subsingleton Cert.Pre_in_range.S_.Idx := ⟨fun a b => funext fun x => x.elim0⟩
  have h0 := congrFun h (fun x => x.elim0)
  obtain ⟨h1, h2⟩ := IntOp.andi_eq_one.1 h0
  have e1 : IntOp.cmpi .sge (K i) 0#32 = 1#1 := Host.reduce_andi_all _ _ _ _ _ h1 i
  have e2 : IntOp.cmpi .slt (K i) 1000000000#32 = 1#1 := Host.reduce_andi_all _ _ _ _ _ h2 i
  generalize K i = k at e1 e2
  simp only [IntOp.cmpi, StableHlo.Predicate.ofBool_eq_one_iff, BitVec.sle_eq_decide, BitVec.slt_eq_decide, decide_eq_true_eq, BitVec.toInt_eq_toNat_cond, BitVec.toNat_ofNat,
    Nat.reducePow, Nat.reduceMod] at e1 e2
  have := k.isLt
  split at e1 <;> split at e2 <;> omega

variable {F : FTy → Type} [FloatOps F] [∀ e, Nonempty (Elt F e)]

/-- From keys below the square of the table's length, the results are the keys and the values in the order of the keys. -/
theorem run_sorted [Cert.KernelIdeal.Facts] (m : (ℓ : Loc nD τ sig) → Buf (Elt F) ℓ) (ρ : Dev nD → PrngReg)
    (hm : ∀ (d : Dev nD) (i : S4194304.Idx), (key0 m d i).toNat < 2 ^ 30) :
    θ_run (Cert.KernelIdeal.defs (F := F)) (Cert.KernelIdeal.threads (F := F)) ⟨m, fun _ => 0, ρ⟩ fun r => ∀ c : Dev nD,
      r.2.mem ((c.tc : Thread nD τ).loc main_v3_0) = sortd (key0 m c) (key0 m c)
      ∧ r.2.mem ((c.tc : Thread nD τ).loc main_v3_1) = sortd (key0 m c) (val0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.KernelIdeal.defs _ _).mono (fun _ h c =>
    ⟨(h.1 c).2.2.1.trans (two_passes _ (hm c) _), (h.1 c).2.2.2.trans (two_passes _ (hm c) _), (h.1 c).1, (h.1 c).2.1⟩) (run_main m ρ)

/-- Every run ends, its arguments unchanged, every counter at zero. -/
theorem run_frame [Cert.KernelIdeal.Facts] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run Cert.KernelIdeal.defs _ _).mono (fun _ h => ⟨fun c => ⟨(h.1 c).1, (h.1 c).2.1⟩, h.2⟩) (run_main m ρ)

end Cert.Radix

end
-- ==== Proof.RefValue.lean ====
module

public import proofs.«01_k».proof.Proof.Order
public import Idealize.ShloMosaic.Lib.StableHlo.Predicate
public import Idealize.ShloMosaic.Lib.ReduceAll

/-! What the reference computes: an array read in the order of a stable sort of the keys. -/

@[expose] public section

namespace Cert.Radix

open Idealize.ShloMosaic
open Idealize.ShloMosaic.StableHlo.Predicate (gather_take bcast_col1 ixP slt_iff_toNat sle_iff_toNat sge_iff_toNat toInt_eq_toNat_of_lt)

/-- The positions' row of a stable sort of the keys: place `p` gets the word of the index whose count of indices before it is `p`. -/
theorem order_at {n : ℕ} (cmp : BitVec 32 × BitVec 32 → BitVec 32 × BitVec 32 → BitVec 1) (hcmp : ∀ l r, cmp l r = IntOp.cmpi .slt l.1 r.1)
    (x : (⟨1, ![n]⟩ : Shape).Idx → BitVec 32) (hx : ∀ i, (x i).toNat < 2 ^ 31) (κ : ℕ → ℕ) (hκ : ∀ j : Fin n, κ j.val = (x (Shape.Idx.ofFin j)).toNat) (p : Fin n) :
    (Host.sort2 ⟨1, ![n]⟩ 0 cmp x (iotaInDim ⟨1, ![n]⟩ 32 0)).2 (Shape.Idx.ofFin p) = BitVec.ofNat 32 (unpos κ n p.val) := by
  have hd : 0 < (⟨1, ![n]⟩ : Shape).rank := Nat.one_pos
  have e : ∀ (j : (⟨1, ![n]⟩ : Shape).Idx) (k : Fin n), j.along (⟨0, hd⟩ : Fin 1) k = Shape.Idx.ofFin k := fun j k => Shape.Idx.along_rank1 j k
  have hs := sortedFrom_eq κ (fun k k' : Fin n =>
      cmp (x ((Shape.Idx.ofFin p).along ⟨0, hd⟩ k), iotaInDim ⟨1, ![n]⟩ 32 0 ((Shape.Idx.ofFin p).along ⟨0, hd⟩ k))
        (x ((Shape.Idx.ofFin p).along ⟨0, hd⟩ k'), iotaInDim ⟨1, ![n]⟩ 32 0 ((Shape.Idx.ofFin p).along ⟨0, hd⟩ k')) == 1#1)
    (fun k k' => by
      rw [hcmp, hκ, hκ, e, e]
      refine Bool.eq_iff_iff.mpr ?_
      rw [beq_iff_eq, decide_eq_true_eq]
      exact slt_iff_toNat (hx _) (hx _)) p
  unfold Host.sort2
  rw [dif_pos hd, ← hs]
  exact congrArg (iotaInDim ⟨1, ![n]⟩ 32 0) (e _ _)

/-- An array taken at those positions, each first wrapped when negative and the result masked when out of range: the array in the sorted order. -/
theorem take_order {n : ℕ} (hn : n < 2 ^ 31) (h1 h1' : (⟨0, ![]⟩ : Shape).BroadcastsInDim ⟨1, ![n]⟩ ![])
    (h2 : (⟨1, ![n]⟩ : Shape).BroadcastsInDim ⟨2, ![n, 1]⟩ ![0]) (h3 : (⟨0, ![]⟩ : Shape).BroadcastsInDim ⟨2, ![n, 1]⟩ ![])
    (h4 : (⟨2, ![1, 1]⟩ : Shape).BroadcastsInDim ⟨2, ![n, 1]⟩ ![0, 1]) (h5 : (⟨1, ![1]⟩ : Shape).BroadcastsInDim ⟨2, ![1, 1]⟩ ![1])
    (h6 : (⟨2, ![n, 1]⟩ : Shape).ReducesTo [1] ⟨1, ![n]⟩) (h7 : 0 < (⟨0, ![]⟩ : Shape).numel)
    (d : GatherDims ⟨1, ![n]⟩ ⟨2, ![n, 1]⟩ ⟨1, ![n]⟩) (hcoll : d.collapsedSliceDims = [0]) (hob : d.operandBatchingDims = [])
    (hsim : d.startIndexMap = [0]) (hivd : d.indexVectorDim = 1) (c1 c2 c3 : BitVec 32) (hc2 : c2.toNat = n - 1)
    (ord y : (⟨1, ![n]⟩ : Shape).Idx → BitVec 32) (u : ℕ → ℕ) (hu : ∀ p < n, u p < n) (ho : ∀ p : Fin n, ord (Shape.Idx.ofFin p) = BitVec.ofNat 32 (u p.val)) (p : Fin n) :
    select (Host.reduce IntOp.andi
        (andi (cmpi .sge (broadcastInDim ⟨2, ![n, 1]⟩ ![0] h2 (select (cmpi .slt ord (broadcastInDim ⟨1, ![n]⟩ ![] h1 (constantI ⟨0, ![]⟩ 32 0#32)))
              (addi ord (broadcastInDim ⟨1, ![n]⟩ ![] h1' (constantI ⟨0, ![]⟩ 32 c1))) ord))
            (broadcastInDim ⟨2, ![n, 1]⟩ ![] h3 (constantI ⟨0, ![]⟩ 32 0#32)))
          (cmpi .sle (broadcastInDim ⟨2, ![n, 1]⟩ ![0] h2 (select (cmpi .slt ord (broadcastInDim ⟨1, ![n]⟩ ![] h1 (constantI ⟨0, ![]⟩ 32 0#32)))
              (addi ord (broadcastInDim ⟨1, ![n]⟩ ![] h1' (constantI ⟨0, ![]⟩ 32 c1))) ord))
            (broadcastInDim ⟨2, ![n, 1]⟩ ![0, 1] h4 (broadcastInDim ⟨2, ![1, 1]⟩ ![1] h5 (constantI ⟨1, ![1]⟩ 32 c2)))))
        (constantI ⟨0, ![]⟩ 1 1#1) h6 h7)
      (Host.gather d y (broadcastInDim ⟨2, ![n, 1]⟩ ![0] h2 (select (cmpi .slt ord (broadcastInDim ⟨1, ![n]⟩ ![] h1 (constantI ⟨0, ![]⟩ 32 0#32)))
              (addi ord (broadcastInDim ⟨1, ![n]⟩ ![] h1' (constantI ⟨0, ![]⟩ 32 c1))) ord)))
      (broadcastInDim ⟨1, ![n]⟩ ![] h1 (constantI ⟨0, ![]⟩ 32 c3)) (Shape.Idx.ofFin p)
    = y (Shape.Idx.ofFin ⟨u p.val, hu _ p.isLt⟩) := by
  have hnat : ∀ q : Fin n, (BitVec.ofNat 32 (u q.val)).toNat = u q.val := fun q => by
    rw [BitVec.toNat_ofNat]; have := hu _ q.isLt; exact Nat.mod_eq_of_lt (by omega)
  have hlt : ∀ q : Fin n, (BitVec.ofNat 32 (u q.val)).toNat < 2 ^ 31 := fun q => by rw [hnat]; have := hu _ q.isLt; omega
  -- the wrap is idle
  have hv4 : select (cmpi .slt ord (broadcastInDim ⟨1, ![n]⟩ ![] h1 (constantI ⟨0, ![]⟩ 32 0#32)))
      (addi ord (broadcastInDim ⟨1, ![n]⟩ ![] h1' (constantI ⟨0, ![]⟩ 32 c1))) ord = ord := by
    funext j
    obtain ⟨q, rfl⟩ : ∃ q : Fin n, j = Shape.Idx.ofFin q := ⟨j 0, Shape.Idx.eq_ofFin j⟩
    show (if IntOp.cmpi .slt (ord (Shape.Idx.ofFin q)) 0#32 = 1 then _ else _) = _
    rw [if_neg]
    intro h
    have h' := (slt_iff_toNat (by rw [ho]; exact hlt q) (by decide)).mp h
    exact absurd h' (Nat.not_lt_zero _)
  rw [hv4]
  have hv5 : ∀ i, ∃ q : Fin n, broadcastInDim ⟨2, ![n, 1]⟩ ![0] h2 ord i = BitVec.ofNat 32 (u q.val) := by
    intro i
    refine ⟨i 0, ?_⟩
    have e : i = ixP (i 0 : Fin n) := by
      funext b
      match b with
      | ⟨0, _⟩ => rfl
      | ⟨1, _⟩ => exact Subsingleton.elim (α := Fin 1) _ _
    rw [e]
    exact (bcast_col1 h2 ord (i 0)).trans (ho (i 0))
  show (if Host.reduce IntOp.andi _ _ h6 h7 (Shape.Idx.ofFin p) = 1 then _ else _) = _
  rw [if_pos]
  · rw [gather_take d hcoll hob hsim hivd y _ p (by have := p.isLt; omega)]
    refine congrArg (fun q : Fin n => y (Shape.Idx.ofFin q)) (Fin.ext ?_)
    show min (broadcastInDim ⟨2, ![n, 1]⟩ ![0] h2 ord (ixP p)).toInt.toNat (n - 1) = u p.val
    rw [bcast_col1, ho, toInt_eq_toNat_of_lt (hlt p), hnat, Int.toNat_natCast]
    have := hu _ p.isLt
    omega
  · refine Host.reduce_andi_one _ _ h6 h7 _ rfl fun i => ?_
    obtain ⟨q, hq⟩ := hv5 i
    show IntOp.andi (IntOp.cmpi .sge (broadcastInDim ⟨2, ![n, 1]⟩ ![0] h2 ord i) 0#32) (IntOp.cmpi .sle (broadcastInDim ⟨2, ![n, 1]⟩ ![0] h2 ord i) c2) = 1#1
    rw [hq, (sge_iff_toNat (hlt q) (by decide)).mpr (Nat.zero_le _), (sle_iff_toNat (hlt q) (by rw [hc2]; omega)).mpr (by rw [hnat, hc2]; have := hu _ q.isLt; omega)]
    rfl

end Cert.Radix

end
-- ==== Proof.RefIdealRun.lean ====
module

public import proofs.«01_k».proof.Proof.Sorted
public import proofs.«01_k».proof.Proof.RefValue
public import proofs.«01_k».proof.Proof.Gen.ReferenceIdeal.Run
public import Idealize.ShloMosaic.Lib.Quiescent

/-! The run of `ReferenceIdeal`: it ends with the arguments read in the order of the keys, and every counter at zero. -/

@[expose] public section

namespace Cert.ReferenceIdeal.Radix

open Cert.ReferenceIdeal Cert.ReferenceIdeal.Gen Idealize.ShloMosaic Idealize.SL.Sem
open Cert.Radix

variable {F : FTy → Type} [FloatOps F]

theorem lt_words : 4194304 < 2 ^ 31 := by decide

theorem last_word : (4194303#32 : BitVec 32).toNat = 4194304 - 1 := by decide

/-- The row of the sort's positions: place `p` gets the word of the index with `p` indices before it. -/
theorem order_row (K : S4194304.Idx → BitVec 32) (hK : ∀ i, (K i).toNat < 2 ^ 31) (p : Fin 4194304) :
    (Host.sort2 S4194304 0 comparator_i32_i32_d0 K (iotaInDim S4194304 32 0)).2 (Shape.Idx.ofFin p) = BitVec.ofNat 32 (unpos (kap K) NK p.val) :=
  order_at comparator_i32_i32_d0 (fun _ _ => rfl) K hK (kap K) (kap_ofFin K) p

/-- The positions as the program's take reads them, a column, each wrapped when negative. -/
abbrev col (o : IVec S4194304 32) : IVec S4194304x1 32 :=
  broadcastInDim S4194304x1 ![0] bcast_S4194304_S4194304x1_0 (select (cmpi .slt o (broadcastInDim S4194304 ![] bcast_S_S4194304 (constantI S_ 32 0#32))) (addi o (broadcastInDim S4194304 ![] bcast_S_S4194304 (constantI S_ 32 4194304#32))) o)

/-- The program's take of an array at a row of positions. -/
abbrev taken (o W : IVec S4194304 32) : IVec S4194304 32 :=
  select (Host.reduce IntOp.andi (andi (cmpi .sge (col o) (broadcastInDim S4194304x1 ![] bcast_S_S4194304x1 (constantI S_ 32 0#32))) (cmpi .sle (col o) (broadcastInDim S4194304x1 ![0, 1] bcast_S1x1_S4194304x1_0_1 (broadcastInDim S1x1 ![1] bcast_S1_S1x1_1 (constantI S1 32 4194303#32))))) (constantI S_ 1 1#1) reducesTo_S4194304x1_S4194304_d1 h_S_) (Host.gather gather_S4194304_S4194304x1_S4194304_n_0_n_n_0_1_1 W (col o)) (broadcastInDim S4194304 ![] bcast_S_S4194304 (constantI S_ 32 2147483648#32))

/-- Taking an array at those positions reads it in the order of the keys. -/
theorem taken_at (K W : S4194304.Idx → BitVec 32) (o : IVec S4194304 32) (ho : ∀ p : Fin 4194304, o (Shape.Idx.ofFin p) = BitVec.ofNat 32 (unpos (kap K) NK p.val)) :
    taken o W = sortd K W := by
  have hu : ∀ p < 4194304, unpos (kap K) NK p < 4194304 := fun _ h => unpos_lt h
  generalize he : unpos (kap K) NK = u at ho hu
  exact sortd_of u he hu fun p => take_order lt_words _ _ _ _ _ _ _ _ _ rfl rfl rfl rfl _ _ _ last_word o W u hu ho p

/-- From keys that are not negative, the results are the keys and the values in the order of the keys. -/
theorem run_sorted (m : (ℓ : Loc nD τ sig) → Buf (Elt F) ℓ) (ρ : Dev nD → PrngReg)
    (hm : ∀ (c : Dev nD) (i : S4194304.Idx), (show BitVec 32 from m ((c.tc : Thread nD τ).loc main_arg0) i).toNat < 2 ^ 31) :
    θ_run defs (onTc (τ := τ) (main (F := F))) ⟨m, fun _ => 0, ρ⟩ fun r => ∀ c : Dev nD,
      r.2.mem ((c.tc : Thread nD τ).loc main_v1) = sortd (m ((c.tc : Thread nD τ).loc main_arg0)) (m ((c.tc : Thread nD τ).loc main_arg0))
      ∧ r.2.mem ((c.tc : Thread nD τ).loc main_v2) = sortd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (taken_at _ _ _ (order_row _ (hm c))), (h c).2.1.trans (taken_at _ _ _ (order_row _ (hm c))), (h c).2.2⟩) (Value.run m ρ)

/-- It ends, its arguments unchanged, every counter at zero. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, sem_eq_zero_of_no_sems (by decide) r.2⟩) (Value.run m ρ)

end Cert.ReferenceIdeal.Radix

end
-- ==== Proof.Claims.lean ====
module

public import proofs.«01_k».proof.Defs
public import proofs.«01_k».proof.Proof.End
public import proofs.«01_k».proof.Proof.RefRun
public import proofs.«01_k».proof.Proof.RefIdealRun
public import proofs.«01_k».proof.Proof.Gen.KernelIdeal

/-! The claims, from the runs. -/

@[expose] public section

noncomputable section

namespace Cert.Proof

open Idealize.ShloMosaic Idealize.SL.Sem
open Cert.Radix (sortd key_lt)

/-- The kernel ends from any memory, its arguments unchanged, every counter at zero. -/
theorem frame_kernel [Cert.Kernel.Facts] : Cert.quiescent_Kernel := fun m ρ _ =>
  Cert.Radix.run_frame (F := Bits) m ρ

/-- So does its idealization. -/
theorem frame_ideal : Cert.quiescent_KernelIdeal := fun m ρ _ => Cert.Radix.run_frame (F := Ideal) m ρ

/-- From keys in the drawn range the idealization's results are the reference's: the keys and the values in the order of the keys. -/
theorem algebraic : Cert.algebraic_KernelIdeal_ReferenceIdeal_pre_in_range := by
  intro m g m' g' hP hA
  have hk : ∀ (c : Dev Cert.KernelIdeal.nD) (i : Cert.KernelIdeal.S4194304.Idx), (Cert.Radix.key0 m c i).toNat < 1000000000 := fun c i => key_lt (F := Ideal) _ _ (hP c) i
  refine ⟨fun c => sortd (Cert.Radix.key0 m c) (Cert.Radix.key0 m c), fun c => sortd (Cert.Radix.key0 m c) (Cert.Radix.val0 m c),
    Cert.Radix.run_sorted (F := Ideal) m g fun c i => (hk c i).trans (by decide), ?_⟩
  refine (θ_run Cert.ReferenceIdeal.defs _ _).mono (fun r h c => ?_) (Cert.ReferenceIdeal.Radix.run_sorted (F := Ideal) m' g' fun c i => ?_)
  · obtain ⟨h1, h2, h3, h4⟩ := h c
    rw [(hA c).1] at h1 h2
    rw [(hA c).2] at h2
    exact ⟨h1, h2, h3, h4⟩
  · rw [(hA c).1]
    exact (hk c i).trans (by decide)

/-- The same of the kernel itself and the reference, word for word. -/
theorem bitexact [Cert.Kernel.Facts] : Cert.bitexact_Kernel_Reference_pre_in_range := by
  intro m g m' g' hP hA
  have hk : ∀ (c : Dev Cert.KernelIdeal.nD) (i : Cert.KernelIdeal.S4194304.Idx), (Cert.Radix.key0 (F := Bits) m c i).toNat < 1000000000 := fun c i => key_lt (F := Bits) _ _ (hP c) i
  refine ⟨fun c => sortd (Cert.Radix.key0 (F := Bits) m c) (Cert.Radix.key0 (F := Bits) m c), fun c => sortd (Cert.Radix.key0 (F := Bits) m c) (Cert.Radix.val0 (F := Bits) m c),
    Cert.Radix.run_sorted (F := Bits) m g fun c i => (hk c i).trans (by decide), ?_⟩
  refine (θ_run Cert.Reference.defs _ _).mono (fun r h c => ?_) (Cert.Reference.Radix.run_sorted (F := Bits) m' g' fun c i => ?_)
  · obtain ⟨h1, h2, h3, h4⟩ := h c
    rw [(hA c).1] at h1 h2
    rw [(hA c).2] at h2
    exact ⟨h1, h2, h3, h4⟩
  · rw [(hA c).1]
    exact (hk c i).trans (by decide)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_in_range.Gen.facts,
  frame_kernel,
  fun m ρ _ => frame_kernel m ρ trivial,
  frame_ideal,
  fun m ρ _ => frame_ideal m ρ trivial,
  fun m ρ _ => Cert.ReferenceIdeal.Radix.run_frame m ρ,
  fun m ρ _ => Cert.ReferenceIdeal.Radix.run_frame m ρ,
  fun m ρ _ => Cert.Reference.Radix.run_frame m ρ,
  trivial,
  algebraic,
  bitexact⟩

end Cert.Proof

end
